-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tokens_named_scales_nonneg [hPre_tokens_named_scales_nonneg : Cert.Pre_tokens_named_scales_nonneg.Facts] (m : (ℓ : Loc Cert.KernelIdeal.nD Cert.KernelIdeal.τ Cert.KernelIdeal.sig) → Buf (Elt Ideal) ℓ) : Prop :=
  ∀ c : Dev Cert.KernelIdeal.nD,
    (Cert.Pre_tokens_named_scales_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tokens_named_scales_nonneg [hPre_tokens_named_scales_nonneg : Cert.Pre_tokens_named_scales_nonneg.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tokens_named_scales_nonneg.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_tokens_named_scales_nonneg [hKernelIdeal : Cert.KernelIdeal.Facts] [hPre_tokens_named_scales_nonneg : Cert.Pre_tokens_named_scales_nonneg.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tokens_named_scales_nonneg m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_tokens_named_scales_nonneg [hReferenceIdeal : Cert.ReferenceIdeal.Facts] [hPre_tokens_named_scales_nonneg : Cert.Pre_tokens_named_scales_nonneg.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tokens_named_scales_nonneg m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_tokens_named_scales_nonneg [hKernelIdeal : Cert.KernelIdeal.Facts] [hReferenceIdeal : Cert.ReferenceIdeal.Facts] [hPre_tokens_named_scales_nonneg : Cert.Pre_tokens_named_scales_nonneg.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tokens_named_scales_nonneg m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_tokens_named_scales_nonneg : Cert.Pre_tokens_named_scales_nonneg.Facts),
    quiescent_Kernel (hKernel := hKernel)
    ∧ quiescent_KernelIdeal (hKernelIdeal := hKernelIdeal)
    ∧ quiescent_KernelIdeal_pre_tokens_named_scales_nonneg (hKernelIdeal := hKernelIdeal) (hPre_tokens_named_scales_nonneg := hPre_tokens_named_scales_nonneg)
    ∧ quiescent_ReferenceIdeal (hReferenceIdeal := hReferenceIdeal)
    ∧ quiescent_ReferenceIdeal_pre_tokens_named_scales_nonneg (hReferenceIdeal := hReferenceIdeal) (hPre_tokens_named_scales_nonneg := hPre_tokens_named_scales_nonneg)
    ∧ preserves_Kernel_KernelIdeal
    ∧ algebraic_KernelIdeal_ReferenceIdeal_pre_tokens_named_scales_nonneg (hKernelIdeal := hKernelIdeal) (hReferenceIdeal := hReferenceIdeal) (hPre_tokens_named_scales_nonneg := hPre_tokens_named_scales_nonneg)
-- ==== Pre_tokens_named_scales_nonneg.lean ====
abbrev S40x2048 : Shape := ⟨2, ![40, 2048]⟩
abbrev S40x16 : Shape := ⟨2, ![40, 16]⟩
abbrev S8x10 : Shape := ⟨2, ![8, 10]⟩
abbrev S8 : Shape := ⟨1, ![8]⟩
abbrev S8x3584x2048 : Shape := ⟨3, ![8, 3584, 2048]⟩
abbrev S8x28x16 : Shape := ⟨3, ![8, 28, 16]⟩
abbrev S_ : Shape := ⟨0, ![]⟩
abbrev S8x10x1x1x1 : Shape := ⟨5, ![8, 10, 1, 1, 1]⟩
abbrev S1x1x40x1x16 : Shape := ⟨5, ![1, 1, 40, 1, 16]⟩
abbrev S8x10x40x1x16 : Shape := ⟨5, ![8, 10, 40, 1, 16]⟩
abbrev S8x1x1x28x16 : Shape := ⟨5, ![8, 1, 1, 28, 16]⟩
abbrev S8x10x40x28x16 : Shape := ⟨5, ![8, 10, 40, 28, 16]⟩

class Facts : Prop where
  bcast_S_S8x10 : S_.BroadcastsInDim S8x10 (![] : Fin 0 → Fin S8x10.rank)
  bcast_S_S40x16 : S_.BroadcastsInDim S40x16 (![] : Fin 0 → Fin S40x16.rank)
  bcast_S_S8x28x16 : S_.BroadcastsInDim S8x28x16 (![] : Fin 0 → Fin S8x28x16.rank)
  bcast_S8x10_S8x10x1x1x1_0_1 : S8x10.BroadcastsInDim S8x10x1x1x1 (![0, 1] : Fin 2 → Fin S8x10x1x1x1.rank)
  bcast_S40x16_S1x1x40x1x16_2_4 : S40x16.BroadcastsInDim S1x1x40x1x16 (![2, 4] : Fin 2 → Fin S1x1x40x1x16.rank)
  bcast_S8x10x1x1x1_S8x10x40x1x16_0_1_2_3_4 : S8x10x1x1x1.BroadcastsInDim S8x10x40x1x16 (![0, 1, 2, 3, 4] : Fin 5 → Fin S8x10x40x1x16.rank)
  bcast_S1x1x40x1x16_S8x10x40x1x16_0_1_2_3_4 : S1x1x40x1x16.BroadcastsInDim S8x10x40x1x16 (![0, 1, 2, 3, 4] : Fin 5 → Fin S8x10x40x1x16.rank)
  bcast_S8x28x16_S8x1x1x28x16_0_3_4 : S8x28x16.BroadcastsInDim S8x1x1x28x16 (![0, 3, 4] : Fin 3 → Fin S8x1x1x28x16.rank)
  bcast_S8x10x40x1x16_S8x10x40x28x16_0_1_2_3_4 : S8x10x40x1x16.BroadcastsInDim S8x10x40x28x16 (![0, 1, 2, 3, 4] : Fin 5 → Fin S8x10x40x28x16.rank)
  bcast_S8x1x1x28x16_S8x10x40x28x16_0_1_2_3_4 : S8x1x1x28x16.BroadcastsInDim S8x10x40x28x16 (![0, 1, 2, 3, 4] : Fin 5 → Fin S8x10x40x28x16.rank)

variable [Facts]

def fn_part1 {F : FTy → Type} [FloatOps F] (main_v14 : IVec S8x28x16 1) (main_v16 : IVec S1x1x40x1x16 1) (main_v17 : IVec S8x10x40x1x16 1) : IVec S8x10x40x28x16 1 :=
  let main_v18 : IVec S8x10x40x1x16 1 := broadcastInDim S8x10x40x1x16 ![0, 1, 2, 3, 4] bcast_S1x1x40x1x16_S8x10x40x1x16_0_1_2_3_4 main_v16
  let main_v19 : IVec S8x10x40x1x16 1 := andi main_v17 main_v18
  let main_v20 : IVec S8x1x1x28x16 1 := broadcastInDim S8x1x1x28x16 ![0, 3, 4] bcast_S8x28x16_S8x1x1x28x16_0_3_4 main_v14
  let main_v21 : IVec S8x10x40x28x16 1 := broadcastInDim S8x10x40x28x16 ![0, 1, 2, 3, 4] bcast_S8x10x40x1x16_S8x10x40x28x16_0_1_2_3_4 main_v19
  let main_v22 : IVec S8x10x40x28x16 1 := broadcastInDim S8x10x40x28x16 ![0, 1, 2, 3, 4] bcast_S8x1x1x28x16_S8x10x40x28x16_0_1_2_3_4 main_v20
  let main_v23 : IVec S8x10x40x28x16 1 := andi main_v21 main_v22
  main_v23

def fn {F : FTy → Type} [FloatOps F] (main_arg0 : FVec F S40x2048 .fp8e4m3) (main_arg1 : FVec F S40x16 .f32) (main_arg2 : IVec S8x10 32) (main_arg3 : IVec S8 32) (main_arg4 : FVec F S8x3584x2048 .fp8e4m3) (main_arg5 : FVec F S8x28x16 .f32) : IVec S8x10x40x28x16 1 :=
  let main_c : IVec S_ 32 := constantI S_ 32 0#32
  let main_v0 : IVec S8x10 32 := broadcastInDim S8x10 ![] bcast_S_S8x10 main_c
  let main_v1 : IVec S8x10 1 := cmpi .sge main_arg2 main_v0
  let main_c_0 : IVec S_ 32 := constantI S_ 32 40#32
  let main_v2 : IVec S8x10 32 := broadcastInDim S8x10 ![] bcast_S_S8x10 main_c_0
  let main_v3 : IVec S8x10 1 := cmpi .slt main_arg2 main_v2
  let main_v4 : IVec S8x10 1 := andi main_v1 main_v3
  let main_cst : FVec F S_ .f32 := constant S_ .f32 0x00000000#32
  let main_v5 : FVec F S40x16 .f32 := broadcastInDim S40x16 ![] bcast_S_S40x16 main_cst
  let main_v6 : IVec S40x16 1 := cmpf .oge main_arg1 main_v5
  let main_cst_1 : FVec F S_ .f32 := constant S_ .f32 0x7F800000#32
  let main_v7 : FVec F S40x16 .f32 := broadcastInDim S40x16 ![] bcast_S_S40x16 main_cst_1
  let main_v8 : IVec S40x16 1 := cmpf .olt main_arg1 main_v7
  let main_v9 : IVec S40x16 1 := andi main_v6 main_v8
  let main_cst_2 : FVec F S_ .f32 := constant S_ .f32 0x00000000#32
  let main_v10 : FVec F S8x28x16 .f32 := broadcastInDim S8x28x16 ![] bcast_S_S8x28x16 main_cst_2
  let main_v11 : IVec S8x28x16 1 := cmpf .oge main_arg5 main_v10
  let main_cst_3 : FVec F S_ .f32 := constant S_ .f32 0x7F800000#32
  let main_v12 : FVec F S8x28x16 .f32 := broadcastInDim S8x28x16 ![] bcast_S_S8x28x16 main_cst_3
  let main_v13 : IVec S8x28x16 1 := cmpf .olt main_arg5 main_v12
  let main_v14 : IVec S8x28x16 1 := andi main_v11 main_v13
  let main_v15 : IVec S8x10x1x1x1 1 := broadcastInDim S8x10x1x1x1 ![0, 1] bcast_S8x10_S8x10x1x1x1_0_1 main_v4
  let main_v16 : IVec S1x1x40x1x16 1 := broadcastInDim S1x1x40x1x16 ![2, 4] bcast_S40x16_S1x1x40x1x16_2_4 main_v9
  let main_v17 : IVec S8x10x40x1x16 1 := broadcastInDim S8x10x40x1x16 ![0, 1, 2, 3, 4] bcast_S8x10x1x1x1_S8x10x40x1x16_0_1_2_3_4 main_v15
  fn_part1 (F := F) main_v14 main_v16 main_v17
-- ==== Kernel.lean ====
abbrev S40x2048 : Shape := ⟨2, ![40, 2048]⟩
abbrev S40x16 : Shape := ⟨2, ![40, 16]⟩
abbrev S8x10 : Shape := ⟨2, ![8, 10]⟩
abbrev S8 : Shape := ⟨1, ![8]⟩
abbrev S8x3584x2048 : Shape := ⟨3, ![8, 3584, 2048]⟩
abbrev S8x28x16 : Shape := ⟨3, ![8, 28, 16]⟩
abbrev S8x10x3584 : Shape := ⟨3, ![8, 10, 3584]⟩
abbrev S4x7x512x2048 : Shape := ⟨4, ![4, 7, 512, 2048]⟩
abbrev S8x16x2048 : Shape := ⟨3, ![8, 16, 2048]⟩
abbrev S256x2048 : Shape := ⟨2, ![256, 2048]⟩
abbrev S8x256 : Shape := ⟨2, ![8, 256]⟩
abbrev S4x7 : Shape := ⟨2, ![4, 7]⟩
abbrev S1 : Shape := ⟨1, ![1]⟩
abbrev S10x3584 : Shape := ⟨2, ![10, 3584]⟩
abbrev S1x10x3584 : Shape := ⟨3, ![1, 10, 3584]⟩
abbrev S1x1 : Shape := ⟨2, ![1, 1]⟩
abbrev S_ : Shape := ⟨0, ![]⟩
abbrev S1x1x512x2048 : Shape := ⟨4, ![1, 1, 512, 2048]⟩
abbrev S512x2048 : Shape := ⟨2, ![512, 2048]⟩
abbrev S1x512x2048 : Shape := ⟨3, ![1, 512, 2048]⟩
abbrev S1x256 : Shape := ⟨2, ![1, 256]⟩
abbrev S16x256 : Shape := ⟨2, ![16, 256]⟩
abbrev S40x256 : Shape := ⟨2, ![40, 256]⟩
abbrev S16x40 : Shape := ⟨2, ![16, 40]⟩
abbrev S256 : Shape := ⟨1, ![256]⟩
abbrev S16x2048 : Shape := ⟨2, ![16, 2048]⟩
abbrev S1x16x2048 : Shape := ⟨3, ![1, 16, 2048]⟩
abbrev S16x128 : Shape := ⟨2, ![16, 128]⟩
abbrev S1x16x128 : Shape := ⟨3, ![1, 16, 128]⟩
abbrev S32x128 : Shape := ⟨2, ![32, 128]⟩
abbrev S1x28x16 : Shape := ⟨3, ![1, 28, 16]⟩
abbrev S28x16 : Shape := ⟨2, ![28, 16]⟩
abbrev S28x256 : Shape := ⟨2, ![28, 256]⟩
abbrev S512x256 : Shape := ⟨2, ![512, 256]⟩
abbrev S128x256 : Shape := ⟨2, ![128, 256]⟩
abbrev S128x128 : Shape := ⟨2, ![128, 128]⟩
abbrev S10x128 : Shape := ⟨2, ![10, 128]⟩
abbrev S1x10x128 : Shape := ⟨3, ![1, 10, 128]⟩

abbrev nBuf : Space → Nat
  | .hbm => 7
  | .vmem => 8
  | .smem => 3
  | _ => 0

abbrev bufTy : (tb : Table) → Fin (tcTables nBuf tb) → BufTy
  | .hbm, ⟨0, _⟩ => ⟨S40x2048, .fp8e4m3⟩
  | .hbm, ⟨1, _⟩ => ⟨S40x16, .f32⟩
  | .hbm, ⟨2, _⟩ => ⟨S8x10, .i32⟩
  | .hbm, ⟨3, _⟩ => ⟨S8, .i32⟩
  | .hbm, ⟨4, _⟩ => ⟨S8x3584x2048, .fp8e4m3⟩
  | .hbm, ⟨5, _⟩ => ⟨S8x28x16, .f32⟩
  | .hbm, ⟨6, _⟩ => ⟨S8x10x3584, .bf16⟩
  | .local _ .vmem, ⟨0, _⟩ => ⟨S40x2048, .fp8e4m3⟩
  | .local _ .vmem, ⟨1, _⟩ => ⟨S40x16, .f32⟩
  | .local _ .vmem, ⟨2, _⟩ => ⟨S8x28x16, .f32⟩
  | .local _ .vmem, ⟨3, _⟩ => ⟨S8x10x3584, .bf16⟩
  | .local _ .vmem, ⟨4, _⟩ => ⟨S4x7x512x2048, .fp8e4m3⟩
  | .local _ .vmem, ⟨5, _⟩ => ⟨S8x16x2048, .f32⟩
  | .local _ .vmem, ⟨6, _⟩ => ⟨S256x2048, .fp8e4m3⟩
  | .local _ .vmem, ⟨7, _⟩ => ⟨S8x256, .f32⟩
  | .local _ .smem, ⟨0, _⟩ => ⟨S8, .i32⟩
  | .local _ .smem, ⟨1, _⟩ => ⟨S8x10, .i32⟩
  | .local _ .smem, ⟨2, _⟩ => ⟨S8, .i32⟩
  | _, _ => ⟨S40x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg5_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_stg0_0 : Ref sig .tc := ⟨.smem, 0, rfl⟩
abbrev cc0_stg1_0 : Ref sig .tc := ⟨.smem, 1, rfl⟩
abbrev cc0_scratch4 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

def k0_off1 (v0 : BitVec 32) : Fin 1 → Nat :=
  let c0_i32_3 : BitVec 32 := 0#32
  let c0_i32 : BitVec 32 := 0#32
  let v1 : BitVec 1 := Scalar.cmpi .sgt v0 c0_i32
  let v7 : BitVec 32 := Scalar.extui v1
  let v8 : BitVec 32 := Scalar.addi c0_i32_3 v7
  let v1009 : Index := Scalar.indexCast v8
  ![v1009.toNat]
def k0_cond3 (v9 : BitVec 32) : BitVec 1 :=
  let c0_i32_4 : BitVec 32 := 0#32
  let v10 : BitVec 1 := Scalar.cmpi .sgt v9 c0_i32_4
  let v11 : BitVec 32 := Scalar.extui v10
  let c0_i32_5 : BitVec 32 := 0#32
  let v12 : BitVec 1 := Scalar.cmpi .ne v11 c0_i32_5
  v12

def k0_chk1 (v0 : BitVec 32) (v9 : BitVec 32) : Prop :=
  (∀ (k0_h3 : k0_cond3 v9 = 1#1), ∀ a, (k0_off1 v0) a + S1.size a ≤ S8.size a)
theorem k0_off1_inb : ∀ (v0 : BitVec 32) (v9 : BitVec 32) (k0_hw1 : k0_chk1 v0 v9), ∀ (k0_h3 : k0_cond3 v9 = 1#1), ∀ a, (k0_off1 v0) a + S1.size a ≤ S8.size a := fun v0 v9 k0_hw1 k0_h3 => k0_hw1 k0_h3

def k0_off2 (v0 : BitVec 32) (v9 : BitVec 32) : Fin 1 → Nat :=
  let c0_i32_3 : BitVec 32 := 0#32
  let c0_i32 : BitVec 32 := 0#32
  let v1 : BitVec 1 := Scalar.cmpi .sgt v0 c0_i32
  let v7 : BitVec 32 := Scalar.extui v1
  let v8 : BitVec 32 := Scalar.addi c0_i32_3 v7
  let c0_i32_4 : BitVec 32 := 0#32
  let v10 : BitVec 1 := Scalar.cmpi .sgt v9 c0_i32_4
  let v16 : BitVec 32 := Scalar.extui v10
  let v17 : BitVec 32 := Scalar.addi v8 v16
  let v1009 : Index := Scalar.indexCast v17
  ![v1009.toNat]
def k0_cond5 (v18 : BitVec 32) : BitVec 1 :=
  let c0_i32_8 : BitVec 32 := 0#32
  let v19 : BitVec 1 := Scalar.cmpi .sgt v18 c0_i32_8
  let v20 : BitVec 32 := Scalar.extui v19
  let c0_i32_9 : BitVec 32 := 0#32
  let v21 : BitVec 1 := Scalar.cmpi .ne v20 c0_i32_9
  v21

def k0_chk2 (v0 : BitVec 32) (v9 : BitVec 32) (v18 : BitVec 32) : Prop :=
  (∀ (k0_h5 : k0_cond5 v18 = 1#1), ∀ a, (k0_off2 v0 v9) a + S1.size a ≤ S8.size a)
theorem k0_off2_inb : ∀ (v0 : BitVec 32) (v9 : BitVec 32) (v18 : BitVec 32) (k0_hw2 : k0_chk2 v0 v9 v18), ∀ (k0_h5 : k0_cond5 v18 = 1#1), ∀ a, (k0_off2 v0 v9) a + S1.size a ≤ S8.size a := fun v0 v9 v18 k0_hw2 k0_h5 => k0_hw2 k0_h5

def k0_off3 (v0 : BitVec 32) (v9 : BitVec 32) (v18 : BitVec 32) : Fin 1 → Nat :=
  let c0_i32_3 : BitVec 32 := 0#32
  let c0_i32 : BitVec 32 := 0#32
  let v1 : BitVec 1 := Scalar.cmpi .sgt v0 c0_i32
  let v7 : BitVec 32 := Scalar.extui v1
  let v8 : BitVec 32 := Scalar.addi c0_i32_3 v7
  let c0_i32_4 : BitVec 32 := 0#32
  let v10 : BitVec 1 := Scalar.cmpi .sgt v9 c0_i32_4
  let v16 : BitVec 32 := Scalar.extui v10
  let v17 : BitVec 32 := Scalar.addi v8 v16
  let c0_i32_8 : BitVec 32 := 0#32
  let v19 : BitVec 1 := Scalar.cmpi .sgt v18 c0_i32_8
  let v25 : BitVec 32 := Scalar.extui v19
  let v26 : BitVec 32 := Scalar.addi v17 v25
  let v1009 : Index := Scalar.indexCast v26
  ![v1009.toNat]
def k0_cond7 (v27 : BitVec 32) : BitVec 1 :=
  let c0_i32_12 : BitVec 32 := 0#32
  let v28 : BitVec 1 := Scalar.cmpi .sgt v27 c0_i32_12
  let v29 : BitVec 32 := Scalar.extui v28
  let c0_i32_13 : BitVec 32 := 0#32
  let v30 : BitVec 1 := Scalar.cmpi .ne v29 c0_i32_13
  v30

def k0_chk3 (v0 : BitVec 32) (v9 : BitVec 32) (v18 : BitVec 32) (v27 : BitVec 32) : Prop :=
  (∀ (k0_h7 : k0_cond7 v27 = 1#1), ∀ a, (k0_off3 v0 v9 v18) a + S1.size a ≤ S8.size a)
theorem k0_off3_inb : ∀ (v0 : BitVec 32) (v9 : BitVec 32) (v18 : BitVec 32) (v27 : BitVec 32) (k0_hw3 : k0_chk3 v0 v9 v18 v27), ∀ (k0_h7 : k0_cond7 v27 = 1#1), ∀ a, (k0_off3 v0 v9 v18) a + S1.size a ≤ S8.size a := fun v0 v9 v18 v27 k0_hw3 k0_h7 => k0_hw3 k0_h7

def k0_off4 (v0 : BitVec 32) (v9 : BitVec 32) (v18 : BitVec 32) (v27 : BitVec 32) : Fin 1 → Nat :=
  let c0_i32_3 : BitVec 32 := 0#32
  let c0_i32 : BitVec 32 := 0#32
  let v1 : BitVec 1 := Scalar.cmpi .sgt v0 c0_i32
  let v7 : BitVec 32 := Scalar.extui v1
  let v8 : BitVec 32 := Scalar.addi c0_i32_3 v7
  let c0_i32_4 : BitVec 32 := 0#32
  let v10 : BitVec 1 := Scalar.cmpi .sgt v9 c0_i32_4
  let v16 : BitVec 32 := Scalar.extui v10
  let v17 : BitVec 32 := Scalar.addi v8 v16
  let c0_i32_8 : BitVec 32 := 0#32
  let v19 : BitVec 1 := Scalar.cmpi .sgt v18 c0_i32_8
  let v25 : BitVec 32 := Scalar.extui v19
  let v26 : BitVec 32 := Scalar.addi v17 v25
  let c0_i32_12 : BitVec 32 := 0#32
  let v28 : BitVec 1 := Scalar.cmpi .sgt v27 c0_i32_12
  let v34 : BitVec 32 := Scalar.extui v28
  let v35 : BitVec 32 := Scalar.addi v26 v34
  let v1009 : Index := Scalar.indexCast v35
  ![v1009.toNat]
def k0_cond9 (v36 : BitVec 32) : BitVec 1 :=
  let c0_i32_16 : BitVec 32 := 0#32
  let v37 : BitVec 1 := Scalar.cmpi .sgt v36 c0_i32_16
  let v38 : BitVec 32 := Scalar.extui v37
  let c0_i32_17 : BitVec 32 := 0#32
  let v39 : BitVec 1 := Scalar.cmpi .ne v38 c0_i32_17
  v39

def k0_chk4 (v0 : BitVec 32) (v9 : BitVec 32) (v18 : BitVec 32) (v27 : BitVec 32) (v36 : BitVec 32) : Prop :=
  (∀ (k0_h9 : k0_cond9 v36 = 1#1), ∀ a, (k0_off4 v0 v9 v18 v27) a + S1.size a ≤ S8.size a)
theorem k0_off4_inb : ∀ (v0 : BitVec 32) (v9 : BitVec 32) (v18 : BitVec 32) (v27 : BitVec 32) (v36 : BitVec 32) (k0_hw4 : k0_chk4 v0 v9 v18 v27 v36), ∀ (k0_h9 : k0_cond9 v36 = 1#1), ∀ a, (k0_off4 v0 v9 v18 v27) a + S1.size a ≤ S8.size a := fun v0 v9 v18 v27 v36 k0_hw4 k0_h9 => k0_hw4 k0_h9

def k0_off5 (v0 : BitVec 32) (v9 : BitVec 32) (v18 : BitVec 32) (v27 : BitVec 32) (v36 : BitVec 32) : Fin 1 → Nat :=
  let c0_i32_3 : BitVec 32 := 0#32
  let c0_i32 : BitVec 32 := 0#32
  let v1 : BitVec 1 := Scalar.cmpi .sgt v0 c0_i32
  let v7 : BitVec 32 := Scalar.extui v1
  let v8 : BitVec 32 := Scalar.addi c0_i32_3 v7
  let c0_i32_4 : BitVec 32 := 0#32
  let v10 : BitVec 1 := Scalar.cmpi .sgt v9 c0_i32_4
  let v16 : BitVec 32 := Scalar.extui v10
  let v17 : BitVec 32 := Scalar.addi v8 v16
  let c0_i32_8 : BitVec 32 := 0#32
  let v19 : BitVec 1 := Scalar.cmpi .sgt v18 c0_i32_8
  let v25 : BitVec 32 := Scalar.extui v19
  let v26 : BitVec 32 := Scalar.addi v17 v25
  let c0_i32_12 : BitVec 32 := 0#32
  let v28 : BitVec 1 := Scalar.cmpi .sgt v27 c0_i32_12
  let v34 : BitVec 32 := Scalar.extui v28
  let v35 : BitVec 32 := Scalar.addi v26 v34
  let c0_i32_16 : BitVec 32 := 0#32
  let v37 : BitVec 1 := Scalar.cmpi .sgt v36 c0_i32_16
  let v43 : BitVec 32 := Scalar.extui v37
  let v44 : BitVec 32 := Scalar.addi v35 v43
  let v1009 : Index := Scalar.indexCast v44
  ![v1009.toNat]
def k0_cond11 (v45 : BitVec 32) : BitVec 1 :=
  let c0_i32_20 : BitVec 32 := 0#32
  let v46 : BitVec 1 := Scalar.cmpi .sgt v45 c0_i32_20
  let v47 : BitVec 32 := Scalar.extui v46
  let c0_i32_21 : BitVec 32 := 0#32
  let v48 : BitVec 1 := Scalar.cmpi .ne v47 c0_i32_21
  v48

def k0_chk5 (v0 : BitVec 32) (v9 : BitVec 32) (v18 : BitVec 32) (v27 : BitVec 32) (v36 : BitVec 32) (v45 : BitVec 32) : Prop :=
  (∀ (k0_h11 : k0_cond11 v45 = 1#1), ∀ a, (k0_off5 v0 v9 v18 v27 v36) a + S1.size a ≤ S8.size a)
theorem k0_off5_inb : ∀ (v0 : BitVec 32) (v9 : BitVec 32) (v18 : BitVec 32) (v27 : BitVec 32) (v36 : BitVec 32) (v45 : BitVec 32) (k0_hw5 : k0_chk5 v0 v9 v18 v27 v36 v45), ∀ (k0_h11 : k0_cond11 v45 = 1#1), ∀ a, (k0_off5 v0 v9 v18 v27 v36) a + S1.size a ≤ S8.size a := fun v0 v9 v18 v27 v36 v45 k0_hw5 k0_h11 => k0_hw5 k0_h11

def k0_off6 (v0 : BitVec 32) (v9 : BitVec 32) (v18 : BitVec 32) (v27 : BitVec 32) (v36 : BitVec 32) (v45 : BitVec 32) : Fin 1 → Nat :=
  let c0_i32_3 : BitVec 32 := 0#32
  let c0_i32 : BitVec 32 := 0#32
  let v1 : BitVec 1 := Scalar.cmpi .sgt v0 c0_i32
  let v7 : BitVec 32 := Scalar.extui v1
  let v8 : BitVec 32 := Scalar.addi c0_i32_3 v7
  let c0_i32_4 : BitVec 32 := 0#32
  let v10 : BitVec 1 := Scalar.cmpi .sgt v9 c0_i32_4
  let v16 : BitVec 32 := Scalar.extui v10
  let v17 : BitVec 32 := Scalar.addi v8 v16
  let c0_i32_8 : BitVec 32 := 0#32
  let v19 : BitVec 1 := Scalar.cmpi .sgt v18 c0_i32_8
  let v25 : BitVec 32 := Scalar.extui v19
  let v26 : BitVec 32 := Scalar.addi v17 v25
  let c0_i32_12 : BitVec 32 := 0#32
  let v28 : BitVec 1 := Scalar.cmpi .sgt v27 c0_i32_12
  let v34 : BitVec 32 := Scalar.extui v28
  let v35 : BitVec 32 := Scalar.addi v26 v34
  let c0_i32_16 : BitVec 32 := 0#32
  let v37 : BitVec 1 := Scalar.cmpi .sgt v36 c0_i32_16
  let v43 : BitVec 32 := Scalar.extui v37
  let v44 : BitVec 32 := Scalar.addi v35 v43
  let c0_i32_20 : BitVec 32 := 0#32
  let v46 : BitVec 1 := Scalar.cmpi .sgt v45 c0_i32_20
  let v52 : BitVec 32 := Scalar.extui v46
  let v53 : BitVec 32 := Scalar.addi v44 v52
  let v1009 : Index := Scalar.indexCast v53
  ![v1009.toNat]
def k0_cond13 (v54 : BitVec 32) : BitVec 1 :=
  let c0_i32_24 : BitVec 32 := 0#32
  let v55 : BitVec 1 := Scalar.cmpi .sgt v54 c0_i32_24
  let v56 : BitVec 32 := Scalar.extui v55
  let c0_i32_25 : BitVec 32 := 0#32
  let v57 : BitVec 1 := Scalar.cmpi .ne v56 c0_i32_25
  v57

def k0_chk6 (v0 : BitVec 32) (v9 : BitVec 32) (v18 : BitVec 32) (v27 : BitVec 32) (v36 : BitVec 32) (v45 : BitVec 32) (v54 : BitVec 32) : Prop :=
  (∀ (k0_h13 : k0_cond13 v54 = 1#1), ∀ a, (k0_off6 v0 v9 v18 v27 v36 v45) a + S1.size a ≤ S8.size a)
theorem k0_off6_inb : ∀ (v0 : BitVec 32) (v9 : BitVec 32) (v18 : BitVec 32) (v27 : BitVec 32) (v36 : BitVec 32) (v45 : BitVec 32) (v54 : BitVec 32) (k0_hw6 : k0_chk6 v0 v9 v18 v27 v36 v45 v54), ∀ (k0_h13 : k0_cond13 v54 = 1#1), ∀ a, (k0_off6 v0 v9 v18 v27 v36 v45) a + S1.size a ≤ S8.size a := fun v0 v9 v18 v27 v36 v45 v54 k0_hw6 k0_h13 => k0_hw6 k0_h13

def k0_off7 (v0 : BitVec 32) (v9 : BitVec 32) (v18 : BitVec 32) (v27 : BitVec 32) (v36 : BitVec 32) (v45 : BitVec 32) (v54 : BitVec 32) : Fin 1 → Nat :=
  let c0_i32_3 : BitVec 32 := 0#32
  let c0_i32 : BitVec 32 := 0#32
  let v1 : BitVec 1 := Scalar.cmpi .sgt v0 c0_i32
  let v7 : BitVec 32 := Scalar.extui v1
  let v8 : BitVec 32 := Scalar.addi c0_i32_3 v7
  let c0_i32_4 : BitVec 32 := 0#32
  let v10 : BitVec 1 := Scalar.cmpi .sgt v9 c0_i32_4
  let v16 : BitVec 32 := Scalar.extui v10
  let v17 : BitVec 32 := Scalar.addi v8 v16
  let c0_i32_8 : BitVec 32 := 0#32
  let v19 : BitVec 1 := Scalar.cmpi .sgt v18 c0_i32_8
  let v25 : BitVec 32 := Scalar.extui v19
  let v26 : BitVec 32 := Scalar.addi v17 v25
  let c0_i32_12 : BitVec 32 := 0#32
  let v28 : BitVec 1 := Scalar.cmpi .sgt v27 c0_i32_12
  let v34 : BitVec 32 := Scalar.extui v28
  let v35 : BitVec 32 := Scalar.addi v26 v34
  let c0_i32_16 : BitVec 32 := 0#32
  let v37 : BitVec 1 := Scalar.cmpi .sgt v36 c0_i32_16
  let v43 : BitVec 32 := Scalar.extui v37
  let v44 : BitVec 32 := Scalar.addi v35 v43
  let c0_i32_20 : BitVec 32 := 0#32
  let v46 : BitVec 1 := Scalar.cmpi .sgt v45 c0_i32_20
  let v52 : BitVec 32 := Scalar.extui v46
  let v53 : BitVec 32 := Scalar.addi v44 v52
  let c0_i32_24 : BitVec 32 := 0#32
  let v55 : BitVec 1 := Scalar.cmpi .sgt v54 c0_i32_24
  let v61 : BitVec 32 := Scalar.extui v55
  let v62 : BitVec 32 := Scalar.addi v53 v61
  let v1009 : Index := Scalar.indexCast v62
  ![v1009.toNat]
def k0_cond15 (v63 : BitVec 32) : BitVec 1 :=
  let c0_i32_28 : BitVec 32 := 0#32
  let v64 : BitVec 1 := Scalar.cmpi .sgt v63 c0_i32_28
  let v65 : BitVec 32 := Scalar.extui v64
  let c0_i32_29 : BitVec 32 := 0#32
  let v66 : BitVec 1 := Scalar.cmpi .ne v65 c0_i32_29
  v66

def k0_off8 : Fin 2 → Nat :=
  let c0_i32_446 : BitVec 32 := 0#32
  let c4_i32_447 : BitVec 32 := 4#32
  let v1009 : BitVec 32 := Scalar.remsi c0_i32_446 c4_i32_447
  let c0_i32_450 : BitVec 32 := 0#32
  ![v1009.toNat, 0]
def k0_off9 : Fin 4 → Nat :=
  let c0_i32_446 : BitVec 32 := 0#32
  let c4_i32_447 : BitVec 32 := 4#32
  let v1009 : BitVec 32 := Scalar.remsi c0_i32_446 c4_i32_447
  let c0_i32_449 : BitVec 32 := 0#32
  let c0_i32_451 : BitVec 32 := 0#32
  let c0_i32_452 : BitVec 32 := 0#32
  ![v1009.toNat, 0, 0, 0]
def k0_off10 (v1010 : BitVec 32) : Fin 3 → Nat :=
  let c0_i32_453 : BitVec 32 := 0#32
  let c0_i32_454 : BitVec 32 := 0#32
  ![v1010.toNat, 0, 0]
def k0_cond17 (v0 : BitVec 32) (v9 : BitVec 32) (v18 : BitVec 32) (v27 : BitVec 32) (v36 : BitVec 32) (v45 : BitVec 32) (v54 : BitVec 32) (v63 : BitVec 32) : BitVec 1 :=
  let c0_i32_3 : BitVec 32 := 0#32
  let c0_i32 : BitVec 32 := 0#32
  let v1 : BitVec 1 := Scalar.cmpi .sgt v0 c0_i32
  let v7 : BitVec 32 := Scalar.extui v1
  let v8 : BitVec 32 := Scalar.addi c0_i32_3 v7
  let c0_i32_4 : BitVec 32 := 0#32
  let v10 : BitVec 1 := Scalar.cmpi .sgt v9 c0_i32_4
  let v16 : BitVec 32 := Scalar.extui v10
  let v17 : BitVec 32 := Scalar.addi v8 v16
  let c0_i32_8 : BitVec 32 := 0#32
  let v19 : BitVec 1 := Scalar.cmpi .sgt v18 c0_i32_8
  let v25 : BitVec 32 := Scalar.extui v19
  let v26 : BitVec 32 := Scalar.addi v17 v25
  let c0_i32_12 : BitVec 32 := 0#32
  let v28 : BitVec 1 := Scalar.cmpi .sgt v27 c0_i32_12
  let v34 : BitVec 32 := Scalar.extui v28
  let v35 : BitVec 32 := Scalar.addi v26 v34
  let c0_i32_16 : BitVec 32 := 0#32
  let v37 : BitVec 1 := Scalar.cmpi .sgt v36 c0_i32_16
  let v43 : BitVec 32 := Scalar.extui v37
  let v44 : BitVec 32 := Scalar.addi v35 v43
  let c0_i32_20 : BitVec 32 := 0#32
  let v46 : BitVec 1 := Scalar.cmpi .sgt v45 c0_i32_20
  let v52 : BitVec 32 := Scalar.extui v46
  let v53 : BitVec 32 := Scalar.addi v44 v52
  let c0_i32_24 : BitVec 32 := 0#32
  let v55 : BitVec 1 := Scalar.cmpi .sgt v54 c0_i32_24
  let v61 : BitVec 32 := Scalar.extui v55
  let v62 : BitVec 32 := Scalar.addi v53 v61
  let c0_i32_28 : BitVec 32 := 0#32
  let v64 : BitVec 1 := Scalar.cmpi .sgt v63 c0_i32_28
  let v70 : BitVec 32 := Scalar.extui v64
  let v71 : BitVec 32 := Scalar.addi v62 v70
  let c0_i32_32 : BitVec 32 := 0#32
  let v72 : BitVec 1 := Scalar.cmpi .sgt v71 c0_i32_32
  let v73 : BitVec 32 := Scalar.extui v72
  let c0_i32_33 : BitVec 32 := 0#32
  let v74 : BitVec 1 := Scalar.cmpi .ne v73 c0_i32_33
  v74

def k0_chk8 (v0 : BitVec 32) (v9 : BitVec 32) (v18 : BitVec 32) (v27 : BitVec 32) (v36 : BitVec 32) (v45 : BitVec 32) (v54 : BitVec 32) (v63 : BitVec 32) (v1010 : BitVec 32) : Prop :=
  (∀ (k0_h17 : k0_cond17 v0 v9 v18 v27 v36 v45 v54 v63 = 1#1), ∀ a, (k0_off10 v1010) a + S1x512x2048.size a ≤ S8x3584x2048.size a) ∧
  (∀ (k0_h17 : k0_cond17 v0 v9 v18 v27 v36 v45 v54 v63 = 1#1), ∀ (hinb : ∀ a, (k0_off10 v1010) a + S1x512x2048.size a ≤ S8x3584x2048.size a), (Rect.unit (s := S8x3584x2048) (k0_off10 v1010) S1x512x2048.size hinb).WholeWords (EltTy.packing .fp8e4m3))
theorem k0_off10_inb : ∀ (v0 : BitVec 32) (v9 : BitVec 32) (v18 : BitVec 32) (v27 : BitVec 32) (v36 : BitVec 32) (v45 : BitVec 32) (v54 : BitVec 32) (v63 : BitVec 32) (v1010 : BitVec 32) (k0_hw8 : k0_chk8 v0 v9 v18 v27 v36 v45 v54 v63 v1010), ∀ (k0_h17 : k0_cond17 v0 v9 v18 v27 v36 v45 v54 v63 = 1#1), ∀ a, (k0_off10 v1010) a + S1x512x2048.size a ≤ S8x3584x2048.size a := fun v0 v9 v18 v27 v36 v45 v54 v63 v1010 k0_hw8 k0_h17 => k0_hw8.1 k0_h17
theorem k0_off10_wordsfp8e4m3 : ∀ (v0 : BitVec 32) (v9 : BitVec 32) (v18 : BitVec 32) (v27 : BitVec 32) (v36 : BitVec 32) (v45 : BitVec 32) (v54 : BitVec 32) (v63 : BitVec 32) (v1010 : BitVec 32) (k0_hw8 : k0_chk8 v0 v9 v18 v27 v36 v45 v54 v63 v1010), ∀ (k0_h17 : k0_cond17 v0 v9 v18 v27 v36 v45 v54 v63 = 1#1), (Rect.unit (s := S8x3584x2048) (k0_off10 v1010) S1x512x2048.size (k0_off10_inb v0 v9 v18 v27 v36 v45 v54 v63 v1010 k0_hw8 k0_h17)).WholeWords (EltTy.packing .fp8e4m3) := fun v0 v9 v18 v27 v36 v45 v54 v63 v1010 k0_hw8 k0_h17 => k0_hw8.2 k0_h17 (k0_off10_inb v0 v9 v18 v27 v36 v45 v54 v63 v1010 k0_hw8 k0_h17)

def k0_off11 : Fin 2 → Nat :=
  let c0_i32_455 : BitVec 32 := 0#32
  let c4_i32_456 : BitVec 32 := 4#32
  let v1017 : BitVec 32 := Scalar.remsi c0_i32_455 c4_i32_456
  let c1_i32_459 : BitVec 32 := 1#32
  ![v1017.toNat, 1]
def k0_off12 : Fin 4 → Nat :=
  let c0_i32_455 : BitVec 32 := 0#32
  let c4_i32_456 : BitVec 32 := 4#32
  let v1017 : BitVec 32 := Scalar.remsi c0_i32_455 c4_i32_456
  let c1_i32_458 : BitVec 32 := 1#32
  let c0_i32_460 : BitVec 32 := 0#32
  let c0_i32_461 : BitVec 32 := 0#32
  ![v1017.toNat, 1, 0, 0]
def k0_off13 (v1018 : BitVec 32) : Fin 3 → Nat :=
  let c512_i32 : BitVec 32 := 512#32
  let c0_i32_462 : BitVec 32 := 0#32
  ![v1018.toNat, 512, 0]

def k0_chk9 (v0 : BitVec 32) (v9 : BitVec 32) (v18 : BitVec 32) (v27 : BitVec 32) (v36 : BitVec 32) (v45 : BitVec 32) (v54 : BitVec 32) (v63 : BitVec 32) (v1018 : BitVec 32) : Prop :=
  (∀ (k0_h17 : k0_cond17 v0 v9 v18 v27 v36 v45 v54 v63 = 1#1), ∀ a, (k0_off13 v1018) a + S1x512x2048.size a ≤ S8x3584x2048.size a) ∧
  (∀ (k0_h17 : k0_cond17 v0 v9 v18 v27 v36 v45 v54 v63 = 1#1), ∀ (hinb : ∀ a, (k0_off13 v1018) a + S1x512x2048.size a ≤ S8x3584x2048.size a), (Rect.unit (s := S8x3584x2048) (k0_off13 v1018) S1x512x2048.size hinb).WholeWords (EltTy.packing .fp8e4m3))
theorem k0_off13_inb : ∀ (v0 : BitVec 32) (v9 : BitVec 32) (v18 : BitVec 32) (v27 : BitVec 32) (v36 : BitVec 32) (v45 : BitVec 32) (v54 : BitVec 32) (v63 : BitVec 32) (v1018 : BitVec 32) (k0_hw9 : k0_chk9 v0 v9 v18 v27 v36 v45 v54 v63 v1018), ∀ (k0_h17 : k0_cond17 v0 v9 v18 v27 v36 v45 v54 v63 = 1#1), ∀ a, (k0_off13 v1018) a + S1x512x2048.size a ≤ S8x3584x2048.size a := fun v0 v9 v18 v27 v36 v45 v54 v63 v1018 k0_hw9 k0_h17 => k0_hw9.1 k0_h17
theorem k0_off13_wordsfp8e4m3 : ∀ (v0 : BitVec 32) (v9 : BitVec 32) (v18 : BitVec 32) (v27 : BitVec 32) (v36 : BitVec 32) (v45 : BitVec 32) (v54 : BitVec 32) (v63 : BitVec 32) (v1018 : BitVec 32) (k0_hw9 : k0_chk9 v0 v9 v18 v27 v36 v45 v54 v63 v1018), ∀ (k0_h17 : k0_cond17 v0 v9 v18 v27 v36 v45 v54 v63 = 1#1), (Rect.unit (s := S8x3584x2048) (k0_off13 v1018) S1x512x2048.size (k0_off13_inb v0 v9 v18 v27 v36 v45 v54 v63 v1018 k0_hw9 k0_h17)).WholeWords (EltTy.packing .fp8e4m3) := fun v0 v9 v18 v27 v36 v45 v54 v63 v1018 k0_hw9 k0_h17 => k0_hw9.2 k0_h17 (k0_off13_inb v0 v9 v18 v27 v36 v45 v54 v63 v1018 k0_hw9 k0_h17)

def k0_off14 : Fin 2 → Nat :=
  let c0_i32_463 : BitVec 32 := 0#32
  let c4_i32_464 : BitVec 32 := 4#32
  let v1025 : BitVec 32 := Scalar.remsi c0_i32_463 c4_i32_464
  let c2_i32_467 : BitVec 32 := 2#32
  ![v1025.toNat, 2]
def k0_off15 : Fin 4 → Nat :=
  let c0_i32_463 : BitVec 32 := 0#32
  let c4_i32_464 : BitVec 32 := 4#32
  let v1025 : BitVec 32 := Scalar.remsi c0_i32_463 c4_i32_464
  let c2_i32_466 : BitVec 32 := 2#32
  let c0_i32_468 : BitVec 32 := 0#32
  let c0_i32_469 : BitVec 32 := 0#32
  ![v1025.toNat, 2, 0, 0]
def k0_off16 (v1026 : BitVec 32) : Fin 3 → Nat :=
  let c1024_i32 : BitVec 32 := 1024#32
  let c0_i32_470 : BitVec 32 := 0#32
  ![v1026.toNat, 1024, 0]

def k0_chk10 (v0 : BitVec 32) (v9 : BitVec 32) (v18 : BitVec 32) (v27 : BitVec 32) (v36 : BitVec 32) (v45 : BitVec 32) (v54 : BitVec 32) (v63 : BitVec 32) (v1026 : BitVec 32) : Prop :=
  (∀ (k0_h17 : k0_cond17 v0 v9 v18 v27 v36 v45 v54 v63 = 1#1), ∀ a, (k0_off16 v1026) a + S1x512x2048.size a ≤ S8x3584x2048.size a) ∧
  (∀ (k0_h17 : k0_cond17 v0 v9 v18 v27 v36 v45 v54 v63 = 1#1), ∀ (hinb : ∀ a, (k0_off16 v1026) a + S1x512x2048.size a ≤ S8x3584x2048.size a), (Rect.unit (s := S8x3584x2048) (k0_off16 v1026) S1x512x2048.size hinb).WholeWords (EltTy.packing .fp8e4m3))
theorem k0_off16_inb : ∀ (v0 : BitVec 32) (v9 : BitVec 32) (v18 : BitVec 32) (v27 : BitVec 32) (v36 : BitVec 32) (v45 : BitVec 32) (v54 : BitVec 32) (v63 : BitVec 32) (v1026 : BitVec 32) (k0_hw10 : k0_chk10 v0 v9 v18 v27 v36 v45 v54 v63 v1026), ∀ (k0_h17 : k0_cond17 v0 v9 v18 v27 v36 v45 v54 v63 = 1#1), ∀ a, (k0_off16 v1026) a + S1x512x2048.size a ≤ S8x3584x2048.size a := fun v0 v9 v18 v27 v36 v45 v54 v63 v1026 k0_hw10 k0_h17 => k0_hw10.1 k0_h17
theorem k0_off16_wordsfp8e4m3 : ∀ (v0 : BitVec 32) (v9 : BitVec 32) (v18 : BitVec 32) (v27 : BitVec 32) (v36 : BitVec 32) (v45 : BitVec 32) (v54 : BitVec 32) (v63 : BitVec 32) (v1026 : BitVec 32) (k0_hw10 : k0_chk10 v0 v9 v18 v27 v36 v45 v54 v63 v1026), ∀ (k0_h17 : k0_cond17 v0 v9 v18 v27 v36 v45 v54 v63 = 1#1), (Rect.unit (s := S8x3584x2048) (k0_off16 v1026) S1x512x2048.size (k0_off16_inb v0 v9 v18 v27 v36 v45 v54 v63 v1026 k0_hw10 k0_h17)).WholeWords (EltTy.packing .fp8e4m3) := fun v0 v9 v18 v27 v36 v45 v54 v63 v1026 k0_hw10 k0_h17 => k0_hw10.2 k0_h17 (k0_off16_inb v0 v9 v18 v27 v36 v45 v54 v63 v1026 k0_hw10 k0_h17)

def k0_off17 : Fin 2 → Nat :=
  let c0_i32_471 : BitVec 32 := 0#32
  let c4_i32_472 : BitVec 32 := 4#32
  let v1033 : BitVec 32 := Scalar.remsi c0_i32_471 c4_i32_472
  let c3_i32_475 : BitVec 32 := 3#32
  ![v1033.toNat, 3]
def k0_off18 : Fin 4 → Nat :=
  let c0_i32_471 : BitVec 32 := 0#32
  let c4_i32_472 : BitVec 32 := 4#32
  let v1033 : BitVec 32 := Scalar.remsi c0_i32_471 c4_i32_472
  let c3_i32_474 : BitVec 32 := 3#32
  let c0_i32_476 : BitVec 32 := 0#32
  let c0_i32_477 : BitVec 32 := 0#32
  ![v1033.toNat, 3, 0, 0]
def k0_off19 (v1034 : BitVec 32) : Fin 3 → Nat :=
  let c1536_i32 : BitVec 32 := 1536#32
  let c0_i32_478 : BitVec 32 := 0#32
  ![v1034.toNat, 1536, 0]

def k0_chk11 (v0 : BitVec 32) (v9 : BitVec 32) (v18 : BitVec 32) (v27 : BitVec 32) (v36 : BitVec 32) (v45 : BitVec 32) (v54 : BitVec 32) (v63 : BitVec 32) (v1034 : BitVec 32) : Prop :=
  (∀ (k0_h17 : k0_cond17 v0 v9 v18 v27 v36 v45 v54 v63 = 1#1), ∀ a, (k0_off19 v1034) a + S1x512x2048.size a ≤ S8x3584x2048.size a) ∧
  (∀ (k0_h17 : k0_cond17 v0 v9 v18 v27 v36 v45 v54 v63 = 1#1), ∀ (hinb : ∀ a, (k0_off19 v1034) a + S1x512x2048.size a ≤ S8x3584x2048.size a), (Rect.unit (s := S8x3584x2048) (k0_off19 v1034) S1x512x2048.size hinb).WholeWords (EltTy.packing .fp8e4m3))
theorem k0_off19_inb : ∀ (v0 : BitVec 32) (v9 : BitVec 32) (v18 : BitVec 32) (v27 : BitVec 32) (v36 : BitVec 32) (v45 : BitVec 32) (v54 : BitVec 32) (v63 : BitVec 32) (v1034 : BitVec 32) (k0_hw11 : k0_chk11 v0 v9 v18 v27 v36 v45 v54 v63 v1034), ∀ (k0_h17 : k0_cond17 v0 v9 v18 v27 v36 v45 v54 v63 = 1#1), ∀ a, (k0_off19 v1034) a + S1x512x2048.size a ≤ S8x3584x2048.size a := fun v0 v9 v18 v27 v36 v45 v54 v63 v1034 k0_hw11 k0_h17 => k0_hw11.1 k0_h17
theorem k0_off19_wordsfp8e4m3 : ∀ (v0 : BitVec 32) (v9 : BitVec 32) (v18 : BitVec 32) (v27 : BitVec 32) (v36 : BitVec 32) (v45 : BitVec 32) (v54 : BitVec 32) (v63 : BitVec 32) (v1034 : BitVec 32) (k0_hw11 : k0_chk11 v0 v9 v18 v27 v36 v45 v54 v63 v1034), ∀ (k0_h17 : k0_cond17 v0 v9 v18 v27 v36 v45 v54 v63 = 1#1), (Rect.unit (s := S8x3584x2048) (k0_off19 v1034) S1x512x2048.size (k0_off19_inb v0 v9 v18 v27 v36 v45 v54 v63 v1034 k0_hw11 k0_h17)).WholeWords (EltTy.packing .fp8e4m3) := fun v0 v9 v18 v27 v36 v45 v54 v63 v1034 k0_hw11 k0_h17 => k0_hw11.2 k0_h17 (k0_off19_inb v0 v9 v18 v27 v36 v45 v54 v63 v1034 k0_hw11 k0_h17)

def k0_off20 : Fin 2 → Nat :=
  let c0_i32_479 : BitVec 32 := 0#32
  let c4_i32_480 : BitVec 32 := 4#32
  let v1041 : BitVec 32 := Scalar.remsi c0_i32_479 c4_i32_480
  let c4_i32_483 : BitVec 32 := 4#32
  ![v1041.toNat, 4]
def k0_off21 : Fin 4 → Nat :=
  let c0_i32_479 : BitVec 32 := 0#32
  let c4_i32_480 : BitVec 32 := 4#32
  let v1041 : BitVec 32 := Scalar.remsi c0_i32_479 c4_i32_480
  let c4_i32_482 : BitVec 32 := 4#32
  let c0_i32_484 : BitVec 32 := 0#32
  let c0_i32_485 : BitVec 32 := 0#32
  ![v1041.toNat, 4, 0, 0]
def k0_off22 (v1042 : BitVec 32) : Fin 3 → Nat :=
  let c2048_i32 : BitVec 32 := 2048#32
  let c0_i32_486 : BitVec 32 := 0#32
  ![v1042.toNat, 2048, 0]

def k0_chk12 (v0 : BitVec 32) (v9 : BitVec 32) (v18 : BitVec 32) (v27 : BitVec 32) (v36 : BitVec 32) (v45 : BitVec 32) (v54 : BitVec 32) (v63 : BitVec 32) (v1042 : BitVec 32) : Prop :=
  (∀ (k0_h17 : k0_cond17 v0 v9 v18 v27 v36 v45 v54 v63 = 1#1), ∀ a, (k0_off22 v1042) a + S1x512x2048.size a ≤ S8x3584x2048.size a) ∧
  (∀ (k0_h17 : k0_cond17 v0 v9 v18 v27 v36 v45 v54 v63 = 1#1), ∀ (hinb : ∀ a, (k0_off22 v1042) a + S1x512x2048.size a ≤ S8x3584x2048.size a), (Rect.unit (s := S8x3584x2048) (k0_off22 v1042) S1x512x2048.size hinb).WholeWords (EltTy.packing .fp8e4m3))
theorem k0_off22_inb : ∀ (v0 : BitVec 32) (v9 : BitVec 32) (v18 : BitVec 32) (v27 : BitVec 32) (v36 : BitVec 32) (v45 : BitVec 32) (v54 : BitVec 32) (v63 : BitVec 32) (v1042 : BitVec 32) (k0_hw12 : k0_chk12 v0 v9 v18 v27 v36 v45 v54 v63 v1042), ∀ (k0_h17 : k0_cond17 v0 v9 v18 v27 v36 v45 v54 v63 = 1#1), ∀ a, (k0_off22 v1042) a + S1x512x2048.size a ≤ S8x3584x2048.size a := fun v0 v9 v18 v27 v36 v45 v54 v63 v1042 k0_hw12 k0_h17 => k0_hw12.1 k0_h17
theorem k0_off22_wordsfp8e4m3 : ∀ (v0 : BitVec 32) (v9 : BitVec 32) (v18 : BitVec 32) (v27 : BitVec 32) (v36 : BitVec 32) (v45 : BitVec 32) (v54 : BitVec 32) (v63 : BitVec 32) (v1042 : BitVec 32) (k0_hw12 : k0_chk12 v0 v9 v18 v27 v36 v45 v54 v63 v1042), ∀ (k0_h17 : k0_cond17 v0 v9 v18 v27 v36 v45 v54 v63 = 1#1), (Rect.unit (s := S8x3584x2048) (k0_off22 v1042) S1x512x2048.size (k0_off22_inb v0 v9 v18 v27 v36 v45 v54 v63 v1042 k0_hw12 k0_h17)).WholeWords (EltTy.packing .fp8e4m3) := fun v0 v9 v18 v27 v36 v45 v54 v63 v1042 k0_hw12 k0_h17 => k0_hw12.2 k0_h17 (k0_off22_inb v0 v9 v18 v27 v36 v45 v54 v63 v1042 k0_hw12 k0_h17)

def k0_off23 : Fin 2 → Nat :=
  let c0_i32_487 : BitVec 32 := 0#32
  let c4_i32_488 : BitVec 32 := 4#32
  let v1049 : BitVec 32 := Scalar.remsi c0_i32_487 c4_i32_488
  let c5_i32_491 : BitVec 32 := 5#32
  ![v1049.toNat, 5]
def k0_off24 : Fin 4 → Nat :=
  let c0_i32_487 : BitVec 32 := 0#32
  let c4_i32_488 : BitVec 32 := 4#32
  let v1049 : BitVec 32 := Scalar.remsi c0_i32_487 c4_i32_488
  let c5_i32_490 : BitVec 32 := 5#32
  let c0_i32_492 : BitVec 32 := 0#32
  let c0_i32_493 : BitVec 32 := 0#32
  ![v1049.toNat, 5, 0, 0]
def k0_off25 (v1050 : BitVec 32) : Fin 3 → Nat :=
  let c2560_i32 : BitVec 32 := 2560#32
  let c0_i32_494 : BitVec 32 := 0#32
  ![v1050.toNat, 2560, 0]

def k0_chk13 (v0 : BitVec 32) (v9 : BitVec 32) (v18 : BitVec 32) (v27 : BitVec 32) (v36 : BitVec 32) (v45 : BitVec 32) (v54 : BitVec 32) (v63 : BitVec 32) (v1050 : BitVec 32) : Prop :=
  (∀ (k0_h17 : k0_cond17 v0 v9 v18 v27 v36 v45 v54 v63 = 1#1), ∀ a, (k0_off25 v1050) a + S1x512x2048.size a ≤ S8x3584x2048.size a) ∧
  (∀ (k0_h17 : k0_cond17 v0 v9 v18 v27 v36 v45 v54 v63 = 1#1), ∀ (hinb : ∀ a, (k0_off25 v1050) a + S1x512x2048.size a ≤ S8x3584x2048.size a), (Rect.unit (s := S8x3584x2048) (k0_off25 v1050) S1x512x2048.size hinb).WholeWords (EltTy.packing .fp8e4m3))
theorem k0_off25_inb : ∀ (v0 : BitVec 32) (v9 : BitVec 32) (v18 : BitVec 32) (v27 : BitVec 32) (v36 : BitVec 32) (v45 : BitVec 32) (v54 : BitVec 32) (v63 : BitVec 32) (v1050 : BitVec 32) (k0_hw13 : k0_chk13 v0 v9 v18 v27 v36 v45 v54 v63 v1050), ∀ (k0_h17 : k0_cond17 v0 v9 v18 v27 v36 v45 v54 v63 = 1#1), ∀ a, (k0_off25 v1050) a + S1x512x2048.size a ≤ S8x3584x2048.size a := fun v0 v9 v18 v27 v36 v45 v54 v63 v1050 k0_hw13 k0_h17 => k0_hw13.1 k0_h17
theorem k0_off25_wordsfp8e4m3 : ∀ (v0 : BitVec 32) (v9 : BitVec 32) (v18 : BitVec 32) (v27 : BitVec 32) (v36 : BitVec 32) (v45 : BitVec 32) (v54 : BitVec 32) (v63 : BitVec 32) (v1050 : BitVec 32) (k0_hw13 : k0_chk13 v0 v9 v18 v27 v36 v45 v54 v63 v1050), ∀ (k0_h17 : k0_cond17 v0 v9 v18 v27 v36 v45 v54 v63 = 1#1), (Rect.unit (s := S8x3584x2048) (k0_off25 v1050) S1x512x2048.size (k0_off25_inb v0 v9 v18 v27 v36 v45 v54 v63 v1050 k0_hw13 k0_h17)).WholeWords (EltTy.packing .fp8e4m3) := fun v0 v9 v18 v27 v36 v45 v54 v63 v1050 k0_hw13 k0_h17 => k0_hw13.2 k0_h17 (k0_off25_inb v0 v9 v18 v27 v36 v45 v54 v63 v1050 k0_hw13 k0_h17)

def k0_off26 : Fin 2 → Nat :=
  let c0_i32_495 : BitVec 32 := 0#32
  let c4_i32_496 : BitVec 32 := 4#32
  let v1057 : BitVec 32 := Scalar.remsi c0_i32_495 c4_i32_496
  let c6_i32_499 : BitVec 32 := 6#32
  ![v1057.toNat, 6]
def k0_off27 : Fin 4 → Nat :=
  let c0_i32_495 : BitVec 32 := 0#32
  let c4_i32_496 : BitVec 32 := 4#32
  let v1057 : BitVec 32 := Scalar.remsi c0_i32_495 c4_i32_496
  let c6_i32_498 : BitVec 32 := 6#32
  let c0_i32_500 : BitVec 32 := 0#32
  let c0_i32_501 : BitVec 32 := 0#32
  ![v1057.toNat, 6, 0, 0]
def k0_off28 (v1058 : BitVec 32) : Fin 3 → Nat :=
  let c3072_i32 : BitVec 32 := 3072#32
  let c0_i32_502 : BitVec 32 := 0#32
  ![v1058.toNat, 3072, 0]

def k0_chk14 (v0 : BitVec 32) (v9 : BitVec 32) (v18 : BitVec 32) (v27 : BitVec 32) (v36 : BitVec 32) (v45 : BitVec 32) (v54 : BitVec 32) (v63 : BitVec 32) (v1058 : BitVec 32) : Prop :=
  (∀ (k0_h17 : k0_cond17 v0 v9 v18 v27 v36 v45 v54 v63 = 1#1), ∀ a, (k0_off28 v1058) a + S1x512x2048.size a ≤ S8x3584x2048.size a) ∧
  (∀ (k0_h17 : k0_cond17 v0 v9 v18 v27 v36 v45 v54 v63 = 1#1), ∀ (hinb : ∀ a, (k0_off28 v1058) a + S1x512x2048.size a ≤ S8x3584x2048.size a), (Rect.unit (s := S8x3584x2048) (k0_off28 v1058) S1x512x2048.size hinb).WholeWords (EltTy.packing .fp8e4m3))
theorem k0_off28_inb : ∀ (v0 : BitVec 32) (v9 : BitVec 32) (v18 : BitVec 32) (v27 : BitVec 32) (v36 : BitVec 32) (v45 : BitVec 32) (v54 : BitVec 32) (v63 : BitVec 32) (v1058 : BitVec 32) (k0_hw14 : k0_chk14 v0 v9 v18 v27 v36 v45 v54 v63 v1058), ∀ (k0_h17 : k0_cond17 v0 v9 v18 v27 v36 v45 v54 v63 = 1#1), ∀ a, (k0_off28 v1058) a + S1x512x2048.size a ≤ S8x3584x2048.size a := fun v0 v9 v18 v27 v36 v45 v54 v63 v1058 k0_hw14 k0_h17 => k0_hw14.1 k0_h17
theorem k0_off28_wordsfp8e4m3 : ∀ (v0 : BitVec 32) (v9 : BitVec 32) (v18 : BitVec 32) (v27 : BitVec 32) (v36 : BitVec 32) (v45 : BitVec 32) (v54 : BitVec 32) (v63 : BitVec 32) (v1058 : BitVec 32) (k0_hw14 : k0_chk14 v0 v9 v18 v27 v36 v45 v54 v63 v1058), ∀ (k0_h17 : k0_cond17 v0 v9 v18 v27 v36 v45 v54 v63 = 1#1), (Rect.unit (s := S8x3584x2048) (k0_off28 v1058) S1x512x2048.size (k0_off28_inb v0 v9 v18 v27 v36 v45 v54 v63 v1058 k0_hw14 k0_h17)).WholeWords (EltTy.packing .fp8e4m3) := fun v0 v9 v18 v27 v36 v45 v54 v63 v1058 k0_hw14 k0_h17 => k0_hw14.2 k0_h17 (k0_off28_inb v0 v9 v18 v27 v36 v45 v54 v63 v1058 k0_hw14 k0_h17)

def k0_off29 : Fin 2 → Nat :=
  let c1_i32_446 : BitVec 32 := 1#32
  let c4_i32_447 : BitVec 32 := 4#32
  let v1009 : BitVec 32 := Scalar.remsi c1_i32_446 c4_i32_447
  let c0_i32_450 : BitVec 32 := 0#32
  ![v1009.toNat, 0]
def k0_off30 : Fin 4 → Nat :=
  let c1_i32_446 : BitVec 32 := 1#32
  let c4_i32_447 : BitVec 32 := 4#32
  let v1009 : BitVec 32 := Scalar.remsi c1_i32_446 c4_i32_447
  let c0_i32_449 : BitVec 32 := 0#32
  let c0_i32_451 : BitVec 32 := 0#32
  let c0_i32_452 : BitVec 32 := 0#32
  ![v1009.toNat, 0, 0, 0]
def k0_off31 (v1010 : BitVec 32) : Fin 3 → Nat :=
  let c0_i32_453 : BitVec 32 := 0#32
  let c0_i32_454 : BitVec 32 := 0#32
  ![v1010.toNat, 0, 0]
def k0_cond18 (v0 : BitVec 32) (v9 : BitVec 32) (v18 : BitVec 32) (v27 : BitVec 32) (v36 : BitVec 32) (v45 : BitVec 32) (v54 : BitVec 32) (v63 : BitVec 32) : BitVec 1 :=
  let c0_i32_3 : BitVec 32 := 0#32
  let c0_i32 : BitVec 32 := 0#32
  let v1 : BitVec 1 := Scalar.cmpi .sgt v0 c0_i32
  let v7 : BitVec 32 := Scalar.extui v1
  let v8 : BitVec 32 := Scalar.addi c0_i32_3 v7
  let c0_i32_4 : BitVec 32 := 0#32
  let v10 : BitVec 1 := Scalar.cmpi .sgt v9 c0_i32_4
  let v16 : BitVec 32 := Scalar.extui v10
  let v17 : BitVec 32 := Scalar.addi v8 v16
  let c0_i32_8 : BitVec 32 := 0#32
  let v19 : BitVec 1 := Scalar.cmpi .sgt v18 c0_i32_8
  let v25 : BitVec 32 := Scalar.extui v19
  let v26 : BitVec 32 := Scalar.addi v17 v25
  let c0_i32_12 : BitVec 32 := 0#32
  let v28 : BitVec 1 := Scalar.cmpi .sgt v27 c0_i32_12
  let v34 : BitVec 32 := Scalar.extui v28
  let v35 : BitVec 32 := Scalar.addi v26 v34
  let c0_i32_16 : BitVec 32 := 0#32
  let v37 : BitVec 1 := Scalar.cmpi .sgt v36 c0_i32_16
  let v43 : BitVec 32 := Scalar.extui v37
  let v44 : BitVec 32 := Scalar.addi v35 v43
  let c0_i32_20 : BitVec 32 := 0#32
  let v46 : BitVec 1 := Scalar.cmpi .sgt v45 c0_i32_20
  let v52 : BitVec 32 := Scalar.extui v46
  let v53 : BitVec 32 := Scalar.addi v44 v52
  let c0_i32_24 : BitVec 32 := 0#32
  let v55 : BitVec 1 := Scalar.cmpi .sgt v54 c0_i32_24
  let v61 : BitVec 32 := Scalar.extui v55
  let v62 : BitVec 32 := Scalar.addi v53 v61
  let c0_i32_28 : BitVec 32 := 0#32
  let v64 : BitVec 1 := Scalar.cmpi .sgt v63 c0_i32_28
  let v70 : BitVec 32 := Scalar.extui v64
  let v71 : BitVec 32 := Scalar.addi v62 v70
  let c1_i32 : BitVec 32 := 1#32
  let v75 : BitVec 1 := Scalar.cmpi .sgt v71 c1_i32
  let v76 : BitVec 32 := Scalar.extui v75
  let c0_i32_34 : BitVec 32 := 0#32
  let v77 : BitVec 1 := Scalar.cmpi .ne v76 c0_i32_34
  v77

def k0_chk15 (v0 : BitVec 32) (v9 : BitVec 32) (v18 : BitVec 32) (v27 : BitVec 32) (v36 : BitVec 32) (v45 : BitVec 32) (v54 : BitVec 32) (v63 : BitVec 32) (v1010 : BitVec 32) : Prop :=
  (∀ (k0_h18 : k0_cond18 v0 v9 v18 v27 v36 v45 v54 v63 = 1#1), ∀ a, (k0_off31 v1010) a + S1x512x2048.size a ≤ S8x3584x2048.size a) ∧
  (∀ (k0_h18 : k0_cond18 v0 v9 v18 v27 v36 v45 v54 v63 = 1#1), ∀ (hinb : ∀ a, (k0_off31 v1010) a + S1x512x2048.size a ≤ S8x3584x2048.size a), (Rect.unit (s := S8x3584x2048) (k0_off31 v1010) S1x512x2048.size hinb).WholeWords (EltTy.packing .fp8e4m3))
theorem k0_off31_inb : ∀ (v0 : BitVec 32) (v9 : BitVec 32) (v18 : BitVec 32) (v27 : BitVec 32) (v36 : BitVec 32) (v45 : BitVec 32) (v54 : BitVec 32) (v63 : BitVec 32) (v1010 : BitVec 32) (k0_hw15 : k0_chk15 v0 v9 v18 v27 v36 v45 v54 v63 v1010), ∀ (k0_h18 : k0_cond18 v0 v9 v18 v27 v36 v45 v54 v63 = 1#1), ∀ a, (k0_off31 v1010) a + S1x512x2048.size a ≤ S8x3584x2048.size a := fun v0 v9 v18 v27 v36 v45 v54 v63 v1010 k0_hw15 k0_h18 => k0_hw15.1 k0_h18
theorem k0_off31_wordsfp8e4m3 : ∀ (v0 : BitVec 32) (v9 : BitVec 32) (v18 : BitVec 32) (v27 : BitVec 32) (v36 : BitVec 32) (v45 : BitVec 32) (v54 : BitVec 32) (v63 : BitVec 32) (v1010 : BitVec 32) (k0_hw15 : k0_chk15 v0 v9 v18 v27 v36 v45 v54 v63 v1010), ∀ (k0_h18 : k0_cond18 v0 v9 v18 v27 v36 v45 v54 v63 = 1#1), (Rect.unit (s := S8x3584x2048) (k0_off31 v1010) S1x512x2048.size (k0_off31_inb v0 v9 v18 v27 v36 v45 v54 v63 v1010 k0_hw15 k0_h18)).WholeWords (EltTy.packing .fp8e4m3) := fun v0 v9 v18 v27 v36 v45 v54 v63 v1010 k0_hw15 k0_h18 => k0_hw15.2 k0_h18 (k0_off31_inb v0 v9 v18 v27 v36 v45 v54 v63 v1010 k0_hw15 k0_h18)

def k0_off32 : Fin 2 → Nat :=
  let c1_i32_455 : BitVec 32 := 1#32
  let c4_i32_456 : BitVec 32 := 4#32
  let v1017 : BitVec 32 := Scalar.remsi c1_i32_455 c4_i32_456
  let c1_i32_459 : BitVec 32 := 1#32
  ![v1017.toNat, 1]
def k0_off33 : Fin 4 → Nat :=
  let c1_i32_455 : BitVec 32 := 1#32
  let c4_i32_456 : BitVec 32 := 4#32
  let v1017 : BitVec 32 := Scalar.remsi c1_i32_455 c4_i32_456
  let c1_i32_458 : BitVec 32 := 1#32
  let c0_i32_460 : BitVec 32 := 0#32
  let c0_i32_461 : BitVec 32 := 0#32
  ![v1017.toNat, 1, 0, 0]
def k0_off34 (v1018 : BitVec 32) : Fin 3 → Nat :=
  let c512_i32 : BitVec 32 := 512#32
  let c0_i32_462 : BitVec 32 := 0#32
  ![v1018.toNat, 512, 0]

def k0_chk16 (v0 : BitVec 32) (v9 : BitVec 32) (v18 : BitVec 32) (v27 : BitVec 32) (v36 : BitVec 32) (v45 : BitVec 32) (v54 : BitVec 32) (v63 : BitVec 32) (v1018 : BitVec 32) : Prop :=
  (∀ (k0_h18 : k0_cond18 v0 v9 v18 v27 v36 v45 v54 v63 = 1#1), ∀ a, (k0_off34 v1018) a + S1x512x2048.size a ≤ S8x3584x2048.size a) ∧
  (∀ (k0_h18 : k0_cond18 v0 v9 v18 v27 v36 v45 v54 v63 = 1#1), ∀ (hinb : ∀ a, (k0_off34 v1018) a + S1x512x2048.size a ≤ S8x3584x2048.size a), (Rect.unit (s := S8x3584x2048) (k0_off34 v1018) S1x512x2048.size hinb).WholeWords (EltTy.packing .fp8e4m3))
theorem k0_off34_inb : ∀ (v0 : BitVec 32) (v9 : BitVec 32) (v18 : BitVec 32) (v27 : BitVec 32) (v36 : BitVec 32) (v45 : BitVec 32) (v54 : BitVec 32) (v63 : BitVec 32) (v1018 : BitVec 32) (k0_hw16 : k0_chk16 v0 v9 v18 v27 v36 v45 v54 v63 v1018), ∀ (k0_h18 : k0_cond18 v0 v9 v18 v27 v36 v45 v54 v63 = 1#1), ∀ a, (k0_off34 v1018) a + S1x512x2048.size a ≤ S8x3584x2048.size a := fun v0 v9 v18 v27 v36 v45 v54 v63 v1018 k0_hw16 k0_h18 => k0_hw16.1 k0_h18
theorem k0_off34_wordsfp8e4m3 : ∀ (v0 : BitVec 32) (v9 : BitVec 32) (v18 : BitVec 32) (v27 : BitVec 32) (v36 : BitVec 32) (v45 : BitVec 32) (v54 : BitVec 32) (v63 : BitVec 32) (v1018 : BitVec 32) (k0_hw16 : k0_chk16 v0 v9 v18 v27 v36 v45 v54 v63 v1018), ∀ (k0_h18 : k0_cond18 v0 v9 v18 v27 v36 v45 v54 v63 = 1#1), (Rect.unit (s := S8x3584x2048) (k0_off34 v1018) S1x512x2048.size (k0_off34_inb v0 v9 v18 v27 v36 v45 v54 v63 v1018 k0_hw16 k0_h18)).WholeWords (EltTy.packing .fp8e4m3) := fun v0 v9 v18 v27 v36 v45 v54 v63 v1018 k0_hw16 k0_h18 => k0_hw16.2 k0_h18 (k0_off34_inb v0 v9 v18 v27 v36 v45 v54 v63 v1018 k0_hw16 k0_h18)

def k0_off35 : Fin 2 → Nat :=
  let c1_i32_463 : BitVec 32 := 1#32
  let c4_i32_464 : BitVec 32 := 4#32
  let v1025 : BitVec 32 := Scalar.remsi c1_i32_463 c4_i32_464
  let c2_i32_467 : BitVec 32 := 2#32
  ![v1025.toNat, 2]
def k0_off36 : Fin 4 → Nat :=
  let c1_i32_463 : BitVec 32 := 1#32
  let c4_i32_464 : BitVec 32 := 4#32
  let v1025 : BitVec 32 := Scalar.remsi c1_i32_463 c4_i32_464
  let c2_i32_466 : BitVec 32 := 2#32
  let c0_i32_468 : BitVec 32 := 0#32
  let c0_i32_469 : BitVec 32 := 0#32
  ![v1025.toNat, 2, 0, 0]
def k0_off37 (v1026 : BitVec 32) : Fin 3 → Nat :=
  let c1024_i32 : BitVec 32 := 1024#32
  let c0_i32_470 : BitVec 32 := 0#32
  ![v1026.toNat, 1024, 0]

def k0_chk17 (v0 : BitVec 32) (v9 : BitVec 32) (v18 : BitVec 32) (v27 : BitVec 32) (v36 : BitVec 32) (v45 : BitVec 32) (v54 : BitVec 32) (v63 : BitVec 32) (v1026 : BitVec 32) : Prop :=
  (∀ (k0_h18 : k0_cond18 v0 v9 v18 v27 v36 v45 v54 v63 = 1#1), ∀ a, (k0_off37 v1026) a + S1x512x2048.size a ≤ S8x3584x2048.size a) ∧
  (∀ (k0_h18 : k0_cond18 v0 v9 v18 v27 v36 v45 v54 v63 = 1#1), ∀ (hinb : ∀ a, (k0_off37 v1026) a + S1x512x2048.size a ≤ S8x3584x2048.size a), (Rect.unit (s := S8x3584x2048) (k0_off37 v1026) S1x512x2048.size hinb).WholeWords (EltTy.packing .fp8e4m3))
theorem k0_off37_inb : ∀ (v0 : BitVec 32) (v9 : BitVec 32) (v18 : BitVec 32) (v27 : BitVec 32) (v36 : BitVec 32) (v45 : BitVec 32) (v54 : BitVec 32) (v63 : BitVec 32) (v1026 : BitVec 32) (k0_hw17 : k0_chk17 v0 v9 v18 v27 v36 v45 v54 v63 v1026), ∀ (k0_h18 : k0_cond18 v0 v9 v18 v27 v36 v45 v54 v63 = 1#1), ∀ a, (k0_off37 v1026) a + S1x512x2048.size a ≤ S8x3584x2048.size a := fun v0 v9 v18 v27 v36 v45 v54 v63 v1026 k0_hw17 k0_h18 => k0_hw17.1 k0_h18
theorem k0_off37_wordsfp8e4m3 : ∀ (v0 : BitVec 32) (v9 : BitVec 32) (v18 : BitVec 32) (v27 : BitVec 32) (v36 : BitVec 32) (v45 : BitVec 32) (v54 : BitVec 32) (v63 : BitVec 32) (v1026 : BitVec 32) (k0_hw17 : k0_chk17 v0 v9 v18 v27 v36 v45 v54 v63 v1026), ∀ (k0_h18 : k0_cond18 v0 v9 v18 v27 v36 v45 v54 v63 = 1#1), (Rect.unit (s := S8x3584x2048) (k0_off37 v1026) S1x512x2048.size (k0_off37_inb v0 v9 v18 v27 v36 v45 v54 v63 v1026 k0_hw17 k0_h18)).WholeWords (EltTy.packing .fp8e4m3) := fun v0 v9 v18 v27 v36 v45 v54 v63 v1026 k0_hw17 k0_h18 => k0_hw17.2 k0_h18 (k0_off37_inb v0 v9 v18 v27 v36 v45 v54 v63 v1026 k0_hw17 k0_h18)

def k0_off38 : Fin 2 → Nat :=
  let c1_i32_471 : BitVec 32 := 1#32
  let c4_i32_472 : BitVec 32 := 4#32
  let v1033 : BitVec 32 := Scalar.remsi c1_i32_471 c4_i32_472
  let c3_i32_475 : BitVec 32 := 3#32
  ![v1033.toNat, 3]
def k0_off39 : Fin 4 → Nat :=
  let c1_i32_471 : BitVec 32 := 1#32
  let c4_i32_472 : BitVec 32 := 4#32
  let v1033 : BitVec 32 := Scalar.remsi c1_i32_471 c4_i32_472
  let c3_i32_474 : BitVec 32 := 3#32
  let c0_i32_476 : BitVec 32 := 0#32
  let c0_i32_477 : BitVec 32 := 0#32
  ![v1033.toNat, 3, 0, 0]
def k0_off40 (v1034 : BitVec 32) : Fin 3 → Nat :=
  let c1536_i32 : BitVec 32 := 1536#32
  let c0_i32_478 : BitVec 32 := 0#32
  ![v1034.toNat, 1536, 0]

def k0_chk18 (v0 : BitVec 32) (v9 : BitVec 32) (v18 : BitVec 32) (v27 : BitVec 32) (v36 : BitVec 32) (v45 : BitVec 32) (v54 : BitVec 32) (v63 : BitVec 32) (v1034 : BitVec 32) : Prop :=
  (∀ (k0_h18 : k0_cond18 v0 v9 v18 v27 v36 v45 v54 v63 = 1#1), ∀ a, (k0_off40 v1034) a + S1x512x2048.size a ≤ S8x3584x2048.size a) ∧
  (∀ (k0_h18 : k0_cond18 v0 v9 v18 v27 v36 v45 v54 v63 = 1#1), ∀ (hinb : ∀ a, (k0_off40 v1034) a + S1x512x2048.size a ≤ S8x3584x2048.size a), (Rect.unit (s := S8x3584x2048) (k0_off40 v1034) S1x512x2048.size hinb).WholeWords (EltTy.packing .fp8e4m3))
theorem k0_off40_inb : ∀ (v0 : BitVec 32) (v9 : BitVec 32) (v18 : BitVec 32) (v27 : BitVec 32) (v36 : BitVec 32) (v45 : BitVec 32) (v54 : BitVec 32) (v63 : BitVec 32) (v1034 : BitVec 32) (k0_hw18 : k0_chk18 v0 v9 v18 v27 v36 v45 v54 v63 v1034), ∀ (k0_h18 : k0_cond18 v0 v9 v18 v27 v36 v45 v54 v63 = 1#1), ∀ a, (k0_off40 v1034) a + S1x512x2048.size a ≤ S8x3584x2048.size a := fun v0 v9 v18 v27 v36 v45 v54 v63 v1034 k0_hw18 k0_h18 => k0_hw18.1 k0_h18
theorem k0_off40_wordsfp8e4m3 : ∀ (v0 : BitVec 32) (v9 : BitVec 32) (v18 : BitVec 32) (v27 : BitVec 32) (v36 : BitVec 32) (v45 : BitVec 32) (v54 : BitVec 32) (v63 : BitVec 32) (v1034 : BitVec 32) (k0_hw18 : k0_chk18 v0 v9 v18 v27 v36 v45 v54 v63 v1034), ∀ (k0_h18 : k0_cond18 v0 v9 v18 v27 v36 v45 v54 v63 = 1#1), (Rect.unit (s := S8x3584x2048) (k0_off40 v1034) S1x512x2048.size (k0_off40_inb v0 v9 v18 v27 v36 v45 v54 v63 v1034 k0_hw18 k0_h18)).WholeWords (EltTy.packing .fp8e4m3) := fun v0 v9 v18 v27 v36 v45 v54 v63 v1034 k0_hw18 k0_h18 => k0_hw18.2 k0_h18 (k0_off40_inb v0 v9 v18 v27 v36 v45 v54 v63 v1034 k0_hw18 k0_h18)

def k0_off41 : Fin 2 → Nat :=
  let c1_i32_479 : BitVec 32 := 1#32
  let c4_i32_480 : BitVec 32 := 4#32
  let v1041 : BitVec 32 := Scalar.remsi c1_i32_479 c4_i32_480
  let c4_i32_483 : BitVec 32 := 4#32
  ![v1041.toNat, 4]
def k0_off42 : Fin 4 → Nat :=
  let c1_i32_479 : BitVec 32 := 1#32
  let c4_i32_480 : BitVec 32 := 4#32
  let v1041 : BitVec 32 := Scalar.remsi c1_i32_479 c4_i32_480
  let c4_i32_482 : BitVec 32 := 4#32
  let c0_i32_484 : BitVec 32 := 0#32
  let c0_i32_485 : BitVec 32 := 0#32
  ![v1041.toNat, 4, 0, 0]
def k0_off43 (v1042 : BitVec 32) : Fin 3 → Nat :=
  let c2048_i32 : BitVec 32 := 2048#32
  let c0_i32_486 : BitVec 32 := 0#32
  ![v1042.toNat, 2048, 0]

def k0_chk19 (v0 : BitVec 32) (v9 : BitVec 32) (v18 : BitVec 32) (v27 : BitVec 32) (v36 : BitVec 32) (v45 : BitVec 32) (v54 : BitVec 32) (v63 : BitVec 32) (v1042 : BitVec 32) : Prop :=
  (∀ (k0_h18 : k0_cond18 v0 v9 v18 v27 v36 v45 v54 v63 = 1#1), ∀ a, (k0_off43 v1042) a + S1x512x2048.size a ≤ S8x3584x2048.size a) ∧
  (∀ (k0_h18 : k0_cond18 v0 v9 v18 v27 v36 v45 v54 v63 = 1#1), ∀ (hinb : ∀ a, (k0_off43 v1042) a + S1x512x2048.size a ≤ S8x3584x2048.size a), (Rect.unit (s := S8x3584x2048) (k0_off43 v1042) S1x512x2048.size hinb).WholeWords (EltTy.packing .fp8e4m3))
theorem k0_off43_inb : ∀ (v0 : BitVec 32) (v9 : BitVec 32) (v18 : BitVec 32) (v27 : BitVec 32) (v36 : BitVec 32) (v45 : BitVec 32) (v54 : BitVec 32) (v63 : BitVec 32) (v1042 : BitVec 32) (k0_hw19 : k0_chk19 v0 v9 v18 v27 v36 v45 v54 v63 v1042), ∀ (k0_h18 : k0_cond18 v0 v9 v18 v27 v36 v45 v54 v63 = 1#1), ∀ a, (k0_off43 v1042) a + S1x512x2048.size a ≤ S8x3584x2048.size a := fun v0 v9 v18 v27 v36 v45 v54 v63 v1042 k0_hw19 k0_h18 => k0_hw19.1 k0_h18
theorem k0_off43_wordsfp8e4m3 : ∀ (v0 : BitVec 32) (v9 : BitVec 32) (v18 : BitVec 32) (v27 : BitVec 32) (v36 : BitVec 32) (v45 : BitVec 32) (v54 : BitVec 32) (v63 : BitVec 32) (v1042 : BitVec 32) (k0_hw19 : k0_chk19 v0 v9 v18 v27 v36 v45 v54 v63 v1042), ∀ (k0_h18 : k0_cond18 v0 v9 v18 v27 v36 v45 v54 v63 = 1#1), (Rect.unit (s := S8x3584x2048) (k0_off43 v1042) S1x512x2048.size (k0_off43_inb v0 v9 v18 v27 v36 v45 v54 v63 v1042 k0_hw19 k0_h18)).WholeWords (EltTy.packing .fp8e4m3) := fun v0 v9 v18 v27 v36 v45 v54 v63 v1042 k0_hw19 k0_h18 => k0_hw19.2 k0_h18 (k0_off43_inb v0 v9 v18 v27 v36 v45 v54 v63 v1042 k0_hw19 k0_h18)

def k0_off44 : Fin 2 → Nat :=
  let c1_i32_487 : BitVec 32 := 1#32
  let c4_i32_488 : BitVec 32 := 4#32
  let v1049 : BitVec 32 := Scalar.remsi c1_i32_487 c4_i32_488
  let c5_i32_491 : BitVec 32 := 5#32
  ![v1049.toNat, 5]
def k0_off45 : Fin 4 → Nat :=
  let c1_i32_487 : BitVec 32 := 1#32
  let c4_i32_488 : BitVec 32 := 4#32
  let v1049 : BitVec 32 := Scalar.remsi c1_i32_487 c4_i32_488
  let c5_i32_490 : BitVec 32 := 5#32
  let c0_i32_492 : BitVec 32 := 0#32
  let c0_i32_493 : BitVec 32 := 0#32
  ![v1049.toNat, 5, 0, 0]
def k0_off46 (v1050 : BitVec 32) : Fin 3 → Nat :=
  let c2560_i32 : BitVec 32 := 2560#32
  let c0_i32_494 : BitVec 32 := 0#32
  ![v1050.toNat, 2560, 0]

def k0_chk20 (v0 : BitVec 32) (v9 : BitVec 32) (v18 : BitVec 32) (v27 : BitVec 32) (v36 : BitVec 32) (v45 : BitVec 32) (v54 : BitVec 32) (v63 : BitVec 32) (v1050 : BitVec 32) : Prop :=
  (∀ (k0_h18 : k0_cond18 v0 v9 v18 v27 v36 v45 v54 v63 = 1#1), ∀ a, (k0_off46 v1050) a + S1x512x2048.size a ≤ S8x3584x2048.size a) ∧
  (∀ (k0_h18 : k0_cond18 v0 v9 v18 v27 v36 v45 v54 v63 = 1#1), ∀ (hinb : ∀ a, (k0_off46 v1050) a + S1x512x2048.size a ≤ S8x3584x2048.size a), (Rect.unit (s := S8x3584x2048) (k0_off46 v1050) S1x512x2048.size hinb).WholeWords (EltTy.packing .fp8e4m3))
theorem k0_off46_inb : ∀ (v0 : BitVec 32) (v9 : BitVec 32) (v18 : BitVec 32) (v27 : BitVec 32) (v36 : BitVec 32) (v45 : BitVec 32) (v54 : BitVec 32) (v63 : BitVec 32) (v1050 : BitVec 32) (k0_hw20 : k0_chk20 v0 v9 v18 v27 v36 v45 v54 v63 v1050), ∀ (k0_h18 : k0_cond18 v0 v9 v18 v27 v36 v45 v54 v63 = 1#1), ∀ a, (k0_off46 v1050) a + S1x512x2048.size a ≤ S8x3584x2048.size a := fun v0 v9 v18 v27 v36 v45 v54 v63 v1050 k0_hw20 k0_h18 => k0_hw20.1 k0_h18
theorem k0_off46_wordsfp8e4m3 : ∀ (v0 : BitVec 32) (v9 : BitVec 32) (v18 : BitVec 32) (v27 : BitVec 32) (v36 : BitVec 32) (v45 : BitVec 32) (v54 : BitVec 32) (v63 : BitVec 32) (v1050 : BitVec 32) (k0_hw20 : k0_chk20 v0 v9 v18 v27 v36 v45 v54 v63 v1050), ∀ (k0_h18 : k0_cond18 v0 v9 v18 v27 v36 v45 v54 v63 = 1#1), (Rect.unit (s := S8x3584x2048) (k0_off46 v1050) S1x512x2048.size (k0_off46_inb v0 v9 v18 v27 v36 v45 v54 v63 v1050 k0_hw20 k0_h18)).WholeWords (EltTy.packing .fp8e4m3) := fun v0 v9 v18 v27 v36 v45 v54 v63 v1050 k0_hw20 k0_h18 => k0_hw20.2 k0_h18 (k0_off46_inb v0 v9 v18 v27 v36 v45 v54 v63 v1050 k0_hw20 k0_h18)

def k0_off47 : Fin 2 → Nat :=
  let c1_i32_495 : BitVec 32 := 1#32
  let c4_i32_496 : BitVec 32 := 4#32
  let v1057 : BitVec 32 := Scalar.remsi c1_i32_495 c4_i32_496
  let c6_i32_499 : BitVec 32 := 6#32
  ![v1057.toNat, 6]
def k0_off48 : Fin 4 → Nat :=
  let c1_i32_495 : BitVec 32 := 1#32
  let c4_i32_496 : BitVec 32 := 4#32
  let v1057 : BitVec 32 := Scalar.remsi c1_i32_495 c4_i32_496
  let c6_i32_498 : BitVec 32 := 6#32
  let c0_i32_500 : BitVec 32 := 0#32
  let c0_i32_501 : BitVec 32 := 0#32
  ![v1057.toNat, 6, 0, 0]
def k0_off49 (v1058 : BitVec 32) : Fin 3 → Nat :=
  let c3072_i32 : BitVec 32 := 3072#32
  let c0_i32_502 : BitVec 32 := 0#32
  ![v1058.toNat, 3072, 0]

def k0_chk21 (v0 : BitVec 32) (v9 : BitVec 32) (v18 : BitVec 32) (v27 : BitVec 32) (v36 : BitVec 32) (v45 : BitVec 32) (v54 : BitVec 32) (v63 : BitVec 32) (v1058 : BitVec 32) : Prop :=
  (∀ (k0_h18 : k0_cond18 v0 v9 v18 v27 v36 v45 v54 v63 = 1#1), ∀ a, (k0_off49 v1058) a + S1x512x2048.size a ≤ S8x3584x2048.size a) ∧
  (∀ (k0_h18 : k0_cond18 v0 v9 v18 v27 v36 v45 v54 v63 = 1#1), ∀ (hinb : ∀ a, (k0_off49 v1058) a + S1x512x2048.size a ≤ S8x3584x2048.size a), (Rect.unit (s := S8x3584x2048) (k0_off49 v1058) S1x512x2048.size hinb).WholeWords (EltTy.packing .fp8e4m3))
theorem k0_off49_inb : ∀ (v0 : BitVec 32) (v9 : BitVec 32) (v18 : BitVec 32) (v27 : BitVec 32) (v36 : BitVec 32) (v45 : BitVec 32) (v54 : BitVec 32) (v63 : BitVec 32) (v1058 : BitVec 32) (k0_hw21 : k0_chk21 v0 v9 v18 v27 v36 v45 v54 v63 v1058), ∀ (k0_h18 : k0_cond18 v0 v9 v18 v27 v36 v45 v54 v63 = 1#1), ∀ a, (k0_off49 v1058) a + S1x512x2048.size a ≤ S8x3584x2048.size a := fun v0 v9 v18 v27 v36 v45 v54 v63 v1058 k0_hw21 k0_h18 => k0_hw21.1 k0_h18
theorem k0_off49_wordsfp8e4m3 : ∀ (v0 : BitVec 32) (v9 : BitVec 32) (v18 : BitVec 32) (v27 : BitVec 32) (v36 : BitVec 32) (v45 : BitVec 32) (v54 : BitVec 32) (v63 : BitVec 32) (v1058 : BitVec 32) (k0_hw21 : k0_chk21 v0 v9 v18 v27 v36 v45 v54 v63 v1058), ∀ (k0_h18 : k0_cond18 v0 v9 v18 v27 v36 v45 v54 v63 = 1#1), (Rect.unit (s := S8x3584x2048) (k0_off49 v1058) S1x512x2048.size (k0_off49_inb v0 v9 v18 v27 v36 v45 v54 v63 v1058 k0_hw21 k0_h18)).WholeWords (EltTy.packing .fp8e4m3) := fun v0 v9 v18 v27 v36 v45 v54 v63 v1058 k0_hw21 k0_h18 => k0_hw21.2 k0_h18 (k0_off49_inb v0 v9 v18 v27 v36 v45 v54 v63 v1058 k0_hw21 k0_h18)

def k0_off50 : Fin 2 → Nat :=
  let c2_i32_446 : BitVec 32 := 2#32
  let c4_i32_447 : BitVec 32 := 4#32
  let v1009 : BitVec 32 := Scalar.remsi c2_i32_446 c4_i32_447
  let c0_i32_450 : BitVec 32 := 0#32
  ![v1009.toNat, 0]
def k0_off51 : Fin 4 → Nat :=
  let c2_i32_446 : BitVec 32 := 2#32
  let c4_i32_447 : BitVec 32 := 4#32
  let v1009 : BitVec 32 := Scalar.remsi c2_i32_446 c4_i32_447
  let c0_i32_449 : BitVec 32 := 0#32
  let c0_i32_451 : BitVec 32 := 0#32
  let c0_i32_452 : BitVec 32 := 0#32
  ![v1009.toNat, 0, 0, 0]
def k0_off52 (v1010 : BitVec 32) : Fin 3 → Nat :=
  let c0_i32_453 : BitVec 32 := 0#32
  let c0_i32_454 : BitVec 32 := 0#32
  ![v1010.toNat, 0, 0]
def k0_cond19 (v0 : BitVec 32) (v9 : BitVec 32) (v18 : BitVec 32) (v27 : BitVec 32) (v36 : BitVec 32) (v45 : BitVec 32) (v54 : BitVec 32) (v63 : BitVec 32) : BitVec 1 :=
  let c0_i32_3 : BitVec 32 := 0#32
  let c0_i32 : BitVec 32 := 0#32
  let v1 : BitVec 1 := Scalar.cmpi .sgt v0 c0_i32
  let v7 : BitVec 32 := Scalar.extui v1
  let v8 : BitVec 32 := Scalar.addi c0_i32_3 v7
  let c0_i32_4 : BitVec 32 := 0#32
  let v10 : BitVec 1 := Scalar.cmpi .sgt v9 c0_i32_4
  let v16 : BitVec 32 := Scalar.extui v10
  let v17 : BitVec 32 := Scalar.addi v8 v16
  let c0_i32_8 : BitVec 32 := 0#32
  let v19 : BitVec 1 := Scalar.cmpi .sgt v18 c0_i32_8
  let v25 : BitVec 32 := Scalar.extui v19
  let v26 : BitVec 32 := Scalar.addi v17 v25
  let c0_i32_12 : BitVec 32 := 0#32
  let v28 : BitVec 1 := Scalar.cmpi .sgt v27 c0_i32_12
  let v34 : BitVec 32 := Scalar.extui v28
  let v35 : BitVec 32 := Scalar.addi v26 v34
  let c0_i32_16 : BitVec 32 := 0#32
  let v37 : BitVec 1 := Scalar.cmpi .sgt v36 c0_i32_16
  let v43 : BitVec 32 := Scalar.extui v37
  let v44 : BitVec 32 := Scalar.addi v35 v43
  let c0_i32_20 : BitVec 32 := 0#32
  let v46 : BitVec 1 := Scalar.cmpi .sgt v45 c0_i32_20
  let v52 : BitVec 32 := Scalar.extui v46
  let v53 : BitVec 32 := Scalar.addi v44 v52
  let c0_i32_24 : BitVec 32 := 0#32
  let v55 : BitVec 1 := Scalar.cmpi .sgt v54 c0_i32_24
  let v61 : BitVec 32 := Scalar.extui v55
  let v62 : BitVec 32 := Scalar.addi v53 v61
  let c0_i32_28 : BitVec 32 := 0#32
  let v64 : BitVec 1 := Scalar.cmpi .sgt v63 c0_i32_28
  let v70 : BitVec 32 := Scalar.extui v64
  let v71 : BitVec 32 := Scalar.addi v62 v70
  let c2_i32 : BitVec 32 := 2#32
  let v78 : BitVec 1 := Scalar.cmpi .sgt v71 c2_i32
  let v79 : BitVec 32 := Scalar.extui v78
  let c0_i32_35 : BitVec 32 := 0#32
  let v80 : BitVec 1 := Scalar.cmpi .ne v79 c0_i32_35
  v80

def k0_chk22 (v0 : BitVec 32) (v9 : BitVec 32) (v18 : BitVec 32) (v27 : BitVec 32) (v36 : BitVec 32) (v45 : BitVec 32) (v54 : BitVec 32) (v63 : BitVec 32) (v1010 : BitVec 32) : Prop :=
  (∀ (k0_h19 : k0_cond19 v0 v9 v18 v27 v36 v45 v54 v63 = 1#1), ∀ a, (k0_off52 v1010) a + S1x512x2048.size a ≤ S8x3584x2048.size a) ∧
  (∀ (k0_h19 : k0_cond19 v0 v9 v18 v27 v36 v45 v54 v63 = 1#1), ∀ (hinb : ∀ a, (k0_off52 v1010) a + S1x512x2048.size a ≤ S8x3584x2048.size a), (Rect.unit (s := S8x3584x2048) (k0_off52 v1010) S1x512x2048.size hinb).WholeWords (EltTy.packing .fp8e4m3))
theorem k0_off52_inb : ∀ (v0 : BitVec 32) (v9 : BitVec 32) (v18 : BitVec 32) (v27 : BitVec 32) (v36 : BitVec 32) (v45 : BitVec 32) (v54 : BitVec 32) (v63 : BitVec 32) (v1010 : BitVec 32) (k0_hw22 : k0_chk22 v0 v9 v18 v27 v36 v45 v54 v63 v1010), ∀ (k0_h19 : k0_cond19 v0 v9 v18 v27 v36 v45 v54 v63 = 1#1), ∀ a, (k0_off52 v1010) a + S1x512x2048.size a ≤ S8x3584x2048.size a := fun v0 v9 v18 v27 v36 v45 v54 v63 v1010 k0_hw22 k0_h19 => k0_hw22.1 k0_h19
theorem k0_off52_wordsfp8e4m3 : ∀ (v0 : BitVec 32) (v9 : BitVec 32) (v18 : BitVec 32) (v27 : BitVec 32) (v36 : BitVec 32) (v45 : BitVec 32) (v54 : BitVec 32) (v63 : BitVec 32) (v1010 : BitVec 32) (k0_hw22 : k0_chk22 v0 v9 v18 v27 v36 v45 v54 v63 v1010), ∀ (k0_h19 : k0_cond19 v0 v9 v18 v27 v36 v45 v54 v63 = 1#1), (Rect.unit (s := S8x3584x2048) (k0_off52 v1010) S1x512x2048.size (k0_off52_inb v0 v9 v18 v27 v36 v45 v54 v63 v1010 k0_hw22 k0_h19)).WholeWords (EltTy.packing .fp8e4m3) := fun v0 v9 v18 v27 v36 v45 v54 v63 v1010 k0_hw22 k0_h19 => k0_hw22.2 k0_h19 (k0_off52_inb v0 v9 v18 v27 v36 v45 v54 v63 v1010 k0_hw22 k0_h19)

def k0_off53 : Fin 2 → Nat :=
  let c2_i32_455 : BitVec 32 := 2#32
  let c4_i32_456 : BitVec 32 := 4#32
  let v1017 : BitVec 32 := Scalar.remsi c2_i32_455 c4_i32_456
  let c1_i32_459 : BitVec 32 := 1#32
  ![v1017.toNat, 1]
def k0_off54 : Fin 4 → Nat :=
  let c2_i32_455 : BitVec 32 := 2#32
  let c4_i32_456 : BitVec 32 := 4#32
  let v1017 : BitVec 32 := Scalar.remsi c2_i32_455 c4_i32_456
  let c1_i32_458 : BitVec 32 := 1#32
  let c0_i32_460 : BitVec 32 := 0#32
  let c0_i32_461 : BitVec 32 := 0#32
  ![v1017.toNat, 1, 0, 0]
def k0_off55 (v1018 : BitVec 32) : Fin 3 → Nat :=
  let c512_i32 : BitVec 32 := 512#32
  let c0_i32_462 : BitVec 32 := 0#32
  ![v1018.toNat, 512, 0]

def k0_chk23 (v0 : BitVec 32) (v9 : BitVec 32) (v18 : BitVec 32) (v27 : BitVec 32) (v36 : BitVec 32) (v45 : BitVec 32) (v54 : BitVec 32) (v63 : BitVec 32) (v1018 : BitVec 32) : Prop :=
  (∀ (k0_h19 : k0_cond19 v0 v9 v18 v27 v36 v45 v54 v63 = 1#1), ∀ a, (k0_off55 v1018) a + S1x512x2048.size a ≤ S8x3584x2048.size a) ∧
  (∀ (k0_h19 : k0_cond19 v0 v9 v18 v27 v36 v45 v54 v63 = 1#1), ∀ (hinb : ∀ a, (k0_off55 v1018) a + S1x512x2048.size a ≤ S8x3584x2048.size a), (Rect.unit (s := S8x3584x2048) (k0_off55 v1018) S1x512x2048.size hinb).WholeWords (EltTy.packing .fp8e4m3))
theorem k0_off55_inb : ∀ (v0 : BitVec 32) (v9 : BitVec 32) (v18 : BitVec 32) (v27 : BitVec 32) (v36 : BitVec 32) (v45 : BitVec 32) (v54 : BitVec 32) (v63 : BitVec 32) (v1018 : BitVec 32) (k0_hw23 : k0_chk23 v0 v9 v18 v27 v36 v45 v54 v63 v1018), ∀ (k0_h19 : k0_cond19 v0 v9 v18 v27 v36 v45 v54 v63 = 1#1), ∀ a, (k0_off55 v1018) a + S1x512x2048.size a ≤ S8x3584x2048.size a := fun v0 v9 v18 v27 v36 v45 v54 v63 v1018 k0_hw23 k0_h19 => k0_hw23.1 k0_h19
theorem k0_off55_wordsfp8e4m3 : ∀ (v0 : BitVec 32) (v9 : BitVec 32) (v18 : BitVec 32) (v27 : BitVec 32) (v36 : BitVec 32) (v45 : BitVec 32) (v54 : BitVec 32) (v63 : BitVec 32) (v1018 : BitVec 32) (k0_hw23 : k0_chk23 v0 v9 v18 v27 v36 v45 v54 v63 v1018), ∀ (k0_h19 : k0_cond19 v0 v9 v18 v27 v36 v45 v54 v63 = 1#1), (Rect.unit (s := S8x3584x2048) (k0_off55 v1018) S1x512x2048.size (k0_off55_inb v0 v9 v18 v27 v36 v45 v54 v63 v1018 k0_hw23 k0_h19)).WholeWords (EltTy.packing .fp8e4m3) := fun v0 v9 v18 v27 v36 v45 v54 v63 v1018 k0_hw23 k0_h19 => k0_hw23.2 k0_h19 (k0_off55_inb v0 v9 v18 v27 v36 v45 v54 v63 v1018 k0_hw23 k0_h19)

def k0_off56 : Fin 2 → Nat :=
  let c2_i32_463 : BitVec 32 := 2#32
  let c4_i32_464 : BitVec 32 := 4#32
  let v1025 : BitVec 32 := Scalar.remsi c2_i32_463 c4_i32_464
  let c2_i32_467 : BitVec 32 := 2#32
  ![v1025.toNat, 2]
def k0_off57 : Fin 4 → Nat :=
  let c2_i32_463 : BitVec 32 := 2#32
  let c4_i32_464 : BitVec 32 := 4#32
  let v1025 : BitVec 32 := Scalar.remsi c2_i32_463 c4_i32_464
  let c2_i32_466 : BitVec 32 := 2#32
  let c0_i32_468 : BitVec 32 := 0#32
  let c0_i32_469 : BitVec 32 := 0#32
  ![v1025.toNat, 2, 0, 0]
def k0_off58 (v1026 : BitVec 32) : Fin 3 → Nat :=
  let c1024_i32 : BitVec 32 := 1024#32
  let c0_i32_470 : BitVec 32 := 0#32
  ![v1026.toNat, 1024, 0]

def k0_chk24 (v0 : BitVec 32) (v9 : BitVec 32) (v18 : BitVec 32) (v27 : BitVec 32) (v36 : BitVec 32) (v45 : BitVec 32) (v54 : BitVec 32) (v63 : BitVec 32) (v1026 : BitVec 32) : Prop :=
  (∀ (k0_h19 : k0_cond19 v0 v9 v18 v27 v36 v45 v54 v63 = 1#1), ∀ a, (k0_off58 v1026) a + S1x512x2048.size a ≤ S8x3584x2048.size a) ∧
  (∀ (k0_h19 : k0_cond19 v0 v9 v18 v27 v36 v45 v54 v63 = 1#1), ∀ (hinb : ∀ a, (k0_off58 v1026) a + S1x512x2048.size a ≤ S8x3584x2048.size a), (Rect.unit (s := S8x3584x2048) (k0_off58 v1026) S1x512x2048.size hinb).WholeWords (EltTy.packing .fp8e4m3))
theorem k0_off58_inb : ∀ (v0 : BitVec 32) (v9 : BitVec 32) (v18 : BitVec 32) (v27 : BitVec 32) (v36 : BitVec 32) (v45 : BitVec 32) (v54 : BitVec 32) (v63 : BitVec 32) (v1026 : BitVec 32) (k0_hw24 : k0_chk24 v0 v9 v18 v27 v36 v45 v54 v63 v1026), ∀ (k0_h19 : k0_cond19 v0 v9 v18 v27 v36 v45 v54 v63 = 1#1), ∀ a, (k0_off58 v1026) a + S1x512x2048.size a ≤ S8x3584x2048.size a := fun v0 v9 v18 v27 v36 v45 v54 v63 v1026 k0_hw24 k0_h19 => k0_hw24.1 k0_h19
theorem k0_off58_wordsfp8e4m3 : ∀ (v0 : BitVec 32) (v9 : BitVec 32) (v18 : BitVec 32) (v27 : BitVec 32) (v36 : BitVec 32) (v45 : BitVec 32) (v54 : BitVec 32) (v63 : BitVec 32) (v1026 : BitVec 32) (k0_hw24 : k0_chk24 v0 v9 v18 v27 v36 v45 v54 v63 v1026), ∀ (k0_h19 : k0_cond19 v0 v9 v18 v27 v36 v45 v54 v63 = 1#1), (Rect.unit (s := S8x3584x2048) (k0_off58 v1026) S1x512x2048.size (k0_off58_inb v0 v9 v18 v27 v36 v45 v54 v63 v1026 k0_hw24 k0_h19)).WholeWords (EltTy.packing .fp8e4m3) := fun v0 v9 v18 v27 v36 v45 v54 v63 v1026 k0_hw24 k0_h19 => k0_hw24.2 k0_h19 (k0_off58_inb v0 v9 v18 v27 v36 v45 v54 v63 v1026 k0_hw24 k0_h19)

def k0_off59 : Fin 2 → Nat :=
  let c2_i32_471 : BitVec 32 := 2#32
  let c4_i32_472 : BitVec 32 := 4#32
  let v1033 : BitVec 32 := Scalar.remsi c2_i32_471 c4_i32_472
  let c3_i32_475 : BitVec 32 := 3#32
  ![v1033.toNat, 3]
def k0_off60 : Fin 4 → Nat :=
  let c2_i32_471 : BitVec 32 := 2#32
  let c4_i32_472 : BitVec 32 := 4#32
  let v1033 : BitVec 32 := Scalar.remsi c2_i32_471 c4_i32_472
  let c3_i32_474 : BitVec 32 := 3#32
  let c0_i32_476 : BitVec 32 := 0#32
  let c0_i32_477 : BitVec 32 := 0#32
  ![v1033.toNat, 3, 0, 0]
def k0_off61 (v1034 : BitVec 32) : Fin 3 → Nat :=
  let c1536_i32 : BitVec 32 := 1536#32
  let c0_i32_478 : BitVec 32 := 0#32
  ![v1034.toNat, 1536, 0]

def k0_chk25 (v0 : BitVec 32) (v9 : BitVec 32) (v18 : BitVec 32) (v27 : BitVec 32) (v36 : BitVec 32) (v45 : BitVec 32) (v54 : BitVec 32) (v63 : BitVec 32) (v1034 : BitVec 32) : Prop :=
  (∀ (k0_h19 : k0_cond19 v0 v9 v18 v27 v36 v45 v54 v63 = 1#1), ∀ a, (k0_off61 v1034) a + S1x512x2048.size a ≤ S8x3584x2048.size a) ∧
  (∀ (k0_h19 : k0_cond19 v0 v9 v18 v27 v36 v45 v54 v63 = 1#1), ∀ (hinb : ∀ a, (k0_off61 v1034) a + S1x512x2048.size a ≤ S8x3584x2048.size a), (Rect.unit (s := S8x3584x2048) (k0_off61 v1034) S1x512x2048.size hinb).WholeWords (EltTy.packing .fp8e4m3))
theorem k0_off61_inb : ∀ (v0 : BitVec 32) (v9 : BitVec 32) (v18 : BitVec 32) (v27 : BitVec 32) (v36 : BitVec 32) (v45 : BitVec 32) (v54 : BitVec 32) (v63 : BitVec 32) (v1034 : BitVec 32) (k0_hw25 : k0_chk25 v0 v9 v18 v27 v36 v45 v54 v63 v1034), ∀ (k0_h19 : k0_cond19 v0 v9 v18 v27 v36 v45 v54 v63 = 1#1), ∀ a, (k0_off61 v1034) a + S1x512x2048.size a ≤ S8x3584x2048.size a := fun v0 v9 v18 v27 v36 v45 v54 v63 v1034 k0_hw25 k0_h19 => k0_hw25.1 k0_h19
theorem k0_off61_wordsfp8e4m3 : ∀ (v0 : BitVec 32) (v9 : BitVec 32) (v18 : BitVec 32) (v27 : BitVec 32) (v36 : BitVec 32) (v45 : BitVec 32) (v54 : BitVec 32) (v63 : BitVec 32) (v1034 : BitVec 32) (k0_hw25 : k0_chk25 v0 v9 v18 v27 v36 v45 v54 v63 v1034), ∀ (k0_h19 : k0_cond19 v0 v9 v18 v27 v36 v45 v54 v63 = 1#1), (Rect.unit (s := S8x3584x2048) (k0_off61 v1034) S1x512x2048.size (k0_off61_inb v0 v9 v18 v27 v36 v45 v54 v63 v1034 k0_hw25 k0_h19)).WholeWords (EltTy.packing .fp8e4m3) := fun v0 v9 v18 v27 v36 v45 v54 v63 v1034 k0_hw25 k0_h19 => k0_hw25.2 k0_h19 (k0_off61_inb v0 v9 v18 v27 v36 v45 v54 v63 v1034 k0_hw25 k0_h19)

def k0_off62 : Fin 2 → Nat :=
  let c2_i32_479 : BitVec 32 := 2#32
  let c4_i32_480 : BitVec 32 := 4#32
  let v1041 : BitVec 32 := Scalar.remsi c2_i32_479 c4_i32_480
  let c4_i32_483 : BitVec 32 := 4#32
  ![v1041.toNat, 4]
def k0_off63 : Fin 4 → Nat :=
  let c2_i32_479 : BitVec 32 := 2#32
  let c4_i32_480 : BitVec 32 := 4#32
  let v1041 : BitVec 32 := Scalar.remsi c2_i32_479 c4_i32_480
  let c4_i32_482 : BitVec 32 := 4#32
  let c0_i32_484 : BitVec 32 := 0#32
  let c0_i32_485 : BitVec 32 := 0#32
  ![v1041.toNat, 4, 0, 0]
def k0_off64 (v1042 : BitVec 32) : Fin 3 → Nat :=
  let c2048_i32 : BitVec 32 := 2048#32
  let c0_i32_486 : BitVec 32 := 0#32
  ![v1042.toNat, 2048, 0]

def k0_chk26 (v0 : BitVec 32) (v9 : BitVec 32) (v18 : BitVec 32) (v27 : BitVec 32) (v36 : BitVec 32) (v45 : BitVec 32) (v54 : BitVec 32) (v63 : BitVec 32) (v1042 : BitVec 32) : Prop :=
  (∀ (k0_h19 : k0_cond19 v0 v9 v18 v27 v36 v45 v54 v63 = 1#1), ∀ a, (k0_off64 v1042) a + S1x512x2048.size a ≤ S8x3584x2048.size a) ∧
  (∀ (k0_h19 : k0_cond19 v0 v9 v18 v27 v36 v45 v54 v63 = 1#1), ∀ (hinb : ∀ a, (k0_off64 v1042) a + S1x512x2048.size a ≤ S8x3584x2048.size a), (Rect.unit (s := S8x3584x2048) (k0_off64 v1042) S1x512x2048.size hinb).WholeWords (EltTy.packing .fp8e4m3))
theorem k0_off64_inb : ∀ (v0 : BitVec 32) (v9 : BitVec 32) (v18 : BitVec 32) (v27 : BitVec 32) (v36 : BitVec 32) (v45 : BitVec 32) (v54 : BitVec 32) (v63 : BitVec 32) (v1042 : BitVec 32) (k0_hw26 : k0_chk26 v0 v9 v18 v27 v36 v45 v54 v63 v1042), ∀ (k0_h19 : k0_cond19 v0 v9 v18 v27 v36 v45 v54 v63 = 1#1), ∀ a, (k0_off64 v1042) a + S1x512x2048.size a ≤ S8x3584x2048.size a := fun v0 v9 v18 v27 v36 v45 v54 v63 v1042 k0_hw26 k0_h19 => k0_hw26.1 k0_h19
theorem k0_off64_wordsfp8e4m3 : ∀ (v0 : BitVec 32) (v9 : BitVec 32) (v18 : BitVec 32) (v27 : BitVec 32) (v36 : BitVec 32) (v45 : BitVec 32) (v54 : BitVec 32) (v63 : BitVec 32) (v1042 : BitVec 32) (k0_hw26 : k0_chk26 v0 v9 v18 v27 v36 v45 v54 v63 v1042), ∀ (k0_h19 : k0_cond19 v0 v9 v18 v27 v36 v45 v54 v63 = 1#1), (Rect.unit (s := S8x3584x2048) (k0_off64 v1042) S1x512x2048.size (k0_off64_inb v0 v9 v18 v27 v36 v45 v54 v63 v1042 k0_hw26 k0_h19)).WholeWords (EltTy.packing .fp8e4m3) := fun v0 v9 v18 v27 v36 v45 v54 v63 v1042 k0_hw26 k0_h19 => k0_hw26.2 k0_h19 (k0_off64_inb v0 v9 v18 v27 v36 v45 v54 v63 v1042 k0_hw26 k0_h19)

def k0_off65 : Fin 2 → Nat :=
  let c2_i32_487 : BitVec 32 := 2#32
  let c4_i32_488 : BitVec 32 := 4#32
  let v1049 : BitVec 32 := Scalar.remsi c2_i32_487 c4_i32_488
  let c5_i32_491 : BitVec 32 := 5#32
  ![v1049.toNat, 5]
def k0_off66 : Fin 4 → Nat :=
  let c2_i32_487 : BitVec 32 := 2#32
  let c4_i32_488 : BitVec 32 := 4#32
  let v1049 : BitVec 32 := Scalar.remsi c2_i32_487 c4_i32_488
  let c5_i32_490 : BitVec 32 := 5#32
  let c0_i32_492 : BitVec 32 := 0#32
  let c0_i32_493 : BitVec 32 := 0#32
  ![v1049.toNat, 5, 0, 0]
def k0_off67 (v1050 : BitVec 32) : Fin 3 → Nat :=
  let c2560_i32 : BitVec 32 := 2560#32
  let c0_i32_494 : BitVec 32 := 0#32
  ![v1050.toNat, 2560, 0]

def k0_chk27 (v0 : BitVec 32) (v9 : BitVec 32) (v18 : BitVec 32) (v27 : BitVec 32) (v36 : BitVec 32) (v45 : BitVec 32) (v54 : BitVec 32) (v63 : BitVec 32) (v1050 : BitVec 32) : Prop :=
  (∀ (k0_h19 : k0_cond19 v0 v9 v18 v27 v36 v45 v54 v63 = 1#1), ∀ a, (k0_off67 v1050) a + S1x512x2048.size a ≤ S8x3584x2048.size a) ∧
  (∀ (k0_h19 : k0_cond19 v0 v9 v18 v27 v36 v45 v54 v63 = 1#1), ∀ (hinb : ∀ a, (k0_off67 v1050) a + S1x512x2048.size a ≤ S8x3584x2048.size a), (Rect.unit (s := S8x3584x2048) (k0_off67 v1050) S1x512x2048.size hinb).WholeWords (EltTy.packing .fp8e4m3))
theorem k0_off67_inb : ∀ (v0 : BitVec 32) (v9 : BitVec 32) (v18 : BitVec 32) (v27 : BitVec 32) (v36 : BitVec 32) (v45 : BitVec 32) (v54 : BitVec 32) (v63 : BitVec 32) (v1050 : BitVec 32) (k0_hw27 : k0_chk27 v0 v9 v18 v27 v36 v45 v54 v63 v1050), ∀ (k0_h19 : k0_cond19 v0 v9 v18 v27 v36 v45 v54 v63 = 1#1), ∀ a, (k0_off67 v1050) a + S1x512x2048.size a ≤ S8x3584x2048.size a := fun v0 v9 v18 v27 v36 v45 v54 v63 v1050 k0_hw27 k0_h19 => k0_hw27.1 k0_h19
theorem k0_off67_wordsfp8e4m3 : ∀ (v0 : BitVec 32) (v9 : BitVec 32) (v18 : BitVec 32) (v27 : BitVec 32) (v36 : BitVec 32) (v45 : BitVec 32) (v54 : BitVec 32) (v63 : BitVec 32) (v1050 : BitVec 32) (k0_hw27 : k0_chk27 v0 v9 v18 v27 v36 v45 v54 v63 v1050), ∀ (k0_h19 : k0_cond19 v0 v9 v18 v27 v36 v45 v54 v63 = 1#1), (Rect.unit (s := S8x3584x2048) (k0_off67 v1050) S1x512x2048.size (k0_off67_inb v0 v9 v18 v27 v36 v45 v54 v63 v1050 k0_hw27 k0_h19)).WholeWords (EltTy.packing .fp8e4m3) := fun v0 v9 v18 v27 v36 v45 v54 v63 v1050 k0_hw27 k0_h19 => k0_hw27.2 k0_h19 (k0_off67_inb v0 v9 v18 v27 v36 v45 v54 v63 v1050 k0_hw27 k0_h19)

def k0_off68 : Fin 2 → Nat :=
  let c2_i32_495 : BitVec 32 := 2#32
  let c4_i32_496 : BitVec 32 := 4#32
  let v1057 : BitVec 32 := Scalar.remsi c2_i32_495 c4_i32_496
  let c6_i32_499 : BitVec 32 := 6#32
  ![v1057.toNat, 6]
def k0_off69 : Fin 4 → Nat :=
  let c2_i32_495 : BitVec 32 := 2#32
  let c4_i32_496 : BitVec 32 := 4#32
  let v1057 : BitVec 32 := Scalar.remsi c2_i32_495 c4_i32_496
  let c6_i32_498 : BitVec 32 := 6#32
  let c0_i32_500 : BitVec 32 := 0#32
  let c0_i32_501 : BitVec 32 := 0#32
  ![v1057.toNat, 6, 0, 0]
def k0_off70 (v1058 : BitVec 32) : Fin 3 → Nat :=
  let c3072_i32 : BitVec 32 := 3072#32
  let c0_i32_502 : BitVec 32 := 0#32
  ![v1058.toNat, 3072, 0]

def k0_chk28 (v0 : BitVec 32) (v9 : BitVec 32) (v18 : BitVec 32) (v27 : BitVec 32) (v36 : BitVec 32) (v45 : BitVec 32) (v54 : BitVec 32) (v63 : BitVec 32) (v1058 : BitVec 32) : Prop :=
  (∀ (k0_h19 : k0_cond19 v0 v9 v18 v27 v36 v45 v54 v63 = 1#1), ∀ a, (k0_off70 v1058) a + S1x512x2048.size a ≤ S8x3584x2048.size a) ∧
  (∀ (k0_h19 : k0_cond19 v0 v9 v18 v27 v36 v45 v54 v63 = 1#1), ∀ (hinb : ∀ a, (k0_off70 v1058) a + S1x512x2048.size a ≤ S8x3584x2048.size a), (Rect.unit (s := S8x3584x2048) (k0_off70 v1058) S1x512x2048.size hinb).WholeWords (EltTy.packing .fp8e4m3))
theorem k0_off70_inb : ∀ (v0 : BitVec 32) (v9 : BitVec 32) (v18 : BitVec 32) (v27 : BitVec 32) (v36 : BitVec 32) (v45 : BitVec 32) (v54 : BitVec 32) (v63 : BitVec 32) (v1058 : BitVec 32) (k0_hw28 : k0_chk28 v0 v9 v18 v27 v36 v45 v54 v63 v1058), ∀ (k0_h19 : k0_cond19 v0 v9 v18 v27 v36 v45 v54 v63 = 1#1), ∀ a, (k0_off70 v1058) a + S1x512x2048.size a ≤ S8x3584x2048.size a := fun v0 v9 v18 v27 v36 v45 v54 v63 v1058 k0_hw28 k0_h19 => k0_hw28.1 k0_h19
theorem k0_off70_wordsfp8e4m3 : ∀ (v0 : BitVec 32) (v9 : BitVec 32) (v18 : BitVec 32) (v27 : BitVec 32) (v36 : BitVec 32) (v45 : BitVec 32) (v54 : BitVec 32) (v63 : BitVec 32) (v1058 : BitVec 32) (k0_hw28 : k0_chk28 v0 v9 v18 v27 v36 v45 v54 v63 v1058), ∀ (k0_h19 : k0_cond19 v0 v9 v18 v27 v36 v45 v54 v63 = 1#1), (Rect.unit (s := S8x3584x2048) (k0_off70 v1058) S1x512x2048.size (k0_off70_inb v0 v9 v18 v27 v36 v45 v54 v63 v1058 k0_hw28 k0_h19)).WholeWords (EltTy.packing .fp8e4m3) := fun v0 v9 v18 v27 v36 v45 v54 v63 v1058 k0_hw28 k0_h19 => k0_hw28.2 k0_h19 (k0_off70_inb v0 v9 v18 v27 v36 v45 v54 v63 v1058 k0_hw28 k0_h19)

def k0_off71 : Fin 2 → Nat :=
  let c3_i32_446 : BitVec 32 := 3#32
  let c4_i32_447 : BitVec 32 := 4#32
  let v1009 : BitVec 32 := Scalar.remsi c3_i32_446 c4_i32_447
  let c0_i32_450 : BitVec 32 := 0#32
  ![v1009.toNat, 0]
def k0_off72 : Fin 4 → Nat :=
  let c3_i32_446 : BitVec 32 := 3#32
  let c4_i32_447 : BitVec 32 := 4#32
  let v1009 : BitVec 32 := Scalar.remsi c3_i32_446 c4_i32_447
  let c0_i32_449 : BitVec 32 := 0#32
  let c0_i32_451 : BitVec 32 := 0#32
  let c0_i32_452 : BitVec 32 := 0#32
  ![v1009.toNat, 0, 0, 0]
def k0_off73 (v1010 : BitVec 32) : Fin 3 → Nat :=
  let c0_i32_453 : BitVec 32 := 0#32
  let c0_i32_454 : BitVec 32 := 0#32
  ![v1010.toNat, 0, 0]
def k0_cond20 (v0 : BitVec 32) (v9 : BitVec 32) (v18 : BitVec 32) (v27 : BitVec 32) (v36 : BitVec 32) (v45 : BitVec 32) (v54 : BitVec 32) (v63 : BitVec 32) : BitVec 1 :=
  let c0_i32_3 : BitVec 32 := 0#32
  let c0_i32 : BitVec 32 := 0#32
  let v1 : BitVec 1 := Scalar.cmpi .sgt v0 c0_i32
  let v7 : BitVec 32 := Scalar.extui v1
  let v8 : BitVec 32 := Scalar.addi c0_i32_3 v7
  let c0_i32_4 : BitVec 32 := 0#32
  let v10 : BitVec 1 := Scalar.cmpi .sgt v9 c0_i32_4
  let v16 : BitVec 32 := Scalar.extui v10
  let v17 : BitVec 32 := Scalar.addi v8 v16
  let c0_i32_8 : BitVec 32 := 0#32
  let v19 : BitVec 1 := Scalar.cmpi .sgt v18 c0_i32_8
  let v25 : BitVec 32 := Scalar.extui v19
  let v26 : BitVec 32 := Scalar.addi v17 v25
  let c0_i32_12 : BitVec 32 := 0#32
  let v28 : BitVec 1 := Scalar.cmpi .sgt v27 c0_i32_12
  let v34 : BitVec 32 := Scalar.extui v28
  let v35 : BitVec 32 := Scalar.addi v26 v34
  let c0_i32_16 : BitVec 32 := 0#32
  let v37 : BitVec 1 := Scalar.cmpi .sgt v36 c0_i32_16
  let v43 : BitVec 32 := Scalar.extui v37
  let v44 : BitVec 32 := Scalar.addi v35 v43
  let c0_i32_20 : BitVec 32 := 0#32
  let v46 : BitVec 1 := Scalar.cmpi .sgt v45 c0_i32_20
  let v52 : BitVec 32 := Scalar.extui v46
  let v53 : BitVec 32 := Scalar.addi v44 v52
  let c0_i32_24 : BitVec 32 := 0#32
  let v55 : BitVec 1 := Scalar.cmpi .sgt v54 c0_i32_24
  let v61 : BitVec 32 := Scalar.extui v55
  let v62 : BitVec 32 := Scalar.addi v53 v61
  let c0_i32_28 : BitVec 32 := 0#32
  let v64 : BitVec 1 := Scalar.cmpi .sgt v63 c0_i32_28
  let v70 : BitVec 32 := Scalar.extui v64
  let v71 : BitVec 32 := Scalar.addi v62 v70
  let c3_i32 : BitVec 32 := 3#32
  let v81 : BitVec 1 := Scalar.cmpi .sgt v71 c3_i32
  let v82 : BitVec 32 := Scalar.extui v81
  let c0_i32_36 : BitVec 32 := 0#32
  let v83 : BitVec 1 := Scalar.cmpi .ne v82 c0_i32_36
  v83

def k0_chk29 (v0 : BitVec 32) (v9 : BitVec 32) (v18 : BitVec 32) (v27 : BitVec 32) (v36 : BitVec 32) (v45 : BitVec 32) (v54 : BitVec 32) (v63 : BitVec 32) (v1010 : BitVec 32) : Prop :=
  (∀ (k0_h20 : k0_cond20 v0 v9 v18 v27 v36 v45 v54 v63 = 1#1), ∀ a, (k0_off73 v1010) a + S1x512x2048.size a ≤ S8x3584x2048.size a) ∧
  (∀ (k0_h20 : k0_cond20 v0 v9 v18 v27 v36 v45 v54 v63 = 1#1), ∀ (hinb : ∀ a, (k0_off73 v1010) a + S1x512x2048.size a ≤ S8x3584x2048.size a), (Rect.unit (s := S8x3584x2048) (k0_off73 v1010) S1x512x2048.size hinb).WholeWords (EltTy.packing .fp8e4m3))
theorem k0_off73_inb : ∀ (v0 : BitVec 32) (v9 : BitVec 32) (v18 : BitVec 32) (v27 : BitVec 32) (v36 : BitVec 32) (v45 : BitVec 32) (v54 : BitVec 32) (v63 : BitVec 32) (v1010 : BitVec 32) (k0_hw29 : k0_chk29 v0 v9 v18 v27 v36 v45 v54 v63 v1010), ∀ (k0_h20 : k0_cond20 v0 v9 v18 v27 v36 v45 v54 v63 = 1#1), ∀ a, (k0_off73 v1010) a + S1x512x2048.size a ≤ S8x3584x2048.size a := fun v0 v9 v18 v27 v36 v45 v54 v63 v1010 k0_hw29 k0_h20 => k0_hw29.1 k0_h20
theorem k0_off73_wordsfp8e4m3 : ∀ (v0 : BitVec 32) (v9 : BitVec 32) (v18 : BitVec 32) (v27 : BitVec 32) (v36 : BitVec 32) (v45 : BitVec 32) (v54 : BitVec 32) (v63 : BitVec 32) (v1010 : BitVec 32) (k0_hw29 : k0_chk29 v0 v9 v18 v27 v36 v45 v54 v63 v1010), ∀ (k0_h20 : k0_cond20 v0 v9 v18 v27 v36 v45 v54 v63 = 1#1), (Rect.unit (s := S8x3584x2048) (k0_off73 v1010) S1x512x2048.size (k0_off73_inb v0 v9 v18 v27 v36 v45 v54 v63 v1010 k0_hw29 k0_h20)).WholeWords (EltTy.packing .fp8e4m3) := fun v0 v9 v18 v27 v36 v45 v54 v63 v1010 k0_hw29 k0_h20 => k0_hw29.2 k0_h20 (k0_off73_inb v0 v9 v18 v27 v36 v45 v54 v63 v1010 k0_hw29 k0_h20)

def k0_off74 : Fin 2 → Nat :=
  let c3_i32_455 : BitVec 32 := 3#32
  let c4_i32_456 : BitVec 32 := 4#32
  let v1017 : BitVec 32 := Scalar.remsi c3_i32_455 c4_i32_456
  let c1_i32_459 : BitVec 32 := 1#32
  ![v1017.toNat, 1]
def k0_off75 : Fin 4 → Nat :=
  let c3_i32_455 : BitVec 32 := 3#32
  let c4_i32_456 : BitVec 32 := 4#32
  let v1017 : BitVec 32 := Scalar.remsi c3_i32_455 c4_i32_456
  let c1_i32_458 : BitVec 32 := 1#32
  let c0_i32_460 : BitVec 32 := 0#32
  let c0_i32_461 : BitVec 32 := 0#32
  ![v1017.toNat, 1, 0, 0]
def k0_off76 (v1018 : BitVec 32) : Fin 3 → Nat :=
  let c512_i32 : BitVec 32 := 512#32
  let c0_i32_462 : BitVec 32 := 0#32
  ![v1018.toNat, 512, 0]

def k0_chk30 (v0 : BitVec 32) (v9 : BitVec 32) (v18 : BitVec 32) (v27 : BitVec 32) (v36 : BitVec 32) (v45 : BitVec 32) (v54 : BitVec 32) (v63 : BitVec 32) (v1018 : BitVec 32) : Prop :=
  (∀ (k0_h20 : k0_cond20 v0 v9 v18 v27 v36 v45 v54 v63 = 1#1), ∀ a, (k0_off76 v1018) a + S1x512x2048.size a ≤ S8x3584x2048.size a) ∧
  (∀ (k0_h20 : k0_cond20 v0 v9 v18 v27 v36 v45 v54 v63 = 1#1), ∀ (hinb : ∀ a, (k0_off76 v1018) a + S1x512x2048.size a ≤ S8x3584x2048.size a), (Rect.unit (s := S8x3584x2048) (k0_off76 v1018) S1x512x2048.size hinb).WholeWords (EltTy.packing .fp8e4m3))
theorem k0_off76_inb : ∀ (v0 : BitVec 32) (v9 : BitVec 32) (v18 : BitVec 32) (v27 : BitVec 32) (v36 : BitVec 32) (v45 : BitVec 32) (v54 : BitVec 32) (v63 : BitVec 32) (v1018 : BitVec 32) (k0_hw30 : k0_chk30 v0 v9 v18 v27 v36 v45 v54 v63 v1018), ∀ (k0_h20 : k0_cond20 v0 v9 v18 v27 v36 v45 v54 v63 = 1#1), ∀ a, (k0_off76 v1018) a + S1x512x2048.size a ≤ S8x3584x2048.size a := fun v0 v9 v18 v27 v36 v45 v54 v63 v1018 k0_hw30 k0_h20 => k0_hw30.1 k0_h20
theorem k0_off76_wordsfp8e4m3 : ∀ (v0 : BitVec 32) (v9 : BitVec 32) (v18 : BitVec 32) (v27 : BitVec 32) (v36 : BitVec 32) (v45 : BitVec 32) (v54 : BitVec 32) (v63 : BitVec 32) (v1018 : BitVec 32) (k0_hw30 : k0_chk30 v0 v9 v18 v27 v36 v45 v54 v63 v1018), ∀ (k0_h20 : k0_cond20 v0 v9 v18 v27 v36 v45 v54 v63 = 1#1), (Rect.unit (s := S8x3584x2048) (k0_off76 v1018) S1x512x2048.size (k0_off76_inb v0 v9 v18 v27 v36 v45 v54 v63 v1018 k0_hw30 k0_h20)).WholeWords (EltTy.packing .fp8e4m3) := fun v0 v9 v18 v27 v36 v45 v54 v63 v1018 k0_hw30 k0_h20 => k0_hw30.2 k0_h20 (k0_off76_inb v0 v9 v18 v27 v36 v45 v54 v63 v1018 k0_hw30 k0_h20)

def k0_off77 : Fin 2 → Nat :=
  let c3_i32_463 : BitVec 32 := 3#32
  let c4_i32_464 : BitVec 32 := 4#32
  let v1025 : BitVec 32 := Scalar.remsi c3_i32_463 c4_i32_464
  let c2_i32_467 : BitVec 32 := 2#32
  ![v1025.toNat, 2]
def k0_off78 : Fin 4 → Nat :=
  let c3_i32_463 : BitVec 32 := 3#32
  let c4_i32_464 : BitVec 32 := 4#32
  let v1025 : BitVec 32 := Scalar.remsi c3_i32_463 c4_i32_464
  let c2_i32_466 : BitVec 32 := 2#32
  let c0_i32_468 : BitVec 32 := 0#32
  let c0_i32_469 : BitVec 32 := 0#32
  ![v1025.toNat, 2, 0, 0]
def k0_off79 (v1026 : BitVec 32) : Fin 3 → Nat :=
  let c1024_i32 : BitVec 32 := 1024#32
  let c0_i32_470 : BitVec 32 := 0#32
  ![v1026.toNat, 1024, 0]

def k0_chk31 (v0 : BitVec 32) (v9 : BitVec 32) (v18 : BitVec 32) (v27 : BitVec 32) (v36 : BitVec 32) (v45 : BitVec 32) (v54 : BitVec 32) (v63 : BitVec 32) (v1026 : BitVec 32) : Prop :=
  (∀ (k0_h20 : k0_cond20 v0 v9 v18 v27 v36 v45 v54 v63 = 1#1), ∀ a, (k0_off79 v1026) a + S1x512x2048.size a ≤ S8x3584x2048.size a) ∧
  (∀ (k0_h20 : k0_cond20 v0 v9 v18 v27 v36 v45 v54 v63 = 1#1), ∀ (hinb : ∀ a, (k0_off79 v1026) a + S1x512x2048.size a ≤ S8x3584x2048.size a), (Rect.unit (s := S8x3584x2048) (k0_off79 v1026) S1x512x2048.size hinb).WholeWords (EltTy.packing .fp8e4m3))
theorem k0_off79_inb : ∀ (v0 : BitVec 32) (v9 : BitVec 32) (v18 : BitVec 32) (v27 : BitVec 32) (v36 : BitVec 32) (v45 : BitVec 32) (v54 : BitVec 32) (v63 : BitVec 32) (v1026 : BitVec 32) (k0_hw31 : k0_chk31 v0 v9 v18 v27 v36 v45 v54 v63 v1026), ∀ (k0_h20 : k0_cond20 v0 v9 v18 v27 v36 v45 v54 v63 = 1#1), ∀ a, (k0_off79 v1026) a + S1x512x2048.size a ≤ S8x3584x2048.size a := fun v0 v9 v18 v27 v36 v45 v54 v63 v1026 k0_hw31 k0_h20 => k0_hw31.1 k0_h20
theorem k0_off79_wordsfp8e4m3 : ∀ (v0 : BitVec 32) (v9 : BitVec 32) (v18 : BitVec 32) (v27 : BitVec 32) (v36 : BitVec 32) (v45 : BitVec 32) (v54 : BitVec 32) (v63 : BitVec 32) (v1026 : BitVec 32) (k0_hw31 : k0_chk31 v0 v9 v18 v27 v36 v45 v54 v63 v1026), ∀ (k0_h20 : k0_cond20 v0 v9 v18 v27 v36 v45 v54 v63 = 1#1), (Rect.unit (s := S8x3584x2048) (k0_off79 v1026) S1x512x2048.size (k0_off79_inb v0 v9 v18 v27 v36 v45 v54 v63 v1026 k0_hw31 k0_h20)).WholeWords (EltTy.packing .fp8e4m3) := fun v0 v9 v18 v27 v36 v45 v54 v63 v1026 k0_hw31 k0_h20 => k0_hw31.2 k0_h20 (k0_off79_inb v0 v9 v18 v27 v36 v45 v54 v63 v1026 k0_hw31 k0_h20)

def k0_off80 : Fin 2 → Nat :=
  let c3_i32_471 : BitVec 32 := 3#32
  let c4_i32_472 : BitVec 32 := 4#32
  let v1033 : BitVec 32 := Scalar.remsi c3_i32_471 c4_i32_472
  let c3_i32_475 : BitVec 32 := 3#32
  ![v1033.toNat, 3]
def k0_off81 : Fin 4 → Nat :=
  let c3_i32_471 : BitVec 32 := 3#32
  let c4_i32_472 : BitVec 32 := 4#32
  let v1033 : BitVec 32 := Scalar.remsi c3_i32_471 c4_i32_472
  let c3_i32_474 : BitVec 32 := 3#32
  let c0_i32_476 : BitVec 32 := 0#32
  let c0_i32_477 : BitVec 32 := 0#32
  ![v1033.toNat, 3, 0, 0]
def k0_off82 (v1034 : BitVec 32) : Fin 3 → Nat :=
  let c1536_i32 : BitVec 32 := 1536#32
  let c0_i32_478 : BitVec 32 := 0#32
  ![v1034.toNat, 1536, 0]

def k0_chk32 (v0 : BitVec 32) (v9 : BitVec 32) (v18 : BitVec 32) (v27 : BitVec 32) (v36 : BitVec 32) (v45 : BitVec 32) (v54 : BitVec 32) (v63 : BitVec 32) (v1034 : BitVec 32) : Prop :=
  (∀ (k0_h20 : k0_cond20 v0 v9 v18 v27 v36 v45 v54 v63 = 1#1), ∀ a, (k0_off82 v1034) a + S1x512x2048.size a ≤ S8x3584x2048.size a) ∧
  (∀ (k0_h20 : k0_cond20 v0 v9 v18 v27 v36 v45 v54 v63 = 1#1), ∀ (hinb : ∀ a, (k0_off82 v1034) a + S1x512x2048.size a ≤ S8x3584x2048.size a), (Rect.unit (s := S8x3584x2048) (k0_off82 v1034) S1x512x2048.size hinb).WholeWords (EltTy.packing .fp8e4m3))
theorem k0_off82_inb : ∀ (v0 : BitVec 32) (v9 : BitVec 32) (v18 : BitVec 32) (v27 : BitVec 32) (v36 : BitVec 32) (v45 : BitVec 32) (v54 : BitVec 32) (v63 : BitVec 32) (v1034 : BitVec 32) (k0_hw32 : k0_chk32 v0 v9 v18 v27 v36 v45 v54 v63 v1034), ∀ (k0_h20 : k0_cond20 v0 v9 v18 v27 v36 v45 v54 v63 = 1#1), ∀ a, (k0_off82 v1034) a + S1x512x2048.size a ≤ S8x3584x2048.size a := fun v0 v9 v18 v27 v36 v45 v54 v63 v1034 k0_hw32 k0_h20 => k0_hw32.1 k0_h20
theorem k0_off82_wordsfp8e4m3 : ∀ (v0 : BitVec 32) (v9 : BitVec 32) (v18 : BitVec 32) (v27 : BitVec 32) (v36 : BitVec 32) (v45 : BitVec 32) (v54 : BitVec 32) (v63 : BitVec 32) (v1034 : BitVec 32) (k0_hw32 : k0_chk32 v0 v9 v18 v27 v36 v45 v54 v63 v1034), ∀ (k0_h20 : k0_cond20 v0 v9 v18 v27 v36 v45 v54 v63 = 1#1), (Rect.unit (s := S8x3584x2048) (k0_off82 v1034) S1x512x2048.size (k0_off82_inb v0 v9 v18 v27 v36 v45 v54 v63 v1034 k0_hw32 k0_h20)).WholeWords (EltTy.packing .fp8e4m3) := fun v0 v9 v18 v27 v36 v45 v54 v63 v1034 k0_hw32 k0_h20 => k0_hw32.2 k0_h20 (k0_off82_inb v0 v9 v18 v27 v36 v45 v54 v63 v1034 k0_hw32 k0_h20)

def k0_off83 : Fin 2 → Nat :=
  let c3_i32_479 : BitVec 32 := 3#32
  let c4_i32_480 : BitVec 32 := 4#32
  let v1041 : BitVec 32 := Scalar.remsi c3_i32_479 c4_i32_480
  let c4_i32_483 : BitVec 32 := 4#32
  ![v1041.toNat, 4]
def k0_off84 : Fin 4 → Nat :=
  let c3_i32_479 : BitVec 32 := 3#32
  let c4_i32_480 : BitVec 32 := 4#32
  let v1041 : BitVec 32 := Scalar.remsi c3_i32_479 c4_i32_480
  let c4_i32_482 : BitVec 32 := 4#32
  let c0_i32_484 : BitVec 32 := 0#32
  let c0_i32_485 : BitVec 32 := 0#32
  ![v1041.toNat, 4, 0, 0]
def k0_off85 (v1042 : BitVec 32) : Fin 3 → Nat :=
  let c2048_i32 : BitVec 32 := 2048#32
  let c0_i32_486 : BitVec 32 := 0#32
  ![v1042.toNat, 2048, 0]

def k0_chk33 (v0 : BitVec 32) (v9 : BitVec 32) (v18 : BitVec 32) (v27 : BitVec 32) (v36 : BitVec 32) (v45 : BitVec 32) (v54 : BitVec 32) (v63 : BitVec 32) (v1042 : BitVec 32) : Prop :=
  (∀ (k0_h20 : k0_cond20 v0 v9 v18 v27 v36 v45 v54 v63 = 1#1), ∀ a, (k0_off85 v1042) a + S1x512x2048.size a ≤ S8x3584x2048.size a) ∧
  (∀ (k0_h20 : k0_cond20 v0 v9 v18 v27 v36 v45 v54 v63 = 1#1), ∀ (hinb : ∀ a, (k0_off85 v1042) a + S1x512x2048.size a ≤ S8x3584x2048.size a), (Rect.unit (s := S8x3584x2048) (k0_off85 v1042) S1x512x2048.size hinb).WholeWords (EltTy.packing .fp8e4m3))
theorem k0_off85_inb : ∀ (v0 : BitVec 32) (v9 : BitVec 32) (v18 : BitVec 32) (v27 : BitVec 32) (v36 : BitVec 32) (v45 : BitVec 32) (v54 : BitVec 32) (v63 : BitVec 32) (v1042 : BitVec 32) (k0_hw33 : k0_chk33 v0 v9 v18 v27 v36 v45 v54 v63 v1042), ∀ (k0_h20 : k0_cond20 v0 v9 v18 v27 v36 v45 v54 v63 = 1#1), ∀ a, (k0_off85 v1042) a + S1x512x2048.size a ≤ S8x3584x2048.size a := fun v0 v9 v18 v27 v36 v45 v54 v63 v1042 k0_hw33 k0_h20 => k0_hw33.1 k0_h20
theorem k0_off85_wordsfp8e4m3 : ∀ (v0 : BitVec 32) (v9 : BitVec 32) (v18 : BitVec 32) (v27 : BitVec 32) (v36 : BitVec 32) (v45 : BitVec 32) (v54 : BitVec 32) (v63 : BitVec 32) (v1042 : BitVec 32) (k0_hw33 : k0_chk33 v0 v9 v18 v27 v36 v45 v54 v63 v1042), ∀ (k0_h20 : k0_cond20 v0 v9 v18 v27 v36 v45 v54 v63 = 1#1), (Rect.unit (s := S8x3584x2048) (k0_off85 v1042) S1x512x2048.size (k0_off85_inb v0 v9 v18 v27 v36 v45 v54 v63 v1042 k0_hw33 k0_h20)).WholeWords (EltTy.packing .fp8e4m3) := fun v0 v9 v18 v27 v36 v45 v54 v63 v1042 k0_hw33 k0_h20 => k0_hw33.2 k0_h20 (k0_off85_inb v0 v9 v18 v27 v36 v45 v54 v63 v1042 k0_hw33 k0_h20)

def k0_off86 : Fin 2 → Nat :=
  let c3_i32_487 : BitVec 32 := 3#32
  let c4_i32_488 : BitVec 32 := 4#32
  let v1049 : BitVec 32 := Scalar.remsi c3_i32_487 c4_i32_488
  let c5_i32_491 : BitVec 32 := 5#32
  ![v1049.toNat, 5]
def k0_off87 : Fin 4 → Nat :=
  let c3_i32_487 : BitVec 32 := 3#32
  let c4_i32_488 : BitVec 32 := 4#32
  let v1049 : BitVec 32 := Scalar.remsi c3_i32_487 c4_i32_488
  let c5_i32_490 : BitVec 32 := 5#32
  let c0_i32_492 : BitVec 32 := 0#32
  let c0_i32_493 : BitVec 32 := 0#32
  ![v1049.toNat, 5, 0, 0]
def k0_off88 (v1050 : BitVec 32) : Fin 3 → Nat :=
  let c2560_i32 : BitVec 32 := 2560#32
  let c0_i32_494 : BitVec 32 := 0#32
  ![v1050.toNat, 2560, 0]

def k0_chk34 (v0 : BitVec 32) (v9 : BitVec 32) (v18 : BitVec 32) (v27 : BitVec 32) (v36 : BitVec 32) (v45 : BitVec 32) (v54 : BitVec 32) (v63 : BitVec 32) (v1050 : BitVec 32) : Prop :=
  (∀ (k0_h20 : k0_cond20 v0 v9 v18 v27 v36 v45 v54 v63 = 1#1), ∀ a, (k0_off88 v1050) a + S1x512x2048.size a ≤ S8x3584x2048.size a) ∧
  (∀ (k0_h20 : k0_cond20 v0 v9 v18 v27 v36 v45 v54 v63 = 1#1), ∀ (hinb : ∀ a, (k0_off88 v1050) a + S1x512x2048.size a ≤ S8x3584x2048.size a), (Rect.unit (s := S8x3584x2048) (k0_off88 v1050) S1x512x2048.size hinb).WholeWords (EltTy.packing .fp8e4m3))
theorem k0_off88_inb : ∀ (v0 : BitVec 32) (v9 : BitVec 32) (v18 : BitVec 32) (v27 : BitVec 32) (v36 : BitVec 32) (v45 : BitVec 32) (v54 : BitVec 32) (v63 : BitVec 32) (v1050 : BitVec 32) (k0_hw34 : k0_chk34 v0 v9 v18 v27 v36 v45 v54 v63 v1050), ∀ (k0_h20 : k0_cond20 v0 v9 v18 v27 v36 v45 v54 v63 = 1#1), ∀ a, (k0_off88 v1050) a + S1x512x2048.size a ≤ S8x3584x2048.size a := fun v0 v9 v18 v27 v36 v45 v54 v63 v1050 k0_hw34 k0_h20 => k0_hw34.1 k0_h20
theorem k0_off88_wordsfp8e4m3 : ∀ (v0 : BitVec 32) (v9 : BitVec 32) (v18 : BitVec 32) (v27 : BitVec 32) (v36 : BitVec 32) (v45 : BitVec 32) (v54 : BitVec 32) (v63 : BitVec 32) (v1050 : BitVec 32) (k0_hw34 : k0_chk34 v0 v9 v18 v27 v36 v45 v54 v63 v1050), ∀ (k0_h20 : k0_cond20 v0 v9 v18 v27 v36 v45 v54 v63 = 1#1), (Rect.unit (s := S8x3584x2048) (k0_off88 v1050) S1x512x2048.size (k0_off88_inb v0 v9 v18 v27 v36 v45 v54 v63 v1050 k0_hw34 k0_h20)).WholeWords (EltTy.packing .fp8e4m3) := fun v0 v9 v18 v27 v36 v45 v54 v63 v1050 k0_hw34 k0_h20 => k0_hw34.2 k0_h20 (k0_off88_inb v0 v9 v18 v27 v36 v45 v54 v63 v1050 k0_hw34 k0_h20)

def k0_off89 : Fin 2 → Nat :=
  let c3_i32_495 : BitVec 32 := 3#32
  let c4_i32_496 : BitVec 32 := 4#32
  let v1057 : BitVec 32 := Scalar.remsi c3_i32_495 c4_i32_496
  let c6_i32_499 : BitVec 32 := 6#32
  ![v1057.toNat, 6]
def k0_off90 : Fin 4 → Nat :=
  let c3_i32_495 : BitVec 32 := 3#32
  let c4_i32_496 : BitVec 32 := 4#32
  let v1057 : BitVec 32 := Scalar.remsi c3_i32_495 c4_i32_496
  let c6_i32_498 : BitVec 32 := 6#32
  let c0_i32_500 : BitVec 32 := 0#32
  let c0_i32_501 : BitVec 32 := 0#32
  ![v1057.toNat, 6, 0, 0]
def k0_off91 (v1058 : BitVec 32) : Fin 3 → Nat :=
  let c3072_i32 : BitVec 32 := 3072#32
  let c0_i32_502 : BitVec 32 := 0#32
  ![v1058.toNat, 3072, 0]

def k0_chk35 (v0 : BitVec 32) (v9 : BitVec 32) (v18 : BitVec 32) (v27 : BitVec 32) (v36 : BitVec 32) (v45 : BitVec 32) (v54 : BitVec 32) (v63 : BitVec 32) (v1058 : BitVec 32) : Prop :=
  (∀ (k0_h20 : k0_cond20 v0 v9 v18 v27 v36 v45 v54 v63 = 1#1), ∀ a, (k0_off91 v1058) a + S1x512x2048.size a ≤ S8x3584x2048.size a) ∧
  (∀ (k0_h20 : k0_cond20 v0 v9 v18 v27 v36 v45 v54 v63 = 1#1), ∀ (hinb : ∀ a, (k0_off91 v1058) a + S1x512x2048.size a ≤ S8x3584x2048.size a), (Rect.unit (s := S8x3584x2048) (k0_off91 v1058) S1x512x2048.size hinb).WholeWords (EltTy.packing .fp8e4m3))
theorem k0_off91_inb : ∀ (v0 : BitVec 32) (v9 : BitVec 32) (v18 : BitVec 32) (v27 : BitVec 32) (v36 : BitVec 32) (v45 : BitVec 32) (v54 : BitVec 32) (v63 : BitVec 32) (v1058 : BitVec 32) (k0_hw35 : k0_chk35 v0 v9 v18 v27 v36 v45 v54 v63 v1058), ∀ (k0_h20 : k0_cond20 v0 v9 v18 v27 v36 v45 v54 v63 = 1#1), ∀ a, (k0_off91 v1058) a + S1x512x2048.size a ≤ S8x3584x2048.size a := fun v0 v9 v18 v27 v36 v45 v54 v63 v1058 k0_hw35 k0_h20 => k0_hw35.1 k0_h20
theorem k0_off91_wordsfp8e4m3 : ∀ (v0 : BitVec 32) (v9 : BitVec 32) (v18 : BitVec 32) (v27 : BitVec 32) (v36 : BitVec 32) (v45 : BitVec 32) (v54 : BitVec 32) (v63 : BitVec 32) (v1058 : BitVec 32) (k0_hw35 : k0_chk35 v0 v9 v18 v27 v36 v45 v54 v63 v1058), ∀ (k0_h20 : k0_cond20 v0 v9 v18 v27 v36 v45 v54 v63 = 1#1), (Rect.unit (s := S8x3584x2048) (k0_off91 v1058) S1x512x2048.size (k0_off91_inb v0 v9 v18 v27 v36 v45 v54 v63 v1058 k0_hw35 k0_h20)).WholeWords (EltTy.packing .fp8e4m3) := fun v0 v9 v18 v27 v36 v45 v54 v63 v1058 k0_hw35 k0_h20 => k0_hw35.2 k0_h20 (k0_off91_inb v0 v9 v18 v27 v36 v45 v54 v63 v1058 k0_hw35 k0_h20)

@[reducible] def k0_t1_loop (v0 : BitVec 32) (v9 : BitVec 32) (v18 : BitVec 32) (v27 : BitVec 32) (v36 : BitVec 32) (v45 : BitVec 32) (v54 : BitVec 32) (v63 : BitVec 32) : Scf.Loop 32 :=
  let c0_i32_441 : BitVec 32 := 0#32
  let c0_i32_3 : BitVec 32 := 0#32
  let c0_i32 : BitVec 32 := 0#32
  let v1 : BitVec 1 := Scalar.cmpi .sgt v0 c0_i32
  let v7 : BitVec 32 := Scalar.extui v1
  let v8 : BitVec 32 := Scalar.addi c0_i32_3 v7
  let c0_i32_4 : BitVec 32 := 0#32
  let v10 : BitVec 1 := Scalar.cmpi .sgt v9 c0_i32_4
  let v16 : BitVec 32 := Scalar.extui v10
  let v17 : BitVec 32 := Scalar.addi v8 v16
  let c0_i32_8 : BitVec 32 := 0#32
  let v19 : BitVec 1 := Scalar.cmpi .sgt v18 c0_i32_8
  let v25 : BitVec 32 := Scalar.extui v19
  let v26 : BitVec 32 := Scalar.addi v17 v25
  let c0_i32_12 : BitVec 32 := 0#32
  let v28 : BitVec 1 := Scalar.cmpi .sgt v27 c0_i32_12
  let v34 : BitVec 32 := Scalar.extui v28
  let v35 : BitVec 32 := Scalar.addi v26 v34
  let c0_i32_16 : BitVec 32 := 0#32
  let v37 : BitVec 1 := Scalar.cmpi .sgt v36 c0_i32_16
  let v43 : BitVec 32 := Scalar.extui v37
  let v44 : BitVec 32 := Scalar.addi v35 v43
  let c0_i32_20 : BitVec 32 := 0#32
  let v46 : BitVec 1 := Scalar.cmpi .sgt v45 c0_i32_20
  let v52 : BitVec 32 := Scalar.extui v46
  let v53 : BitVec 32 := Scalar.addi v44 v52
  let c0_i32_24 : BitVec 32 := 0#32
  let v55 : BitVec 1 := Scalar.cmpi .sgt v54 c0_i32_24
  let v61 : BitVec 32 := Scalar.extui v55
  let v62 : BitVec 32 := Scalar.addi v53 v61
  let c0_i32_28 : BitVec 32 := 0#32
  let v64 : BitVec 1 := Scalar.cmpi .sgt v63 c0_i32_28
  let v70 : BitVec 32 := Scalar.extui v64
  let v71 : BitVec 32 := Scalar.addi v62 v70
  let v1002 : BitVec 32 := Scalar.subi v71 c0_i32_441
  let c1_i32_443 : BitVec 32 := 1#32
  let v1004 : BitVec 32 := Scalar.divsi v1002 c1_i32_443
  let v1005 : BitVec 32 := Scalar.muli v1004 c1_i32_443
  let v1006 : BitVec 32 := Scalar.addi c0_i32_441 v1005
  let c1_i32_444 : BitVec 32 := 1#32
  ⟨c0_i32_441, v1006, c1_i32_444⟩
def k0_off92 (v0 : BitVec 32) (v9 : BitVec 32) (v18 : BitVec 32) (v27 : BitVec 32) (v36 : BitVec 32) (v45 : BitVec 32) (v54 : BitVec 32) (v63 : BitVec 32) (k0_t1 : Fin (k0_t1_loop v0 v9 v18 v27 v36 v45 v54 v63).trips) : Fin 1 → Nat :=
  let c0_i32_441 : BitVec 32 := 0#32
  let c1_i32_444 : BitVec 32 := 1#32
  let arg13 : BitVec 32 := Scf.iv c0_i32_441 c1_i32_444 k0_t1
  let v1009 : Index := Scalar.indexCast arg13
  ![v1009.toNat]
def k0_off93 (v1010 : BitVec 32) : Fin 3 → Nat :=
  let v1013 : Index := Scalar.indexCast v1010
  let c0_448 : Index := 0#32
  let c0_449 : Index := 0#32
  ![v1013.toNat, 0, 0]

def k0_off94 (v1010 : BitVec 32) : Fin 3 → Nat :=
  let v1021 : Index := Scalar.indexCast v1010
  let c0_452 : Index := 0#32
  let c128 : Index := 128#32
  ![v1021.toNat, 0, 128]
def k0_off95 (v1010 : BitVec 32) : Fin 3 → Nat :=
  let v1029 : Index := Scalar.indexCast v1010
  let c0_455 : Index := 0#32
  let c256 : Index := 256#32
  ![v1029.toNat, 0, 256]
def k0_off96 (v1010 : BitVec 32) : Fin 3 → Nat :=
  let v1037 : Index := Scalar.indexCast v1010
  let c0_457 : Index := 0#32
  let c384 : Index := 384#32
  ![v1037.toNat, 0, 384]
def k0_off97 (v1010 : BitVec 32) : Fin 3 → Nat :=
  let v1045 : Index := Scalar.indexCast v1010
  let c0_460 : Index := 0#32
  let c512 : Index := 512#32
  ![v1045.toNat, 0, 512]
def k0_off98 (v1010 : BitVec 32) : Fin 3 → Nat :=
  let v1053 : Index := Scalar.indexCast v1010
  let c0_462 : Index := 0#32
  let c640 : Index := 640#32
  ![v1053.toNat, 0, 640]
def k0_off99 (v1010 : BitVec 32) : Fin 3 → Nat :=
  let v1061 : Index := Scalar.indexCast v1010
  let c0_465 : Index := 0#32
  let c768 : Index := 768#32
  ![v1061.toNat, 0, 768]
def k0_off100 (v1010 : BitVec 32) : Fin 3 → Nat :=
  let v1069 : Index := Scalar.indexCast v1010
  let c0_467 : Index := 0#32
  let c896 : Index := 896#32
  ![v1069.toNat, 0, 896]
def k0_off101 (v1010 : BitVec 32) : Fin 3 → Nat :=
  let v1077 : Index := Scalar.indexCast v1010
  let c0_470 : Index := 0#32
  let c1024 : Index := 1024#32
  ![v1077.toNat, 0, 1024]
def k0_off102 (v1010 : BitVec 32) : Fin 3 → Nat :=
  let v1085 : Index := Scalar.indexCast v1010
  let c0_473 : Index := 0#32
  let c1152 : Index := 1152#32
  ![v1085.toNat, 0, 1152]
def k0_off103 (v1010 : BitVec 32) : Fin 3 → Nat :=
  let v1093 : Index := Scalar.indexCast v1010
  let c0_476 : Index := 0#32
  let c1280 : Index := 1280#32
  ![v1093.toNat, 0, 1280]
def k0_off104 (v1010 : BitVec 32) : Fin 3 → Nat :=
  let v1101 : Index := Scalar.indexCast v1010
  let c0_478 : Index := 0#32
  let c1408 : Index := 1408#32
  ![v1101.toNat, 0, 1408]
def k0_off105 (v1010 : BitVec 32) : Fin 3 → Nat :=
  let v1109 : Index := Scalar.indexCast v1010
  let c0_481 : Index := 0#32
  let c1536 : Index := 1536#32
  ![v1109.toNat, 0, 1536]
def k0_off106 (v1010 : BitVec 32) : Fin 3 → Nat :=
  let v1117 : Index := Scalar.indexCast v1010
  let c0_483 : Index := 0#32
  let c1664 : Index := 1664#32
  ![v1117.toNat, 0, 1664]
def k0_off107 (v1010 : BitVec 32) : Fin 3 → Nat :=
  let v1125 : Index := Scalar.indexCast v1010
  let c0_486 : Index := 0#32
  let c1792 : Index := 1792#32
  ![v1125.toNat, 0, 1792]
def k0_off108 (v1010 : BitVec 32) : Fin 3 → Nat :=
  let v1133 : Index := Scalar.indexCast v1010
  let c0_488 : Index := 0#32
  let c1920 : Index := 1920#32
  ![v1133.toNat, 0, 1920]
def k0_off109 (v1010 : BitVec 32) : Fin 3 → Nat :=
  let v1141 : Index := Scalar.indexCast v1010
  let c0_491 : Index := 0#32
  let c0_492 : Index := 0#32
  ![v1141.toNat, 0, 0]
def k0_off110 (v1010 : BitVec 32) : Fin 2 → Nat :=
  let v1146 : Index := Scalar.indexCast v1010
  let c0_494 : Index := 0#32
  ![v1146.toNat, 0]
def k0_off111 (v1010 : BitVec 32) : Fin 1 → Nat :=
  let v1151 : Index := Scalar.indexCast v1010
  ![v1151.toNat]
def k0_off112 (v0 : BitVec 32) (v9 : BitVec 32) (v18 : BitVec 32) (v27 : BitVec 32) (v36 : BitVec 32) (v45 : BitVec 32) (v54 : BitVec 32) (v63 : BitVec 32) (k0_t1 : Fin (k0_t1_loop v0 v9 v18 v27 v36 v45 v54 v63).trips) : Fin 1 → Nat :=
  let c0_i32_441 : BitVec 32 := 0#32
  let c1_i32_444 : BitVec 32 := 1#32
  let arg13 : BitVec 32 := Scf.iv c0_i32_441 c1_i32_444 k0_t1
  let v1156 : Index := Scalar.indexCast arg13
  ![v1156.toNat]
def k0_off113 (v0 : BitVec 32) (v9 : BitVec 32) (v18 : BitVec 32) (v27 : BitVec 32) (v36 : BitVec 32) (v45 : BitVec 32) (v54 : BitVec 32) (v63 : BitVec 32) (k0_t1 : Fin (k0_t1_loop v0 v9 v18 v27 v36 v45 v54 v63).trips) : Fin 2 → Nat :=
  let c0_i32_441 : BitVec 32 := 0#32
  let c1_i32_444 : BitVec 32 := 1#32
  let arg13 : BitVec 32 := Scf.iv c0_i32_441 c1_i32_444 k0_t1
  let c4_i32_495 : BitVec 32 := 4#32
  let v1155 : BitVec 32 := Scalar.remsi arg13 c4_i32_495
  let c0_i32_497 : BitVec 32 := 0#32
  ![v1155.toNat, 0]
def k0_off114 (v0 : BitVec 32) (v9 : BitVec 32) (v18 : BitVec 32) (v27 : BitVec 32) (v36 : BitVec 32) (v45 : BitVec 32) (v54 : BitVec 32) (v63 : BitVec 32) (k0_t1 : Fin (k0_t1_loop v0 v9 v18 v27 v36 v45 v54 v63).trips) : Fin 4 → Nat :=
  let c0_i32_441 : BitVec 32 := 0#32
  let c1_i32_444 : BitVec 32 := 1#32
  let arg13 : BitVec 32 := Scf.iv c0_i32_441 c1_i32_444 k0_t1
  let c4_i32_495 : BitVec 32 := 4#32
  let v1155 : BitVec 32 := Scalar.remsi arg13 c4_i32_495
  let c0_i32_496 : BitVec 32 := 0#32
  let c0_i32_498 : BitVec 32 := 0#32
  let c0_i32_499 : BitVec 32 := 0#32
  ![v1155.toNat, 0, 0, 0]
def k0_off115 (v1157 : BitVec 32) : Fin 3 → Nat :=
  let c0_i32_500 : BitVec 32 := 0#32
  let c0_i32_501 : BitVec 32 := 0#32
  ![v1157.toNat, 0, 0]

def k0_chk37 (v1157 : BitVec 32) : Prop :=
  (∀ a, (k0_off115 v1157) a + S1x512x2048.size a ≤ S8x3584x2048.size a) ∧
  (∀ (hinb : ∀ a, (k0_off115 v1157) a + S1x512x2048.size a ≤ S8x3584x2048.size a), (Rect.unit (s := S8x3584x2048) (k0_off115 v1157) S1x512x2048.size hinb).WholeWords (EltTy.packing .fp8e4m3))
theorem k0_off115_inb : ∀ (v1157 : BitVec 32) (k0_hw37 : k0_chk37 v1157), ∀ a, (k0_off115 v1157) a + S1x512x2048.size a ≤ S8x3584x2048.size a := fun v1157 k0_hw37 => k0_hw37.1
theorem k0_off115_wordsfp8e4m3 : ∀ (v1157 : BitVec 32) (k0_hw37 : k0_chk37 v1157), (Rect.unit (s := S8x3584x2048) (k0_off115 v1157) S1x512x2048.size (k0_off115_inb v1157 k0_hw37)).WholeWords (EltTy.packing .fp8e4m3) := fun v1157 k0_hw37 => k0_hw37.2 (k0_off115_inb v1157 k0_hw37)

def k0_off116 (v0 : BitVec 32) (v9 : BitVec 32) (v18 : BitVec 32) (v27 : BitVec 32) (v36 : BitVec 32) (v45 : BitVec 32) (v54 : BitVec 32) (v63 : BitVec 32) (k0_t1 : Fin (k0_t1_loop v0 v9 v18 v27 v36 v45 v54 v63).trips) : Fin 4 → Nat :=
  let c0_i32_441 : BitVec 32 := 0#32
  let c1_i32_444 : BitVec 32 := 1#32
  let arg13 : BitVec 32 := Scf.iv c0_i32_441 c1_i32_444 k0_t1
  let c4_i32_446 : BitVec 32 := 4#32
  let v1011 : BitVec 32 := Scalar.remsi arg13 c4_i32_446
  let v1164 : Index := Scalar.indexCast v1011
  let c0_502 : Index := 0#32
  let c0_503 : Index := 0#32
  let c0_504 : Index := 0#32
  ![v1164.toNat, 0, 0, 0]
def k0_off117 (v1010 : BitVec 32) : Fin 3 → Nat :=
  let v1196 : Index := Scalar.indexCast v1010
  let c0_509 : Index := 0#32
  let c0_510 : Index := 0#32
  ![v1196.toNat, 0, 0]
def k0_off118 (v1010 : BitVec 32) : Fin 3 → Nat :=
  let v1227 : Index := Scalar.indexCast v1010
  let c0_512 : Index := 0#32
  let c128_513 : Index := 128#32
  ![v1227.toNat, 0, 128]
def k0_off119 (v1010 : BitVec 32) : Fin 3 → Nat :=
  let v1258 : Index := Scalar.indexCast v1010
  let c0_515 : Index := 0#32
  let c256_516 : Index := 256#32
  ![v1258.toNat, 0, 256]
def k0_off120 (v1010 : BitVec 32) : Fin 3 → Nat :=
  let v1289 : Index := Scalar.indexCast v1010
  let c0_518 : Index := 0#32
  let c384_519 : Index := 384#32
  ![v1289.toNat, 0, 384]
def k0_off121 (v0 : BitVec 32) (v9 : BitVec 32) (v18 : BitVec 32) (v27 : BitVec 32) (v36 : BitVec 32) (v45 : BitVec 32) (v54 : BitVec 32) (v63 : BitVec 32) (k0_t1 : Fin (k0_t1_loop v0 v9 v18 v27 v36 v45 v54 v63).trips) : Fin 1 → Nat :=
  let c0_i32_441 : BitVec 32 := 0#32
  let c1_i32_444 : BitVec 32 := 1#32
  let arg13 : BitVec 32 := Scf.iv c0_i32_441 c1_i32_444 k0_t1
  let c4_i32_667 : BitVec 32 := 4#32
  let v2149 : BitVec 32 := Scalar.addi arg13 c4_i32_667
  let v2151 : Index := Scalar.indexCast v2149
  ![v2151.toNat]
def k0_cond21 (v0 : BitVec 32) (v9 : BitVec 32) (v18 : BitVec 32) (v27 : BitVec 32) (v36 : BitVec 32) (v45 : BitVec 32) (v54 : BitVec 32) (v63 : BitVec 32) (k0_t1 : Fin (k0_t1_loop v0 v9 v18 v27 v36 v45 v54 v63).trips) : BitVec 1 :=
  let c0_i32_441 : BitVec 32 := 0#32
  let c1_i32_444 : BitVec 32 := 1#32
  let arg13 : BitVec 32 := Scf.iv c0_i32_441 c1_i32_444 k0_t1
  let c4_i32_520 : BitVec 32 := 4#32
  let v1293 : BitVec 32 := Scalar.addi arg13 c4_i32_520
  let c0_i32_3 : BitVec 32 := 0#32
  let c0_i32 : BitVec 32 := 0#32
  let v1 : BitVec 1 := Scalar.cmpi .sgt v0 c0_i32
  let v7 : BitVec 32 := Scalar.extui v1
  let v8 : BitVec 32 := Scalar.addi c0_i32_3 v7
  let c0_i32_4 : BitVec 32 := 0#32
  let v10 : BitVec 1 := Scalar.cmpi .sgt v9 c0_i32_4
  let v16 : BitVec 32 := Scalar.extui v10
  let v17 : BitVec 32 := Scalar.addi v8 v16
  let c0_i32_8 : BitVec 32 := 0#32
  let v19 : BitVec 1 := Scalar.cmpi .sgt v18 c0_i32_8
  let v25 : BitVec 32 := Scalar.extui v19
  let v26 : BitVec 32 := Scalar.addi v17 v25
  let c0_i32_12 : BitVec 32 := 0#32
  let v28 : BitVec 1 := Scalar.cmpi .sgt v27 c0_i32_12
  let v34 : BitVec 32 := Scalar.extui v28
  let v35 : BitVec 32 := Scalar.addi v26 v34
  let c0_i32_16 : BitVec 32 := 0#32
  let v37 : BitVec 1 := Scalar.cmpi .sgt v36 c0_i32_16
  let v43 : BitVec 32 := Scalar.extui v37
  let v44 : BitVec 32 := Scalar.addi v35 v43
  let c0_i32_20 : BitVec 32 := 0#32
  let v46 : BitVec 1 := Scalar.cmpi .sgt v45 c0_i32_20
  let v52 : BitVec 32 := Scalar.extui v46
  let v53 : BitVec 32 := Scalar.addi v44 v52
  let c0_i32_24 : BitVec 32 := 0#32
  let v55 : BitVec 1 := Scalar.cmpi .sgt v54 c0_i32_24
  let v61 : BitVec 32 := Scalar.extui v55
  let v62 : BitVec 32 := Scalar.addi v53 v61
  let c0_i32_28 : BitVec 32 := 0#32
  let v64 : BitVec 1 := Scalar.cmpi .sgt v63 c0_i32_28
  let v70 : BitVec 32 := Scalar.extui v64
  let v71 : BitVec 32 := Scalar.addi v62 v70
  let v1294 : BitVec 1 := Scalar.cmpi .slt v1293 v71
  let v1295 : BitVec 32 := Scalar.extui v1294
  let c0_i32_521 : BitVec 32 := 0#32
  let v1296 : BitVec 1 := Scalar.cmpi .ne v1295 c0_i32_521
  v1296

def k0_off122 (v0 : BitVec 32) (v9 : BitVec 32) (v18 : BitVec 32) (v27 : BitVec 32) (v36 : BitVec 32) (v45 : BitVec 32) (v54 : BitVec 32) (v63 : BitVec 32) (k0_t1 : Fin (k0_t1_loop v0 v9 v18 v27 v36 v45 v54 v63).trips) : Fin 2 → Nat :=
  let c0_i32_441 : BitVec 32 := 0#32
  let c1_i32_444 : BitVec 32 := 1#32
  let arg13 : BitVec 32 := Scf.iv c0_i32_441 c1_i32_444 k0_t1
  let c4_i32_667 : BitVec 32 := 4#32
  let v2149 : BitVec 32 := Scalar.addi arg13 c4_i32_667
  let c4_i32_668 : BitVec 32 := 4#32
  let v2150 : BitVec 32 := Scalar.remsi v2149 c4_i32_668
  let c0_i32_670 : BitVec 32 := 0#32
  ![v2150.toNat, 0]
def k0_off123 (v0 : BitVec 32) (v9 : BitVec 32) (v18 : BitVec 32) (v27 : BitVec 32) (v36 : BitVec 32) (v45 : BitVec 32) (v54 : BitVec 32) (v63 : BitVec 32) (k0_t1 : Fin (k0_t1_loop v0 v9 v18 v27 v36 v45 v54 v63).trips) : Fin 4 → Nat :=
  let c0_i32_441 : BitVec 32 := 0#32
  let c1_i32_444 : BitVec 32 := 1#32
  let arg13 : BitVec 32 := Scf.iv c0_i32_441 c1_i32_444 k0_t1
  let c4_i32_667 : BitVec 32 := 4#32
  let v2149 : BitVec 32 := Scalar.addi arg13 c4_i32_667
  let c4_i32_668 : BitVec 32 := 4#32
  let v2150 : BitVec 32 := Scalar.remsi v2149 c4_i32_668
  let c0_i32_669 : BitVec 32 := 0#32
  let c0_i32_671 : BitVec 32 := 0#32
  let c0_i32_672 : BitVec 32 := 0#32
  ![v2150.toNat, 0, 0, 0]
def k0_off124 (v2152 : BitVec 32) : Fin 3 → Nat :=
  let c0_i32_673 : BitVec 32 := 0#32
  let c0_i32_674 : BitVec 32 := 0#32
  ![v2152.toNat, 0, 0]

def k0_chk38 (v0 : BitVec 32) (v9 : BitVec 32) (v18 : BitVec 32) (v27 : BitVec 32) (v36 : BitVec 32) (v45 : BitVec 32) (v54 : BitVec 32) (v63 : BitVec 32) (k0_t1 : Fin (k0_t1_loop v0 v9 v18 v27 v36 v45 v54 v63).trips) (v2152 : BitVec 32) : Prop :=
  (∀ (k0_h21 : k0_cond21 v0 v9 v18 v27 v36 v45 v54 v63 k0_t1 = 1#1), ∀ a, (k0_off124 v2152) a + S1x512x2048.size a ≤ S8x3584x2048.size a) ∧
  (∀ (k0_h21 : k0_cond21 v0 v9 v18 v27 v36 v45 v54 v63 k0_t1 = 1#1), ∀ (hinb : ∀ a, (k0_off124 v2152) a + S1x512x2048.size a ≤ S8x3584x2048.size a), (Rect.unit (s := S8x3584x2048) (k0_off124 v2152) S1x512x2048.size hinb).WholeWords (EltTy.packing .fp8e4m3))
theorem k0_off124_inb : ∀ (v0 : BitVec 32) (v9 : BitVec 32) (v18 : BitVec 32) (v27 : BitVec 32) (v36 : BitVec 32) (v45 : BitVec 32) (v54 : BitVec 32) (v63 : BitVec 32) (k0_t1 : Fin (k0_t1_loop v0 v9 v18 v27 v36 v45 v54 v63).trips) (v2152 : BitVec 32) (k0_hw38 : k0_chk38 v0 v9 v18 v27 v36 v45 v54 v63 k0_t1 v2152), ∀ (k0_h21 : k0_cond21 v0 v9 v18 v27 v36 v45 v54 v63 k0_t1 = 1#1), ∀ a, (k0_off124 v2152) a + S1x512x2048.size a ≤ S8x3584x2048.size a := fun v0 v9 v18 v27 v36 v45 v54 v63 k0_t1 v2152 k0_hw38 k0_h21 => k0_hw38.1 k0_h21
theorem k0_off124_wordsfp8e4m3 : ∀ (v0 : BitVec 32) (v9 : BitVec 32) (v18 : BitVec 32) (v27 : BitVec 32) (v36 : BitVec 32) (v45 : BitVec 32) (v54 : BitVec 32) (v63 : BitVec 32) (k0_t1 : Fin (k0_t1_loop v0 v9 v18 v27 v36 v45 v54 v63).trips) (v2152 : BitVec 32) (k0_hw38 : k0_chk38 v0 v9 v18 v27 v36 v45 v54 v63 k0_t1 v2152), ∀ (k0_h21 : k0_cond21 v0 v9 v18 v27 v36 v45 v54 v63 k0_t1 = 1#1), (Rect.unit (s := S8x3584x2048) (k0_off124 v2152) S1x512x2048.size (k0_off124_inb v0 v9 v18 v27 v36 v45 v54 v63 k0_t1 v2152 k0_hw38 k0_h21)).WholeWords (EltTy.packing .fp8e4m3) := fun v0 v9 v18 v27 v36 v45 v54 v63 k0_t1 v2152 k0_hw38 k0_h21 => k0_hw38.2 k0_h21 (k0_off124_inb v0 v9 v18 v27 v36 v45 v54 v63 k0_t1 v2152 k0_hw38 k0_h21)

def k0_off125 (v0 : BitVec 32) (v9 : BitVec 32) (v18 : BitVec 32) (v27 : BitVec 32) (v36 : BitVec 32) (v45 : BitVec 32) (v54 : BitVec 32) (v63 : BitVec 32) (k0_t1 : Fin (k0_t1_loop v0 v9 v18 v27 v36 v45 v54 v63).trips) : Fin 1 → Nat :=
  let c0_i32_441 : BitVec 32 := 0#32
  let c1_i32_444 : BitVec 32 := 1#32
  let arg13 : BitVec 32 := Scf.iv c0_i32_441 c1_i32_444 k0_t1
  let v1298 : Index := Scalar.indexCast arg13
  ![v1298.toNat]
def k0_off126 (v0 : BitVec 32) (v9 : BitVec 32) (v18 : BitVec 32) (v27 : BitVec 32) (v36 : BitVec 32) (v45 : BitVec 32) (v54 : BitVec 32) (v63 : BitVec 32) (k0_t1 : Fin (k0_t1_loop v0 v9 v18 v27 v36 v45 v54 v63).trips) : Fin 2 → Nat :=
  let c0_i32_441 : BitVec 32 := 0#32
  let c1_i32_444 : BitVec 32 := 1#32
  let arg13 : BitVec 32 := Scf.iv c0_i32_441 c1_i32_444 k0_t1
  let c4_i32_522 : BitVec 32 := 4#32
  let v1297 : BitVec 32 := Scalar.remsi arg13 c4_i32_522
  let c1_i32_524 : BitVec 32 := 1#32
  ![v1297.toNat, 1]
def k0_off127 (v0 : BitVec 32) (v9 : BitVec 32) (v18 : BitVec 32) (v27 : BitVec 32) (v36 : BitVec 32) (v45 : BitVec 32) (v54 : BitVec 32) (v63 : BitVec 32) (k0_t1 : Fin (k0_t1_loop v0 v9 v18 v27 v36 v45 v54 v63).trips) : Fin 4 → Nat :=
  let c0_i32_441 : BitVec 32 := 0#32
  let c1_i32_444 : BitVec 32 := 1#32
  let arg13 : BitVec 32 := Scf.iv c0_i32_441 c1_i32_444 k0_t1
  let c4_i32_522 : BitVec 32 := 4#32
  let v1297 : BitVec 32 := Scalar.remsi arg13 c4_i32_522
  let c1_i32_523 : BitVec 32 := 1#32
  let c0_i32_525 : BitVec 32 := 0#32
  let c0_i32_526 : BitVec 32 := 0#32
  ![v1297.toNat, 1, 0, 0]
def k0_off128 (v1299 : BitVec 32) : Fin 3 → Nat :=
  let c512_i32 : BitVec 32 := 512#32
  let c0_i32_527 : BitVec 32 := 0#32
  ![v1299.toNat, 512, 0]

def k0_chk39 (v1299 : BitVec 32) : Prop :=
  (∀ a, (k0_off128 v1299) a + S1x512x2048.size a ≤ S8x3584x2048.size a) ∧
  (∀ (hinb : ∀ a, (k0_off128 v1299) a + S1x512x2048.size a ≤ S8x3584x2048.size a), (Rect.unit (s := S8x3584x2048) (k0_off128 v1299) S1x512x2048.size hinb).WholeWords (EltTy.packing .fp8e4m3))
theorem k0_off128_inb : ∀ (v1299 : BitVec 32) (k0_hw39 : k0_chk39 v1299), ∀ a, (k0_off128 v1299) a + S1x512x2048.size a ≤ S8x3584x2048.size a := fun v1299 k0_hw39 => k0_hw39.1
theorem k0_off128_wordsfp8e4m3 : ∀ (v1299 : BitVec 32) (k0_hw39 : k0_chk39 v1299), (Rect.unit (s := S8x3584x2048) (k0_off128 v1299) S1x512x2048.size (k0_off128_inb v1299 k0_hw39)).WholeWords (EltTy.packing .fp8e4m3) := fun v1299 k0_hw39 => k0_hw39.2 (k0_off128_inb v1299 k0_hw39)

def k0_off129 (v0 : BitVec 32) (v9 : BitVec 32) (v18 : BitVec 32) (v27 : BitVec 32) (v36 : BitVec 32) (v45 : BitVec 32) (v54 : BitVec 32) (v63 : BitVec 32) (k0_t1 : Fin (k0_t1_loop v0 v9 v18 v27 v36 v45 v54 v63).trips) : Fin 4 → Nat :=
  let c0_i32_441 : BitVec 32 := 0#32
  let c1_i32_444 : BitVec 32 := 1#32
  let arg13 : BitVec 32 := Scf.iv c0_i32_441 c1_i32_444 k0_t1
  let c4_i32_446 : BitVec 32 := 4#32
  let v1011 : BitVec 32 := Scalar.remsi arg13 c4_i32_446
  let v1306 : Index := Scalar.indexCast v1011
  let c1_528 : Index := 1#32
  let c0_529 : Index := 0#32
  let c0_530 : Index := 0#32
  ![v1306.toNat, 1, 0, 0]
def k0_off130 (v1010 : BitVec 32) : Fin 3 → Nat :=
  let v1338 : Index := Scalar.indexCast v1010
  let c0_535 : Index := 0#32
  let c512_536 : Index := 512#32
  ![v1338.toNat, 0, 512]
def k0_off131 (v1010 : BitVec 32) : Fin 3 → Nat :=
  let v1369 : Index := Scalar.indexCast v1010
  let c0_538 : Index := 0#32
  let c640_539 : Index := 640#32
  ![v1369.toNat, 0, 640]
def k0_off132 (v1010 : BitVec 32) : Fin 3 → Nat :=
  let v1400 : Index := Scalar.indexCast v1010
  let c0_541 : Index := 0#32
  let c768_542 : Index := 768#32
  ![v1400.toNat, 0, 768]
def k0_off133 (v1010 : BitVec 32) : Fin 3 → Nat :=
  let v1431 : Index := Scalar.indexCast v1010
  let c0_544 : Index := 0#32
  let c896_545 : Index := 896#32
  ![v1431.toNat, 0, 896]
def k0_off134 (v0 : BitVec 32) (v9 : BitVec 32) (v18 : BitVec 32) (v27 : BitVec 32) (v36 : BitVec 32) (v45 : BitVec 32) (v54 : BitVec 32) (v63 : BitVec 32) (k0_t1 : Fin (k0_t1_loop v0 v9 v18 v27 v36 v45 v54 v63).trips) : Fin 1 → Nat :=
  let c0_i32_441 : BitVec 32 := 0#32
  let c1_i32_444 : BitVec 32 := 1#32
  let arg13 : BitVec 32 := Scf.iv c0_i32_441 c1_i32_444 k0_t1
  let c4_i32_667 : BitVec 32 := 4#32
  let v2149 : BitVec 32 := Scalar.addi arg13 c4_i32_667
  let v2151 : Index := Scalar.indexCast v2149
  ![v2151.toNat]
def k0_cond22 (v0 : BitVec 32) (v9 : BitVec 32) (v18 : BitVec 32) (v27 : BitVec 32) (v36 : BitVec 32) (v45 : BitVec 32) (v54 : BitVec 32) (v63 : BitVec 32) (k0_t1 : Fin (k0_t1_loop v0 v9 v18 v27 v36 v45 v54 v63).trips) : BitVec 1 :=
  let c0_i32_441 : BitVec 32 := 0#32
  let c1_i32_444 : BitVec 32 := 1#32
  let arg13 : BitVec 32 := Scf.iv c0_i32_441 c1_i32_444 k0_t1
  let c4_i32_546 : BitVec 32 := 4#32
  let v1435 : BitVec 32 := Scalar.addi arg13 c4_i32_546
  let c0_i32_3 : BitVec 32 := 0#32
  let c0_i32 : BitVec 32 := 0#32
  let v1 : BitVec 1 := Scalar.cmpi .sgt v0 c0_i32
  let v7 : BitVec 32 := Scalar.extui v1
  let v8 : BitVec 32 := Scalar.addi c0_i32_3 v7
  let c0_i32_4 : BitVec 32 := 0#32
  let v10 : BitVec 1 := Scalar.cmpi .sgt v9 c0_i32_4
  let v16 : BitVec 32 := Scalar.extui v10
  let v17 : BitVec 32 := Scalar.addi v8 v16
  let c0_i32_8 : BitVec 32 := 0#32
  let v19 : BitVec 1 := Scalar.cmpi .sgt v18 c0_i32_8
  let v25 : BitVec 32 := Scalar.extui v19
  let v26 : BitVec 32 := Scalar.addi v17 v25
  let c0_i32_12 : BitVec 32 := 0#32
  let v28 : BitVec 1 := Scalar.cmpi .sgt v27 c0_i32_12
  let v34 : BitVec 32 := Scalar.extui v28
  let v35 : BitVec 32 := Scalar.addi v26 v34
  let c0_i32_16 : BitVec 32 := 0#32
  let v37 : BitVec 1 := Scalar.cmpi .sgt v36 c0_i32_16
  let v43 : BitVec 32 := Scalar.extui v37
  let v44 : BitVec 32 := Scalar.addi v35 v43
  let c0_i32_20 : BitVec 32 := 0#32
  let v46 : BitVec 1 := Scalar.cmpi .sgt v45 c0_i32_20
  let v52 : BitVec 32 := Scalar.extui v46
  let v53 : BitVec 32 := Scalar.addi v44 v52
  let c0_i32_24 : BitVec 32 := 0#32
  let v55 : BitVec 1 := Scalar.cmpi .sgt v54 c0_i32_24
  let v61 : BitVec 32 := Scalar.extui v55
  let v62 : BitVec 32 := Scalar.addi v53 v61
  let c0_i32_28 : BitVec 32 := 0#32
  let v64 : BitVec 1 := Scalar.cmpi .sgt v63 c0_i32_28
  let v70 : BitVec 32 := Scalar.extui v64
  let v71 : BitVec 32 := Scalar.addi v62 v70
  let v1436 : BitVec 1 := Scalar.cmpi .slt v1435 v71
  let v1437 : BitVec 32 := Scalar.extui v1436
  let c0_i32_547 : BitVec 32 := 0#32
  let v1438 : BitVec 1 := Scalar.cmpi .ne v1437 c0_i32_547
  v1438

def k0_off135 (v0 : BitVec 32) (v9 : BitVec 32) (v18 : BitVec 32) (v27 : BitVec 32) (v36 : BitVec 32) (v45 : BitVec 32) (v54 : BitVec 32) (v63 : BitVec 32) (k0_t1 : Fin (k0_t1_loop v0 v9 v18 v27 v36 v45 v54 v63).trips) : Fin 2 → Nat :=
  let c0_i32_441 : BitVec 32 := 0#32
  let c1_i32_444 : BitVec 32 := 1#32
  let arg13 : BitVec 32 := Scf.iv c0_i32_441 c1_i32_444 k0_t1
  let c4_i32_667 : BitVec 32 := 4#32
  let v2149 : BitVec 32 := Scalar.addi arg13 c4_i32_667
  let c4_i32_668 : BitVec 32 := 4#32
  let v2150 : BitVec 32 := Scalar.remsi v2149 c4_i32_668
  let c1_i32_670 : BitVec 32 := 1#32
  ![v2150.toNat, 1]
def k0_off136 (v0 : BitVec 32) (v9 : BitVec 32) (v18 : BitVec 32) (v27 : BitVec 32) (v36 : BitVec 32) (v45 : BitVec 32) (v54 : BitVec 32) (v63 : BitVec 32) (k0_t1 : Fin (k0_t1_loop v0 v9 v18 v27 v36 v45 v54 v63).trips) : Fin 4 → Nat :=
  let c0_i32_441 : BitVec 32 := 0#32
  let c1_i32_444 : BitVec 32 := 1#32
  let arg13 : BitVec 32 := Scf.iv c0_i32_441 c1_i32_444 k0_t1
  let c4_i32_667 : BitVec 32 := 4#32
  let v2149 : BitVec 32 := Scalar.addi arg13 c4_i32_667
  let c4_i32_668 : BitVec 32 := 4#32
  let v2150 : BitVec 32 := Scalar.remsi v2149 c4_i32_668
  let c1_i32_669 : BitVec 32 := 1#32
  let c0_i32_671 : BitVec 32 := 0#32
  let c0_i32_672 : BitVec 32 := 0#32
  ![v2150.toNat, 1, 0, 0]
def k0_off137 (v2152 : BitVec 32) : Fin 3 → Nat :=
  let c512_i32_673 : BitVec 32 := 512#32
  let c0_i32_674 : BitVec 32 := 0#32
  ![v2152.toNat, 512, 0]

def k0_chk40 (v0 : BitVec 32) (v9 : BitVec 32) (v18 : BitVec 32) (v27 : BitVec 32) (v36 : BitVec 32) (v45 : BitVec 32) (v54 : BitVec 32) (v63 : BitVec 32) (k0_t1 : Fin (k0_t1_loop v0 v9 v18 v27 v36 v45 v54 v63).trips) (v2152 : BitVec 32) : Prop :=
  (∀ (k0_h22 : k0_cond22 v0 v9 v18 v27 v36 v45 v54 v63 k0_t1 = 1#1), ∀ a, (k0_off137 v2152) a + S1x512x2048.size a ≤ S8x3584x2048.size a) ∧
  (∀ (k0_h22 : k0_cond22 v0 v9 v18 v27 v36 v45 v54 v63 k0_t1 = 1#1), ∀ (hinb : ∀ a, (k0_off137 v2152) a + S1x512x2048.size a ≤ S8x3584x2048.size a), (Rect.unit (s := S8x3584x2048) (k0_off137 v2152) S1x512x2048.size hinb).WholeWords (EltTy.packing .fp8e4m3))
theorem k0_off137_inb : ∀ (v0 : BitVec 32) (v9 : BitVec 32) (v18 : BitVec 32) (v27 : BitVec 32) (v36 : BitVec 32) (v45 : BitVec 32) (v54 : BitVec 32) (v63 : BitVec 32) (k0_t1 : Fin (k0_t1_loop v0 v9 v18 v27 v36 v45 v54 v63).trips) (v2152 : BitVec 32) (k0_hw40 : k0_chk40 v0 v9 v18 v27 v36 v45 v54 v63 k0_t1 v2152), ∀ (k0_h22 : k0_cond22 v0 v9 v18 v27 v36 v45 v54 v63 k0_t1 = 1#1), ∀ a, (k0_off137 v2152) a + S1x512x2048.size a ≤ S8x3584x2048.size a := fun v0 v9 v18 v27 v36 v45 v54 v63 k0_t1 v2152 k0_hw40 k0_h22 => k0_hw40.1 k0_h22
theorem k0_off137_wordsfp8e4m3 : ∀ (v0 : BitVec 32) (v9 : BitVec 32) (v18 : BitVec 32) (v27 : BitVec 32) (v36 : BitVec 32) (v45 : BitVec 32) (v54 : BitVec 32) (v63 : BitVec 32) (k0_t1 : Fin (k0_t1_loop v0 v9 v18 v27 v36 v45 v54 v63).trips) (v2152 : BitVec 32) (k0_hw40 : k0_chk40 v0 v9 v18 v27 v36 v45 v54 v63 k0_t1 v2152), ∀ (k0_h22 : k0_cond22 v0 v9 v18 v27 v36 v45 v54 v63 k0_t1 = 1#1), (Rect.unit (s := S8x3584x2048) (k0_off137 v2152) S1x512x2048.size (k0_off137_inb v0 v9 v18 v27 v36 v45 v54 v63 k0_t1 v2152 k0_hw40 k0_h22)).WholeWords (EltTy.packing .fp8e4m3) := fun v0 v9 v18 v27 v36 v45 v54 v63 k0_t1 v2152 k0_hw40 k0_h22 => k0_hw40.2 k0_h22 (k0_off137_inb v0 v9 v18 v27 v36 v45 v54 v63 k0_t1 v2152 k0_hw40 k0_h22)

def k0_off138 (v0 : BitVec 32) (v9 : BitVec 32) (v18 : BitVec 32) (v27 : BitVec 32) (v36 : BitVec 32) (v45 : BitVec 32) (v54 : BitVec 32) (v63 : BitVec 32) (k0_t1 : Fin (k0_t1_loop v0 v9 v18 v27 v36 v45 v54 v63).trips) : Fin 1 → Nat :=
  let c0_i32_441 : BitVec 32 := 0#32
  let c1_i32_444 : BitVec 32 := 1#32
  let arg13 : BitVec 32 := Scf.iv c0_i32_441 c1_i32_444 k0_t1
  let v1440 : Index := Scalar.indexCast arg13
  ![v1440.toNat]
def k0_off139 (v0 : BitVec 32) (v9 : BitVec 32) (v18 : BitVec 32) (v27 : BitVec 32) (v36 : BitVec 32) (v45 : BitVec 32) (v54 : BitVec 32) (v63 : BitVec 32) (k0_t1 : Fin (k0_t1_loop v0 v9 v18 v27 v36 v45 v54 v63).trips) : Fin 2 → Nat :=
  let c0_i32_441 : BitVec 32 := 0#32
  let c1_i32_444 : BitVec 32 := 1#32
  let arg13 : BitVec 32 := Scf.iv c0_i32_441 c1_i32_444 k0_t1
  let c4_i32_548 : BitVec 32 := 4#32
  let v1439 : BitVec 32 := Scalar.remsi arg13 c4_i32_548
  let c2_i32_550 : BitVec 32 := 2#32
  ![v1439.toNat, 2]
def k0_off140 (v0 : BitVec 32) (v9 : BitVec 32) (v18 : BitVec 32) (v27 : BitVec 32) (v36 : BitVec 32) (v45 : BitVec 32) (v54 : BitVec 32) (v63 : BitVec 32) (k0_t1 : Fin (k0_t1_loop v0 v9 v18 v27 v36 v45 v54 v63).trips) : Fin 4 → Nat :=
  let c0_i32_441 : BitVec 32 := 0#32
  let c1_i32_444 : BitVec 32 := 1#32
  let arg13 : BitVec 32 := Scf.iv c0_i32_441 c1_i32_444 k0_t1
  let c4_i32_548 : BitVec 32 := 4#32
  let v1439 : BitVec 32 := Scalar.remsi arg13 c4_i32_548
  let c2_i32_549 : BitVec 32 := 2#32
  let c0_i32_551 : BitVec 32 := 0#32
  let c0_i32_552 : BitVec 32 := 0#32
  ![v1439.toNat, 2, 0, 0]
def k0_off141 (v1441 : BitVec 32) : Fin 3 → Nat :=
  let c1024_i32 : BitVec 32 := 1024#32
  let c0_i32_553 : BitVec 32 := 0#32
  ![v1441.toNat, 1024, 0]

def k0_chk41 (v1441 : BitVec 32) : Prop :=
  (∀ a, (k0_off141 v1441) a + S1x512x2048.size a ≤ S8x3584x2048.size a) ∧
  (∀ (hinb : ∀ a, (k0_off141 v1441) a + S1x512x2048.size a ≤ S8x3584x2048.size a), (Rect.unit (s := S8x3584x2048) (k0_off141 v1441) S1x512x2048.size hinb).WholeWords (EltTy.packing .fp8e4m3))
theorem k0_off141_inb : ∀ (v1441 : BitVec 32) (k0_hw41 : k0_chk41 v1441), ∀ a, (k0_off141 v1441) a + S1x512x2048.size a ≤ S8x3584x2048.size a := fun v1441 k0_hw41 => k0_hw41.1
theorem k0_off141_wordsfp8e4m3 : ∀ (v1441 : BitVec 32) (k0_hw41 : k0_chk41 v1441), (Rect.unit (s := S8x3584x2048) (k0_off141 v1441) S1x512x2048.size (k0_off141_inb v1441 k0_hw41)).WholeWords (EltTy.packing .fp8e4m3) := fun v1441 k0_hw41 => k0_hw41.2 (k0_off141_inb v1441 k0_hw41)

def k0_off142 (v0 : BitVec 32) (v9 : BitVec 32) (v18 : BitVec 32) (v27 : BitVec 32) (v36 : BitVec 32) (v45 : BitVec 32) (v54 : BitVec 32) (v63 : BitVec 32) (k0_t1 : Fin (k0_t1_loop v0 v9 v18 v27 v36 v45 v54 v63).trips) : Fin 4 → Nat :=
  let c0_i32_441 : BitVec 32 := 0#32
  let c1_i32_444 : BitVec 32 := 1#32
  let arg13 : BitVec 32 := Scf.iv c0_i32_441 c1_i32_444 k0_t1
  let c4_i32_446 : BitVec 32 := 4#32
  let v1011 : BitVec 32 := Scalar.remsi arg13 c4_i32_446
  let v1448 : Index := Scalar.indexCast v1011
  let c2_554 : Index := 2#32
  let c0_555 : Index := 0#32
  let c0_556 : Index := 0#32
  ![v1448.toNat, 2, 0, 0]
def k0_off143 (v1010 : BitVec 32) : Fin 3 → Nat :=
  let v1480 : Index := Scalar.indexCast v1010
  let c0_561 : Index := 0#32
  let c1024_562 : Index := 1024#32
  ![v1480.toNat, 0, 1024]
def k0_off144 (v1010 : BitVec 32) : Fin 3 → Nat :=
  let v1511 : Index := Scalar.indexCast v1010
  let c0_564 : Index := 0#32
  let c1152_565 : Index := 1152#32
  ![v1511.toNat, 0, 1152]
def k0_off145 (v1010 : BitVec 32) : Fin 3 → Nat :=
  let v1542 : Index := Scalar.indexCast v1010
  let c0_567 : Index := 0#32
  let c1280_568 : Index := 1280#32
  ![v1542.toNat, 0, 1280]
def k0_off146 (v1010 : BitVec 32) : Fin 3 → Nat :=
  let v1573 : Index := Scalar.indexCast v1010
  let c0_570 : Index := 0#32
  let c1408_571 : Index := 1408#32
  ![v1573.toNat, 0, 1408]
def k0_off147 (v0 : BitVec 32) (v9 : BitVec 32) (v18 : BitVec 32) (v27 : BitVec 32) (v36 : BitVec 32) (v45 : BitVec 32) (v54 : BitVec 32) (v63 : BitVec 32) (k0_t1 : Fin (k0_t1_loop v0 v9 v18 v27 v36 v45 v54 v63).trips) : Fin 1 → Nat :=
  let c0_i32_441 : BitVec 32 := 0#32
  let c1_i32_444 : BitVec 32 := 1#32
  let arg13 : BitVec 32 := Scf.iv c0_i32_441 c1_i32_444 k0_t1
  let c4_i32_667 : BitVec 32 := 4#32
  let v2149 : BitVec 32 := Scalar.addi arg13 c4_i32_667
  let v2151 : Index := Scalar.indexCast v2149
  ![v2151.toNat]
def k0_cond23 (v0 : BitVec 32) (v9 : BitVec 32) (v18 : BitVec 32) (v27 : BitVec 32) (v36 : BitVec 32) (v45 : BitVec 32) (v54 : BitVec 32) (v63 : BitVec 32) (k0_t1 : Fin (k0_t1_loop v0 v9 v18 v27 v36 v45 v54 v63).trips) : BitVec 1 :=
  let c0_i32_441 : BitVec 32 := 0#32
  let c1_i32_444 : BitVec 32 := 1#32
  let arg13 : BitVec 32 := Scf.iv c0_i32_441 c1_i32_444 k0_t1
  let c4_i32_572 : BitVec 32 := 4#32
  let v1577 : BitVec 32 := Scalar.addi arg13 c4_i32_572
  let c0_i32_3 : BitVec 32 := 0#32
  let c0_i32 : BitVec 32 := 0#32
  let v1 : BitVec 1 := Scalar.cmpi .sgt v0 c0_i32
  let v7 : BitVec 32 := Scalar.extui v1
  let v8 : BitVec 32 := Scalar.addi c0_i32_3 v7
  let c0_i32_4 : BitVec 32 := 0#32
  let v10 : BitVec 1 := Scalar.cmpi .sgt v9 c0_i32_4
  let v16 : BitVec 32 := Scalar.extui v10
  let v17 : BitVec 32 := Scalar.addi v8 v16
  let c0_i32_8 : BitVec 32 := 0#32
  let v19 : BitVec 1 := Scalar.cmpi .sgt v18 c0_i32_8
  let v25 : BitVec 32 := Scalar.extui v19
  let v26 : BitVec 32 := Scalar.addi v17 v25
  let c0_i32_12 : BitVec 32 := 0#32
  let v28 : BitVec 1 := Scalar.cmpi .sgt v27 c0_i32_12
  let v34 : BitVec 32 := Scalar.extui v28
  let v35 : BitVec 32 := Scalar.addi v26 v34
  let c0_i32_16 : BitVec 32 := 0#32
  let v37 : BitVec 1 := Scalar.cmpi .sgt v36 c0_i32_16
  let v43 : BitVec 32 := Scalar.extui v37
  let v44 : BitVec 32 := Scalar.addi v35 v43
  let c0_i32_20 : BitVec 32 := 0#32
  let v46 : BitVec 1 := Scalar.cmpi .sgt v45 c0_i32_20
  let v52 : BitVec 32 := Scalar.extui v46
  let v53 : BitVec 32 := Scalar.addi v44 v52
  let c0_i32_24 : BitVec 32 := 0#32
  let v55 : BitVec 1 := Scalar.cmpi .sgt v54 c0_i32_24
  let v61 : BitVec 32 := Scalar.extui v55
  let v62 : BitVec 32 := Scalar.addi v53 v61
  let c0_i32_28 : BitVec 32 := 0#32
  let v64 : BitVec 1 := Scalar.cmpi .sgt v63 c0_i32_28
  let v70 : BitVec 32 := Scalar.extui v64
  let v71 : BitVec 32 := Scalar.addi v62 v70
  let v1578 : BitVec 1 := Scalar.cmpi .slt v1577 v71
  let v1579 : BitVec 32 := Scalar.extui v1578
  let c0_i32_573 : BitVec 32 := 0#32
  let v1580 : BitVec 1 := Scalar.cmpi .ne v1579 c0_i32_573
  v1580

def k0_off148 (v0 : BitVec 32) (v9 : BitVec 32) (v18 : BitVec 32) (v27 : BitVec 32) (v36 : BitVec 32) (v45 : BitVec 32) (v54 : BitVec 32) (v63 : BitVec 32) (k0_t1 : Fin (k0_t1_loop v0 v9 v18 v27 v36 v45 v54 v63).trips) : Fin 2 → Nat :=
  let c0_i32_441 : BitVec 32 := 0#32
  let c1_i32_444 : BitVec 32 := 1#32
  let arg13 : BitVec 32 := Scf.iv c0_i32_441 c1_i32_444 k0_t1
  let c4_i32_667 : BitVec 32 := 4#32
  let v2149 : BitVec 32 := Scalar.addi arg13 c4_i32_667
  let c4_i32_668 : BitVec 32 := 4#32
  let v2150 : BitVec 32 := Scalar.remsi v2149 c4_i32_668
  let c2_i32_670 : BitVec 32 := 2#32
  ![v2150.toNat, 2]
def k0_off149 (v0 : BitVec 32) (v9 : BitVec 32) (v18 : BitVec 32) (v27 : BitVec 32) (v36 : BitVec 32) (v45 : BitVec 32) (v54 : BitVec 32) (v63 : BitVec 32) (k0_t1 : Fin (k0_t1_loop v0 v9 v18 v27 v36 v45 v54 v63).trips) : Fin 4 → Nat :=
  let c0_i32_441 : BitVec 32 := 0#32
  let c1_i32_444 : BitVec 32 := 1#32
  let arg13 : BitVec 32 := Scf.iv c0_i32_441 c1_i32_444 k0_t1
  let c4_i32_667 : BitVec 32 := 4#32
  let v2149 : BitVec 32 := Scalar.addi arg13 c4_i32_667
  let c4_i32_668 : BitVec 32 := 4#32
  let v2150 : BitVec 32 := Scalar.remsi v2149 c4_i32_668
  let c2_i32_669 : BitVec 32 := 2#32
  let c0_i32_671 : BitVec 32 := 0#32
  let c0_i32_672 : BitVec 32 := 0#32
  ![v2150.toNat, 2, 0, 0]
def k0_off150 (v2152 : BitVec 32) : Fin 3 → Nat :=
  let c1024_i32_673 : BitVec 32 := 1024#32
  let c0_i32_674 : BitVec 32 := 0#32
  ![v2152.toNat, 1024, 0]

def k0_chk42 (v0 : BitVec 32) (v9 : BitVec 32) (v18 : BitVec 32) (v27 : BitVec 32) (v36 : BitVec 32) (v45 : BitVec 32) (v54 : BitVec 32) (v63 : BitVec 32) (k0_t1 : Fin (k0_t1_loop v0 v9 v18 v27 v36 v45 v54 v63).trips) (v2152 : BitVec 32) : Prop :=
  (∀ (k0_h23 : k0_cond23 v0 v9 v18 v27 v36 v45 v54 v63 k0_t1 = 1#1), ∀ a, (k0_off150 v2152) a + S1x512x2048.size a ≤ S8x3584x2048.size a) ∧
  (∀ (k0_h23 : k0_cond23 v0 v9 v18 v27 v36 v45 v54 v63 k0_t1 = 1#1), ∀ (hinb : ∀ a, (k0_off150 v2152) a + S1x512x2048.size a ≤ S8x3584x2048.size a), (Rect.unit (s := S8x3584x2048) (k0_off150 v2152) S1x512x2048.size hinb).WholeWords (EltTy.packing .fp8e4m3))
theorem k0_off150_inb : ∀ (v0 : BitVec 32) (v9 : BitVec 32) (v18 : BitVec 32) (v27 : BitVec 32) (v36 : BitVec 32) (v45 : BitVec 32) (v54 : BitVec 32) (v63 : BitVec 32) (k0_t1 : Fin (k0_t1_loop v0 v9 v18 v27 v36 v45 v54 v63).trips) (v2152 : BitVec 32) (k0_hw42 : k0_chk42 v0 v9 v18 v27 v36 v45 v54 v63 k0_t1 v2152), ∀ (k0_h23 : k0_cond23 v0 v9 v18 v27 v36 v45 v54 v63 k0_t1 = 1#1), ∀ a, (k0_off150 v2152) a + S1x512x2048.size a ≤ S8x3584x2048.size a := fun v0 v9 v18 v27 v36 v45 v54 v63 k0_t1 v2152 k0_hw42 k0_h23 => k0_hw42.1 k0_h23
theorem k0_off150_wordsfp8e4m3 : ∀ (v0 : BitVec 32) (v9 : BitVec 32) (v18 : BitVec 32) (v27 : BitVec 32) (v36 : BitVec 32) (v45 : BitVec 32) (v54 : BitVec 32) (v63 : BitVec 32) (k0_t1 : Fin (k0_t1_loop v0 v9 v18 v27 v36 v45 v54 v63).trips) (v2152 : BitVec 32) (k0_hw42 : k0_chk42 v0 v9 v18 v27 v36 v45 v54 v63 k0_t1 v2152), ∀ (k0_h23 : k0_cond23 v0 v9 v18 v27 v36 v45 v54 v63 k0_t1 = 1#1), (Rect.unit (s := S8x3584x2048) (k0_off150 v2152) S1x512x2048.size (k0_off150_inb v0 v9 v18 v27 v36 v45 v54 v63 k0_t1 v2152 k0_hw42 k0_h23)).WholeWords (EltTy.packing .fp8e4m3) := fun v0 v9 v18 v27 v36 v45 v54 v63 k0_t1 v2152 k0_hw42 k0_h23 => k0_hw42.2 k0_h23 (k0_off150_inb v0 v9 v18 v27 v36 v45 v54 v63 k0_t1 v2152 k0_hw42 k0_h23)

def k0_off151 (v0 : BitVec 32) (v9 : BitVec 32) (v18 : BitVec 32) (v27 : BitVec 32) (v36 : BitVec 32) (v45 : BitVec 32) (v54 : BitVec 32) (v63 : BitVec 32) (k0_t1 : Fin (k0_t1_loop v0 v9 v18 v27 v36 v45 v54 v63).trips) : Fin 1 → Nat :=
  let c0_i32_441 : BitVec 32 := 0#32
  let c1_i32_444 : BitVec 32 := 1#32
  let arg13 : BitVec 32 := Scf.iv c0_i32_441 c1_i32_444 k0_t1
  let v1582 : Index := Scalar.indexCast arg13
  ![v1582.toNat]
def k0_off152 (v0 : BitVec 32) (v9 : BitVec 32) (v18 : BitVec 32) (v27 : BitVec 32) (v36 : BitVec 32) (v45 : BitVec 32) (v54 : BitVec 32) (v63 : BitVec 32) (k0_t1 : Fin (k0_t1_loop v0 v9 v18 v27 v36 v45 v54 v63).trips) : Fin 2 → Nat :=
  let c0_i32_441 : BitVec 32 := 0#32
  let c1_i32_444 : BitVec 32 := 1#32
  let arg13 : BitVec 32 := Scf.iv c0_i32_441 c1_i32_444 k0_t1
  let c4_i32_574 : BitVec 32 := 4#32
  let v1581 : BitVec 32 := Scalar.remsi arg13 c4_i32_574
  let c3_i32_576 : BitVec 32 := 3#32
  ![v1581.toNat, 3]
def k0_off153 (v0 : BitVec 32) (v9 : BitVec 32) (v18 : BitVec 32) (v27 : BitVec 32) (v36 : BitVec 32) (v45 : BitVec 32) (v54 : BitVec 32) (v63 : BitVec 32) (k0_t1 : Fin (k0_t1_loop v0 v9 v18 v27 v36 v45 v54 v63).trips) : Fin 4 → Nat :=
  let c0_i32_441 : BitVec 32 := 0#32
  let c1_i32_444 : BitVec 32 := 1#32
  let arg13 : BitVec 32 := Scf.iv c0_i32_441 c1_i32_444 k0_t1
  let c4_i32_574 : BitVec 32 := 4#32
  let v1581 : BitVec 32 := Scalar.remsi arg13 c4_i32_574
  let c3_i32_575 : BitVec 32 := 3#32
  let c0_i32_577 : BitVec 32 := 0#32
  let c0_i32_578 : BitVec 32 := 0#32
  ![v1581.toNat, 3, 0, 0]
def k0_off154 (v1583 : BitVec 32) : Fin 3 → Nat :=
  let c1536_i32 : BitVec 32 := 1536#32
  let c0_i32_579 : BitVec 32 := 0#32
  ![v1583.toNat, 1536, 0]

def k0_chk43 (v1583 : BitVec 32) : Prop :=
  (∀ a, (k0_off154 v1583) a + S1x512x2048.size a ≤ S8x3584x2048.size a) ∧
  (∀ (hinb : ∀ a, (k0_off154 v1583) a + S1x512x2048.size a ≤ S8x3584x2048.size a), (Rect.unit (s := S8x3584x2048) (k0_off154 v1583) S1x512x2048.size hinb).WholeWords (EltTy.packing .fp8e4m3))
theorem k0_off154_inb : ∀ (v1583 : BitVec 32) (k0_hw43 : k0_chk43 v1583), ∀ a, (k0_off154 v1583) a + S1x512x2048.size a ≤ S8x3584x2048.size a := fun v1583 k0_hw43 => k0_hw43.1
theorem k0_off154_wordsfp8e4m3 : ∀ (v1583 : BitVec 32) (k0_hw43 : k0_chk43 v1583), (Rect.unit (s := S8x3584x2048) (k0_off154 v1583) S1x512x2048.size (k0_off154_inb v1583 k0_hw43)).WholeWords (EltTy.packing .fp8e4m3) := fun v1583 k0_hw43 => k0_hw43.2 (k0_off154_inb v1583 k0_hw43)

def k0_off155 (v0 : BitVec 32) (v9 : BitVec 32) (v18 : BitVec 32) (v27 : BitVec 32) (v36 : BitVec 32) (v45 : BitVec 32) (v54 : BitVec 32) (v63 : BitVec 32) (k0_t1 : Fin (k0_t1_loop v0 v9 v18 v27 v36 v45 v54 v63).trips) : Fin 4 → Nat :=
  let c0_i32_441 : BitVec 32 := 0#32
  let c1_i32_444 : BitVec 32 := 1#32
  let arg13 : BitVec 32 := Scf.iv c0_i32_441 c1_i32_444 k0_t1
  let c4_i32_446 : BitVec 32 := 4#32
  let v1011 : BitVec 32 := Scalar.remsi arg13 c4_i32_446
  let v1590 : Index := Scalar.indexCast v1011
  let c3_580 : Index := 3#32
  let c0_581 : Index := 0#32
  let c0_582 : Index := 0#32
  ![v1590.toNat, 3, 0, 0]
def k0_off156 (v1010 : BitVec 32) : Fin 3 → Nat :=
  let v1622 : Index := Scalar.indexCast v1010
  let c0_587 : Index := 0#32
  let c1536_588 : Index := 1536#32
  ![v1622.toNat, 0, 1536]
def k0_off157 (v1010 : BitVec 32) : Fin 3 → Nat :=
  let v1653 : Index := Scalar.indexCast v1010
  let c0_590 : Index := 0#32
  let c1664_591 : Index := 1664#32
  ![v1653.toNat, 0, 1664]
def k0_off158 (v1010 : BitVec 32) : Fin 3 → Nat :=
  let v1684 : Index := Scalar.indexCast v1010
  let c0_593 : Index := 0#32
  let c1792_594 : Index := 1792#32
  ![v1684.toNat, 0, 1792]
def k0_off159 (v1010 : BitVec 32) : Fin 3 → Nat :=
  let v1715 : Index := Scalar.indexCast v1010
  let c0_596 : Index := 0#32
  let c1920_597 : Index := 1920#32
  ![v1715.toNat, 0, 1920]
def k0_off160 (v0 : BitVec 32) (v9 : BitVec 32) (v18 : BitVec 32) (v27 : BitVec 32) (v36 : BitVec 32) (v45 : BitVec 32) (v54 : BitVec 32) (v63 : BitVec 32) (k0_t1 : Fin (k0_t1_loop v0 v9 v18 v27 v36 v45 v54 v63).trips) : Fin 1 → Nat :=
  let c0_i32_441 : BitVec 32 := 0#32
  let c1_i32_444 : BitVec 32 := 1#32
  let arg13 : BitVec 32 := Scf.iv c0_i32_441 c1_i32_444 k0_t1
  let c4_i32_667 : BitVec 32 := 4#32
  let v2149 : BitVec 32 := Scalar.addi arg13 c4_i32_667
  let v2151 : Index := Scalar.indexCast v2149
  ![v2151.toNat]
def k0_cond24 (v0 : BitVec 32) (v9 : BitVec 32) (v18 : BitVec 32) (v27 : BitVec 32) (v36 : BitVec 32) (v45 : BitVec 32) (v54 : BitVec 32) (v63 : BitVec 32) (k0_t1 : Fin (k0_t1_loop v0 v9 v18 v27 v36 v45 v54 v63).trips) : BitVec 1 :=
  let c0_i32_441 : BitVec 32 := 0#32
  let c1_i32_444 : BitVec 32 := 1#32
  let arg13 : BitVec 32 := Scf.iv c0_i32_441 c1_i32_444 k0_t1
  let c4_i32_598 : BitVec 32 := 4#32
  let v1719 : BitVec 32 := Scalar.addi arg13 c4_i32_598
  let c0_i32_3 : BitVec 32 := 0#32
  let c0_i32 : BitVec 32 := 0#32
  let v1 : BitVec 1 := Scalar.cmpi .sgt v0 c0_i32
  let v7 : BitVec 32 := Scalar.extui v1
  let v8 : BitVec 32 := Scalar.addi c0_i32_3 v7
  let c0_i32_4 : BitVec 32 := 0#32
  let v10 : BitVec 1 := Scalar.cmpi .sgt v9 c0_i32_4
  let v16 : BitVec 32 := Scalar.extui v10
  let v17 : BitVec 32 := Scalar.addi v8 v16
  let c0_i32_8 : BitVec 32 := 0#32
  let v19 : BitVec 1 := Scalar.cmpi .sgt v18 c0_i32_8
  let v25 : BitVec 32 := Scalar.extui v19
  let v26 : BitVec 32 := Scalar.addi v17 v25
  let c0_i32_12 : BitVec 32 := 0#32
  let v28 : BitVec 1 := Scalar.cmpi .sgt v27 c0_i32_12
  let v34 : BitVec 32 := Scalar.extui v28
  let v35 : BitVec 32 := Scalar.addi v26 v34
  let c0_i32_16 : BitVec 32 := 0#32
  let v37 : BitVec 1 := Scalar.cmpi .sgt v36 c0_i32_16
  let v43 : BitVec 32 := Scalar.extui v37
  let v44 : BitVec 32 := Scalar.addi v35 v43
  let c0_i32_20 : BitVec 32 := 0#32
  let v46 : BitVec 1 := Scalar.cmpi .sgt v45 c0_i32_20
  let v52 : BitVec 32 := Scalar.extui v46
  let v53 : BitVec 32 := Scalar.addi v44 v52
  let c0_i32_24 : BitVec 32 := 0#32
  let v55 : BitVec 1 := Scalar.cmpi .sgt v54 c0_i32_24
  let v61 : BitVec 32 := Scalar.extui v55
  let v62 : BitVec 32 := Scalar.addi v53 v61
  let c0_i32_28 : BitVec 32 := 0#32
  let v64 : BitVec 1 := Scalar.cmpi .sgt v63 c0_i32_28
  let v70 : BitVec 32 := Scalar.extui v64
  let v71 : BitVec 32 := Scalar.addi v62 v70
  let v1720 : BitVec 1 := Scalar.cmpi .slt v1719 v71
  let v1721 : BitVec 32 := Scalar.extui v1720
  let c0_i32_599 : BitVec 32 := 0#32
  let v1722 : BitVec 1 := Scalar.cmpi .ne v1721 c0_i32_599
  v1722

def k0_off161 (v0 : BitVec 32) (v9 : BitVec 32) (v18 : BitVec 32) (v27 : BitVec 32) (v36 : BitVec 32) (v45 : BitVec 32) (v54 : BitVec 32) (v63 : BitVec 32) (k0_t1 : Fin (k0_t1_loop v0 v9 v18 v27 v36 v45 v54 v63).trips) : Fin 2 → Nat :=
  let c0_i32_441 : BitVec 32 := 0#32
  let c1_i32_444 : BitVec 32 := 1#32
  let arg13 : BitVec 32 := Scf.iv c0_i32_441 c1_i32_444 k0_t1
  let c4_i32_667 : BitVec 32 := 4#32
  let v2149 : BitVec 32 := Scalar.addi arg13 c4_i32_667
  let c4_i32_668 : BitVec 32 := 4#32
  let v2150 : BitVec 32 := Scalar.remsi v2149 c4_i32_668
  let c3_i32_670 : BitVec 32 := 3#32
  ![v2150.toNat, 3]
def k0_off162 (v0 : BitVec 32) (v9 : BitVec 32) (v18 : BitVec 32) (v27 : BitVec 32) (v36 : BitVec 32) (v45 : BitVec 32) (v54 : BitVec 32) (v63 : BitVec 32) (k0_t1 : Fin (k0_t1_loop v0 v9 v18 v27 v36 v45 v54 v63).trips) : Fin 4 → Nat :=
  let c0_i32_441 : BitVec 32 := 0#32
  let c1_i32_444 : BitVec 32 := 1#32
  let arg13 : BitVec 32 := Scf.iv c0_i32_441 c1_i32_444 k0_t1
  let c4_i32_667 : BitVec 32 := 4#32
  let v2149 : BitVec 32 := Scalar.addi arg13 c4_i32_667
  let c4_i32_668 : BitVec 32 := 4#32
  let v2150 : BitVec 32 := Scalar.remsi v2149 c4_i32_668
  let c3_i32_669 : BitVec 32 := 3#32
  let c0_i32_671 : BitVec 32 := 0#32
  let c0_i32_672 : BitVec 32 := 0#32
  ![v2150.toNat, 3, 0, 0]
def k0_off163 (v2152 : BitVec 32) : Fin 3 → Nat :=
  let c1536_i32_673 : BitVec 32 := 1536#32
  let c0_i32_674 : BitVec 32 := 0#32
  ![v2152.toNat, 1536, 0]

def k0_chk44 (v0 : BitVec 32) (v9 : BitVec 32) (v18 : BitVec 32) (v27 : BitVec 32) (v36 : BitVec 32) (v45 : BitVec 32) (v54 : BitVec 32) (v63 : BitVec 32) (k0_t1 : Fin (k0_t1_loop v0 v9 v18 v27 v36 v45 v54 v63).trips) (v2152 : BitVec 32) : Prop :=
  (∀ (k0_h24 : k0_cond24 v0 v9 v18 v27 v36 v45 v54 v63 k0_t1 = 1#1), ∀ a, (k0_off163 v2152) a + S1x512x2048.size a ≤ S8x3584x2048.size a) ∧
  (∀ (k0_h24 : k0_cond24 v0 v9 v18 v27 v36 v45 v54 v63 k0_t1 = 1#1), ∀ (hinb : ∀ a, (k0_off163 v2152) a + S1x512x2048.size a ≤ S8x3584x2048.size a), (Rect.unit (s := S8x3584x2048) (k0_off163 v2152) S1x512x2048.size hinb).WholeWords (EltTy.packing .fp8e4m3))
theorem k0_off163_inb : ∀ (v0 : BitVec 32) (v9 : BitVec 32) (v18 : BitVec 32) (v27 : BitVec 32) (v36 : BitVec 32) (v45 : BitVec 32) (v54 : BitVec 32) (v63 : BitVec 32) (k0_t1 : Fin (k0_t1_loop v0 v9 v18 v27 v36 v45 v54 v63).trips) (v2152 : BitVec 32) (k0_hw44 : k0_chk44 v0 v9 v18 v27 v36 v45 v54 v63 k0_t1 v2152), ∀ (k0_h24 : k0_cond24 v0 v9 v18 v27 v36 v45 v54 v63 k0_t1 = 1#1), ∀ a, (k0_off163 v2152) a + S1x512x2048.size a ≤ S8x3584x2048.size a := fun v0 v9 v18 v27 v36 v45 v54 v63 k0_t1 v2152 k0_hw44 k0_h24 => k0_hw44.1 k0_h24
theorem k0_off163_wordsfp8e4m3 : ∀ (v0 : BitVec 32) (v9 : BitVec 32) (v18 : BitVec 32) (v27 : BitVec 32) (v36 : BitVec 32) (v45 : BitVec 32) (v54 : BitVec 32) (v63 : BitVec 32) (k0_t1 : Fin (k0_t1_loop v0 v9 v18 v27 v36 v45 v54 v63).trips) (v2152 : BitVec 32) (k0_hw44 : k0_chk44 v0 v9 v18 v27 v36 v45 v54 v63 k0_t1 v2152), ∀ (k0_h24 : k0_cond24 v0 v9 v18 v27 v36 v45 v54 v63 k0_t1 = 1#1), (Rect.unit (s := S8x3584x2048) (k0_off163 v2152) S1x512x2048.size (k0_off163_inb v0 v9 v18 v27 v36 v45 v54 v63 k0_t1 v2152 k0_hw44 k0_h24)).WholeWords (EltTy.packing .fp8e4m3) := fun v0 v9 v18 v27 v36 v45 v54 v63 k0_t1 v2152 k0_hw44 k0_h24 => k0_hw44.2 k0_h24 (k0_off163_inb v0 v9 v18 v27 v36 v45 v54 v63 k0_t1 v2152 k0_hw44 k0_h24)

def k0_off164 (v0 : BitVec 32) (v9 : BitVec 32) (v18 : BitVec 32) (v27 : BitVec 32) (v36 : BitVec 32) (v45 : BitVec 32) (v54 : BitVec 32) (v63 : BitVec 32) (k0_t1 : Fin (k0_t1_loop v0 v9 v18 v27 v36 v45 v54 v63).trips) : Fin 1 → Nat :=
  let c0_i32_441 : BitVec 32 := 0#32
  let c1_i32_444 : BitVec 32 := 1#32
  let arg13 : BitVec 32 := Scf.iv c0_i32_441 c1_i32_444 k0_t1
  let v1724 : Index := Scalar.indexCast arg13
  ![v1724.toNat]
def k0_off165 (v0 : BitVec 32) (v9 : BitVec 32) (v18 : BitVec 32) (v27 : BitVec 32) (v36 : BitVec 32) (v45 : BitVec 32) (v54 : BitVec 32) (v63 : BitVec 32) (k0_t1 : Fin (k0_t1_loop v0 v9 v18 v27 v36 v45 v54 v63).trips) : Fin 2 → Nat :=
  let c0_i32_441 : BitVec 32 := 0#32
  let c1_i32_444 : BitVec 32 := 1#32
  let arg13 : BitVec 32 := Scf.iv c0_i32_441 c1_i32_444 k0_t1
  let c4_i32_600 : BitVec 32 := 4#32
  let v1723 : BitVec 32 := Scalar.remsi arg13 c4_i32_600
  let c4_i32_602 : BitVec 32 := 4#32
  ![v1723.toNat, 4]
def k0_off166 (v0 : BitVec 32) (v9 : BitVec 32) (v18 : BitVec 32) (v27 : BitVec 32) (v36 : BitVec 32) (v45 : BitVec 32) (v54 : BitVec 32) (v63 : BitVec 32) (k0_t1 : Fin (k0_t1_loop v0 v9 v18 v27 v36 v45 v54 v63).trips) : Fin 4 → Nat :=
  let c0_i32_441 : BitVec 32 := 0#32
  let c1_i32_444 : BitVec 32 := 1#32
  let arg13 : BitVec 32 := Scf.iv c0_i32_441 c1_i32_444 k0_t1
  let c4_i32_600 : BitVec 32 := 4#32
  let v1723 : BitVec 32 := Scalar.remsi arg13 c4_i32_600
  let c4_i32_601 : BitVec 32 := 4#32
  let c0_i32_603 : BitVec 32 := 0#32
  let c0_i32_604 : BitVec 32 := 0#32
  ![v1723.toNat, 4, 0, 0]
def k0_off167 (v1725 : BitVec 32) : Fin 3 → Nat :=
  let c2048_i32 : BitVec 32 := 2048#32
  let c0_i32_605 : BitVec 32 := 0#32
  ![v1725.toNat, 2048, 0]

def k0_chk45 (v1725 : BitVec 32) : Prop :=
  (∀ a, (k0_off167 v1725) a + S1x512x2048.size a ≤ S8x3584x2048.size a) ∧
  (∀ (hinb : ∀ a, (k0_off167 v1725) a + S1x512x2048.size a ≤ S8x3584x2048.size a), (Rect.unit (s := S8x3584x2048) (k0_off167 v1725) S1x512x2048.size hinb).WholeWords (EltTy.packing .fp8e4m3))
theorem k0_off167_inb : ∀ (v1725 : BitVec 32) (k0_hw45 : k0_chk45 v1725), ∀ a, (k0_off167 v1725) a + S1x512x2048.size a ≤ S8x3584x2048.size a := fun v1725 k0_hw45 => k0_hw45.1
theorem k0_off167_wordsfp8e4m3 : ∀ (v1725 : BitVec 32) (k0_hw45 : k0_chk45 v1725), (Rect.unit (s := S8x3584x2048) (k0_off167 v1725) S1x512x2048.size (k0_off167_inb v1725 k0_hw45)).WholeWords (EltTy.packing .fp8e4m3) := fun v1725 k0_hw45 => k0_hw45.2 (k0_off167_inb v1725 k0_hw45)

def k0_off168 (v0 : BitVec 32) (v9 : BitVec 32) (v18 : BitVec 32) (v27 : BitVec 32) (v36 : BitVec 32) (v45 : BitVec 32) (v54 : BitVec 32) (v63 : BitVec 32) (k0_t1 : Fin (k0_t1_loop v0 v9 v18 v27 v36 v45 v54 v63).trips) : Fin 4 → Nat :=
  let c0_i32_441 : BitVec 32 := 0#32
  let c1_i32_444 : BitVec 32 := 1#32
  let arg13 : BitVec 32 := Scf.iv c0_i32_441 c1_i32_444 k0_t1
  let c4_i32_446 : BitVec 32 := 4#32
  let v1011 : BitVec 32 := Scalar.remsi arg13 c4_i32_446
  let v1732 : Index := Scalar.indexCast v1011
  let c4_606 : Index := 4#32
  let c0_607 : Index := 0#32
  let c0_608 : Index := 0#32
  ![v1732.toNat, 4, 0, 0]
def k0_off169 (v1010 : BitVec 32) : Fin 3 → Nat :=
  let v1764 : Index := Scalar.indexCast v1010
  let c0_613 : Index := 0#32
  let c2048 : Index := 2048#32
  ![v1764.toNat, 0, 2048]
def k0_off170 (v1010 : BitVec 32) : Fin 3 → Nat :=
  let v1795 : Index := Scalar.indexCast v1010
  let c0_615 : Index := 0#32
  let c2176 : Index := 2176#32
  ![v1795.toNat, 0, 2176]
def k0_off171 (v1010 : BitVec 32) : Fin 3 → Nat :=
  let v1826 : Index := Scalar.indexCast v1010
  let c0_617 : Index := 0#32
  let c2304 : Index := 2304#32
  ![v1826.toNat, 0, 2304]
def k0_off172 (v1010 : BitVec 32) : Fin 3 → Nat :=
  let v1857 : Index := Scalar.indexCast v1010
  let c0_619 : Index := 0#32
  let c2432 : Index := 2432#32
  ![v1857.toNat, 0, 2432]
def k0_off173 (v0 : BitVec 32) (v9 : BitVec 32) (v18 : BitVec 32) (v27 : BitVec 32) (v36 : BitVec 32) (v45 : BitVec 32) (v54 : BitVec 32) (v63 : BitVec 32) (k0_t1 : Fin (k0_t1_loop v0 v9 v18 v27 v36 v45 v54 v63).trips) : Fin 1 → Nat :=
  let c0_i32_441 : BitVec 32 := 0#32
  let c1_i32_444 : BitVec 32 := 1#32
  let arg13 : BitVec 32 := Scf.iv c0_i32_441 c1_i32_444 k0_t1
  let c4_i32_667 : BitVec 32 := 4#32
  let v2149 : BitVec 32 := Scalar.addi arg13 c4_i32_667
  let v2151 : Index := Scalar.indexCast v2149
  ![v2151.toNat]
def k0_cond25 (v0 : BitVec 32) (v9 : BitVec 32) (v18 : BitVec 32) (v27 : BitVec 32) (v36 : BitVec 32) (v45 : BitVec 32) (v54 : BitVec 32) (v63 : BitVec 32) (k0_t1 : Fin (k0_t1_loop v0 v9 v18 v27 v36 v45 v54 v63).trips) : BitVec 1 :=
  let c0_i32_441 : BitVec 32 := 0#32
  let c1_i32_444 : BitVec 32 := 1#32
  let arg13 : BitVec 32 := Scf.iv c0_i32_441 c1_i32_444 k0_t1
  let c4_i32_620 : BitVec 32 := 4#32
  let v1861 : BitVec 32 := Scalar.addi arg13 c4_i32_620
  let c0_i32_3 : BitVec 32 := 0#32
  let c0_i32 : BitVec 32 := 0#32
  let v1 : BitVec 1 := Scalar.cmpi .sgt v0 c0_i32
  let v7 : BitVec 32 := Scalar.extui v1
  let v8 : BitVec 32 := Scalar.addi c0_i32_3 v7
  let c0_i32_4 : BitVec 32 := 0#32
  let v10 : BitVec 1 := Scalar.cmpi .sgt v9 c0_i32_4
  let v16 : BitVec 32 := Scalar.extui v10
  let v17 : BitVec 32 := Scalar.addi v8 v16
  let c0_i32_8 : BitVec 32 := 0#32
  let v19 : BitVec 1 := Scalar.cmpi .sgt v18 c0_i32_8
  let v25 : BitVec 32 := Scalar.extui v19
  let v26 : BitVec 32 := Scalar.addi v17 v25
  let c0_i32_12 : BitVec 32 := 0#32
  let v28 : BitVec 1 := Scalar.cmpi .sgt v27 c0_i32_12
  let v34 : BitVec 32 := Scalar.extui v28
  let v35 : BitVec 32 := Scalar.addi v26 v34
  let c0_i32_16 : BitVec 32 := 0#32
  let v37 : BitVec 1 := Scalar.cmpi .sgt v36 c0_i32_16
  let v43 : BitVec 32 := Scalar.extui v37
  let v44 : BitVec 32 := Scalar.addi v35 v43
  let c0_i32_20 : BitVec 32 := 0#32
  let v46 : BitVec 1 := Scalar.cmpi .sgt v45 c0_i32_20
  let v52 : BitVec 32 := Scalar.extui v46
  let v53 : BitVec 32 := Scalar.addi v44 v52
  let c0_i32_24 : BitVec 32 := 0#32
  let v55 : BitVec 1 := Scalar.cmpi .sgt v54 c0_i32_24
  let v61 : BitVec 32 := Scalar.extui v55
  let v62 : BitVec 32 := Scalar.addi v53 v61
  let c0_i32_28 : BitVec 32 := 0#32
  let v64 : BitVec 1 := Scalar.cmpi .sgt v63 c0_i32_28
  let v70 : BitVec 32 := Scalar.extui v64
  let v71 : BitVec 32 := Scalar.addi v62 v70
  let v1862 : BitVec 1 := Scalar.cmpi .slt v1861 v71
  let v1863 : BitVec 32 := Scalar.extui v1862
  let c0_i32_621 : BitVec 32 := 0#32
  let v1864 : BitVec 1 := Scalar.cmpi .ne v1863 c0_i32_621
  v1864

def k0_off174 (v0 : BitVec 32) (v9 : BitVec 32) (v18 : BitVec 32) (v27 : BitVec 32) (v36 : BitVec 32) (v45 : BitVec 32) (v54 : BitVec 32) (v63 : BitVec 32) (k0_t1 : Fin (k0_t1_loop v0 v9 v18 v27 v36 v45 v54 v63).trips) : Fin 2 → Nat :=
  let c0_i32_441 : BitVec 32 := 0#32
  let c1_i32_444 : BitVec 32 := 1#32
  let arg13 : BitVec 32 := Scf.iv c0_i32_441 c1_i32_444 k0_t1
  let c4_i32_667 : BitVec 32 := 4#32
  let v2149 : BitVec 32 := Scalar.addi arg13 c4_i32_667
  let c4_i32_668 : BitVec 32 := 4#32
  let v2150 : BitVec 32 := Scalar.remsi v2149 c4_i32_668
  let c4_i32_670 : BitVec 32 := 4#32
  ![v2150.toNat, 4]
def k0_off175 (v0 : BitVec 32) (v9 : BitVec 32) (v18 : BitVec 32) (v27 : BitVec 32) (v36 : BitVec 32) (v45 : BitVec 32) (v54 : BitVec 32) (v63 : BitVec 32) (k0_t1 : Fin (k0_t1_loop v0 v9 v18 v27 v36 v45 v54 v63).trips) : Fin 4 → Nat :=
  let c0_i32_441 : BitVec 32 := 0#32
  let c1_i32_444 : BitVec 32 := 1#32
  let arg13 : BitVec 32 := Scf.iv c0_i32_441 c1_i32_444 k0_t1
  let c4_i32_667 : BitVec 32 := 4#32
  let v2149 : BitVec 32 := Scalar.addi arg13 c4_i32_667
  let c4_i32_668 : BitVec 32 := 4#32
  let v2150 : BitVec 32 := Scalar.remsi v2149 c4_i32_668
  let c4_i32_669 : BitVec 32 := 4#32
  let c0_i32_671 : BitVec 32 := 0#32
  let c0_i32_672 : BitVec 32 := 0#32
  ![v2150.toNat, 4, 0, 0]
def k0_off176 (v2152 : BitVec 32) : Fin 3 → Nat :=
  let c2048_i32_673 : BitVec 32 := 2048#32
  let c0_i32_674 : BitVec 32 := 0#32
  ![v2152.toNat, 2048, 0]

def k0_chk46 (v0 : BitVec 32) (v9 : BitVec 32) (v18 : BitVec 32) (v27 : BitVec 32) (v36 : BitVec 32) (v45 : BitVec 32) (v54 : BitVec 32) (v63 : BitVec 32) (k0_t1 : Fin (k0_t1_loop v0 v9 v18 v27 v36 v45 v54 v63).trips) (v2152 : BitVec 32) : Prop :=
  (∀ (k0_h25 : k0_cond25 v0 v9 v18 v27 v36 v45 v54 v63 k0_t1 = 1#1), ∀ a, (k0_off176 v2152) a + S1x512x2048.size a ≤ S8x3584x2048.size a) ∧
  (∀ (k0_h25 : k0_cond25 v0 v9 v18 v27 v36 v45 v54 v63 k0_t1 = 1#1), ∀ (hinb : ∀ a, (k0_off176 v2152) a + S1x512x2048.size a ≤ S8x3584x2048.size a), (Rect.unit (s := S8x3584x2048) (k0_off176 v2152) S1x512x2048.size hinb).WholeWords (EltTy.packing .fp8e4m3))
theorem k0_off176_inb : ∀ (v0 : BitVec 32) (v9 : BitVec 32) (v18 : BitVec 32) (v27 : BitVec 32) (v36 : BitVec 32) (v45 : BitVec 32) (v54 : BitVec 32) (v63 : BitVec 32) (k0_t1 : Fin (k0_t1_loop v0 v9 v18 v27 v36 v45 v54 v63).trips) (v2152 : BitVec 32) (k0_hw46 : k0_chk46 v0 v9 v18 v27 v36 v45 v54 v63 k0_t1 v2152), ∀ (k0_h25 : k0_cond25 v0 v9 v18 v27 v36 v45 v54 v63 k0_t1 = 1#1), ∀ a, (k0_off176 v2152) a + S1x512x2048.size a ≤ S8x3584x2048.size a := fun v0 v9 v18 v27 v36 v45 v54 v63 k0_t1 v2152 k0_hw46 k0_h25 => k0_hw46.1 k0_h25
theorem k0_off176_wordsfp8e4m3 : ∀ (v0 : BitVec 32) (v9 : BitVec 32) (v18 : BitVec 32) (v27 : BitVec 32) (v36 : BitVec 32) (v45 : BitVec 32) (v54 : BitVec 32) (v63 : BitVec 32) (k0_t1 : Fin (k0_t1_loop v0 v9 v18 v27 v36 v45 v54 v63).trips) (v2152 : BitVec 32) (k0_hw46 : k0_chk46 v0 v9 v18 v27 v36 v45 v54 v63 k0_t1 v2152), ∀ (k0_h25 : k0_cond25 v0 v9 v18 v27 v36 v45 v54 v63 k0_t1 = 1#1), (Rect.unit (s := S8x3584x2048) (k0_off176 v2152) S1x512x2048.size (k0_off176_inb v0 v9 v18 v27 v36 v45 v54 v63 k0_t1 v2152 k0_hw46 k0_h25)).WholeWords (EltTy.packing .fp8e4m3) := fun v0 v9 v18 v27 v36 v45 v54 v63 k0_t1 v2152 k0_hw46 k0_h25 => k0_hw46.2 k0_h25 (k0_off176_inb v0 v9 v18 v27 v36 v45 v54 v63 k0_t1 v2152 k0_hw46 k0_h25)

def k0_off177 (v0 : BitVec 32) (v9 : BitVec 32) (v18 : BitVec 32) (v27 : BitVec 32) (v36 : BitVec 32) (v45 : BitVec 32) (v54 : BitVec 32) (v63 : BitVec 32) (k0_t1 : Fin (k0_t1_loop v0 v9 v18 v27 v36 v45 v54 v63).trips) : Fin 1 → Nat :=
  let c0_i32_441 : BitVec 32 := 0#32
  let c1_i32_444 : BitVec 32 := 1#32
  let arg13 : BitVec 32 := Scf.iv c0_i32_441 c1_i32_444 k0_t1
  let v1866 : Index := Scalar.indexCast arg13
  ![v1866.toNat]
def k0_off178 (v0 : BitVec 32) (v9 : BitVec 32) (v18 : BitVec 32) (v27 : BitVec 32) (v36 : BitVec 32) (v45 : BitVec 32) (v54 : BitVec 32) (v63 : BitVec 32) (k0_t1 : Fin (k0_t1_loop v0 v9 v18 v27 v36 v45 v54 v63).trips) : Fin 2 → Nat :=
  let c0_i32_441 : BitVec 32 := 0#32
  let c1_i32_444 : BitVec 32 := 1#32
  let arg13 : BitVec 32 := Scf.iv c0_i32_441 c1_i32_444 k0_t1
  let c4_i32_622 : BitVec 32 := 4#32
  let v1865 : BitVec 32 := Scalar.remsi arg13 c4_i32_622
  let c5_i32_624 : BitVec 32 := 5#32
  ![v1865.toNat, 5]
def k0_off179 (v0 : BitVec 32) (v9 : BitVec 32) (v18 : BitVec 32) (v27 : BitVec 32) (v36 : BitVec 32) (v45 : BitVec 32) (v54 : BitVec 32) (v63 : BitVec 32) (k0_t1 : Fin (k0_t1_loop v0 v9 v18 v27 v36 v45 v54 v63).trips) : Fin 4 → Nat :=
  let c0_i32_441 : BitVec 32 := 0#32
  let c1_i32_444 : BitVec 32 := 1#32
  let arg13 : BitVec 32 := Scf.iv c0_i32_441 c1_i32_444 k0_t1
  let c4_i32_622 : BitVec 32 := 4#32
  let v1865 : BitVec 32 := Scalar.remsi arg13 c4_i32_622
  let c5_i32_623 : BitVec 32 := 5#32
  let c0_i32_625 : BitVec 32 := 0#32
  let c0_i32_626 : BitVec 32 := 0#32
  ![v1865.toNat, 5, 0, 0]
def k0_off180 (v1867 : BitVec 32) : Fin 3 → Nat :=
  let c2560_i32 : BitVec 32 := 2560#32
  let c0_i32_627 : BitVec 32 := 0#32
  ![v1867.toNat, 2560, 0]

def k0_chk47 (v1867 : BitVec 32) : Prop :=
  (∀ a, (k0_off180 v1867) a + S1x512x2048.size a ≤ S8x3584x2048.size a) ∧
  (∀ (hinb : ∀ a, (k0_off180 v1867) a + S1x512x2048.size a ≤ S8x3584x2048.size a), (Rect.unit (s := S8x3584x2048) (k0_off180 v1867) S1x512x2048.size hinb).WholeWords (EltTy.packing .fp8e4m3))
theorem k0_off180_inb : ∀ (v1867 : BitVec 32) (k0_hw47 : k0_chk47 v1867), ∀ a, (k0_off180 v1867) a + S1x512x2048.size a ≤ S8x3584x2048.size a := fun v1867 k0_hw47 => k0_hw47.1
theorem k0_off180_wordsfp8e4m3 : ∀ (v1867 : BitVec 32) (k0_hw47 : k0_chk47 v1867), (Rect.unit (s := S8x3584x2048) (k0_off180 v1867) S1x512x2048.size (k0_off180_inb v1867 k0_hw47)).WholeWords (EltTy.packing .fp8e4m3) := fun v1867 k0_hw47 => k0_hw47.2 (k0_off180_inb v1867 k0_hw47)

def k0_off181 (v0 : BitVec 32) (v9 : BitVec 32) (v18 : BitVec 32) (v27 : BitVec 32) (v36 : BitVec 32) (v45 : BitVec 32) (v54 : BitVec 32) (v63 : BitVec 32) (k0_t1 : Fin (k0_t1_loop v0 v9 v18 v27 v36 v45 v54 v63).trips) : Fin 4 → Nat :=
  let c0_i32_441 : BitVec 32 := 0#32
  let c1_i32_444 : BitVec 32 := 1#32
  let arg13 : BitVec 32 := Scf.iv c0_i32_441 c1_i32_444 k0_t1
  let c4_i32_446 : BitVec 32 := 4#32
  let v1011 : BitVec 32 := Scalar.remsi arg13 c4_i32_446
  let v1874 : Index := Scalar.indexCast v1011
  let c5_628 : Index := 5#32
  let c0_629 : Index := 0#32
  let c0_630 : Index := 0#32
  ![v1874.toNat, 5, 0, 0]
def k0_off182 (v1010 : BitVec 32) : Fin 3 → Nat :=
  let v1906 : Index := Scalar.indexCast v1010
  let c0_635 : Index := 0#32
  let c2560 : Index := 2560#32
  ![v1906.toNat, 0, 2560]
def k0_off183 (v1010 : BitVec 32) : Fin 3 → Nat :=
  let v1937 : Index := Scalar.indexCast v1010
  let c0_637 : Index := 0#32
  let c2688 : Index := 2688#32
  ![v1937.toNat, 0, 2688]
def k0_off184 (v1010 : BitVec 32) : Fin 3 → Nat :=
  let v1968 : Index := Scalar.indexCast v1010
  let c0_639 : Index := 0#32
  let c2816 : Index := 2816#32
  ![v1968.toNat, 0, 2816]
def k0_off185 (v1010 : BitVec 32) : Fin 3 → Nat :=
  let v1999 : Index := Scalar.indexCast v1010
  let c0_641 : Index := 0#32
  let c2944 : Index := 2944#32
  ![v1999.toNat, 0, 2944]
def k0_off186 (v0 : BitVec 32) (v9 : BitVec 32) (v18 : BitVec 32) (v27 : BitVec 32) (v36 : BitVec 32) (v45 : BitVec 32) (v54 : BitVec 32) (v63 : BitVec 32) (k0_t1 : Fin (k0_t1_loop v0 v9 v18 v27 v36 v45 v54 v63).trips) : Fin 1 → Nat :=
  let c0_i32_441 : BitVec 32 := 0#32
  let c1_i32_444 : BitVec 32 := 1#32
  let arg13 : BitVec 32 := Scf.iv c0_i32_441 c1_i32_444 k0_t1
  let c4_i32_667 : BitVec 32 := 4#32
  let v2149 : BitVec 32 := Scalar.addi arg13 c4_i32_667
  let v2151 : Index := Scalar.indexCast v2149
  ![v2151.toNat]
def k0_cond26 (v0 : BitVec 32) (v9 : BitVec 32) (v18 : BitVec 32) (v27 : BitVec 32) (v36 : BitVec 32) (v45 : BitVec 32) (v54 : BitVec 32) (v63 : BitVec 32) (k0_t1 : Fin (k0_t1_loop v0 v9 v18 v27 v36 v45 v54 v63).trips) : BitVec 1 :=
  let c0_i32_441 : BitVec 32 := 0#32
  let c1_i32_444 : BitVec 32 := 1#32
  let arg13 : BitVec 32 := Scf.iv c0_i32_441 c1_i32_444 k0_t1
  let c4_i32_642 : BitVec 32 := 4#32
  let v2003 : BitVec 32 := Scalar.addi arg13 c4_i32_642
  let c0_i32_3 : BitVec 32 := 0#32
  let c0_i32 : BitVec 32 := 0#32
  let v1 : BitVec 1 := Scalar.cmpi .sgt v0 c0_i32
  let v7 : BitVec 32 := Scalar.extui v1
  let v8 : BitVec 32 := Scalar.addi c0_i32_3 v7
  let c0_i32_4 : BitVec 32 := 0#32
  let v10 : BitVec 1 := Scalar.cmpi .sgt v9 c0_i32_4
  let v16 : BitVec 32 := Scalar.extui v10
  let v17 : BitVec 32 := Scalar.addi v8 v16
  let c0_i32_8 : BitVec 32 := 0#32
  let v19 : BitVec 1 := Scalar.cmpi .sgt v18 c0_i32_8
  let v25 : BitVec 32 := Scalar.extui v19
  let v26 : BitVec 32 := Scalar.addi v17 v25
  let c0_i32_12 : BitVec 32 := 0#32
  let v28 : BitVec 1 := Scalar.cmpi .sgt v27 c0_i32_12
  let v34 : BitVec 32 := Scalar.extui v28
  let v35 : BitVec 32 := Scalar.addi v26 v34
  let c0_i32_16 : BitVec 32 := 0#32
  let v37 : BitVec 1 := Scalar.cmpi .sgt v36 c0_i32_16
  let v43 : BitVec 32 := Scalar.extui v37
  let v44 : BitVec 32 := Scalar.addi v35 v43
  let c0_i32_20 : BitVec 32 := 0#32
  let v46 : BitVec 1 := Scalar.cmpi .sgt v45 c0_i32_20
  let v52 : BitVec 32 := Scalar.extui v46
  let v53 : BitVec 32 := Scalar.addi v44 v52
  let c0_i32_24 : BitVec 32 := 0#32
  let v55 : BitVec 1 := Scalar.cmpi .sgt v54 c0_i32_24
  let v61 : BitVec 32 := Scalar.extui v55
  let v62 : BitVec 32 := Scalar.addi v53 v61
  let c0_i32_28 : BitVec 32 := 0#32
  let v64 : BitVec 1 := Scalar.cmpi .sgt v63 c0_i32_28
  let v70 : BitVec 32 := Scalar.extui v64
  let v71 : BitVec 32 := Scalar.addi v62 v70
  let v2004 : BitVec 1 := Scalar.cmpi .slt v2003 v71
  let v2005 : BitVec 32 := Scalar.extui v2004
  let c0_i32_643 : BitVec 32 := 0#32
  let v2006 : BitVec 1 := Scalar.cmpi .ne v2005 c0_i32_643
  v2006

def k0_off187 (v0 : BitVec 32) (v9 : BitVec 32) (v18 : BitVec 32) (v27 : BitVec 32) (v36 : BitVec 32) (v45 : BitVec 32) (v54 : BitVec 32) (v63 : BitVec 32) (k0_t1 : Fin (k0_t1_loop v0 v9 v18 v27 v36 v45 v54 v63).trips) : Fin 2 → Nat :=
  let c0_i32_441 : BitVec 32 := 0#32
  let c1_i32_444 : BitVec 32 := 1#32
  let arg13 : BitVec 32 := Scf.iv c0_i32_441 c1_i32_444 k0_t1
  let c4_i32_667 : BitVec 32 := 4#32
  let v2149 : BitVec 32 := Scalar.addi arg13 c4_i32_667
  let c4_i32_668 : BitVec 32 := 4#32
  let v2150 : BitVec 32 := Scalar.remsi v2149 c4_i32_668
  let c5_i32_670 : BitVec 32 := 5#32
  ![v2150.toNat, 5]
def k0_off188 (v0 : BitVec 32) (v9 : BitVec 32) (v18 : BitVec 32) (v27 : BitVec 32) (v36 : BitVec 32) (v45 : BitVec 32) (v54 : BitVec 32) (v63 : BitVec 32) (k0_t1 : Fin (k0_t1_loop v0 v9 v18 v27 v36 v45 v54 v63).trips) : Fin 4 → Nat :=
  let c0_i32_441 : BitVec 32 := 0#32
  let c1_i32_444 : BitVec 32 := 1#32
  let arg13 : BitVec 32 := Scf.iv c0_i32_441 c1_i32_444 k0_t1
  let c4_i32_667 : BitVec 32 := 4#32
  let v2149 : BitVec 32 := Scalar.addi arg13 c4_i32_667
  let c4_i32_668 : BitVec 32 := 4#32
  let v2150 : BitVec 32 := Scalar.remsi v2149 c4_i32_668
  let c5_i32_669 : BitVec 32 := 5#32
  let c0_i32_671 : BitVec 32 := 0#32
  let c0_i32_672 : BitVec 32 := 0#32
  ![v2150.toNat, 5, 0, 0]
def k0_off189 (v2152 : BitVec 32) : Fin 3 → Nat :=
  let c2560_i32_673 : BitVec 32 := 2560#32
  let c0_i32_674 : BitVec 32 := 0#32
  ![v2152.toNat, 2560, 0]

def k0_chk48 (v0 : BitVec 32) (v9 : BitVec 32) (v18 : BitVec 32) (v27 : BitVec 32) (v36 : BitVec 32) (v45 : BitVec 32) (v54 : BitVec 32) (v63 : BitVec 32) (k0_t1 : Fin (k0_t1_loop v0 v9 v18 v27 v36 v45 v54 v63).trips) (v2152 : BitVec 32) : Prop :=
  (∀ (k0_h26 : k0_cond26 v0 v9 v18 v27 v36 v45 v54 v63 k0_t1 = 1#1), ∀ a, (k0_off189 v2152) a + S1x512x2048.size a ≤ S8x3584x2048.size a) ∧
  (∀ (k0_h26 : k0_cond26 v0 v9 v18 v27 v36 v45 v54 v63 k0_t1 = 1#1), ∀ (hinb : ∀ a, (k0_off189 v2152) a + S1x512x2048.size a ≤ S8x3584x2048.size a), (Rect.unit (s := S8x3584x2048) (k0_off189 v2152) S1x512x2048.size hinb).WholeWords (EltTy.packing .fp8e4m3))
theorem k0_off189_inb : ∀ (v0 : BitVec 32) (v9 : BitVec 32) (v18 : BitVec 32) (v27 : BitVec 32) (v36 : BitVec 32) (v45 : BitVec 32) (v54 : BitVec 32) (v63 : BitVec 32) (k0_t1 : Fin (k0_t1_loop v0 v9 v18 v27 v36 v45 v54 v63).trips) (v2152 : BitVec 32) (k0_hw48 : k0_chk48 v0 v9 v18 v27 v36 v45 v54 v63 k0_t1 v2152), ∀ (k0_h26 : k0_cond26 v0 v9 v18 v27 v36 v45 v54 v63 k0_t1 = 1#1), ∀ a, (k0_off189 v2152) a + S1x512x2048.size a ≤ S8x3584x2048.size a := fun v0 v9 v18 v27 v36 v45 v54 v63 k0_t1 v2152 k0_hw48 k0_h26 => k0_hw48.1 k0_h26
theorem k0_off189_wordsfp8e4m3 : ∀ (v0 : BitVec 32) (v9 : BitVec 32) (v18 : BitVec 32) (v27 : BitVec 32) (v36 : BitVec 32) (v45 : BitVec 32) (v54 : BitVec 32) (v63 : BitVec 32) (k0_t1 : Fin (k0_t1_loop v0 v9 v18 v27 v36 v45 v54 v63).trips) (v2152 : BitVec 32) (k0_hw48 : k0_chk48 v0 v9 v18 v27 v36 v45 v54 v63 k0_t1 v2152), ∀ (k0_h26 : k0_cond26 v0 v9 v18 v27 v36 v45 v54 v63 k0_t1 = 1#1), (Rect.unit (s := S8x3584x2048) (k0_off189 v2152) S1x512x2048.size (k0_off189_inb v0 v9 v18 v27 v36 v45 v54 v63 k0_t1 v2152 k0_hw48 k0_h26)).WholeWords (EltTy.packing .fp8e4m3) := fun v0 v9 v18 v27 v36 v45 v54 v63 k0_t1 v2152 k0_hw48 k0_h26 => k0_hw48.2 k0_h26 (k0_off189_inb v0 v9 v18 v27 v36 v45 v54 v63 k0_t1 v2152 k0_hw48 k0_h26)

def k0_off190 (v0 : BitVec 32) (v9 : BitVec 32) (v18 : BitVec 32) (v27 : BitVec 32) (v36 : BitVec 32) (v45 : BitVec 32) (v54 : BitVec 32) (v63 : BitVec 32) (k0_t1 : Fin (k0_t1_loop v0 v9 v18 v27 v36 v45 v54 v63).trips) : Fin 1 → Nat :=
  let c0_i32_441 : BitVec 32 := 0#32
  let c1_i32_444 : BitVec 32 := 1#32
  let arg13 : BitVec 32 := Scf.iv c0_i32_441 c1_i32_444 k0_t1
  let v2008 : Index := Scalar.indexCast arg13
  ![v2008.toNat]
def k0_off191 (v0 : BitVec 32) (v9 : BitVec 32) (v18 : BitVec 32) (v27 : BitVec 32) (v36 : BitVec 32) (v45 : BitVec 32) (v54 : BitVec 32) (v63 : BitVec 32) (k0_t1 : Fin (k0_t1_loop v0 v9 v18 v27 v36 v45 v54 v63).trips) : Fin 2 → Nat :=
  let c0_i32_441 : BitVec 32 := 0#32
  let c1_i32_444 : BitVec 32 := 1#32
  let arg13 : BitVec 32 := Scf.iv c0_i32_441 c1_i32_444 k0_t1
  let c4_i32_644 : BitVec 32 := 4#32
  let v2007 : BitVec 32 := Scalar.remsi arg13 c4_i32_644
  let c6_i32_646 : BitVec 32 := 6#32
  ![v2007.toNat, 6]
def k0_off192 (v0 : BitVec 32) (v9 : BitVec 32) (v18 : BitVec 32) (v27 : BitVec 32) (v36 : BitVec 32) (v45 : BitVec 32) (v54 : BitVec 32) (v63 : BitVec 32) (k0_t1 : Fin (k0_t1_loop v0 v9 v18 v27 v36 v45 v54 v63).trips) : Fin 4 → Nat :=
  let c0_i32_441 : BitVec 32 := 0#32
  let c1_i32_444 : BitVec 32 := 1#32
  let arg13 : BitVec 32 := Scf.iv c0_i32_441 c1_i32_444 k0_t1
  let c4_i32_644 : BitVec 32 := 4#32
  let v2007 : BitVec 32 := Scalar.remsi arg13 c4_i32_644
  let c6_i32_645 : BitVec 32 := 6#32
  let c0_i32_647 : BitVec 32 := 0#32
  let c0_i32_648 : BitVec 32 := 0#32
  ![v2007.toNat, 6, 0, 0]
def k0_off193 (v2009 : BitVec 32) : Fin 3 → Nat :=
  let c3072_i32 : BitVec 32 := 3072#32
  let c0_i32_649 : BitVec 32 := 0#32
  ![v2009.toNat, 3072, 0]

def k0_chk49 (v2009 : BitVec 32) : Prop :=
  (∀ a, (k0_off193 v2009) a + S1x512x2048.size a ≤ S8x3584x2048.size a) ∧
  (∀ (hinb : ∀ a, (k0_off193 v2009) a + S1x512x2048.size a ≤ S8x3584x2048.size a), (Rect.unit (s := S8x3584x2048) (k0_off193 v2009) S1x512x2048.size hinb).WholeWords (EltTy.packing .fp8e4m3))
theorem k0_off193_inb : ∀ (v2009 : BitVec 32) (k0_hw49 : k0_chk49 v2009), ∀ a, (k0_off193 v2009) a + S1x512x2048.size a ≤ S8x3584x2048.size a := fun v2009 k0_hw49 => k0_hw49.1
theorem k0_off193_wordsfp8e4m3 : ∀ (v2009 : BitVec 32) (k0_hw49 : k0_chk49 v2009), (Rect.unit (s := S8x3584x2048) (k0_off193 v2009) S1x512x2048.size (k0_off193_inb v2009 k0_hw49)).WholeWords (EltTy.packing .fp8e4m3) := fun v2009 k0_hw49 => k0_hw49.2 (k0_off193_inb v2009 k0_hw49)

def k0_off194 (v0 : BitVec 32) (v9 : BitVec 32) (v18 : BitVec 32) (v27 : BitVec 32) (v36 : BitVec 32) (v45 : BitVec 32) (v54 : BitVec 32) (v63 : BitVec 32) (k0_t1 : Fin (k0_t1_loop v0 v9 v18 v27 v36 v45 v54 v63).trips) : Fin 4 → Nat :=
  let c0_i32_441 : BitVec 32 := 0#32
  let c1_i32_444 : BitVec 32 := 1#32
  let arg13 : BitVec 32 := Scf.iv c0_i32_441 c1_i32_444 k0_t1
  let c4_i32_446 : BitVec 32 := 4#32
  let v1011 : BitVec 32 := Scalar.remsi arg13 c4_i32_446
  let v2016 : Index := Scalar.indexCast v1011
  let c6_650 : Index := 6#32
  let c0_651 : Index := 0#32
  let c0_652 : Index := 0#32
  ![v2016.toNat, 6, 0, 0]
def k0_off195 (v1010 : BitVec 32) : Fin 3 → Nat :=
  let v2048 : Index := Scalar.indexCast v1010
  let c0_657 : Index := 0#32
  let c3072 : Index := 3072#32
  ![v2048.toNat, 0, 3072]
def k0_off196 (v1010 : BitVec 32) : Fin 3 → Nat :=
  let v2079 : Index := Scalar.indexCast v1010
  let c0_659 : Index := 0#32
  let c3200 : Index := 3200#32
  ![v2079.toNat, 0, 3200]
def k0_off197 (v1010 : BitVec 32) : Fin 3 → Nat :=
  let v2110 : Index := Scalar.indexCast v1010
  let c0_661 : Index := 0#32
  let c3328 : Index := 3328#32
  ![v2110.toNat, 0, 3328]
def k0_off198 (v1010 : BitVec 32) : Fin 3 → Nat :=
  let v2141 : Index := Scalar.indexCast v1010
  let c0_663 : Index := 0#32
  let c3456 : Index := 3456#32
  ![v2141.toNat, 0, 3456]

def k0_chk36_0 (v1010 : BitVec 32) : Prop :=
  (∀ a, (k0_off93 v1010) a + S1x16x128.size a ≤ S8x16x2048.size a) ∧
  (∀ a, (k0_off94 v1010) a + S1x16x128.size a ≤ S8x16x2048.size a) ∧
  (∀ a, (k0_off95 v1010) a + S1x16x128.size a ≤ S8x16x2048.size a) ∧
  (∀ a, (k0_off96 v1010) a + S1x16x128.size a ≤ S8x16x2048.size a) ∧
  (∀ a, (k0_off97 v1010) a + S1x16x128.size a ≤ S8x16x2048.size a) ∧
  (∀ a, (k0_off98 v1010) a + S1x16x128.size a ≤ S8x16x2048.size a) ∧
  (∀ a, (k0_off99 v1010) a + S1x16x128.size a ≤ S8x16x2048.size a) ∧
  (∀ a, (k0_off100 v1010) a + S1x16x128.size a ≤ S8x16x2048.size a) ∧
  (∀ a, (k0_off101 v1010) a + S1x16x128.size a ≤ S8x16x2048.size a) ∧
  (∀ a, (k0_off102 v1010) a + S1x16x128.size a ≤ S8x16x2048.size a) ∧
  (∀ a, (k0_off103 v1010) a + S1x16x128.size a ≤ S8x16x2048.size a) ∧
  (∀ a, (k0_off104 v1010) a + S1x16x128.size a ≤ S8x16x2048.size a) ∧
  (∀ a, (k0_off105 v1010) a + S1x16x128.size a ≤ S8x16x2048.size a) ∧
  (∀ a, (k0_off106 v1010) a + S1x16x128.size a ≤ S8x16x2048.size a) ∧
  (∀ a, (k0_off107 v1010) a + S1x16x128.size a ≤ S8x16x2048.size a) ∧
  (∀ a, (k0_off108 v1010) a + S1x16x128.size a ≤ S8x16x2048.size a) ∧
  (∀ a, (k0_off109 v1010) a + S1x28x16.size a ≤ S8x28x16.size a) ∧
  (∀ a, (k0_off110 v1010) a + S1x256.size a ≤ S8x256.size a) ∧
  (∀ a, (k0_off111 v1010) a + S1.size a ≤ S8.size a) ∧
  (∀ a, (k0_off117 v1010) a + S1x10x128.size a ≤ S8x10x3584.size a) ∧
  (∀ (hinb : ∀ a, (k0_off117 v1010) a + S1x10x128.size a ≤ S8x10x3584.size a), (Rect.unit (s := S8x10x3584) (k0_off117 v1010) S1x10x128.size hinb).PackedRows (EltTy.packing .bf16)) ∧
  (∀ a, (k0_off118 v1010) a + S1x10x128.size a ≤ S8x10x3584.size a) ∧
  (∀ (hinb : ∀ a, (k0_off118 v1010) a + S1x10x128.size a ≤ S8x10x3584.size a), (Rect.unit (s := S8x10x3584) (k0_off118 v1010) S1x10x128.size hinb).PackedRows (EltTy.packing .bf16)) ∧
  (∀ a, (k0_off119 v1010) a + S1x10x128.size a ≤ S8x10x3584.size a) ∧
  (∀ (hinb : ∀ a, (k0_off119 v1010) a + S1x10x128.size a ≤ S8x10x3584.size a), (Rect.unit (s := S8x10x3584) (k0_off119 v1010) S1x10x128.size hinb).PackedRows (EltTy.packing .bf16)) ∧
  (∀ a, (k0_off120 v1010) a + S1x10x128.size a ≤ S8x10x3584.size a) ∧
  (∀ (hinb : ∀ a, (k0_off120 v1010) a + S1x10x128.size a ≤ S8x10x3584.size a), (Rect.unit (s := S8x10x3584) (k0_off120 v1010) S1x10x128.size hinb).PackedRows (EltTy.packing .bf16)) ∧
  (∀ a, (k0_off130 v1010) a + S1x10x128.size a ≤ S8x10x3584.size a) ∧
  (∀ (hinb : ∀ a, (k0_off130 v1010) a + S1x10x128.size a ≤ S8x10x3584.size a), (Rect.unit (s := S8x10x3584) (k0_off130 v1010) S1x10x128.size hinb).PackedRows (EltTy.packing .bf16)) ∧
  (∀ a, (k0_off131 v1010) a + S1x10x128.size a ≤ S8x10x3584.size a) ∧
  (∀ (hinb : ∀ a, (k0_off131 v1010) a + S1x10x128.size a ≤ S8x10x3584.size a), (Rect.unit (s := S8x10x3584) (k0_off131 v1010) S1x10x128.size hinb).PackedRows (EltTy.packing .bf16)) ∧
  (∀ a, (k0_off132 v1010) a + S1x10x128.size a ≤ S8x10x3584.size a)
def k0_chk36_1 (v1010 : BitVec 32) : Prop :=
  (∀ (hinb : ∀ a, (k0_off132 v1010) a + S1x10x128.size a ≤ S8x10x3584.size a), (Rect.unit (s := S8x10x3584) (k0_off132 v1010) S1x10x128.size hinb).PackedRows (EltTy.packing .bf16)) ∧
  (∀ a, (k0_off133 v1010) a + S1x10x128.size a ≤ S8x10x3584.size a) ∧
  (∀ (hinb : ∀ a, (k0_off133 v1010) a + S1x10x128.size a ≤ S8x10x3584.size a), (Rect.unit (s := S8x10x3584) (k0_off133 v1010) S1x10x128.size hinb).PackedRows (EltTy.packing .bf16)) ∧
  (∀ a, (k0_off143 v1010) a + S1x10x128.size a ≤ S8x10x3584.size a) ∧
  (∀ (hinb : ∀ a, (k0_off143 v1010) a + S1x10x128.size a ≤ S8x10x3584.size a), (Rect.unit (s := S8x10x3584) (k0_off143 v1010) S1x10x128.size hinb).PackedRows (EltTy.packing .bf16)) ∧
  (∀ a, (k0_off144 v1010) a + S1x10x128.size a ≤ S8x10x3584.size a) ∧
  (∀ (hinb : ∀ a, (k0_off144 v1010) a + S1x10x128.size a ≤ S8x10x3584.size a), (Rect.unit (s := S8x10x3584) (k0_off144 v1010) S1x10x128.size hinb).PackedRows (EltTy.packing .bf16)) ∧
  (∀ a, (k0_off145 v1010) a + S1x10x128.size a ≤ S8x10x3584.size a) ∧
  (∀ (hinb : ∀ a, (k0_off145 v1010) a + S1x10x128.size a ≤ S8x10x3584.size a), (Rect.unit (s := S8x10x3584) (k0_off145 v1010) S1x10x128.size hinb).PackedRows (EltTy.packing .bf16)) ∧
  (∀ a, (k0_off146 v1010) a + S1x10x128.size a ≤ S8x10x3584.size a) ∧
  (∀ (hinb : ∀ a, (k0_off146 v1010) a + S1x10x128.size a ≤ S8x10x3584.size a), (Rect.unit (s := S8x10x3584) (k0_off146 v1010) S1x10x128.size hinb).PackedRows (EltTy.packing .bf16)) ∧
  (∀ a, (k0_off156 v1010) a + S1x10x128.size a ≤ S8x10x3584.size a) ∧
  (∀ (hinb : ∀ a, (k0_off156 v1010) a + S1x10x128.size a ≤ S8x10x3584.size a), (Rect.unit (s := S8x10x3584) (k0_off156 v1010) S1x10x128.size hinb).PackedRows (EltTy.packing .bf16)) ∧
  (∀ a, (k0_off157 v1010) a + S1x10x128.size a ≤ S8x10x3584.size a) ∧
  (∀ (hinb : ∀ a, (k0_off157 v1010) a + S1x10x128.size a ≤ S8x10x3584.size a), (Rect.unit (s := S8x10x3584) (k0_off157 v1010) S1x10x128.size hinb).PackedRows (EltTy.packing .bf16)) ∧
  (∀ a, (k0_off158 v1010) a + S1x10x128.size a ≤ S8x10x3584.size a) ∧
  (∀ (hinb : ∀ a, (k0_off158 v1010) a + S1x10x128.size a ≤ S8x10x3584.size a), (Rect.unit (s := S8x10x3584) (k0_off158 v1010) S1x10x128.size hinb).PackedRows (EltTy.packing .bf16)) ∧
  (∀ a, (k0_off159 v1010) a + S1x10x128.size a ≤ S8x10x3584.size a) ∧
  (∀ (hinb : ∀ a, (k0_off159 v1010) a + S1x10x128.size a ≤ S8x10x3584.size a), (Rect.unit (s := S8x10x3584) (k0_off159 v1010) S1x10x128.size hinb).PackedRows (EltTy.packing .bf16)) ∧
  (∀ a, (k0_off169 v1010) a + S1x10x128.size a ≤ S8x10x3584.size a) ∧
  (∀ (hinb : ∀ a, (k0_off169 v1010) a + S1x10x128.size a ≤ S8x10x3584.size a), (Rect.unit (s := S8x10x3584) (k0_off169 v1010) S1x10x128.size hinb).PackedRows (EltTy.packing .bf16)) ∧
  (∀ a, (k0_off170 v1010) a + S1x10x128.size a ≤ S8x10x3584.size a) ∧
  (∀ (hinb : ∀ a, (k0_off170 v1010) a + S1x10x128.size a ≤ S8x10x3584.size a), (Rect.unit (s := S8x10x3584) (k0_off170 v1010) S1x10x128.size hinb).PackedRows (EltTy.packing .bf16)) ∧
  (∀ a, (k0_off171 v1010) a + S1x10x128.size a ≤ S8x10x3584.size a) ∧
  (∀ (hinb : ∀ a, (k0_off171 v1010) a + S1x10x128.size a ≤ S8x10x3584.size a), (Rect.unit (s := S8x10x3584) (k0_off171 v1010) S1x10x128.size hinb).PackedRows (EltTy.packing .bf16)) ∧
  (∀ a, (k0_off172 v1010) a + S1x10x128.size a ≤ S8x10x3584.size a) ∧
  (∀ (hinb : ∀ a, (k0_off172 v1010) a + S1x10x128.size a ≤ S8x10x3584.size a), (Rect.unit (s := S8x10x3584) (k0_off172 v1010) S1x10x128.size hinb).PackedRows (EltTy.packing .bf16)) ∧
  (∀ a, (k0_off182 v1010) a + S1x10x128.size a ≤ S8x10x3584.size a) ∧
  (∀ (hinb : ∀ a, (k0_off182 v1010) a + S1x10x128.size a ≤ S8x10x3584.size a), (Rect.unit (s := S8x10x3584) (k0_off182 v1010) S1x10x128.size hinb).PackedRows (EltTy.packing .bf16)) ∧
  (∀ a, (k0_off183 v1010) a + S1x10x128.size a ≤ S8x10x3584.size a) ∧
  (∀ (hinb : ∀ a, (k0_off183 v1010) a + S1x10x128.size a ≤ S8x10x3584.size a), (Rect.unit (s := S8x10x3584) (k0_off183 v1010) S1x10x128.size hinb).PackedRows (EltTy.packing .bf16)) ∧
  (∀ a, (k0_off184 v1010) a + S1x10x128.size a ≤ S8x10x3584.size a)
def k0_chk36_2 (v1010 : BitVec 32) : Prop :=
  (∀ (hinb : ∀ a, (k0_off184 v1010) a + S1x10x128.size a ≤ S8x10x3584.size a), (Rect.unit (s := S8x10x3584) (k0_off184 v1010) S1x10x128.size hinb).PackedRows (EltTy.packing .bf16)) ∧
  (∀ a, (k0_off185 v1010) a + S1x10x128.size a ≤ S8x10x3584.size a) ∧
  (∀ (hinb : ∀ a, (k0_off185 v1010) a + S1x10x128.size a ≤ S8x10x3584.size a), (Rect.unit (s := S8x10x3584) (k0_off185 v1010) S1x10x128.size hinb).PackedRows (EltTy.packing .bf16)) ∧
  (∀ a, (k0_off195 v1010) a + S1x10x128.size a ≤ S8x10x3584.size a) ∧
  (∀ (hinb : ∀ a, (k0_off195 v1010) a + S1x10x128.size a ≤ S8x10x3584.size a), (Rect.unit (s := S8x10x3584) (k0_off195 v1010) S1x10x128.size hinb).PackedRows (EltTy.packing .bf16)) ∧
  (∀ a, (k0_off196 v1010) a + S1x10x128.size a ≤ S8x10x3584.size a) ∧
  (∀ (hinb : ∀ a, (k0_off196 v1010) a + S1x10x128.size a ≤ S8x10x3584.size a), (Rect.unit (s := S8x10x3584) (k0_off196 v1010) S1x10x128.size hinb).PackedRows (EltTy.packing .bf16)) ∧
  (∀ a, (k0_off197 v1010) a + S1x10x128.size a ≤ S8x10x3584.size a) ∧
  (∀ (hinb : ∀ a, (k0_off197 v1010) a + S1x10x128.size a ≤ S8x10x3584.size a), (Rect.unit (s := S8x10x3584) (k0_off197 v1010) S1x10x128.size hinb).PackedRows (EltTy.packing .bf16)) ∧
  (∀ a, (k0_off198 v1010) a + S1x10x128.size a ≤ S8x10x3584.size a) ∧
  (∀ (hinb : ∀ a, (k0_off198 v1010) a + S1x10x128.size a ≤ S8x10x3584.size a), (Rect.unit (s := S8x10x3584) (k0_off198 v1010) S1x10x128.size hinb).PackedRows (EltTy.packing .bf16))
def k0_chk36 (v1010 : BitVec 32) : Prop :=
  k0_chk36_0 v1010 ∧
  k0_chk36_1 v1010 ∧
  k0_chk36_2 v1010
theorem k0_off93_inb : ∀ (v1010 : BitVec 32) (k0_hw36 : k0_chk36 v1010), ∀ a, (k0_off93 v1010) a + S1x16x128.size a ≤ S8x16x2048.size a := fun v1010 k0_hw36 => k0_hw36.1.1
theorem k0_off94_inb : ∀ (v1010 : BitVec 32) (k0_hw36 : k0_chk36 v1010), ∀ a, (k0_off94 v1010) a + S1x16x128.size a ≤ S8x16x2048.size a := fun v1010 k0_hw36 => k0_hw36.1.2.1
theorem k0_off95_inb : ∀ (v1010 : BitVec 32) (k0_hw36 : k0_chk36 v1010), ∀ a, (k0_off95 v1010) a + S1x16x128.size a ≤ S8x16x2048.size a := fun v1010 k0_hw36 => k0_hw36.1.2.2.1
theorem k0_off96_inb : ∀ (v1010 : BitVec 32) (k0_hw36 : k0_chk36 v1010), ∀ a, (k0_off96 v1010) a + S1x16x128.size a ≤ S8x16x2048.size a := fun v1010 k0_hw36 => k0_hw36.1.2.2.2.1
theorem k0_off97_inb : ∀ (v1010 : BitVec 32) (k0_hw36 : k0_chk36 v1010), ∀ a, (k0_off97 v1010) a + S1x16x128.size a ≤ S8x16x2048.size a := fun v1010 k0_hw36 => k0_hw36.1.2.2.2.2.1
theorem k0_off98_inb : ∀ (v1010 : BitVec 32) (k0_hw36 : k0_chk36 v1010), ∀ a, (k0_off98 v1010) a + S1x16x128.size a ≤ S8x16x2048.size a := fun v1010 k0_hw36 => k0_hw36.1.2.2.2.2.2.1
theorem k0_off99_inb : ∀ (v1010 : BitVec 32) (k0_hw36 : k0_chk36 v1010), ∀ a, (k0_off99 v1010) a + S1x16x128.size a ≤ S8x16x2048.size a := fun v1010 k0_hw36 => k0_hw36.1.2.2.2.2.2.2.1
theorem k0_off100_inb : ∀ (v1010 : BitVec 32) (k0_hw36 : k0_chk36 v1010), ∀ a, (k0_off100 v1010) a + S1x16x128.size a ≤ S8x16x2048.size a := fun v1010 k0_hw36 => k0_hw36.1.2.2.2.2.2.2.2.1
theorem k0_off101_inb : ∀ (v1010 : BitVec 32) (k0_hw36 : k0_chk36 v1010), ∀ a, (k0_off101 v1010) a + S1x16x128.size a ≤ S8x16x2048.size a := fun v1010 k0_hw36 => k0_hw36.1.2.2.2.2.2.2.2.2.1
theorem k0_off102_inb : ∀ (v1010 : BitVec 32) (k0_hw36 : k0_chk36 v1010), ∀ a, (k0_off102 v1010) a + S1x16x128.size a ≤ S8x16x2048.size a := fun v1010 k0_hw36 => k0_hw36.1.2.2.2.2.2.2.2.2.2.1
theorem k0_off103_inb : ∀ (v1010 : BitVec 32) (k0_hw36 : k0_chk36 v1010), ∀ a, (k0_off103 v1010) a + S1x16x128.size a ≤ S8x16x2048.size a := fun v1010 k0_hw36 => k0_hw36.1.2.2.2.2.2.2.2.2.2.2.1
theorem k0_off104_inb : ∀ (v1010 : BitVec 32) (k0_hw36 : k0_chk36 v1010), ∀ a, (k0_off104 v1010) a + S1x16x128.size a ≤ S8x16x2048.size a := fun v1010 k0_hw36 => k0_hw36.1.2.2.2.2.2.2.2.2.2.2.2.1
theorem k0_off105_inb : ∀ (v1010 : BitVec 32) (k0_hw36 : k0_chk36 v1010), ∀ a, (k0_off105 v1010) a + S1x16x128.size a ≤ S8x16x2048.size a := fun v1010 k0_hw36 => k0_hw36.1.2.2.2.2.2.2.2.2.2.2.2.2.1
theorem k0_off106_inb : ∀ (v1010 : BitVec 32) (k0_hw36 : k0_chk36 v1010), ∀ a, (k0_off106 v1010) a + S1x16x128.size a ≤ S8x16x2048.size a := fun v1010 k0_hw36 => k0_hw36.1.2.2.2.2.2.2.2.2.2.2.2.2.2.1
theorem k0_off107_inb : ∀ (v1010 : BitVec 32) (k0_hw36 : k0_chk36 v1010), ∀ a, (k0_off107 v1010) a + S1x16x128.size a ≤ S8x16x2048.size a := fun v1010 k0_hw36 => k0_hw36.1.2.2.2.2.2.2.2.2.2.2.2.2.2.2.1
theorem k0_off108_inb : ∀ (v1010 : BitVec 32) (k0_hw36 : k0_chk36 v1010), ∀ a, (k0_off108 v1010) a + S1x16x128.size a ≤ S8x16x2048.size a := fun v1010 k0_hw36 => k0_hw36.1.2.2.2.2.2.2.2.2.2.2.2.2.2.2.2.1
theorem k0_off109_inb : ∀ (v1010 : BitVec 32) (k0_hw36 : k0_chk36 v1010), ∀ a, (k0_off109 v1010) a + S1x28x16.size a ≤ S8x28x16.size a := fun v1010 k0_hw36 => k0_hw36.1.2.2.2.2.2.2.2.2.2.2.2.2.2.2.2.2.1
theorem k0_off110_inb : ∀ (v1010 : BitVec 32) (k0_hw36 : k0_chk36 v1010), ∀ a, (k0_off110 v1010) a + S1x256.size a ≤ S8x256.size a := fun v1010 k0_hw36 => k0_hw36.1.2.2.2.2.2.2.2.2.2.2.2.2.2.2.2.2.2.1
theorem k0_off111_inb : ∀ (v1010 : BitVec 32) (k0_hw36 : k0_chk36 v1010), ∀ a, (k0_off111 v1010) a + S1.size a ≤ S8.size a := fun v1010 k0_hw36 => k0_hw36.1.2.2.2.2.2.2.2.2.2.2.2.2.2.2.2.2.2.2.1
theorem k0_off117_inb : ∀ (v1010 : BitVec 32) (k0_hw36 : k0_chk36 v1010), ∀ a, (k0_off117 v1010) a + S1x10x128.size a ≤ S8x10x3584.size a := fun v1010 k0_hw36 => k0_hw36.1.2.2.2.2.2.2.2.2.2.2.2.2.2.2.2.2.2.2.2.1
theorem k0_off117_packedbf16 : ∀ (v1010 : BitVec 32) (k0_hw36 : k0_chk36 v1010), (Rect.unit (s := S8x10x3584) (k0_off117 v1010) S1x10x128.size (k0_off117_inb v1010 k0_hw36)).PackedRows (EltTy.packing .bf16) := fun v1010 k0_hw36 => k0_hw36.1.2.2.2.2.2.2.2.2.2.2.2.2.2.2.2.2.2.2.2.2.1 (k0_off117_inb v1010 k0_hw36)
theorem k0_off118_inb : ∀ (v1010 : BitVec 32) (k0_hw36 : k0_chk36 v1010), ∀ a, (k0_off118 v1010) a + S1x10x128.size a ≤ S8x10x3584.size a := fun v1010 k0_hw36 => k0_hw36.1.2.2.2.2.2.2.2.2.2.2.2.2.2.2.2.2.2.2.2.2.2.1
theorem k0_off118_packedbf16 : ∀ (v1010 : BitVec 32) (k0_hw36 : k0_chk36 v1010), (Rect.unit (s := S8x10x3584) (k0_off118 v1010) S1x10x128.size (k0_off118_inb v1010 k0_hw36)).PackedRows (EltTy.packing .bf16) := fun v1010 k0_hw36 => k0_hw36.1.2.2.2.2.2.2.2.2.2.2.2.2.2.2.2.2.2.2.2.2.2.2.1 (k0_off118_inb v1010 k0_hw36)
theorem k0_off119_inb : ∀ (v1010 : BitVec 32) (k0_hw36 : k0_chk36 v1010), ∀ a, (k0_off119 v1010) a + S1x10x128.size a ≤ S8x10x3584.size a := fun v1010 k0_hw36 => k0_hw36.1.2.2.2.2.2.2.2.2.2.2.2.2.2.2.2.2.2.2.2.2.2.2.2.1
theorem k0_off119_packedbf16 : ∀ (v1010 : BitVec 32) (k0_hw36 : k0_chk36 v1010), (Rect.unit (s := S8x10x3584) (k0_off119 v1010) S1x10x128.size (k0_off119_inb v1010 k0_hw36)).PackedRows (EltTy.packing .bf16) := fun v1010 k0_hw36 => k0_hw36.1.2.2.2.2.2.2.2.2.2.2.2.2.2.2.2.2.2.2.2.2.2.2.2.2.1 (k0_off119_inb v1010 k0_hw36)
theorem k0_off120_inb : ∀ (v1010 : BitVec 32) (k0_hw36 : k0_chk36 v1010), ∀ a, (k0_off120 v1010) a + S1x10x128.size a ≤ S8x10x3584.size a := fun v1010 k0_hw36 => k0_hw36.1.2.2.2.2.2.2.2.2.2.2.2.2.2.2.2.2.2.2.2.2.2.2.2.2.2.1
theorem k0_off120_packedbf16 : ∀ (v1010 : BitVec 32) (k0_hw36 : k0_chk36 v1010), (Rect.unit (s := S8x10x3584) (k0_off120 v1010) S1x10x128.size (k0_off120_inb v1010 k0_hw36)).PackedRows (EltTy.packing .bf16) := fun v1010 k0_hw36 => k0_hw36.1.2.2.2.2.2.2.2.2.2.2.2.2.2.2.2.2.2.2.2.2.2.2.2.2.2.2.1 (k0_off120_inb v1010 k0_hw36)
theorem k0_off130_inb : ∀ (v1010 : BitVec 32) (k0_hw36 : k0_chk36 v1010), ∀ a, (k0_off130 v1010) a + S1x10x128.size a ≤ S8x10x3584.size a := fun v1010 k0_hw36 => k0_hw36.1.2.2.2.2.2.2.2.2.2.2.2.2.2.2.2.2.2.2.2.2.2.2.2.2.2.2.2.1
theorem k0_off130_packedbf16 : ∀ (v1010 : BitVec 32) (k0_hw36 : k0_chk36 v1010), (Rect.unit (s := S8x10x3584) (k0_off130 v1010) S1x10x128.size (k0_off130_inb v1010 k0_hw36)).PackedRows (EltTy.packing .bf16) := fun v1010 k0_hw36 => k0_hw36.1.2.2.2.2.2.2.2.2.2.2.2.2.2.2.2.2.2.2.2.2.2.2.2.2.2.2.2.2.1 (k0_off130_inb v1010 k0_hw36)
theorem k0_off131_inb : ∀ (v1010 : BitVec 32) (k0_hw36 : k0_chk36 v1010), ∀ a, (k0_off131 v1010) a + S1x10x128.size a ≤ S8x10x3584.size a := fun v1010 k0_hw36 => k0_hw36.1.2.2.2.2.2.2.2.2.2.2.2.2.2.2.2.2.2.2.2.2.2.2.2.2.2.2.2.2.2.1
theorem k0_off131_packedbf16 : ∀ (v1010 : BitVec 32) (k0_hw36 : k0_chk36 v1010), (Rect.unit (s := S8x10x3584) (k0_off131 v1010) S1x10x128.size (k0_off131_inb v1010 k0_hw36)).PackedRows (EltTy.packing .bf16) := fun v1010 k0_hw36 => k0_hw36.1.2.2.2.2.2.2.2.2.2.2.2.2.2.2.2.2.2.2.2.2.2.2.2.2.2.2.2.2.2.2.1 (k0_off131_inb v1010 k0_hw36)
theorem k0_off132_inb : ∀ (v1010 : BitVec 32) (k0_hw36 : k0_chk36 v1010), ∀ a, (k0_off132 v1010) a + S1x10x128.size a ≤ S8x10x3584.size a := fun v1010 k0_hw36 => k0_hw36.1.2.2.2.2.2.2.2.2.2.2.2.2.2.2.2.2.2.2.2.2.2.2.2.2.2.2.2.2.2.2.2
theorem k0_off132_packedbf16 : ∀ (v1010 : BitVec 32) (k0_hw36 : k0_chk36 v1010), (Rect.unit (s := S8x10x3584) (k0_off132 v1010) S1x10x128.size (k0_off132_inb v1010 k0_hw36)).PackedRows (EltTy.packing .bf16) := fun v1010 k0_hw36 => k0_hw36.2.1.1 (k0_off132_inb v1010 k0_hw36)
theorem k0_off133_inb : ∀ (v1010 : BitVec 32) (k0_hw36 : k0_chk36 v1010), ∀ a, (k0_off133 v1010) a + S1x10x128.size a ≤ S8x10x3584.size a := fun v1010 k0_hw36 => k0_hw36.2.1.2.1
theorem k0_off133_packedbf16 : ∀ (v1010 : BitVec 32) (k0_hw36 : k0_chk36 v1010), (Rect.unit (s := S8x10x3584) (k0_off133 v1010) S1x10x128.size (k0_off133_inb v1010 k0_hw36)).PackedRows (EltTy.packing .bf16) := fun v1010 k0_hw36 => k0_hw36.2.1.2.2.1 (k0_off133_inb v1010 k0_hw36)
theorem k0_off143_inb : ∀ (v1010 : BitVec 32) (k0_hw36 : k0_chk36 v1010), ∀ a, (k0_off143 v1010) a + S1x10x128.size a ≤ S8x10x3584.size a := fun v1010 k0_hw36 => k0_hw36.2.1.2.2.2.1
theorem k0_off143_packedbf16 : ∀ (v1010 : BitVec 32) (k0_hw36 : k0_chk36 v1010), (Rect.unit (s := S8x10x3584) (k0_off143 v1010) S1x10x128.size (k0_off143_inb v1010 k0_hw36)).PackedRows (EltTy.packing .bf16) := fun v1010 k0_hw36 => k0_hw36.2.1.2.2.2.2.1 (k0_off143_inb v1010 k0_hw36)
theorem k0_off144_inb : ∀ (v1010 : BitVec 32) (k0_hw36 : k0_chk36 v1010), ∀ a, (k0_off144 v1010) a + S1x10x128.size a ≤ S8x10x3584.size a := fun v1010 k0_hw36 => k0_hw36.2.1.2.2.2.2.2.1
theorem k0_off144_packedbf16 : ∀ (v1010 : BitVec 32) (k0_hw36 : k0_chk36 v1010), (Rect.unit (s := S8x10x3584) (k0_off144 v1010) S1x10x128.size (k0_off144_inb v1010 k0_hw36)).PackedRows (EltTy.packing .bf16) := fun v1010 k0_hw36 => k0_hw36.2.1.2.2.2.2.2.2.1 (k0_off144_inb v1010 k0_hw36)
theorem k0_off145_inb : ∀ (v1010 : BitVec 32) (k0_hw36 : k0_chk36 v1010), ∀ a, (k0_off145 v1010) a + S1x10x128.size a ≤ S8x10x3584.size a := fun v1010 k0_hw36 => k0_hw36.2.1.2.2.2.2.2.2.2.1
theorem k0_off145_packedbf16 : ∀ (v1010 : BitVec 32) (k0_hw36 : k0_chk36 v1010), (Rect.unit (s := S8x10x3584) (k0_off145 v1010) S1x10x128.size (k0_off145_inb v1010 k0_hw36)).PackedRows (EltTy.packing .bf16) := fun v1010 k0_hw36 => k0_hw36.2.1.2.2.2.2.2.2.2.2.1 (k0_off145_inb v1010 k0_hw36)
theorem k0_off146_inb : ∀ (v1010 : BitVec 32) (k0_hw36 : k0_chk36 v1010), ∀ a, (k0_off146 v1010) a + S1x10x128.size a ≤ S8x10x3584.size a := fun v1010 k0_hw36 => k0_hw36.2.1.2.2.2.2.2.2.2.2.2.1
theorem k0_off146_packedbf16 : ∀ (v1010 : BitVec 32) (k0_hw36 : k0_chk36 v1010), (Rect.unit (s := S8x10x3584) (k0_off146 v1010) S1x10x128.size (k0_off146_inb v1010 k0_hw36)).PackedRows (EltTy.packing .bf16) := fun v1010 k0_hw36 => k0_hw36.2.1.2.2.2.2.2.2.2.2.2.2.1 (k0_off146_inb v1010 k0_hw36)
theorem k0_off156_inb : ∀ (v1010 : BitVec 32) (k0_hw36 : k0_chk36 v1010), ∀ a, (k0_off156 v1010) a + S1x10x128.size a ≤ S8x10x3584.size a := fun v1010 k0_hw36 => k0_hw36.2.1.2.2.2.2.2.2.2.2.2.2.2.1
theorem k0_off156_packedbf16 : ∀ (v1010 : BitVec 32) (k0_hw36 : k0_chk36 v1010), (Rect.unit (s := S8x10x3584) (k0_off156 v1010) S1x10x128.size (k0_off156_inb v1010 k0_hw36)).PackedRows (EltTy.packing .bf16) := fun v1010 k0_hw36 => k0_hw36.2.1.2.2.2.2.2.2.2.2.2.2.2.2.1 (k0_off156_inb v1010 k0_hw36)
theorem k0_off157_inb : ∀ (v1010 : BitVec 32) (k0_hw36 : k0_chk36 v1010), ∀ a, (k0_off157 v1010) a + S1x10x128.size a ≤ S8x10x3584.size a := fun v1010 k0_hw36 => k0_hw36.2.1.2.2.2.2.2.2.2.2.2.2.2.2.2.1
theorem k0_off157_packedbf16 : ∀ (v1010 : BitVec 32) (k0_hw36 : k0_chk36 v1010), (Rect.unit (s := S8x10x3584) (k0_off157 v1010) S1x10x128.size (k0_off157_inb v1010 k0_hw36)).PackedRows (EltTy.packing .bf16) := fun v1010 k0_hw36 => k0_hw36.2.1.2.2.2.2.2.2.2.2.2.2.2.2.2.2.1 (k0_off157_inb v1010 k0_hw36)
theorem k0_off158_inb : ∀ (v1010 : BitVec 32) (k0_hw36 : k0_chk36 v1010), ∀ a, (k0_off158 v1010) a + S1x10x128.size a ≤ S8x10x3584.size a := fun v1010 k0_hw36 => k0_hw36.2.1.2.2.2.2.2.2.2.2.2.2.2.2.2.2.2.1
theorem k0_off158_packedbf16 : ∀ (v1010 : BitVec 32) (k0_hw36 : k0_chk36 v1010), (Rect.unit (s := S8x10x3584) (k0_off158 v1010) S1x10x128.size (k0_off158_inb v1010 k0_hw36)).PackedRows (EltTy.packing .bf16) := fun v1010 k0_hw36 => k0_hw36.2.1.2.2.2.2.2.2.2.2.2.2.2.2.2.2.2.2.1 (k0_off158_inb v1010 k0_hw36)
theorem k0_off159_inb : ∀ (v1010 : BitVec 32) (k0_hw36 : k0_chk36 v1010), ∀ a, (k0_off159 v1010) a + S1x10x128.size a ≤ S8x10x3584.size a := fun v1010 k0_hw36 => k0_hw36.2.1.2.2.2.2.2.2.2.2.2.2.2.2.2.2.2.2.2.1
theorem k0_off159_packedbf16 : ∀ (v1010 : BitVec 32) (k0_hw36 : k0_chk36 v1010), (Rect.unit (s := S8x10x3584) (k0_off159 v1010) S1x10x128.size (k0_off159_inb v1010 k0_hw36)).PackedRows (EltTy.packing .bf16) := fun v1010 k0_hw36 => k0_hw36.2.1.2.2.2.2.2.2.2.2.2.2.2.2.2.2.2.2.2.2.1 (k0_off159_inb v1010 k0_hw36)
theorem k0_off169_inb : ∀ (v1010 : BitVec 32) (k0_hw36 : k0_chk36 v1010), ∀ a, (k0_off169 v1010) a + S1x10x128.size a ≤ S8x10x3584.size a := fun v1010 k0_hw36 => k0_hw36.2.1.2.2.2.2.2.2.2.2.2.2.2.2.2.2.2.2.2.2.2.1
theorem k0_off169_packedbf16 : ∀ (v1010 : BitVec 32) (k0_hw36 : k0_chk36 v1010), (Rect.unit (s := S8x10x3584) (k0_off169 v1010) S1x10x128.size (k0_off169_inb v1010 k0_hw36)).PackedRows (EltTy.packing .bf16) := fun v1010 k0_hw36 => k0_hw36.2.1.2.2.2.2.2.2.2.2.2.2.2.2.2.2.2.2.2.2.2.2.1 (k0_off169_inb v1010 k0_hw36)
theorem k0_off170_inb : ∀ (v1010 : BitVec 32) (k0_hw36 : k0_chk36 v1010), ∀ a, (k0_off170 v1010) a + S1x10x128.size a ≤ S8x10x3584.size a := fun v1010 k0_hw36 => k0_hw36.2.1.2.2.2.2.2.2.2.2.2.2.2.2.2.2.2.2.2.2.2.2.2.1
theorem k0_off170_packedbf16 : ∀ (v1010 : BitVec 32) (k0_hw36 : k0_chk36 v1010), (Rect.unit (s := S8x10x3584) (k0_off170 v1010) S1x10x128.size (k0_off170_inb v1010 k0_hw36)).PackedRows (EltTy.packing .bf16) := fun v1010 k0_hw36 => k0_hw36.2.1.2.2.2.2.2.2.2.2.2.2.2.2.2.2.2.2.2.2.2.2.2.2.1 (k0_off170_inb v1010 k0_hw36)
theorem k0_off171_inb : ∀ (v1010 : BitVec 32) (k0_hw36 : k0_chk36 v1010), ∀ a, (k0_off171 v1010) a + S1x10x128.size a ≤ S8x10x3584.size a := fun v1010 k0_hw36 => k0_hw36.2.1.2.2.2.2.2.2.2.2.2.2.2.2.2.2.2.2.2.2.2.2.2.2.2.1
theorem k0_off171_packedbf16 : ∀ (v1010 : BitVec 32) (k0_hw36 : k0_chk36 v1010), (Rect.unit (s := S8x10x3584) (k0_off171 v1010) S1x10x128.size (k0_off171_inb v1010 k0_hw36)).PackedRows (EltTy.packing .bf16) := fun v1010 k0_hw36 => k0_hw36.2.1.2.2.2.2.2.2.2.2.2.2.2.2.2.2.2.2.2.2.2.2.2.2.2.2.1 (k0_off171_inb v1010 k0_hw36)
theorem k0_off172_inb : ∀ (v1010 : BitVec 32) (k0_hw36 : k0_chk36 v1010), ∀ a, (k0_off172 v1010) a + S1x10x128.size a ≤ S8x10x3584.size a := fun v1010 k0_hw36 => k0_hw36.2.1.2.2.2.2.2.2.2.2.2.2.2.2.2.2.2.2.2.2.2.2.2.2.2.2.2.1
theorem k0_off172_packedbf16 : ∀ (v1010 : BitVec 32) (k0_hw36 : k0_chk36 v1010), (Rect.unit (s := S8x10x3584) (k0_off172 v1010) S1x10x128.size (k0_off172_inb v1010 k0_hw36)).PackedRows (EltTy.packing .bf16) := fun v1010 k0_hw36 => k0_hw36.2.1.2.2.2.2.2.2.2.2.2.2.2.2.2.2.2.2.2.2.2.2.2.2.2.2.2.2.1 (k0_off172_inb v1010 k0_hw36)
theorem k0_off182_inb : ∀ (v1010 : BitVec 32) (k0_hw36 : k0_chk36 v1010), ∀ a, (k0_off182 v1010) a + S1x10x128.size a ≤ S8x10x3584.size a := fun v1010 k0_hw36 => k0_hw36.2.1.2.2.2.2.2.2.2.2.2.2.2.2.2.2.2.2.2.2.2.2.2.2.2.2.2.2.2.1
theorem k0_off182_packedbf16 : ∀ (v1010 : BitVec 32) (k0_hw36 : k0_chk36 v1010), (Rect.unit (s := S8x10x3584) (k0_off182 v1010) S1x10x128.size (k0_off182_inb v1010 k0_hw36)).PackedRows (EltTy.packing .bf16) := fun v1010 k0_hw36 => k0_hw36.2.1.2.2.2.2.2.2.2.2.2.2.2.2.2.2.2.2.2.2.2.2.2.2.2.2.2.2.2.2.1 (k0_off182_inb v1010 k0_hw36)
theorem k0_off183_inb : ∀ (v1010 : BitVec 32) (k0_hw36 : k0_chk36 v1010), ∀ a, (k0_off183 v1010) a + S1x10x128.size a ≤ S8x10x3584.size a := fun v1010 k0_hw36 => k0_hw36.2.1.2.2.2.2.2.2.2.2.2.2.2.2.2.2.2.2.2.2.2.2.2.2.2.2.2.2.2.2.2.1
theorem k0_off183_packedbf16 : ∀ (v1010 : BitVec 32) (k0_hw36 : k0_chk36 v1010), (Rect.unit (s := S8x10x3584) (k0_off183 v1010) S1x10x128.size (k0_off183_inb v1010 k0_hw36)).PackedRows (EltTy.packing .bf16) := fun v1010 k0_hw36 => k0_hw36.2.1.2.2.2.2.2.2.2.2.2.2.2.2.2.2.2.2.2.2.2.2.2.2.2.2.2.2.2.2.2.2.1 (k0_off183_inb v1010 k0_hw36)
theorem k0_off184_inb : ∀ (v1010 : BitVec 32) (k0_hw36 : k0_chk36 v1010), ∀ a, (k0_off184 v1010) a + S1x10x128.size a ≤ S8x10x3584.size a := fun v1010 k0_hw36 => k0_hw36.2.1.2.2.2.2.2.2.2.2.2.2.2.2.2.2.2.2.2.2.2.2.2.2.2.2.2.2.2.2.2.2.2
theorem k0_off184_packedbf16 : ∀ (v1010 : BitVec 32) (k0_hw36 : k0_chk36 v1010), (Rect.unit (s := S8x10x3584) (k0_off184 v1010) S1x10x128.size (k0_off184_inb v1010 k0_hw36)).PackedRows (EltTy.packing .bf16) := fun v1010 k0_hw36 => k0_hw36.2.2.1 (k0_off184_inb v1010 k0_hw36)
theorem k0_off185_inb : ∀ (v1010 : BitVec 32) (k0_hw36 : k0_chk36 v1010), ∀ a, (k0_off185 v1010) a + S1x10x128.size a ≤ S8x10x3584.size a := fun v1010 k0_hw36 => k0_hw36.2.2.2.1
theorem k0_off185_packedbf16 : ∀ (v1010 : BitVec 32) (k0_hw36 : k0_chk36 v1010), (Rect.unit (s := S8x10x3584) (k0_off185 v1010) S1x10x128.size (k0_off185_inb v1010 k0_hw36)).PackedRows (EltTy.packing .bf16) := fun v1010 k0_hw36 => k0_hw36.2.2.2.2.1 (k0_off185_inb v1010 k0_hw36)
theorem k0_off195_inb : ∀ (v1010 : BitVec 32) (k0_hw36 : k0_chk36 v1010), ∀ a, (k0_off195 v1010) a + S1x10x128.size a ≤ S8x10x3584.size a := fun v1010 k0_hw36 => k0_hw36.2.2.2.2.2.1
theorem k0_off195_packedbf16 : ∀ (v1010 : BitVec 32) (k0_hw36 : k0_chk36 v1010), (Rect.unit (s := S8x10x3584) (k0_off195 v1010) S1x10x128.size (k0_off195_inb v1010 k0_hw36)).PackedRows (EltTy.packing .bf16) := fun v1010 k0_hw36 => k0_hw36.2.2.2.2.2.2.1 (k0_off195_inb v1010 k0_hw36)
theorem k0_off196_inb : ∀ (v1010 : BitVec 32) (k0_hw36 : k0_chk36 v1010), ∀ a, (k0_off196 v1010) a + S1x10x128.size a ≤ S8x10x3584.size a := fun v1010 k0_hw36 => k0_hw36.2.2.2.2.2.2.2.1
theorem k0_off196_packedbf16 : ∀ (v1010 : BitVec 32) (k0_hw36 : k0_chk36 v1010), (Rect.unit (s := S8x10x3584) (k0_off196 v1010) S1x10x128.size (k0_off196_inb v1010 k0_hw36)).PackedRows (EltTy.packing .bf16) := fun v1010 k0_hw36 => k0_hw36.2.2.2.2.2.2.2.2.1 (k0_off196_inb v1010 k0_hw36)
theorem k0_off197_inb : ∀ (v1010 : BitVec 32) (k0_hw36 : k0_chk36 v1010), ∀ a, (k0_off197 v1010) a + S1x10x128.size a ≤ S8x10x3584.size a := fun v1010 k0_hw36 => k0_hw36.2.2.2.2.2.2.2.2.2.1
theorem k0_off197_packedbf16 : ∀ (v1010 : BitVec 32) (k0_hw36 : k0_chk36 v1010), (Rect.unit (s := S8x10x3584) (k0_off197 v1010) S1x10x128.size (k0_off197_inb v1010 k0_hw36)).PackedRows (EltTy.packing .bf16) := fun v1010 k0_hw36 => k0_hw36.2.2.2.2.2.2.2.2.2.2.1 (k0_off197_inb v1010 k0_hw36)
theorem k0_off198_inb : ∀ (v1010 : BitVec 32) (k0_hw36 : k0_chk36 v1010), ∀ a, (k0_off198 v1010) a + S1x10x128.size a ≤ S8x10x3584.size a := fun v1010 k0_hw36 => k0_hw36.2.2.2.2.2.2.2.2.2.2.2.1
theorem k0_off198_packedbf16 : ∀ (v1010 : BitVec 32) (k0_hw36 : k0_chk36 v1010), (Rect.unit (s := S8x10x3584) (k0_off198 v1010) S1x10x128.size (k0_off198_inb v1010 k0_hw36)).PackedRows (EltTy.packing .bf16) := fun v1010 k0_hw36 => k0_hw36.2.2.2.2.2.2.2.2.2.2.2.2 (k0_off198_inb v1010 k0_hw36)

def k0_off199 (v0 : BitVec 32) (v9 : BitVec 32) (v18 : BitVec 32) (v27 : BitVec 32) (v36 : BitVec 32) (v45 : BitVec 32) (v54 : BitVec 32) (v63 : BitVec 32) (k0_t1 : Fin (k0_t1_loop v0 v9 v18 v27 v36 v45 v54 v63).trips) : Fin 1 → Nat :=
  let c0_i32_441 : BitVec 32 := 0#32
  let c1_i32_444 : BitVec 32 := 1#32
  let arg13 : BitVec 32 := Scf.iv c0_i32_441 c1_i32_444 k0_t1
  let c4_i32_667 : BitVec 32 := 4#32
  let v2149 : BitVec 32 := Scalar.addi arg13 c4_i32_667
  let v2151 : Index := Scalar.indexCast v2149
  ![v2151.toNat]
def k0_cond27 (v0 : BitVec 32) (v9 : BitVec 32) (v18 : BitVec 32) (v27 : BitVec 32) (v36 : BitVec 32) (v45 : BitVec 32) (v54 : BitVec 32) (v63 : BitVec 32) (k0_t1 : Fin (k0_t1_loop v0 v9 v18 v27 v36 v45 v54 v63).trips) : BitVec 1 :=
  let c0_i32_441 : BitVec 32 := 0#32
  let c1_i32_444 : BitVec 32 := 1#32
  let arg13 : BitVec 32 := Scf.iv c0_i32_441 c1_i32_444 k0_t1
  let c4_i32_664 : BitVec 32 := 4#32
  let v2145 : BitVec 32 := Scalar.addi arg13 c4_i32_664
  let c0_i32_3 : BitVec 32 := 0#32
  let c0_i32 : BitVec 32 := 0#32
  let v1 : BitVec 1 := Scalar.cmpi .sgt v0 c0_i32
  let v7 : BitVec 32 := Scalar.extui v1
  let v8 : BitVec 32 := Scalar.addi c0_i32_3 v7
  let c0_i32_4 : BitVec 32 := 0#32
  let v10 : BitVec 1 := Scalar.cmpi .sgt v9 c0_i32_4
  let v16 : BitVec 32 := Scalar.extui v10
  let v17 : BitVec 32 := Scalar.addi v8 v16
  let c0_i32_8 : BitVec 32 := 0#32
  let v19 : BitVec 1 := Scalar.cmpi .sgt v18 c0_i32_8
  let v25 : BitVec 32 := Scalar.extui v19
  let v26 : BitVec 32 := Scalar.addi v17 v25
  let c0_i32_12 : BitVec 32 := 0#32
  let v28 : BitVec 1 := Scalar.cmpi .sgt v27 c0_i32_12
  let v34 : BitVec 32 := Scalar.extui v28
  let v35 : BitVec 32 := Scalar.addi v26 v34
  let c0_i32_16 : BitVec 32 := 0#32
  let v37 : BitVec 1 := Scalar.cmpi .sgt v36 c0_i32_16
  let v43 : BitVec 32 := Scalar.extui v37
  let v44 : BitVec 32 := Scalar.addi v35 v43
  let c0_i32_20 : BitVec 32 := 0#32
  let v46 : BitVec 1 := Scalar.cmpi .sgt v45 c0_i32_20
  let v52 : BitVec 32 := Scalar.extui v46
  let v53 : BitVec 32 := Scalar.addi v44 v52
  let c0_i32_24 : BitVec 32 := 0#32
  let v55 : BitVec 1 := Scalar.cmpi .sgt v54 c0_i32_24
  let v61 : BitVec 32 := Scalar.extui v55
  let v62 : BitVec 32 := Scalar.addi v53 v61
  let c0_i32_28 : BitVec 32 := 0#32
  let v64 : BitVec 1 := Scalar.cmpi .sgt v63 c0_i32_28
  let v70 : BitVec 32 := Scalar.extui v64
  let v71 : BitVec 32 := Scalar.addi v62 v70
  let v2146 : BitVec 1 := Scalar.cmpi .slt v2145 v71
  let v2147 : BitVec 32 := Scalar.extui v2146
  let c0_i32_665 : BitVec 32 := 0#32
  let v2148 : BitVec 1 := Scalar.cmpi .ne v2147 c0_i32_665
  v2148

def k0_off200 (v0 : BitVec 32) (v9 : BitVec 32) (v18 : BitVec 32) (v27 : BitVec 32) (v36 : BitVec 32) (v45 : BitVec 32) (v54 : BitVec 32) (v63 : BitVec 32) (k0_t1 : Fin (k0_t1_loop v0 v9 v18 v27 v36 v45 v54 v63).trips) : Fin 2 → Nat :=
  let c0_i32_441 : BitVec 32 := 0#32
  let c1_i32_444 : BitVec 32 := 1#32
  let arg13 : BitVec 32 := Scf.iv c0_i32_441 c1_i32_444 k0_t1
  let c4_i32_667 : BitVec 32 := 4#32
  let v2149 : BitVec 32 := Scalar.addi arg13 c4_i32_667
  let c4_i32_668 : BitVec 32 := 4#32
  let v2150 : BitVec 32 := Scalar.remsi v2149 c4_i32_668
  let c6_i32_670 : BitVec 32 := 6#32
  ![v2150.toNat, 6]
def k0_off201 (v0 : BitVec 32) (v9 : BitVec 32) (v18 : BitVec 32) (v27 : BitVec 32) (v36 : BitVec 32) (v45 : BitVec 32) (v54 : BitVec 32) (v63 : BitVec 32) (k0_t1 : Fin (k0_t1_loop v0 v9 v18 v27 v36 v45 v54 v63).trips) : Fin 4 → Nat :=
  let c0_i32_441 : BitVec 32 := 0#32
  let c1_i32_444 : BitVec 32 := 1#32
  let arg13 : BitVec 32 := Scf.iv c0_i32_441 c1_i32_444 k0_t1
  let c4_i32_667 : BitVec 32 := 4#32
  let v2149 : BitVec 32 := Scalar.addi arg13 c4_i32_667
  let c4_i32_668 : BitVec 32 := 4#32
  let v2150 : BitVec 32 := Scalar.remsi v2149 c4_i32_668
  let c6_i32_669 : BitVec 32 := 6#32
  let c0_i32_671 : BitVec 32 := 0#32
  let c0_i32_672 : BitVec 32 := 0#32
  ![v2150.toNat, 6, 0, 0]
def k0_off202 (v2152 : BitVec 32) : Fin 3 → Nat :=
  let c3072_i32_673 : BitVec 32 := 3072#32
  let c0_i32_674 : BitVec 32 := 0#32
  ![v2152.toNat, 3072, 0]

def k0_chk50 (v0 : BitVec 32) (v9 : BitVec 32) (v18 : BitVec 32) (v27 : BitVec 32) (v36 : BitVec 32) (v45 : BitVec 32) (v54 : BitVec 32) (v63 : BitVec 32) (k0_t1 : Fin (k0_t1_loop v0 v9 v18 v27 v36 v45 v54 v63).trips) (v2152 : BitVec 32) : Prop :=
  (∀ (k0_h27 : k0_cond27 v0 v9 v18 v27 v36 v45 v54 v63 k0_t1 = 1#1), ∀ a, (k0_off202 v2152) a + S1x512x2048.size a ≤ S8x3584x2048.size a) ∧
  (∀ (k0_h27 : k0_cond27 v0 v9 v18 v27 v36 v45 v54 v63 k0_t1 = 1#1), ∀ (hinb : ∀ a, (k0_off202 v2152) a + S1x512x2048.size a ≤ S8x3584x2048.size a), (Rect.unit (s := S8x3584x2048) (k0_off202 v2152) S1x512x2048.size hinb).WholeWords (EltTy.packing .fp8e4m3))
theorem k0_off202_inb : ∀ (v0 : BitVec 32) (v9 : BitVec 32) (v18 : BitVec 32) (v27 : BitVec 32) (v36 : BitVec 32) (v45 : BitVec 32) (v54 : BitVec 32) (v63 : BitVec 32) (k0_t1 : Fin (k0_t1_loop v0 v9 v18 v27 v36 v45 v54 v63).trips) (v2152 : BitVec 32) (k0_hw50 : k0_chk50 v0 v9 v18 v27 v36 v45 v54 v63 k0_t1 v2152), ∀ (k0_h27 : k0_cond27 v0 v9 v18 v27 v36 v45 v54 v63 k0_t1 = 1#1), ∀ a, (k0_off202 v2152) a + S1x512x2048.size a ≤ S8x3584x2048.size a := fun v0 v9 v18 v27 v36 v45 v54 v63 k0_t1 v2152 k0_hw50 k0_h27 => k0_hw50.1 k0_h27
theorem k0_off202_wordsfp8e4m3 : ∀ (v0 : BitVec 32) (v9 : BitVec 32) (v18 : BitVec 32) (v27 : BitVec 32) (v36 : BitVec 32) (v45 : BitVec 32) (v54 : BitVec 32) (v63 : BitVec 32) (k0_t1 : Fin (k0_t1_loop v0 v9 v18 v27 v36 v45 v54 v63).trips) (v2152 : BitVec 32) (k0_hw50 : k0_chk50 v0 v9 v18 v27 v36 v45 v54 v63 k0_t1 v2152), ∀ (k0_h27 : k0_cond27 v0 v9 v18 v27 v36 v45 v54 v63 k0_t1 = 1#1), (Rect.unit (s := S8x3584x2048) (k0_off202 v2152) S1x512x2048.size (k0_off202_inb v0 v9 v18 v27 v36 v45 v54 v63 k0_t1 v2152 k0_hw50 k0_h27)).WholeWords (EltTy.packing .fp8e4m3) := fun v0 v9 v18 v27 v36 v45 v54 v63 k0_t1 v2152 k0_hw50 k0_h27 => k0_hw50.2 k0_h27 (k0_off202_inb v0 v9 v18 v27 v36 v45 v54 v63 k0_t1 v2152 k0_hw50 k0_h27)

@[reducible] def k0_t2_loop (v0 : BitVec 32) (v9 : BitVec 32) (v18 : BitVec 32) (v27 : BitVec 32) (v36 : BitVec 32) (v45 : BitVec 32) (v54 : BitVec 32) (v63 : BitVec 32) : Scf.Loop 32 :=
  let c0_i32_441 : BitVec 32 := 0#32
  let c0_i32_3 : BitVec 32 := 0#32
  let c0_i32 : BitVec 32 := 0#32
  let v1 : BitVec 1 := Scalar.cmpi .sgt v0 c0_i32
  let v7 : BitVec 32 := Scalar.extui v1
  let v8 : BitVec 32 := Scalar.addi c0_i32_3 v7
  let c0_i32_4 : BitVec 32 := 0#32
  let v10 : BitVec 1 := Scalar.cmpi .sgt v9 c0_i32_4
  let v16 : BitVec 32 := Scalar.extui v10
  let v17 : BitVec 32 := Scalar.addi v8 v16
  let c0_i32_8 : BitVec 32 := 0#32
  let v19 : BitVec 1 := Scalar.cmpi .sgt v18 c0_i32_8
  let v25 : BitVec 32 := Scalar.extui v19
  let v26 : BitVec 32 := Scalar.addi v17 v25
  let c0_i32_12 : BitVec 32 := 0#32
  let v28 : BitVec 1 := Scalar.cmpi .sgt v27 c0_i32_12
  let v34 : BitVec 32 := Scalar.extui v28
  let v35 : BitVec 32 := Scalar.addi v26 v34
  let c0_i32_16 : BitVec 32 := 0#32
  let v37 : BitVec 1 := Scalar.cmpi .sgt v36 c0_i32_16
  let v43 : BitVec 32 := Scalar.extui v37
  let v44 : BitVec 32 := Scalar.addi v35 v43
  let c0_i32_20 : BitVec 32 := 0#32
  let v46 : BitVec 1 := Scalar.cmpi .sgt v45 c0_i32_20
  let v52 : BitVec 32 := Scalar.extui v46
  let v53 : BitVec 32 := Scalar.addi v44 v52
  let c0_i32_24 : BitVec 32 := 0#32
  let v55 : BitVec 1 := Scalar.cmpi .sgt v54 c0_i32_24
  let v61 : BitVec 32 := Scalar.extui v55
  let v62 : BitVec 32 := Scalar.addi v53 v61
  let c0_i32_28 : BitVec 32 := 0#32
  let v64 : BitVec 1 := Scalar.cmpi .sgt v63 c0_i32_28
  let v70 : BitVec 32 := Scalar.extui v64
  let v71 : BitVec 32 := Scalar.addi v62 v70
  let v1002 : BitVec 32 := Scalar.subi v71 c0_i32_441
  let c1_i32_443 : BitVec 32 := 1#32
  let v1004 : BitVec 32 := Scalar.divsi v1002 c1_i32_443
  let v1005 : BitVec 32 := Scalar.muli v1004 c1_i32_443
  let v1006 : BitVec 32 := Scalar.addi c0_i32_441 v1005
  let v1003 : BitVec 32 := Scalar.addi c0_i32_441 v1002
  let c1_i32_445 : BitVec 32 := 1#32
  ⟨v1006, v1003, c1_i32_445⟩
def k0_off203 (v0 : BitVec 32) (v9 : BitVec 32) (v18 : BitVec 32) (v27 : BitVec 32) (v36 : BitVec 32) (v45 : BitVec 32) (v54 : BitVec 32) (v63 : BitVec 32) (k0_t2 : Fin (k0_t2_loop v0 v9 v18 v27 v36 v45 v54 v63).trips) : Fin 1 → Nat :=
  let c0_i32_441 : BitVec 32 := 0#32
  let c0_i32_3 : BitVec 32 := 0#32
  let c0_i32 : BitVec 32 := 0#32
  let v1 : BitVec 1 := Scalar.cmpi .sgt v0 c0_i32
  let v7 : BitVec 32 := Scalar.extui v1
  let v8 : BitVec 32 := Scalar.addi c0_i32_3 v7
  let c0_i32_4 : BitVec 32 := 0#32
  let v10 : BitVec 1 := Scalar.cmpi .sgt v9 c0_i32_4
  let v16 : BitVec 32 := Scalar.extui v10
  let v17 : BitVec 32 := Scalar.addi v8 v16
  let c0_i32_8 : BitVec 32 := 0#32
  let v19 : BitVec 1 := Scalar.cmpi .sgt v18 c0_i32_8
  let v25 : BitVec 32 := Scalar.extui v19
  let v26 : BitVec 32 := Scalar.addi v17 v25
  let c0_i32_12 : BitVec 32 := 0#32
  let v28 : BitVec 1 := Scalar.cmpi .sgt v27 c0_i32_12
  let v34 : BitVec 32 := Scalar.extui v28
  let v35 : BitVec 32 := Scalar.addi v26 v34
  let c0_i32_16 : BitVec 32 := 0#32
  let v37 : BitVec 1 := Scalar.cmpi .sgt v36 c0_i32_16
  let v43 : BitVec 32 := Scalar.extui v37
  let v44 : BitVec 32 := Scalar.addi v35 v43
  let c0_i32_20 : BitVec 32 := 0#32
  let v46 : BitVec 1 := Scalar.cmpi .sgt v45 c0_i32_20
  let v52 : BitVec 32 := Scalar.extui v46
  let v53 : BitVec 32 := Scalar.addi v44 v52
  let c0_i32_24 : BitVec 32 := 0#32
  let v55 : BitVec 1 := Scalar.cmpi .sgt v54 c0_i32_24
  let v61 : BitVec 32 := Scalar.extui v55
  let v62 : BitVec 32 := Scalar.addi v53 v61
  let c0_i32_28 : BitVec 32 := 0#32
  let v64 : BitVec 1 := Scalar.cmpi .sgt v63 c0_i32_28
  let v70 : BitVec 32 := Scalar.extui v64
  let v71 : BitVec 32 := Scalar.addi v62 v70
  let v1002 : BitVec 32 := Scalar.subi v71 c0_i32_441
  let c1_i32_443 : BitVec 32 := 1#32
  let v1004 : BitVec 32 := Scalar.divsi v1002 c1_i32_443
  let v1005 : BitVec 32 := Scalar.muli v1004 c1_i32_443
  let v1006 : BitVec 32 := Scalar.addi c0_i32_441 v1005
  let c1_i32_445 : BitVec 32 := 1#32
  let arg13 : BitVec 32 := Scf.iv v1006 c1_i32_445 k0_t2
  let v1009 : Index := Scalar.indexCast arg13
  ![v1009.toNat]
def k0_off204 (v1010 : BitVec 32) : Fin 3 → Nat :=
  let v1013 : Index := Scalar.indexCast v1010
  let c0_448 : Index := 0#32
  let c0_449 : Index := 0#32
  ![v1013.toNat, 0, 0]

def k0_off205 (v1010 : BitVec 32) : Fin 3 → Nat :=
  let v1021 : Index := Scalar.indexCast v1010
  let c0_452 : Index := 0#32
  let c128 : Index := 128#32
  ![v1021.toNat, 0, 128]
def k0_off206 (v1010 : BitVec 32) : Fin 3 → Nat :=
  let v1029 : Index := Scalar.indexCast v1010
  let c0_455 : Index := 0#32
  let c256 : Index := 256#32
  ![v1029.toNat, 0, 256]
def k0_off207 (v1010 : BitVec 32) : Fin 3 → Nat :=
  let v1037 : Index := Scalar.indexCast v1010
  let c0_457 : Index := 0#32
  let c384 : Index := 384#32
  ![v1037.toNat, 0, 384]
def k0_off208 (v1010 : BitVec 32) : Fin 3 → Nat :=
  let v1045 : Index := Scalar.indexCast v1010
  let c0_460 : Index := 0#32
  let c512 : Index := 512#32
  ![v1045.toNat, 0, 512]
def k0_off209 (v1010 : BitVec 32) : Fin 3 → Nat :=
  let v1053 : Index := Scalar.indexCast v1010
  let c0_462 : Index := 0#32
  let c640 : Index := 640#32
  ![v1053.toNat, 0, 640]
def k0_off210 (v1010 : BitVec 32) : Fin 3 → Nat :=
  let v1061 : Index := Scalar.indexCast v1010
  let c0_465 : Index := 0#32
  let c768 : Index := 768#32
  ![v1061.toNat, 0, 768]
def k0_off211 (v1010 : BitVec 32) : Fin 3 → Nat :=
  let v1069 : Index := Scalar.indexCast v1010
  let c0_467 : Index := 0#32
  let c896 : Index := 896#32
  ![v1069.toNat, 0, 896]
def k0_off212 (v1010 : BitVec 32) : Fin 3 → Nat :=
  let v1077 : Index := Scalar.indexCast v1010
  let c0_470 : Index := 0#32
  let c1024 : Index := 1024#32
  ![v1077.toNat, 0, 1024]
def k0_off213 (v1010 : BitVec 32) : Fin 3 → Nat :=
  let v1085 : Index := Scalar.indexCast v1010
  let c0_473 : Index := 0#32
  let c1152 : Index := 1152#32
  ![v1085.toNat, 0, 1152]
def k0_off214 (v1010 : BitVec 32) : Fin 3 → Nat :=
  let v1093 : Index := Scalar.indexCast v1010
  let c0_476 : Index := 0#32
  let c1280 : Index := 1280#32
  ![v1093.toNat, 0, 1280]
def k0_off215 (v1010 : BitVec 32) : Fin 3 → Nat :=
  let v1101 : Index := Scalar.indexCast v1010
  let c0_478 : Index := 0#32
  let c1408 : Index := 1408#32
  ![v1101.toNat, 0, 1408]
def k0_off216 (v1010 : BitVec 32) : Fin 3 → Nat :=
  let v1109 : Index := Scalar.indexCast v1010
  let c0_481 : Index := 0#32
  let c1536 : Index := 1536#32
  ![v1109.toNat, 0, 1536]
def k0_off217 (v1010 : BitVec 32) : Fin 3 → Nat :=
  let v1117 : Index := Scalar.indexCast v1010
  let c0_483 : Index := 0#32
  let c1664 : Index := 1664#32
  ![v1117.toNat, 0, 1664]
def k0_off218 (v1010 : BitVec 32) : Fin 3 → Nat :=
  let v1125 : Index := Scalar.indexCast v1010
  let c0_486 : Index := 0#32
  let c1792 : Index := 1792#32
  ![v1125.toNat, 0, 1792]
def k0_off219 (v1010 : BitVec 32) : Fin 3 → Nat :=
  let v1133 : Index := Scalar.indexCast v1010
  let c0_488 : Index := 0#32
  let c1920 : Index := 1920#32
  ![v1133.toNat, 0, 1920]
def k0_off220 (v1010 : BitVec 32) : Fin 3 → Nat :=
  let v1141 : Index := Scalar.indexCast v1010
  let c0_491 : Index := 0#32
  let c0_492 : Index := 0#32
  ![v1141.toNat, 0, 0]
def k0_off221 (v1010 : BitVec 32) : Fin 2 → Nat :=
  let v1146 : Index := Scalar.indexCast v1010
  let c0_494 : Index := 0#32
  ![v1146.toNat, 0]
def k0_off222 (v1010 : BitVec 32) : Fin 1 → Nat :=
  let v1151 : Index := Scalar.indexCast v1010
  ![v1151.toNat]
def k0_off223 (v0 : BitVec 32) (v9 : BitVec 32) (v18 : BitVec 32) (v27 : BitVec 32) (v36 : BitVec 32) (v45 : BitVec 32) (v54 : BitVec 32) (v63 : BitVec 32) (k0_t2 : Fin (k0_t2_loop v0 v9 v18 v27 v36 v45 v54 v63).trips) : Fin 1 → Nat :=
  let c0_i32_441 : BitVec 32 := 0#32
  let c0_i32_3 : BitVec 32 := 0#32
  let c0_i32 : BitVec 32 := 0#32
  let v1 : BitVec 1 := Scalar.cmpi .sgt v0 c0_i32
  let v7 : BitVec 32 := Scalar.extui v1
  let v8 : BitVec 32 := Scalar.addi c0_i32_3 v7
  let c0_i32_4 : BitVec 32 := 0#32
  let v10 : BitVec 1 := Scalar.cmpi .sgt v9 c0_i32_4
  let v16 : BitVec 32 := Scalar.extui v10
  let v17 : BitVec 32 := Scalar.addi v8 v16
  let c0_i32_8 : BitVec 32 := 0#32
  let v19 : BitVec 1 := Scalar.cmpi .sgt v18 c0_i32_8
  let v25 : BitVec 32 := Scalar.extui v19
  let v26 : BitVec 32 := Scalar.addi v17 v25
  let c0_i32_12 : BitVec 32 := 0#32
  let v28 : BitVec 1 := Scalar.cmpi .sgt v27 c0_i32_12
  let v34 : BitVec 32 := Scalar.extui v28
  let v35 : BitVec 32 := Scalar.addi v26 v34
  let c0_i32_16 : BitVec 32 := 0#32
  let v37 : BitVec 1 := Scalar.cmpi .sgt v36 c0_i32_16
  let v43 : BitVec 32 := Scalar.extui v37
  let v44 : BitVec 32 := Scalar.addi v35 v43
  let c0_i32_20 : BitVec 32 := 0#32
  let v46 : BitVec 1 := Scalar.cmpi .sgt v45 c0_i32_20
  let v52 : BitVec 32 := Scalar.extui v46
  let v53 : BitVec 32 := Scalar.addi v44 v52
  let c0_i32_24 : BitVec 32 := 0#32
  let v55 : BitVec 1 := Scalar.cmpi .sgt v54 c0_i32_24
  let v61 : BitVec 32 := Scalar.extui v55
  let v62 : BitVec 32 := Scalar.addi v53 v61
  let c0_i32_28 : BitVec 32 := 0#32
  let v64 : BitVec 1 := Scalar.cmpi .sgt v63 c0_i32_28
  let v70 : BitVec 32 := Scalar.extui v64
  let v71 : BitVec 32 := Scalar.addi v62 v70
  let v1002 : BitVec 32 := Scalar.subi v71 c0_i32_441
  let c1_i32_443 : BitVec 32 := 1#32
  let v1004 : BitVec 32 := Scalar.divsi v1002 c1_i32_443
  let v1005 : BitVec 32 := Scalar.muli v1004 c1_i32_443
  let v1006 : BitVec 32 := Scalar.addi c0_i32_441 v1005
  let c1_i32_445 : BitVec 32 := 1#32
  let arg13 : BitVec 32 := Scf.iv v1006 c1_i32_445 k0_t2
  let v1156 : Index := Scalar.indexCast arg13
  ![v1156.toNat]
def k0_off224 (v0 : BitVec 32) (v9 : BitVec 32) (v18 : BitVec 32) (v27 : BitVec 32) (v36 : BitVec 32) (v45 : BitVec 32) (v54 : BitVec 32) (v63 : BitVec 32) (k0_t2 : Fin (k0_t2_loop v0 v9 v18 v27 v36 v45 v54 v63).trips) : Fin 2 → Nat :=
  let c0_i32_441 : BitVec 32 := 0#32
  let c0_i32_3 : BitVec 32 := 0#32
  let c0_i32 : BitVec 32 := 0#32
  let v1 : BitVec 1 := Scalar.cmpi .sgt v0 c0_i32
  let v7 : BitVec 32 := Scalar.extui v1
  let v8 : BitVec 32 := Scalar.addi c0_i32_3 v7
  let c0_i32_4 : BitVec 32 := 0#32
  let v10 : BitVec 1 := Scalar.cmpi .sgt v9 c0_i32_4
  let v16 : BitVec 32 := Scalar.extui v10
  let v17 : BitVec 32 := Scalar.addi v8 v16
  let c0_i32_8 : BitVec 32 := 0#32
  let v19 : BitVec 1 := Scalar.cmpi .sgt v18 c0_i32_8
  let v25 : BitVec 32 := Scalar.extui v19
  let v26 : BitVec 32 := Scalar.addi v17 v25
  let c0_i32_12 : BitVec 32 := 0#32
  let v28 : BitVec 1 := Scalar.cmpi .sgt v27 c0_i32_12
  let v34 : BitVec 32 := Scalar.extui v28
  let v35 : BitVec 32 := Scalar.addi v26 v34
  let c0_i32_16 : BitVec 32 := 0#32
  let v37 : BitVec 1 := Scalar.cmpi .sgt v36 c0_i32_16
  let v43 : BitVec 32 := Scalar.extui v37
  let v44 : BitVec 32 := Scalar.addi v35 v43
  let c0_i32_20 : BitVec 32 := 0#32
  let v46 : BitVec 1 := Scalar.cmpi .sgt v45 c0_i32_20
  let v52 : BitVec 32 := Scalar.extui v46
  let v53 : BitVec 32 := Scalar.addi v44 v52
  let c0_i32_24 : BitVec 32 := 0#32
  let v55 : BitVec 1 := Scalar.cmpi .sgt v54 c0_i32_24
  let v61 : BitVec 32 := Scalar.extui v55
  let v62 : BitVec 32 := Scalar.addi v53 v61
  let c0_i32_28 : BitVec 32 := 0#32
  let v64 : BitVec 1 := Scalar.cmpi .sgt v63 c0_i32_28
  let v70 : BitVec 32 := Scalar.extui v64
  let v71 : BitVec 32 := Scalar.addi v62 v70
  let v1002 : BitVec 32 := Scalar.subi v71 c0_i32_441
  let c1_i32_443 : BitVec 32 := 1#32
  let v1004 : BitVec 32 := Scalar.divsi v1002 c1_i32_443
  let v1005 : BitVec 32 := Scalar.muli v1004 c1_i32_443
  let v1006 : BitVec 32 := Scalar.addi c0_i32_441 v1005
  let c1_i32_445 : BitVec 32 := 1#32
  let arg13 : BitVec 32 := Scf.iv v1006 c1_i32_445 k0_t2
  let c4_i32_495 : BitVec 32 := 4#32
  let v1155 : BitVec 32 := Scalar.remsi arg13 c4_i32_495
  let c0_i32_497 : BitVec 32 := 0#32
  ![v1155.toNat, 0]
def k0_off225 (v0 : BitVec 32) (v9 : BitVec 32) (v18 : BitVec 32) (v27 : BitVec 32) (v36 : BitVec 32) (v45 : BitVec 32) (v54 : BitVec 32) (v63 : BitVec 32) (k0_t2 : Fin (k0_t2_loop v0 v9 v18 v27 v36 v45 v54 v63).trips) : Fin 4 → Nat :=
  let c0_i32_441 : BitVec 32 := 0#32
  let c0_i32_3 : BitVec 32 := 0#32
  let c0_i32 : BitVec 32 := 0#32
  let v1 : BitVec 1 := Scalar.cmpi .sgt v0 c0_i32
  let v7 : BitVec 32 := Scalar.extui v1
  let v8 : BitVec 32 := Scalar.addi c0_i32_3 v7
  let c0_i32_4 : BitVec 32 := 0#32
  let v10 : BitVec 1 := Scalar.cmpi .sgt v9 c0_i32_4
  let v16 : BitVec 32 := Scalar.extui v10
  let v17 : BitVec 32 := Scalar.addi v8 v16
  let c0_i32_8 : BitVec 32 := 0#32
  let v19 : BitVec 1 := Scalar.cmpi .sgt v18 c0_i32_8
  let v25 : BitVec 32 := Scalar.extui v19
  let v26 : BitVec 32 := Scalar.addi v17 v25
  let c0_i32_12 : BitVec 32 := 0#32
  let v28 : BitVec 1 := Scalar.cmpi .sgt v27 c0_i32_12
  let v34 : BitVec 32 := Scalar.extui v28
  let v35 : BitVec 32 := Scalar.addi v26 v34
  let c0_i32_16 : BitVec 32 := 0#32
  let v37 : BitVec 1 := Scalar.cmpi .sgt v36 c0_i32_16
  let v43 : BitVec 32 := Scalar.extui v37
  let v44 : BitVec 32 := Scalar.addi v35 v43
  let c0_i32_20 : BitVec 32 := 0#32
  let v46 : BitVec 1 := Scalar.cmpi .sgt v45 c0_i32_20
  let v52 : BitVec 32 := Scalar.extui v46
  let v53 : BitVec 32 := Scalar.addi v44 v52
  let c0_i32_24 : BitVec 32 := 0#32
  let v55 : BitVec 1 := Scalar.cmpi .sgt v54 c0_i32_24
  let v61 : BitVec 32 := Scalar.extui v55
  let v62 : BitVec 32 := Scalar.addi v53 v61
  let c0_i32_28 : BitVec 32 := 0#32
  let v64 : BitVec 1 := Scalar.cmpi .sgt v63 c0_i32_28
  let v70 : BitVec 32 := Scalar.extui v64
  let v71 : BitVec 32 := Scalar.addi v62 v70
  let v1002 : BitVec 32 := Scalar.subi v71 c0_i32_441
  let c1_i32_443 : BitVec 32 := 1#32
  let v1004 : BitVec 32 := Scalar.divsi v1002 c1_i32_443
  let v1005 : BitVec 32 := Scalar.muli v1004 c1_i32_443
  let v1006 : BitVec 32 := Scalar.addi c0_i32_441 v1005
  let c1_i32_445 : BitVec 32 := 1#32
  let arg13 : BitVec 32 := Scf.iv v1006 c1_i32_445 k0_t2
  let c4_i32_495 : BitVec 32 := 4#32
  let v1155 : BitVec 32 := Scalar.remsi arg13 c4_i32_495
  let c0_i32_496 : BitVec 32 := 0#32
  let c0_i32_498 : BitVec 32 := 0#32
  let c0_i32_499 : BitVec 32 := 0#32
  ![v1155.toNat, 0, 0, 0]
def k0_off226 (v1157 : BitVec 32) : Fin 3 → Nat :=
  let c0_i32_500 : BitVec 32 := 0#32
  let c0_i32_501 : BitVec 32 := 0#32
  ![v1157.toNat, 0, 0]

def k0_chk52 (v1157 : BitVec 32) : Prop :=
  (∀ a, (k0_off226 v1157) a + S1x512x2048.size a ≤ S8x3584x2048.size a) ∧
  (∀ (hinb : ∀ a, (k0_off226 v1157) a + S1x512x2048.size a ≤ S8x3584x2048.size a), (Rect.unit (s := S8x3584x2048) (k0_off226 v1157) S1x512x2048.size hinb).WholeWords (EltTy.packing .fp8e4m3))
theorem k0_off226_inb : ∀ (v1157 : BitVec 32) (k0_hw52 : k0_chk52 v1157), ∀ a, (k0_off226 v1157) a + S1x512x2048.size a ≤ S8x3584x2048.size a := fun v1157 k0_hw52 => k0_hw52.1
theorem k0_off226_wordsfp8e4m3 : ∀ (v1157 : BitVec 32) (k0_hw52 : k0_chk52 v1157), (Rect.unit (s := S8x3584x2048) (k0_off226 v1157) S1x512x2048.size (k0_off226_inb v1157 k0_hw52)).WholeWords (EltTy.packing .fp8e4m3) := fun v1157 k0_hw52 => k0_hw52.2 (k0_off226_inb v1157 k0_hw52)

def k0_off227 (v0 : BitVec 32) (v9 : BitVec 32) (v18 : BitVec 32) (v27 : BitVec 32) (v36 : BitVec 32) (v45 : BitVec 32) (v54 : BitVec 32) (v63 : BitVec 32) (k0_t2 : Fin (k0_t2_loop v0 v9 v18 v27 v36 v45 v54 v63).trips) : Fin 4 → Nat :=
  let c0_i32_441 : BitVec 32 := 0#32
  let c0_i32_3 : BitVec 32 := 0#32
  let c0_i32 : BitVec 32 := 0#32
  let v1 : BitVec 1 := Scalar.cmpi .sgt v0 c0_i32
  let v7 : BitVec 32 := Scalar.extui v1
  let v8 : BitVec 32 := Scalar.addi c0_i32_3 v7
  let c0_i32_4 : BitVec 32 := 0#32
  let v10 : BitVec 1 := Scalar.cmpi .sgt v9 c0_i32_4
  let v16 : BitVec 32 := Scalar.extui v10
  let v17 : BitVec 32 := Scalar.addi v8 v16
  let c0_i32_8 : BitVec 32 := 0#32
  let v19 : BitVec 1 := Scalar.cmpi .sgt v18 c0_i32_8
  let v25 : BitVec 32 := Scalar.extui v19
  let v26 : BitVec 32 := Scalar.addi v17 v25
  let c0_i32_12 : BitVec 32 := 0#32
  let v28 : BitVec 1 := Scalar.cmpi .sgt v27 c0_i32_12
  let v34 : BitVec 32 := Scalar.extui v28
  let v35 : BitVec 32 := Scalar.addi v26 v34
  let c0_i32_16 : BitVec 32 := 0#32
  let v37 : BitVec 1 := Scalar.cmpi .sgt v36 c0_i32_16
  let v43 : BitVec 32 := Scalar.extui v37
  let v44 : BitVec 32 := Scalar.addi v35 v43
  let c0_i32_20 : BitVec 32 := 0#32
  let v46 : BitVec 1 := Scalar.cmpi .sgt v45 c0_i32_20
  let v52 : BitVec 32 := Scalar.extui v46
  let v53 : BitVec 32 := Scalar.addi v44 v52
  let c0_i32_24 : BitVec 32 := 0#32
  let v55 : BitVec 1 := Scalar.cmpi .sgt v54 c0_i32_24
  let v61 : BitVec 32 := Scalar.extui v55
  let v62 : BitVec 32 := Scalar.addi v53 v61
  let c0_i32_28 : BitVec 32 := 0#32
  let v64 : BitVec 1 := Scalar.cmpi .sgt v63 c0_i32_28
  let v70 : BitVec 32 := Scalar.extui v64
  let v71 : BitVec 32 := Scalar.addi v62 v70
  let v1002 : BitVec 32 := Scalar.subi v71 c0_i32_441
  let c1_i32_443 : BitVec 32 := 1#32
  let v1004 : BitVec 32 := Scalar.divsi v1002 c1_i32_443
  let v1005 : BitVec 32 := Scalar.muli v1004 c1_i32_443
  let v1006 : BitVec 32 := Scalar.addi c0_i32_441 v1005
  let c1_i32_445 : BitVec 32 := 1#32
  let arg13 : BitVec 32 := Scf.iv v1006 c1_i32_445 k0_t2
  let c4_i32_446 : BitVec 32 := 4#32
  let v1011 : BitVec 32 := Scalar.remsi arg13 c4_i32_446
  let v1164 : Index := Scalar.indexCast v1011
  let c0_502 : Index := 0#32
  let c0_503 : Index := 0#32
  let c0_504 : Index := 0#32
  ![v1164.toNat, 0, 0, 0]
def k0_off228 (v1010 : BitVec 32) : Fin 3 → Nat :=
  let v1196 : Index := Scalar.indexCast v1010
  let c0_509 : Index := 0#32
  let c0_510 : Index := 0#32
  ![v1196.toNat, 0, 0]
def k0_off229 (v1010 : BitVec 32) : Fin 3 → Nat :=
  let v1227 : Index := Scalar.indexCast v1010
  let c0_512 : Index := 0#32
  let c128_513 : Index := 128#32
  ![v1227.toNat, 0, 128]
def k0_off230 (v1010 : BitVec 32) : Fin 3 → Nat :=
  let v1258 : Index := Scalar.indexCast v1010
  let c0_515 : Index := 0#32
  let c256_516 : Index := 256#32
  ![v1258.toNat, 0, 256]
def k0_off231 (v1010 : BitVec 32) : Fin 3 → Nat :=
  let v1289 : Index := Scalar.indexCast v1010
  let c0_518 : Index := 0#32
  let c384_519 : Index := 384#32
  ![v1289.toNat, 0, 384]
def k0_off232 (v0 : BitVec 32) (v9 : BitVec 32) (v18 : BitVec 32) (v27 : BitVec 32) (v36 : BitVec 32) (v45 : BitVec 32) (v54 : BitVec 32) (v63 : BitVec 32) (k0_t2 : Fin (k0_t2_loop v0 v9 v18 v27 v36 v45 v54 v63).trips) : Fin 1 → Nat :=
  let c0_i32_441 : BitVec 32 := 0#32
  let c0_i32_3 : BitVec 32 := 0#32
  let c0_i32 : BitVec 32 := 0#32
  let v1 : BitVec 1 := Scalar.cmpi .sgt v0 c0_i32
  let v7 : BitVec 32 := Scalar.extui v1
  let v8 : BitVec 32 := Scalar.addi c0_i32_3 v7
  let c0_i32_4 : BitVec 32 := 0#32
  let v10 : BitVec 1 := Scalar.cmpi .sgt v9 c0_i32_4
  let v16 : BitVec 32 := Scalar.extui v10
  let v17 : BitVec 32 := Scalar.addi v8 v16
  let c0_i32_8 : BitVec 32 := 0#32
  let v19 : BitVec 1 := Scalar.cmpi .sgt v18 c0_i32_8
  let v25 : BitVec 32 := Scalar.extui v19
  let v26 : BitVec 32 := Scalar.addi v17 v25
  let c0_i32_12 : BitVec 32 := 0#32
  let v28 : BitVec 1 := Scalar.cmpi .sgt v27 c0_i32_12
  let v34 : BitVec 32 := Scalar.extui v28
  let v35 : BitVec 32 := Scalar.addi v26 v34
  let c0_i32_16 : BitVec 32 := 0#32
  let v37 : BitVec 1 := Scalar.cmpi .sgt v36 c0_i32_16
  let v43 : BitVec 32 := Scalar.extui v37
  let v44 : BitVec 32 := Scalar.addi v35 v43
  let c0_i32_20 : BitVec 32 := 0#32
  let v46 : BitVec 1 := Scalar.cmpi .sgt v45 c0_i32_20
  let v52 : BitVec 32 := Scalar.extui v46
  let v53 : BitVec 32 := Scalar.addi v44 v52
  let c0_i32_24 : BitVec 32 := 0#32
  let v55 : BitVec 1 := Scalar.cmpi .sgt v54 c0_i32_24
  let v61 : BitVec 32 := Scalar.extui v55
  let v62 : BitVec 32 := Scalar.addi v53 v61
  let c0_i32_28 : BitVec 32 := 0#32
  let v64 : BitVec 1 := Scalar.cmpi .sgt v63 c0_i32_28
  let v70 : BitVec 32 := Scalar.extui v64
  let v71 : BitVec 32 := Scalar.addi v62 v70
  let v1002 : BitVec 32 := Scalar.subi v71 c0_i32_441
  let c1_i32_443 : BitVec 32 := 1#32
  let v1004 : BitVec 32 := Scalar.divsi v1002 c1_i32_443
  let v1005 : BitVec 32 := Scalar.muli v1004 c1_i32_443
  let v1006 : BitVec 32 := Scalar.addi c0_i32_441 v1005
  let c1_i32_445 : BitVec 32 := 1#32
  let arg13 : BitVec 32 := Scf.iv v1006 c1_i32_445 k0_t2
  let c4_i32_667 : BitVec 32 := 4#32
  let v2149 : BitVec 32 := Scalar.addi arg13 c4_i32_667
  let v2151 : Index := Scalar.indexCast v2149
  ![v2151.toNat]
def k0_cond28 (v0 : BitVec 32) (v9 : BitVec 32) (v18 : BitVec 32) (v27 : BitVec 32) (v36 : BitVec 32) (v45 : BitVec 32) (v54 : BitVec 32) (v63 : BitVec 32) (k0_t2 : Fin (k0_t2_loop v0 v9 v18 v27 v36 v45 v54 v63).trips) : BitVec 1 :=
  let c0_i32_441 : BitVec 32 := 0#32
  let c0_i32_3 : BitVec 32 := 0#32
  let c0_i32 : BitVec 32 := 0#32
  let v1 : BitVec 1 := Scalar.cmpi .sgt v0 c0_i32
  let v7 : BitVec 32 := Scalar.extui v1
  let v8 : BitVec 32 := Scalar.addi c0_i32_3 v7
  let c0_i32_4 : BitVec 32 := 0#32
  let v10 : BitVec 1 := Scalar.cmpi .sgt v9 c0_i32_4
  let v16 : BitVec 32 := Scalar.extui v10
  let v17 : BitVec 32 := Scalar.addi v8 v16
  let c0_i32_8 : BitVec 32 := 0#32
  let v19 : BitVec 1 := Scalar.cmpi .sgt v18 c0_i32_8
  let v25 : BitVec 32 := Scalar.extui v19
  let v26 : BitVec 32 := Scalar.addi v17 v25
  let c0_i32_12 : BitVec 32 := 0#32
  let v28 : BitVec 1 := Scalar.cmpi .sgt v27 c0_i32_12
  let v34 : BitVec 32 := Scalar.extui v28
  let v35 : BitVec 32 := Scalar.addi v26 v34
  let c0_i32_16 : BitVec 32 := 0#32
  let v37 : BitVec 1 := Scalar.cmpi .sgt v36 c0_i32_16
  let v43 : BitVec 32 := Scalar.extui v37
  let v44 : BitVec 32 := Scalar.addi v35 v43
  let c0_i32_20 : BitVec 32 := 0#32
  let v46 : BitVec 1 := Scalar.cmpi .sgt v45 c0_i32_20
  let v52 : BitVec 32 := Scalar.extui v46
  let v53 : BitVec 32 := Scalar.addi v44 v52
  let c0_i32_24 : BitVec 32 := 0#32
  let v55 : BitVec 1 := Scalar.cmpi .sgt v54 c0_i32_24
  let v61 : BitVec 32 := Scalar.extui v55
  let v62 : BitVec 32 := Scalar.addi v53 v61
  let c0_i32_28 : BitVec 32 := 0#32
  let v64 : BitVec 1 := Scalar.cmpi .sgt v63 c0_i32_28
  let v70 : BitVec 32 := Scalar.extui v64
  let v71 : BitVec 32 := Scalar.addi v62 v70
  let v1002 : BitVec 32 := Scalar.subi v71 c0_i32_441
  let c1_i32_443 : BitVec 32 := 1#32
  let v1004 : BitVec 32 := Scalar.divsi v1002 c1_i32_443
  let v1005 : BitVec 32 := Scalar.muli v1004 c1_i32_443
  let v1006 : BitVec 32 := Scalar.addi c0_i32_441 v1005
  let c1_i32_445 : BitVec 32 := 1#32
  let arg13 : BitVec 32 := Scf.iv v1006 c1_i32_445 k0_t2
  let c4_i32_520 : BitVec 32 := 4#32
  let v1293 : BitVec 32 := Scalar.addi arg13 c4_i32_520
  let v1294 : BitVec 1 := Scalar.cmpi .slt v1293 v71
  let v1295 : BitVec 32 := Scalar.extui v1294
  let c0_i32_521 : BitVec 32 := 0#32
  let v1296 : BitVec 1 := Scalar.cmpi .ne v1295 c0_i32_521
  v1296

def k0_off233 (v0 : BitVec 32) (v9 : BitVec 32) (v18 : BitVec 32) (v27 : BitVec 32) (v36 : BitVec 32) (v45 : BitVec 32) (v54 : BitVec 32) (v63 : BitVec 32) (k0_t2 : Fin (k0_t2_loop v0 v9 v18 v27 v36 v45 v54 v63).trips) : Fin 2 → Nat :=
  let c0_i32_441 : BitVec 32 := 0#32
  let c0_i32_3 : BitVec 32 := 0#32
  let c0_i32 : BitVec 32 := 0#32
  let v1 : BitVec 1 := Scalar.cmpi .sgt v0 c0_i32
  let v7 : BitVec 32 := Scalar.extui v1
  let v8 : BitVec 32 := Scalar.addi c0_i32_3 v7
  let c0_i32_4 : BitVec 32 := 0#32
  let v10 : BitVec 1 := Scalar.cmpi .sgt v9 c0_i32_4
  let v16 : BitVec 32 := Scalar.extui v10
  let v17 : BitVec 32 := Scalar.addi v8 v16
  let c0_i32_8 : BitVec 32 := 0#32
  let v19 : BitVec 1 := Scalar.cmpi .sgt v18 c0_i32_8
  let v25 : BitVec 32 := Scalar.extui v19
  let v26 : BitVec 32 := Scalar.addi v17 v25
  let c0_i32_12 : BitVec 32 := 0#32
  let v28 : BitVec 1 := Scalar.cmpi .sgt v27 c0_i32_12
  let v34 : BitVec 32 := Scalar.extui v28
  let v35 : BitVec 32 := Scalar.addi v26 v34
  let c0_i32_16 : BitVec 32 := 0#32
  let v37 : BitVec 1 := Scalar.cmpi .sgt v36 c0_i32_16
  let v43 : BitVec 32 := Scalar.extui v37
  let v44 : BitVec 32 := Scalar.addi v35 v43
  let c0_i32_20 : BitVec 32 := 0#32
  let v46 : BitVec 1 := Scalar.cmpi .sgt v45 c0_i32_20
  let v52 : BitVec 32 := Scalar.extui v46
  let v53 : BitVec 32 := Scalar.addi v44 v52
  let c0_i32_24 : BitVec 32 := 0#32
  let v55 : BitVec 1 := Scalar.cmpi .sgt v54 c0_i32_24
  let v61 : BitVec 32 := Scalar.extui v55
  let v62 : BitVec 32 := Scalar.addi v53 v61
  let c0_i32_28 : BitVec 32 := 0#32
  let v64 : BitVec 1 := Scalar.cmpi .sgt v63 c0_i32_28
  let v70 : BitVec 32 := Scalar.extui v64
  let v71 : BitVec 32 := Scalar.addi v62 v70
  let v1002 : BitVec 32 := Scalar.subi v71 c0_i32_441
  let c1_i32_443 : BitVec 32 := 1#32
  let v1004 : BitVec 32 := Scalar.divsi v1002 c1_i32_443
  let v1005 : BitVec 32 := Scalar.muli v1004 c1_i32_443
  let v1006 : BitVec 32 := Scalar.addi c0_i32_441 v1005
  let c1_i32_445 : BitVec 32 := 1#32
  let arg13 : BitVec 32 := Scf.iv v1006 c1_i32_445 k0_t2
  let c4_i32_667 : BitVec 32 := 4#32
  let v2149 : BitVec 32 := Scalar.addi arg13 c4_i32_667
  let c4_i32_668 : BitVec 32 := 4#32
  let v2150 : BitVec 32 := Scalar.remsi v2149 c4_i32_668
  let c0_i32_670 : BitVec 32 := 0#32
  ![v2150.toNat, 0]
def k0_off234 (v0 : BitVec 32) (v9 : BitVec 32) (v18 : BitVec 32) (v27 : BitVec 32) (v36 : BitVec 32) (v45 : BitVec 32) (v54 : BitVec 32) (v63 : BitVec 32) (k0_t2 : Fin (k0_t2_loop v0 v9 v18 v27 v36 v45 v54 v63).trips) : Fin 4 → Nat :=
  let c0_i32_441 : BitVec 32 := 0#32
  let c0_i32_3 : BitVec 32 := 0#32
  let c0_i32 : BitVec 32 := 0#32
  let v1 : BitVec 1 := Scalar.cmpi .sgt v0 c0_i32
  let v7 : BitVec 32 := Scalar.extui v1
  let v8 : BitVec 32 := Scalar.addi c0_i32_3 v7
  let c0_i32_4 : BitVec 32 := 0#32
  let v10 : BitVec 1 := Scalar.cmpi .sgt v9 c0_i32_4
  let v16 : BitVec 32 := Scalar.extui v10
  let v17 : BitVec 32 := Scalar.addi v8 v16
  let c0_i32_8 : BitVec 32 := 0#32
  let v19 : BitVec 1 := Scalar.cmpi .sgt v18 c0_i32_8
  let v25 : BitVec 32 := Scalar.extui v19
  let v26 : BitVec 32 := Scalar.addi v17 v25
  let c0_i32_12 : BitVec 32 := 0#32
  let v28 : BitVec 1 := Scalar.cmpi .sgt v27 c0_i32_12
  let v34 : BitVec 32 := Scalar.extui v28
  let v35 : BitVec 32 := Scalar.addi v26 v34
  let c0_i32_16 : BitVec 32 := 0#32
  let v37 : BitVec 1 := Scalar.cmpi .sgt v36 c0_i32_16
  let v43 : BitVec 32 := Scalar.extui v37
  let v44 : BitVec 32 := Scalar.addi v35 v43
  let c0_i32_20 : BitVec 32 := 0#32
  let v46 : BitVec 1 := Scalar.cmpi .sgt v45 c0_i32_20
  let v52 : BitVec 32 := Scalar.extui v46
  let v53 : BitVec 32 := Scalar.addi v44 v52
  let c0_i32_24 : BitVec 32 := 0#32
  let v55 : BitVec 1 := Scalar.cmpi .sgt v54 c0_i32_24
  let v61 : BitVec 32 := Scalar.extui v55
  let v62 : BitVec 32 := Scalar.addi v53 v61
  let c0_i32_28 : BitVec 32 := 0#32
  let v64 : BitVec 1 := Scalar.cmpi .sgt v63 c0_i32_28
  let v70 : BitVec 32 := Scalar.extui v64
  let v71 : BitVec 32 := Scalar.addi v62 v70
  let v1002 : BitVec 32 := Scalar.subi v71 c0_i32_441
  let c1_i32_443 : BitVec 32 := 1#32
  let v1004 : BitVec 32 := Scalar.divsi v1002 c1_i32_443
  let v1005 : BitVec 32 := Scalar.muli v1004 c1_i32_443
  let v1006 : BitVec 32 := Scalar.addi c0_i32_441 v1005
  let c1_i32_445 : BitVec 32 := 1#32
  let arg13 : BitVec 32 := Scf.iv v1006 c1_i32_445 k0_t2
  let c4_i32_667 : BitVec 32 := 4#32
  let v2149 : BitVec 32 := Scalar.addi arg13 c4_i32_667
  let c4_i32_668 : BitVec 32 := 4#32
  let v2150 : BitVec 32 := Scalar.remsi v2149 c4_i32_668
  let c0_i32_669 : BitVec 32 := 0#32
  let c0_i32_671 : BitVec 32 := 0#32
  let c0_i32_672 : BitVec 32 := 0#32
  ![v2150.toNat, 0, 0, 0]
def k0_off235 (v2152 : BitVec 32) : Fin 3 → Nat :=
  let c0_i32_673 : BitVec 32 := 0#32
  let c0_i32_674 : BitVec 32 := 0#32
  ![v2152.toNat, 0, 0]

def k0_chk53 (v0 : BitVec 32) (v9 : BitVec 32) (v18 : BitVec 32) (v27 : BitVec 32) (v36 : BitVec 32) (v45 : BitVec 32) (v54 : BitVec 32) (v63 : BitVec 32) (k0_t2 : Fin (k0_t2_loop v0 v9 v18 v27 v36 v45 v54 v63).trips) (v2152 : BitVec 32) : Prop :=
  (∀ (k0_h28 : k0_cond28 v0 v9 v18 v27 v36 v45 v54 v63 k0_t2 = 1#1), ∀ a, (k0_off235 v2152) a + S1x512x2048.size a ≤ S8x3584x2048.size a) ∧
  (∀ (k0_h28 : k0_cond28 v0 v9 v18 v27 v36 v45 v54 v63 k0_t2 = 1#1), ∀ (hinb : ∀ a, (k0_off235 v2152) a + S1x512x2048.size a ≤ S8x3584x2048.size a), (Rect.unit (s := S8x3584x2048) (k0_off235 v2152) S1x512x2048.size hinb).WholeWords (EltTy.packing .fp8e4m3))
theorem k0_off235_inb : ∀ (v0 : BitVec 32) (v9 : BitVec 32) (v18 : BitVec 32) (v27 : BitVec 32) (v36 : BitVec 32) (v45 : BitVec 32) (v54 : BitVec 32) (v63 : BitVec 32) (k0_t2 : Fin (k0_t2_loop v0 v9 v18 v27 v36 v45 v54 v63).trips) (v2152 : BitVec 32) (k0_hw53 : k0_chk53 v0 v9 v18 v27 v36 v45 v54 v63 k0_t2 v2152), ∀ (k0_h28 : k0_cond28 v0 v9 v18 v27 v36 v45 v54 v63 k0_t2 = 1#1), ∀ a, (k0_off235 v2152) a + S1x512x2048.size a ≤ S8x3584x2048.size a := fun v0 v9 v18 v27 v36 v45 v54 v63 k0_t2 v2152 k0_hw53 k0_h28 => k0_hw53.1 k0_h28
theorem k0_off235_wordsfp8e4m3 : ∀ (v0 : BitVec 32) (v9 : BitVec 32) (v18 : BitVec 32) (v27 : BitVec 32) (v36 : BitVec 32) (v45 : BitVec 32) (v54 : BitVec 32) (v63 : BitVec 32) (k0_t2 : Fin (k0_t2_loop v0 v9 v18 v27 v36 v45 v54 v63).trips) (v2152 : BitVec 32) (k0_hw53 : k0_chk53 v0 v9 v18 v27 v36 v45 v54 v63 k0_t2 v2152), ∀ (k0_h28 : k0_cond28 v0 v9 v18 v27 v36 v45 v54 v63 k0_t2 = 1#1), (Rect.unit (s := S8x3584x2048) (k0_off235 v2152) S1x512x2048.size (k0_off235_inb v0 v9 v18 v27 v36 v45 v54 v63 k0_t2 v2152 k0_hw53 k0_h28)).WholeWords (EltTy.packing .fp8e4m3) := fun v0 v9 v18 v27 v36 v45 v54 v63 k0_t2 v2152 k0_hw53 k0_h28 => k0_hw53.2 k0_h28 (k0_off235_inb v0 v9 v18 v27 v36 v45 v54 v63 k0_t2 v2152 k0_hw53 k0_h28)

def k0_off236 (v0 : BitVec 32) (v9 : BitVec 32) (v18 : BitVec 32) (v27 : BitVec 32) (v36 : BitVec 32) (v45 : BitVec 32) (v54 : BitVec 32) (v63 : BitVec 32) (k0_t2 : Fin (k0_t2_loop v0 v9 v18 v27 v36 v45 v54 v63).trips) : Fin 1 → Nat :=
  let c0_i32_441 : BitVec 32 := 0#32
  let c0_i32_3 : BitVec 32 := 0#32
  let c0_i32 : BitVec 32 := 0#32
  let v1 : BitVec 1 := Scalar.cmpi .sgt v0 c0_i32
  let v7 : BitVec 32 := Scalar.extui v1
  let v8 : BitVec 32 := Scalar.addi c0_i32_3 v7
  let c0_i32_4 : BitVec 32 := 0#32
  let v10 : BitVec 1 := Scalar.cmpi .sgt v9 c0_i32_4
  let v16 : BitVec 32 := Scalar.extui v10
  let v17 : BitVec 32 := Scalar.addi v8 v16
  let c0_i32_8 : BitVec 32 := 0#32
  let v19 : BitVec 1 := Scalar.cmpi .sgt v18 c0_i32_8
  let v25 : BitVec 32 := Scalar.extui v19
  let v26 : BitVec 32 := Scalar.addi v17 v25
  let c0_i32_12 : BitVec 32 := 0#32
  let v28 : BitVec 1 := Scalar.cmpi .sgt v27 c0_i32_12
  let v34 : BitVec 32 := Scalar.extui v28
  let v35 : BitVec 32 := Scalar.addi v26 v34
  let c0_i32_16 : BitVec 32 := 0#32
  let v37 : BitVec 1 := Scalar.cmpi .sgt v36 c0_i32_16
  let v43 : BitVec 32 := Scalar.extui v37
  let v44 : BitVec 32 := Scalar.addi v35 v43
  let c0_i32_20 : BitVec 32 := 0#32
  let v46 : BitVec 1 := Scalar.cmpi .sgt v45 c0_i32_20
  let v52 : BitVec 32 := Scalar.extui v46
  let v53 : BitVec 32 := Scalar.addi v44 v52
  let c0_i32_24 : BitVec 32 := 0#32
  let v55 : BitVec 1 := Scalar.cmpi .sgt v54 c0_i32_24
  let v61 : BitVec 32 := Scalar.extui v55
  let v62 : BitVec 32 := Scalar.addi v53 v61
  let c0_i32_28 : BitVec 32 := 0#32
  let v64 : BitVec 1 := Scalar.cmpi .sgt v63 c0_i32_28
  let v70 : BitVec 32 := Scalar.extui v64
  let v71 : BitVec 32 := Scalar.addi v62 v70
  let v1002 : BitVec 32 := Scalar.subi v71 c0_i32_441
  let c1_i32_443 : BitVec 32 := 1#32
  let v1004 : BitVec 32 := Scalar.divsi v1002 c1_i32_443
  let v1005 : BitVec 32 := Scalar.muli v1004 c1_i32_443
  let v1006 : BitVec 32 := Scalar.addi c0_i32_441 v1005
  let c1_i32_445 : BitVec 32 := 1#32
  let arg13 : BitVec 32 := Scf.iv v1006 c1_i32_445 k0_t2
  let v1298 : Index := Scalar.indexCast arg13
  ![v1298.toNat]
def k0_off237 (v0 : BitVec 32) (v9 : BitVec 32) (v18 : BitVec 32) (v27 : BitVec 32) (v36 : BitVec 32) (v45 : BitVec 32) (v54 : BitVec 32) (v63 : BitVec 32) (k0_t2 : Fin (k0_t2_loop v0 v9 v18 v27 v36 v45 v54 v63).trips) : Fin 2 → Nat :=
  let c0_i32_441 : BitVec 32 := 0#32
  let c0_i32_3 : BitVec 32 := 0#32
  let c0_i32 : BitVec 32 := 0#32
  let v1 : BitVec 1 := Scalar.cmpi .sgt v0 c0_i32
  let v7 : BitVec 32 := Scalar.extui v1
  let v8 : BitVec 32 := Scalar.addi c0_i32_3 v7
  let c0_i32_4 : BitVec 32 := 0#32
  let v10 : BitVec 1 := Scalar.cmpi .sgt v9 c0_i32_4
  let v16 : BitVec 32 := Scalar.extui v10
  let v17 : BitVec 32 := Scalar.addi v8 v16
  let c0_i32_8 : BitVec 32 := 0#32
  let v19 : BitVec 1 := Scalar.cmpi .sgt v18 c0_i32_8
  let v25 : BitVec 32 := Scalar.extui v19
  let v26 : BitVec 32 := Scalar.addi v17 v25
  let c0_i32_12 : BitVec 32 := 0#32
  let v28 : BitVec 1 := Scalar.cmpi .sgt v27 c0_i32_12
  let v34 : BitVec 32 := Scalar.extui v28
  let v35 : BitVec 32 := Scalar.addi v26 v34
  let c0_i32_16 : BitVec 32 := 0#32
  let v37 : BitVec 1 := Scalar.cmpi .sgt v36 c0_i32_16
  let v43 : BitVec 32 := Scalar.extui v37
  let v44 : BitVec 32 := Scalar.addi v35 v43
  let c0_i32_20 : BitVec 32 := 0#32
  let v46 : BitVec 1 := Scalar.cmpi .sgt v45 c0_i32_20
  let v52 : BitVec 32 := Scalar.extui v46
  let v53 : BitVec 32 := Scalar.addi v44 v52
  let c0_i32_24 : BitVec 32 := 0#32
  let v55 : BitVec 1 := Scalar.cmpi .sgt v54 c0_i32_24
  let v61 : BitVec 32 := Scalar.extui v55
  let v62 : BitVec 32 := Scalar.addi v53 v61
  let c0_i32_28 : BitVec 32 := 0#32
  let v64 : BitVec 1 := Scalar.cmpi .sgt v63 c0_i32_28
  let v70 : BitVec 32 := Scalar.extui v64
  let v71 : BitVec 32 := Scalar.addi v62 v70
  let v1002 : BitVec 32 := Scalar.subi v71 c0_i32_441
  let c1_i32_443 : BitVec 32 := 1#32
  let v1004 : BitVec 32 := Scalar.divsi v1002 c1_i32_443
  let v1005 : BitVec 32 := Scalar.muli v1004 c1_i32_443
  let v1006 : BitVec 32 := Scalar.addi c0_i32_441 v1005
  let c1_i32_445 : BitVec 32 := 1#32
  let arg13 : BitVec 32 := Scf.iv v1006 c1_i32_445 k0_t2
  let c4_i32_522 : BitVec 32 := 4#32
  let v1297 : BitVec 32 := Scalar.remsi arg13 c4_i32_522
  let c1_i32_524 : BitVec 32 := 1#32
  ![v1297.toNat, 1]
def k0_off238 (v0 : BitVec 32) (v9 : BitVec 32) (v18 : BitVec 32) (v27 : BitVec 32) (v36 : BitVec 32) (v45 : BitVec 32) (v54 : BitVec 32) (v63 : BitVec 32) (k0_t2 : Fin (k0_t2_loop v0 v9 v18 v27 v36 v45 v54 v63).trips) : Fin 4 → Nat :=
  let c0_i32_441 : BitVec 32 := 0#32
  let c0_i32_3 : BitVec 32 := 0#32
  let c0_i32 : BitVec 32 := 0#32
  let v1 : BitVec 1 := Scalar.cmpi .sgt v0 c0_i32
  let v7 : BitVec 32 := Scalar.extui v1
  let v8 : BitVec 32 := Scalar.addi c0_i32_3 v7
  let c0_i32_4 : BitVec 32 := 0#32
  let v10 : BitVec 1 := Scalar.cmpi .sgt v9 c0_i32_4
  let v16 : BitVec 32 := Scalar.extui v10
  let v17 : BitVec 32 := Scalar.addi v8 v16
  let c0_i32_8 : BitVec 32 := 0#32
  let v19 : BitVec 1 := Scalar.cmpi .sgt v18 c0_i32_8
  let v25 : BitVec 32 := Scalar.extui v19
  let v26 : BitVec 32 := Scalar.addi v17 v25
  let c0_i32_12 : BitVec 32 := 0#32
  let v28 : BitVec 1 := Scalar.cmpi .sgt v27 c0_i32_12
  let v34 : BitVec 32 := Scalar.extui v28
  let v35 : BitVec 32 := Scalar.addi v26 v34
  let c0_i32_16 : BitVec 32 := 0#32
  let v37 : BitVec 1 := Scalar.cmpi .sgt v36 c0_i32_16
  let v43 : BitVec 32 := Scalar.extui v37
  let v44 : BitVec 32 := Scalar.addi v35 v43
  let c0_i32_20 : BitVec 32 := 0#32
  let v46 : BitVec 1 := Scalar.cmpi .sgt v45 c0_i32_20
  let v52 : BitVec 32 := Scalar.extui v46
  let v53 : BitVec 32 := Scalar.addi v44 v52
  let c0_i32_24 : BitVec 32 := 0#32
  let v55 : BitVec 1 := Scalar.cmpi .sgt v54 c0_i32_24
  let v61 : BitVec 32 := Scalar.extui v55
  let v62 : BitVec 32 := Scalar.addi v53 v61
  let c0_i32_28 : BitVec 32 := 0#32
  let v64 : BitVec 1 := Scalar.cmpi .sgt v63 c0_i32_28
  let v70 : BitVec 32 := Scalar.extui v64
  let v71 : BitVec 32 := Scalar.addi v62 v70
  let v1002 : BitVec 32 := Scalar.subi v71 c0_i32_441
  let c1_i32_443 : BitVec 32 := 1#32
  let v1004 : BitVec 32 := Scalar.divsi v1002 c1_i32_443
  let v1005 : BitVec 32 := Scalar.muli v1004 c1_i32_443
  let v1006 : BitVec 32 := Scalar.addi c0_i32_441 v1005
  let c1_i32_445 : BitVec 32 := 1#32
  let arg13 : BitVec 32 := Scf.iv v1006 c1_i32_445 k0_t2
  let c4_i32_522 : BitVec 32 := 4#32
  let v1297 : BitVec 32 := Scalar.remsi arg13 c4_i32_522
  let c1_i32_523 : BitVec 32 := 1#32
  let c0_i32_525 : BitVec 32 := 0#32
  let c0_i32_526 : BitVec 32 := 0#32
  ![v1297.toNat, 1, 0, 0]
def k0_off239 (v1299 : BitVec 32) : Fin 3 → Nat :=
  let c512_i32 : BitVec 32 := 512#32
  let c0_i32_527 : BitVec 32 := 0#32
  ![v1299.toNat, 512, 0]

def k0_chk54 (v1299 : BitVec 32) : Prop :=
  (∀ a, (k0_off239 v1299) a + S1x512x2048.size a ≤ S8x3584x2048.size a) ∧
  (∀ (hinb : ∀ a, (k0_off239 v1299) a + S1x512x2048.size a ≤ S8x3584x2048.size a), (Rect.unit (s := S8x3584x2048) (k0_off239 v1299) S1x512x2048.size hinb).WholeWords (EltTy.packing .fp8e4m3))
theorem k0_off239_inb : ∀ (v1299 : BitVec 32) (k0_hw54 : k0_chk54 v1299), ∀ a, (k0_off239 v1299) a + S1x512x2048.size a ≤ S8x3584x2048.size a := fun v1299 k0_hw54 => k0_hw54.1
theorem k0_off239_wordsfp8e4m3 : ∀ (v1299 : BitVec 32) (k0_hw54 : k0_chk54 v1299), (Rect.unit (s := S8x3584x2048) (k0_off239 v1299) S1x512x2048.size (k0_off239_inb v1299 k0_hw54)).WholeWords (EltTy.packing .fp8e4m3) := fun v1299 k0_hw54 => k0_hw54.2 (k0_off239_inb v1299 k0_hw54)

def k0_off240 (v0 : BitVec 32) (v9 : BitVec 32) (v18 : BitVec 32) (v27 : BitVec 32) (v36 : BitVec 32) (v45 : BitVec 32) (v54 : BitVec 32) (v63 : BitVec 32) (k0_t2 : Fin (k0_t2_loop v0 v9 v18 v27 v36 v45 v54 v63).trips) : Fin 4 → Nat :=
  let c0_i32_441 : BitVec 32 := 0#32
  let c0_i32_3 : BitVec 32 := 0#32
  let c0_i32 : BitVec 32 := 0#32
  let v1 : BitVec 1 := Scalar.cmpi .sgt v0 c0_i32
  let v7 : BitVec 32 := Scalar.extui v1
  let v8 : BitVec 32 := Scalar.addi c0_i32_3 v7
  let c0_i32_4 : BitVec 32 := 0#32
  let v10 : BitVec 1 := Scalar.cmpi .sgt v9 c0_i32_4
  let v16 : BitVec 32 := Scalar.extui v10
  let v17 : BitVec 32 := Scalar.addi v8 v16
  let c0_i32_8 : BitVec 32 := 0#32
  let v19 : BitVec 1 := Scalar.cmpi .sgt v18 c0_i32_8
  let v25 : BitVec 32 := Scalar.extui v19
  let v26 : BitVec 32 := Scalar.addi v17 v25
  let c0_i32_12 : BitVec 32 := 0#32
  let v28 : BitVec 1 := Scalar.cmpi .sgt v27 c0_i32_12
  let v34 : BitVec 32 := Scalar.extui v28
  let v35 : BitVec 32 := Scalar.addi v26 v34
  let c0_i32_16 : BitVec 32 := 0#32
  let v37 : BitVec 1 := Scalar.cmpi .sgt v36 c0_i32_16
  let v43 : BitVec 32 := Scalar.extui v37
  let v44 : BitVec 32 := Scalar.addi v35 v43
  let c0_i32_20 : BitVec 32 := 0#32
  let v46 : BitVec 1 := Scalar.cmpi .sgt v45 c0_i32_20
  let v52 : BitVec 32 := Scalar.extui v46
  let v53 : BitVec 32 := Scalar.addi v44 v52
  let c0_i32_24 : BitVec 32 := 0#32
  let v55 : BitVec 1 := Scalar.cmpi .sgt v54 c0_i32_24
  let v61 : BitVec 32 := Scalar.extui v55
  let v62 : BitVec 32 := Scalar.addi v53 v61
  let c0_i32_28 : BitVec 32 := 0#32
  let v64 : BitVec 1 := Scalar.cmpi .sgt v63 c0_i32_28
  let v70 : BitVec 32 := Scalar.extui v64
  let v71 : BitVec 32 := Scalar.addi v62 v70
  let v1002 : BitVec 32 := Scalar.subi v71 c0_i32_441
  let c1_i32_443 : BitVec 32 := 1#32
  let v1004 : BitVec 32 := Scalar.divsi v1002 c1_i32_443
  let v1005 : BitVec 32 := Scalar.muli v1004 c1_i32_443
  let v1006 : BitVec 32 := Scalar.addi c0_i32_441 v1005
  let c1_i32_445 : BitVec 32 := 1#32
  let arg13 : BitVec 32 := Scf.iv v1006 c1_i32_445 k0_t2
  let c4_i32_446 : BitVec 32 := 4#32
  let v1011 : BitVec 32 := Scalar.remsi arg13 c4_i32_446
  let v1306 : Index := Scalar.indexCast v1011
  let c1_528 : Index := 1#32
  let c0_529 : Index := 0#32
  let c0_530 : Index := 0#32
  ![v1306.toNat, 1, 0, 0]
def k0_off241 (v1010 : BitVec 32) : Fin 3 → Nat :=
  let v1338 : Index := Scalar.indexCast v1010
  let c0_535 : Index := 0#32
  let c512_536 : Index := 512#32
  ![v1338.toNat, 0, 512]
def k0_off242 (v1010 : BitVec 32) : Fin 3 → Nat :=
  let v1369 : Index := Scalar.indexCast v1010
  let c0_538 : Index := 0#32
  let c640_539 : Index := 640#32
  ![v1369.toNat, 0, 640]
def k0_off243 (v1010 : BitVec 32) : Fin 3 → Nat :=
  let v1400 : Index := Scalar.indexCast v1010
  let c0_541 : Index := 0#32
  let c768_542 : Index := 768#32
  ![v1400.toNat, 0, 768]
def k0_off244 (v1010 : BitVec 32) : Fin 3 → Nat :=
  let v1431 : Index := Scalar.indexCast v1010
  let c0_544 : Index := 0#32
  let c896_545 : Index := 896#32
  ![v1431.toNat, 0, 896]
def k0_off245 (v0 : BitVec 32) (v9 : BitVec 32) (v18 : BitVec 32) (v27 : BitVec 32) (v36 : BitVec 32) (v45 : BitVec 32) (v54 : BitVec 32) (v63 : BitVec 32) (k0_t2 : Fin (k0_t2_loop v0 v9 v18 v27 v36 v45 v54 v63).trips) : Fin 1 → Nat :=
  let c0_i32_441 : BitVec 32 := 0#32
  let c0_i32_3 : BitVec 32 := 0#32
  let c0_i32 : BitVec 32 := 0#32
  let v1 : BitVec 1 := Scalar.cmpi .sgt v0 c0_i32
  let v7 : BitVec 32 := Scalar.extui v1
  let v8 : BitVec 32 := Scalar.addi c0_i32_3 v7
  let c0_i32_4 : BitVec 32 := 0#32
  let v10 : BitVec 1 := Scalar.cmpi .sgt v9 c0_i32_4
  let v16 : BitVec 32 := Scalar.extui v10
  let v17 : BitVec 32 := Scalar.addi v8 v16
  let c0_i32_8 : BitVec 32 := 0#32
  let v19 : BitVec 1 := Scalar.cmpi .sgt v18 c0_i32_8
  let v25 : BitVec 32 := Scalar.extui v19
  let v26 : BitVec 32 := Scalar.addi v17 v25
  let c0_i32_12 : BitVec 32 := 0#32
  let v28 : BitVec 1 := Scalar.cmpi .sgt v27 c0_i32_12
  let v34 : BitVec 32 := Scalar.extui v28
  let v35 : BitVec 32 := Scalar.addi v26 v34
  let c0_i32_16 : BitVec 32 := 0#32
  let v37 : BitVec 1 := Scalar.cmpi .sgt v36 c0_i32_16
  let v43 : BitVec 32 := Scalar.extui v37
  let v44 : BitVec 32 := Scalar.addi v35 v43
  let c0_i32_20 : BitVec 32 := 0#32
  let v46 : BitVec 1 := Scalar.cmpi .sgt v45 c0_i32_20
  let v52 : BitVec 32 := Scalar.extui v46
  let v53 : BitVec 32 := Scalar.addi v44 v52
  let c0_i32_24 : BitVec 32 := 0#32
  let v55 : BitVec 1 := Scalar.cmpi .sgt v54 c0_i32_24
  let v61 : BitVec 32 := Scalar.extui v55
  let v62 : BitVec 32 := Scalar.addi v53 v61
  let c0_i32_28 : BitVec 32 := 0#32
  let v64 : BitVec 1 := Scalar.cmpi .sgt v63 c0_i32_28
  let v70 : BitVec 32 := Scalar.extui v64
  let v71 : BitVec 32 := Scalar.addi v62 v70
  let v1002 : BitVec 32 := Scalar.subi v71 c0_i32_441
  let c1_i32_443 : BitVec 32 := 1#32
  let v1004 : BitVec 32 := Scalar.divsi v1002 c1_i32_443
  let v1005 : BitVec 32 := Scalar.muli v1004 c1_i32_443
  let v1006 : BitVec 32 := Scalar.addi c0_i32_441 v1005
  let c1_i32_445 : BitVec 32 := 1#32
  let arg13 : BitVec 32 := Scf.iv v1006 c1_i32_445 k0_t2
  let c4_i32_667 : BitVec 32 := 4#32
  let v2149 : BitVec 32 := Scalar.addi arg13 c4_i32_667
  let v2151 : Index := Scalar.indexCast v2149
  ![v2151.toNat]
def k0_cond29 (v0 : BitVec 32) (v9 : BitVec 32) (v18 : BitVec 32) (v27 : BitVec 32) (v36 : BitVec 32) (v45 : BitVec 32) (v54 : BitVec 32) (v63 : BitVec 32) (k0_t2 : Fin (k0_t2_loop v0 v9 v18 v27 v36 v45 v54 v63).trips) : BitVec 1 :=
  let c0_i32_441 : BitVec 32 := 0#32
  let c0_i32_3 : BitVec 32 := 0#32
  let c0_i32 : BitVec 32 := 0#32
  let v1 : BitVec 1 := Scalar.cmpi .sgt v0 c0_i32
  let v7 : BitVec 32 := Scalar.extui v1
  let v8 : BitVec 32 := Scalar.addi c0_i32_3 v7
  let c0_i32_4 : BitVec 32 := 0#32
  let v10 : BitVec 1 := Scalar.cmpi .sgt v9 c0_i32_4
  let v16 : BitVec 32 := Scalar.extui v10
  let v17 : BitVec 32 := Scalar.addi v8 v16
  let c0_i32_8 : BitVec 32 := 0#32
  let v19 : BitVec 1 := Scalar.cmpi .sgt v18 c0_i32_8
  let v25 : BitVec 32 := Scalar.extui v19
  let v26 : BitVec 32 := Scalar.addi v17 v25
  let c0_i32_12 : BitVec 32 := 0#32
  let v28 : BitVec 1 := Scalar.cmpi .sgt v27 c0_i32_12
  let v34 : BitVec 32 := Scalar.extui v28
  let v35 : BitVec 32 := Scalar.addi v26 v34
  let c0_i32_16 : BitVec 32 := 0#32
  let v37 : BitVec 1 := Scalar.cmpi .sgt v36 c0_i32_16
  let v43 : BitVec 32 := Scalar.extui v37
  let v44 : BitVec 32 := Scalar.addi v35 v43
  let c0_i32_20 : BitVec 32 := 0#32
  let v46 : BitVec 1 := Scalar.cmpi .sgt v45 c0_i32_20
  let v52 : BitVec 32 := Scalar.extui v46
  let v53 : BitVec 32 := Scalar.addi v44 v52
  let c0_i32_24 : BitVec 32 := 0#32
  let v55 : BitVec 1 := Scalar.cmpi .sgt v54 c0_i32_24
  let v61 : BitVec 32 := Scalar.extui v55
  let v62 : BitVec 32 := Scalar.addi v53 v61
  let c0_i32_28 : BitVec 32 := 0#32
  let v64 : BitVec 1 := Scalar.cmpi .sgt v63 c0_i32_28
  let v70 : BitVec 32 := Scalar.extui v64
  let v71 : BitVec 32 := Scalar.addi v62 v70
  let v1002 : BitVec 32 := Scalar.subi v71 c0_i32_441
  let c1_i32_443 : BitVec 32 := 1#32
  let v1004 : BitVec 32 := Scalar.divsi v1002 c1_i32_443
  let v1005 : BitVec 32 := Scalar.muli v1004 c1_i32_443
  let v1006 : BitVec 32 := Scalar.addi c0_i32_441 v1005
  let c1_i32_445 : BitVec 32 := 1#32
  let arg13 : BitVec 32 := Scf.iv v1006 c1_i32_445 k0_t2
  let c4_i32_546 : BitVec 32 := 4#32
  let v1435 : BitVec 32 := Scalar.addi arg13 c4_i32_546
  let v1436 : BitVec 1 := Scalar.cmpi .slt v1435 v71
  let v1437 : BitVec 32 := Scalar.extui v1436
  let c0_i32_547 : BitVec 32 := 0#32
  let v1438 : BitVec 1 := Scalar.cmpi .ne v1437 c0_i32_547
  v1438

def k0_off246 (v0 : BitVec 32) (v9 : BitVec 32) (v18 : BitVec 32) (v27 : BitVec 32) (v36 : BitVec 32) (v45 : BitVec 32) (v54 : BitVec 32) (v63 : BitVec 32) (k0_t2 : Fin (k0_t2_loop v0 v9 v18 v27 v36 v45 v54 v63).trips) : Fin 2 → Nat :=
  let c0_i32_441 : BitVec 32 := 0#32
  let c0_i32_3 : BitVec 32 := 0#32
  let c0_i32 : BitVec 32 := 0#32
  let v1 : BitVec 1 := Scalar.cmpi .sgt v0 c0_i32
  let v7 : BitVec 32 := Scalar.extui v1
  let v8 : BitVec 32 := Scalar.addi c0_i32_3 v7
  let c0_i32_4 : BitVec 32 := 0#32
  let v10 : BitVec 1 := Scalar.cmpi .sgt v9 c0_i32_4
  let v16 : BitVec 32 := Scalar.extui v10
  let v17 : BitVec 32 := Scalar.addi v8 v16
  let c0_i32_8 : BitVec 32 := 0#32
  let v19 : BitVec 1 := Scalar.cmpi .sgt v18 c0_i32_8
  let v25 : BitVec 32 := Scalar.extui v19
  let v26 : BitVec 32 := Scalar.addi v17 v25
  let c0_i32_12 : BitVec 32 := 0#32
  let v28 : BitVec 1 := Scalar.cmpi .sgt v27 c0_i32_12
  let v34 : BitVec 32 := Scalar.extui v28
  let v35 : BitVec 32 := Scalar.addi v26 v34
  let c0_i32_16 : BitVec 32 := 0#32
  let v37 : BitVec 1 := Scalar.cmpi .sgt v36 c0_i32_16
  let v43 : BitVec 32 := Scalar.extui v37
  let v44 : BitVec 32 := Scalar.addi v35 v43
  let c0_i32_20 : BitVec 32 := 0#32
  let v46 : BitVec 1 := Scalar.cmpi .sgt v45 c0_i32_20
  let v52 : BitVec 32 := Scalar.extui v46
  let v53 : BitVec 32 := Scalar.addi v44 v52
  let c0_i32_24 : BitVec 32 := 0#32
  let v55 : BitVec 1 := Scalar.cmpi .sgt v54 c0_i32_24
  let v61 : BitVec 32 := Scalar.extui v55
  let v62 : BitVec 32 := Scalar.addi v53 v61
  let c0_i32_28 : BitVec 32 := 0#32
  let v64 : BitVec 1 := Scalar.cmpi .sgt v63 c0_i32_28
  let v70 : BitVec 32 := Scalar.extui v64
  let v71 : BitVec 32 := Scalar.addi v62 v70
  let v1002 : BitVec 32 := Scalar.subi v71 c0_i32_441
  let c1_i32_443 : BitVec 32 := 1#32
  let v1004 : BitVec 32 := Scalar.divsi v1002 c1_i32_443
  let v1005 : BitVec 32 := Scalar.muli v1004 c1_i32_443
  let v1006 : BitVec 32 := Scalar.addi c0_i32_441 v1005
  let c1_i32_445 : BitVec 32 := 1#32
  let arg13 : BitVec 32 := Scf.iv v1006 c1_i32_445 k0_t2
  let c4_i32_667 : BitVec 32 := 4#32
  let v2149 : BitVec 32 := Scalar.addi arg13 c4_i32_667
  let c4_i32_668 : BitVec 32 := 4#32
  let v2150 : BitVec 32 := Scalar.remsi v2149 c4_i32_668
  let c1_i32_670 : BitVec 32 := 1#32
  ![v2150.toNat, 1]
def k0_off247 (v0 : BitVec 32) (v9 : BitVec 32) (v18 : BitVec 32) (v27 : BitVec 32) (v36 : BitVec 32) (v45 : BitVec 32) (v54 : BitVec 32) (v63 : BitVec 32) (k0_t2 : Fin (k0_t2_loop v0 v9 v18 v27 v36 v45 v54 v63).trips) : Fin 4 → Nat :=
  let c0_i32_441 : BitVec 32 := 0#32
  let c0_i32_3 : BitVec 32 := 0#32
  let c0_i32 : BitVec 32 := 0#32
  let v1 : BitVec 1 := Scalar.cmpi .sgt v0 c0_i32
  let v7 : BitVec 32 := Scalar.extui v1
  let v8 : BitVec 32 := Scalar.addi c0_i32_3 v7
  let c0_i32_4 : BitVec 32 := 0#32
  let v10 : BitVec 1 := Scalar.cmpi .sgt v9 c0_i32_4
  let v16 : BitVec 32 := Scalar.extui v10
  let v17 : BitVec 32 := Scalar.addi v8 v16
  let c0_i32_8 : BitVec 32 := 0#32
  let v19 : BitVec 1 := Scalar.cmpi .sgt v18 c0_i32_8
  let v25 : BitVec 32 := Scalar.extui v19
  let v26 : BitVec 32 := Scalar.addi v17 v25
  let c0_i32_12 : BitVec 32 := 0#32
  let v28 : BitVec 1 := Scalar.cmpi .sgt v27 c0_i32_12
  let v34 : BitVec 32 := Scalar.extui v28
  let v35 : BitVec 32 := Scalar.addi v26 v34
  let c0_i32_16 : BitVec 32 := 0#32
  let v37 : BitVec 1 := Scalar.cmpi .sgt v36 c0_i32_16
  let v43 : BitVec 32 := Scalar.extui v37
  let v44 : BitVec 32 := Scalar.addi v35 v43
  let c0_i32_20 : BitVec 32 := 0#32
  let v46 : BitVec 1 := Scalar.cmpi .sgt v45 c0_i32_20
  let v52 : BitVec 32 := Scalar.extui v46
  let v53 : BitVec 32 := Scalar.addi v44 v52
  let c0_i32_24 : BitVec 32 := 0#32
  let v55 : BitVec 1 := Scalar.cmpi .sgt v54 c0_i32_24
  let v61 : BitVec 32 := Scalar.extui v55
  let v62 : BitVec 32 := Scalar.addi v53 v61
  let c0_i32_28 : BitVec 32 := 0#32
  let v64 : BitVec 1 := Scalar.cmpi .sgt v63 c0_i32_28
  let v70 : BitVec 32 := Scalar.extui v64
  let v71 : BitVec 32 := Scalar.addi v62 v70
  let v1002 : BitVec 32 := Scalar.subi v71 c0_i32_441
  let c1_i32_443 : BitVec 32 := 1#32
  let v1004 : BitVec 32 := Scalar.divsi v1002 c1_i32_443
  let v1005 : BitVec 32 := Scalar.muli v1004 c1_i32_443
  let v1006 : BitVec 32 := Scalar.addi c0_i32_441 v1005
  let c1_i32_445 : BitVec 32 := 1#32
  let arg13 : BitVec 32 := Scf.iv v1006 c1_i32_445 k0_t2
  let c4_i32_667 : BitVec 32 := 4#32
  let v2149 : BitVec 32 := Scalar.addi arg13 c4_i32_667
  let c4_i32_668 : BitVec 32 := 4#32
  let v2150 : BitVec 32 := Scalar.remsi v2149 c4_i32_668
  let c1_i32_669 : BitVec 32 := 1#32
  let c0_i32_671 : BitVec 32 := 0#32
  let c0_i32_672 : BitVec 32 := 0#32
  ![v2150.toNat, 1, 0, 0]
def k0_off248 (v2152 : BitVec 32) : Fin 3 → Nat :=
  let c512_i32_673 : BitVec 32 := 512#32
  let c0_i32_674 : BitVec 32 := 0#32
  ![v2152.toNat, 512, 0]

def k0_chk55 (v0 : BitVec 32) (v9 : BitVec 32) (v18 : BitVec 32) (v27 : BitVec 32) (v36 : BitVec 32) (v45 : BitVec 32) (v54 : BitVec 32) (v63 : BitVec 32) (k0_t2 : Fin (k0_t2_loop v0 v9 v18 v27 v36 v45 v54 v63).trips) (v2152 : BitVec 32) : Prop :=
  (∀ (k0_h29 : k0_cond29 v0 v9 v18 v27 v36 v45 v54 v63 k0_t2 = 1#1), ∀ a, (k0_off248 v2152) a + S1x512x2048.size a ≤ S8x3584x2048.size a) ∧
  (∀ (k0_h29 : k0_cond29 v0 v9 v18 v27 v36 v45 v54 v63 k0_t2 = 1#1), ∀ (hinb : ∀ a, (k0_off248 v2152) a + S1x512x2048.size a ≤ S8x3584x2048.size a), (Rect.unit (s := S8x3584x2048) (k0_off248 v2152) S1x512x2048.size hinb).WholeWords (EltTy.packing .fp8e4m3))
theorem k0_off248_inb : ∀ (v0 : BitVec 32) (v9 : BitVec 32) (v18 : BitVec 32) (v27 : BitVec 32) (v36 : BitVec 32) (v45 : BitVec 32) (v54 : BitVec 32) (v63 : BitVec 32) (k0_t2 : Fin (k0_t2_loop v0 v9 v18 v27 v36 v45 v54 v63).trips) (v2152 : BitVec 32) (k0_hw55 : k0_chk55 v0 v9 v18 v27 v36 v45 v54 v63 k0_t2 v2152), ∀ (k0_h29 : k0_cond29 v0 v9 v18 v27 v36 v45 v54 v63 k0_t2 = 1#1), ∀ a, (k0_off248 v2152) a + S1x512x2048.size a ≤ S8x3584x2048.size a := fun v0 v9 v18 v27 v36 v45 v54 v63 k0_t2 v2152 k0_hw55 k0_h29 => k0_hw55.1 k0_h29
theorem k0_off248_wordsfp8e4m3 : ∀ (v0 : BitVec 32) (v9 : BitVec 32) (v18 : BitVec 32) (v27 : BitVec 32) (v36 : BitVec 32) (v45 : BitVec 32) (v54 : BitVec 32) (v63 : BitVec 32) (k0_t2 : Fin (k0_t2_loop v0 v9 v18 v27 v36 v45 v54 v63).trips) (v2152 : BitVec 32) (k0_hw55 : k0_chk55 v0 v9 v18 v27 v36 v45 v54 v63 k0_t2 v2152), ∀ (k0_h29 : k0_cond29 v0 v9 v18 v27 v36 v45 v54 v63 k0_t2 = 1#1), (Rect.unit (s := S8x3584x2048) (k0_off248 v2152) S1x512x2048.size (k0_off248_inb v0 v9 v18 v27 v36 v45 v54 v63 k0_t2 v2152 k0_hw55 k0_h29)).WholeWords (EltTy.packing .fp8e4m3) := fun v0 v9 v18 v27 v36 v45 v54 v63 k0_t2 v2152 k0_hw55 k0_h29 => k0_hw55.2 k0_h29 (k0_off248_inb v0 v9 v18 v27 v36 v45 v54 v63 k0_t2 v2152 k0_hw55 k0_h29)

def k0_off249 (v0 : BitVec 32) (v9 : BitVec 32) (v18 : BitVec 32) (v27 : BitVec 32) (v36 : BitVec 32) (v45 : BitVec 32) (v54 : BitVec 32) (v63 : BitVec 32) (k0_t2 : Fin (k0_t2_loop v0 v9 v18 v27 v36 v45 v54 v63).trips) : Fin 1 → Nat :=
  let c0_i32_441 : BitVec 32 := 0#32
  let c0_i32_3 : BitVec 32 := 0#32
  let c0_i32 : BitVec 32 := 0#32
  let v1 : BitVec 1 := Scalar.cmpi .sgt v0 c0_i32
  let v7 : BitVec 32 := Scalar.extui v1
  let v8 : BitVec 32 := Scalar.addi c0_i32_3 v7
  let c0_i32_4 : BitVec 32 := 0#32
  let v10 : BitVec 1 := Scalar.cmpi .sgt v9 c0_i32_4
  let v16 : BitVec 32 := Scalar.extui v10
  let v17 : BitVec 32 := Scalar.addi v8 v16
  let c0_i32_8 : BitVec 32 := 0#32
  let v19 : BitVec 1 := Scalar.cmpi .sgt v18 c0_i32_8
  let v25 : BitVec 32 := Scalar.extui v19
  let v26 : BitVec 32 := Scalar.addi v17 v25
  let c0_i32_12 : BitVec 32 := 0#32
  let v28 : BitVec 1 := Scalar.cmpi .sgt v27 c0_i32_12
  let v34 : BitVec 32 := Scalar.extui v28
  let v35 : BitVec 32 := Scalar.addi v26 v34
  let c0_i32_16 : BitVec 32 := 0#32
  let v37 : BitVec 1 := Scalar.cmpi .sgt v36 c0_i32_16
  let v43 : BitVec 32 := Scalar.extui v37
  let v44 : BitVec 32 := Scalar.addi v35 v43
  let c0_i32_20 : BitVec 32 := 0#32
  let v46 : BitVec 1 := Scalar.cmpi .sgt v45 c0_i32_20
  let v52 : BitVec 32 := Scalar.extui v46
  let v53 : BitVec 32 := Scalar.addi v44 v52
  let c0_i32_24 : BitVec 32 := 0#32
  let v55 : BitVec 1 := Scalar.cmpi .sgt v54 c0_i32_24
  let v61 : BitVec 32 := Scalar.extui v55
  let v62 : BitVec 32 := Scalar.addi v53 v61
  let c0_i32_28 : BitVec 32 := 0#32
  let v64 : BitVec 1 := Scalar.cmpi .sgt v63 c0_i32_28
  let v70 : BitVec 32 := Scalar.extui v64
  let v71 : BitVec 32 := Scalar.addi v62 v70
  let v1002 : BitVec 32 := Scalar.subi v71 c0_i32_441
  let c1_i32_443 : BitVec 32 := 1#32
  let v1004 : BitVec 32 := Scalar.divsi v1002 c1_i32_443
  let v1005 : BitVec 32 := Scalar.muli v1004 c1_i32_443
  let v1006 : BitVec 32 := Scalar.addi c0_i32_441 v1005
  let c1_i32_445 : BitVec 32 := 1#32
  let arg13 : BitVec 32 := Scf.iv v1006 c1_i32_445 k0_t2
  let v1440 : Index := Scalar.indexCast arg13
  ![v1440.toNat]
def k0_off250 (v0 : BitVec 32) (v9 : BitVec 32) (v18 : BitVec 32) (v27 : BitVec 32) (v36 : BitVec 32) (v45 : BitVec 32) (v54 : BitVec 32) (v63 : BitVec 32) (k0_t2 : Fin (k0_t2_loop v0 v9 v18 v27 v36 v45 v54 v63).trips) : Fin 2 → Nat :=
  let c0_i32_441 : BitVec 32 := 0#32
  let c0_i32_3 : BitVec 32 := 0#32
  let c0_i32 : BitVec 32 := 0#32
  let v1 : BitVec 1 := Scalar.cmpi .sgt v0 c0_i32
  let v7 : BitVec 32 := Scalar.extui v1
  let v8 : BitVec 32 := Scalar.addi c0_i32_3 v7
  let c0_i32_4 : BitVec 32 := 0#32
  let v10 : BitVec 1 := Scalar.cmpi .sgt v9 c0_i32_4
  let v16 : BitVec 32 := Scalar.extui v10
  let v17 : BitVec 32 := Scalar.addi v8 v16
  let c0_i32_8 : BitVec 32 := 0#32
  let v19 : BitVec 1 := Scalar.cmpi .sgt v18 c0_i32_8
  let v25 : BitVec 32 := Scalar.extui v19
  let v26 : BitVec 32 := Scalar.addi v17 v25
  let c0_i32_12 : BitVec 32 := 0#32
  let v28 : BitVec 1 := Scalar.cmpi .sgt v27 c0_i32_12
  let v34 : BitVec 32 := Scalar.extui v28
  let v35 : BitVec 32 := Scalar.addi v26 v34
  let c0_i32_16 : BitVec 32 := 0#32
  let v37 : BitVec 1 := Scalar.cmpi .sgt v36 c0_i32_16
  let v43 : BitVec 32 := Scalar.extui v37
  let v44 : BitVec 32 := Scalar.addi v35 v43
  let c0_i32_20 : BitVec 32 := 0#32
  let v46 : BitVec 1 := Scalar.cmpi .sgt v45 c0_i32_20
  let v52 : BitVec 32 := Scalar.extui v46
  let v53 : BitVec 32 := Scalar.addi v44 v52
  let c0_i32_24 : BitVec 32 := 0#32
  let v55 : BitVec 1 := Scalar.cmpi .sgt v54 c0_i32_24
  let v61 : BitVec 32 := Scalar.extui v55
  let v62 : BitVec 32 := Scalar.addi v53 v61
  let c0_i32_28 : BitVec 32 := 0#32
  let v64 : BitVec 1 := Scalar.cmpi .sgt v63 c0_i32_28
  let v70 : BitVec 32 := Scalar.extui v64
  let v71 : BitVec 32 := Scalar.addi v62 v70
  let v1002 : BitVec 32 := Scalar.subi v71 c0_i32_441
  let c1_i32_443 : BitVec 32 := 1#32
  let v1004 : BitVec 32 := Scalar.divsi v1002 c1_i32_443
  let v1005 : BitVec 32 := Scalar.muli v1004 c1_i32_443
  let v1006 : BitVec 32 := Scalar.addi c0_i32_441 v1005
  let c1_i32_445 : BitVec 32 := 1#32
  let arg13 : BitVec 32 := Scf.iv v1006 c1_i32_445 k0_t2
  let c4_i32_548 : BitVec 32 := 4#32
  let v1439 : BitVec 32 := Scalar.remsi arg13 c4_i32_548
  let c2_i32_550 : BitVec 32 := 2#32
  ![v1439.toNat, 2]
def k0_off251 (v0 : BitVec 32) (v9 : BitVec 32) (v18 : BitVec 32) (v27 : BitVec 32) (v36 : BitVec 32) (v45 : BitVec 32) (v54 : BitVec 32) (v63 : BitVec 32) (k0_t2 : Fin (k0_t2_loop v0 v9 v18 v27 v36 v45 v54 v63).trips) : Fin 4 → Nat :=
  let c0_i32_441 : BitVec 32 := 0#32
  let c0_i32_3 : BitVec 32 := 0#32
  let c0_i32 : BitVec 32 := 0#32
  let v1 : BitVec 1 := Scalar.cmpi .sgt v0 c0_i32
  let v7 : BitVec 32 := Scalar.extui v1
  let v8 : BitVec 32 := Scalar.addi c0_i32_3 v7
  let c0_i32_4 : BitVec 32 := 0#32
  let v10 : BitVec 1 := Scalar.cmpi .sgt v9 c0_i32_4
  let v16 : BitVec 32 := Scalar.extui v10
  let v17 : BitVec 32 := Scalar.addi v8 v16
  let c0_i32_8 : BitVec 32 := 0#32
  let v19 : BitVec 1 := Scalar.cmpi .sgt v18 c0_i32_8
  let v25 : BitVec 32 := Scalar.extui v19
  let v26 : BitVec 32 := Scalar.addi v17 v25
  let c0_i32_12 : BitVec 32 := 0#32
  let v28 : BitVec 1 := Scalar.cmpi .sgt v27 c0_i32_12
  let v34 : BitVec 32 := Scalar.extui v28
  let v35 : BitVec 32 := Scalar.addi v26 v34
  let c0_i32_16 : BitVec 32 := 0#32
  let v37 : BitVec 1 := Scalar.cmpi .sgt v36 c0_i32_16
  let v43 : BitVec 32 := Scalar.extui v37
  let v44 : BitVec 32 := Scalar.addi v35 v43
  let c0_i32_20 : BitVec 32 := 0#32
  let v46 : BitVec 1 := Scalar.cmpi .sgt v45 c0_i32_20
  let v52 : BitVec 32 := Scalar.extui v46
  let v53 : BitVec 32 := Scalar.addi v44 v52
  let c0_i32_24 : BitVec 32 := 0#32
  let v55 : BitVec 1 := Scalar.cmpi .sgt v54 c0_i32_24
  let v61 : BitVec 32 := Scalar.extui v55
  let v62 : BitVec 32 := Scalar.addi v53 v61
  let c0_i32_28 : BitVec 32 := 0#32
  let v64 : BitVec 1 := Scalar.cmpi .sgt v63 c0_i32_28
  let v70 : BitVec 32 := Scalar.extui v64
  let v71 : BitVec 32 := Scalar.addi v62 v70
  let v1002 : BitVec 32 := Scalar.subi v71 c0_i32_441
  let c1_i32_443 : BitVec 32 := 1#32
  let v1004 : BitVec 32 := Scalar.divsi v1002 c1_i32_443
  let v1005 : BitVec 32 := Scalar.muli v1004 c1_i32_443
  let v1006 : BitVec 32 := Scalar.addi c0_i32_441 v1005
  let c1_i32_445 : BitVec 32 := 1#32
  let arg13 : BitVec 32 := Scf.iv v1006 c1_i32_445 k0_t2
  let c4_i32_548 : BitVec 32 := 4#32
  let v1439 : BitVec 32 := Scalar.remsi arg13 c4_i32_548
  let c2_i32_549 : BitVec 32 := 2#32
  let c0_i32_551 : BitVec 32 := 0#32
  let c0_i32_552 : BitVec 32 := 0#32
  ![v1439.toNat, 2, 0, 0]
def k0_off252 (v1441 : BitVec 32) : Fin 3 → Nat :=
  let c1024_i32 : BitVec 32 := 1024#32
  let c0_i32_553 : BitVec 32 := 0#32
  ![v1441.toNat, 1024, 0]

def k0_chk56 (v1441 : BitVec 32) : Prop :=
  (∀ a, (k0_off252 v1441) a + S1x512x2048.size a ≤ S8x3584x2048.size a) ∧
  (∀ (hinb : ∀ a, (k0_off252 v1441) a + S1x512x2048.size a ≤ S8x3584x2048.size a), (Rect.unit (s := S8x3584x2048) (k0_off252 v1441) S1x512x2048.size hinb).WholeWords (EltTy.packing .fp8e4m3))
theorem k0_off252_inb : ∀ (v1441 : BitVec 32) (k0_hw56 : k0_chk56 v1441), ∀ a, (k0_off252 v1441) a + S1x512x2048.size a ≤ S8x3584x2048.size a := fun v1441 k0_hw56 => k0_hw56.1
theorem k0_off252_wordsfp8e4m3 : ∀ (v1441 : BitVec 32) (k0_hw56 : k0_chk56 v1441), (Rect.unit (s := S8x3584x2048) (k0_off252 v1441) S1x512x2048.size (k0_off252_inb v1441 k0_hw56)).WholeWords (EltTy.packing .fp8e4m3) := fun v1441 k0_hw56 => k0_hw56.2 (k0_off252_inb v1441 k0_hw56)

def k0_off253 (v0 : BitVec 32) (v9 : BitVec 32) (v18 : BitVec 32) (v27 : BitVec 32) (v36 : BitVec 32) (v45 : BitVec 32) (v54 : BitVec 32) (v63 : BitVec 32) (k0_t2 : Fin (k0_t2_loop v0 v9 v18 v27 v36 v45 v54 v63).trips) : Fin 4 → Nat :=
  let c0_i32_441 : BitVec 32 := 0#32
  let c0_i32_3 : BitVec 32 := 0#32
  let c0_i32 : BitVec 32 := 0#32
  let v1 : BitVec 1 := Scalar.cmpi .sgt v0 c0_i32
  let v7 : BitVec 32 := Scalar.extui v1
  let v8 : BitVec 32 := Scalar.addi c0_i32_3 v7
  let c0_i32_4 : BitVec 32 := 0#32
  let v10 : BitVec 1 := Scalar.cmpi .sgt v9 c0_i32_4
  let v16 : BitVec 32 := Scalar.extui v10
  let v17 : BitVec 32 := Scalar.addi v8 v16
  let c0_i32_8 : BitVec 32 := 0#32
  let v19 : BitVec 1 := Scalar.cmpi .sgt v18 c0_i32_8
  let v25 : BitVec 32 := Scalar.extui v19
  let v26 : BitVec 32 := Scalar.addi v17 v25
  let c0_i32_12 : BitVec 32 := 0#32
  let v28 : BitVec 1 := Scalar.cmpi .sgt v27 c0_i32_12
  let v34 : BitVec 32 := Scalar.extui v28
  let v35 : BitVec 32 := Scalar.addi v26 v34
  let c0_i32_16 : BitVec 32 := 0#32
  let v37 : BitVec 1 := Scalar.cmpi .sgt v36 c0_i32_16
  let v43 : BitVec 32 := Scalar.extui v37
  let v44 : BitVec 32 := Scalar.addi v35 v43
  let c0_i32_20 : BitVec 32 := 0#32
  let v46 : BitVec 1 := Scalar.cmpi .sgt v45 c0_i32_20
  let v52 : BitVec 32 := Scalar.extui v46
  let v53 : BitVec 32 := Scalar.addi v44 v52
  let c0_i32_24 : BitVec 32 := 0#32
  let v55 : BitVec 1 := Scalar.cmpi .sgt v54 c0_i32_24
  let v61 : BitVec 32 := Scalar.extui v55
  let v62 : BitVec 32 := Scalar.addi v53 v61
  let c0_i32_28 : BitVec 32 := 0#32
  let v64 : BitVec 1 := Scalar.cmpi .sgt v63 c0_i32_28
  let v70 : BitVec 32 := Scalar.extui v64
  let v71 : BitVec 32 := Scalar.addi v62 v70
  let v1002 : BitVec 32 := Scalar.subi v71 c0_i32_441
  let c1_i32_443 : BitVec 32 := 1#32
  let v1004 : BitVec 32 := Scalar.divsi v1002 c1_i32_443
  let v1005 : BitVec 32 := Scalar.muli v1004 c1_i32_443
  let v1006 : BitVec 32 := Scalar.addi c0_i32_441 v1005
  let c1_i32_445 : BitVec 32 := 1#32
  let arg13 : BitVec 32 := Scf.iv v1006 c1_i32_445 k0_t2
  let c4_i32_446 : BitVec 32 := 4#32
  let v1011 : BitVec 32 := Scalar.remsi arg13 c4_i32_446
  let v1448 : Index := Scalar.indexCast v1011
  let c2_554 : Index := 2#32
  let c0_555 : Index := 0#32
  let c0_556 : Index := 0#32
  ![v1448.toNat, 2, 0, 0]
def k0_off254 (v1010 : BitVec 32) : Fin 3 → Nat :=
  let v1480 : Index := Scalar.indexCast v1010
  let c0_561 : Index := 0#32
  let c1024_562 : Index := 1024#32
  ![v1480.toNat, 0, 1024]
def k0_off255 (v1010 : BitVec 32) : Fin 3 → Nat :=
  let v1511 : Index := Scalar.indexCast v1010
  let c0_564 : Index := 0#32
  let c1152_565 : Index := 1152#32
  ![v1511.toNat, 0, 1152]
def k0_off256 (v1010 : BitVec 32) : Fin 3 → Nat :=
  let v1542 : Index := Scalar.indexCast v1010
  let c0_567 : Index := 0#32
  let c1280_568 : Index := 1280#32
  ![v1542.toNat, 0, 1280]
def k0_off257 (v1010 : BitVec 32) : Fin 3 → Nat :=
  let v1573 : Index := Scalar.indexCast v1010
  let c0_570 : Index := 0#32
  let c1408_571 : Index := 1408#32
  ![v1573.toNat, 0, 1408]
def k0_off258 (v0 : BitVec 32) (v9 : BitVec 32) (v18 : BitVec 32) (v27 : BitVec 32) (v36 : BitVec 32) (v45 : BitVec 32) (v54 : BitVec 32) (v63 : BitVec 32) (k0_t2 : Fin (k0_t2_loop v0 v9 v18 v27 v36 v45 v54 v63).trips) : Fin 1 → Nat :=
  let c0_i32_441 : BitVec 32 := 0#32
  let c0_i32_3 : BitVec 32 := 0#32
  let c0_i32 : BitVec 32 := 0#32
  let v1 : BitVec 1 := Scalar.cmpi .sgt v0 c0_i32
  let v7 : BitVec 32 := Scalar.extui v1
  let v8 : BitVec 32 := Scalar.addi c0_i32_3 v7
  let c0_i32_4 : BitVec 32 := 0#32
  let v10 : BitVec 1 := Scalar.cmpi .sgt v9 c0_i32_4
  let v16 : BitVec 32 := Scalar.extui v10
  let v17 : BitVec 32 := Scalar.addi v8 v16
  let c0_i32_8 : BitVec 32 := 0#32
  let v19 : BitVec 1 := Scalar.cmpi .sgt v18 c0_i32_8
  let v25 : BitVec 32 := Scalar.extui v19
  let v26 : BitVec 32 := Scalar.addi v17 v25
  let c0_i32_12 : BitVec 32 := 0#32
  let v28 : BitVec 1 := Scalar.cmpi .sgt v27 c0_i32_12
  let v34 : BitVec 32 := Scalar.extui v28
  let v35 : BitVec 32 := Scalar.addi v26 v34
  let c0_i32_16 : BitVec 32 := 0#32
  let v37 : BitVec 1 := Scalar.cmpi .sgt v36 c0_i32_16
  let v43 : BitVec 32 := Scalar.extui v37
  let v44 : BitVec 32 := Scalar.addi v35 v43
  let c0_i32_20 : BitVec 32 := 0#32
  let v46 : BitVec 1 := Scalar.cmpi .sgt v45 c0_i32_20
  let v52 : BitVec 32 := Scalar.extui v46
  let v53 : BitVec 32 := Scalar.addi v44 v52
  let c0_i32_24 : BitVec 32 := 0#32
  let v55 : BitVec 1 := Scalar.cmpi .sgt v54 c0_i32_24
  let v61 : BitVec 32 := Scalar.extui v55
  let v62 : BitVec 32 := Scalar.addi v53 v61
  let c0_i32_28 : BitVec 32 := 0#32
  let v64 : BitVec 1 := Scalar.cmpi .sgt v63 c0_i32_28
  let v70 : BitVec 32 := Scalar.extui v64
  let v71 : BitVec 32 := Scalar.addi v62 v70
  let v1002 : BitVec 32 := Scalar.subi v71 c0_i32_441
  let c1_i32_443 : BitVec 32 := 1#32
  let v1004 : BitVec 32 := Scalar.divsi v1002 c1_i32_443
  let v1005 : BitVec 32 := Scalar.muli v1004 c1_i32_443
  let v1006 : BitVec 32 := Scalar.addi c0_i32_441 v1005
  let c1_i32_445 : BitVec 32 := 1#32
  let arg13 : BitVec 32 := Scf.iv v1006 c1_i32_445 k0_t2
  let c4_i32_667 : BitVec 32 := 4#32
  let v2149 : BitVec 32 := Scalar.addi arg13 c4_i32_667
  let v2151 : Index := Scalar.indexCast v2149
  ![v2151.toNat]
def k0_cond30 (v0 : BitVec 32) (v9 : BitVec 32) (v18 : BitVec 32) (v27 : BitVec 32) (v36 : BitVec 32) (v45 : BitVec 32) (v54 : BitVec 32) (v63 : BitVec 32) (k0_t2 : Fin (k0_t2_loop v0 v9 v18 v27 v36 v45 v54 v63).trips) : BitVec 1 :=
  let c0_i32_441 : BitVec 32 := 0#32
  let c0_i32_3 : BitVec 32 := 0#32
  let c0_i32 : BitVec 32 := 0#32
  let v1 : BitVec 1 := Scalar.cmpi .sgt v0 c0_i32
  let v7 : BitVec 32 := Scalar.extui v1
  let v8 : BitVec 32 := Scalar.addi c0_i32_3 v7
  let c0_i32_4 : BitVec 32 := 0#32
  let v10 : BitVec 1 := Scalar.cmpi .sgt v9 c0_i32_4
  let v16 : BitVec 32 := Scalar.extui v10
  let v17 : BitVec 32 := Scalar.addi v8 v16
  let c0_i32_8 : BitVec 32 := 0#32
  let v19 : BitVec 1 := Scalar.cmpi .sgt v18 c0_i32_8
  let v25 : BitVec 32 := Scalar.extui v19
  let v26 : BitVec 32 := Scalar.addi v17 v25
  let c0_i32_12 : BitVec 32 := 0#32
  let v28 : BitVec 1 := Scalar.cmpi .sgt v27 c0_i32_12
  let v34 : BitVec 32 := Scalar.extui v28
  let v35 : BitVec 32 := Scalar.addi v26 v34
  let c0_i32_16 : BitVec 32 := 0#32
  let v37 : BitVec 1 := Scalar.cmpi .sgt v36 c0_i32_16
  let v43 : BitVec 32 := Scalar.extui v37
  let v44 : BitVec 32 := Scalar.addi v35 v43
  let c0_i32_20 : BitVec 32 := 0#32
  let v46 : BitVec 1 := Scalar.cmpi .sgt v45 c0_i32_20
  let v52 : BitVec 32 := Scalar.extui v46
  let v53 : BitVec 32 := Scalar.addi v44 v52
  let c0_i32_24 : BitVec 32 := 0#32
  let v55 : BitVec 1 := Scalar.cmpi .sgt v54 c0_i32_24
  let v61 : BitVec 32 := Scalar.extui v55
  let v62 : BitVec 32 := Scalar.addi v53 v61
  let c0_i32_28 : BitVec 32 := 0#32
  let v64 : BitVec 1 := Scalar.cmpi .sgt v63 c0_i32_28
  let v70 : BitVec 32 := Scalar.extui v64
  let v71 : BitVec 32 := Scalar.addi v62 v70
  let v1002 : BitVec 32 := Scalar.subi v71 c0_i32_441
  let c1_i32_443 : BitVec 32 := 1#32
  let v1004 : BitVec 32 := Scalar.divsi v1002 c1_i32_443
  let v1005 : BitVec 32 := Scalar.muli v1004 c1_i32_443
  let v1006 : BitVec 32 := Scalar.addi c0_i32_441 v1005
  let c1_i32_445 : BitVec 32 := 1#32
  let arg13 : BitVec 32 := Scf.iv v1006 c1_i32_445 k0_t2
  let c4_i32_572 : BitVec 32 := 4#32
  let v1577 : BitVec 32 := Scalar.addi arg13 c4_i32_572
  let v1578 : BitVec 1 := Scalar.cmpi .slt v1577 v71
  let v1579 : BitVec 32 := Scalar.extui v1578
  let c0_i32_573 : BitVec 32 := 0#32
  let v1580 : BitVec 1 := Scalar.cmpi .ne v1579 c0_i32_573
  v1580

def k0_off259 (v0 : BitVec 32) (v9 : BitVec 32) (v18 : BitVec 32) (v27 : BitVec 32) (v36 : BitVec 32) (v45 : BitVec 32) (v54 : BitVec 32) (v63 : BitVec 32) (k0_t2 : Fin (k0_t2_loop v0 v9 v18 v27 v36 v45 v54 v63).trips) : Fin 2 → Nat :=
  let c0_i32_441 : BitVec 32 := 0#32
  let c0_i32_3 : BitVec 32 := 0#32
  let c0_i32 : BitVec 32 := 0#32
  let v1 : BitVec 1 := Scalar.cmpi .sgt v0 c0_i32
  let v7 : BitVec 32 := Scalar.extui v1
  let v8 : BitVec 32 := Scalar.addi c0_i32_3 v7
  let c0_i32_4 : BitVec 32 := 0#32
  let v10 : BitVec 1 := Scalar.cmpi .sgt v9 c0_i32_4
  let v16 : BitVec 32 := Scalar.extui v10
  let v17 : BitVec 32 := Scalar.addi v8 v16
  let c0_i32_8 : BitVec 32 := 0#32
  let v19 : BitVec 1 := Scalar.cmpi .sgt v18 c0_i32_8
  let v25 : BitVec 32 := Scalar.extui v19
  let v26 : BitVec 32 := Scalar.addi v17 v25
  let c0_i32_12 : BitVec 32 := 0#32
  let v28 : BitVec 1 := Scalar.cmpi .sgt v27 c0_i32_12
  let v34 : BitVec 32 := Scalar.extui v28
  let v35 : BitVec 32 := Scalar.addi v26 v34
  let c0_i32_16 : BitVec 32 := 0#32
  let v37 : BitVec 1 := Scalar.cmpi .sgt v36 c0_i32_16
  let v43 : BitVec 32 := Scalar.extui v37
  let v44 : BitVec 32 := Scalar.addi v35 v43
  let c0_i32_20 : BitVec 32 := 0#32
  let v46 : BitVec 1 := Scalar.cmpi .sgt v45 c0_i32_20
  let v52 : BitVec 32 := Scalar.extui v46
  let v53 : BitVec 32 := Scalar.addi v44 v52
  let c0_i32_24 : BitVec 32 := 0#32
  let v55 : BitVec 1 := Scalar.cmpi .sgt v54 c0_i32_24
  let v61 : BitVec 32 := Scalar.extui v55
  let v62 : BitVec 32 := Scalar.addi v53 v61
  let c0_i32_28 : BitVec 32 := 0#32
  let v64 : BitVec 1 := Scalar.cmpi .sgt v63 c0_i32_28
  let v70 : BitVec 32 := Scalar.extui v64
  let v71 : BitVec 32 := Scalar.addi v62 v70
  let v1002 : BitVec 32 := Scalar.subi v71 c0_i32_441
  let c1_i32_443 : BitVec 32 := 1#32
  let v1004 : BitVec 32 := Scalar.divsi v1002 c1_i32_443
  let v1005 : BitVec 32 := Scalar.muli v1004 c1_i32_443
  let v1006 : BitVec 32 := Scalar.addi c0_i32_441 v1005
  let c1_i32_445 : BitVec 32 := 1#32
  let arg13 : BitVec 32 := Scf.iv v1006 c1_i32_445 k0_t2
  let c4_i32_667 : BitVec 32 := 4#32
  let v2149 : BitVec 32 := Scalar.addi arg13 c4_i32_667
  let c4_i32_668 : BitVec 32 := 4#32
  let v2150 : BitVec 32 := Scalar.remsi v2149 c4_i32_668
  let c2_i32_670 : BitVec 32 := 2#32
  ![v2150.toNat, 2]
def k0_off260 (v0 : BitVec 32) (v9 : BitVec 32) (v18 : BitVec 32) (v27 : BitVec 32) (v36 : BitVec 32) (v45 : BitVec 32) (v54 : BitVec 32) (v63 : BitVec 32) (k0_t2 : Fin (k0_t2_loop v0 v9 v18 v27 v36 v45 v54 v63).trips) : Fin 4 → Nat :=
  let c0_i32_441 : BitVec 32 := 0#32
  let c0_i32_3 : BitVec 32 := 0#32
  let c0_i32 : BitVec 32 := 0#32
  let v1 : BitVec 1 := Scalar.cmpi .sgt v0 c0_i32
  let v7 : BitVec 32 := Scalar.extui v1
  let v8 : BitVec 32 := Scalar.addi c0_i32_3 v7
  let c0_i32_4 : BitVec 32 := 0#32
  let v10 : BitVec 1 := Scalar.cmpi .sgt v9 c0_i32_4
  let v16 : BitVec 32 := Scalar.extui v10
  let v17 : BitVec 32 := Scalar.addi v8 v16
  let c0_i32_8 : BitVec 32 := 0#32
  let v19 : BitVec 1 := Scalar.cmpi .sgt v18 c0_i32_8
  let v25 : BitVec 32 := Scalar.extui v19
  let v26 : BitVec 32 := Scalar.addi v17 v25
  let c0_i32_12 : BitVec 32 := 0#32
  let v28 : BitVec 1 := Scalar.cmpi .sgt v27 c0_i32_12
  let v34 : BitVec 32 := Scalar.extui v28
  let v35 : BitVec 32 := Scalar.addi v26 v34
  let c0_i32_16 : BitVec 32 := 0#32
  let v37 : BitVec 1 := Scalar.cmpi .sgt v36 c0_i32_16
  let v43 : BitVec 32 := Scalar.extui v37
  let v44 : BitVec 32 := Scalar.addi v35 v43
  let c0_i32_20 : BitVec 32 := 0#32
  let v46 : BitVec 1 := Scalar.cmpi .sgt v45 c0_i32_20
  let v52 : BitVec 32 := Scalar.extui v46
  let v53 : BitVec 32 := Scalar.addi v44 v52
  let c0_i32_24 : BitVec 32 := 0#32
  let v55 : BitVec 1 := Scalar.cmpi .sgt v54 c0_i32_24
  let v61 : BitVec 32 := Scalar.extui v55
  let v62 : BitVec 32 := Scalar.addi v53 v61
  let c0_i32_28 : BitVec 32 := 0#32
  let v64 : BitVec 1 := Scalar.cmpi .sgt v63 c0_i32_28
  let v70 : BitVec 32 := Scalar.extui v64
  let v71 : BitVec 32 := Scalar.addi v62 v70
  let v1002 : BitVec 32 := Scalar.subi v71 c0_i32_441
  let c1_i32_443 : BitVec 32 := 1#32
  let v1004 : BitVec 32 := Scalar.divsi v1002 c1_i32_443
  let v1005 : BitVec 32 := Scalar.muli v1004 c1_i32_443
  let v1006 : BitVec 32 := Scalar.addi c0_i32_441 v1005
  let c1_i32_445 : BitVec 32 := 1#32
  let arg13 : BitVec 32 := Scf.iv v1006 c1_i32_445 k0_t2
  let c4_i32_667 : BitVec 32 := 4#32
  let v2149 : BitVec 32 := Scalar.addi arg13 c4_i32_667
  let c4_i32_668 : BitVec 32 := 4#32
  let v2150 : BitVec 32 := Scalar.remsi v2149 c4_i32_668
  let c2_i32_669 : BitVec 32 := 2#32
  let c0_i32_671 : BitVec 32 := 0#32
  let c0_i32_672 : BitVec 32 := 0#32
  ![v2150.toNat, 2, 0, 0]
def k0_off261 (v2152 : BitVec 32) : Fin 3 → Nat :=
  let c1024_i32_673 : BitVec 32 := 1024#32
  let c0_i32_674 : BitVec 32 := 0#32
  ![v2152.toNat, 1024, 0]

def k0_chk57 (v0 : BitVec 32) (v9 : BitVec 32) (v18 : BitVec 32) (v27 : BitVec 32) (v36 : BitVec 32) (v45 : BitVec 32) (v54 : BitVec 32) (v63 : BitVec 32) (k0_t2 : Fin (k0_t2_loop v0 v9 v18 v27 v36 v45 v54 v63).trips) (v2152 : BitVec 32) : Prop :=
  (∀ (k0_h30 : k0_cond30 v0 v9 v18 v27 v36 v45 v54 v63 k0_t2 = 1#1), ∀ a, (k0_off261 v2152) a + S1x512x2048.size a ≤ S8x3584x2048.size a) ∧
  (∀ (k0_h30 : k0_cond30 v0 v9 v18 v27 v36 v45 v54 v63 k0_t2 = 1#1), ∀ (hinb : ∀ a, (k0_off261 v2152) a + S1x512x2048.size a ≤ S8x3584x2048.size a), (Rect.unit (s := S8x3584x2048) (k0_off261 v2152) S1x512x2048.size hinb).WholeWords (EltTy.packing .fp8e4m3))
theorem k0_off261_inb : ∀ (v0 : BitVec 32) (v9 : BitVec 32) (v18 : BitVec 32) (v27 : BitVec 32) (v36 : BitVec 32) (v45 : BitVec 32) (v54 : BitVec 32) (v63 : BitVec 32) (k0_t2 : Fin (k0_t2_loop v0 v9 v18 v27 v36 v45 v54 v63).trips) (v2152 : BitVec 32) (k0_hw57 : k0_chk57 v0 v9 v18 v27 v36 v45 v54 v63 k0_t2 v2152), ∀ (k0_h30 : k0_cond30 v0 v9 v18 v27 v36 v45 v54 v63 k0_t2 = 1#1), ∀ a, (k0_off261 v2152) a + S1x512x2048.size a ≤ S8x3584x2048.size a := fun v0 v9 v18 v27 v36 v45 v54 v63 k0_t2 v2152 k0_hw57 k0_h30 => k0_hw57.1 k0_h30
theorem k0_off261_wordsfp8e4m3 : ∀ (v0 : BitVec 32) (v9 : BitVec 32) (v18 : BitVec 32) (v27 : BitVec 32) (v36 : BitVec 32) (v45 : BitVec 32) (v54 : BitVec 32) (v63 : BitVec 32) (k0_t2 : Fin (k0_t2_loop v0 v9 v18 v27 v36 v45 v54 v63).trips) (v2152 : BitVec 32) (k0_hw57 : k0_chk57 v0 v9 v18 v27 v36 v45 v54 v63 k0_t2 v2152), ∀ (k0_h30 : k0_cond30 v0 v9 v18 v27 v36 v45 v54 v63 k0_t2 = 1#1), (Rect.unit (s := S8x3584x2048) (k0_off261 v2152) S1x512x2048.size (k0_off261_inb v0 v9 v18 v27 v36 v45 v54 v63 k0_t2 v2152 k0_hw57 k0_h30)).WholeWords (EltTy.packing .fp8e4m3) := fun v0 v9 v18 v27 v36 v45 v54 v63 k0_t2 v2152 k0_hw57 k0_h30 => k0_hw57.2 k0_h30 (k0_off261_inb v0 v9 v18 v27 v36 v45 v54 v63 k0_t2 v2152 k0_hw57 k0_h30)

def k0_off262 (v0 : BitVec 32) (v9 : BitVec 32) (v18 : BitVec 32) (v27 : BitVec 32) (v36 : BitVec 32) (v45 : BitVec 32) (v54 : BitVec 32) (v63 : BitVec 32) (k0_t2 : Fin (k0_t2_loop v0 v9 v18 v27 v36 v45 v54 v63).trips) : Fin 1 → Nat :=
  let c0_i32_441 : BitVec 32 := 0#32
  let c0_i32_3 : BitVec 32 := 0#32
  let c0_i32 : BitVec 32 := 0#32
  let v1 : BitVec 1 := Scalar.cmpi .sgt v0 c0_i32
  let v7 : BitVec 32 := Scalar.extui v1
  let v8 : BitVec 32 := Scalar.addi c0_i32_3 v7
  let c0_i32_4 : BitVec 32 := 0#32
  let v10 : BitVec 1 := Scalar.cmpi .sgt v9 c0_i32_4
  let v16 : BitVec 32 := Scalar.extui v10
  let v17 : BitVec 32 := Scalar.addi v8 v16
  let c0_i32_8 : BitVec 32 := 0#32
  let v19 : BitVec 1 := Scalar.cmpi .sgt v18 c0_i32_8
  let v25 : BitVec 32 := Scalar.extui v19
  let v26 : BitVec 32 := Scalar.addi v17 v25
  let c0_i32_12 : BitVec 32 := 0#32
  let v28 : BitVec 1 := Scalar.cmpi .sgt v27 c0_i32_12
  let v34 : BitVec 32 := Scalar.extui v28
  let v35 : BitVec 32 := Scalar.addi v26 v34
  let c0_i32_16 : BitVec 32 := 0#32
  let v37 : BitVec 1 := Scalar.cmpi .sgt v36 c0_i32_16
  let v43 : BitVec 32 := Scalar.extui v37
  let v44 : BitVec 32 := Scalar.addi v35 v43
  let c0_i32_20 : BitVec 32 := 0#32
  let v46 : BitVec 1 := Scalar.cmpi .sgt v45 c0_i32_20
  let v52 : BitVec 32 := Scalar.extui v46
  let v53 : BitVec 32 := Scalar.addi v44 v52
  let c0_i32_24 : BitVec 32 := 0#32
  let v55 : BitVec 1 := Scalar.cmpi .sgt v54 c0_i32_24
  let v61 : BitVec 32 := Scalar.extui v55
  let v62 : BitVec 32 := Scalar.addi v53 v61
  let c0_i32_28 : BitVec 32 := 0#32
  let v64 : BitVec 1 := Scalar.cmpi .sgt v63 c0_i32_28
  let v70 : BitVec 32 := Scalar.extui v64
  let v71 : BitVec 32 := Scalar.addi v62 v70
  let v1002 : BitVec 32 := Scalar.subi v71 c0_i32_441
  let c1_i32_443 : BitVec 32 := 1#32
  let v1004 : BitVec 32 := Scalar.divsi v1002 c1_i32_443
  let v1005 : BitVec 32 := Scalar.muli v1004 c1_i32_443
  let v1006 : BitVec 32 := Scalar.addi c0_i32_441 v1005
  let c1_i32_445 : BitVec 32 := 1#32
  let arg13 : BitVec 32 := Scf.iv v1006 c1_i32_445 k0_t2
  let v1582 : Index := Scalar.indexCast arg13
  ![v1582.toNat]
def k0_off263 (v0 : BitVec 32) (v9 : BitVec 32) (v18 : BitVec 32) (v27 : BitVec 32) (v36 : BitVec 32) (v45 : BitVec 32) (v54 : BitVec 32) (v63 : BitVec 32) (k0_t2 : Fin (k0_t2_loop v0 v9 v18 v27 v36 v45 v54 v63).trips) : Fin 2 → Nat :=
  let c0_i32_441 : BitVec 32 := 0#32
  let c0_i32_3 : BitVec 32 := 0#32
  let c0_i32 : BitVec 32 := 0#32
  let v1 : BitVec 1 := Scalar.cmpi .sgt v0 c0_i32
  let v7 : BitVec 32 := Scalar.extui v1
  let v8 : BitVec 32 := Scalar.addi c0_i32_3 v7
  let c0_i32_4 : BitVec 32 := 0#32
  let v10 : BitVec 1 := Scalar.cmpi .sgt v9 c0_i32_4
  let v16 : BitVec 32 := Scalar.extui v10
  let v17 : BitVec 32 := Scalar.addi v8 v16
  let c0_i32_8 : BitVec 32 := 0#32
  let v19 : BitVec 1 := Scalar.cmpi .sgt v18 c0_i32_8
  let v25 : BitVec 32 := Scalar.extui v19
  let v26 : BitVec 32 := Scalar.addi v17 v25
  let c0_i32_12 : BitVec 32 := 0#32
  let v28 : BitVec 1 := Scalar.cmpi .sgt v27 c0_i32_12
  let v34 : BitVec 32 := Scalar.extui v28
  let v35 : BitVec 32 := Scalar.addi v26 v34
  let c0_i32_16 : BitVec 32 := 0#32
  let v37 : BitVec 1 := Scalar.cmpi .sgt v36 c0_i32_16
  let v43 : BitVec 32 := Scalar.extui v37
  let v44 : BitVec 32 := Scalar.addi v35 v43
  let c0_i32_20 : BitVec 32 := 0#32
  let v46 : BitVec 1 := Scalar.cmpi .sgt v45 c0_i32_20
  let v52 : BitVec 32 := Scalar.extui v46
  let v53 : BitVec 32 := Scalar.addi v44 v52
  let c0_i32_24 : BitVec 32 := 0#32
  let v55 : BitVec 1 := Scalar.cmpi .sgt v54 c0_i32_24
  let v61 : BitVec 32 := Scalar.extui v55
  let v62 : BitVec 32 := Scalar.addi v53 v61
  let c0_i32_28 : BitVec 32 := 0#32
  let v64 : BitVec 1 := Scalar.cmpi .sgt v63 c0_i32_28
  let v70 : BitVec 32 := Scalar.extui v64
  let v71 : BitVec 32 := Scalar.addi v62 v70
  let v1002 : BitVec 32 := Scalar.subi v71 c0_i32_441
  let c1_i32_443 : BitVec 32 := 1#32
  let v1004 : BitVec 32 := Scalar.divsi v1002 c1_i32_443
  let v1005 : BitVec 32 := Scalar.muli v1004 c1_i32_443
  let v1006 : BitVec 32 := Scalar.addi c0_i32_441 v1005
  let c1_i32_445 : BitVec 32 := 1#32
  let arg13 : BitVec 32 := Scf.iv v1006 c1_i32_445 k0_t2
  let c4_i32_574 : BitVec 32 := 4#32
  let v1581 : BitVec 32 := Scalar.remsi arg13 c4_i32_574
  let c3_i32_576 : BitVec 32 := 3#32
  ![v1581.toNat, 3]
def k0_off264 (v0 : BitVec 32) (v9 : BitVec 32) (v18 : BitVec 32) (v27 : BitVec 32) (v36 : BitVec 32) (v45 : BitVec 32) (v54 : BitVec 32) (v63 : BitVec 32) (k0_t2 : Fin (k0_t2_loop v0 v9 v18 v27 v36 v45 v54 v63).trips) : Fin 4 → Nat :=
  let c0_i32_441 : BitVec 32 := 0#32
  let c0_i32_3 : BitVec 32 := 0#32
  let c0_i32 : BitVec 32 := 0#32
  let v1 : BitVec 1 := Scalar.cmpi .sgt v0 c0_i32
  let v7 : BitVec 32 := Scalar.extui v1
  let v8 : BitVec 32 := Scalar.addi c0_i32_3 v7
  let c0_i32_4 : BitVec 32 := 0#32
  let v10 : BitVec 1 := Scalar.cmpi .sgt v9 c0_i32_4
  let v16 : BitVec 32 := Scalar.extui v10
  let v17 : BitVec 32 := Scalar.addi v8 v16
  let c0_i32_8 : BitVec 32 := 0#32
  let v19 : BitVec 1 := Scalar.cmpi .sgt v18 c0_i32_8
  let v25 : BitVec 32 := Scalar.extui v19
  let v26 : BitVec 32 := Scalar.addi v17 v25
  let c0_i32_12 : BitVec 32 := 0#32
  let v28 : BitVec 1 := Scalar.cmpi .sgt v27 c0_i32_12
  let v34 : BitVec 32 := Scalar.extui v28
  let v35 : BitVec 32 := Scalar.addi v26 v34
  let c0_i32_16 : BitVec 32 := 0#32
  let v37 : BitVec 1 := Scalar.cmpi .sgt v36 c0_i32_16
  let v43 : BitVec 32 := Scalar.extui v37
  let v44 : BitVec 32 := Scalar.addi v35 v43
  let c0_i32_20 : BitVec 32 := 0#32
  let v46 : BitVec 1 := Scalar.cmpi .sgt v45 c0_i32_20
  let v52 : BitVec 32 := Scalar.extui v46
  let v53 : BitVec 32 := Scalar.addi v44 v52
  let c0_i32_24 : BitVec 32 := 0#32
  let v55 : BitVec 1 := Scalar.cmpi .sgt v54 c0_i32_24
  let v61 : BitVec 32 := Scalar.extui v55
  let v62 : BitVec 32 := Scalar.addi v53 v61
  let c0_i32_28 : BitVec 32 := 0#32
  let v64 : BitVec 1 := Scalar.cmpi .sgt v63 c0_i32_28
  let v70 : BitVec 32 := Scalar.extui v64
  let v71 : BitVec 32 := Scalar.addi v62 v70
  let v1002 : BitVec 32 := Scalar.subi v71 c0_i32_441
  let c1_i32_443 : BitVec 32 := 1#32
  let v1004 : BitVec 32 := Scalar.divsi v1002 c1_i32_443
  let v1005 : BitVec 32 := Scalar.muli v1004 c1_i32_443
  let v1006 : BitVec 32 := Scalar.addi c0_i32_441 v1005
  let c1_i32_445 : BitVec 32 := 1#32
  let arg13 : BitVec 32 := Scf.iv v1006 c1_i32_445 k0_t2
  let c4_i32_574 : BitVec 32 := 4#32
  let v1581 : BitVec 32 := Scalar.remsi arg13 c4_i32_574
  let c3_i32_575 : BitVec 32 := 3#32
  let c0_i32_577 : BitVec 32 := 0#32
  let c0_i32_578 : BitVec 32 := 0#32
  ![v1581.toNat, 3, 0, 0]
def k0_off265 (v1583 : BitVec 32) : Fin 3 → Nat :=
  let c1536_i32 : BitVec 32 := 1536#32
  let c0_i32_579 : BitVec 32 := 0#32
  ![v1583.toNat, 1536, 0]

def k0_chk58 (v1583 : BitVec 32) : Prop :=
  (∀ a, (k0_off265 v1583) a + S1x512x2048.size a ≤ S8x3584x2048.size a) ∧
  (∀ (hinb : ∀ a, (k0_off265 v1583) a + S1x512x2048.size a ≤ S8x3584x2048.size a), (Rect.unit (s := S8x3584x2048) (k0_off265 v1583) S1x512x2048.size hinb).WholeWords (EltTy.packing .fp8e4m3))
theorem k0_off265_inb : ∀ (v1583 : BitVec 32) (k0_hw58 : k0_chk58 v1583), ∀ a, (k0_off265 v1583) a + S1x512x2048.size a ≤ S8x3584x2048.size a := fun v1583 k0_hw58 => k0_hw58.1
theorem k0_off265_wordsfp8e4m3 : ∀ (v1583 : BitVec 32) (k0_hw58 : k0_chk58 v1583), (Rect.unit (s := S8x3584x2048) (k0_off265 v1583) S1x512x2048.size (k0_off265_inb v1583 k0_hw58)).WholeWords (EltTy.packing .fp8e4m3) := fun v1583 k0_hw58 => k0_hw58.2 (k0_off265_inb v1583 k0_hw58)

def k0_off266 (v0 : BitVec 32) (v9 : BitVec 32) (v18 : BitVec 32) (v27 : BitVec 32) (v36 : BitVec 32) (v45 : BitVec 32) (v54 : BitVec 32) (v63 : BitVec 32) (k0_t2 : Fin (k0_t2_loop v0 v9 v18 v27 v36 v45 v54 v63).trips) : Fin 4 → Nat :=
  let c0_i32_441 : BitVec 32 := 0#32
  let c0_i32_3 : BitVec 32 := 0#32
  let c0_i32 : BitVec 32 := 0#32
  let v1 : BitVec 1 := Scalar.cmpi .sgt v0 c0_i32
  let v7 : BitVec 32 := Scalar.extui v1
  let v8 : BitVec 32 := Scalar.addi c0_i32_3 v7
  let c0_i32_4 : BitVec 32 := 0#32
  let v10 : BitVec 1 := Scalar.cmpi .sgt v9 c0_i32_4
  let v16 : BitVec 32 := Scalar.extui v10
  let v17 : BitVec 32 := Scalar.addi v8 v16
  let c0_i32_8 : BitVec 32 := 0#32
  let v19 : BitVec 1 := Scalar.cmpi .sgt v18 c0_i32_8
  let v25 : BitVec 32 := Scalar.extui v19
  let v26 : BitVec 32 := Scalar.addi v17 v25
  let c0_i32_12 : BitVec 32 := 0#32
  let v28 : BitVec 1 := Scalar.cmpi .sgt v27 c0_i32_12
  let v34 : BitVec 32 := Scalar.extui v28
  let v35 : BitVec 32 := Scalar.addi v26 v34
  let c0_i32_16 : BitVec 32 := 0#32
  let v37 : BitVec 1 := Scalar.cmpi .sgt v36 c0_i32_16
  let v43 : BitVec 32 := Scalar.extui v37
  let v44 : BitVec 32 := Scalar.addi v35 v43
  let c0_i32_20 : BitVec 32 := 0#32
  let v46 : BitVec 1 := Scalar.cmpi .sgt v45 c0_i32_20
  let v52 : BitVec 32 := Scalar.extui v46
  let v53 : BitVec 32 := Scalar.addi v44 v52
  let c0_i32_24 : BitVec 32 := 0#32
  let v55 : BitVec 1 := Scalar.cmpi .sgt v54 c0_i32_24
  let v61 : BitVec 32 := Scalar.extui v55
  let v62 : BitVec 32 := Scalar.addi v53 v61
  let c0_i32_28 : BitVec 32 := 0#32
  let v64 : BitVec 1 := Scalar.cmpi .sgt v63 c0_i32_28
  let v70 : BitVec 32 := Scalar.extui v64
  let v71 : BitVec 32 := Scalar.addi v62 v70
  let v1002 : BitVec 32 := Scalar.subi v71 c0_i32_441
  let c1_i32_443 : BitVec 32 := 1#32
  let v1004 : BitVec 32 := Scalar.divsi v1002 c1_i32_443
  let v1005 : BitVec 32 := Scalar.muli v1004 c1_i32_443
  let v1006 : BitVec 32 := Scalar.addi c0_i32_441 v1005
  let c1_i32_445 : BitVec 32 := 1#32
  let arg13 : BitVec 32 := Scf.iv v1006 c1_i32_445 k0_t2
  let c4_i32_446 : BitVec 32 := 4#32
  let v1011 : BitVec 32 := Scalar.remsi arg13 c4_i32_446
  let v1590 : Index := Scalar.indexCast v1011
  let c3_580 : Index := 3#32
  let c0_581 : Index := 0#32
  let c0_582 : Index := 0#32
  ![v1590.toNat, 3, 0, 0]
def k0_off267 (v1010 : BitVec 32) : Fin 3 → Nat :=
  let v1622 : Index := Scalar.indexCast v1010
  let c0_587 : Index := 0#32
  let c1536_588 : Index := 1536#32
  ![v1622.toNat, 0, 1536]
def k0_off268 (v1010 : BitVec 32) : Fin 3 → Nat :=
  let v1653 : Index := Scalar.indexCast v1010
  let c0_590 : Index := 0#32
  let c1664_591 : Index := 1664#32
  ![v1653.toNat, 0, 1664]
def k0_off269 (v1010 : BitVec 32) : Fin 3 → Nat :=
  let v1684 : Index := Scalar.indexCast v1010
  let c0_593 : Index := 0#32
  let c1792_594 : Index := 1792#32
  ![v1684.toNat, 0, 1792]
def k0_off270 (v1010 : BitVec 32) : Fin 3 → Nat :=
  let v1715 : Index := Scalar.indexCast v1010
  let c0_596 : Index := 0#32
  let c1920_597 : Index := 1920#32
  ![v1715.toNat, 0, 1920]
def k0_off271 (v0 : BitVec 32) (v9 : BitVec 32) (v18 : BitVec 32) (v27 : BitVec 32) (v36 : BitVec 32) (v45 : BitVec 32) (v54 : BitVec 32) (v63 : BitVec 32) (k0_t2 : Fin (k0_t2_loop v0 v9 v18 v27 v36 v45 v54 v63).trips) : Fin 1 → Nat :=
  let c0_i32_441 : BitVec 32 := 0#32
  let c0_i32_3 : BitVec 32 := 0#32
  let c0_i32 : BitVec 32 := 0#32
  let v1 : BitVec 1 := Scalar.cmpi .sgt v0 c0_i32
  let v7 : BitVec 32 := Scalar.extui v1
  let v8 : BitVec 32 := Scalar.addi c0_i32_3 v7
  let c0_i32_4 : BitVec 32 := 0#32
  let v10 : BitVec 1 := Scalar.cmpi .sgt v9 c0_i32_4
  let v16 : BitVec 32 := Scalar.extui v10
  let v17 : BitVec 32 := Scalar.addi v8 v16
  let c0_i32_8 : BitVec 32 := 0#32
  let v19 : BitVec 1 := Scalar.cmpi .sgt v18 c0_i32_8
  let v25 : BitVec 32 := Scalar.extui v19
  let v26 : BitVec 32 := Scalar.addi v17 v25
  let c0_i32_12 : BitVec 32 := 0#32
  let v28 : BitVec 1 := Scalar.cmpi .sgt v27 c0_i32_12
  let v34 : BitVec 32 := Scalar.extui v28
  let v35 : BitVec 32 := Scalar.addi v26 v34
  let c0_i32_16 : BitVec 32 := 0#32
  let v37 : BitVec 1 := Scalar.cmpi .sgt v36 c0_i32_16
  let v43 : BitVec 32 := Scalar.extui v37
  let v44 : BitVec 32 := Scalar.addi v35 v43
  let c0_i32_20 : BitVec 32 := 0#32
  let v46 : BitVec 1 := Scalar.cmpi .sgt v45 c0_i32_20
  let v52 : BitVec 32 := Scalar.extui v46
  let v53 : BitVec 32 := Scalar.addi v44 v52
  let c0_i32_24 : BitVec 32 := 0#32
  let v55 : BitVec 1 := Scalar.cmpi .sgt v54 c0_i32_24
  let v61 : BitVec 32 := Scalar.extui v55
  let v62 : BitVec 32 := Scalar.addi v53 v61
  let c0_i32_28 : BitVec 32 := 0#32
  let v64 : BitVec 1 := Scalar.cmpi .sgt v63 c0_i32_28
  let v70 : BitVec 32 := Scalar.extui v64
  let v71 : BitVec 32 := Scalar.addi v62 v70
  let v1002 : BitVec 32 := Scalar.subi v71 c0_i32_441
  let c1_i32_443 : BitVec 32 := 1#32
  let v1004 : BitVec 32 := Scalar.divsi v1002 c1_i32_443
  let v1005 : BitVec 32 := Scalar.muli v1004 c1_i32_443
  let v1006 : BitVec 32 := Scalar.addi c0_i32_441 v1005
  let c1_i32_445 : BitVec 32 := 1#32
  let arg13 : BitVec 32 := Scf.iv v1006 c1_i32_445 k0_t2
  let c4_i32_667 : BitVec 32 := 4#32
  let v2149 : BitVec 32 := Scalar.addi arg13 c4_i32_667
  let v2151 : Index := Scalar.indexCast v2149
  ![v2151.toNat]
def k0_cond31 (v0 : BitVec 32) (v9 : BitVec 32) (v18 : BitVec 32) (v27 : BitVec 32) (v36 : BitVec 32) (v45 : BitVec 32) (v54 : BitVec 32) (v63 : BitVec 32) (k0_t2 : Fin (k0_t2_loop v0 v9 v18 v27 v36 v45 v54 v63).trips) : BitVec 1 :=
  let c0_i32_441 : BitVec 32 := 0#32
  let c0_i32_3 : BitVec 32 := 0#32
  let c0_i32 : BitVec 32 := 0#32
  let v1 : BitVec 1 := Scalar.cmpi .sgt v0 c0_i32
  let v7 : BitVec 32 := Scalar.extui v1
  let v8 : BitVec 32 := Scalar.addi c0_i32_3 v7
  let c0_i32_4 : BitVec 32 := 0#32
  let v10 : BitVec 1 := Scalar.cmpi .sgt v9 c0_i32_4
  let v16 : BitVec 32 := Scalar.extui v10
  let v17 : BitVec 32 := Scalar.addi v8 v16
  let c0_i32_8 : BitVec 32 := 0#32
  let v19 : BitVec 1 := Scalar.cmpi .sgt v18 c0_i32_8
  let v25 : BitVec 32 := Scalar.extui v19
  let v26 : BitVec 32 := Scalar.addi v17 v25
  let c0_i32_12 : BitVec 32 := 0#32
  let v28 : BitVec 1 := Scalar.cmpi .sgt v27 c0_i32_12
  let v34 : BitVec 32 := Scalar.extui v28
  let v35 : BitVec 32 := Scalar.addi v26 v34
  let c0_i32_16 : BitVec 32 := 0#32
  let v37 : BitVec 1 := Scalar.cmpi .sgt v36 c0_i32_16
  let v43 : BitVec 32 := Scalar.extui v37
  let v44 : BitVec 32 := Scalar.addi v35 v43
  let c0_i32_20 : BitVec 32 := 0#32
  let v46 : BitVec 1 := Scalar.cmpi .sgt v45 c0_i32_20
  let v52 : BitVec 32 := Scalar.extui v46
  let v53 : BitVec 32 := Scalar.addi v44 v52
  let c0_i32_24 : BitVec 32 := 0#32
  let v55 : BitVec 1 := Scalar.cmpi .sgt v54 c0_i32_24
  let v61 : BitVec 32 := Scalar.extui v55
  let v62 : BitVec 32 := Scalar.addi v53 v61
  let c0_i32_28 : BitVec 32 := 0#32
  let v64 : BitVec 1 := Scalar.cmpi .sgt v63 c0_i32_28
  let v70 : BitVec 32 := Scalar.extui v64
  let v71 : BitVec 32 := Scalar.addi v62 v70
  let v1002 : BitVec 32 := Scalar.subi v71 c0_i32_441
  let c1_i32_443 : BitVec 32 := 1#32
  let v1004 : BitVec 32 := Scalar.divsi v1002 c1_i32_443
  let v1005 : BitVec 32 := Scalar.muli v1004 c1_i32_443
  let v1006 : BitVec 32 := Scalar.addi c0_i32_441 v1005
  let c1_i32_445 : BitVec 32 := 1#32
  let arg13 : BitVec 32 := Scf.iv v1006 c1_i32_445 k0_t2
  let c4_i32_598 : BitVec 32 := 4#32
  let v1719 : BitVec 32 := Scalar.addi arg13 c4_i32_598
  let v1720 : BitVec 1 := Scalar.cmpi .slt v1719 v71
  let v1721 : BitVec 32 := Scalar.extui v1720
  let c0_i32_599 : BitVec 32 := 0#32
  let v1722 : BitVec 1 := Scalar.cmpi .ne v1721 c0_i32_599
  v1722

def k0_off272 (v0 : BitVec 32) (v9 : BitVec 32) (v18 : BitVec 32) (v27 : BitVec 32) (v36 : BitVec 32) (v45 : BitVec 32) (v54 : BitVec 32) (v63 : BitVec 32) (k0_t2 : Fin (k0_t2_loop v0 v9 v18 v27 v36 v45 v54 v63).trips) : Fin 2 → Nat :=
  let c0_i32_441 : BitVec 32 := 0#32
  let c0_i32_3 : BitVec 32 := 0#32
  let c0_i32 : BitVec 32 := 0#32
  let v1 : BitVec 1 := Scalar.cmpi .sgt v0 c0_i32
  let v7 : BitVec 32 := Scalar.extui v1
  let v8 : BitVec 32 := Scalar.addi c0_i32_3 v7
  let c0_i32_4 : BitVec 32 := 0#32
  let v10 : BitVec 1 := Scalar.cmpi .sgt v9 c0_i32_4
  let v16 : BitVec 32 := Scalar.extui v10
  let v17 : BitVec 32 := Scalar.addi v8 v16
  let c0_i32_8 : BitVec 32 := 0#32
  let v19 : BitVec 1 := Scalar.cmpi .sgt v18 c0_i32_8
  let v25 : BitVec 32 := Scalar.extui v19
  let v26 : BitVec 32 := Scalar.addi v17 v25
  let c0_i32_12 : BitVec 32 := 0#32
  let v28 : BitVec 1 := Scalar.cmpi .sgt v27 c0_i32_12
  let v34 : BitVec 32 := Scalar.extui v28
  let v35 : BitVec 32 := Scalar.addi v26 v34
  let c0_i32_16 : BitVec 32 := 0#32
  let v37 : BitVec 1 := Scalar.cmpi .sgt v36 c0_i32_16
  let v43 : BitVec 32 := Scalar.extui v37
  let v44 : BitVec 32 := Scalar.addi v35 v43
  let c0_i32_20 : BitVec 32 := 0#32
  let v46 : BitVec 1 := Scalar.cmpi .sgt v45 c0_i32_20
  let v52 : BitVec 32 := Scalar.extui v46
  let v53 : BitVec 32 := Scalar.addi v44 v52
  let c0_i32_24 : BitVec 32 := 0#32
  let v55 : BitVec 1 := Scalar.cmpi .sgt v54 c0_i32_24
  let v61 : BitVec 32 := Scalar.extui v55
  let v62 : BitVec 32 := Scalar.addi v53 v61
  let c0_i32_28 : BitVec 32 := 0#32
  let v64 : BitVec 1 := Scalar.cmpi .sgt v63 c0_i32_28
  let v70 : BitVec 32 := Scalar.extui v64
  let v71 : BitVec 32 := Scalar.addi v62 v70
  let v1002 : BitVec 32 := Scalar.subi v71 c0_i32_441
  let c1_i32_443 : BitVec 32 := 1#32
  let v1004 : BitVec 32 := Scalar.divsi v1002 c1_i32_443
  let v1005 : BitVec 32 := Scalar.muli v1004 c1_i32_443
  let v1006 : BitVec 32 := Scalar.addi c0_i32_441 v1005
  let c1_i32_445 : BitVec 32 := 1#32
  let arg13 : BitVec 32 := Scf.iv v1006 c1_i32_445 k0_t2
  let c4_i32_667 : BitVec 32 := 4#32
  let v2149 : BitVec 32 := Scalar.addi arg13 c4_i32_667
  let c4_i32_668 : BitVec 32 := 4#32
  let v2150 : BitVec 32 := Scalar.remsi v2149 c4_i32_668
  let c3_i32_670 : BitVec 32 := 3#32
  ![v2150.toNat, 3]
def k0_off273 (v0 : BitVec 32) (v9 : BitVec 32) (v18 : BitVec 32) (v27 : BitVec 32) (v36 : BitVec 32) (v45 : BitVec 32) (v54 : BitVec 32) (v63 : BitVec 32) (k0_t2 : Fin (k0_t2_loop v0 v9 v18 v27 v36 v45 v54 v63).trips) : Fin 4 → Nat :=
  let c0_i32_441 : BitVec 32 := 0#32
  let c0_i32_3 : BitVec 32 := 0#32
  let c0_i32 : BitVec 32 := 0#32
  let v1 : BitVec 1 := Scalar.cmpi .sgt v0 c0_i32
  let v7 : BitVec 32 := Scalar.extui v1
  let v8 : BitVec 32 := Scalar.addi c0_i32_3 v7
  let c0_i32_4 : BitVec 32 := 0#32
  let v10 : BitVec 1 := Scalar.cmpi .sgt v9 c0_i32_4
  let v16 : BitVec 32 := Scalar.extui v10
  let v17 : BitVec 32 := Scalar.addi v8 v16
  let c0_i32_8 : BitVec 32 := 0#32
  let v19 : BitVec 1 := Scalar.cmpi .sgt v18 c0_i32_8
  let v25 : BitVec 32 := Scalar.extui v19
  let v26 : BitVec 32 := Scalar.addi v17 v25
  let c0_i32_12 : BitVec 32 := 0#32
  let v28 : BitVec 1 := Scalar.cmpi .sgt v27 c0_i32_12
  let v34 : BitVec 32 := Scalar.extui v28
  let v35 : BitVec 32 := Scalar.addi v26 v34
  let c0_i32_16 : BitVec 32 := 0#32
  let v37 : BitVec 1 := Scalar.cmpi .sgt v36 c0_i32_16
  let v43 : BitVec 32 := Scalar.extui v37
  let v44 : BitVec 32 := Scalar.addi v35 v43
  let c0_i32_20 : BitVec 32 := 0#32
  let v46 : BitVec 1 := Scalar.cmpi .sgt v45 c0_i32_20
  let v52 : BitVec 32 := Scalar.extui v46
  let v53 : BitVec 32 := Scalar.addi v44 v52
  let c0_i32_24 : BitVec 32 := 0#32
  let v55 : BitVec 1 := Scalar.cmpi .sgt v54 c0_i32_24
  let v61 : BitVec 32 := Scalar.extui v55
  let v62 : BitVec 32 := Scalar.addi v53 v61
  let c0_i32_28 : BitVec 32 := 0#32
  let v64 : BitVec 1 := Scalar.cmpi .sgt v63 c0_i32_28
  let v70 : BitVec 32 := Scalar.extui v64
  let v71 : BitVec 32 := Scalar.addi v62 v70
  let v1002 : BitVec 32 := Scalar.subi v71 c0_i32_441
  let c1_i32_443 : BitVec 32 := 1#32
  let v1004 : BitVec 32 := Scalar.divsi v1002 c1_i32_443
  let v1005 : BitVec 32 := Scalar.muli v1004 c1_i32_443
  let v1006 : BitVec 32 := Scalar.addi c0_i32_441 v1005
  let c1_i32_445 : BitVec 32 := 1#32
  let arg13 : BitVec 32 := Scf.iv v1006 c1_i32_445 k0_t2
  let c4_i32_667 : BitVec 32 := 4#32
  let v2149 : BitVec 32 := Scalar.addi arg13 c4_i32_667
  let c4_i32_668 : BitVec 32 := 4#32
  let v2150 : BitVec 32 := Scalar.remsi v2149 c4_i32_668
  let c3_i32_669 : BitVec 32 := 3#32
  let c0_i32_671 : BitVec 32 := 0#32
  let c0_i32_672 : BitVec 32 := 0#32
  ![v2150.toNat, 3, 0, 0]
def k0_off274 (v2152 : BitVec 32) : Fin 3 → Nat :=
  let c1536_i32_673 : BitVec 32 := 1536#32
  let c0_i32_674 : BitVec 32 := 0#32
  ![v2152.toNat, 1536, 0]

def k0_chk59 (v0 : BitVec 32) (v9 : BitVec 32) (v18 : BitVec 32) (v27 : BitVec 32) (v36 : BitVec 32) (v45 : BitVec 32) (v54 : BitVec 32) (v63 : BitVec 32) (k0_t2 : Fin (k0_t2_loop v0 v9 v18 v27 v36 v45 v54 v63).trips) (v2152 : BitVec 32) : Prop :=
  (∀ (k0_h31 : k0_cond31 v0 v9 v18 v27 v36 v45 v54 v63 k0_t2 = 1#1), ∀ a, (k0_off274 v2152) a + S1x512x2048.size a ≤ S8x3584x2048.size a) ∧
  (∀ (k0_h31 : k0_cond31 v0 v9 v18 v27 v36 v45 v54 v63 k0_t2 = 1#1), ∀ (hinb : ∀ a, (k0_off274 v2152) a + S1x512x2048.size a ≤ S8x3584x2048.size a), (Rect.unit (s := S8x3584x2048) (k0_off274 v2152) S1x512x2048.size hinb).WholeWords (EltTy.packing .fp8e4m3))
theorem k0_off274_inb : ∀ (v0 : BitVec 32) (v9 : BitVec 32) (v18 : BitVec 32) (v27 : BitVec 32) (v36 : BitVec 32) (v45 : BitVec 32) (v54 : BitVec 32) (v63 : BitVec 32) (k0_t2 : Fin (k0_t2_loop v0 v9 v18 v27 v36 v45 v54 v63).trips) (v2152 : BitVec 32) (k0_hw59 : k0_chk59 v0 v9 v18 v27 v36 v45 v54 v63 k0_t2 v2152), ∀ (k0_h31 : k0_cond31 v0 v9 v18 v27 v36 v45 v54 v63 k0_t2 = 1#1), ∀ a, (k0_off274 v2152) a + S1x512x2048.size a ≤ S8x3584x2048.size a := fun v0 v9 v18 v27 v36 v45 v54 v63 k0_t2 v2152 k0_hw59 k0_h31 => k0_hw59.1 k0_h31
theorem k0_off274_wordsfp8e4m3 : ∀ (v0 : BitVec 32) (v9 : BitVec 32) (v18 : BitVec 32) (v27 : BitVec 32) (v36 : BitVec 32) (v45 : BitVec 32) (v54 : BitVec 32) (v63 : BitVec 32) (k0_t2 : Fin (k0_t2_loop v0 v9 v18 v27 v36 v45 v54 v63).trips) (v2152 : BitVec 32) (k0_hw59 : k0_chk59 v0 v9 v18 v27 v36 v45 v54 v63 k0_t2 v2152), ∀ (k0_h31 : k0_cond31 v0 v9 v18 v27 v36 v45 v54 v63 k0_t2 = 1#1), (Rect.unit (s := S8x3584x2048) (k0_off274 v2152) S1x512x2048.size (k0_off274_inb v0 v9 v18 v27 v36 v45 v54 v63 k0_t2 v2152 k0_hw59 k0_h31)).WholeWords (EltTy.packing .fp8e4m3) := fun v0 v9 v18 v27 v36 v45 v54 v63 k0_t2 v2152 k0_hw59 k0_h31 => k0_hw59.2 k0_h31 (k0_off274_inb v0 v9 v18 v27 v36 v45 v54 v63 k0_t2 v2152 k0_hw59 k0_h31)

def k0_off275 (v0 : BitVec 32) (v9 : BitVec 32) (v18 : BitVec 32) (v27 : BitVec 32) (v36 : BitVec 32) (v45 : BitVec 32) (v54 : BitVec 32) (v63 : BitVec 32) (k0_t2 : Fin (k0_t2_loop v0 v9 v18 v27 v36 v45 v54 v63).trips) : Fin 1 → Nat :=
  let c0_i32_441 : BitVec 32 := 0#32
  let c0_i32_3 : BitVec 32 := 0#32
  let c0_i32 : BitVec 32 := 0#32
  let v1 : BitVec 1 := Scalar.cmpi .sgt v0 c0_i32
  let v7 : BitVec 32 := Scalar.extui v1
  let v8 : BitVec 32 := Scalar.addi c0_i32_3 v7
  let c0_i32_4 : BitVec 32 := 0#32
  let v10 : BitVec 1 := Scalar.cmpi .sgt v9 c0_i32_4
  let v16 : BitVec 32 := Scalar.extui v10
  let v17 : BitVec 32 := Scalar.addi v8 v16
  let c0_i32_8 : BitVec 32 := 0#32
  let v19 : BitVec 1 := Scalar.cmpi .sgt v18 c0_i32_8
  let v25 : BitVec 32 := Scalar.extui v19
  let v26 : BitVec 32 := Scalar.addi v17 v25
  let c0_i32_12 : BitVec 32 := 0#32
  let v28 : BitVec 1 := Scalar.cmpi .sgt v27 c0_i32_12
  let v34 : BitVec 32 := Scalar.extui v28
  let v35 : BitVec 32 := Scalar.addi v26 v34
  let c0_i32_16 : BitVec 32 := 0#32
  let v37 : BitVec 1 := Scalar.cmpi .sgt v36 c0_i32_16
  let v43 : BitVec 32 := Scalar.extui v37
  let v44 : BitVec 32 := Scalar.addi v35 v43
  let c0_i32_20 : BitVec 32 := 0#32
  let v46 : BitVec 1 := Scalar.cmpi .sgt v45 c0_i32_20
  let v52 : BitVec 32 := Scalar.extui v46
  let v53 : BitVec 32 := Scalar.addi v44 v52
  let c0_i32_24 : BitVec 32 := 0#32
  let v55 : BitVec 1 := Scalar.cmpi .sgt v54 c0_i32_24
  let v61 : BitVec 32 := Scalar.extui v55
  let v62 : BitVec 32 := Scalar.addi v53 v61
  let c0_i32_28 : BitVec 32 := 0#32
  let v64 : BitVec 1 := Scalar.cmpi .sgt v63 c0_i32_28
  let v70 : BitVec 32 := Scalar.extui v64
  let v71 : BitVec 32 := Scalar.addi v62 v70
  let v1002 : BitVec 32 := Scalar.subi v71 c0_i32_441
  let c1_i32_443 : BitVec 32 := 1#32
  let v1004 : BitVec 32 := Scalar.divsi v1002 c1_i32_443
  let v1005 : BitVec 32 := Scalar.muli v1004 c1_i32_443
  let v1006 : BitVec 32 := Scalar.addi c0_i32_441 v1005
  let c1_i32_445 : BitVec 32 := 1#32
  let arg13 : BitVec 32 := Scf.iv v1006 c1_i32_445 k0_t2
  let v1724 : Index := Scalar.indexCast arg13
  ![v1724.toNat]
def k0_off276 (v0 : BitVec 32) (v9 : BitVec 32) (v18 : BitVec 32) (v27 : BitVec 32) (v36 : BitVec 32) (v45 : BitVec 32) (v54 : BitVec 32) (v63 : BitVec 32) (k0_t2 : Fin (k0_t2_loop v0 v9 v18 v27 v36 v45 v54 v63).trips) : Fin 2 → Nat :=
  let c0_i32_441 : BitVec 32 := 0#32
  let c0_i32_3 : BitVec 32 := 0#32
  let c0_i32 : BitVec 32 := 0#32
  let v1 : BitVec 1 := Scalar.cmpi .sgt v0 c0_i32
  let v7 : BitVec 32 := Scalar.extui v1
  let v8 : BitVec 32 := Scalar.addi c0_i32_3 v7
  let c0_i32_4 : BitVec 32 := 0#32
  let v10 : BitVec 1 := Scalar.cmpi .sgt v9 c0_i32_4
  let v16 : BitVec 32 := Scalar.extui v10
  let v17 : BitVec 32 := Scalar.addi v8 v16
  let c0_i32_8 : BitVec 32 := 0#32
  let v19 : BitVec 1 := Scalar.cmpi .sgt v18 c0_i32_8
  let v25 : BitVec 32 := Scalar.extui v19
  let v26 : BitVec 32 := Scalar.addi v17 v25
  let c0_i32_12 : BitVec 32 := 0#32
  let v28 : BitVec 1 := Scalar.cmpi .sgt v27 c0_i32_12
  let v34 : BitVec 32 := Scalar.extui v28
  let v35 : BitVec 32 := Scalar.addi v26 v34
  let c0_i32_16 : BitVec 32 := 0#32
  let v37 : BitVec 1 := Scalar.cmpi .sgt v36 c0_i32_16
  let v43 : BitVec 32 := Scalar.extui v37
  let v44 : BitVec 32 := Scalar.addi v35 v43
  let c0_i32_20 : BitVec 32 := 0#32
  let v46 : BitVec 1 := Scalar.cmpi .sgt v45 c0_i32_20
  let v52 : BitVec 32 := Scalar.extui v46
  let v53 : BitVec 32 := Scalar.addi v44 v52
  let c0_i32_24 : BitVec 32 := 0#32
  let v55 : BitVec 1 := Scalar.cmpi .sgt v54 c0_i32_24
  let v61 : BitVec 32 := Scalar.extui v55
  let v62 : BitVec 32 := Scalar.addi v53 v61
  let c0_i32_28 : BitVec 32 := 0#32
  let v64 : BitVec 1 := Scalar.cmpi .sgt v63 c0_i32_28
  let v70 : BitVec 32 := Scalar.extui v64
  let v71 : BitVec 32 := Scalar.addi v62 v70
  let v1002 : BitVec 32 := Scalar.subi v71 c0_i32_441
  let c1_i32_443 : BitVec 32 := 1#32
  let v1004 : BitVec 32 := Scalar.divsi v1002 c1_i32_443
  let v1005 : BitVec 32 := Scalar.muli v1004 c1_i32_443
  let v1006 : BitVec 32 := Scalar.addi c0_i32_441 v1005
  let c1_i32_445 : BitVec 32 := 1#32
  let arg13 : BitVec 32 := Scf.iv v1006 c1_i32_445 k0_t2
  let c4_i32_600 : BitVec 32 := 4#32
  let v1723 : BitVec 32 := Scalar.remsi arg13 c4_i32_600
  let c4_i32_602 : BitVec 32 := 4#32
  ![v1723.toNat, 4]
def k0_off277 (v0 : BitVec 32) (v9 : BitVec 32) (v18 : BitVec 32) (v27 : BitVec 32) (v36 : BitVec 32) (v45 : BitVec 32) (v54 : BitVec 32) (v63 : BitVec 32) (k0_t2 : Fin (k0_t2_loop v0 v9 v18 v27 v36 v45 v54 v63).trips) : Fin 4 → Nat :=
  let c0_i32_441 : BitVec 32 := 0#32
  let c0_i32_3 : BitVec 32 := 0#32
  let c0_i32 : BitVec 32 := 0#32
  let v1 : BitVec 1 := Scalar.cmpi .sgt v0 c0_i32
  let v7 : BitVec 32 := Scalar.extui v1
  let v8 : BitVec 32 := Scalar.addi c0_i32_3 v7
  let c0_i32_4 : BitVec 32 := 0#32
  let v10 : BitVec 1 := Scalar.cmpi .sgt v9 c0_i32_4
  let v16 : BitVec 32 := Scalar.extui v10
  let v17 : BitVec 32 := Scalar.addi v8 v16
  let c0_i32_8 : BitVec 32 := 0#32
  let v19 : BitVec 1 := Scalar.cmpi .sgt v18 c0_i32_8
  let v25 : BitVec 32 := Scalar.extui v19
  let v26 : BitVec 32 := Scalar.addi v17 v25
  let c0_i32_12 : BitVec 32 := 0#32
  let v28 : BitVec 1 := Scalar.cmpi .sgt v27 c0_i32_12
  let v34 : BitVec 32 := Scalar.extui v28
  let v35 : BitVec 32 := Scalar.addi v26 v34
  let c0_i32_16 : BitVec 32 := 0#32
  let v37 : BitVec 1 := Scalar.cmpi .sgt v36 c0_i32_16
  let v43 : BitVec 32 := Scalar.extui v37
  let v44 : BitVec 32 := Scalar.addi v35 v43
  let c0_i32_20 : BitVec 32 := 0#32
  let v46 : BitVec 1 := Scalar.cmpi .sgt v45 c0_i32_20
  let v52 : BitVec 32 := Scalar.extui v46
  let v53 : BitVec 32 := Scalar.addi v44 v52
  let c0_i32_24 : BitVec 32 := 0#32
  let v55 : BitVec 1 := Scalar.cmpi .sgt v54 c0_i32_24
  let v61 : BitVec 32 := Scalar.extui v55
  let v62 : BitVec 32 := Scalar.addi v53 v61
  let c0_i32_28 : BitVec 32 := 0#32
  let v64 : BitVec 1 := Scalar.cmpi .sgt v63 c0_i32_28
  let v70 : BitVec 32 := Scalar.extui v64
  let v71 : BitVec 32 := Scalar.addi v62 v70
  let v1002 : BitVec 32 := Scalar.subi v71 c0_i32_441
  let c1_i32_443 : BitVec 32 := 1#32
  let v1004 : BitVec 32 := Scalar.divsi v1002 c1_i32_443
  let v1005 : BitVec 32 := Scalar.muli v1004 c1_i32_443
  let v1006 : BitVec 32 := Scalar.addi c0_i32_441 v1005
  let c1_i32_445 : BitVec 32 := 1#32
  let arg13 : BitVec 32 := Scf.iv v1006 c1_i32_445 k0_t2
  let c4_i32_600 : BitVec 32 := 4#32
  let v1723 : BitVec 32 := Scalar.remsi arg13 c4_i32_600
  let c4_i32_601 : BitVec 32 := 4#32
  let c0_i32_603 : BitVec 32 := 0#32
  let c0_i32_604 : BitVec 32 := 0#32
  ![v1723.toNat, 4, 0, 0]
def k0_off278 (v1725 : BitVec 32) : Fin 3 → Nat :=
  let c2048_i32 : BitVec 32 := 2048#32
  let c0_i32_605 : BitVec 32 := 0#32
  ![v1725.toNat, 2048, 0]

def k0_chk60 (v1725 : BitVec 32) : Prop :=
  (∀ a, (k0_off278 v1725) a + S1x512x2048.size a ≤ S8x3584x2048.size a) ∧
  (∀ (hinb : ∀ a, (k0_off278 v1725) a + S1x512x2048.size a ≤ S8x3584x2048.size a), (Rect.unit (s := S8x3584x2048) (k0_off278 v1725) S1x512x2048.size hinb).WholeWords (EltTy.packing .fp8e4m3))
theorem k0_off278_inb : ∀ (v1725 : BitVec 32) (k0_hw60 : k0_chk60 v1725), ∀ a, (k0_off278 v1725) a + S1x512x2048.size a ≤ S8x3584x2048.size a := fun v1725 k0_hw60 => k0_hw60.1
theorem k0_off278_wordsfp8e4m3 : ∀ (v1725 : BitVec 32) (k0_hw60 : k0_chk60 v1725), (Rect.unit (s := S8x3584x2048) (k0_off278 v1725) S1x512x2048.size (k0_off278_inb v1725 k0_hw60)).WholeWords (EltTy.packing .fp8e4m3) := fun v1725 k0_hw60 => k0_hw60.2 (k0_off278_inb v1725 k0_hw60)

def k0_off279 (v0 : BitVec 32) (v9 : BitVec 32) (v18 : BitVec 32) (v27 : BitVec 32) (v36 : BitVec 32) (v45 : BitVec 32) (v54 : BitVec 32) (v63 : BitVec 32) (k0_t2 : Fin (k0_t2_loop v0 v9 v18 v27 v36 v45 v54 v63).trips) : Fin 4 → Nat :=
  let c0_i32_441 : BitVec 32 := 0#32
  let c0_i32_3 : BitVec 32 := 0#32
  let c0_i32 : BitVec 32 := 0#32
  let v1 : BitVec 1 := Scalar.cmpi .sgt v0 c0_i32
  let v7 : BitVec 32 := Scalar.extui v1
  let v8 : BitVec 32 := Scalar.addi c0_i32_3 v7
  let c0_i32_4 : BitVec 32 := 0#32
  let v10 : BitVec 1 := Scalar.cmpi .sgt v9 c0_i32_4
  let v16 : BitVec 32 := Scalar.extui v10
  let v17 : BitVec 32 := Scalar.addi v8 v16
  let c0_i32_8 : BitVec 32 := 0#32
  let v19 : BitVec 1 := Scalar.cmpi .sgt v18 c0_i32_8
  let v25 : BitVec 32 := Scalar.extui v19
  let v26 : BitVec 32 := Scalar.addi v17 v25
  let c0_i32_12 : BitVec 32 := 0#32
  let v28 : BitVec 1 := Scalar.cmpi .sgt v27 c0_i32_12
  let v34 : BitVec 32 := Scalar.extui v28
  let v35 : BitVec 32 := Scalar.addi v26 v34
  let c0_i32_16 : BitVec 32 := 0#32
  let v37 : BitVec 1 := Scalar.cmpi .sgt v36 c0_i32_16
  let v43 : BitVec 32 := Scalar.extui v37
  let v44 : BitVec 32 := Scalar.addi v35 v43
  let c0_i32_20 : BitVec 32 := 0#32
  let v46 : BitVec 1 := Scalar.cmpi .sgt v45 c0_i32_20
  let v52 : BitVec 32 := Scalar.extui v46
  let v53 : BitVec 32 := Scalar.addi v44 v52
  let c0_i32_24 : BitVec 32 := 0#32
  let v55 : BitVec 1 := Scalar.cmpi .sgt v54 c0_i32_24
  let v61 : BitVec 32 := Scalar.extui v55
  let v62 : BitVec 32 := Scalar.addi v53 v61
  let c0_i32_28 : BitVec 32 := 0#32
  let v64 : BitVec 1 := Scalar.cmpi .sgt v63 c0_i32_28
  let v70 : BitVec 32 := Scalar.extui v64
  let v71 : BitVec 32 := Scalar.addi v62 v70
  let v1002 : BitVec 32 := Scalar.subi v71 c0_i32_441
  let c1_i32_443 : BitVec 32 := 1#32
  let v1004 : BitVec 32 := Scalar.divsi v1002 c1_i32_443
  let v1005 : BitVec 32 := Scalar.muli v1004 c1_i32_443
  let v1006 : BitVec 32 := Scalar.addi c0_i32_441 v1005
  let c1_i32_445 : BitVec 32 := 1#32
  let arg13 : BitVec 32 := Scf.iv v1006 c1_i32_445 k0_t2
  let c4_i32_446 : BitVec 32 := 4#32
  let v1011 : BitVec 32 := Scalar.remsi arg13 c4_i32_446
  let v1732 : Index := Scalar.indexCast v1011
  let c4_606 : Index := 4#32
  let c0_607 : Index := 0#32
  let c0_608 : Index := 0#32
  ![v1732.toNat, 4, 0, 0]
def k0_off280 (v1010 : BitVec 32) : Fin 3 → Nat :=
  let v1764 : Index := Scalar.indexCast v1010
  let c0_613 : Index := 0#32
  let c2048 : Index := 2048#32
  ![v1764.toNat, 0, 2048]
def k0_off281 (v1010 : BitVec 32) : Fin 3 → Nat :=
  let v1795 : Index := Scalar.indexCast v1010
  let c0_615 : Index := 0#32
  let c2176 : Index := 2176#32
  ![v1795.toNat, 0, 2176]
def k0_off282 (v1010 : BitVec 32) : Fin 3 → Nat :=
  let v1826 : Index := Scalar.indexCast v1010
  let c0_617 : Index := 0#32
  let c2304 : Index := 2304#32
  ![v1826.toNat, 0, 2304]
def k0_off283 (v1010 : BitVec 32) : Fin 3 → Nat :=
  let v1857 : Index := Scalar.indexCast v1010
  let c0_619 : Index := 0#32
  let c2432 : Index := 2432#32
  ![v1857.toNat, 0, 2432]
def k0_off284 (v0 : BitVec 32) (v9 : BitVec 32) (v18 : BitVec 32) (v27 : BitVec 32) (v36 : BitVec 32) (v45 : BitVec 32) (v54 : BitVec 32) (v63 : BitVec 32) (k0_t2 : Fin (k0_t2_loop v0 v9 v18 v27 v36 v45 v54 v63).trips) : Fin 1 → Nat :=
  let c0_i32_441 : BitVec 32 := 0#32
  let c0_i32_3 : BitVec 32 := 0#32
  let c0_i32 : BitVec 32 := 0#32
  let v1 : BitVec 1 := Scalar.cmpi .sgt v0 c0_i32
  let v7 : BitVec 32 := Scalar.extui v1
  let v8 : BitVec 32 := Scalar.addi c0_i32_3 v7
  let c0_i32_4 : BitVec 32 := 0#32
  let v10 : BitVec 1 := Scalar.cmpi .sgt v9 c0_i32_4
  let v16 : BitVec 32 := Scalar.extui v10
  let v17 : BitVec 32 := Scalar.addi v8 v16
  let c0_i32_8 : BitVec 32 := 0#32
  let v19 : BitVec 1 := Scalar.cmpi .sgt v18 c0_i32_8
  let v25 : BitVec 32 := Scalar.extui v19
  let v26 : BitVec 32 := Scalar.addi v17 v25
  let c0_i32_12 : BitVec 32 := 0#32
  let v28 : BitVec 1 := Scalar.cmpi .sgt v27 c0_i32_12
  let v34 : BitVec 32 := Scalar.extui v28
  let v35 : BitVec 32 := Scalar.addi v26 v34
  let c0_i32_16 : BitVec 32 := 0#32
  let v37 : BitVec 1 := Scalar.cmpi .sgt v36 c0_i32_16
  let v43 : BitVec 32 := Scalar.extui v37
  let v44 : BitVec 32 := Scalar.addi v35 v43
  let c0_i32_20 : BitVec 32 := 0#32
  let v46 : BitVec 1 := Scalar.cmpi .sgt v45 c0_i32_20
  let v52 : BitVec 32 := Scalar.extui v46
  let v53 : BitVec 32 := Scalar.addi v44 v52
  let c0_i32_24 : BitVec 32 := 0#32
  let v55 : BitVec 1 := Scalar.cmpi .sgt v54 c0_i32_24
  let v61 : BitVec 32 := Scalar.extui v55
  let v62 : BitVec 32 := Scalar.addi v53 v61
  let c0_i32_28 : BitVec 32 := 0#32
  let v64 : BitVec 1 := Scalar.cmpi .sgt v63 c0_i32_28
  let v70 : BitVec 32 := Scalar.extui v64
  let v71 : BitVec 32 := Scalar.addi v62 v70
  let v1002 : BitVec 32 := Scalar.subi v71 c0_i32_441
  let c1_i32_443 : BitVec 32 := 1#32
  let v1004 : BitVec 32 := Scalar.divsi v1002 c1_i32_443
  let v1005 : BitVec 32 := Scalar.muli v1004 c1_i32_443
  let v1006 : BitVec 32 := Scalar.addi c0_i32_441 v1005
  let c1_i32_445 : BitVec 32 := 1#32
  let arg13 : BitVec 32 := Scf.iv v1006 c1_i32_445 k0_t2
  let c4_i32_667 : BitVec 32 := 4#32
  let v2149 : BitVec 32 := Scalar.addi arg13 c4_i32_667
  let v2151 : Index := Scalar.indexCast v2149
  ![v2151.toNat]
def k0_cond32 (v0 : BitVec 32) (v9 : BitVec 32) (v18 : BitVec 32) (v27 : BitVec 32) (v36 : BitVec 32) (v45 : BitVec 32) (v54 : BitVec 32) (v63 : BitVec 32) (k0_t2 : Fin (k0_t2_loop v0 v9 v18 v27 v36 v45 v54 v63).trips) : BitVec 1 :=
  let c0_i32_441 : BitVec 32 := 0#32
  let c0_i32_3 : BitVec 32 := 0#32
  let c0_i32 : BitVec 32 := 0#32
  let v1 : BitVec 1 := Scalar.cmpi .sgt v0 c0_i32
  let v7 : BitVec 32 := Scalar.extui v1
  let v8 : BitVec 32 := Scalar.addi c0_i32_3 v7
  let c0_i32_4 : BitVec 32 := 0#32
  let v10 : BitVec 1 := Scalar.cmpi .sgt v9 c0_i32_4
  let v16 : BitVec 32 := Scalar.extui v10
  let v17 : BitVec 32 := Scalar.addi v8 v16
  let c0_i32_8 : BitVec 32 := 0#32
  let v19 : BitVec 1 := Scalar.cmpi .sgt v18 c0_i32_8
  let v25 : BitVec 32 := Scalar.extui v19
  let v26 : BitVec 32 := Scalar.addi v17 v25
  let c0_i32_12 : BitVec 32 := 0#32
  let v28 : BitVec 1 := Scalar.cmpi .sgt v27 c0_i32_12
  let v34 : BitVec 32 := Scalar.extui v28
  let v35 : BitVec 32 := Scalar.addi v26 v34
  let c0_i32_16 : BitVec 32 := 0#32
  let v37 : BitVec 1 := Scalar.cmpi .sgt v36 c0_i32_16
  let v43 : BitVec 32 := Scalar.extui v37
  let v44 : BitVec 32 := Scalar.addi v35 v43
  let c0_i32_20 : BitVec 32 := 0#32
  let v46 : BitVec 1 := Scalar.cmpi .sgt v45 c0_i32_20
  let v52 : BitVec 32 := Scalar.extui v46
  let v53 : BitVec 32 := Scalar.addi v44 v52
  let c0_i32_24 : BitVec 32 := 0#32
  let v55 : BitVec 1 := Scalar.cmpi .sgt v54 c0_i32_24
  let v61 : BitVec 32 := Scalar.extui v55
  let v62 : BitVec 32 := Scalar.addi v53 v61
  let c0_i32_28 : BitVec 32 := 0#32
  let v64 : BitVec 1 := Scalar.cmpi .sgt v63 c0_i32_28
  let v70 : BitVec 32 := Scalar.extui v64
  let v71 : BitVec 32 := Scalar.addi v62 v70
  let v1002 : BitVec 32 := Scalar.subi v71 c0_i32_441
  let c1_i32_443 : BitVec 32 := 1#32
  let v1004 : BitVec 32 := Scalar.divsi v1002 c1_i32_443
  let v1005 : BitVec 32 := Scalar.muli v1004 c1_i32_443
  let v1006 : BitVec 32 := Scalar.addi c0_i32_441 v1005
  let c1_i32_445 : BitVec 32 := 1#32
  let arg13 : BitVec 32 := Scf.iv v1006 c1_i32_445 k0_t2
  let c4_i32_620 : BitVec 32 := 4#32
  let v1861 : BitVec 32 := Scalar.addi arg13 c4_i32_620
  let v1862 : BitVec 1 := Scalar.cmpi .slt v1861 v71
  let v1863 : BitVec 32 := Scalar.extui v1862
  let c0_i32_621 : BitVec 32 := 0#32
  let v1864 : BitVec 1 := Scalar.cmpi .ne v1863 c0_i32_621
  v1864

def k0_off285 (v0 : BitVec 32) (v9 : BitVec 32) (v18 : BitVec 32) (v27 : BitVec 32) (v36 : BitVec 32) (v45 : BitVec 32) (v54 : BitVec 32) (v63 : BitVec 32) (k0_t2 : Fin (k0_t2_loop v0 v9 v18 v27 v36 v45 v54 v63).trips) : Fin 2 → Nat :=
  let c0_i32_441 : BitVec 32 := 0#32
  let c0_i32_3 : BitVec 32 := 0#32
  let c0_i32 : BitVec 32 := 0#32
  let v1 : BitVec 1 := Scalar.cmpi .sgt v0 c0_i32
  let v7 : BitVec 32 := Scalar.extui v1
  let v8 : BitVec 32 := Scalar.addi c0_i32_3 v7
  let c0_i32_4 : BitVec 32 := 0#32
  let v10 : BitVec 1 := Scalar.cmpi .sgt v9 c0_i32_4
  let v16 : BitVec 32 := Scalar.extui v10
  let v17 : BitVec 32 := Scalar.addi v8 v16
  let c0_i32_8 : BitVec 32 := 0#32
  let v19 : BitVec 1 := Scalar.cmpi .sgt v18 c0_i32_8
  let v25 : BitVec 32 := Scalar.extui v19
  let v26 : BitVec 32 := Scalar.addi v17 v25
  let c0_i32_12 : BitVec 32 := 0#32
  let v28 : BitVec 1 := Scalar.cmpi .sgt v27 c0_i32_12
  let v34 : BitVec 32 := Scalar.extui v28
  let v35 : BitVec 32 := Scalar.addi v26 v34
  let c0_i32_16 : BitVec 32 := 0#32
  let v37 : BitVec 1 := Scalar.cmpi .sgt v36 c0_i32_16
  let v43 : BitVec 32 := Scalar.extui v37
  let v44 : BitVec 32 := Scalar.addi v35 v43
  let c0_i32_20 : BitVec 32 := 0#32
  let v46 : BitVec 1 := Scalar.cmpi .sgt v45 c0_i32_20
  let v52 : BitVec 32 := Scalar.extui v46
  let v53 : BitVec 32 := Scalar.addi v44 v52
  let c0_i32_24 : BitVec 32 := 0#32
  let v55 : BitVec 1 := Scalar.cmpi .sgt v54 c0_i32_24
  let v61 : BitVec 32 := Scalar.extui v55
  let v62 : BitVec 32 := Scalar.addi v53 v61
  let c0_i32_28 : BitVec 32 := 0#32
  let v64 : BitVec 1 := Scalar.cmpi .sgt v63 c0_i32_28
  let v70 : BitVec 32 := Scalar.extui v64
  let v71 : BitVec 32 := Scalar.addi v62 v70
  let v1002 : BitVec 32 := Scalar.subi v71 c0_i32_441
  let c1_i32_443 : BitVec 32 := 1#32
  let v1004 : BitVec 32 := Scalar.divsi v1002 c1_i32_443
  let v1005 : BitVec 32 := Scalar.muli v1004 c1_i32_443
  let v1006 : BitVec 32 := Scalar.addi c0_i32_441 v1005
  let c1_i32_445 : BitVec 32 := 1#32
  let arg13 : BitVec 32 := Scf.iv v1006 c1_i32_445 k0_t2
  let c4_i32_667 : BitVec 32 := 4#32
  let v2149 : BitVec 32 := Scalar.addi arg13 c4_i32_667
  let c4_i32_668 : BitVec 32 := 4#32
  let v2150 : BitVec 32 := Scalar.remsi v2149 c4_i32_668
  let c4_i32_670 : BitVec 32 := 4#32
  ![v2150.toNat, 4]
def k0_off286 (v0 : BitVec 32) (v9 : BitVec 32) (v18 : BitVec 32) (v27 : BitVec 32) (v36 : BitVec 32) (v45 : BitVec 32) (v54 : BitVec 32) (v63 : BitVec 32) (k0_t2 : Fin (k0_t2_loop v0 v9 v18 v27 v36 v45 v54 v63).trips) : Fin 4 → Nat :=
  let c0_i32_441 : BitVec 32 := 0#32
  let c0_i32_3 : BitVec 32 := 0#32
  let c0_i32 : BitVec 32 := 0#32
  let v1 : BitVec 1 := Scalar.cmpi .sgt v0 c0_i32
  let v7 : BitVec 32 := Scalar.extui v1
  let v8 : BitVec 32 := Scalar.addi c0_i32_3 v7
  let c0_i32_4 : BitVec 32 := 0#32
  let v10 : BitVec 1 := Scalar.cmpi .sgt v9 c0_i32_4
  let v16 : BitVec 32 := Scalar.extui v10
  let v17 : BitVec 32 := Scalar.addi v8 v16
  let c0_i32_8 : BitVec 32 := 0#32
  let v19 : BitVec 1 := Scalar.cmpi .sgt v18 c0_i32_8
  let v25 : BitVec 32 := Scalar.extui v19
  let v26 : BitVec 32 := Scalar.addi v17 v25
  let c0_i32_12 : BitVec 32 := 0#32
  let v28 : BitVec 1 := Scalar.cmpi .sgt v27 c0_i32_12
  let v34 : BitVec 32 := Scalar.extui v28
  let v35 : BitVec 32 := Scalar.addi v26 v34
  let c0_i32_16 : BitVec 32 := 0#32
  let v37 : BitVec 1 := Scalar.cmpi .sgt v36 c0_i32_16
  let v43 : BitVec 32 := Scalar.extui v37
  let v44 : BitVec 32 := Scalar.addi v35 v43
  let c0_i32_20 : BitVec 32 := 0#32
  let v46 : BitVec 1 := Scalar.cmpi .sgt v45 c0_i32_20
  let v52 : BitVec 32 := Scalar.extui v46
  let v53 : BitVec 32 := Scalar.addi v44 v52
  let c0_i32_24 : BitVec 32 := 0#32
  let v55 : BitVec 1 := Scalar.cmpi .sgt v54 c0_i32_24
  let v61 : BitVec 32 := Scalar.extui v55
  let v62 : BitVec 32 := Scalar.addi v53 v61
  let c0_i32_28 : BitVec 32 := 0#32
  let v64 : BitVec 1 := Scalar.cmpi .sgt v63 c0_i32_28
  let v70 : BitVec 32 := Scalar.extui v64
  let v71 : BitVec 32 := Scalar.addi v62 v70
  let v1002 : BitVec 32 := Scalar.subi v71 c0_i32_441
  let c1_i32_443 : BitVec 32 := 1#32
  let v1004 : BitVec 32 := Scalar.divsi v1002 c1_i32_443
  let v1005 : BitVec 32 := Scalar.muli v1004 c1_i32_443
  let v1006 : BitVec 32 := Scalar.addi c0_i32_441 v1005
  let c1_i32_445 : BitVec 32 := 1#32
  let arg13 : BitVec 32 := Scf.iv v1006 c1_i32_445 k0_t2
  let c4_i32_667 : BitVec 32 := 4#32
  let v2149 : BitVec 32 := Scalar.addi arg13 c4_i32_667
  let c4_i32_668 : BitVec 32 := 4#32
  let v2150 : BitVec 32 := Scalar.remsi v2149 c4_i32_668
  let c4_i32_669 : BitVec 32 := 4#32
  let c0_i32_671 : BitVec 32 := 0#32
  let c0_i32_672 : BitVec 32 := 0#32
  ![v2150.toNat, 4, 0, 0]
def k0_off287 (v2152 : BitVec 32) : Fin 3 → Nat :=
  let c2048_i32_673 : BitVec 32 := 2048#32
  let c0_i32_674 : BitVec 32 := 0#32
  ![v2152.toNat, 2048, 0]

def k0_chk61 (v0 : BitVec 32) (v9 : BitVec 32) (v18 : BitVec 32) (v27 : BitVec 32) (v36 : BitVec 32) (v45 : BitVec 32) (v54 : BitVec 32) (v63 : BitVec 32) (k0_t2 : Fin (k0_t2_loop v0 v9 v18 v27 v36 v45 v54 v63).trips) (v2152 : BitVec 32) : Prop :=
  (∀ (k0_h32 : k0_cond32 v0 v9 v18 v27 v36 v45 v54 v63 k0_t2 = 1#1), ∀ a, (k0_off287 v2152) a + S1x512x2048.size a ≤ S8x3584x2048.size a) ∧
  (∀ (k0_h32 : k0_cond32 v0 v9 v18 v27 v36 v45 v54 v63 k0_t2 = 1#1), ∀ (hinb : ∀ a, (k0_off287 v2152) a + S1x512x2048.size a ≤ S8x3584x2048.size a), (Rect.unit (s := S8x3584x2048) (k0_off287 v2152) S1x512x2048.size hinb).WholeWords (EltTy.packing .fp8e4m3))
theorem k0_off287_inb : ∀ (v0 : BitVec 32) (v9 : BitVec 32) (v18 : BitVec 32) (v27 : BitVec 32) (v36 : BitVec 32) (v45 : BitVec 32) (v54 : BitVec 32) (v63 : BitVec 32) (k0_t2 : Fin (k0_t2_loop v0 v9 v18 v27 v36 v45 v54 v63).trips) (v2152 : BitVec 32) (k0_hw61 : k0_chk61 v0 v9 v18 v27 v36 v45 v54 v63 k0_t2 v2152), ∀ (k0_h32 : k0_cond32 v0 v9 v18 v27 v36 v45 v54 v63 k0_t2 = 1#1), ∀ a, (k0_off287 v2152) a + S1x512x2048.size a ≤ S8x3584x2048.size a := fun v0 v9 v18 v27 v36 v45 v54 v63 k0_t2 v2152 k0_hw61 k0_h32 => k0_hw61.1 k0_h32
theorem k0_off287_wordsfp8e4m3 : ∀ (v0 : BitVec 32) (v9 : BitVec 32) (v18 : BitVec 32) (v27 : BitVec 32) (v36 : BitVec 32) (v45 : BitVec 32) (v54 : BitVec 32) (v63 : BitVec 32) (k0_t2 : Fin (k0_t2_loop v0 v9 v18 v27 v36 v45 v54 v63).trips) (v2152 : BitVec 32) (k0_hw61 : k0_chk61 v0 v9 v18 v27 v36 v45 v54 v63 k0_t2 v2152), ∀ (k0_h32 : k0_cond32 v0 v9 v18 v27 v36 v45 v54 v63 k0_t2 = 1#1), (Rect.unit (s := S8x3584x2048) (k0_off287 v2152) S1x512x2048.size (k0_off287_inb v0 v9 v18 v27 v36 v45 v54 v63 k0_t2 v2152 k0_hw61 k0_h32)).WholeWords (EltTy.packing .fp8e4m3) := fun v0 v9 v18 v27 v36 v45 v54 v63 k0_t2 v2152 k0_hw61 k0_h32 => k0_hw61.2 k0_h32 (k0_off287_inb v0 v9 v18 v27 v36 v45 v54 v63 k0_t2 v2152 k0_hw61 k0_h32)

def k0_off288 (v0 : BitVec 32) (v9 : BitVec 32) (v18 : BitVec 32) (v27 : BitVec 32) (v36 : BitVec 32) (v45 : BitVec 32) (v54 : BitVec 32) (v63 : BitVec 32) (k0_t2 : Fin (k0_t2_loop v0 v9 v18 v27 v36 v45 v54 v63).trips) : Fin 1 → Nat :=
  let c0_i32_441 : BitVec 32 := 0#32
  let c0_i32_3 : BitVec 32 := 0#32
  let c0_i32 : BitVec 32 := 0#32
  let v1 : BitVec 1 := Scalar.cmpi .sgt v0 c0_i32
  let v7 : BitVec 32 := Scalar.extui v1
  let v8 : BitVec 32 := Scalar.addi c0_i32_3 v7
  let c0_i32_4 : BitVec 32 := 0#32
  let v10 : BitVec 1 := Scalar.cmpi .sgt v9 c0_i32_4
  let v16 : BitVec 32 := Scalar.extui v10
  let v17 : BitVec 32 := Scalar.addi v8 v16
  let c0_i32_8 : BitVec 32 := 0#32
  let v19 : BitVec 1 := Scalar.cmpi .sgt v18 c0_i32_8
  let v25 : BitVec 32 := Scalar.extui v19
  let v26 : BitVec 32 := Scalar.addi v17 v25
  let c0_i32_12 : BitVec 32 := 0#32
  let v28 : BitVec 1 := Scalar.cmpi .sgt v27 c0_i32_12
  let v34 : BitVec 32 := Scalar.extui v28
  let v35 : BitVec 32 := Scalar.addi v26 v34
  let c0_i32_16 : BitVec 32 := 0#32
  let v37 : BitVec 1 := Scalar.cmpi .sgt v36 c0_i32_16
  let v43 : BitVec 32 := Scalar.extui v37
  let v44 : BitVec 32 := Scalar.addi v35 v43
  let c0_i32_20 : BitVec 32 := 0#32
  let v46 : BitVec 1 := Scalar.cmpi .sgt v45 c0_i32_20
  let v52 : BitVec 32 := Scalar.extui v46
  let v53 : BitVec 32 := Scalar.addi v44 v52
  let c0_i32_24 : BitVec 32 := 0#32
  let v55 : BitVec 1 := Scalar.cmpi .sgt v54 c0_i32_24
  let v61 : BitVec 32 := Scalar.extui v55
  let v62 : BitVec 32 := Scalar.addi v53 v61
  let c0_i32_28 : BitVec 32 := 0#32
  let v64 : BitVec 1 := Scalar.cmpi .sgt v63 c0_i32_28
  let v70 : BitVec 32 := Scalar.extui v64
  let v71 : BitVec 32 := Scalar.addi v62 v70
  let v1002 : BitVec 32 := Scalar.subi v71 c0_i32_441
  let c1_i32_443 : BitVec 32 := 1#32
  let v1004 : BitVec 32 := Scalar.divsi v1002 c1_i32_443
  let v1005 : BitVec 32 := Scalar.muli v1004 c1_i32_443
  let v1006 : BitVec 32 := Scalar.addi c0_i32_441 v1005
  let c1_i32_445 : BitVec 32 := 1#32
  let arg13 : BitVec 32 := Scf.iv v1006 c1_i32_445 k0_t2
  let v1866 : Index := Scalar.indexCast arg13
  ![v1866.toNat]
def k0_off289 (v0 : BitVec 32) (v9 : BitVec 32) (v18 : BitVec 32) (v27 : BitVec 32) (v36 : BitVec 32) (v45 : BitVec 32) (v54 : BitVec 32) (v63 : BitVec 32) (k0_t2 : Fin (k0_t2_loop v0 v9 v18 v27 v36 v45 v54 v63).trips) : Fin 2 → Nat :=
  let c0_i32_441 : BitVec 32 := 0#32
  let c0_i32_3 : BitVec 32 := 0#32
  let c0_i32 : BitVec 32 := 0#32
  let v1 : BitVec 1 := Scalar.cmpi .sgt v0 c0_i32
  let v7 : BitVec 32 := Scalar.extui v1
  let v8 : BitVec 32 := Scalar.addi c0_i32_3 v7
  let c0_i32_4 : BitVec 32 := 0#32
  let v10 : BitVec 1 := Scalar.cmpi .sgt v9 c0_i32_4
  let v16 : BitVec 32 := Scalar.extui v10
  let v17 : BitVec 32 := Scalar.addi v8 v16
  let c0_i32_8 : BitVec 32 := 0#32
  let v19 : BitVec 1 := Scalar.cmpi .sgt v18 c0_i32_8
  let v25 : BitVec 32 := Scalar.extui v19
  let v26 : BitVec 32 := Scalar.addi v17 v25
  let c0_i32_12 : BitVec 32 := 0#32
  let v28 : BitVec 1 := Scalar.cmpi .sgt v27 c0_i32_12
  let v34 : BitVec 32 := Scalar.extui v28
  let v35 : BitVec 32 := Scalar.addi v26 v34
  let c0_i32_16 : BitVec 32 := 0#32
  let v37 : BitVec 1 := Scalar.cmpi .sgt v36 c0_i32_16
  let v43 : BitVec 32 := Scalar.extui v37
  let v44 : BitVec 32 := Scalar.addi v35 v43
  let c0_i32_20 : BitVec 32 := 0#32
  let v46 : BitVec 1 := Scalar.cmpi .sgt v45 c0_i32_20
  let v52 : BitVec 32 := Scalar.extui v46
  let v53 : BitVec 32 := Scalar.addi v44 v52
  let c0_i32_24 : BitVec 32 := 0#32
  let v55 : BitVec 1 := Scalar.cmpi .sgt v54 c0_i32_24
  let v61 : BitVec 32 := Scalar.extui v55
  let v62 : BitVec 32 := Scalar.addi v53 v61
  let c0_i32_28 : BitVec 32 := 0#32
  let v64 : BitVec 1 := Scalar.cmpi .sgt v63 c0_i32_28
  let v70 : BitVec 32 := Scalar.extui v64
  let v71 : BitVec 32 := Scalar.addi v62 v70
  let v1002 : BitVec 32 := Scalar.subi v71 c0_i32_441
  let c1_i32_443 : BitVec 32 := 1#32
  let v1004 : BitVec 32 := Scalar.divsi v1002 c1_i32_443
  let v1005 : BitVec 32 := Scalar.muli v1004 c1_i32_443
  let v1006 : BitVec 32 := Scalar.addi c0_i32_441 v1005
  let c1_i32_445 : BitVec 32 := 1#32
  let arg13 : BitVec 32 := Scf.iv v1006 c1_i32_445 k0_t2
  let c4_i32_622 : BitVec 32 := 4#32
  let v1865 : BitVec 32 := Scalar.remsi arg13 c4_i32_622
  let c5_i32_624 : BitVec 32 := 5#32
  ![v1865.toNat, 5]
def k0_off290 (v0 : BitVec 32) (v9 : BitVec 32) (v18 : BitVec 32) (v27 : BitVec 32) (v36 : BitVec 32) (v45 : BitVec 32) (v54 : BitVec 32) (v63 : BitVec 32) (k0_t2 : Fin (k0_t2_loop v0 v9 v18 v27 v36 v45 v54 v63).trips) : Fin 4 → Nat :=
  let c0_i32_441 : BitVec 32 := 0#32
  let c0_i32_3 : BitVec 32 := 0#32
  let c0_i32 : BitVec 32 := 0#32
  let v1 : BitVec 1 := Scalar.cmpi .sgt v0 c0_i32
  let v7 : BitVec 32 := Scalar.extui v1
  let v8 : BitVec 32 := Scalar.addi c0_i32_3 v7
  let c0_i32_4 : BitVec 32 := 0#32
  let v10 : BitVec 1 := Scalar.cmpi .sgt v9 c0_i32_4
  let v16 : BitVec 32 := Scalar.extui v10
  let v17 : BitVec 32 := Scalar.addi v8 v16
  let c0_i32_8 : BitVec 32 := 0#32
  let v19 : BitVec 1 := Scalar.cmpi .sgt v18 c0_i32_8
  let v25 : BitVec 32 := Scalar.extui v19
  let v26 : BitVec 32 := Scalar.addi v17 v25
  let c0_i32_12 : BitVec 32 := 0#32
  let v28 : BitVec 1 := Scalar.cmpi .sgt v27 c0_i32_12
  let v34 : BitVec 32 := Scalar.extui v28
  let v35 : BitVec 32 := Scalar.addi v26 v34
  let c0_i32_16 : BitVec 32 := 0#32
  let v37 : BitVec 1 := Scalar.cmpi .sgt v36 c0_i32_16
  let v43 : BitVec 32 := Scalar.extui v37
  let v44 : BitVec 32 := Scalar.addi v35 v43
  let c0_i32_20 : BitVec 32 := 0#32
  let v46 : BitVec 1 := Scalar.cmpi .sgt v45 c0_i32_20
  let v52 : BitVec 32 := Scalar.extui v46
  let v53 : BitVec 32 := Scalar.addi v44 v52
  let c0_i32_24 : BitVec 32 := 0#32
  let v55 : BitVec 1 := Scalar.cmpi .sgt v54 c0_i32_24
  let v61 : BitVec 32 := Scalar.extui v55
  let v62 : BitVec 32 := Scalar.addi v53 v61
  let c0_i32_28 : BitVec 32 := 0#32
  let v64 : BitVec 1 := Scalar.cmpi .sgt v63 c0_i32_28
  let v70 : BitVec 32 := Scalar.extui v64
  let v71 : BitVec 32 := Scalar.addi v62 v70
  let v1002 : BitVec 32 := Scalar.subi v71 c0_i32_441
  let c1_i32_443 : BitVec 32 := 1#32
  let v1004 : BitVec 32 := Scalar.divsi v1002 c1_i32_443
  let v1005 : BitVec 32 := Scalar.muli v1004 c1_i32_443
  let v1006 : BitVec 32 := Scalar.addi c0_i32_441 v1005
  let c1_i32_445 : BitVec 32 := 1#32
  let arg13 : BitVec 32 := Scf.iv v1006 c1_i32_445 k0_t2
  let c4_i32_622 : BitVec 32 := 4#32
  let v1865 : BitVec 32 := Scalar.remsi arg13 c4_i32_622
  let c5_i32_623 : BitVec 32 := 5#32
  let c0_i32_625 : BitVec 32 := 0#32
  let c0_i32_626 : BitVec 32 := 0#32
  ![v1865.toNat, 5, 0, 0]
def k0_off291 (v1867 : BitVec 32) : Fin 3 → Nat :=
  let c2560_i32 : BitVec 32 := 2560#32
  let c0_i32_627 : BitVec 32 := 0#32
  ![v1867.toNat, 2560, 0]

def k0_chk62 (v1867 : BitVec 32) : Prop :=
  (∀ a, (k0_off291 v1867) a + S1x512x2048.size a ≤ S8x3584x2048.size a) ∧
  (∀ (hinb : ∀ a, (k0_off291 v1867) a + S1x512x2048.size a ≤ S8x3584x2048.size a), (Rect.unit (s := S8x3584x2048) (k0_off291 v1867) S1x512x2048.size hinb).WholeWords (EltTy.packing .fp8e4m3))
theorem k0_off291_inb : ∀ (v1867 : BitVec 32) (k0_hw62 : k0_chk62 v1867), ∀ a, (k0_off291 v1867) a + S1x512x2048.size a ≤ S8x3584x2048.size a := fun v1867 k0_hw62 => k0_hw62.1
theorem k0_off291_wordsfp8e4m3 : ∀ (v1867 : BitVec 32) (k0_hw62 : k0_chk62 v1867), (Rect.unit (s := S8x3584x2048) (k0_off291 v1867) S1x512x2048.size (k0_off291_inb v1867 k0_hw62)).WholeWords (EltTy.packing .fp8e4m3) := fun v1867 k0_hw62 => k0_hw62.2 (k0_off291_inb v1867 k0_hw62)

def k0_off292 (v0 : BitVec 32) (v9 : BitVec 32) (v18 : BitVec 32) (v27 : BitVec 32) (v36 : BitVec 32) (v45 : BitVec 32) (v54 : BitVec 32) (v63 : BitVec 32) (k0_t2 : Fin (k0_t2_loop v0 v9 v18 v27 v36 v45 v54 v63).trips) : Fin 4 → Nat :=
  let c0_i32_441 : BitVec 32 := 0#32
  let c0_i32_3 : BitVec 32 := 0#32
  let c0_i32 : BitVec 32 := 0#32
  let v1 : BitVec 1 := Scalar.cmpi .sgt v0 c0_i32
  let v7 : BitVec 32 := Scalar.extui v1
  let v8 : BitVec 32 := Scalar.addi c0_i32_3 v7
  let c0_i32_4 : BitVec 32 := 0#32
  let v10 : BitVec 1 := Scalar.cmpi .sgt v9 c0_i32_4
  let v16 : BitVec 32 := Scalar.extui v10
  let v17 : BitVec 32 := Scalar.addi v8 v16
  let c0_i32_8 : BitVec 32 := 0#32
  let v19 : BitVec 1 := Scalar.cmpi .sgt v18 c0_i32_8
  let v25 : BitVec 32 := Scalar.extui v19
  let v26 : BitVec 32 := Scalar.addi v17 v25
  let c0_i32_12 : BitVec 32 := 0#32
  let v28 : BitVec 1 := Scalar.cmpi .sgt v27 c0_i32_12
  let v34 : BitVec 32 := Scalar.extui v28
  let v35 : BitVec 32 := Scalar.addi v26 v34
  let c0_i32_16 : BitVec 32 := 0#32
  let v37 : BitVec 1 := Scalar.cmpi .sgt v36 c0_i32_16
  let v43 : BitVec 32 := Scalar.extui v37
  let v44 : BitVec 32 := Scalar.addi v35 v43
  let c0_i32_20 : BitVec 32 := 0#32
  let v46 : BitVec 1 := Scalar.cmpi .sgt v45 c0_i32_20
  let v52 : BitVec 32 := Scalar.extui v46
  let v53 : BitVec 32 := Scalar.addi v44 v52
  let c0_i32_24 : BitVec 32 := 0#32
  let v55 : BitVec 1 := Scalar.cmpi .sgt v54 c0_i32_24
  let v61 : BitVec 32 := Scalar.extui v55
  let v62 : BitVec 32 := Scalar.addi v53 v61
  let c0_i32_28 : BitVec 32 := 0#32
  let v64 : BitVec 1 := Scalar.cmpi .sgt v63 c0_i32_28
  let v70 : BitVec 32 := Scalar.extui v64
  let v71 : BitVec 32 := Scalar.addi v62 v70
  let v1002 : BitVec 32 := Scalar.subi v71 c0_i32_441
  let c1_i32_443 : BitVec 32 := 1#32
  let v1004 : BitVec 32 := Scalar.divsi v1002 c1_i32_443
  let v1005 : BitVec 32 := Scalar.muli v1004 c1_i32_443
  let v1006 : BitVec 32 := Scalar.addi c0_i32_441 v1005
  let c1_i32_445 : BitVec 32 := 1#32
  let arg13 : BitVec 32 := Scf.iv v1006 c1_i32_445 k0_t2
  let c4_i32_446 : BitVec 32 := 4#32
  let v1011 : BitVec 32 := Scalar.remsi arg13 c4_i32_446
  let v1874 : Index := Scalar.indexCast v1011
  let c5_628 : Index := 5#32
  let c0_629 : Index := 0#32
  let c0_630 : Index := 0#32
  ![v1874.toNat, 5, 0, 0]
def k0_off293 (v1010 : BitVec 32) : Fin 3 → Nat :=
  let v1906 : Index := Scalar.indexCast v1010
  let c0_635 : Index := 0#32
  let c2560 : Index := 2560#32
  ![v1906.toNat, 0, 2560]
def k0_off294 (v1010 : BitVec 32) : Fin 3 → Nat :=
  let v1937 : Index := Scalar.indexCast v1010
  let c0_637 : Index := 0#32
  let c2688 : Index := 2688#32
  ![v1937.toNat, 0, 2688]
def k0_off295 (v1010 : BitVec 32) : Fin 3 → Nat :=
  let v1968 : Index := Scalar.indexCast v1010
  let c0_639 : Index := 0#32
  let c2816 : Index := 2816#32
  ![v1968.toNat, 0, 2816]
def k0_off296 (v1010 : BitVec 32) : Fin 3 → Nat :=
  let v1999 : Index := Scalar.indexCast v1010
  let c0_641 : Index := 0#32
  let c2944 : Index := 2944#32
  ![v1999.toNat, 0, 2944]
def k0_off297 (v0 : BitVec 32) (v9 : BitVec 32) (v18 : BitVec 32) (v27 : BitVec 32) (v36 : BitVec 32) (v45 : BitVec 32) (v54 : BitVec 32) (v63 : BitVec 32) (k0_t2 : Fin (k0_t2_loop v0 v9 v18 v27 v36 v45 v54 v63).trips) : Fin 1 → Nat :=
  let c0_i32_441 : BitVec 32 := 0#32
  let c0_i32_3 : BitVec 32 := 0#32
  let c0_i32 : BitVec 32 := 0#32
  let v1 : BitVec 1 := Scalar.cmpi .sgt v0 c0_i32
  let v7 : BitVec 32 := Scalar.extui v1
  let v8 : BitVec 32 := Scalar.addi c0_i32_3 v7
  let c0_i32_4 : BitVec 32 := 0#32
  let v10 : BitVec 1 := Scalar.cmpi .sgt v9 c0_i32_4
  let v16 : BitVec 32 := Scalar.extui v10
  let v17 : BitVec 32 := Scalar.addi v8 v16
  let c0_i32_8 : BitVec 32 := 0#32
  let v19 : BitVec 1 := Scalar.cmpi .sgt v18 c0_i32_8
  let v25 : BitVec 32 := Scalar.extui v19
  let v26 : BitVec 32 := Scalar.addi v17 v25
  let c0_i32_12 : BitVec 32 := 0#32
  let v28 : BitVec 1 := Scalar.cmpi .sgt v27 c0_i32_12
  let v34 : BitVec 32 := Scalar.extui v28
  let v35 : BitVec 32 := Scalar.addi v26 v34
  let c0_i32_16 : BitVec 32 := 0#32
  let v37 : BitVec 1 := Scalar.cmpi .sgt v36 c0_i32_16
  let v43 : BitVec 32 := Scalar.extui v37
  let v44 : BitVec 32 := Scalar.addi v35 v43
  let c0_i32_20 : BitVec 32 := 0#32
  let v46 : BitVec 1 := Scalar.cmpi .sgt v45 c0_i32_20
  let v52 : BitVec 32 := Scalar.extui v46
  let v53 : BitVec 32 := Scalar.addi v44 v52
  let c0_i32_24 : BitVec 32 := 0#32
  let v55 : BitVec 1 := Scalar.cmpi .sgt v54 c0_i32_24
  let v61 : BitVec 32 := Scalar.extui v55
  let v62 : BitVec 32 := Scalar.addi v53 v61
  let c0_i32_28 : BitVec 32 := 0#32
  let v64 : BitVec 1 := Scalar.cmpi .sgt v63 c0_i32_28
  let v70 : BitVec 32 := Scalar.extui v64
  let v71 : BitVec 32 := Scalar.addi v62 v70
  let v1002 : BitVec 32 := Scalar.subi v71 c0_i32_441
  let c1_i32_443 : BitVec 32 := 1#32
  let v1004 : BitVec 32 := Scalar.divsi v1002 c1_i32_443
  let v1005 : BitVec 32 := Scalar.muli v1004 c1_i32_443
  let v1006 : BitVec 32 := Scalar.addi c0_i32_441 v1005
  let c1_i32_445 : BitVec 32 := 1#32
  let arg13 : BitVec 32 := Scf.iv v1006 c1_i32_445 k0_t2
  let c4_i32_667 : BitVec 32 := 4#32
  let v2149 : BitVec 32 := Scalar.addi arg13 c4_i32_667
  let v2151 : Index := Scalar.indexCast v2149
  ![v2151.toNat]
def k0_cond33 (v0 : BitVec 32) (v9 : BitVec 32) (v18 : BitVec 32) (v27 : BitVec 32) (v36 : BitVec 32) (v45 : BitVec 32) (v54 : BitVec 32) (v63 : BitVec 32) (k0_t2 : Fin (k0_t2_loop v0 v9 v18 v27 v36 v45 v54 v63).trips) : BitVec 1 :=
  let c0_i32_441 : BitVec 32 := 0#32
  let c0_i32_3 : BitVec 32 := 0#32
  let c0_i32 : BitVec 32 := 0#32
  let v1 : BitVec 1 := Scalar.cmpi .sgt v0 c0_i32
  let v7 : BitVec 32 := Scalar.extui v1
  let v8 : BitVec 32 := Scalar.addi c0_i32_3 v7
  let c0_i32_4 : BitVec 32 := 0#32
  let v10 : BitVec 1 := Scalar.cmpi .sgt v9 c0_i32_4
  let v16 : BitVec 32 := Scalar.extui v10
  let v17 : BitVec 32 := Scalar.addi v8 v16
  let c0_i32_8 : BitVec 32 := 0#32
  let v19 : BitVec 1 := Scalar.cmpi .sgt v18 c0_i32_8
  let v25 : BitVec 32 := Scalar.extui v19
  let v26 : BitVec 32 := Scalar.addi v17 v25
  let c0_i32_12 : BitVec 32 := 0#32
  let v28 : BitVec 1 := Scalar.cmpi .sgt v27 c0_i32_12
  let v34 : BitVec 32 := Scalar.extui v28
  let v35 : BitVec 32 := Scalar.addi v26 v34
  let c0_i32_16 : BitVec 32 := 0#32
  let v37 : BitVec 1 := Scalar.cmpi .sgt v36 c0_i32_16
  let v43 : BitVec 32 := Scalar.extui v37
  let v44 : BitVec 32 := Scalar.addi v35 v43
  let c0_i32_20 : BitVec 32 := 0#32
  let v46 : BitVec 1 := Scalar.cmpi .sgt v45 c0_i32_20
  let v52 : BitVec 32 := Scalar.extui v46
  let v53 : BitVec 32 := Scalar.addi v44 v52
  let c0_i32_24 : BitVec 32 := 0#32
  let v55 : BitVec 1 := Scalar.cmpi .sgt v54 c0_i32_24
  let v61 : BitVec 32 := Scalar.extui v55
  let v62 : BitVec 32 := Scalar.addi v53 v61
  let c0_i32_28 : BitVec 32 := 0#32
  let v64 : BitVec 1 := Scalar.cmpi .sgt v63 c0_i32_28
  let v70 : BitVec 32 := Scalar.extui v64
  let v71 : BitVec 32 := Scalar.addi v62 v70
  let v1002 : BitVec 32 := Scalar.subi v71 c0_i32_441
  let c1_i32_443 : BitVec 32 := 1#32
  let v1004 : BitVec 32 := Scalar.divsi v1002 c1_i32_443
  let v1005 : BitVec 32 := Scalar.muli v1004 c1_i32_443
  let v1006 : BitVec 32 := Scalar.addi c0_i32_441 v1005
  let c1_i32_445 : BitVec 32 := 1#32
  let arg13 : BitVec 32 := Scf.iv v1006 c1_i32_445 k0_t2
  let c4_i32_642 : BitVec 32 := 4#32
  let v2003 : BitVec 32 := Scalar.addi arg13 c4_i32_642
  let v2004 : BitVec 1 := Scalar.cmpi .slt v2003 v71
  let v2005 : BitVec 32 := Scalar.extui v2004
  let c0_i32_643 : BitVec 32 := 0#32
  let v2006 : BitVec 1 := Scalar.cmpi .ne v2005 c0_i32_643
  v2006

def k0_off298 (v0 : BitVec 32) (v9 : BitVec 32) (v18 : BitVec 32) (v27 : BitVec 32) (v36 : BitVec 32) (v45 : BitVec 32) (v54 : BitVec 32) (v63 : BitVec 32) (k0_t2 : Fin (k0_t2_loop v0 v9 v18 v27 v36 v45 v54 v63).trips) : Fin 2 → Nat :=
  let c0_i32_441 : BitVec 32 := 0#32
  let c0_i32_3 : BitVec 32 := 0#32
  let c0_i32 : BitVec 32 := 0#32
  let v1 : BitVec 1 := Scalar.cmpi .sgt v0 c0_i32
  let v7 : BitVec 32 := Scalar.extui v1
  let v8 : BitVec 32 := Scalar.addi c0_i32_3 v7
  let c0_i32_4 : BitVec 32 := 0#32
  let v10 : BitVec 1 := Scalar.cmpi .sgt v9 c0_i32_4
  let v16 : BitVec 32 := Scalar.extui v10
  let v17 : BitVec 32 := Scalar.addi v8 v16
  let c0_i32_8 : BitVec 32 := 0#32
  let v19 : BitVec 1 := Scalar.cmpi .sgt v18 c0_i32_8
  let v25 : BitVec 32 := Scalar.extui v19
  let v26 : BitVec 32 := Scalar.addi v17 v25
  let c0_i32_12 : BitVec 32 := 0#32
  let v28 : BitVec 1 := Scalar.cmpi .sgt v27 c0_i32_12
  let v34 : BitVec 32 := Scalar.extui v28
  let v35 : BitVec 32 := Scalar.addi v26 v34
  let c0_i32_16 : BitVec 32 := 0#32
  let v37 : BitVec 1 := Scalar.cmpi .sgt v36 c0_i32_16
  let v43 : BitVec 32 := Scalar.extui v37
  let v44 : BitVec 32 := Scalar.addi v35 v43
  let c0_i32_20 : BitVec 32 := 0#32
  let v46 : BitVec 1 := Scalar.cmpi .sgt v45 c0_i32_20
  let v52 : BitVec 32 := Scalar.extui v46
  let v53 : BitVec 32 := Scalar.addi v44 v52
  let c0_i32_24 : BitVec 32 := 0#32
  let v55 : BitVec 1 := Scalar.cmpi .sgt v54 c0_i32_24
  let v61 : BitVec 32 := Scalar.extui v55
  let v62 : BitVec 32 := Scalar.addi v53 v61
  let c0_i32_28 : BitVec 32 := 0#32
  let v64 : BitVec 1 := Scalar.cmpi .sgt v63 c0_i32_28
  let v70 : BitVec 32 := Scalar.extui v64
  let v71 : BitVec 32 := Scalar.addi v62 v70
  let v1002 : BitVec 32 := Scalar.subi v71 c0_i32_441
  let c1_i32_443 : BitVec 32 := 1#32
  let v1004 : BitVec 32 := Scalar.divsi v1002 c1_i32_443
  let v1005 : BitVec 32 := Scalar.muli v1004 c1_i32_443
  let v1006 : BitVec 32 := Scalar.addi c0_i32_441 v1005
  let c1_i32_445 : BitVec 32 := 1#32
  let arg13 : BitVec 32 := Scf.iv v1006 c1_i32_445 k0_t2
  let c4_i32_667 : BitVec 32 := 4#32
  let v2149 : BitVec 32 := Scalar.addi arg13 c4_i32_667
  let c4_i32_668 : BitVec 32 := 4#32
  let v2150 : BitVec 32 := Scalar.remsi v2149 c4_i32_668
  let c5_i32_670 : BitVec 32 := 5#32
  ![v2150.toNat, 5]
def k0_off299 (v0 : BitVec 32) (v9 : BitVec 32) (v18 : BitVec 32) (v27 : BitVec 32) (v36 : BitVec 32) (v45 : BitVec 32) (v54 : BitVec 32) (v63 : BitVec 32) (k0_t2 : Fin (k0_t2_loop v0 v9 v18 v27 v36 v45 v54 v63).trips) : Fin 4 → Nat :=
  let c0_i32_441 : BitVec 32 := 0#32
  let c0_i32_3 : BitVec 32 := 0#32
  let c0_i32 : BitVec 32 := 0#32
  let v1 : BitVec 1 := Scalar.cmpi .sgt v0 c0_i32
  let v7 : BitVec 32 := Scalar.extui v1
  let v8 : BitVec 32 := Scalar.addi c0_i32_3 v7
  let c0_i32_4 : BitVec 32 := 0#32
  let v10 : BitVec 1 := Scalar.cmpi .sgt v9 c0_i32_4
  let v16 : BitVec 32 := Scalar.extui v10
  let v17 : BitVec 32 := Scalar.addi v8 v16
  let c0_i32_8 : BitVec 32 := 0#32
  let v19 : BitVec 1 := Scalar.cmpi .sgt v18 c0_i32_8
  let v25 : BitVec 32 := Scalar.extui v19
  let v26 : BitVec 32 := Scalar.addi v17 v25
  let c0_i32_12 : BitVec 32 := 0#32
  let v28 : BitVec 1 := Scalar.cmpi .sgt v27 c0_i32_12
  let v34 : BitVec 32 := Scalar.extui v28
  let v35 : BitVec 32 := Scalar.addi v26 v34
  let c0_i32_16 : BitVec 32 := 0#32
  let v37 : BitVec 1 := Scalar.cmpi .sgt v36 c0_i32_16
  let v43 : BitVec 32 := Scalar.extui v37
  let v44 : BitVec 32 := Scalar.addi v35 v43
  let c0_i32_20 : BitVec 32 := 0#32
  let v46 : BitVec 1 := Scalar.cmpi .sgt v45 c0_i32_20
  let v52 : BitVec 32 := Scalar.extui v46
  let v53 : BitVec 32 := Scalar.addi v44 v52
  let c0_i32_24 : BitVec 32 := 0#32
  let v55 : BitVec 1 := Scalar.cmpi .sgt v54 c0_i32_24
  let v61 : BitVec 32 := Scalar.extui v55
  let v62 : BitVec 32 := Scalar.addi v53 v61
  let c0_i32_28 : BitVec 32 := 0#32
  let v64 : BitVec 1 := Scalar.cmpi .sgt v63 c0_i32_28
  let v70 : BitVec 32 := Scalar.extui v64
  let v71 : BitVec 32 := Scalar.addi v62 v70
  let v1002 : BitVec 32 := Scalar.subi v71 c0_i32_441
  let c1_i32_443 : BitVec 32 := 1#32
  let v1004 : BitVec 32 := Scalar.divsi v1002 c1_i32_443
  let v1005 : BitVec 32 := Scalar.muli v1004 c1_i32_443
  let v1006 : BitVec 32 := Scalar.addi c0_i32_441 v1005
  let c1_i32_445 : BitVec 32 := 1#32
  let arg13 : BitVec 32 := Scf.iv v1006 c1_i32_445 k0_t2
  let c4_i32_667 : BitVec 32 := 4#32
  let v2149 : BitVec 32 := Scalar.addi arg13 c4_i32_667
  let c4_i32_668 : BitVec 32 := 4#32
  let v2150 : BitVec 32 := Scalar.remsi v2149 c4_i32_668
  let c5_i32_669 : BitVec 32 := 5#32
  let c0_i32_671 : BitVec 32 := 0#32
  let c0_i32_672 : BitVec 32 := 0#32
  ![v2150.toNat, 5, 0, 0]
def k0_off300 (v2152 : BitVec 32) : Fin 3 → Nat :=
  let c2560_i32_673 : BitVec 32 := 2560#32
  let c0_i32_674 : BitVec 32 := 0#32
  ![v2152.toNat, 2560, 0]

def k0_chk63 (v0 : BitVec 32) (v9 : BitVec 32) (v18 : BitVec 32) (v27 : BitVec 32) (v36 : BitVec 32) (v45 : BitVec 32) (v54 : BitVec 32) (v63 : BitVec 32) (k0_t2 : Fin (k0_t2_loop v0 v9 v18 v27 v36 v45 v54 v63).trips) (v2152 : BitVec 32) : Prop :=
  (∀ (k0_h33 : k0_cond33 v0 v9 v18 v27 v36 v45 v54 v63 k0_t2 = 1#1), ∀ a, (k0_off300 v2152) a + S1x512x2048.size a ≤ S8x3584x2048.size a) ∧
  (∀ (k0_h33 : k0_cond33 v0 v9 v18 v27 v36 v45 v54 v63 k0_t2 = 1#1), ∀ (hinb : ∀ a, (k0_off300 v2152) a + S1x512x2048.size a ≤ S8x3584x2048.size a), (Rect.unit (s := S8x3584x2048) (k0_off300 v2152) S1x512x2048.size hinb).WholeWords (EltTy.packing .fp8e4m3))
theorem k0_off300_inb : ∀ (v0 : BitVec 32) (v9 : BitVec 32) (v18 : BitVec 32) (v27 : BitVec 32) (v36 : BitVec 32) (v45 : BitVec 32) (v54 : BitVec 32) (v63 : BitVec 32) (k0_t2 : Fin (k0_t2_loop v0 v9 v18 v27 v36 v45 v54 v63).trips) (v2152 : BitVec 32) (k0_hw63 : k0_chk63 v0 v9 v18 v27 v36 v45 v54 v63 k0_t2 v2152), ∀ (k0_h33 : k0_cond33 v0 v9 v18 v27 v36 v45 v54 v63 k0_t2 = 1#1), ∀ a, (k0_off300 v2152) a + S1x512x2048.size a ≤ S8x3584x2048.size a := fun v0 v9 v18 v27 v36 v45 v54 v63 k0_t2 v2152 k0_hw63 k0_h33 => k0_hw63.1 k0_h33
theorem k0_off300_wordsfp8e4m3 : ∀ (v0 : BitVec 32) (v9 : BitVec 32) (v18 : BitVec 32) (v27 : BitVec 32) (v36 : BitVec 32) (v45 : BitVec 32) (v54 : BitVec 32) (v63 : BitVec 32) (k0_t2 : Fin (k0_t2_loop v0 v9 v18 v27 v36 v45 v54 v63).trips) (v2152 : BitVec 32) (k0_hw63 : k0_chk63 v0 v9 v18 v27 v36 v45 v54 v63 k0_t2 v2152), ∀ (k0_h33 : k0_cond33 v0 v9 v18 v27 v36 v45 v54 v63 k0_t2 = 1#1), (Rect.unit (s := S8x3584x2048) (k0_off300 v2152) S1x512x2048.size (k0_off300_inb v0 v9 v18 v27 v36 v45 v54 v63 k0_t2 v2152 k0_hw63 k0_h33)).WholeWords (EltTy.packing .fp8e4m3) := fun v0 v9 v18 v27 v36 v45 v54 v63 k0_t2 v2152 k0_hw63 k0_h33 => k0_hw63.2 k0_h33 (k0_off300_inb v0 v9 v18 v27 v36 v45 v54 v63 k0_t2 v2152 k0_hw63 k0_h33)

def k0_off301 (v0 : BitVec 32) (v9 : BitVec 32) (v18 : BitVec 32) (v27 : BitVec 32) (v36 : BitVec 32) (v45 : BitVec 32) (v54 : BitVec 32) (v63 : BitVec 32) (k0_t2 : Fin (k0_t2_loop v0 v9 v18 v27 v36 v45 v54 v63).trips) : Fin 1 → Nat :=
  let c0_i32_441 : BitVec 32 := 0#32
  let c0_i32_3 : BitVec 32 := 0#32
  let c0_i32 : BitVec 32 := 0#32
  let v1 : BitVec 1 := Scalar.cmpi .sgt v0 c0_i32
  let v7 : BitVec 32 := Scalar.extui v1
  let v8 : BitVec 32 := Scalar.addi c0_i32_3 v7
  let c0_i32_4 : BitVec 32 := 0#32
  let v10 : BitVec 1 := Scalar.cmpi .sgt v9 c0_i32_4
  let v16 : BitVec 32 := Scalar.extui v10
  let v17 : BitVec 32 := Scalar.addi v8 v16
  let c0_i32_8 : BitVec 32 := 0#32
  let v19 : BitVec 1 := Scalar.cmpi .sgt v18 c0_i32_8
  let v25 : BitVec 32 := Scalar.extui v19
  let v26 : BitVec 32 := Scalar.addi v17 v25
  let c0_i32_12 : BitVec 32 := 0#32
  let v28 : BitVec 1 := Scalar.cmpi .sgt v27 c0_i32_12
  let v34 : BitVec 32 := Scalar.extui v28
  let v35 : BitVec 32 := Scalar.addi v26 v34
  let c0_i32_16 : BitVec 32 := 0#32
  let v37 : BitVec 1 := Scalar.cmpi .sgt v36 c0_i32_16
  let v43 : BitVec 32 := Scalar.extui v37
  let v44 : BitVec 32 := Scalar.addi v35 v43
  let c0_i32_20 : BitVec 32 := 0#32
  let v46 : BitVec 1 := Scalar.cmpi .sgt v45 c0_i32_20
  let v52 : BitVec 32 := Scalar.extui v46
  let v53 : BitVec 32 := Scalar.addi v44 v52
  let c0_i32_24 : BitVec 32 := 0#32
  let v55 : BitVec 1 := Scalar.cmpi .sgt v54 c0_i32_24
  let v61 : BitVec 32 := Scalar.extui v55
  let v62 : BitVec 32 := Scalar.addi v53 v61
  let c0_i32_28 : BitVec 32 := 0#32
  let v64 : BitVec 1 := Scalar.cmpi .sgt v63 c0_i32_28
  let v70 : BitVec 32 := Scalar.extui v64
  let v71 : BitVec 32 := Scalar.addi v62 v70
  let v1002 : BitVec 32 := Scalar.subi v71 c0_i32_441
  let c1_i32_443 : BitVec 32 := 1#32
  let v1004 : BitVec 32 := Scalar.divsi v1002 c1_i32_443
  let v1005 : BitVec 32 := Scalar.muli v1004 c1_i32_443
  let v1006 : BitVec 32 := Scalar.addi c0_i32_441 v1005
  let c1_i32_445 : BitVec 32 := 1#32
  let arg13 : BitVec 32 := Scf.iv v1006 c1_i32_445 k0_t2
  let v2008 : Index := Scalar.indexCast arg13
  ![v2008.toNat]
def k0_off302 (v0 : BitVec 32) (v9 : BitVec 32) (v18 : BitVec 32) (v27 : BitVec 32) (v36 : BitVec 32) (v45 : BitVec 32) (v54 : BitVec 32) (v63 : BitVec 32) (k0_t2 : Fin (k0_t2_loop v0 v9 v18 v27 v36 v45 v54 v63).trips) : Fin 2 → Nat :=
  let c0_i32_441 : BitVec 32 := 0#32
  let c0_i32_3 : BitVec 32 := 0#32
  let c0_i32 : BitVec 32 := 0#32
  let v1 : BitVec 1 := Scalar.cmpi .sgt v0 c0_i32
  let v7 : BitVec 32 := Scalar.extui v1
  let v8 : BitVec 32 := Scalar.addi c0_i32_3 v7
  let c0_i32_4 : BitVec 32 := 0#32
  let v10 : BitVec 1 := Scalar.cmpi .sgt v9 c0_i32_4
  let v16 : BitVec 32 := Scalar.extui v10
  let v17 : BitVec 32 := Scalar.addi v8 v16
  let c0_i32_8 : BitVec 32 := 0#32
  let v19 : BitVec 1 := Scalar.cmpi .sgt v18 c0_i32_8
  let v25 : BitVec 32 := Scalar.extui v19
  let v26 : BitVec 32 := Scalar.addi v17 v25
  let c0_i32_12 : BitVec 32 := 0#32
  let v28 : BitVec 1 := Scalar.cmpi .sgt v27 c0_i32_12
  let v34 : BitVec 32 := Scalar.extui v28
  let v35 : BitVec 32 := Scalar.addi v26 v34
  let c0_i32_16 : BitVec 32 := 0#32
  let v37 : BitVec 1 := Scalar.cmpi .sgt v36 c0_i32_16
  let v43 : BitVec 32 := Scalar.extui v37
  let v44 : BitVec 32 := Scalar.addi v35 v43
  let c0_i32_20 : BitVec 32 := 0#32
  let v46 : BitVec 1 := Scalar.cmpi .sgt v45 c0_i32_20
  let v52 : BitVec 32 := Scalar.extui v46
  let v53 : BitVec 32 := Scalar.addi v44 v52
  let c0_i32_24 : BitVec 32 := 0#32
  let v55 : BitVec 1 := Scalar.cmpi .sgt v54 c0_i32_24
  let v61 : BitVec 32 := Scalar.extui v55
  let v62 : BitVec 32 := Scalar.addi v53 v61
  let c0_i32_28 : BitVec 32 := 0#32
  let v64 : BitVec 1 := Scalar.cmpi .sgt v63 c0_i32_28
  let v70 : BitVec 32 := Scalar.extui v64
  let v71 : BitVec 32 := Scalar.addi v62 v70
  let v1002 : BitVec 32 := Scalar.subi v71 c0_i32_441
  let c1_i32_443 : BitVec 32 := 1#32
  let v1004 : BitVec 32 := Scalar.divsi v1002 c1_i32_443
  let v1005 : BitVec 32 := Scalar.muli v1004 c1_i32_443
  let v1006 : BitVec 32 := Scalar.addi c0_i32_441 v1005
  let c1_i32_445 : BitVec 32 := 1#32
  let arg13 : BitVec 32 := Scf.iv v1006 c1_i32_445 k0_t2
  let c4_i32_644 : BitVec 32 := 4#32
  let v2007 : BitVec 32 := Scalar.remsi arg13 c4_i32_644
  let c6_i32_646 : BitVec 32 := 6#32
  ![v2007.toNat, 6]
def k0_off303 (v0 : BitVec 32) (v9 : BitVec 32) (v18 : BitVec 32) (v27 : BitVec 32) (v36 : BitVec 32) (v45 : BitVec 32) (v54 : BitVec 32) (v63 : BitVec 32) (k0_t2 : Fin (k0_t2_loop v0 v9 v18 v27 v36 v45 v54 v63).trips) : Fin 4 → Nat :=
  let c0_i32_441 : BitVec 32 := 0#32
  let c0_i32_3 : BitVec 32 := 0#32
  let c0_i32 : BitVec 32 := 0#32
  let v1 : BitVec 1 := Scalar.cmpi .sgt v0 c0_i32
  let v7 : BitVec 32 := Scalar.extui v1
  let v8 : BitVec 32 := Scalar.addi c0_i32_3 v7
  let c0_i32_4 : BitVec 32 := 0#32
  let v10 : BitVec 1 := Scalar.cmpi .sgt v9 c0_i32_4
  let v16 : BitVec 32 := Scalar.extui v10
  let v17 : BitVec 32 := Scalar.addi v8 v16
  let c0_i32_8 : BitVec 32 := 0#32
  let v19 : BitVec 1 := Scalar.cmpi .sgt v18 c0_i32_8
  let v25 : BitVec 32 := Scalar.extui v19
  let v26 : BitVec 32 := Scalar.addi v17 v25
  let c0_i32_12 : BitVec 32 := 0#32
  let v28 : BitVec 1 := Scalar.cmpi .sgt v27 c0_i32_12
  let v34 : BitVec 32 := Scalar.extui v28
  let v35 : BitVec 32 := Scalar.addi v26 v34
  let c0_i32_16 : BitVec 32 := 0#32
  let v37 : BitVec 1 := Scalar.cmpi .sgt v36 c0_i32_16
  let v43 : BitVec 32 := Scalar.extui v37
  let v44 : BitVec 32 := Scalar.addi v35 v43
  let c0_i32_20 : BitVec 32 := 0#32
  let v46 : BitVec 1 := Scalar.cmpi .sgt v45 c0_i32_20
  let v52 : BitVec 32 := Scalar.extui v46
  let v53 : BitVec 32 := Scalar.addi v44 v52
  let c0_i32_24 : BitVec 32 := 0#32
  let v55 : BitVec 1 := Scalar.cmpi .sgt v54 c0_i32_24
  let v61 : BitVec 32 := Scalar.extui v55
  let v62 : BitVec 32 := Scalar.addi v53 v61
  let c0_i32_28 : BitVec 32 := 0#32
  let v64 : BitVec 1 := Scalar.cmpi .sgt v63 c0_i32_28
  let v70 : BitVec 32 := Scalar.extui v64
  let v71 : BitVec 32 := Scalar.addi v62 v70
  let v1002 : BitVec 32 := Scalar.subi v71 c0_i32_441
  let c1_i32_443 : BitVec 32 := 1#32
  let v1004 : BitVec 32 := Scalar.divsi v1002 c1_i32_443
  let v1005 : BitVec 32 := Scalar.muli v1004 c1_i32_443
  let v1006 : BitVec 32 := Scalar.addi c0_i32_441 v1005
  let c1_i32_445 : BitVec 32 := 1#32
  let arg13 : BitVec 32 := Scf.iv v1006 c1_i32_445 k0_t2
  let c4_i32_644 : BitVec 32 := 4#32
  let v2007 : BitVec 32 := Scalar.remsi arg13 c4_i32_644
  let c6_i32_645 : BitVec 32 := 6#32
  let c0_i32_647 : BitVec 32 := 0#32
  let c0_i32_648 : BitVec 32 := 0#32
  ![v2007.toNat, 6, 0, 0]
def k0_off304 (v2009 : BitVec 32) : Fin 3 → Nat :=
  let c3072_i32 : BitVec 32 := 3072#32
  let c0_i32_649 : BitVec 32 := 0#32
  ![v2009.toNat, 3072, 0]

def k0_chk64 (v2009 : BitVec 32) : Prop :=
  (∀ a, (k0_off304 v2009) a + S1x512x2048.size a ≤ S8x3584x2048.size a) ∧
  (∀ (hinb : ∀ a, (k0_off304 v2009) a + S1x512x2048.size a ≤ S8x3584x2048.size a), (Rect.unit (s := S8x3584x2048) (k0_off304 v2009) S1x512x2048.size hinb).WholeWords (EltTy.packing .fp8e4m3))
theorem k0_off304_inb : ∀ (v2009 : BitVec 32) (k0_hw64 : k0_chk64 v2009), ∀ a, (k0_off304 v2009) a + S1x512x2048.size a ≤ S8x3584x2048.size a := fun v2009 k0_hw64 => k0_hw64.1
theorem k0_off304_wordsfp8e4m3 : ∀ (v2009 : BitVec 32) (k0_hw64 : k0_chk64 v2009), (Rect.unit (s := S8x3584x2048) (k0_off304 v2009) S1x512x2048.size (k0_off304_inb v2009 k0_hw64)).WholeWords (EltTy.packing .fp8e4m3) := fun v2009 k0_hw64 => k0_hw64.2 (k0_off304_inb v2009 k0_hw64)

def k0_off305 (v0 : BitVec 32) (v9 : BitVec 32) (v18 : BitVec 32) (v27 : BitVec 32) (v36 : BitVec 32) (v45 : BitVec 32) (v54 : BitVec 32) (v63 : BitVec 32) (k0_t2 : Fin (k0_t2_loop v0 v9 v18 v27 v36 v45 v54 v63).trips) : Fin 4 → Nat :=
  let c0_i32_441 : BitVec 32 := 0#32
  let c0_i32_3 : BitVec 32 := 0#32
  let c0_i32 : BitVec 32 := 0#32
  let v1 : BitVec 1 := Scalar.cmpi .sgt v0 c0_i32
  let v7 : BitVec 32 := Scalar.extui v1
  let v8 : BitVec 32 := Scalar.addi c0_i32_3 v7
  let c0_i32_4 : BitVec 32 := 0#32
  let v10 : BitVec 1 := Scalar.cmpi .sgt v9 c0_i32_4
  let v16 : BitVec 32 := Scalar.extui v10
  let v17 : BitVec 32 := Scalar.addi v8 v16
  let c0_i32_8 : BitVec 32 := 0#32
  let v19 : BitVec 1 := Scalar.cmpi .sgt v18 c0_i32_8
  let v25 : BitVec 32 := Scalar.extui v19
  let v26 : BitVec 32 := Scalar.addi v17 v25
  let c0_i32_12 : BitVec 32 := 0#32
  let v28 : BitVec 1 := Scalar.cmpi .sgt v27 c0_i32_12
  let v34 : BitVec 32 := Scalar.extui v28
  let v35 : BitVec 32 := Scalar.addi v26 v34
  let c0_i32_16 : BitVec 32 := 0#32
  let v37 : BitVec 1 := Scalar.cmpi .sgt v36 c0_i32_16
  let v43 : BitVec 32 := Scalar.extui v37
  let v44 : BitVec 32 := Scalar.addi v35 v43
  let c0_i32_20 : BitVec 32 := 0#32
  let v46 : BitVec 1 := Scalar.cmpi .sgt v45 c0_i32_20
  let v52 : BitVec 32 := Scalar.extui v46
  let v53 : BitVec 32 := Scalar.addi v44 v52
  let c0_i32_24 : BitVec 32 := 0#32
  let v55 : BitVec 1 := Scalar.cmpi .sgt v54 c0_i32_24
  let v61 : BitVec 32 := Scalar.extui v55
  let v62 : BitVec 32 := Scalar.addi v53 v61
  let c0_i32_28 : BitVec 32 := 0#32
  let v64 : BitVec 1 := Scalar.cmpi .sgt v63 c0_i32_28
  let v70 : BitVec 32 := Scalar.extui v64
  let v71 : BitVec 32 := Scalar.addi v62 v70
  let v1002 : BitVec 32 := Scalar.subi v71 c0_i32_441
  let c1_i32_443 : BitVec 32 := 1#32
  let v1004 : BitVec 32 := Scalar.divsi v1002 c1_i32_443
  let v1005 : BitVec 32 := Scalar.muli v1004 c1_i32_443
  let v1006 : BitVec 32 := Scalar.addi c0_i32_441 v1005
  let c1_i32_445 : BitVec 32 := 1#32
  let arg13 : BitVec 32 := Scf.iv v1006 c1_i32_445 k0_t2
  let c4_i32_446 : BitVec 32 := 4#32
  let v1011 : BitVec 32 := Scalar.remsi arg13 c4_i32_446
  let v2016 : Index := Scalar.indexCast v1011
  let c6_650 : Index := 6#32
  let c0_651 : Index := 0#32
  let c0_652 : Index := 0#32
  ![v2016.toNat, 6, 0, 0]
def k0_off306 (v1010 : BitVec 32) : Fin 3 → Nat :=
  let v2048 : Index := Scalar.indexCast v1010
  let c0_657 : Index := 0#32
  let c3072 : Index := 3072#32
  ![v2048.toNat, 0, 3072]
def k0_off307 (v1010 : BitVec 32) : Fin 3 → Nat :=
  let v2079 : Index := Scalar.indexCast v1010
  let c0_659 : Index := 0#32
  let c3200 : Index := 3200#32
  ![v2079.toNat, 0, 3200]
def k0_off308 (v1010 : BitVec 32) : Fin 3 → Nat :=
  let v2110 : Index := Scalar.indexCast v1010
  let c0_661 : Index := 0#32
  let c3328 : Index := 3328#32
  ![v2110.toNat, 0, 3328]
def k0_off309 (v1010 : BitVec 32) : Fin 3 → Nat :=
  let v2141 : Index := Scalar.indexCast v1010
  let c0_663 : Index := 0#32
  let c3456 : Index := 3456#32
  ![v2141.toNat, 0, 3456]

def k0_chk51_0 (v1010 : BitVec 32) : Prop :=
  (∀ a, (k0_off204 v1010) a + S1x16x128.size a ≤ S8x16x2048.size a) ∧
  (∀ a, (k0_off205 v1010) a + S1x16x128.size a ≤ S8x16x2048.size a) ∧
  (∀ a, (k0_off206 v1010) a + S1x16x128.size a ≤ S8x16x2048.size a) ∧
  (∀ a, (k0_off207 v1010) a + S1x16x128.size a ≤ S8x16x2048.size a) ∧
  (∀ a, (k0_off208 v1010) a + S1x16x128.size a ≤ S8x16x2048.size a) ∧
  (∀ a, (k0_off209 v1010) a + S1x16x128.size a ≤ S8x16x2048.size a) ∧
  (∀ a, (k0_off210 v1010) a + S1x16x128.size a ≤ S8x16x2048.size a) ∧
  (∀ a, (k0_off211 v1010) a + S1x16x128.size a ≤ S8x16x2048.size a) ∧
  (∀ a, (k0_off212 v1010) a + S1x16x128.size a ≤ S8x16x2048.size a) ∧
  (∀ a, (k0_off213 v1010) a + S1x16x128.size a ≤ S8x16x2048.size a) ∧
  (∀ a, (k0_off214 v1010) a + S1x16x128.size a ≤ S8x16x2048.size a) ∧
  (∀ a, (k0_off215 v1010) a + S1x16x128.size a ≤ S8x16x2048.size a) ∧
  (∀ a, (k0_off216 v1010) a + S1x16x128.size a ≤ S8x16x2048.size a) ∧
  (∀ a, (k0_off217 v1010) a + S1x16x128.size a ≤ S8x16x2048.size a) ∧
  (∀ a, (k0_off218 v1010) a + S1x16x128.size a ≤ S8x16x2048.size a) ∧
  (∀ a, (k0_off219 v1010) a + S1x16x128.size a ≤ S8x16x2048.size a) ∧
  (∀ a, (k0_off220 v1010) a + S1x28x16.size a ≤ S8x28x16.size a) ∧
  (∀ a, (k0_off221 v1010) a + S1x256.size a ≤ S8x256.size a) ∧
  (∀ a, (k0_off222 v1010) a + S1.size a ≤ S8.size a) ∧
  (∀ a, (k0_off228 v1010) a + S1x10x128.size a ≤ S8x10x3584.size a) ∧
  (∀ (hinb : ∀ a, (k0_off228 v1010) a + S1x10x128.size a ≤ S8x10x3584.size a), (Rect.unit (s := S8x10x3584) (k0_off228 v1010) S1x10x128.size hinb).PackedRows (EltTy.packing .bf16)) ∧
  (∀ a, (k0_off229 v1010) a + S1x10x128.size a ≤ S8x10x3584.size a) ∧
  (∀ (hinb : ∀ a, (k0_off229 v1010) a + S1x10x128.size a ≤ S8x10x3584.size a), (Rect.unit (s := S8x10x3584) (k0_off229 v1010) S1x10x128.size hinb).PackedRows (EltTy.packing .bf16)) ∧
  (∀ a, (k0_off230 v1010) a + S1x10x128.size a ≤ S8x10x3584.size a) ∧
  (∀ (hinb : ∀ a, (k0_off230 v1010) a + S1x10x128.size a ≤ S8x10x3584.size a), (Rect.unit (s := S8x10x3584) (k0_off230 v1010) S1x10x128.size hinb).PackedRows (EltTy.packing .bf16)) ∧
  (∀ a, (k0_off231 v1010) a + S1x10x128.size a ≤ S8x10x3584.size a) ∧
  (∀ (hinb : ∀ a, (k0_off231 v1010) a + S1x10x128.size a ≤ S8x10x3584.size a), (Rect.unit (s := S8x10x3584) (k0_off231 v1010) S1x10x128.size hinb).PackedRows (EltTy.packing .bf16)) ∧
  (∀ a, (k0_off241 v1010) a + S1x10x128.size a ≤ S8x10x3584.size a) ∧
  (∀ (hinb : ∀ a, (k0_off241 v1010) a + S1x10x128.size a ≤ S8x10x3584.size a), (Rect.unit (s := S8x10x3584) (k0_off241 v1010) S1x10x128.size hinb).PackedRows (EltTy.packing .bf16)) ∧
  (∀ a, (k0_off242 v1010) a + S1x10x128.size a ≤ S8x10x3584.size a) ∧
  (∀ (hinb : ∀ a, (k0_off242 v1010) a + S1x10x128.size a ≤ S8x10x3584.size a), (Rect.unit (s := S8x10x3584) (k0_off242 v1010) S1x10x128.size hinb).PackedRows (EltTy.packing .bf16)) ∧
  (∀ a, (k0_off243 v1010) a + S1x10x128.size a ≤ S8x10x3584.size a)
def k0_chk51_1 (v1010 : BitVec 32) : Prop :=
  (∀ (hinb : ∀ a, (k0_off243 v1010) a + S1x10x128.size a ≤ S8x10x3584.size a), (Rect.unit (s := S8x10x3584) (k0_off243 v1010) S1x10x128.size hinb).PackedRows (EltTy.packing .bf16)) ∧
  (∀ a, (k0_off244 v1010) a + S1x10x128.size a ≤ S8x10x3584.size a) ∧
  (∀ (hinb : ∀ a, (k0_off244 v1010) a + S1x10x128.size a ≤ S8x10x3584.size a), (Rect.unit (s := S8x10x3584) (k0_off244 v1010) S1x10x128.size hinb).PackedRows (EltTy.packing .bf16)) ∧
  (∀ a, (k0_off254 v1010) a + S1x10x128.size a ≤ S8x10x3584.size a) ∧
  (∀ (hinb : ∀ a, (k0_off254 v1010) a + S1x10x128.size a ≤ S8x10x3584.size a), (Rect.unit (s := S8x10x3584) (k0_off254 v1010) S1x10x128.size hinb).PackedRows (EltTy.packing .bf16)) ∧
  (∀ a, (k0_off255 v1010) a + S1x10x128.size a ≤ S8x10x3584.size a) ∧
  (∀ (hinb : ∀ a, (k0_off255 v1010) a + S1x10x128.size a ≤ S8x10x3584.size a), (Rect.unit (s := S8x10x3584) (k0_off255 v1010) S1x10x128.size hinb).PackedRows (EltTy.packing .bf16)) ∧
  (∀ a, (k0_off256 v1010) a + S1x10x128.size a ≤ S8x10x3584.size a) ∧
  (∀ (hinb : ∀ a, (k0_off256 v1010) a + S1x10x128.size a ≤ S8x10x3584.size a), (Rect.unit (s := S8x10x3584) (k0_off256 v1010) S1x10x128.size hinb).PackedRows (EltTy.packing .bf16)) ∧
  (∀ a, (k0_off257 v1010) a + S1x10x128.size a ≤ S8x10x3584.size a) ∧
  (∀ (hinb : ∀ a, (k0_off257 v1010) a + S1x10x128.size a ≤ S8x10x3584.size a), (Rect.unit (s := S8x10x3584) (k0_off257 v1010) S1x10x128.size hinb).PackedRows (EltTy.packing .bf16)) ∧
  (∀ a, (k0_off267 v1010) a + S1x10x128.size a ≤ S8x10x3584.size a) ∧
  (∀ (hinb : ∀ a, (k0_off267 v1010) a + S1x10x128.size a ≤ S8x10x3584.size a), (Rect.unit (s := S8x10x3584) (k0_off267 v1010) S1x10x128.size hinb).PackedRows (EltTy.packing .bf16)) ∧
  (∀ a, (k0_off268 v1010) a + S1x10x128.size a ≤ S8x10x3584.size a) ∧
  (∀ (hinb : ∀ a, (k0_off268 v1010) a + S1x10x128.size a ≤ S8x10x3584.size a), (Rect.unit (s := S8x10x3584) (k0_off268 v1010) S1x10x128.size hinb).PackedRows (EltTy.packing .bf16)) ∧
  (∀ a, (k0_off269 v1010) a + S1x10x128.size a ≤ S8x10x3584.size a) ∧
  (∀ (hinb : ∀ a, (k0_off269 v1010) a + S1x10x128.size a ≤ S8x10x3584.size a), (Rect.unit (s := S8x10x3584) (k0_off269 v1010) S1x10x128.size hinb).PackedRows (EltTy.packing .bf16)) ∧
  (∀ a, (k0_off270 v1010) a + S1x10x128.size a ≤ S8x10x3584.size a) ∧
  (∀ (hinb : ∀ a, (k0_off270 v1010) a + S1x10x128.size a ≤ S8x10x3584.size a), (Rect.unit (s := S8x10x3584) (k0_off270 v1010) S1x10x128.size hinb).PackedRows (EltTy.packing .bf16)) ∧
  (∀ a, (k0_off280 v1010) a + S1x10x128.size a ≤ S8x10x3584.size a) ∧
  (∀ (hinb : ∀ a, (k0_off280 v1010) a + S1x10x128.size a ≤ S8x10x3584.size a), (Rect.unit (s := S8x10x3584) (k0_off280 v1010) S1x10x128.size hinb).PackedRows (EltTy.packing .bf16)) ∧
  (∀ a, (k0_off281 v1010) a + S1x10x128.size a ≤ S8x10x3584.size a) ∧
  (∀ (hinb : ∀ a, (k0_off281 v1010) a + S1x10x128.size a ≤ S8x10x3584.size a), (Rect.unit (s := S8x10x3584) (k0_off281 v1010) S1x10x128.size hinb).PackedRows (EltTy.packing .bf16)) ∧
  (∀ a, (k0_off282 v1010) a + S1x10x128.size a ≤ S8x10x3584.size a) ∧
  (∀ (hinb : ∀ a, (k0_off282 v1010) a + S1x10x128.size a ≤ S8x10x3584.size a), (Rect.unit (s := S8x10x3584) (k0_off282 v1010) S1x10x128.size hinb).PackedRows (EltTy.packing .bf16)) ∧
  (∀ a, (k0_off283 v1010) a + S1x10x128.size a ≤ S8x10x3584.size a) ∧
  (∀ (hinb : ∀ a, (k0_off283 v1010) a + S1x10x128.size a ≤ S8x10x3584.size a), (Rect.unit (s := S8x10x3584) (k0_off283 v1010) S1x10x128.size hinb).PackedRows (EltTy.packing .bf16)) ∧
  (∀ a, (k0_off293 v1010) a + S1x10x128.size a ≤ S8x10x3584.size a) ∧
  (∀ (hinb : ∀ a, (k0_off293 v1010) a + S1x10x128.size a ≤ S8x10x3584.size a), (Rect.unit (s := S8x10x3584) (k0_off293 v1010) S1x10x128.size hinb).PackedRows (EltTy.packing .bf16)) ∧
  (∀ a, (k0_off294 v1010) a + S1x10x128.size a ≤ S8x10x3584.size a) ∧
  (∀ (hinb : ∀ a, (k0_off294 v1010) a + S1x10x128.size a ≤ S8x10x3584.size a), (Rect.unit (s := S8x10x3584) (k0_off294 v1010) S1x10x128.size hinb).PackedRows (EltTy.packing .bf16)) ∧
  (∀ a, (k0_off295 v1010) a + S1x10x128.size a ≤ S8x10x3584.size a)
def k0_chk51_2 (v1010 : BitVec 32) : Prop :=
  (∀ (hinb : ∀ a, (k0_off295 v1010) a + S1x10x128.size a ≤ S8x10x3584.size a), (Rect.unit (s := S8x10x3584) (k0_off295 v1010) S1x10x128.size hinb).PackedRows (EltTy.packing .bf16)) ∧
  (∀ a, (k0_off296 v1010) a + S1x10x128.size a ≤ S8x10x3584.size a) ∧
  (∀ (hinb : ∀ a, (k0_off296 v1010) a + S1x10x128.size a ≤ S8x10x3584.size a), (Rect.unit (s := S8x10x3584) (k0_off296 v1010) S1x10x128.size hinb).PackedRows (EltTy.packing .bf16)) ∧
  (∀ a, (k0_off306 v1010) a + S1x10x128.size a ≤ S8x10x3584.size a) ∧
  (∀ (hinb : ∀ a, (k0_off306 v1010) a + S1x10x128.size a ≤ S8x10x3584.size a), (Rect.unit (s := S8x10x3584) (k0_off306 v1010) S1x10x128.size hinb).PackedRows (EltTy.packing .bf16)) ∧
  (∀ a, (k0_off307 v1010) a + S1x10x128.size a ≤ S8x10x3584.size a) ∧
  (∀ (hinb : ∀ a, (k0_off307 v1010) a + S1x10x128.size a ≤ S8x10x3584.size a), (Rect.unit (s := S8x10x3584) (k0_off307 v1010) S1x10x128.size hinb).PackedRows (EltTy.packing .bf16)) ∧
  (∀ a, (k0_off308 v1010) a + S1x10x128.size a ≤ S8x10x3584.size a) ∧
  (∀ (hinb : ∀ a, (k0_off308 v1010) a + S1x10x128.size a ≤ S8x10x3584.size a), (Rect.unit (s := S8x10x3584) (k0_off308 v1010) S1x10x128.size hinb).PackedRows (EltTy.packing .bf16)) ∧
  (∀ a, (k0_off309 v1010) a + S1x10x128.size a ≤ S8x10x3584.size a) ∧
  (∀ (hinb : ∀ a, (k0_off309 v1010) a + S1x10x128.size a ≤ S8x10x3584.size a), (Rect.unit (s := S8x10x3584) (k0_off309 v1010) S1x10x128.size hinb).PackedRows (EltTy.packing .bf16))
def k0_chk51 (v1010 : BitVec 32) : Prop :=
  k0_chk51_0 v1010 ∧
  k0_chk51_1 v1010 ∧
  k0_chk51_2 v1010
theorem k0_off204_inb : ∀ (v1010 : BitVec 32) (k0_hw51 : k0_chk51 v1010), ∀ a, (k0_off204 v1010) a + S1x16x128.size a ≤ S8x16x2048.size a := fun v1010 k0_hw51 => k0_hw51.1.1
theorem k0_off205_inb : ∀ (v1010 : BitVec 32) (k0_hw51 : k0_chk51 v1010), ∀ a, (k0_off205 v1010) a + S1x16x128.size a ≤ S8x16x2048.size a := fun v1010 k0_hw51 => k0_hw51.1.2.1
theorem k0_off206_inb : ∀ (v1010 : BitVec 32) (k0_hw51 : k0_chk51 v1010), ∀ a, (k0_off206 v1010) a + S1x16x128.size a ≤ S8x16x2048.size a := fun v1010 k0_hw51 => k0_hw51.1.2.2.1
theorem k0_off207_inb : ∀ (v1010 : BitVec 32) (k0_hw51 : k0_chk51 v1010), ∀ a, (k0_off207 v1010) a + S1x16x128.size a ≤ S8x16x2048.size a := fun v1010 k0_hw51 => k0_hw51.1.2.2.2.1
theorem k0_off208_inb : ∀ (v1010 : BitVec 32) (k0_hw51 : k0_chk51 v1010), ∀ a, (k0_off208 v1010) a + S1x16x128.size a ≤ S8x16x2048.size a := fun v1010 k0_hw51 => k0_hw51.1.2.2.2.2.1
theorem k0_off209_inb : ∀ (v1010 : BitVec 32) (k0_hw51 : k0_chk51 v1010), ∀ a, (k0_off209 v1010) a + S1x16x128.size a ≤ S8x16x2048.size a := fun v1010 k0_hw51 => k0_hw51.1.2.2.2.2.2.1
theorem k0_off210_inb : ∀ (v1010 : BitVec 32) (k0_hw51 : k0_chk51 v1010), ∀ a, (k0_off210 v1010) a + S1x16x128.size a ≤ S8x16x2048.size a := fun v1010 k0_hw51 => k0_hw51.1.2.2.2.2.2.2.1
theorem k0_off211_inb : ∀ (v1010 : BitVec 32) (k0_hw51 : k0_chk51 v1010), ∀ a, (k0_off211 v1010) a + S1x16x128.size a ≤ S8x16x2048.size a := fun v1010 k0_hw51 => k0_hw51.1.2.2.2.2.2.2.2.1
theorem k0_off212_inb : ∀ (v1010 : BitVec 32) (k0_hw51 : k0_chk51 v1010), ∀ a, (k0_off212 v1010) a + S1x16x128.size a ≤ S8x16x2048.size a := fun v1010 k0_hw51 => k0_hw51.1.2.2.2.2.2.2.2.2.1
theorem k0_off213_inb : ∀ (v1010 : BitVec 32) (k0_hw51 : k0_chk51 v1010), ∀ a, (k0_off213 v1010) a + S1x16x128.size a ≤ S8x16x2048.size a := fun v1010 k0_hw51 => k0_hw51.1.2.2.2.2.2.2.2.2.2.1
theorem k0_off214_inb : ∀ (v1010 : BitVec 32) (k0_hw51 : k0_chk51 v1010), ∀ a, (k0_off214 v1010) a + S1x16x128.size a ≤ S8x16x2048.size a := fun v1010 k0_hw51 => k0_hw51.1.2.2.2.2.2.2.2.2.2.2.1
theorem k0_off215_inb : ∀ (v1010 : BitVec 32) (k0_hw51 : k0_chk51 v1010), ∀ a, (k0_off215 v1010) a + S1x16x128.size a ≤ S8x16x2048.size a := fun v1010 k0_hw51 => k0_hw51.1.2.2.2.2.2.2.2.2.2.2.2.1
theorem k0_off216_inb : ∀ (v1010 : BitVec 32) (k0_hw51 : k0_chk51 v1010), ∀ a, (k0_off216 v1010) a + S1x16x128.size a ≤ S8x16x2048.size a := fun v1010 k0_hw51 => k0_hw51.1.2.2.2.2.2.2.2.2.2.2.2.2.1
theorem k0_off217_inb : ∀ (v1010 : BitVec 32) (k0_hw51 : k0_chk51 v1010), ∀ a, (k0_off217 v1010) a + S1x16x128.size a ≤ S8x16x2048.size a := fun v1010 k0_hw51 => k0_hw51.1.2.2.2.2.2.2.2.2.2.2.2.2.2.1
theorem k0_off218_inb : ∀ (v1010 : BitVec 32) (k0_hw51 : k0_chk51 v1010), ∀ a, (k0_off218 v1010) a + S1x16x128.size a ≤ S8x16x2048.size a := fun v1010 k0_hw51 => k0_hw51.1.2.2.2.2.2.2.2.2.2.2.2.2.2.2.1
theorem k0_off219_inb : ∀ (v1010 : BitVec 32) (k0_hw51 : k0_chk51 v1010), ∀ a, (k0_off219 v1010) a + S1x16x128.size a ≤ S8x16x2048.size a := fun v1010 k0_hw51 => k0_hw51.1.2.2.2.2.2.2.2.2.2.2.2.2.2.2.2.1
theorem k0_off220_inb : ∀ (v1010 : BitVec 32) (k0_hw51 : k0_chk51 v1010), ∀ a, (k0_off220 v1010) a + S1x28x16.size a ≤ S8x28x16.size a := fun v1010 k0_hw51 => k0_hw51.1.2.2.2.2.2.2.2.2.2.2.2.2.2.2.2.2.1
theorem k0_off221_inb : ∀ (v1010 : BitVec 32) (k0_hw51 : k0_chk51 v1010), ∀ a, (k0_off221 v1010) a + S1x256.size a ≤ S8x256.size a := fun v1010 k0_hw51 => k0_hw51.1.2.2.2.2.2.2.2.2.2.2.2.2.2.2.2.2.2.1
theorem k0_off222_inb : ∀ (v1010 : BitVec 32) (k0_hw51 : k0_chk51 v1010), ∀ a, (k0_off222 v1010) a + S1.size a ≤ S8.size a := fun v1010 k0_hw51 => k0_hw51.1.2.2.2.2.2.2.2.2.2.2.2.2.2.2.2.2.2.2.1
theorem k0_off228_inb : ∀ (v1010 : BitVec 32) (k0_hw51 : k0_chk51 v1010), ∀ a, (k0_off228 v1010) a + S1x10x128.size a ≤ S8x10x3584.size a := fun v1010 k0_hw51 => k0_hw51.1.2.2.2.2.2.2.2.2.2.2.2.2.2.2.2.2.2.2.2.1
theorem k0_off228_packedbf16 : ∀ (v1010 : BitVec 32) (k0_hw51 : k0_chk51 v1010), (Rect.unit (s := S8x10x3584) (k0_off228 v1010) S1x10x128.size (k0_off228_inb v1010 k0_hw51)).PackedRows (EltTy.packing .bf16) := fun v1010 k0_hw51 => k0_hw51.1.2.2.2.2.2.2.2.2.2.2.2.2.2.2.2.2.2.2.2.2.1 (k0_off228_inb v1010 k0_hw51)
theorem k0_off229_inb : ∀ (v1010 : BitVec 32) (k0_hw51 : k0_chk51 v1010), ∀ a, (k0_off229 v1010) a + S1x10x128.size a ≤ S8x10x3584.size a := fun v1010 k0_hw51 => k0_hw51.1.2.2.2.2.2.2.2.2.2.2.2.2.2.2.2.2.2.2.2.2.2.1
theorem k0_off229_packedbf16 : ∀ (v1010 : BitVec 32) (k0_hw51 : k0_chk51 v1010), (Rect.unit (s := S8x10x3584) (k0_off229 v1010) S1x10x128.size (k0_off229_inb v1010 k0_hw51)).PackedRows (EltTy.packing .bf16) := fun v1010 k0_hw51 => k0_hw51.1.2.2.2.2.2.2.2.2.2.2.2.2.2.2.2.2.2.2.2.2.2.2.1 (k0_off229_inb v1010 k0_hw51)
theorem k0_off230_inb : ∀ (v1010 : BitVec 32) (k0_hw51 : k0_chk51 v1010), ∀ a, (k0_off230 v1010) a + S1x10x128.size a ≤ S8x10x3584.size a := fun v1010 k0_hw51 => k0_hw51.1.2.2.2.2.2.2.2.2.2.2.2.2.2.2.2.2.2.2.2.2.2.2.2.1
theorem k0_off230_packedbf16 : ∀ (v1010 : BitVec 32) (k0_hw51 : k0_chk51 v1010), (Rect.unit (s := S8x10x3584) (k0_off230 v1010) S1x10x128.size (k0_off230_inb v1010 k0_hw51)).PackedRows (EltTy.packing .bf16) := fun v1010 k0_hw51 => k0_hw51.1.2.2.2.2.2.2.2.2.2.2.2.2.2.2.2.2.2.2.2.2.2.2.2.2.1 (k0_off230_inb v1010 k0_hw51)
theorem k0_off231_inb : ∀ (v1010 : BitVec 32) (k0_hw51 : k0_chk51 v1010), ∀ a, (k0_off231 v1010) a + S1x10x128.size a ≤ S8x10x3584.size a := fun v1010 k0_hw51 => k0_hw51.1.2.2.2.2.2.2.2.2.2.2.2.2.2.2.2.2.2.2.2.2.2.2.2.2.2.1
theorem k0_off231_packedbf16 : ∀ (v1010 : BitVec 32) (k0_hw51 : k0_chk51 v1010), (Rect.unit (s := S8x10x3584) (k0_off231 v1010) S1x10x128.size (k0_off231_inb v1010 k0_hw51)).PackedRows (EltTy.packing .bf16) := fun v1010 k0_hw51 => k0_hw51.1.2.2.2.2.2.2.2.2.2.2.2.2.2.2.2.2.2.2.2.2.2.2.2.2.2.2.1 (k0_off231_inb v1010 k0_hw51)
theorem k0_off241_inb : ∀ (v1010 : BitVec 32) (k0_hw51 : k0_chk51 v1010), ∀ a, (k0_off241 v1010) a + S1x10x128.size a ≤ S8x10x3584.size a := fun v1010 k0_hw51 => k0_hw51.1.2.2.2.2.2.2.2.2.2.2.2.2.2.2.2.2.2.2.2.2.2.2.2.2.2.2.2.1
theorem k0_off241_packedbf16 : ∀ (v1010 : BitVec 32) (k0_hw51 : k0_chk51 v1010), (Rect.unit (s := S8x10x3584) (k0_off241 v1010) S1x10x128.size (k0_off241_inb v1010 k0_hw51)).PackedRows (EltTy.packing .bf16) := fun v1010 k0_hw51 => k0_hw51.1.2.2.2.2.2.2.2.2.2.2.2.2.2.2.2.2.2.2.2.2.2.2.2.2.2.2.2.2.1 (k0_off241_inb v1010 k0_hw51)
theorem k0_off242_inb : ∀ (v1010 : BitVec 32) (k0_hw51 : k0_chk51 v1010), ∀ a, (k0_off242 v1010) a + S1x10x128.size a ≤ S8x10x3584.size a := fun v1010 k0_hw51 => k0_hw51.1.2.2.2.2.2.2.2.2.2.2.2.2.2.2.2.2.2.2.2.2.2.2.2.2.2.2.2.2.2.1
theorem k0_off242_packedbf16 : ∀ (v1010 : BitVec 32) (k0_hw51 : k0_chk51 v1010), (Rect.unit (s := S8x10x3584) (k0_off242 v1010) S1x10x128.size (k0_off242_inb v1010 k0_hw51)).PackedRows (EltTy.packing .bf16) := fun v1010 k0_hw51 => k0_hw51.1.2.2.2.2.2.2.2.2.2.2.2.2.2.2.2.2.2.2.2.2.2.2.2.2.2.2.2.2.2.2.1 (k0_off242_inb v1010 k0_hw51)
theorem k0_off243_inb : ∀ (v1010 : BitVec 32) (k0_hw51 : k0_chk51 v1010), ∀ a, (k0_off243 v1010) a + S1x10x128.size a ≤ S8x10x3584.size a := fun v1010 k0_hw51 => k0_hw51.1.2.2.2.2.2.2.2.2.2.2.2.2.2.2.2.2.2.2.2.2.2.2.2.2.2.2.2.2.2.2.2
theorem k0_off243_packedbf16 : ∀ (v1010 : BitVec 32) (k0_hw51 : k0_chk51 v1010), (Rect.unit (s := S8x10x3584) (k0_off243 v1010) S1x10x128.size (k0_off243_inb v1010 k0_hw51)).PackedRows (EltTy.packing .bf16) := fun v1010 k0_hw51 => k0_hw51.2.1.1 (k0_off243_inb v1010 k0_hw51)
theorem k0_off244_inb : ∀ (v1010 : BitVec 32) (k0_hw51 : k0_chk51 v1010), ∀ a, (k0_off244 v1010) a + S1x10x128.size a ≤ S8x10x3584.size a := fun v1010 k0_hw51 => k0_hw51.2.1.2.1
theorem k0_off244_packedbf16 : ∀ (v1010 : BitVec 32) (k0_hw51 : k0_chk51 v1010), (Rect.unit (s := S8x10x3584) (k0_off244 v1010) S1x10x128.size (k0_off244_inb v1010 k0_hw51)).PackedRows (EltTy.packing .bf16) := fun v1010 k0_hw51 => k0_hw51.2.1.2.2.1 (k0_off244_inb v1010 k0_hw51)
theorem k0_off254_inb : ∀ (v1010 : BitVec 32) (k0_hw51 : k0_chk51 v1010), ∀ a, (k0_off254 v1010) a + S1x10x128.size a ≤ S8x10x3584.size a := fun v1010 k0_hw51 => k0_hw51.2.1.2.2.2.1
theorem k0_off254_packedbf16 : ∀ (v1010 : BitVec 32) (k0_hw51 : k0_chk51 v1010), (Rect.unit (s := S8x10x3584) (k0_off254 v1010) S1x10x128.size (k0_off254_inb v1010 k0_hw51)).PackedRows (EltTy.packing .bf16) := fun v1010 k0_hw51 => k0_hw51.2.1.2.2.2.2.1 (k0_off254_inb v1010 k0_hw51)
theorem k0_off255_inb : ∀ (v1010 : BitVec 32) (k0_hw51 : k0_chk51 v1010), ∀ a, (k0_off255 v1010) a + S1x10x128.size a ≤ S8x10x3584.size a := fun v1010 k0_hw51 => k0_hw51.2.1.2.2.2.2.2.1
theorem k0_off255_packedbf16 : ∀ (v1010 : BitVec 32) (k0_hw51 : k0_chk51 v1010), (Rect.unit (s := S8x10x3584) (k0_off255 v1010) S1x10x128.size (k0_off255_inb v1010 k0_hw51)).PackedRows (EltTy.packing .bf16) := fun v1010 k0_hw51 => k0_hw51.2.1.2.2.2.2.2.2.1 (k0_off255_inb v1010 k0_hw51)
theorem k0_off256_inb : ∀ (v1010 : BitVec 32) (k0_hw51 : k0_chk51 v1010), ∀ a, (k0_off256 v1010) a + S1x10x128.size a ≤ S8x10x3584.size a := fun v1010 k0_hw51 => k0_hw51.2.1.2.2.2.2.2.2.2.1
theorem k0_off256_packedbf16 : ∀ (v1010 : BitVec 32) (k0_hw51 : k0_chk51 v1010), (Rect.unit (s := S8x10x3584) (k0_off256 v1010) S1x10x128.size (k0_off256_inb v1010 k0_hw51)).PackedRows (EltTy.packing .bf16) := fun v1010 k0_hw51 => k0_hw51.2.1.2.2.2.2.2.2.2.2.1 (k0_off256_inb v1010 k0_hw51)
theorem k0_off257_inb : ∀ (v1010 : BitVec 32) (k0_hw51 : k0_chk51 v1010), ∀ a, (k0_off257 v1010) a + S1x10x128.size a ≤ S8x10x3584.size a := fun v1010 k0_hw51 => k0_hw51.2.1.2.2.2.2.2.2.2.2.2.1
theorem k0_off257_packedbf16 : ∀ (v1010 : BitVec 32) (k0_hw51 : k0_chk51 v1010), (Rect.unit (s := S8x10x3584) (k0_off257 v1010) S1x10x128.size (k0_off257_inb v1010 k0_hw51)).PackedRows (EltTy.packing .bf16) := fun v1010 k0_hw51 => k0_hw51.2.1.2.2.2.2.2.2.2.2.2.2.1 (k0_off257_inb v1010 k0_hw51)
theorem k0_off267_inb : ∀ (v1010 : BitVec 32) (k0_hw51 : k0_chk51 v1010), ∀ a, (k0_off267 v1010) a + S1x10x128.size a ≤ S8x10x3584.size a := fun v1010 k0_hw51 => k0_hw51.2.1.2.2.2.2.2.2.2.2.2.2.2.1
theorem k0_off267_packedbf16 : ∀ (v1010 : BitVec 32) (k0_hw51 : k0_chk51 v1010), (Rect.unit (s := S8x10x3584) (k0_off267 v1010) S1x10x128.size (k0_off267_inb v1010 k0_hw51)).PackedRows (EltTy.packing .bf16) := fun v1010 k0_hw51 => k0_hw51.2.1.2.2.2.2.2.2.2.2.2.2.2.2.1 (k0_off267_inb v1010 k0_hw51)
theorem k0_off268_inb : ∀ (v1010 : BitVec 32) (k0_hw51 : k0_chk51 v1010), ∀ a, (k0_off268 v1010) a + S1x10x128.size a ≤ S8x10x3584.size a := fun v1010 k0_hw51 => k0_hw51.2.1.2.2.2.2.2.2.2.2.2.2.2.2.2.1
theorem k0_off268_packedbf16 : ∀ (v1010 : BitVec 32) (k0_hw51 : k0_chk51 v1010), (Rect.unit (s := S8x10x3584) (k0_off268 v1010) S1x10x128.size (k0_off268_inb v1010 k0_hw51)).PackedRows (EltTy.packing .bf16) := fun v1010 k0_hw51 => k0_hw51.2.1.2.2.2.2.2.2.2.2.2.2.2.2.2.2.1 (k0_off268_inb v1010 k0_hw51)
theorem k0_off269_inb : ∀ (v1010 : BitVec 32) (k0_hw51 : k0_chk51 v1010), ∀ a, (k0_off269 v1010) a + S1x10x128.size a ≤ S8x10x3584.size a := fun v1010 k0_hw51 => k0_hw51.2.1.2.2.2.2.2.2.2.2.2.2.2.2.2.2.2.1
theorem k0_off269_packedbf16 : ∀ (v1010 : BitVec 32) (k0_hw51 : k0_chk51 v1010), (Rect.unit (s := S8x10x3584) (k0_off269 v1010) S1x10x128.size (k0_off269_inb v1010 k0_hw51)).PackedRows (EltTy.packing .bf16) := fun v1010 k0_hw51 => k0_hw51.2.1.2.2.2.2.2.2.2.2.2.2.2.2.2.2.2.2.1 (k0_off269_inb v1010 k0_hw51)
theorem k0_off270_inb : ∀ (v1010 : BitVec 32) (k0_hw51 : k0_chk51 v1010), ∀ a, (k0_off270 v1010) a + S1x10x128.size a ≤ S8x10x3584.size a := fun v1010 k0_hw51 => k0_hw51.2.1.2.2.2.2.2.2.2.2.2.2.2.2.2.2.2.2.2.1
theorem k0_off270_packedbf16 : ∀ (v1010 : BitVec 32) (k0_hw51 : k0_chk51 v1010), (Rect.unit (s := S8x10x3584) (k0_off270 v1010) S1x10x128.size (k0_off270_inb v1010 k0_hw51)).PackedRows (EltTy.packing .bf16) := fun v1010 k0_hw51 => k0_hw51.2.1.2.2.2.2.2.2.2.2.2.2.2.2.2.2.2.2.2.2.1 (k0_off270_inb v1010 k0_hw51)
theorem k0_off280_inb : ∀ (v1010 : BitVec 32) (k0_hw51 : k0_chk51 v1010), ∀ a, (k0_off280 v1010) a + S1x10x128.size a ≤ S8x10x3584.size a := fun v1010 k0_hw51 => k0_hw51.2.1.2.2.2.2.2.2.2.2.2.2.2.2.2.2.2.2.2.2.2.1
theorem k0_off280_packedbf16 : ∀ (v1010 : BitVec 32) (k0_hw51 : k0_chk51 v1010), (Rect.unit (s := S8x10x3584) (k0_off280 v1010) S1x10x128.size (k0_off280_inb v1010 k0_hw51)).PackedRows (EltTy.packing .bf16) := fun v1010 k0_hw51 => k0_hw51.2.1.2.2.2.2.2.2.2.2.2.2.2.2.2.2.2.2.2.2.2.2.1 (k0_off280_inb v1010 k0_hw51)
theorem k0_off281_inb : ∀ (v1010 : BitVec 32) (k0_hw51 : k0_chk51 v1010), ∀ a, (k0_off281 v1010) a + S1x10x128.size a ≤ S8x10x3584.size a := fun v1010 k0_hw51 => k0_hw51.2.1.2.2.2.2.2.2.2.2.2.2.2.2.2.2.2.2.2.2.2.2.2.1
theorem k0_off281_packedbf16 : ∀ (v1010 : BitVec 32) (k0_hw51 : k0_chk51 v1010), (Rect.unit (s := S8x10x3584) (k0_off281 v1010) S1x10x128.size (k0_off281_inb v1010 k0_hw51)).PackedRows (EltTy.packing .bf16) := fun v1010 k0_hw51 => k0_hw51.2.1.2.2.2.2.2.2.2.2.2.2.2.2.2.2.2.2.2.2.2.2.2.2.1 (k0_off281_inb v1010 k0_hw51)
theorem k0_off282_inb : ∀ (v1010 : BitVec 32) (k0_hw51 : k0_chk51 v1010), ∀ a, (k0_off282 v1010) a + S1x10x128.size a ≤ S8x10x3584.size a := fun v1010 k0_hw51 => k0_hw51.2.1.2.2.2.2.2.2.2.2.2.2.2.2.2.2.2.2.2.2.2.2.2.2.2.1
theorem k0_off282_packedbf16 : ∀ (v1010 : BitVec 32) (k0_hw51 : k0_chk51 v1010), (Rect.unit (s := S8x10x3584) (k0_off282 v1010) S1x10x128.size (k0_off282_inb v1010 k0_hw51)).PackedRows (EltTy.packing .bf16) := fun v1010 k0_hw51 => k0_hw51.2.1.2.2.2.2.2.2.2.2.2.2.2.2.2.2.2.2.2.2.2.2.2.2.2.2.1 (k0_off282_inb v1010 k0_hw51)
theorem k0_off283_inb : ∀ (v1010 : BitVec 32) (k0_hw51 : k0_chk51 v1010), ∀ a, (k0_off283 v1010) a + S1x10x128.size a ≤ S8x10x3584.size a := fun v1010 k0_hw51 => k0_hw51.2.1.2.2.2.2.2.2.2.2.2.2.2.2.2.2.2.2.2.2.2.2.2.2.2.2.2.1
theorem k0_off283_packedbf16 : ∀ (v1010 : BitVec 32) (k0_hw51 : k0_chk51 v1010), (Rect.unit (s := S8x10x3584) (k0_off283 v1010) S1x10x128.size (k0_off283_inb v1010 k0_hw51)).PackedRows (EltTy.packing .bf16) := fun v1010 k0_hw51 => k0_hw51.2.1.2.2.2.2.2.2.2.2.2.2.2.2.2.2.2.2.2.2.2.2.2.2.2.2.2.2.1 (k0_off283_inb v1010 k0_hw51)
theorem k0_off293_inb : ∀ (v1010 : BitVec 32) (k0_hw51 : k0_chk51 v1010), ∀ a, (k0_off293 v1010) a + S1x10x128.size a ≤ S8x10x3584.size a := fun v1010 k0_hw51 => k0_hw51.2.1.2.2.2.2.2.2.2.2.2.2.2.2.2.2.2.2.2.2.2.2.2.2.2.2.2.2.2.1
theorem k0_off293_packedbf16 : ∀ (v1010 : BitVec 32) (k0_hw51 : k0_chk51 v1010), (Rect.unit (s := S8x10x3584) (k0_off293 v1010) S1x10x128.size (k0_off293_inb v1010 k0_hw51)).PackedRows (EltTy.packing .bf16) := fun v1010 k0_hw51 => k0_hw51.2.1.2.2.2.2.2.2.2.2.2.2.2.2.2.2.2.2.2.2.2.2.2.2.2.2.2.2.2.2.1 (k0_off293_inb v1010 k0_hw51)
theorem k0_off294_inb : ∀ (v1010 : BitVec 32) (k0_hw51 : k0_chk51 v1010), ∀ a, (k0_off294 v1010) a + S1x10x128.size a ≤ S8x10x3584.size a := fun v1010 k0_hw51 => k0_hw51.2.1.2.2.2.2.2.2.2.2.2.2.2.2.2.2.2.2.2.2.2.2.2.2.2.2.2.2.2.2.2.1
theorem k0_off294_packedbf16 : ∀ (v1010 : BitVec 32) (k0_hw51 : k0_chk51 v1010), (Rect.unit (s := S8x10x3584) (k0_off294 v1010) S1x10x128.size (k0_off294_inb v1010 k0_hw51)).PackedRows (EltTy.packing .bf16) := fun v1010 k0_hw51 => k0_hw51.2.1.2.2.2.2.2.2.2.2.2.2.2.2.2.2.2.2.2.2.2.2.2.2.2.2.2.2.2.2.2.2.1 (k0_off294_inb v1010 k0_hw51)
theorem k0_off295_inb : ∀ (v1010 : BitVec 32) (k0_hw51 : k0_chk51 v1010), ∀ a, (k0_off295 v1010) a + S1x10x128.size a ≤ S8x10x3584.size a := fun v1010 k0_hw51 => k0_hw51.2.1.2.2.2.2.2.2.2.2.2.2.2.2.2.2.2.2.2.2.2.2.2.2.2.2.2.2.2.2.2.2.2
theorem k0_off295_packedbf16 : ∀ (v1010 : BitVec 32) (k0_hw51 : k0_chk51 v1010), (Rect.unit (s := S8x10x3584) (k0_off295 v1010) S1x10x128.size (k0_off295_inb v1010 k0_hw51)).PackedRows (EltTy.packing .bf16) := fun v1010 k0_hw51 => k0_hw51.2.2.1 (k0_off295_inb v1010 k0_hw51)
theorem k0_off296_inb : ∀ (v1010 : BitVec 32) (k0_hw51 : k0_chk51 v1010), ∀ a, (k0_off296 v1010) a + S1x10x128.size a ≤ S8x10x3584.size a := fun v1010 k0_hw51 => k0_hw51.2.2.2.1
theorem k0_off296_packedbf16 : ∀ (v1010 : BitVec 32) (k0_hw51 : k0_chk51 v1010), (Rect.unit (s := S8x10x3584) (k0_off296 v1010) S1x10x128.size (k0_off296_inb v1010 k0_hw51)).PackedRows (EltTy.packing .bf16) := fun v1010 k0_hw51 => k0_hw51.2.2.2.2.1 (k0_off296_inb v1010 k0_hw51)
theorem k0_off306_inb : ∀ (v1010 : BitVec 32) (k0_hw51 : k0_chk51 v1010), ∀ a, (k0_off306 v1010) a + S1x10x128.size a ≤ S8x10x3584.size a := fun v1010 k0_hw51 => k0_hw51.2.2.2.2.2.1
theorem k0_off306_packedbf16 : ∀ (v1010 : BitVec 32) (k0_hw51 : k0_chk51 v1010), (Rect.unit (s := S8x10x3584) (k0_off306 v1010) S1x10x128.size (k0_off306_inb v1010 k0_hw51)).PackedRows (EltTy.packing .bf16) := fun v1010 k0_hw51 => k0_hw51.2.2.2.2.2.2.1 (k0_off306_inb v1010 k0_hw51)
theorem k0_off307_inb : ∀ (v1010 : BitVec 32) (k0_hw51 : k0_chk51 v1010), ∀ a, (k0_off307 v1010) a + S1x10x128.size a ≤ S8x10x3584.size a := fun v1010 k0_hw51 => k0_hw51.2.2.2.2.2.2.2.1
theorem k0_off307_packedbf16 : ∀ (v1010 : BitVec 32) (k0_hw51 : k0_chk51 v1010), (Rect.unit (s := S8x10x3584) (k0_off307 v1010) S1x10x128.size (k0_off307_inb v1010 k0_hw51)).PackedRows (EltTy.packing .bf16) := fun v1010 k0_hw51 => k0_hw51.2.2.2.2.2.2.2.2.1 (k0_off307_inb v1010 k0_hw51)
theorem k0_off308_inb : ∀ (v1010 : BitVec 32) (k0_hw51 : k0_chk51 v1010), ∀ a, (k0_off308 v1010) a + S1x10x128.size a ≤ S8x10x3584.size a := fun v1010 k0_hw51 => k0_hw51.2.2.2.2.2.2.2.2.2.1
theorem k0_off308_packedbf16 : ∀ (v1010 : BitVec 32) (k0_hw51 : k0_chk51 v1010), (Rect.unit (s := S8x10x3584) (k0_off308 v1010) S1x10x128.size (k0_off308_inb v1010 k0_hw51)).PackedRows (EltTy.packing .bf16) := fun v1010 k0_hw51 => k0_hw51.2.2.2.2.2.2.2.2.2.2.1 (k0_off308_inb v1010 k0_hw51)
theorem k0_off309_inb : ∀ (v1010 : BitVec 32) (k0_hw51 : k0_chk51 v1010), ∀ a, (k0_off309 v1010) a + S1x10x128.size a ≤ S8x10x3584.size a := fun v1010 k0_hw51 => k0_hw51.2.2.2.2.2.2.2.2.2.2.2.1
theorem k0_off309_packedbf16 : ∀ (v1010 : BitVec 32) (k0_hw51 : k0_chk51 v1010), (Rect.unit (s := S8x10x3584) (k0_off309 v1010) S1x10x128.size (k0_off309_inb v1010 k0_hw51)).PackedRows (EltTy.packing .bf16) := fun v1010 k0_hw51 => k0_hw51.2.2.2.2.2.2.2.2.2.2.2.2 (k0_off309_inb v1010 k0_hw51)

def k0_off310 (v0 : BitVec 32) (v9 : BitVec 32) (v18 : BitVec 32) (v27 : BitVec 32) (v36 : BitVec 32) (v45 : BitVec 32) (v54 : BitVec 32) (v63 : BitVec 32) (k0_t2 : Fin (k0_t2_loop v0 v9 v18 v27 v36 v45 v54 v63).trips) : Fin 1 → Nat :=
  let c0_i32_441 : BitVec 32 := 0#32
  let c0_i32_3 : BitVec 32 := 0#32
  let c0_i32 : BitVec 32 := 0#32
  let v1 : BitVec 1 := Scalar.cmpi .sgt v0 c0_i32
  let v7 : BitVec 32 := Scalar.extui v1
  let v8 : BitVec 32 := Scalar.addi c0_i32_3 v7
  let c0_i32_4 : BitVec 32 := 0#32
  let v10 : BitVec 1 := Scalar.cmpi .sgt v9 c0_i32_4
  let v16 : BitVec 32 := Scalar.extui v10
  let v17 : BitVec 32 := Scalar.addi v8 v16
  let c0_i32_8 : BitVec 32 := 0#32
  let v19 : BitVec 1 := Scalar.cmpi .sgt v18 c0_i32_8
  let v25 : BitVec 32 := Scalar.extui v19
  let v26 : BitVec 32 := Scalar.addi v17 v25
  let c0_i32_12 : BitVec 32 := 0#32
  let v28 : BitVec 1 := Scalar.cmpi .sgt v27 c0_i32_12
  let v34 : BitVec 32 := Scalar.extui v28
  let v35 : BitVec 32 := Scalar.addi v26 v34
  let c0_i32_16 : BitVec 32 := 0#32
  let v37 : BitVec 1 := Scalar.cmpi .sgt v36 c0_i32_16
  let v43 : BitVec 32 := Scalar.extui v37
  let v44 : BitVec 32 := Scalar.addi v35 v43
  let c0_i32_20 : BitVec 32 := 0#32
  let v46 : BitVec 1 := Scalar.cmpi .sgt v45 c0_i32_20
  let v52 : BitVec 32 := Scalar.extui v46
  let v53 : BitVec 32 := Scalar.addi v44 v52
  let c0_i32_24 : BitVec 32 := 0#32
  let v55 : BitVec 1 := Scalar.cmpi .sgt v54 c0_i32_24
  let v61 : BitVec 32 := Scalar.extui v55
  let v62 : BitVec 32 := Scalar.addi v53 v61
  let c0_i32_28 : BitVec 32 := 0#32
  let v64 : BitVec 1 := Scalar.cmpi .sgt v63 c0_i32_28
  let v70 : BitVec 32 := Scalar.extui v64
  let v71 : BitVec 32 := Scalar.addi v62 v70
  let v1002 : BitVec 32 := Scalar.subi v71 c0_i32_441
  let c1_i32_443 : BitVec 32 := 1#32
  let v1004 : BitVec 32 := Scalar.divsi v1002 c1_i32_443
  let v1005 : BitVec 32 := Scalar.muli v1004 c1_i32_443
  let v1006 : BitVec 32 := Scalar.addi c0_i32_441 v1005
  let c1_i32_445 : BitVec 32 := 1#32
  let arg13 : BitVec 32 := Scf.iv v1006 c1_i32_445 k0_t2
  let c4_i32_667 : BitVec 32 := 4#32
  let v2149 : BitVec 32 := Scalar.addi arg13 c4_i32_667
  let v2151 : Index := Scalar.indexCast v2149
  ![v2151.toNat]
def k0_cond34 (v0 : BitVec 32) (v9 : BitVec 32) (v18 : BitVec 32) (v27 : BitVec 32) (v36 : BitVec 32) (v45 : BitVec 32) (v54 : BitVec 32) (v63 : BitVec 32) (k0_t2 : Fin (k0_t2_loop v0 v9 v18 v27 v36 v45 v54 v63).trips) : BitVec 1 :=
  let c0_i32_441 : BitVec 32 := 0#32
  let c0_i32_3 : BitVec 32 := 0#32
  let c0_i32 : BitVec 32 := 0#32
  let v1 : BitVec 1 := Scalar.cmpi .sgt v0 c0_i32
  let v7 : BitVec 32 := Scalar.extui v1
  let v8 : BitVec 32 := Scalar.addi c0_i32_3 v7
  let c0_i32_4 : BitVec 32 := 0#32
  let v10 : BitVec 1 := Scalar.cmpi .sgt v9 c0_i32_4
  let v16 : BitVec 32 := Scalar.extui v10
  let v17 : BitVec 32 := Scalar.addi v8 v16
  let c0_i32_8 : BitVec 32 := 0#32
  let v19 : BitVec 1 := Scalar.cmpi .sgt v18 c0_i32_8
  let v25 : BitVec 32 := Scalar.extui v19
  let v26 : BitVec 32 := Scalar.addi v17 v25
  let c0_i32_12 : BitVec 32 := 0#32
  let v28 : BitVec 1 := Scalar.cmpi .sgt v27 c0_i32_12
  let v34 : BitVec 32 := Scalar.extui v28
  let v35 : BitVec 32 := Scalar.addi v26 v34
  let c0_i32_16 : BitVec 32 := 0#32
  let v37 : BitVec 1 := Scalar.cmpi .sgt v36 c0_i32_16
  let v43 : BitVec 32 := Scalar.extui v37
  let v44 : BitVec 32 := Scalar.addi v35 v43
  let c0_i32_20 : BitVec 32 := 0#32
  let v46 : BitVec 1 := Scalar.cmpi .sgt v45 c0_i32_20
  let v52 : BitVec 32 := Scalar.extui v46
  let v53 : BitVec 32 := Scalar.addi v44 v52
  let c0_i32_24 : BitVec 32 := 0#32
  let v55 : BitVec 1 := Scalar.cmpi .sgt v54 c0_i32_24
  let v61 : BitVec 32 := Scalar.extui v55
  let v62 : BitVec 32 := Scalar.addi v53 v61
  let c0_i32_28 : BitVec 32 := 0#32
  let v64 : BitVec 1 := Scalar.cmpi .sgt v63 c0_i32_28
  let v70 : BitVec 32 := Scalar.extui v64
  let v71 : BitVec 32 := Scalar.addi v62 v70
  let v1002 : BitVec 32 := Scalar.subi v71 c0_i32_441
  let c1_i32_443 : BitVec 32 := 1#32
  let v1004 : BitVec 32 := Scalar.divsi v1002 c1_i32_443
  let v1005 : BitVec 32 := Scalar.muli v1004 c1_i32_443
  let v1006 : BitVec 32 := Scalar.addi c0_i32_441 v1005
  let c1_i32_445 : BitVec 32 := 1#32
  let arg13 : BitVec 32 := Scf.iv v1006 c1_i32_445 k0_t2
  let c4_i32_664 : BitVec 32 := 4#32
  let v2145 : BitVec 32 := Scalar.addi arg13 c4_i32_664
  let v2146 : BitVec 1 := Scalar.cmpi .slt v2145 v71
  let v2147 : BitVec 32 := Scalar.extui v2146
  let c0_i32_665 : BitVec 32 := 0#32
  let v2148 : BitVec 1 := Scalar.cmpi .ne v2147 c0_i32_665
  v2148

def k0_off311 (v0 : BitVec 32) (v9 : BitVec 32) (v18 : BitVec 32) (v27 : BitVec 32) (v36 : BitVec 32) (v45 : BitVec 32) (v54 : BitVec 32) (v63 : BitVec 32) (k0_t2 : Fin (k0_t2_loop v0 v9 v18 v27 v36 v45 v54 v63).trips) : Fin 2 → Nat :=
  let c0_i32_441 : BitVec 32 := 0#32
  let c0_i32_3 : BitVec 32 := 0#32
  let c0_i32 : BitVec 32 := 0#32
  let v1 : BitVec 1 := Scalar.cmpi .sgt v0 c0_i32
  let v7 : BitVec 32 := Scalar.extui v1
  let v8 : BitVec 32 := Scalar.addi c0_i32_3 v7
  let c0_i32_4 : BitVec 32 := 0#32
  let v10 : BitVec 1 := Scalar.cmpi .sgt v9 c0_i32_4
  let v16 : BitVec 32 := Scalar.extui v10
  let v17 : BitVec 32 := Scalar.addi v8 v16
  let c0_i32_8 : BitVec 32 := 0#32
  let v19 : BitVec 1 := Scalar.cmpi .sgt v18 c0_i32_8
  let v25 : BitVec 32 := Scalar.extui v19
  let v26 : BitVec 32 := Scalar.addi v17 v25
  let c0_i32_12 : BitVec 32 := 0#32
  let v28 : BitVec 1 := Scalar.cmpi .sgt v27 c0_i32_12
  let v34 : BitVec 32 := Scalar.extui v28
  let v35 : BitVec 32 := Scalar.addi v26 v34
  let c0_i32_16 : BitVec 32 := 0#32
  let v37 : BitVec 1 := Scalar.cmpi .sgt v36 c0_i32_16
  let v43 : BitVec 32 := Scalar.extui v37
  let v44 : BitVec 32 := Scalar.addi v35 v43
  let c0_i32_20 : BitVec 32 := 0#32
  let v46 : BitVec 1 := Scalar.cmpi .sgt v45 c0_i32_20
  let v52 : BitVec 32 := Scalar.extui v46
  let v53 : BitVec 32 := Scalar.addi v44 v52
  let c0_i32_24 : BitVec 32 := 0#32
  let v55 : BitVec 1 := Scalar.cmpi .sgt v54 c0_i32_24
  let v61 : BitVec 32 := Scalar.extui v55
  let v62 : BitVec 32 := Scalar.addi v53 v61
  let c0_i32_28 : BitVec 32 := 0#32
  let v64 : BitVec 1 := Scalar.cmpi .sgt v63 c0_i32_28
  let v70 : BitVec 32 := Scalar.extui v64
  let v71 : BitVec 32 := Scalar.addi v62 v70
  let v1002 : BitVec 32 := Scalar.subi v71 c0_i32_441
  let c1_i32_443 : BitVec 32 := 1#32
  let v1004 : BitVec 32 := Scalar.divsi v1002 c1_i32_443
  let v1005 : BitVec 32 := Scalar.muli v1004 c1_i32_443
  let v1006 : BitVec 32 := Scalar.addi c0_i32_441 v1005
  let c1_i32_445 : BitVec 32 := 1#32
  let arg13 : BitVec 32 := Scf.iv v1006 c1_i32_445 k0_t2
  let c4_i32_667 : BitVec 32 := 4#32
  let v2149 : BitVec 32 := Scalar.addi arg13 c4_i32_667
  let c4_i32_668 : BitVec 32 := 4#32
  let v2150 : BitVec 32 := Scalar.remsi v2149 c4_i32_668
  let c6_i32_670 : BitVec 32 := 6#32
  ![v2150.toNat, 6]
def k0_off312 (v0 : BitVec 32) (v9 : BitVec 32) (v18 : BitVec 32) (v27 : BitVec 32) (v36 : BitVec 32) (v45 : BitVec 32) (v54 : BitVec 32) (v63 : BitVec 32) (k0_t2 : Fin (k0_t2_loop v0 v9 v18 v27 v36 v45 v54 v63).trips) : Fin 4 → Nat :=
  let c0_i32_441 : BitVec 32 := 0#32
  let c0_i32_3 : BitVec 32 := 0#32
  let c0_i32 : BitVec 32 := 0#32
  let v1 : BitVec 1 := Scalar.cmpi .sgt v0 c0_i32
  let v7 : BitVec 32 := Scalar.extui v1
  let v8 : BitVec 32 := Scalar.addi c0_i32_3 v7
  let c0_i32_4 : BitVec 32 := 0#32
  let v10 : BitVec 1 := Scalar.cmpi .sgt v9 c0_i32_4
  let v16 : BitVec 32 := Scalar.extui v10
  let v17 : BitVec 32 := Scalar.addi v8 v16
  let c0_i32_8 : BitVec 32 := 0#32
  let v19 : BitVec 1 := Scalar.cmpi .sgt v18 c0_i32_8
  let v25 : BitVec 32 := Scalar.extui v19
  let v26 : BitVec 32 := Scalar.addi v17 v25
  let c0_i32_12 : BitVec 32 := 0#32
  let v28 : BitVec 1 := Scalar.cmpi .sgt v27 c0_i32_12
  let v34 : BitVec 32 := Scalar.extui v28
  let v35 : BitVec 32 := Scalar.addi v26 v34
  let c0_i32_16 : BitVec 32 := 0#32
  let v37 : BitVec 1 := Scalar.cmpi .sgt v36 c0_i32_16
  let v43 : BitVec 32 := Scalar.extui v37
  let v44 : BitVec 32 := Scalar.addi v35 v43
  let c0_i32_20 : BitVec 32 := 0#32
  let v46 : BitVec 1 := Scalar.cmpi .sgt v45 c0_i32_20
  let v52 : BitVec 32 := Scalar.extui v46
  let v53 : BitVec 32 := Scalar.addi v44 v52
  let c0_i32_24 : BitVec 32 := 0#32
  let v55 : BitVec 1 := Scalar.cmpi .sgt v54 c0_i32_24
  let v61 : BitVec 32 := Scalar.extui v55
  let v62 : BitVec 32 := Scalar.addi v53 v61
  let c0_i32_28 : BitVec 32 := 0#32
  let v64 : BitVec 1 := Scalar.cmpi .sgt v63 c0_i32_28
  let v70 : BitVec 32 := Scalar.extui v64
  let v71 : BitVec 32 := Scalar.addi v62 v70
  let v1002 : BitVec 32 := Scalar.subi v71 c0_i32_441
  let c1_i32_443 : BitVec 32 := 1#32
  let v1004 : BitVec 32 := Scalar.divsi v1002 c1_i32_443
  let v1005 : BitVec 32 := Scalar.muli v1004 c1_i32_443
  let v1006 : BitVec 32 := Scalar.addi c0_i32_441 v1005
  let c1_i32_445 : BitVec 32 := 1#32
  let arg13 : BitVec 32 := Scf.iv v1006 c1_i32_445 k0_t2
  let c4_i32_667 : BitVec 32 := 4#32
  let v2149 : BitVec 32 := Scalar.addi arg13 c4_i32_667
  let c4_i32_668 : BitVec 32 := 4#32
  let v2150 : BitVec 32 := Scalar.remsi v2149 c4_i32_668
  let c6_i32_669 : BitVec 32 := 6#32
  let c0_i32_671 : BitVec 32 := 0#32
  let c0_i32_672 : BitVec 32 := 0#32
  ![v2150.toNat, 6, 0, 0]
def k0_off313 (v2152 : BitVec 32) : Fin 3 → Nat :=
  let c3072_i32_673 : BitVec 32 := 3072#32
  let c0_i32_674 : BitVec 32 := 0#32
  ![v2152.toNat, 3072, 0]

def k0_chk65 (v0 : BitVec 32) (v9 : BitVec 32) (v18 : BitVec 32) (v27 : BitVec 32) (v36 : BitVec 32) (v45 : BitVec 32) (v54 : BitVec 32) (v63 : BitVec 32) (k0_t2 : Fin (k0_t2_loop v0 v9 v18 v27 v36 v45 v54 v63).trips) (v2152 : BitVec 32) : Prop :=
  (∀ (k0_h34 : k0_cond34 v0 v9 v18 v27 v36 v45 v54 v63 k0_t2 = 1#1), ∀ a, (k0_off313 v2152) a + S1x512x2048.size a ≤ S8x3584x2048.size a) ∧
  (∀ (k0_h34 : k0_cond34 v0 v9 v18 v27 v36 v45 v54 v63 k0_t2 = 1#1), ∀ (hinb : ∀ a, (k0_off313 v2152) a + S1x512x2048.size a ≤ S8x3584x2048.size a), (Rect.unit (s := S8x3584x2048) (k0_off313 v2152) S1x512x2048.size hinb).WholeWords (EltTy.packing .fp8e4m3))
theorem k0_off313_inb : ∀ (v0 : BitVec 32) (v9 : BitVec 32) (v18 : BitVec 32) (v27 : BitVec 32) (v36 : BitVec 32) (v45 : BitVec 32) (v54 : BitVec 32) (v63 : BitVec 32) (k0_t2 : Fin (k0_t2_loop v0 v9 v18 v27 v36 v45 v54 v63).trips) (v2152 : BitVec 32) (k0_hw65 : k0_chk65 v0 v9 v18 v27 v36 v45 v54 v63 k0_t2 v2152), ∀ (k0_h34 : k0_cond34 v0 v9 v18 v27 v36 v45 v54 v63 k0_t2 = 1#1), ∀ a, (k0_off313 v2152) a + S1x512x2048.size a ≤ S8x3584x2048.size a := fun v0 v9 v18 v27 v36 v45 v54 v63 k0_t2 v2152 k0_hw65 k0_h34 => k0_hw65.1 k0_h34
theorem k0_off313_wordsfp8e4m3 : ∀ (v0 : BitVec 32) (v9 : BitVec 32) (v18 : BitVec 32) (v27 : BitVec 32) (v36 : BitVec 32) (v45 : BitVec 32) (v54 : BitVec 32) (v63 : BitVec 32) (k0_t2 : Fin (k0_t2_loop v0 v9 v18 v27 v36 v45 v54 v63).trips) (v2152 : BitVec 32) (k0_hw65 : k0_chk65 v0 v9 v18 v27 v36 v45 v54 v63 k0_t2 v2152), ∀ (k0_h34 : k0_cond34 v0 v9 v18 v27 v36 v45 v54 v63 k0_t2 = 1#1), (Rect.unit (s := S8x3584x2048) (k0_off313 v2152) S1x512x2048.size (k0_off313_inb v0 v9 v18 v27 v36 v45 v54 v63 k0_t2 v2152 k0_hw65 k0_h34)).WholeWords (EltTy.packing .fp8e4m3) := fun v0 v9 v18 v27 v36 v45 v54 v63 k0_t2 v2152 k0_hw65 k0_h34 => k0_hw65.2 k0_h34 (k0_off313_inb v0 v9 v18 v27 v36 v45 v54 v63 k0_t2 v2152 k0_hw65 k0_h34)

def k0_chk7_0 (v0 : BitVec 32) (v9 : BitVec 32) (v18 : BitVec 32) (v27 : BitVec 32) (v36 : BitVec 32) (v45 : BitVec 32) (v54 : BitVec 32) (v63 : BitVec 32) : Prop :=
  (∀ (k0_h15 : k0_cond15 v63 = 1#1), ∀ a, (k0_off7 v0 v9 v18 v27 v36 v45 v54) a + S1.size a ≤ S8.size a) ∧
  ((k0_t1_loop v0 v9 v18 v27 v36 v45 v54 v63).OK) ∧
  (∀ k0_t1 : Fin (k0_t1_loop v0 v9 v18 v27 v36 v45 v54 v63).trips, ∀ a, (k0_off92 v0 v9 v18 v27 v36 v45 v54 v63 k0_t1) a + S1.size a ≤ S8.size a) ∧
  (∀ k0_t1 : Fin (k0_t1_loop v0 v9 v18 v27 v36 v45 v54 v63).trips, ∀ a, (k0_off112 v0 v9 v18 v27 v36 v45 v54 v63 k0_t1) a + S1.size a ≤ S8.size a) ∧
  (∀ k0_t1 : Fin (k0_t1_loop v0 v9 v18 v27 v36 v45 v54 v63).trips, ∀ a, (k0_off113 v0 v9 v18 v27 v36 v45 v54 v63 k0_t1) a + S1x1.size a ≤ S4x7.size a) ∧
  (∀ k0_t1 : Fin (k0_t1_loop v0 v9 v18 v27 v36 v45 v54 v63).trips, ∀ a, (k0_off114 v0 v9 v18 v27 v36 v45 v54 v63 k0_t1) a + S1x1x512x2048.size a ≤ S4x7x512x2048.size a) ∧
  (∀ k0_t1 : Fin (k0_t1_loop v0 v9 v18 v27 v36 v45 v54 v63).trips, ∀ (hinb : ∀ a, (k0_off114 v0 v9 v18 v27 v36 v45 v54 v63 k0_t1) a + S1x1x512x2048.size a ≤ S4x7x512x2048.size a), (Rect.unit (s := S4x7x512x2048) (k0_off114 v0 v9 v18 v27 v36 v45 v54 v63 k0_t1) S1x1x512x2048.size hinb).WholeWords (EltTy.packing .fp8e4m3)) ∧
  (∀ k0_t1 : Fin (k0_t1_loop v0 v9 v18 v27 v36 v45 v54 v63).trips, ∀ a, (k0_off116 v0 v9 v18 v27 v36 v45 v54 v63 k0_t1) a + S1x1x512x2048.size a ≤ S4x7x512x2048.size a) ∧
  (∀ k0_t1 : Fin (k0_t1_loop v0 v9 v18 v27 v36 v45 v54 v63).trips, ∀ (k0_h21 : k0_cond21 v0 v9 v18 v27 v36 v45 v54 v63 k0_t1 = 1#1), ∀ a, (k0_off121 v0 v9 v18 v27 v36 v45 v54 v63 k0_t1) a + S1.size a ≤ S8.size a) ∧
  (∀ k0_t1 : Fin (k0_t1_loop v0 v9 v18 v27 v36 v45 v54 v63).trips, ∀ (k0_h21 : k0_cond21 v0 v9 v18 v27 v36 v45 v54 v63 k0_t1 = 1#1), ∀ a, (k0_off122 v0 v9 v18 v27 v36 v45 v54 v63 k0_t1) a + S1x1.size a ≤ S4x7.size a) ∧
  (∀ k0_t1 : Fin (k0_t1_loop v0 v9 v18 v27 v36 v45 v54 v63).trips, ∀ (k0_h21 : k0_cond21 v0 v9 v18 v27 v36 v45 v54 v63 k0_t1 = 1#1), ∀ a, (k0_off123 v0 v9 v18 v27 v36 v45 v54 v63 k0_t1) a + S1x1x512x2048.size a ≤ S4x7x512x2048.size a) ∧
  (∀ k0_t1 : Fin (k0_t1_loop v0 v9 v18 v27 v36 v45 v54 v63).trips, ∀ (k0_h21 : k0_cond21 v0 v9 v18 v27 v36 v45 v54 v63 k0_t1 = 1#1), ∀ (hinb : ∀ a, (k0_off123 v0 v9 v18 v27 v36 v45 v54 v63 k0_t1) a + S1x1x512x2048.size a ≤ S4x7x512x2048.size a), (Rect.unit (s := S4x7x512x2048) (k0_off123 v0 v9 v18 v27 v36 v45 v54 v63 k0_t1) S1x1x512x2048.size hinb).WholeWords (EltTy.packing .fp8e4m3)) ∧
  (∀ k0_t1 : Fin (k0_t1_loop v0 v9 v18 v27 v36 v45 v54 v63).trips, ∀ a, (k0_off125 v0 v9 v18 v27 v36 v45 v54 v63 k0_t1) a + S1.size a ≤ S8.size a) ∧
  (∀ k0_t1 : Fin (k0_t1_loop v0 v9 v18 v27 v36 v45 v54 v63).trips, ∀ a, (k0_off126 v0 v9 v18 v27 v36 v45 v54 v63 k0_t1) a + S1x1.size a ≤ S4x7.size a) ∧
  (∀ k0_t1 : Fin (k0_t1_loop v0 v9 v18 v27 v36 v45 v54 v63).trips, ∀ a, (k0_off127 v0 v9 v18 v27 v36 v45 v54 v63 k0_t1) a + S1x1x512x2048.size a ≤ S4x7x512x2048.size a) ∧
  (∀ k0_t1 : Fin (k0_t1_loop v0 v9 v18 v27 v36 v45 v54 v63).trips, ∀ (hinb : ∀ a, (k0_off127 v0 v9 v18 v27 v36 v45 v54 v63 k0_t1) a + S1x1x512x2048.size a ≤ S4x7x512x2048.size a), (Rect.unit (s := S4x7x512x2048) (k0_off127 v0 v9 v18 v27 v36 v45 v54 v63 k0_t1) S1x1x512x2048.size hinb).WholeWords (EltTy.packing .fp8e4m3)) ∧
  (∀ k0_t1 : Fin (k0_t1_loop v0 v9 v18 v27 v36 v45 v54 v63).trips, ∀ a, (k0_off129 v0 v9 v18 v27 v36 v45 v54 v63 k0_t1) a + S1x1x512x2048.size a ≤ S4x7x512x2048.size a) ∧
  (∀ k0_t1 : Fin (k0_t1_loop v0 v9 v18 v27 v36 v45 v54 v63).trips, ∀ (k0_h22 : k0_cond22 v0 v9 v18 v27 v36 v45 v54 v63 k0_t1 = 1#1), ∀ a, (k0_off134 v0 v9 v18 v27 v36 v45 v54 v63 k0_t1) a + S1.size a ≤ S8.size a) ∧
  (∀ k0_t1 : Fin (k0_t1_loop v0 v9 v18 v27 v36 v45 v54 v63).trips, ∀ (k0_h22 : k0_cond22 v0 v9 v18 v27 v36 v45 v54 v63 k0_t1 = 1#1), ∀ a, (k0_off135 v0 v9 v18 v27 v36 v45 v54 v63 k0_t1) a + S1x1.size a ≤ S4x7.size a) ∧
  (∀ k0_t1 : Fin (k0_t1_loop v0 v9 v18 v27 v36 v45 v54 v63).trips, ∀ (k0_h22 : k0_cond22 v0 v9 v18 v27 v36 v45 v54 v63 k0_t1 = 1#1), ∀ a, (k0_off136 v0 v9 v18 v27 v36 v45 v54 v63 k0_t1) a + S1x1x512x2048.size a ≤ S4x7x512x2048.size a) ∧
  (∀ k0_t1 : Fin (k0_t1_loop v0 v9 v18 v27 v36 v45 v54 v63).trips, ∀ (k0_h22 : k0_cond22 v0 v9 v18 v27 v36 v45 v54 v63 k0_t1 = 1#1), ∀ (hinb : ∀ a, (k0_off136 v0 v9 v18 v27 v36 v45 v54 v63 k0_t1) a + S1x1x512x2048.size a ≤ S4x7x512x2048.size a), (Rect.unit (s := S4x7x512x2048) (k0_off136 v0 v9 v18 v27 v36 v45 v54 v63 k0_t1) S1x1x512x2048.size hinb).WholeWords (EltTy.packing .fp8e4m3)) ∧
  (∀ k0_t1 : Fin (k0_t1_loop v0 v9 v18 v27 v36 v45 v54 v63).trips, ∀ a, (k0_off138 v0 v9 v18 v27 v36 v45 v54 v63 k0_t1) a + S1.size a ≤ S8.size a) ∧
  (∀ k0_t1 : Fin (k0_t1_loop v0 v9 v18 v27 v36 v45 v54 v63).trips, ∀ a, (k0_off139 v0 v9 v18 v27 v36 v45 v54 v63 k0_t1) a + S1x1.size a ≤ S4x7.size a) ∧
  (∀ k0_t1 : Fin (k0_t1_loop v0 v9 v18 v27 v36 v45 v54 v63).trips, ∀ a, (k0_off140 v0 v9 v18 v27 v36 v45 v54 v63 k0_t1) a + S1x1x512x2048.size a ≤ S4x7x512x2048.size a) ∧
  (∀ k0_t1 : Fin (k0_t1_loop v0 v9 v18 v27 v36 v45 v54 v63).trips, ∀ (hinb : ∀ a, (k0_off140 v0 v9 v18 v27 v36 v45 v54 v63 k0_t1) a + S1x1x512x2048.size a ≤ S4x7x512x2048.size a), (Rect.unit (s := S4x7x512x2048) (k0_off140 v0 v9 v18 v27 v36 v45 v54 v63 k0_t1) S1x1x512x2048.size hinb).WholeWords (EltTy.packing .fp8e4m3)) ∧
  (∀ k0_t1 : Fin (k0_t1_loop v0 v9 v18 v27 v36 v45 v54 v63).trips, ∀ a, (k0_off142 v0 v9 v18 v27 v36 v45 v54 v63 k0_t1) a + S1x1x512x2048.size a ≤ S4x7x512x2048.size a) ∧
  (∀ k0_t1 : Fin (k0_t1_loop v0 v9 v18 v27 v36 v45 v54 v63).trips, ∀ (k0_h23 : k0_cond23 v0 v9 v18 v27 v36 v45 v54 v63 k0_t1 = 1#1), ∀ a, (k0_off147 v0 v9 v18 v27 v36 v45 v54 v63 k0_t1) a + S1.size a ≤ S8.size a) ∧
  (∀ k0_t1 : Fin (k0_t1_loop v0 v9 v18 v27 v36 v45 v54 v63).trips, ∀ (k0_h23 : k0_cond23 v0 v9 v18 v27 v36 v45 v54 v63 k0_t1 = 1#1), ∀ a, (k0_off148 v0 v9 v18 v27 v36 v45 v54 v63 k0_t1) a + S1x1.size a ≤ S4x7.size a) ∧
  (∀ k0_t1 : Fin (k0_t1_loop v0 v9 v18 v27 v36 v45 v54 v63).trips, ∀ (k0_h23 : k0_cond23 v0 v9 v18 v27 v36 v45 v54 v63 k0_t1 = 1#1), ∀ a, (k0_off149 v0 v9 v18 v27 v36 v45 v54 v63 k0_t1) a + S1x1x512x2048.size a ≤ S4x7x512x2048.size a) ∧
  (∀ k0_t1 : Fin (k0_t1_loop v0 v9 v18 v27 v36 v45 v54 v63).trips, ∀ (k0_h23 : k0_cond23 v0 v9 v18 v27 v36 v45 v54 v63 k0_t1 = 1#1), ∀ (hinb : ∀ a, (k0_off149 v0 v9 v18 v27 v36 v45 v54 v63 k0_t1) a + S1x1x512x2048.size a ≤ S4x7x512x2048.size a), (Rect.unit (s := S4x7x512x2048) (k0_off149 v0 v9 v18 v27 v36 v45 v54 v63 k0_t1) S1x1x512x2048.size hinb).WholeWords (EltTy.packing .fp8e4m3)) ∧
  (∀ k0_t1 : Fin (k0_t1_loop v0 v9 v18 v27 v36 v45 v54 v63).trips, ∀ a, (k0_off151 v0 v9 v18 v27 v36 v45 v54 v63 k0_t1) a + S1.size a ≤ S8.size a) ∧
  (∀ k0_t1 : Fin (k0_t1_loop v0 v9 v18 v27 v36 v45 v54 v63).trips, ∀ a, (k0_off152 v0 v9 v18 v27 v36 v45 v54 v63 k0_t1) a + S1x1.size a ≤ S4x7.size a)
def k0_chk7_1 (v0 : BitVec 32) (v9 : BitVec 32) (v18 : BitVec 32) (v27 : BitVec 32) (v36 : BitVec 32) (v45 : BitVec 32) (v54 : BitVec 32) (v63 : BitVec 32) : Prop :=
  (∀ k0_t1 : Fin (k0_t1_loop v0 v9 v18 v27 v36 v45 v54 v63).trips, ∀ a, (k0_off153 v0 v9 v18 v27 v36 v45 v54 v63 k0_t1) a + S1x1x512x2048.size a ≤ S4x7x512x2048.size a) ∧
  (∀ k0_t1 : Fin (k0_t1_loop v0 v9 v18 v27 v36 v45 v54 v63).trips, ∀ (hinb : ∀ a, (k0_off153 v0 v9 v18 v27 v36 v45 v54 v63 k0_t1) a + S1x1x512x2048.size a ≤ S4x7x512x2048.size a), (Rect.unit (s := S4x7x512x2048) (k0_off153 v0 v9 v18 v27 v36 v45 v54 v63 k0_t1) S1x1x512x2048.size hinb).WholeWords (EltTy.packing .fp8e4m3)) ∧
  (∀ k0_t1 : Fin (k0_t1_loop v0 v9 v18 v27 v36 v45 v54 v63).trips, ∀ a, (k0_off155 v0 v9 v18 v27 v36 v45 v54 v63 k0_t1) a + S1x1x512x2048.size a ≤ S4x7x512x2048.size a) ∧
  (∀ k0_t1 : Fin (k0_t1_loop v0 v9 v18 v27 v36 v45 v54 v63).trips, ∀ (k0_h24 : k0_cond24 v0 v9 v18 v27 v36 v45 v54 v63 k0_t1 = 1#1), ∀ a, (k0_off160 v0 v9 v18 v27 v36 v45 v54 v63 k0_t1) a + S1.size a ≤ S8.size a) ∧
  (∀ k0_t1 : Fin (k0_t1_loop v0 v9 v18 v27 v36 v45 v54 v63).trips, ∀ (k0_h24 : k0_cond24 v0 v9 v18 v27 v36 v45 v54 v63 k0_t1 = 1#1), ∀ a, (k0_off161 v0 v9 v18 v27 v36 v45 v54 v63 k0_t1) a + S1x1.size a ≤ S4x7.size a) ∧
  (∀ k0_t1 : Fin (k0_t1_loop v0 v9 v18 v27 v36 v45 v54 v63).trips, ∀ (k0_h24 : k0_cond24 v0 v9 v18 v27 v36 v45 v54 v63 k0_t1 = 1#1), ∀ a, (k0_off162 v0 v9 v18 v27 v36 v45 v54 v63 k0_t1) a + S1x1x512x2048.size a ≤ S4x7x512x2048.size a) ∧
  (∀ k0_t1 : Fin (k0_t1_loop v0 v9 v18 v27 v36 v45 v54 v63).trips, ∀ (k0_h24 : k0_cond24 v0 v9 v18 v27 v36 v45 v54 v63 k0_t1 = 1#1), ∀ (hinb : ∀ a, (k0_off162 v0 v9 v18 v27 v36 v45 v54 v63 k0_t1) a + S1x1x512x2048.size a ≤ S4x7x512x2048.size a), (Rect.unit (s := S4x7x512x2048) (k0_off162 v0 v9 v18 v27 v36 v45 v54 v63 k0_t1) S1x1x512x2048.size hinb).WholeWords (EltTy.packing .fp8e4m3)) ∧
  (∀ k0_t1 : Fin (k0_t1_loop v0 v9 v18 v27 v36 v45 v54 v63).trips, ∀ a, (k0_off164 v0 v9 v18 v27 v36 v45 v54 v63 k0_t1) a + S1.size a ≤ S8.size a) ∧
  (∀ k0_t1 : Fin (k0_t1_loop v0 v9 v18 v27 v36 v45 v54 v63).trips, ∀ a, (k0_off165 v0 v9 v18 v27 v36 v45 v54 v63 k0_t1) a + S1x1.size a ≤ S4x7.size a) ∧
  (∀ k0_t1 : Fin (k0_t1_loop v0 v9 v18 v27 v36 v45 v54 v63).trips, ∀ a, (k0_off166 v0 v9 v18 v27 v36 v45 v54 v63 k0_t1) a + S1x1x512x2048.size a ≤ S4x7x512x2048.size a) ∧
  (∀ k0_t1 : Fin (k0_t1_loop v0 v9 v18 v27 v36 v45 v54 v63).trips, ∀ (hinb : ∀ a, (k0_off166 v0 v9 v18 v27 v36 v45 v54 v63 k0_t1) a + S1x1x512x2048.size a ≤ S4x7x512x2048.size a), (Rect.unit (s := S4x7x512x2048) (k0_off166 v0 v9 v18 v27 v36 v45 v54 v63 k0_t1) S1x1x512x2048.size hinb).WholeWords (EltTy.packing .fp8e4m3)) ∧
  (∀ k0_t1 : Fin (k0_t1_loop v0 v9 v18 v27 v36 v45 v54 v63).trips, ∀ a, (k0_off168 v0 v9 v18 v27 v36 v45 v54 v63 k0_t1) a + S1x1x512x2048.size a ≤ S4x7x512x2048.size a) ∧
  (∀ k0_t1 : Fin (k0_t1_loop v0 v9 v18 v27 v36 v45 v54 v63).trips, ∀ (k0_h25 : k0_cond25 v0 v9 v18 v27 v36 v45 v54 v63 k0_t1 = 1#1), ∀ a, (k0_off173 v0 v9 v18 v27 v36 v45 v54 v63 k0_t1) a + S1.size a ≤ S8.size a) ∧
  (∀ k0_t1 : Fin (k0_t1_loop v0 v9 v18 v27 v36 v45 v54 v63).trips, ∀ (k0_h25 : k0_cond25 v0 v9 v18 v27 v36 v45 v54 v63 k0_t1 = 1#1), ∀ a, (k0_off174 v0 v9 v18 v27 v36 v45 v54 v63 k0_t1) a + S1x1.size a ≤ S4x7.size a) ∧
  (∀ k0_t1 : Fin (k0_t1_loop v0 v9 v18 v27 v36 v45 v54 v63).trips, ∀ (k0_h25 : k0_cond25 v0 v9 v18 v27 v36 v45 v54 v63 k0_t1 = 1#1), ∀ a, (k0_off175 v0 v9 v18 v27 v36 v45 v54 v63 k0_t1) a + S1x1x512x2048.size a ≤ S4x7x512x2048.size a) ∧
  (∀ k0_t1 : Fin (k0_t1_loop v0 v9 v18 v27 v36 v45 v54 v63).trips, ∀ (k0_h25 : k0_cond25 v0 v9 v18 v27 v36 v45 v54 v63 k0_t1 = 1#1), ∀ (hinb : ∀ a, (k0_off175 v0 v9 v18 v27 v36 v45 v54 v63 k0_t1) a + S1x1x512x2048.size a ≤ S4x7x512x2048.size a), (Rect.unit (s := S4x7x512x2048) (k0_off175 v0 v9 v18 v27 v36 v45 v54 v63 k0_t1) S1x1x512x2048.size hinb).WholeWords (EltTy.packing .fp8e4m3)) ∧
  (∀ k0_t1 : Fin (k0_t1_loop v0 v9 v18 v27 v36 v45 v54 v63).trips, ∀ a, (k0_off177 v0 v9 v18 v27 v36 v45 v54 v63 k0_t1) a + S1.size a ≤ S8.size a) ∧
  (∀ k0_t1 : Fin (k0_t1_loop v0 v9 v18 v27 v36 v45 v54 v63).trips, ∀ a, (k0_off178 v0 v9 v18 v27 v36 v45 v54 v63 k0_t1) a + S1x1.size a ≤ S4x7.size a) ∧
  (∀ k0_t1 : Fin (k0_t1_loop v0 v9 v18 v27 v36 v45 v54 v63).trips, ∀ a, (k0_off179 v0 v9 v18 v27 v36 v45 v54 v63 k0_t1) a + S1x1x512x2048.size a ≤ S4x7x512x2048.size a) ∧
  (∀ k0_t1 : Fin (k0_t1_loop v0 v9 v18 v27 v36 v45 v54 v63).trips, ∀ (hinb : ∀ a, (k0_off179 v0 v9 v18 v27 v36 v45 v54 v63 k0_t1) a + S1x1x512x2048.size a ≤ S4x7x512x2048.size a), (Rect.unit (s := S4x7x512x2048) (k0_off179 v0 v9 v18 v27 v36 v45 v54 v63 k0_t1) S1x1x512x2048.size hinb).WholeWords (EltTy.packing .fp8e4m3)) ∧
  (∀ k0_t1 : Fin (k0_t1_loop v0 v9 v18 v27 v36 v45 v54 v63).trips, ∀ a, (k0_off181 v0 v9 v18 v27 v36 v45 v54 v63 k0_t1) a + S1x1x512x2048.size a ≤ S4x7x512x2048.size a) ∧
  (∀ k0_t1 : Fin (k0_t1_loop v0 v9 v18 v27 v36 v45 v54 v63).trips, ∀ (k0_h26 : k0_cond26 v0 v9 v18 v27 v36 v45 v54 v63 k0_t1 = 1#1), ∀ a, (k0_off186 v0 v9 v18 v27 v36 v45 v54 v63 k0_t1) a + S1.size a ≤ S8.size a) ∧
  (∀ k0_t1 : Fin (k0_t1_loop v0 v9 v18 v27 v36 v45 v54 v63).trips, ∀ (k0_h26 : k0_cond26 v0 v9 v18 v27 v36 v45 v54 v63 k0_t1 = 1#1), ∀ a, (k0_off187 v0 v9 v18 v27 v36 v45 v54 v63 k0_t1) a + S1x1.size a ≤ S4x7.size a) ∧
  (∀ k0_t1 : Fin (k0_t1_loop v0 v9 v18 v27 v36 v45 v54 v63).trips, ∀ (k0_h26 : k0_cond26 v0 v9 v18 v27 v36 v45 v54 v63 k0_t1 = 1#1), ∀ a, (k0_off188 v0 v9 v18 v27 v36 v45 v54 v63 k0_t1) a + S1x1x512x2048.size a ≤ S4x7x512x2048.size a) ∧
  (∀ k0_t1 : Fin (k0_t1_loop v0 v9 v18 v27 v36 v45 v54 v63).trips, ∀ (k0_h26 : k0_cond26 v0 v9 v18 v27 v36 v45 v54 v63 k0_t1 = 1#1), ∀ (hinb : ∀ a, (k0_off188 v0 v9 v18 v27 v36 v45 v54 v63 k0_t1) a + S1x1x512x2048.size a ≤ S4x7x512x2048.size a), (Rect.unit (s := S4x7x512x2048) (k0_off188 v0 v9 v18 v27 v36 v45 v54 v63 k0_t1) S1x1x512x2048.size hinb).WholeWords (EltTy.packing .fp8e4m3)) ∧
  (∀ k0_t1 : Fin (k0_t1_loop v0 v9 v18 v27 v36 v45 v54 v63).trips, ∀ a, (k0_off190 v0 v9 v18 v27 v36 v45 v54 v63 k0_t1) a + S1.size a ≤ S8.size a) ∧
  (∀ k0_t1 : Fin (k0_t1_loop v0 v9 v18 v27 v36 v45 v54 v63).trips, ∀ a, (k0_off191 v0 v9 v18 v27 v36 v45 v54 v63 k0_t1) a + S1x1.size a ≤ S4x7.size a) ∧
  (∀ k0_t1 : Fin (k0_t1_loop v0 v9 v18 v27 v36 v45 v54 v63).trips, ∀ a, (k0_off192 v0 v9 v18 v27 v36 v45 v54 v63 k0_t1) a + S1x1x512x2048.size a ≤ S4x7x512x2048.size a) ∧
  (∀ k0_t1 : Fin (k0_t1_loop v0 v9 v18 v27 v36 v45 v54 v63).trips, ∀ (hinb : ∀ a, (k0_off192 v0 v9 v18 v27 v36 v45 v54 v63 k0_t1) a + S1x1x512x2048.size a ≤ S4x7x512x2048.size a), (Rect.unit (s := S4x7x512x2048) (k0_off192 v0 v9 v18 v27 v36 v45 v54 v63 k0_t1) S1x1x512x2048.size hinb).WholeWords (EltTy.packing .fp8e4m3)) ∧
  (∀ k0_t1 : Fin (k0_t1_loop v0 v9 v18 v27 v36 v45 v54 v63).trips, ∀ a, (k0_off194 v0 v9 v18 v27 v36 v45 v54 v63 k0_t1) a + S1x1x512x2048.size a ≤ S4x7x512x2048.size a) ∧
  (∀ k0_t1 : Fin (k0_t1_loop v0 v9 v18 v27 v36 v45 v54 v63).trips, ∀ (k0_h27 : k0_cond27 v0 v9 v18 v27 v36 v45 v54 v63 k0_t1 = 1#1), ∀ a, (k0_off199 v0 v9 v18 v27 v36 v45 v54 v63 k0_t1) a + S1.size a ≤ S8.size a) ∧
  (∀ k0_t1 : Fin (k0_t1_loop v0 v9 v18 v27 v36 v45 v54 v63).trips, ∀ (k0_h27 : k0_cond27 v0 v9 v18 v27 v36 v45 v54 v63 k0_t1 = 1#1), ∀ a, (k0_off200 v0 v9 v18 v27 v36 v45 v54 v63 k0_t1) a + S1x1.size a ≤ S4x7.size a)
def k0_chk7_2 (v0 : BitVec 32) (v9 : BitVec 32) (v18 : BitVec 32) (v27 : BitVec 32) (v36 : BitVec 32) (v45 : BitVec 32) (v54 : BitVec 32) (v63 : BitVec 32) : Prop :=
  (∀ k0_t1 : Fin (k0_t1_loop v0 v9 v18 v27 v36 v45 v54 v63).trips, ∀ (k0_h27 : k0_cond27 v0 v9 v18 v27 v36 v45 v54 v63 k0_t1 = 1#1), ∀ a, (k0_off201 v0 v9 v18 v27 v36 v45 v54 v63 k0_t1) a + S1x1x512x2048.size a ≤ S4x7x512x2048.size a) ∧
  (∀ k0_t1 : Fin (k0_t1_loop v0 v9 v18 v27 v36 v45 v54 v63).trips, ∀ (k0_h27 : k0_cond27 v0 v9 v18 v27 v36 v45 v54 v63 k0_t1 = 1#1), ∀ (hinb : ∀ a, (k0_off201 v0 v9 v18 v27 v36 v45 v54 v63 k0_t1) a + S1x1x512x2048.size a ≤ S4x7x512x2048.size a), (Rect.unit (s := S4x7x512x2048) (k0_off201 v0 v9 v18 v27 v36 v45 v54 v63 k0_t1) S1x1x512x2048.size hinb).WholeWords (EltTy.packing .fp8e4m3)) ∧
  ((k0_t2_loop v0 v9 v18 v27 v36 v45 v54 v63).OK) ∧
  (∀ k0_t2 : Fin (k0_t2_loop v0 v9 v18 v27 v36 v45 v54 v63).trips, ∀ a, (k0_off203 v0 v9 v18 v27 v36 v45 v54 v63 k0_t2) a + S1.size a ≤ S8.size a) ∧
  (∀ k0_t2 : Fin (k0_t2_loop v0 v9 v18 v27 v36 v45 v54 v63).trips, ∀ a, (k0_off223 v0 v9 v18 v27 v36 v45 v54 v63 k0_t2) a + S1.size a ≤ S8.size a) ∧
  (∀ k0_t2 : Fin (k0_t2_loop v0 v9 v18 v27 v36 v45 v54 v63).trips, ∀ a, (k0_off224 v0 v9 v18 v27 v36 v45 v54 v63 k0_t2) a + S1x1.size a ≤ S4x7.size a) ∧
  (∀ k0_t2 : Fin (k0_t2_loop v0 v9 v18 v27 v36 v45 v54 v63).trips, ∀ a, (k0_off225 v0 v9 v18 v27 v36 v45 v54 v63 k0_t2) a + S1x1x512x2048.size a ≤ S4x7x512x2048.size a) ∧
  (∀ k0_t2 : Fin (k0_t2_loop v0 v9 v18 v27 v36 v45 v54 v63).trips, ∀ (hinb : ∀ a, (k0_off225 v0 v9 v18 v27 v36 v45 v54 v63 k0_t2) a + S1x1x512x2048.size a ≤ S4x7x512x2048.size a), (Rect.unit (s := S4x7x512x2048) (k0_off225 v0 v9 v18 v27 v36 v45 v54 v63 k0_t2) S1x1x512x2048.size hinb).WholeWords (EltTy.packing .fp8e4m3)) ∧
  (∀ k0_t2 : Fin (k0_t2_loop v0 v9 v18 v27 v36 v45 v54 v63).trips, ∀ a, (k0_off227 v0 v9 v18 v27 v36 v45 v54 v63 k0_t2) a + S1x1x512x2048.size a ≤ S4x7x512x2048.size a) ∧
  (∀ k0_t2 : Fin (k0_t2_loop v0 v9 v18 v27 v36 v45 v54 v63).trips, ∀ (k0_h28 : k0_cond28 v0 v9 v18 v27 v36 v45 v54 v63 k0_t2 = 1#1), ∀ a, (k0_off232 v0 v9 v18 v27 v36 v45 v54 v63 k0_t2) a + S1.size a ≤ S8.size a) ∧
  (∀ k0_t2 : Fin (k0_t2_loop v0 v9 v18 v27 v36 v45 v54 v63).trips, ∀ (k0_h28 : k0_cond28 v0 v9 v18 v27 v36 v45 v54 v63 k0_t2 = 1#1), ∀ a, (k0_off233 v0 v9 v18 v27 v36 v45 v54 v63 k0_t2) a + S1x1.size a ≤ S4x7.size a) ∧
  (∀ k0_t2 : Fin (k0_t2_loop v0 v9 v18 v27 v36 v45 v54 v63).trips, ∀ (k0_h28 : k0_cond28 v0 v9 v18 v27 v36 v45 v54 v63 k0_t2 = 1#1), ∀ a, (k0_off234 v0 v9 v18 v27 v36 v45 v54 v63 k0_t2) a + S1x1x512x2048.size a ≤ S4x7x512x2048.size a) ∧
  (∀ k0_t2 : Fin (k0_t2_loop v0 v9 v18 v27 v36 v45 v54 v63).trips, ∀ (k0_h28 : k0_cond28 v0 v9 v18 v27 v36 v45 v54 v63 k0_t2 = 1#1), ∀ (hinb : ∀ a, (k0_off234 v0 v9 v18 v27 v36 v45 v54 v63 k0_t2) a + S1x1x512x2048.size a ≤ S4x7x512x2048.size a), (Rect.unit (s := S4x7x512x2048) (k0_off234 v0 v9 v18 v27 v36 v45 v54 v63 k0_t2) S1x1x512x2048.size hinb).WholeWords (EltTy.packing .fp8e4m3)) ∧
  (∀ k0_t2 : Fin (k0_t2_loop v0 v9 v18 v27 v36 v45 v54 v63).trips, ∀ a, (k0_off236 v0 v9 v18 v27 v36 v45 v54 v63 k0_t2) a + S1.size a ≤ S8.size a) ∧
  (∀ k0_t2 : Fin (k0_t2_loop v0 v9 v18 v27 v36 v45 v54 v63).trips, ∀ a, (k0_off237 v0 v9 v18 v27 v36 v45 v54 v63 k0_t2) a + S1x1.size a ≤ S4x7.size a) ∧
  (∀ k0_t2 : Fin (k0_t2_loop v0 v9 v18 v27 v36 v45 v54 v63).trips, ∀ a, (k0_off238 v0 v9 v18 v27 v36 v45 v54 v63 k0_t2) a + S1x1x512x2048.size a ≤ S4x7x512x2048.size a) ∧
  (∀ k0_t2 : Fin (k0_t2_loop v0 v9 v18 v27 v36 v45 v54 v63).trips, ∀ (hinb : ∀ a, (k0_off238 v0 v9 v18 v27 v36 v45 v54 v63 k0_t2) a + S1x1x512x2048.size a ≤ S4x7x512x2048.size a), (Rect.unit (s := S4x7x512x2048) (k0_off238 v0 v9 v18 v27 v36 v45 v54 v63 k0_t2) S1x1x512x2048.size hinb).WholeWords (EltTy.packing .fp8e4m3)) ∧
  (∀ k0_t2 : Fin (k0_t2_loop v0 v9 v18 v27 v36 v45 v54 v63).trips, ∀ a, (k0_off240 v0 v9 v18 v27 v36 v45 v54 v63 k0_t2) a + S1x1x512x2048.size a ≤ S4x7x512x2048.size a) ∧
  (∀ k0_t2 : Fin (k0_t2_loop v0 v9 v18 v27 v36 v45 v54 v63).trips, ∀ (k0_h29 : k0_cond29 v0 v9 v18 v27 v36 v45 v54 v63 k0_t2 = 1#1), ∀ a, (k0_off245 v0 v9 v18 v27 v36 v45 v54 v63 k0_t2) a + S1.size a ≤ S8.size a) ∧
  (∀ k0_t2 : Fin (k0_t2_loop v0 v9 v18 v27 v36 v45 v54 v63).trips, ∀ (k0_h29 : k0_cond29 v0 v9 v18 v27 v36 v45 v54 v63 k0_t2 = 1#1), ∀ a, (k0_off246 v0 v9 v18 v27 v36 v45 v54 v63 k0_t2) a + S1x1.size a ≤ S4x7.size a) ∧
  (∀ k0_t2 : Fin (k0_t2_loop v0 v9 v18 v27 v36 v45 v54 v63).trips, ∀ (k0_h29 : k0_cond29 v0 v9 v18 v27 v36 v45 v54 v63 k0_t2 = 1#1), ∀ a, (k0_off247 v0 v9 v18 v27 v36 v45 v54 v63 k0_t2) a + S1x1x512x2048.size a ≤ S4x7x512x2048.size a) ∧
  (∀ k0_t2 : Fin (k0_t2_loop v0 v9 v18 v27 v36 v45 v54 v63).trips, ∀ (k0_h29 : k0_cond29 v0 v9 v18 v27 v36 v45 v54 v63 k0_t2 = 1#1), ∀ (hinb : ∀ a, (k0_off247 v0 v9 v18 v27 v36 v45 v54 v63 k0_t2) a + S1x1x512x2048.size a ≤ S4x7x512x2048.size a), (Rect.unit (s := S4x7x512x2048) (k0_off247 v0 v9 v18 v27 v36 v45 v54 v63 k0_t2) S1x1x512x2048.size hinb).WholeWords (EltTy.packing .fp8e4m3)) ∧
  (∀ k0_t2 : Fin (k0_t2_loop v0 v9 v18 v27 v36 v45 v54 v63).trips, ∀ a, (k0_off249 v0 v9 v18 v27 v36 v45 v54 v63 k0_t2) a + S1.size a ≤ S8.size a) ∧
  (∀ k0_t2 : Fin (k0_t2_loop v0 v9 v18 v27 v36 v45 v54 v63).trips, ∀ a, (k0_off250 v0 v9 v18 v27 v36 v45 v54 v63 k0_t2) a + S1x1.size a ≤ S4x7.size a) ∧
  (∀ k0_t2 : Fin (k0_t2_loop v0 v9 v18 v27 v36 v45 v54 v63).trips, ∀ a, (k0_off251 v0 v9 v18 v27 v36 v45 v54 v63 k0_t2) a + S1x1x512x2048.size a ≤ S4x7x512x2048.size a) ∧
  (∀ k0_t2 : Fin (k0_t2_loop v0 v9 v18 v27 v36 v45 v54 v63).trips, ∀ (hinb : ∀ a, (k0_off251 v0 v9 v18 v27 v36 v45 v54 v63 k0_t2) a + S1x1x512x2048.size a ≤ S4x7x512x2048.size a), (Rect.unit (s := S4x7x512x2048) (k0_off251 v0 v9 v18 v27 v36 v45 v54 v63 k0_t2) S1x1x512x2048.size hinb).WholeWords (EltTy.packing .fp8e4m3)) ∧
  (∀ k0_t2 : Fin (k0_t2_loop v0 v9 v18 v27 v36 v45 v54 v63).trips, ∀ a, (k0_off253 v0 v9 v18 v27 v36 v45 v54 v63 k0_t2) a + S1x1x512x2048.size a ≤ S4x7x512x2048.size a) ∧
  (∀ k0_t2 : Fin (k0_t2_loop v0 v9 v18 v27 v36 v45 v54 v63).trips, ∀ (k0_h30 : k0_cond30 v0 v9 v18 v27 v36 v45 v54 v63 k0_t2 = 1#1), ∀ a, (k0_off258 v0 v9 v18 v27 v36 v45 v54 v63 k0_t2) a + S1.size a ≤ S8.size a) ∧
  (∀ k0_t2 : Fin (k0_t2_loop v0 v9 v18 v27 v36 v45 v54 v63).trips, ∀ (k0_h30 : k0_cond30 v0 v9 v18 v27 v36 v45 v54 v63 k0_t2 = 1#1), ∀ a, (k0_off259 v0 v9 v18 v27 v36 v45 v54 v63 k0_t2) a + S1x1.size a ≤ S4x7.size a) ∧
  (∀ k0_t2 : Fin (k0_t2_loop v0 v9 v18 v27 v36 v45 v54 v63).trips, ∀ (k0_h30 : k0_cond30 v0 v9 v18 v27 v36 v45 v54 v63 k0_t2 = 1#1), ∀ a, (k0_off260 v0 v9 v18 v27 v36 v45 v54 v63 k0_t2) a + S1x1x512x2048.size a ≤ S4x7x512x2048.size a) ∧
  (∀ k0_t2 : Fin (k0_t2_loop v0 v9 v18 v27 v36 v45 v54 v63).trips, ∀ (k0_h30 : k0_cond30 v0 v9 v18 v27 v36 v45 v54 v63 k0_t2 = 1#1), ∀ (hinb : ∀ a, (k0_off260 v0 v9 v18 v27 v36 v45 v54 v63 k0_t2) a + S1x1x512x2048.size a ≤ S4x7x512x2048.size a), (Rect.unit (s := S4x7x512x2048) (k0_off260 v0 v9 v18 v27 v36 v45 v54 v63 k0_t2) S1x1x512x2048.size hinb).WholeWords (EltTy.packing .fp8e4m3)) ∧
  (∀ k0_t2 : Fin (k0_t2_loop v0 v9 v18 v27 v36 v45 v54 v63).trips, ∀ a, (k0_off262 v0 v9 v18 v27 v36 v45 v54 v63 k0_t2) a + S1.size a ≤ S8.size a)
def k0_chk7_3 (v0 : BitVec 32) (v9 : BitVec 32) (v18 : BitVec 32) (v27 : BitVec 32) (v36 : BitVec 32) (v45 : BitVec 32) (v54 : BitVec 32) (v63 : BitVec 32) : Prop :=
  (∀ k0_t2 : Fin (k0_t2_loop v0 v9 v18 v27 v36 v45 v54 v63).trips, ∀ a, (k0_off263 v0 v9 v18 v27 v36 v45 v54 v63 k0_t2) a + S1x1.size a ≤ S4x7.size a) ∧
  (∀ k0_t2 : Fin (k0_t2_loop v0 v9 v18 v27 v36 v45 v54 v63).trips, ∀ a, (k0_off264 v0 v9 v18 v27 v36 v45 v54 v63 k0_t2) a + S1x1x512x2048.size a ≤ S4x7x512x2048.size a) ∧
  (∀ k0_t2 : Fin (k0_t2_loop v0 v9 v18 v27 v36 v45 v54 v63).trips, ∀ (hinb : ∀ a, (k0_off264 v0 v9 v18 v27 v36 v45 v54 v63 k0_t2) a + S1x1x512x2048.size a ≤ S4x7x512x2048.size a), (Rect.unit (s := S4x7x512x2048) (k0_off264 v0 v9 v18 v27 v36 v45 v54 v63 k0_t2) S1x1x512x2048.size hinb).WholeWords (EltTy.packing .fp8e4m3)) ∧
  (∀ k0_t2 : Fin (k0_t2_loop v0 v9 v18 v27 v36 v45 v54 v63).trips, ∀ a, (k0_off266 v0 v9 v18 v27 v36 v45 v54 v63 k0_t2) a + S1x1x512x2048.size a ≤ S4x7x512x2048.size a) ∧
  (∀ k0_t2 : Fin (k0_t2_loop v0 v9 v18 v27 v36 v45 v54 v63).trips, ∀ (k0_h31 : k0_cond31 v0 v9 v18 v27 v36 v45 v54 v63 k0_t2 = 1#1), ∀ a, (k0_off271 v0 v9 v18 v27 v36 v45 v54 v63 k0_t2) a + S1.size a ≤ S8.size a) ∧
  (∀ k0_t2 : Fin (k0_t2_loop v0 v9 v18 v27 v36 v45 v54 v63).trips, ∀ (k0_h31 : k0_cond31 v0 v9 v18 v27 v36 v45 v54 v63 k0_t2 = 1#1), ∀ a, (k0_off272 v0 v9 v18 v27 v36 v45 v54 v63 k0_t2) a + S1x1.size a ≤ S4x7.size a) ∧
  (∀ k0_t2 : Fin (k0_t2_loop v0 v9 v18 v27 v36 v45 v54 v63).trips, ∀ (k0_h31 : k0_cond31 v0 v9 v18 v27 v36 v45 v54 v63 k0_t2 = 1#1), ∀ a, (k0_off273 v0 v9 v18 v27 v36 v45 v54 v63 k0_t2) a + S1x1x512x2048.size a ≤ S4x7x512x2048.size a) ∧
  (∀ k0_t2 : Fin (k0_t2_loop v0 v9 v18 v27 v36 v45 v54 v63).trips, ∀ (k0_h31 : k0_cond31 v0 v9 v18 v27 v36 v45 v54 v63 k0_t2 = 1#1), ∀ (hinb : ∀ a, (k0_off273 v0 v9 v18 v27 v36 v45 v54 v63 k0_t2) a + S1x1x512x2048.size a ≤ S4x7x512x2048.size a), (Rect.unit (s := S4x7x512x2048) (k0_off273 v0 v9 v18 v27 v36 v45 v54 v63 k0_t2) S1x1x512x2048.size hinb).WholeWords (EltTy.packing .fp8e4m3)) ∧
  (∀ k0_t2 : Fin (k0_t2_loop v0 v9 v18 v27 v36 v45 v54 v63).trips, ∀ a, (k0_off275 v0 v9 v18 v27 v36 v45 v54 v63 k0_t2) a + S1.size a ≤ S8.size a) ∧
  (∀ k0_t2 : Fin (k0_t2_loop v0 v9 v18 v27 v36 v45 v54 v63).trips, ∀ a, (k0_off276 v0 v9 v18 v27 v36 v45 v54 v63 k0_t2) a + S1x1.size a ≤ S4x7.size a) ∧
  (∀ k0_t2 : Fin (k0_t2_loop v0 v9 v18 v27 v36 v45 v54 v63).trips, ∀ a, (k0_off277 v0 v9 v18 v27 v36 v45 v54 v63 k0_t2) a + S1x1x512x2048.size a ≤ S4x7x512x2048.size a) ∧
  (∀ k0_t2 : Fin (k0_t2_loop v0 v9 v18 v27 v36 v45 v54 v63).trips, ∀ (hinb : ∀ a, (k0_off277 v0 v9 v18 v27 v36 v45 v54 v63 k0_t2) a + S1x1x512x2048.size a ≤ S4x7x512x2048.size a), (Rect.unit (s := S4x7x512x2048) (k0_off277 v0 v9 v18 v27 v36 v45 v54 v63 k0_t2) S1x1x512x2048.size hinb).WholeWords (EltTy.packing .fp8e4m3)) ∧
  (∀ k0_t2 : Fin (k0_t2_loop v0 v9 v18 v27 v36 v45 v54 v63).trips, ∀ a, (k0_off279 v0 v9 v18 v27 v36 v45 v54 v63 k0_t2) a + S1x1x512x2048.size a ≤ S4x7x512x2048.size a) ∧
  (∀ k0_t2 : Fin (k0_t2_loop v0 v9 v18 v27 v36 v45 v54 v63).trips, ∀ (k0_h32 : k0_cond32 v0 v9 v18 v27 v36 v45 v54 v63 k0_t2 = 1#1), ∀ a, (k0_off284 v0 v9 v18 v27 v36 v45 v54 v63 k0_t2) a + S1.size a ≤ S8.size a) ∧
  (∀ k0_t2 : Fin (k0_t2_loop v0 v9 v18 v27 v36 v45 v54 v63).trips, ∀ (k0_h32 : k0_cond32 v0 v9 v18 v27 v36 v45 v54 v63 k0_t2 = 1#1), ∀ a, (k0_off285 v0 v9 v18 v27 v36 v45 v54 v63 k0_t2) a + S1x1.size a ≤ S4x7.size a) ∧
  (∀ k0_t2 : Fin (k0_t2_loop v0 v9 v18 v27 v36 v45 v54 v63).trips, ∀ (k0_h32 : k0_cond32 v0 v9 v18 v27 v36 v45 v54 v63 k0_t2 = 1#1), ∀ a, (k0_off286 v0 v9 v18 v27 v36 v45 v54 v63 k0_t2) a + S1x1x512x2048.size a ≤ S4x7x512x2048.size a) ∧
  (∀ k0_t2 : Fin (k0_t2_loop v0 v9 v18 v27 v36 v45 v54 v63).trips, ∀ (k0_h32 : k0_cond32 v0 v9 v18 v27 v36 v45 v54 v63 k0_t2 = 1#1), ∀ (hinb : ∀ a, (k0_off286 v0 v9 v18 v27 v36 v45 v54 v63 k0_t2) a + S1x1x512x2048.size a ≤ S4x7x512x2048.size a), (Rect.unit (s := S4x7x512x2048) (k0_off286 v0 v9 v18 v27 v36 v45 v54 v63 k0_t2) S1x1x512x2048.size hinb).WholeWords (EltTy.packing .fp8e4m3)) ∧
  (∀ k0_t2 : Fin (k0_t2_loop v0 v9 v18 v27 v36 v45 v54 v63).trips, ∀ a, (k0_off288 v0 v9 v18 v27 v36 v45 v54 v63 k0_t2) a + S1.size a ≤ S8.size a) ∧
  (∀ k0_t2 : Fin (k0_t2_loop v0 v9 v18 v27 v36 v45 v54 v63).trips, ∀ a, (k0_off289 v0 v9 v18 v27 v36 v45 v54 v63 k0_t2) a + S1x1.size a ≤ S4x7.size a) ∧
  (∀ k0_t2 : Fin (k0_t2_loop v0 v9 v18 v27 v36 v45 v54 v63).trips, ∀ a, (k0_off290 v0 v9 v18 v27 v36 v45 v54 v63 k0_t2) a + S1x1x512x2048.size a ≤ S4x7x512x2048.size a) ∧
  (∀ k0_t2 : Fin (k0_t2_loop v0 v9 v18 v27 v36 v45 v54 v63).trips, ∀ (hinb : ∀ a, (k0_off290 v0 v9 v18 v27 v36 v45 v54 v63 k0_t2) a + S1x1x512x2048.size a ≤ S4x7x512x2048.size a), (Rect.unit (s := S4x7x512x2048) (k0_off290 v0 v9 v18 v27 v36 v45 v54 v63 k0_t2) S1x1x512x2048.size hinb).WholeWords (EltTy.packing .fp8e4m3)) ∧
  (∀ k0_t2 : Fin (k0_t2_loop v0 v9 v18 v27 v36 v45 v54 v63).trips, ∀ a, (k0_off292 v0 v9 v18 v27 v36 v45 v54 v63 k0_t2) a + S1x1x512x2048.size a ≤ S4x7x512x2048.size a) ∧
  (∀ k0_t2 : Fin (k0_t2_loop v0 v9 v18 v27 v36 v45 v54 v63).trips, ∀ (k0_h33 : k0_cond33 v0 v9 v18 v27 v36 v45 v54 v63 k0_t2 = 1#1), ∀ a, (k0_off297 v0 v9 v18 v27 v36 v45 v54 v63 k0_t2) a + S1.size a ≤ S8.size a) ∧
  (∀ k0_t2 : Fin (k0_t2_loop v0 v9 v18 v27 v36 v45 v54 v63).trips, ∀ (k0_h33 : k0_cond33 v0 v9 v18 v27 v36 v45 v54 v63 k0_t2 = 1#1), ∀ a, (k0_off298 v0 v9 v18 v27 v36 v45 v54 v63 k0_t2) a + S1x1.size a ≤ S4x7.size a) ∧
  (∀ k0_t2 : Fin (k0_t2_loop v0 v9 v18 v27 v36 v45 v54 v63).trips, ∀ (k0_h33 : k0_cond33 v0 v9 v18 v27 v36 v45 v54 v63 k0_t2 = 1#1), ∀ a, (k0_off299 v0 v9 v18 v27 v36 v45 v54 v63 k0_t2) a + S1x1x512x2048.size a ≤ S4x7x512x2048.size a) ∧
  (∀ k0_t2 : Fin (k0_t2_loop v0 v9 v18 v27 v36 v45 v54 v63).trips, ∀ (k0_h33 : k0_cond33 v0 v9 v18 v27 v36 v45 v54 v63 k0_t2 = 1#1), ∀ (hinb : ∀ a, (k0_off299 v0 v9 v18 v27 v36 v45 v54 v63 k0_t2) a + S1x1x512x2048.size a ≤ S4x7x512x2048.size a), (Rect.unit (s := S4x7x512x2048) (k0_off299 v0 v9 v18 v27 v36 v45 v54 v63 k0_t2) S1x1x512x2048.size hinb).WholeWords (EltTy.packing .fp8e4m3)) ∧
  (∀ k0_t2 : Fin (k0_t2_loop v0 v9 v18 v27 v36 v45 v54 v63).trips, ∀ a, (k0_off301 v0 v9 v18 v27 v36 v45 v54 v63 k0_t2) a + S1.size a ≤ S8.size a) ∧
  (∀ k0_t2 : Fin (k0_t2_loop v0 v9 v18 v27 v36 v45 v54 v63).trips, ∀ a, (k0_off302 v0 v9 v18 v27 v36 v45 v54 v63 k0_t2) a + S1x1.size a ≤ S4x7.size a) ∧
  (∀ k0_t2 : Fin (k0_t2_loop v0 v9 v18 v27 v36 v45 v54 v63).trips, ∀ a, (k0_off303 v0 v9 v18 v27 v36 v45 v54 v63 k0_t2) a + S1x1x512x2048.size a ≤ S4x7x512x2048.size a) ∧
  (∀ k0_t2 : Fin (k0_t2_loop v0 v9 v18 v27 v36 v45 v54 v63).trips, ∀ (hinb : ∀ a, (k0_off303 v0 v9 v18 v27 v36 v45 v54 v63 k0_t2) a + S1x1x512x2048.size a ≤ S4x7x512x2048.size a), (Rect.unit (s := S4x7x512x2048) (k0_off303 v0 v9 v18 v27 v36 v45 v54 v63 k0_t2) S1x1x512x2048.size hinb).WholeWords (EltTy.packing .fp8e4m3)) ∧
  (∀ k0_t2 : Fin (k0_t2_loop v0 v9 v18 v27 v36 v45 v54 v63).trips, ∀ a, (k0_off305 v0 v9 v18 v27 v36 v45 v54 v63 k0_t2) a + S1x1x512x2048.size a ≤ S4x7x512x2048.size a) ∧
  (∀ k0_t2 : Fin (k0_t2_loop v0 v9 v18 v27 v36 v45 v54 v63).trips, ∀ (k0_h34 : k0_cond34 v0 v9 v18 v27 v36 v45 v54 v63 k0_t2 = 1#1), ∀ a, (k0_off310 v0 v9 v18 v27 v36 v45 v54 v63 k0_t2) a + S1.size a ≤ S8.size a)
def k0_chk7_4 (v0 : BitVec 32) (v9 : BitVec 32) (v18 : BitVec 32) (v27 : BitVec 32) (v36 : BitVec 32) (v45 : BitVec 32) (v54 : BitVec 32) (v63 : BitVec 32) : Prop :=
  (∀ k0_t2 : Fin (k0_t2_loop v0 v9 v18 v27 v36 v45 v54 v63).trips, ∀ (k0_h34 : k0_cond34 v0 v9 v18 v27 v36 v45 v54 v63 k0_t2 = 1#1), ∀ a, (k0_off311 v0 v9 v18 v27 v36 v45 v54 v63 k0_t2) a + S1x1.size a ≤ S4x7.size a) ∧
  (∀ k0_t2 : Fin (k0_t2_loop v0 v9 v18 v27 v36 v45 v54 v63).trips, ∀ (k0_h34 : k0_cond34 v0 v9 v18 v27 v36 v45 v54 v63 k0_t2 = 1#1), ∀ a, (k0_off312 v0 v9 v18 v27 v36 v45 v54 v63 k0_t2) a + S1x1x512x2048.size a ≤ S4x7x512x2048.size a) ∧
  (∀ k0_t2 : Fin (k0_t2_loop v0 v9 v18 v27 v36 v45 v54 v63).trips, ∀ (k0_h34 : k0_cond34 v0 v9 v18 v27 v36 v45 v54 v63 k0_t2 = 1#1), ∀ (hinb : ∀ a, (k0_off312 v0 v9 v18 v27 v36 v45 v54 v63 k0_t2) a + S1x1x512x2048.size a ≤ S4x7x512x2048.size a), (Rect.unit (s := S4x7x512x2048) (k0_off312 v0 v9 v18 v27 v36 v45 v54 v63 k0_t2) S1x1x512x2048.size hinb).WholeWords (EltTy.packing .fp8e4m3))
def k0_chk7 (v0 : BitVec 32) (v9 : BitVec 32) (v18 : BitVec 32) (v27 : BitVec 32) (v36 : BitVec 32) (v45 : BitVec 32) (v54 : BitVec 32) (v63 : BitVec 32) : Prop :=
  k0_chk7_0 v0 v9 v18 v27 v36 v45 v54 v63 ∧
  k0_chk7_1 v0 v9 v18 v27 v36 v45 v54 v63 ∧
  k0_chk7_2 v0 v9 v18 v27 v36 v45 v54 v63 ∧
  k0_chk7_3 v0 v9 v18 v27 v36 v45 v54 v63 ∧
  k0_chk7_4 v0 v9 v18 v27 v36 v45 v54 v63
theorem k0_off7_inb : ∀ (v0 : BitVec 32) (v9 : BitVec 32) (v18 : BitVec 32) (v27 : BitVec 32) (v36 : BitVec 32) (v45 : BitVec 32) (v54 : BitVec 32) (v63 : BitVec 32) (k0_hw7 : k0_chk7 v0 v9 v18 v27 v36 v45 v54 v63), ∀ (k0_h15 : k0_cond15 v63 = 1#1), ∀ a, (k0_off7 v0 v9 v18 v27 v36 v45 v54) a + S1.size a ≤ S8.size a := fun v0 v9 v18 v27 v36 v45 v54 v63 k0_hw7 k0_h15 => k0_hw7.1.1 k0_h15
theorem k0_t1_ok : ∀ (v0 : BitVec 32) (v9 : BitVec 32) (v18 : BitVec 32) (v27 : BitVec 32) (v36 : BitVec 32) (v45 : BitVec 32) (v54 : BitVec 32) (v63 : BitVec 32) (k0_hw7 : k0_chk7 v0 v9 v18 v27 v36 v45 v54 v63), (k0_t1_loop v0 v9 v18 v27 v36 v45 v54 v63).OK := fun v0 v9 v18 v27 v36 v45 v54 v63 k0_hw7 => k0_hw7.1.2.1
theorem k0_off92_inb : ∀ (v0 : BitVec 32) (v9 : BitVec 32) (v18 : BitVec 32) (v27 : BitVec 32) (v36 : BitVec 32) (v45 : BitVec 32) (v54 : BitVec 32) (v63 : BitVec 32) (k0_hw7 : k0_chk7 v0 v9 v18 v27 v36 v45 v54 v63) (k0_t1 : Fin (k0_t1_loop v0 v9 v18 v27 v36 v45 v54 v63).trips), ∀ a, (k0_off92 v0 v9 v18 v27 v36 v45 v54 v63 k0_t1) a + S1.size a ≤ S8.size a := fun v0 v9 v18 v27 v36 v45 v54 v63 k0_hw7 k0_t1 => k0_hw7.1.2.2.1 k0_t1
theorem k0_off112_inb : ∀ (v0 : BitVec 32) (v9 : BitVec 32) (v18 : BitVec 32) (v27 : BitVec 32) (v36 : BitVec 32) (v45 : BitVec 32) (v54 : BitVec 32) (v63 : BitVec 32) (k0_hw7 : k0_chk7 v0 v9 v18 v27 v36 v45 v54 v63) (k0_t1 : Fin (k0_t1_loop v0 v9 v18 v27 v36 v45 v54 v63).trips), ∀ a, (k0_off112 v0 v9 v18 v27 v36 v45 v54 v63 k0_t1) a + S1.size a ≤ S8.size a := fun v0 v9 v18 v27 v36 v45 v54 v63 k0_hw7 k0_t1 => k0_hw7.1.2.2.2.1 k0_t1
theorem k0_off113_inb : ∀ (v0 : BitVec 32) (v9 : BitVec 32) (v18 : BitVec 32) (v27 : BitVec 32) (v36 : BitVec 32) (v45 : BitVec 32) (v54 : BitVec 32) (v63 : BitVec 32) (k0_hw7 : k0_chk7 v0 v9 v18 v27 v36 v45 v54 v63) (k0_t1 : Fin (k0_t1_loop v0 v9 v18 v27 v36 v45 v54 v63).trips), ∀ a, (k0_off113 v0 v9 v18 v27 v36 v45 v54 v63 k0_t1) a + S1x1.size a ≤ S4x7.size a := fun v0 v9 v18 v27 v36 v45 v54 v63 k0_hw7 k0_t1 => k0_hw7.1.2.2.2.2.1 k0_t1
theorem k0_off114_inb : ∀ (v0 : BitVec 32) (v9 : BitVec 32) (v18 : BitVec 32) (v27 : BitVec 32) (v36 : BitVec 32) (v45 : BitVec 32) (v54 : BitVec 32) (v63 : BitVec 32) (k0_hw7 : k0_chk7 v0 v9 v18 v27 v36 v45 v54 v63) (k0_t1 : Fin (k0_t1_loop v0 v9 v18 v27 v36 v45 v54 v63).trips), ∀ a, (k0_off114 v0 v9 v18 v27 v36 v45 v54 v63 k0_t1) a + S1x1x512x2048.size a ≤ S4x7x512x2048.size a := fun v0 v9 v18 v27 v36 v45 v54 v63 k0_hw7 k0_t1 => k0_hw7.1.2.2.2.2.2.1 k0_t1
theorem k0_off114_wordsfp8e4m3 : ∀ (v0 : BitVec 32) (v9 : BitVec 32) (v18 : BitVec 32) (v27 : BitVec 32) (v36 : BitVec 32) (v45 : BitVec 32) (v54 : BitVec 32) (v63 : BitVec 32) (k0_hw7 : k0_chk7 v0 v9 v18 v27 v36 v45 v54 v63) (k0_t1 : Fin (k0_t1_loop v0 v9 v18 v27 v36 v45 v54 v63).trips), (Rect.unit (s := S4x7x512x2048) (k0_off114 v0 v9 v18 v27 v36 v45 v54 v63 k0_t1) S1x1x512x2048.size (k0_off114_inb v0 v9 v18 v27 v36 v45 v54 v63 k0_hw7 k0_t1)).WholeWords (EltTy.packing .fp8e4m3) := fun v0 v9 v18 v27 v36 v45 v54 v63 k0_hw7 k0_t1 => k0_hw7.1.2.2.2.2.2.2.1 k0_t1 (k0_off114_inb v0 v9 v18 v27 v36 v45 v54 v63 k0_hw7 k0_t1)
theorem k0_off116_inb : ∀ (v0 : BitVec 32) (v9 : BitVec 32) (v18 : BitVec 32) (v27 : BitVec 32) (v36 : BitVec 32) (v45 : BitVec 32) (v54 : BitVec 32) (v63 : BitVec 32) (k0_hw7 : k0_chk7 v0 v9 v18 v27 v36 v45 v54 v63) (k0_t1 : Fin (k0_t1_loop v0 v9 v18 v27 v36 v45 v54 v63).trips), ∀ a, (k0_off116 v0 v9 v18 v27 v36 v45 v54 v63 k0_t1) a + S1x1x512x2048.size a ≤ S4x7x512x2048.size a := fun v0 v9 v18 v27 v36 v45 v54 v63 k0_hw7 k0_t1 => k0_hw7.1.2.2.2.2.2.2.2.1 k0_t1
theorem k0_off121_inb : ∀ (v0 : BitVec 32) (v9 : BitVec 32) (v18 : BitVec 32) (v27 : BitVec 32) (v36 : BitVec 32) (v45 : BitVec 32) (v54 : BitVec 32) (v63 : BitVec 32) (k0_hw7 : k0_chk7 v0 v9 v18 v27 v36 v45 v54 v63) (k0_t1 : Fin (k0_t1_loop v0 v9 v18 v27 v36 v45 v54 v63).trips), ∀ (k0_h21 : k0_cond21 v0 v9 v18 v27 v36 v45 v54 v63 k0_t1 = 1#1), ∀ a, (k0_off121 v0 v9 v18 v27 v36 v45 v54 v63 k0_t1) a + S1.size a ≤ S8.size a := fun v0 v9 v18 v27 v36 v45 v54 v63 k0_hw7 k0_t1 k0_h21 => k0_hw7.1.2.2.2.2.2.2.2.2.1 k0_t1 k0_h21
theorem k0_off122_inb : ∀ (v0 : BitVec 32) (v9 : BitVec 32) (v18 : BitVec 32) (v27 : BitVec 32) (v36 : BitVec 32) (v45 : BitVec 32) (v54 : BitVec 32) (v63 : BitVec 32) (k0_hw7 : k0_chk7 v0 v9 v18 v27 v36 v45 v54 v63) (k0_t1 : Fin (k0_t1_loop v0 v9 v18 v27 v36 v45 v54 v63).trips), ∀ (k0_h21 : k0_cond21 v0 v9 v18 v27 v36 v45 v54 v63 k0_t1 = 1#1), ∀ a, (k0_off122 v0 v9 v18 v27 v36 v45 v54 v63 k0_t1) a + S1x1.size a ≤ S4x7.size a := fun v0 v9 v18 v27 v36 v45 v54 v63 k0_hw7 k0_t1 k0_h21 => k0_hw7.1.2.2.2.2.2.2.2.2.2.1 k0_t1 k0_h21
theorem k0_off123_inb : ∀ (v0 : BitVec 32) (v9 : BitVec 32) (v18 : BitVec 32) (v27 : BitVec 32) (v36 : BitVec 32) (v45 : BitVec 32) (v54 : BitVec 32) (v63 : BitVec 32) (k0_hw7 : k0_chk7 v0 v9 v18 v27 v36 v45 v54 v63) (k0_t1 : Fin (k0_t1_loop v0 v9 v18 v27 v36 v45 v54 v63).trips), ∀ (k0_h21 : k0_cond21 v0 v9 v18 v27 v36 v45 v54 v63 k0_t1 = 1#1), ∀ a, (k0_off123 v0 v9 v18 v27 v36 v45 v54 v63 k0_t1) a + S1x1x512x2048.size a ≤ S4x7x512x2048.size a := fun v0 v9 v18 v27 v36 v45 v54 v63 k0_hw7 k0_t1 k0_h21 => k0_hw7.1.2.2.2.2.2.2.2.2.2.2.1 k0_t1 k0_h21
theorem k0_off123_wordsfp8e4m3 : ∀ (v0 : BitVec 32) (v9 : BitVec 32) (v18 : BitVec 32) (v27 : BitVec 32) (v36 : BitVec 32) (v45 : BitVec 32) (v54 : BitVec 32) (v63 : BitVec 32) (k0_hw7 : k0_chk7 v0 v9 v18 v27 v36 v45 v54 v63) (k0_t1 : Fin (k0_t1_loop v0 v9 v18 v27 v36 v45 v54 v63).trips), ∀ (k0_h21 : k0_cond21 v0 v9 v18 v27 v36 v45 v54 v63 k0_t1 = 1#1), (Rect.unit (s := S4x7x512x2048) (k0_off123 v0 v9 v18 v27 v36 v45 v54 v63 k0_t1) S1x1x512x2048.size (k0_off123_inb v0 v9 v18 v27 v36 v45 v54 v63 k0_hw7 k0_t1 k0_h21)).WholeWords (EltTy.packing .fp8e4m3) := fun v0 v9 v18 v27 v36 v45 v54 v63 k0_hw7 k0_t1 k0_h21 => k0_hw7.1.2.2.2.2.2.2.2.2.2.2.2.1 k0_t1 k0_h21 (k0_off123_inb v0 v9 v18 v27 v36 v45 v54 v63 k0_hw7 k0_t1 k0_h21)
theorem k0_off125_inb : ∀ (v0 : BitVec 32) (v9 : BitVec 32) (v18 : BitVec 32) (v27 : BitVec 32) (v36 : BitVec 32) (v45 : BitVec 32) (v54 : BitVec 32) (v63 : BitVec 32) (k0_hw7 : k0_chk7 v0 v9 v18 v27 v36 v45 v54 v63) (k0_t1 : Fin (k0_t1_loop v0 v9 v18 v27 v36 v45 v54 v63).trips), ∀ a, (k0_off125 v0 v9 v18 v27 v36 v45 v54 v63 k0_t1) a + S1.size a ≤ S8.size a := fun v0 v9 v18 v27 v36 v45 v54 v63 k0_hw7 k0_t1 => k0_hw7.1.2.2.2.2.2.2.2.2.2.2.2.2.1 k0_t1
theorem k0_off126_inb : ∀ (v0 : BitVec 32) (v9 : BitVec 32) (v18 : BitVec 32) (v27 : BitVec 32) (v36 : BitVec 32) (v45 : BitVec 32) (v54 : BitVec 32) (v63 : BitVec 32) (k0_hw7 : k0_chk7 v0 v9 v18 v27 v36 v45 v54 v63) (k0_t1 : Fin (k0_t1_loop v0 v9 v18 v27 v36 v45 v54 v63).trips), ∀ a, (k0_off126 v0 v9 v18 v27 v36 v45 v54 v63 k0_t1) a + S1x1.size a ≤ S4x7.size a := fun v0 v9 v18 v27 v36 v45 v54 v63 k0_hw7 k0_t1 => k0_hw7.1.2.2.2.2.2.2.2.2.2.2.2.2.2.1 k0_t1
theorem k0_off127_inb : ∀ (v0 : BitVec 32) (v9 : BitVec 32) (v18 : BitVec 32) (v27 : BitVec 32) (v36 : BitVec 32) (v45 : BitVec 32) (v54 : BitVec 32) (v63 : BitVec 32) (k0_hw7 : k0_chk7 v0 v9 v18 v27 v36 v45 v54 v63) (k0_t1 : Fin (k0_t1_loop v0 v9 v18 v27 v36 v45 v54 v63).trips), ∀ a, (k0_off127 v0 v9 v18 v27 v36 v45 v54 v63 k0_t1) a + S1x1x512x2048.size a ≤ S4x7x512x2048.size a := fun v0 v9 v18 v27 v36 v45 v54 v63 k0_hw7 k0_t1 => k0_hw7.1.2.2.2.2.2.2.2.2.2.2.2.2.2.2.1 k0_t1
theorem k0_off127_wordsfp8e4m3 : ∀ (v0 : BitVec 32) (v9 : BitVec 32) (v18 : BitVec 32) (v27 : BitVec 32) (v36 : BitVec 32) (v45 : BitVec 32) (v54 : BitVec 32) (v63 : BitVec 32) (k0_hw7 : k0_chk7 v0 v9 v18 v27 v36 v45 v54 v63) (k0_t1 : Fin (k0_t1_loop v0 v9 v18 v27 v36 v45 v54 v63).trips), (Rect.unit (s := S4x7x512x2048) (k0_off127 v0 v9 v18 v27 v36 v45 v54 v63 k0_t1) S1x1x512x2048.size (k0_off127_inb v0 v9 v18 v27 v36 v45 v54 v63 k0_hw7 k0_t1)).WholeWords (EltTy.packing .fp8e4m3) := fun v0 v9 v18 v27 v36 v45 v54 v63 k0_hw7 k0_t1 => k0_hw7.1.2.2.2.2.2.2.2.2.2.2.2.2.2.2.2.1 k0_t1 (k0_off127_inb v0 v9 v18 v27 v36 v45 v54 v63 k0_hw7 k0_t1)
theorem k0_off129_inb : ∀ (v0 : BitVec 32) (v9 : BitVec 32) (v18 : BitVec 32) (v27 : BitVec 32) (v36 : BitVec 32) (v45 : BitVec 32) (v54 : BitVec 32) (v63 : BitVec 32) (k0_hw7 : k0_chk7 v0 v9 v18 v27 v36 v45 v54 v63) (k0_t1 : Fin (k0_t1_loop v0 v9 v18 v27 v36 v45 v54 v63).trips), ∀ a, (k0_off129 v0 v9 v18 v27 v36 v45 v54 v63 k0_t1) a + S1x1x512x2048.size a ≤ S4x7x512x2048.size a := fun v0 v9 v18 v27 v36 v45 v54 v63 k0_hw7 k0_t1 => k0_hw7.1.2.2.2.2.2.2.2.2.2.2.2.2.2.2.2.2.1 k0_t1
theorem k0_off134_inb : ∀ (v0 : BitVec 32) (v9 : BitVec 32) (v18 : BitVec 32) (v27 : BitVec 32) (v36 : BitVec 32) (v45 : BitVec 32) (v54 : BitVec 32) (v63 : BitVec 32) (k0_hw7 : k0_chk7 v0 v9 v18 v27 v36 v45 v54 v63) (k0_t1 : Fin (k0_t1_loop v0 v9 v18 v27 v36 v45 v54 v63).trips), ∀ (k0_h22 : k0_cond22 v0 v9 v18 v27 v36 v45 v54 v63 k0_t1 = 1#1), ∀ a, (k0_off134 v0 v9 v18 v27 v36 v45 v54 v63 k0_t1) a + S1.size a ≤ S8.size a := fun v0 v9 v18 v27 v36 v45 v54 v63 k0_hw7 k0_t1 k0_h22 => k0_hw7.1.2.2.2.2.2.2.2.2.2.2.2.2.2.2.2.2.2.1 k0_t1 k0_h22
theorem k0_off135_inb : ∀ (v0 : BitVec 32) (v9 : BitVec 32) (v18 : BitVec 32) (v27 : BitVec 32) (v36 : BitVec 32) (v45 : BitVec 32) (v54 : BitVec 32) (v63 : BitVec 32) (k0_hw7 : k0_chk7 v0 v9 v18 v27 v36 v45 v54 v63) (k0_t1 : Fin (k0_t1_loop v0 v9 v18 v27 v36 v45 v54 v63).trips), ∀ (k0_h22 : k0_cond22 v0 v9 v18 v27 v36 v45 v54 v63 k0_t1 = 1#1), ∀ a, (k0_off135 v0 v9 v18 v27 v36 v45 v54 v63 k0_t1) a + S1x1.size a ≤ S4x7.size a := fun v0 v9 v18 v27 v36 v45 v54 v63 k0_hw7 k0_t1 k0_h22 => k0_hw7.1.2.2.2.2.2.2.2.2.2.2.2.2.2.2.2.2.2.2.1 k0_t1 k0_h22
theorem k0_off136_inb : ∀ (v0 : BitVec 32) (v9 : BitVec 32) (v18 : BitVec 32) (v27 : BitVec 32) (v36 : BitVec 32) (v45 : BitVec 32) (v54 : BitVec 32) (v63 : BitVec 32) (k0_hw7 : k0_chk7 v0 v9 v18 v27 v36 v45 v54 v63) (k0_t1 : Fin (k0_t1_loop v0 v9 v18 v27 v36 v45 v54 v63).trips), ∀ (k0_h22 : k0_cond22 v0 v9 v18 v27 v36 v45 v54 v63 k0_t1 = 1#1), ∀ a, (k0_off136 v0 v9 v18 v27 v36 v45 v54 v63 k0_t1) a + S1x1x512x2048.size a ≤ S4x7x512x2048.size a := fun v0 v9 v18 v27 v36 v45 v54 v63 k0_hw7 k0_t1 k0_h22 => k0_hw7.1.2.2.2.2.2.2.2.2.2.2.2.2.2.2.2.2.2.2.2.1 k0_t1 k0_h22
theorem k0_off136_wordsfp8e4m3 : ∀ (v0 : BitVec 32) (v9 : BitVec 32) (v18 : BitVec 32) (v27 : BitVec 32) (v36 : BitVec 32) (v45 : BitVec 32) (v54 : BitVec 32) (v63 : BitVec 32) (k0_hw7 : k0_chk7 v0 v9 v18 v27 v36 v45 v54 v63) (k0_t1 : Fin (k0_t1_loop v0 v9 v18 v27 v36 v45 v54 v63).trips), ∀ (k0_h22 : k0_cond22 v0 v9 v18 v27 v36 v45 v54 v63 k0_t1 = 1#1), (Rect.unit (s := S4x7x512x2048) (k0_off136 v0 v9 v18 v27 v36 v45 v54 v63 k0_t1) S1x1x512x2048.size (k0_off136_inb v0 v9 v18 v27 v36 v45 v54 v63 k0_hw7 k0_t1 k0_h22)).WholeWords (EltTy.packing .fp8e4m3) := fun v0 v9 v18 v27 v36 v45 v54 v63 k0_hw7 k0_t1 k0_h22 => k0_hw7.1.2.2.2.2.2.2.2.2.2.2.2.2.2.2.2.2.2.2.2.2.1 k0_t1 k0_h22 (k0_off136_inb v0 v9 v18 v27 v36 v45 v54 v63 k0_hw7 k0_t1 k0_h22)
theorem k0_off138_inb : ∀ (v0 : BitVec 32) (v9 : BitVec 32) (v18 : BitVec 32) (v27 : BitVec 32) (v36 : BitVec 32) (v45 : BitVec 32) (v54 : BitVec 32) (v63 : BitVec 32) (k0_hw7 : k0_chk7 v0 v9 v18 v27 v36 v45 v54 v63) (k0_t1 : Fin (k0_t1_loop v0 v9 v18 v27 v36 v45 v54 v63).trips), ∀ a, (k0_off138 v0 v9 v18 v27 v36 v45 v54 v63 k0_t1) a + S1.size a ≤ S8.size a := fun v0 v9 v18 v27 v36 v45 v54 v63 k0_hw7 k0_t1 => k0_hw7.1.2.2.2.2.2.2.2.2.2.2.2.2.2.2.2.2.2.2.2.2.2.1 k0_t1
theorem k0_off139_inb : ∀ (v0 : BitVec 32) (v9 : BitVec 32) (v18 : BitVec 32) (v27 : BitVec 32) (v36 : BitVec 32) (v45 : BitVec 32) (v54 : BitVec 32) (v63 : BitVec 32) (k0_hw7 : k0_chk7 v0 v9 v18 v27 v36 v45 v54 v63) (k0_t1 : Fin (k0_t1_loop v0 v9 v18 v27 v36 v45 v54 v63).trips), ∀ a, (k0_off139 v0 v9 v18 v27 v36 v45 v54 v63 k0_t1) a + S1x1.size a ≤ S4x7.size a := fun v0 v9 v18 v27 v36 v45 v54 v63 k0_hw7 k0_t1 => k0_hw7.1.2.2.2.2.2.2.2.2.2.2.2.2.2.2.2.2.2.2.2.2.2.2.1 k0_t1
theorem k0_off140_inb : ∀ (v0 : BitVec 32) (v9 : BitVec 32) (v18 : BitVec 32) (v27 : BitVec 32) (v36 : BitVec 32) (v45 : BitVec 32) (v54 : BitVec 32) (v63 : BitVec 32) (k0_hw7 : k0_chk7 v0 v9 v18 v27 v36 v45 v54 v63) (k0_t1 : Fin (k0_t1_loop v0 v9 v18 v27 v36 v45 v54 v63).trips), ∀ a, (k0_off140 v0 v9 v18 v27 v36 v45 v54 v63 k0_t1) a + S1x1x512x2048.size a ≤ S4x7x512x2048.size a := fun v0 v9 v18 v27 v36 v45 v54 v63 k0_hw7 k0_t1 => k0_hw7.1.2.2.2.2.2.2.2.2.2.2.2.2.2.2.2.2.2.2.2.2.2.2.2.1 k0_t1
theorem k0_off140_wordsfp8e4m3 : ∀ (v0 : BitVec 32) (v9 : BitVec 32) (v18 : BitVec 32) (v27 : BitVec 32) (v36 : BitVec 32) (v45 : BitVec 32) (v54 : BitVec 32) (v63 : BitVec 32) (k0_hw7 : k0_chk7 v0 v9 v18 v27 v36 v45 v54 v63) (k0_t1 : Fin (k0_t1_loop v0 v9 v18 v27 v36 v45 v54 v63).trips), (Rect.unit (s := S4x7x512x2048) (k0_off140 v0 v9 v18 v27 v36 v45 v54 v63 k0_t1) S1x1x512x2048.size (k0_off140_inb v0 v9 v18 v27 v36 v45 v54 v63 k0_hw7 k0_t1)).WholeWords (EltTy.packing .fp8e4m3) := fun v0 v9 v18 v27 v36 v45 v54 v63 k0_hw7 k0_t1 => k0_hw7.1.2.2.2.2.2.2.2.2.2.2.2.2.2.2.2.2.2.2.2.2.2.2.2.2.1 k0_t1 (k0_off140_inb v0 v9 v18 v27 v36 v45 v54 v63 k0_hw7 k0_t1)
theorem k0_off142_inb : ∀ (v0 : BitVec 32) (v9 : BitVec 32) (v18 : BitVec 32) (v27 : BitVec 32) (v36 : BitVec 32) (v45 : BitVec 32) (v54 : BitVec 32) (v63 : BitVec 32) (k0_hw7 : k0_chk7 v0 v9 v18 v27 v36 v45 v54 v63) (k0_t1 : Fin (k0_t1_loop v0 v9 v18 v27 v36 v45 v54 v63).trips), ∀ a, (k0_off142 v0 v9 v18 v27 v36 v45 v54 v63 k0_t1) a + S1x1x512x2048.size a ≤ S4x7x512x2048.size a := fun v0 v9 v18 v27 v36 v45 v54 v63 k0_hw7 k0_t1 => k0_hw7.1.2.2.2.2.2.2.2.2.2.2.2.2.2.2.2.2.2.2.2.2.2.2.2.2.2.1 k0_t1
theorem k0_off147_inb : ∀ (v0 : BitVec 32) (v9 : BitVec 32) (v18 : BitVec 32) (v27 : BitVec 32) (v36 : BitVec 32) (v45 : BitVec 32) (v54 : BitVec 32) (v63 : BitVec 32) (k0_hw7 : k0_chk7 v0 v9 v18 v27 v36 v45 v54 v63) (k0_t1 : Fin (k0_t1_loop v0 v9 v18 v27 v36 v45 v54 v63).trips), ∀ (k0_h23 : k0_cond23 v0 v9 v18 v27 v36 v45 v54 v63 k0_t1 = 1#1), ∀ a, (k0_off147 v0 v9 v18 v27 v36 v45 v54 v63 k0_t1) a + S1.size a ≤ S8.size a := fun v0 v9 v18 v27 v36 v45 v54 v63 k0_hw7 k0_t1 k0_h23 => k0_hw7.1.2.2.2.2.2.2.2.2.2.2.2.2.2.2.2.2.2.2.2.2.2.2.2.2.2.2.1 k0_t1 k0_h23
theorem k0_off148_inb : ∀ (v0 : BitVec 32) (v9 : BitVec 32) (v18 : BitVec 32) (v27 : BitVec 32) (v36 : BitVec 32) (v45 : BitVec 32) (v54 : BitVec 32) (v63 : BitVec 32) (k0_hw7 : k0_chk7 v0 v9 v18 v27 v36 v45 v54 v63) (k0_t1 : Fin (k0_t1_loop v0 v9 v18 v27 v36 v45 v54 v63).trips), ∀ (k0_h23 : k0_cond23 v0 v9 v18 v27 v36 v45 v54 v63 k0_t1 = 1#1), ∀ a, (k0_off148 v0 v9 v18 v27 v36 v45 v54 v63 k0_t1) a + S1x1.size a ≤ S4x7.size a := fun v0 v9 v18 v27 v36 v45 v54 v63 k0_hw7 k0_t1 k0_h23 => k0_hw7.1.2.2.2.2.2.2.2.2.2.2.2.2.2.2.2.2.2.2.2.2.2.2.2.2.2.2.2.1 k0_t1 k0_h23
theorem k0_off149_inb : ∀ (v0 : BitVec 32) (v9 : BitVec 32) (v18 : BitVec 32) (v27 : BitVec 32) (v36 : BitVec 32) (v45 : BitVec 32) (v54 : BitVec 32) (v63 : BitVec 32) (k0_hw7 : k0_chk7 v0 v9 v18 v27 v36 v45 v54 v63) (k0_t1 : Fin (k0_t1_loop v0 v9 v18 v27 v36 v45 v54 v63).trips), ∀ (k0_h23 : k0_cond23 v0 v9 v18 v27 v36 v45 v54 v63 k0_t1 = 1#1), ∀ a, (k0_off149 v0 v9 v18 v27 v36 v45 v54 v63 k0_t1) a + S1x1x512x2048.size a ≤ S4x7x512x2048.size a := fun v0 v9 v18 v27 v36 v45 v54 v63 k0_hw7 k0_t1 k0_h23 => k0_hw7.1.2.2.2.2.2.2.2.2.2.2.2.2.2.2.2.2.2.2.2.2.2.2.2.2.2.2.2.2.1 k0_t1 k0_h23
theorem k0_off149_wordsfp8e4m3 : ∀ (v0 : BitVec 32) (v9 : BitVec 32) (v18 : BitVec 32) (v27 : BitVec 32) (v36 : BitVec 32) (v45 : BitVec 32) (v54 : BitVec 32) (v63 : BitVec 32) (k0_hw7 : k0_chk7 v0 v9 v18 v27 v36 v45 v54 v63) (k0_t1 : Fin (k0_t1_loop v0 v9 v18 v27 v36 v45 v54 v63).trips), ∀ (k0_h23 : k0_cond23 v0 v9 v18 v27 v36 v45 v54 v63 k0_t1 = 1#1), (Rect.unit (s := S4x7x512x2048) (k0_off149 v0 v9 v18 v27 v36 v45 v54 v63 k0_t1) S1x1x512x2048.size (k0_off149_inb v0 v9 v18 v27 v36 v45 v54 v63 k0_hw7 k0_t1 k0_h23)).WholeWords (EltTy.packing .fp8e4m3) := fun v0 v9 v18 v27 v36 v45 v54 v63 k0_hw7 k0_t1 k0_h23 => k0_hw7.1.2.2.2.2.2.2.2.2.2.2.2.2.2.2.2.2.2.2.2.2.2.2.2.2.2.2.2.2.2.1 k0_t1 k0_h23 (k0_off149_inb v0 v9 v18 v27 v36 v45 v54 v63 k0_hw7 k0_t1 k0_h23)
theorem k0_off151_inb : ∀ (v0 : BitVec 32) (v9 : BitVec 32) (v18 : BitVec 32) (v27 : BitVec 32) (v36 : BitVec 32) (v45 : BitVec 32) (v54 : BitVec 32) (v63 : BitVec 32) (k0_hw7 : k0_chk7 v0 v9 v18 v27 v36 v45 v54 v63) (k0_t1 : Fin (k0_t1_loop v0 v9 v18 v27 v36 v45 v54 v63).trips), ∀ a, (k0_off151 v0 v9 v18 v27 v36 v45 v54 v63 k0_t1) a + S1.size a ≤ S8.size a := fun v0 v9 v18 v27 v36 v45 v54 v63 k0_hw7 k0_t1 => k0_hw7.1.2.2.2.2.2.2.2.2.2.2.2.2.2.2.2.2.2.2.2.2.2.2.2.2.2.2.2.2.2.2.1 k0_t1
theorem k0_off152_inb : ∀ (v0 : BitVec 32) (v9 : BitVec 32) (v18 : BitVec 32) (v27 : BitVec 32) (v36 : BitVec 32) (v45 : BitVec 32) (v54 : BitVec 32) (v63 : BitVec 32) (k0_hw7 : k0_chk7 v0 v9 v18 v27 v36 v45 v54 v63) (k0_t1 : Fin (k0_t1_loop v0 v9 v18 v27 v36 v45 v54 v63).trips), ∀ a, (k0_off152 v0 v9 v18 v27 v36 v45 v54 v63 k0_t1) a + S1x1.size a ≤ S4x7.size a := fun v0 v9 v18 v27 v36 v45 v54 v63 k0_hw7 k0_t1 => k0_hw7.1.2.2.2.2.2.2.2.2.2.2.2.2.2.2.2.2.2.2.2.2.2.2.2.2.2.2.2.2.2.2.2 k0_t1
theorem k0_off153_inb : ∀ (v0 : BitVec 32) (v9 : BitVec 32) (v18 : BitVec 32) (v27 : BitVec 32) (v36 : BitVec 32) (v45 : BitVec 32) (v54 : BitVec 32) (v63 : BitVec 32) (k0_hw7 : k0_chk7 v0 v9 v18 v27 v36 v45 v54 v63) (k0_t1 : Fin (k0_t1_loop v0 v9 v18 v27 v36 v45 v54 v63).trips), ∀ a, (k0_off153 v0 v9 v18 v27 v36 v45 v54 v63 k0_t1) a + S1x1x512x2048.size a ≤ S4x7x512x2048.size a := fun v0 v9 v18 v27 v36 v45 v54 v63 k0_hw7 k0_t1 => k0_hw7.2.1.1 k0_t1
theorem k0_off153_wordsfp8e4m3 : ∀ (v0 : BitVec 32) (v9 : BitVec 32) (v18 : BitVec 32) (v27 : BitVec 32) (v36 : BitVec 32) (v45 : BitVec 32) (v54 : BitVec 32) (v63 : BitVec 32) (k0_hw7 : k0_chk7 v0 v9 v18 v27 v36 v45 v54 v63) (k0_t1 : Fin (k0_t1_loop v0 v9 v18 v27 v36 v45 v54 v63).trips), (Rect.unit (s := S4x7x512x2048) (k0_off153 v0 v9 v18 v27 v36 v45 v54 v63 k0_t1) S1x1x512x2048.size (k0_off153_inb v0 v9 v18 v27 v36 v45 v54 v63 k0_hw7 k0_t1)).WholeWords (EltTy.packing .fp8e4m3) := fun v0 v9 v18 v27 v36 v45 v54 v63 k0_hw7 k0_t1 => k0_hw7.2.1.2.1 k0_t1 (k0_off153_inb v0 v9 v18 v27 v36 v45 v54 v63 k0_hw7 k0_t1)
theorem k0_off155_inb : ∀ (v0 : BitVec 32) (v9 : BitVec 32) (v18 : BitVec 32) (v27 : BitVec 32) (v36 : BitVec 32) (v45 : BitVec 32) (v54 : BitVec 32) (v63 : BitVec 32) (k0_hw7 : k0_chk7 v0 v9 v18 v27 v36 v45 v54 v63) (k0_t1 : Fin (k0_t1_loop v0 v9 v18 v27 v36 v45 v54 v63).trips), ∀ a, (k0_off155 v0 v9 v18 v27 v36 v45 v54 v63 k0_t1) a + S1x1x512x2048.size a ≤ S4x7x512x2048.size a := fun v0 v9 v18 v27 v36 v45 v54 v63 k0_hw7 k0_t1 => k0_hw7.2.1.2.2.1 k0_t1
theorem k0_off160_inb : ∀ (v0 : BitVec 32) (v9 : BitVec 32) (v18 : BitVec 32) (v27 : BitVec 32) (v36 : BitVec 32) (v45 : BitVec 32) (v54 : BitVec 32) (v63 : BitVec 32) (k0_hw7 : k0_chk7 v0 v9 v18 v27 v36 v45 v54 v63) (k0_t1 : Fin (k0_t1_loop v0 v9 v18 v27 v36 v45 v54 v63).trips), ∀ (k0_h24 : k0_cond24 v0 v9 v18 v27 v36 v45 v54 v63 k0_t1 = 1#1), ∀ a, (k0_off160 v0 v9 v18 v27 v36 v45 v54 v63 k0_t1) a + S1.size a ≤ S8.size a := fun v0 v9 v18 v27 v36 v45 v54 v63 k0_hw7 k0_t1 k0_h24 => k0_hw7.2.1.2.2.2.1 k0_t1 k0_h24
theorem k0_off161_inb : ∀ (v0 : BitVec 32) (v9 : BitVec 32) (v18 : BitVec 32) (v27 : BitVec 32) (v36 : BitVec 32) (v45 : BitVec 32) (v54 : BitVec 32) (v63 : BitVec 32) (k0_hw7 : k0_chk7 v0 v9 v18 v27 v36 v45 v54 v63) (k0_t1 : Fin (k0_t1_loop v0 v9 v18 v27 v36 v45 v54 v63).trips), ∀ (k0_h24 : k0_cond24 v0 v9 v18 v27 v36 v45 v54 v63 k0_t1 = 1#1), ∀ a, (k0_off161 v0 v9 v18 v27 v36 v45 v54 v63 k0_t1) a + S1x1.size a ≤ S4x7.size a := fun v0 v9 v18 v27 v36 v45 v54 v63 k0_hw7 k0_t1 k0_h24 => k0_hw7.2.1.2.2.2.2.1 k0_t1 k0_h24
theorem k0_off162_inb : ∀ (v0 : BitVec 32) (v9 : BitVec 32) (v18 : BitVec 32) (v27 : BitVec 32) (v36 : BitVec 32) (v45 : BitVec 32) (v54 : BitVec 32) (v63 : BitVec 32) (k0_hw7 : k0_chk7 v0 v9 v18 v27 v36 v45 v54 v63) (k0_t1 : Fin (k0_t1_loop v0 v9 v18 v27 v36 v45 v54 v63).trips), ∀ (k0_h24 : k0_cond24 v0 v9 v18 v27 v36 v45 v54 v63 k0_t1 = 1#1), ∀ a, (k0_off162 v0 v9 v18 v27 v36 v45 v54 v63 k0_t1) a + S1x1x512x2048.size a ≤ S4x7x512x2048.size a := fun v0 v9 v18 v27 v36 v45 v54 v63 k0_hw7 k0_t1 k0_h24 => k0_hw7.2.1.2.2.2.2.2.1 k0_t1 k0_h24
theorem k0_off162_wordsfp8e4m3 : ∀ (v0 : BitVec 32) (v9 : BitVec 32) (v18 : BitVec 32) (v27 : BitVec 32) (v36 : BitVec 32) (v45 : BitVec 32) (v54 : BitVec 32) (v63 : BitVec 32) (k0_hw7 : k0_chk7 v0 v9 v18 v27 v36 v45 v54 v63) (k0_t1 : Fin (k0_t1_loop v0 v9 v18 v27 v36 v45 v54 v63).trips), ∀ (k0_h24 : k0_cond24 v0 v9 v18 v27 v36 v45 v54 v63 k0_t1 = 1#1), (Rect.unit (s := S4x7x512x2048) (k0_off162 v0 v9 v18 v27 v36 v45 v54 v63 k0_t1) S1x1x512x2048.size (k0_off162_inb v0 v9 v18 v27 v36 v45 v54 v63 k0_hw7 k0_t1 k0_h24)).WholeWords (EltTy.packing .fp8e4m3) := fun v0 v9 v18 v27 v36 v45 v54 v63 k0_hw7 k0_t1 k0_h24 => k0_hw7.2.1.2.2.2.2.2.2.1 k0_t1 k0_h24 (k0_off162_inb v0 v9 v18 v27 v36 v45 v54 v63 k0_hw7 k0_t1 k0_h24)
theorem k0_off164_inb : ∀ (v0 : BitVec 32) (v9 : BitVec 32) (v18 : BitVec 32) (v27 : BitVec 32) (v36 : BitVec 32) (v45 : BitVec 32) (v54 : BitVec 32) (v63 : BitVec 32) (k0_hw7 : k0_chk7 v0 v9 v18 v27 v36 v45 v54 v63) (k0_t1 : Fin (k0_t1_loop v0 v9 v18 v27 v36 v45 v54 v63).trips), ∀ a, (k0_off164 v0 v9 v18 v27 v36 v45 v54 v63 k0_t1) a + S1.size a ≤ S8.size a := fun v0 v9 v18 v27 v36 v45 v54 v63 k0_hw7 k0_t1 => k0_hw7.2.1.2.2.2.2.2.2.2.1 k0_t1
theorem k0_off165_inb : ∀ (v0 : BitVec 32) (v9 : BitVec 32) (v18 : BitVec 32) (v27 : BitVec 32) (v36 : BitVec 32) (v45 : BitVec 32) (v54 : BitVec 32) (v63 : BitVec 32) (k0_hw7 : k0_chk7 v0 v9 v18 v27 v36 v45 v54 v63) (k0_t1 : Fin (k0_t1_loop v0 v9 v18 v27 v36 v45 v54 v63).trips), ∀ a, (k0_off165 v0 v9 v18 v27 v36 v45 v54 v63 k0_t1) a + S1x1.size a ≤ S4x7.size a := fun v0 v9 v18 v27 v36 v45 v54 v63 k0_hw7 k0_t1 => k0_hw7.2.1.2.2.2.2.2.2.2.2.1 k0_t1
theorem k0_off166_inb : ∀ (v0 : BitVec 32) (v9 : BitVec 32) (v18 : BitVec 32) (v27 : BitVec 32) (v36 : BitVec 32) (v45 : BitVec 32) (v54 : BitVec 32) (v63 : BitVec 32) (k0_hw7 : k0_chk7 v0 v9 v18 v27 v36 v45 v54 v63) (k0_t1 : Fin (k0_t1_loop v0 v9 v18 v27 v36 v45 v54 v63).trips), ∀ a, (k0_off166 v0 v9 v18 v27 v36 v45 v54 v63 k0_t1) a + S1x1x512x2048.size a ≤ S4x7x512x2048.size a := fun v0 v9 v18 v27 v36 v45 v54 v63 k0_hw7 k0_t1 => k0_hw7.2.1.2.2.2.2.2.2.2.2.2.1 k0_t1
theorem k0_off166_wordsfp8e4m3 : ∀ (v0 : BitVec 32) (v9 : BitVec 32) (v18 : BitVec 32) (v27 : BitVec 32) (v36 : BitVec 32) (v45 : BitVec 32) (v54 : BitVec 32) (v63 : BitVec 32) (k0_hw7 : k0_chk7 v0 v9 v18 v27 v36 v45 v54 v63) (k0_t1 : Fin (k0_t1_loop v0 v9 v18 v27 v36 v45 v54 v63).trips), (Rect.unit (s := S4x7x512x2048) (k0_off166 v0 v9 v18 v27 v36 v45 v54 v63 k0_t1) S1x1x512x2048.size (k0_off166_inb v0 v9 v18 v27 v36 v45 v54 v63 k0_hw7 k0_t1)).WholeWords (EltTy.packing .fp8e4m3) := fun v0 v9 v18 v27 v36 v45 v54 v63 k0_hw7 k0_t1 => k0_hw7.2.1.2.2.2.2.2.2.2.2.2.2.1 k0_t1 (k0_off166_inb v0 v9 v18 v27 v36 v45 v54 v63 k0_hw7 k0_t1)
theorem k0_off168_inb : ∀ (v0 : BitVec 32) (v9 : BitVec 32) (v18 : BitVec 32) (v27 : BitVec 32) (v36 : BitVec 32) (v45 : BitVec 32) (v54 : BitVec 32) (v63 : BitVec 32) (k0_hw7 : k0_chk7 v0 v9 v18 v27 v36 v45 v54 v63) (k0_t1 : Fin (k0_t1_loop v0 v9 v18 v27 v36 v45 v54 v63).trips), ∀ a, (k0_off168 v0 v9 v18 v27 v36 v45 v54 v63 k0_t1) a + S1x1x512x2048.size a ≤ S4x7x512x2048.size a := fun v0 v9 v18 v27 v36 v45 v54 v63 k0_hw7 k0_t1 => k0_hw7.2.1.2.2.2.2.2.2.2.2.2.2.2.1 k0_t1
theorem k0_off173_inb : ∀ (v0 : BitVec 32) (v9 : BitVec 32) (v18 : BitVec 32) (v27 : BitVec 32) (v36 : BitVec 32) (v45 : BitVec 32) (v54 : BitVec 32) (v63 : BitVec 32) (k0_hw7 : k0_chk7 v0 v9 v18 v27 v36 v45 v54 v63) (k0_t1 : Fin (k0_t1_loop v0 v9 v18 v27 v36 v45 v54 v63).trips), ∀ (k0_h25 : k0_cond25 v0 v9 v18 v27 v36 v45 v54 v63 k0_t1 = 1#1), ∀ a, (k0_off173 v0 v9 v18 v27 v36 v45 v54 v63 k0_t1) a + S1.size a ≤ S8.size a := fun v0 v9 v18 v27 v36 v45 v54 v63 k0_hw7 k0_t1 k0_h25 => k0_hw7.2.1.2.2.2.2.2.2.2.2.2.2.2.2.1 k0_t1 k0_h25
theorem k0_off174_inb : ∀ (v0 : BitVec 32) (v9 : BitVec 32) (v18 : BitVec 32) (v27 : BitVec 32) (v36 : BitVec 32) (v45 : BitVec 32) (v54 : BitVec 32) (v63 : BitVec 32) (k0_hw7 : k0_chk7 v0 v9 v18 v27 v36 v45 v54 v63) (k0_t1 : Fin (k0_t1_loop v0 v9 v18 v27 v36 v45 v54 v63).trips), ∀ (k0_h25 : k0_cond25 v0 v9 v18 v27 v36 v45 v54 v63 k0_t1 = 1#1), ∀ a, (k0_off174 v0 v9 v18 v27 v36 v45 v54 v63 k0_t1) a + S1x1.size a ≤ S4x7.size a := fun v0 v9 v18 v27 v36 v45 v54 v63 k0_hw7 k0_t1 k0_h25 => k0_hw7.2.1.2.2.2.2.2.2.2.2.2.2.2.2.2.1 k0_t1 k0_h25
theorem k0_off175_inb : ∀ (v0 : BitVec 32) (v9 : BitVec 32) (v18 : BitVec 32) (v27 : BitVec 32) (v36 : BitVec 32) (v45 : BitVec 32) (v54 : BitVec 32) (v63 : BitVec 32) (k0_hw7 : k0_chk7 v0 v9 v18 v27 v36 v45 v54 v63) (k0_t1 : Fin (k0_t1_loop v0 v9 v18 v27 v36 v45 v54 v63).trips), ∀ (k0_h25 : k0_cond25 v0 v9 v18 v27 v36 v45 v54 v63 k0_t1 = 1#1), ∀ a, (k0_off175 v0 v9 v18 v27 v36 v45 v54 v63 k0_t1) a + S1x1x512x2048.size a ≤ S4x7x512x2048.size a := fun v0 v9 v18 v27 v36 v45 v54 v63 k0_hw7 k0_t1 k0_h25 => k0_hw7.2.1.2.2.2.2.2.2.2.2.2.2.2.2.2.2.1 k0_t1 k0_h25
theorem k0_off175_wordsfp8e4m3 : ∀ (v0 : BitVec 32) (v9 : BitVec 32) (v18 : BitVec 32) (v27 : BitVec 32) (v36 : BitVec 32) (v45 : BitVec 32) (v54 : BitVec 32) (v63 : BitVec 32) (k0_hw7 : k0_chk7 v0 v9 v18 v27 v36 v45 v54 v63) (k0_t1 : Fin (k0_t1_loop v0 v9 v18 v27 v36 v45 v54 v63).trips), ∀ (k0_h25 : k0_cond25 v0 v9 v18 v27 v36 v45 v54 v63 k0_t1 = 1#1), (Rect.unit (s := S4x7x512x2048) (k0_off175 v0 v9 v18 v27 v36 v45 v54 v63 k0_t1) S1x1x512x2048.size (k0_off175_inb v0 v9 v18 v27 v36 v45 v54 v63 k0_hw7 k0_t1 k0_h25)).WholeWords (EltTy.packing .fp8e4m3) := fun v0 v9 v18 v27 v36 v45 v54 v63 k0_hw7 k0_t1 k0_h25 => k0_hw7.2.1.2.2.2.2.2.2.2.2.2.2.2.2.2.2.2.1 k0_t1 k0_h25 (k0_off175_inb v0 v9 v18 v27 v36 v45 v54 v63 k0_hw7 k0_t1 k0_h25)
theorem k0_off177_inb : ∀ (v0 : BitVec 32) (v9 : BitVec 32) (v18 : BitVec 32) (v27 : BitVec 32) (v36 : BitVec 32) (v45 : BitVec 32) (v54 : BitVec 32) (v63 : BitVec 32) (k0_hw7 : k0_chk7 v0 v9 v18 v27 v36 v45 v54 v63) (k0_t1 : Fin (k0_t1_loop v0 v9 v18 v27 v36 v45 v54 v63).trips), ∀ a, (k0_off177 v0 v9 v18 v27 v36 v45 v54 v63 k0_t1) a + S1.size a ≤ S8.size a := fun v0 v9 v18 v27 v36 v45 v54 v63 k0_hw7 k0_t1 => k0_hw7.2.1.2.2.2.2.2.2.2.2.2.2.2.2.2.2.2.2.1 k0_t1
theorem k0_off178_inb : ∀ (v0 : BitVec 32) (v9 : BitVec 32) (v18 : BitVec 32) (v27 : BitVec 32) (v36 : BitVec 32) (v45 : BitVec 32) (v54 : BitVec 32) (v63 : BitVec 32) (k0_hw7 : k0_chk7 v0 v9 v18 v27 v36 v45 v54 v63) (k0_t1 : Fin (k0_t1_loop v0 v9 v18 v27 v36 v45 v54 v63).trips), ∀ a, (k0_off178 v0 v9 v18 v27 v36 v45 v54 v63 k0_t1) a + S1x1.size a ≤ S4x7.size a := fun v0 v9 v18 v27 v36 v45 v54 v63 k0_hw7 k0_t1 => k0_hw7.2.1.2.2.2.2.2.2.2.2.2.2.2.2.2.2.2.2.2.1 k0_t1
theorem k0_off179_inb : ∀ (v0 : BitVec 32) (v9 : BitVec 32) (v18 : BitVec 32) (v27 : BitVec 32) (v36 : BitVec 32) (v45 : BitVec 32) (v54 : BitVec 32) (v63 : BitVec 32) (k0_hw7 : k0_chk7 v0 v9 v18 v27 v36 v45 v54 v63) (k0_t1 : Fin (k0_t1_loop v0 v9 v18 v27 v36 v45 v54 v63).trips), ∀ a, (k0_off179 v0 v9 v18 v27 v36 v45 v54 v63 k0_t1) a + S1x1x512x2048.size a ≤ S4x7x512x2048.size a := fun v0 v9 v18 v27 v36 v45 v54 v63 k0_hw7 k0_t1 => k0_hw7.2.1.2.2.2.2.2.2.2.2.2.2.2.2.2.2.2.2.2.2.1 k0_t1
theorem k0_off179_wordsfp8e4m3 : ∀ (v0 : BitVec 32) (v9 : BitVec 32) (v18 : BitVec 32) (v27 : BitVec 32) (v36 : BitVec 32) (v45 : BitVec 32) (v54 : BitVec 32) (v63 : BitVec 32) (k0_hw7 : k0_chk7 v0 v9 v18 v27 v36 v45 v54 v63) (k0_t1 : Fin (k0_t1_loop v0 v9 v18 v27 v36 v45 v54 v63).trips), (Rect.unit (s := S4x7x512x2048) (k0_off179 v0 v9 v18 v27 v36 v45 v54 v63 k0_t1) S1x1x512x2048.size (k0_off179_inb v0 v9 v18 v27 v36 v45 v54 v63 k0_hw7 k0_t1)).WholeWords (EltTy.packing .fp8e4m3) := fun v0 v9 v18 v27 v36 v45 v54 v63 k0_hw7 k0_t1 => k0_hw7.2.1.2.2.2.2.2.2.2.2.2.2.2.2.2.2.2.2.2.2.2.1 k0_t1 (k0_off179_inb v0 v9 v18 v27 v36 v45 v54 v63 k0_hw7 k0_t1)
theorem k0_off181_inb : ∀ (v0 : BitVec 32) (v9 : BitVec 32) (v18 : BitVec 32) (v27 : BitVec 32) (v36 : BitVec 32) (v45 : BitVec 32) (v54 : BitVec 32) (v63 : BitVec 32) (k0_hw7 : k0_chk7 v0 v9 v18 v27 v36 v45 v54 v63) (k0_t1 : Fin (k0_t1_loop v0 v9 v18 v27 v36 v45 v54 v63).trips), ∀ a, (k0_off181 v0 v9 v18 v27 v36 v45 v54 v63 k0_t1) a + S1x1x512x2048.size a ≤ S4x7x512x2048.size a := fun v0 v9 v18 v27 v36 v45 v54 v63 k0_hw7 k0_t1 => k0_hw7.2.1.2.2.2.2.2.2.2.2.2.2.2.2.2.2.2.2.2.2.2.2.1 k0_t1
theorem k0_off186_inb : ∀ (v0 : BitVec 32) (v9 : BitVec 32) (v18 : BitVec 32) (v27 : BitVec 32) (v36 : BitVec 32) (v45 : BitVec 32) (v54 : BitVec 32) (v63 : BitVec 32) (k0_hw7 : k0_chk7 v0 v9 v18 v27 v36 v45 v54 v63) (k0_t1 : Fin (k0_t1_loop v0 v9 v18 v27 v36 v45 v54 v63).trips), ∀ (k0_h26 : k0_cond26 v0 v9 v18 v27 v36 v45 v54 v63 k0_t1 = 1#1), ∀ a, (k0_off186 v0 v9 v18 v27 v36 v45 v54 v63 k0_t1) a + S1.size a ≤ S8.size a := fun v0 v9 v18 v27 v36 v45 v54 v63 k0_hw7 k0_t1 k0_h26 => k0_hw7.2.1.2.2.2.2.2.2.2.2.2.2.2.2.2.2.2.2.2.2.2.2.2.1 k0_t1 k0_h26
theorem k0_off187_inb : ∀ (v0 : BitVec 32) (v9 : BitVec 32) (v18 : BitVec 32) (v27 : BitVec 32) (v36 : BitVec 32) (v45 : BitVec 32) (v54 : BitVec 32) (v63 : BitVec 32) (k0_hw7 : k0_chk7 v0 v9 v18 v27 v36 v45 v54 v63) (k0_t1 : Fin (k0_t1_loop v0 v9 v18 v27 v36 v45 v54 v63).trips), ∀ (k0_h26 : k0_cond26 v0 v9 v18 v27 v36 v45 v54 v63 k0_t1 = 1#1), ∀ a, (k0_off187 v0 v9 v18 v27 v36 v45 v54 v63 k0_t1) a + S1x1.size a ≤ S4x7.size a := fun v0 v9 v18 v27 v36 v45 v54 v63 k0_hw7 k0_t1 k0_h26 => k0_hw7.2.1.2.2.2.2.2.2.2.2.2.2.2.2.2.2.2.2.2.2.2.2.2.2.1 k0_t1 k0_h26
theorem k0_off188_inb : ∀ (v0 : BitVec 32) (v9 : BitVec 32) (v18 : BitVec 32) (v27 : BitVec 32) (v36 : BitVec 32) (v45 : BitVec 32) (v54 : BitVec 32) (v63 : BitVec 32) (k0_hw7 : k0_chk7 v0 v9 v18 v27 v36 v45 v54 v63) (k0_t1 : Fin (k0_t1_loop v0 v9 v18 v27 v36 v45 v54 v63).trips), ∀ (k0_h26 : k0_cond26 v0 v9 v18 v27 v36 v45 v54 v63 k0_t1 = 1#1), ∀ a, (k0_off188 v0 v9 v18 v27 v36 v45 v54 v63 k0_t1) a + S1x1x512x2048.size a ≤ S4x7x512x2048.size a := fun v0 v9 v18 v27 v36 v45 v54 v63 k0_hw7 k0_t1 k0_h26 => k0_hw7.2.1.2.2.2.2.2.2.2.2.2.2.2.2.2.2.2.2.2.2.2.2.2.2.2.1 k0_t1 k0_h26
theorem k0_off188_wordsfp8e4m3 : ∀ (v0 : BitVec 32) (v9 : BitVec 32) (v18 : BitVec 32) (v27 : BitVec 32) (v36 : BitVec 32) (v45 : BitVec 32) (v54 : BitVec 32) (v63 : BitVec 32) (k0_hw7 : k0_chk7 v0 v9 v18 v27 v36 v45 v54 v63) (k0_t1 : Fin (k0_t1_loop v0 v9 v18 v27 v36 v45 v54 v63).trips), ∀ (k0_h26 : k0_cond26 v0 v9 v18 v27 v36 v45 v54 v63 k0_t1 = 1#1), (Rect.unit (s := S4x7x512x2048) (k0_off188 v0 v9 v18 v27 v36 v45 v54 v63 k0_t1) S1x1x512x2048.size (k0_off188_inb v0 v9 v18 v27 v36 v45 v54 v63 k0_hw7 k0_t1 k0_h26)).WholeWords (EltTy.packing .fp8e4m3) := fun v0 v9 v18 v27 v36 v45 v54 v63 k0_hw7 k0_t1 k0_h26 => k0_hw7.2.1.2.2.2.2.2.2.2.2.2.2.2.2.2.2.2.2.2.2.2.2.2.2.2.2.1 k0_t1 k0_h26 (k0_off188_inb v0 v9 v18 v27 v36 v45 v54 v63 k0_hw7 k0_t1 k0_h26)
theorem k0_off190_inb : ∀ (v0 : BitVec 32) (v9 : BitVec 32) (v18 : BitVec 32) (v27 : BitVec 32) (v36 : BitVec 32) (v45 : BitVec 32) (v54 : BitVec 32) (v63 : BitVec 32) (k0_hw7 : k0_chk7 v0 v9 v18 v27 v36 v45 v54 v63) (k0_t1 : Fin (k0_t1_loop v0 v9 v18 v27 v36 v45 v54 v63).trips), ∀ a, (k0_off190 v0 v9 v18 v27 v36 v45 v54 v63 k0_t1) a + S1.size a ≤ S8.size a := fun v0 v9 v18 v27 v36 v45 v54 v63 k0_hw7 k0_t1 => k0_hw7.2.1.2.2.2.2.2.2.2.2.2.2.2.2.2.2.2.2.2.2.2.2.2.2.2.2.2.1 k0_t1
theorem k0_off191_inb : ∀ (v0 : BitVec 32) (v9 : BitVec 32) (v18 : BitVec 32) (v27 : BitVec 32) (v36 : BitVec 32) (v45 : BitVec 32) (v54 : BitVec 32) (v63 : BitVec 32) (k0_hw7 : k0_chk7 v0 v9 v18 v27 v36 v45 v54 v63) (k0_t1 : Fin (k0_t1_loop v0 v9 v18 v27 v36 v45 v54 v63).trips), ∀ a, (k0_off191 v0 v9 v18 v27 v36 v45 v54 v63 k0_t1) a + S1x1.size a ≤ S4x7.size a := fun v0 v9 v18 v27 v36 v45 v54 v63 k0_hw7 k0_t1 => k0_hw7.2.1.2.2.2.2.2.2.2.2.2.2.2.2.2.2.2.2.2.2.2.2.2.2.2.2.2.2.1 k0_t1
theorem k0_off192_inb : ∀ (v0 : BitVec 32) (v9 : BitVec 32) (v18 : BitVec 32) (v27 : BitVec 32) (v36 : BitVec 32) (v45 : BitVec 32) (v54 : BitVec 32) (v63 : BitVec 32) (k0_hw7 : k0_chk7 v0 v9 v18 v27 v36 v45 v54 v63) (k0_t1 : Fin (k0_t1_loop v0 v9 v18 v27 v36 v45 v54 v63).trips), ∀ a, (k0_off192 v0 v9 v18 v27 v36 v45 v54 v63 k0_t1) a + S1x1x512x2048.size a ≤ S4x7x512x2048.size a := fun v0 v9 v18 v27 v36 v45 v54 v63 k0_hw7 k0_t1 => k0_hw7.2.1.2.2.2.2.2.2.2.2.2.2.2.2.2.2.2.2.2.2.2.2.2.2.2.2.2.2.2.1 k0_t1
theorem k0_off192_wordsfp8e4m3 : ∀ (v0 : BitVec 32) (v9 : BitVec 32) (v18 : BitVec 32) (v27 : BitVec 32) (v36 : BitVec 32) (v45 : BitVec 32) (v54 : BitVec 32) (v63 : BitVec 32) (k0_hw7 : k0_chk7 v0 v9 v18 v27 v36 v45 v54 v63) (k0_t1 : Fin (k0_t1_loop v0 v9 v18 v27 v36 v45 v54 v63).trips), (Rect.unit (s := S4x7x512x2048) (k0_off192 v0 v9 v18 v27 v36 v45 v54 v63 k0_t1) S1x1x512x2048.size (k0_off192_inb v0 v9 v18 v27 v36 v45 v54 v63 k0_hw7 k0_t1)).WholeWords (EltTy.packing .fp8e4m3) := fun v0 v9 v18 v27 v36 v45 v54 v63 k0_hw7 k0_t1 => k0_hw7.2.1.2.2.2.2.2.2.2.2.2.2.2.2.2.2.2.2.2.2.2.2.2.2.2.2.2.2.2.2.1 k0_t1 (k0_off192_inb v0 v9 v18 v27 v36 v45 v54 v63 k0_hw7 k0_t1)
theorem k0_off194_inb : ∀ (v0 : BitVec 32) (v9 : BitVec 32) (v18 : BitVec 32) (v27 : BitVec 32) (v36 : BitVec 32) (v45 : BitVec 32) (v54 : BitVec 32) (v63 : BitVec 32) (k0_hw7 : k0_chk7 v0 v9 v18 v27 v36 v45 v54 v63) (k0_t1 : Fin (k0_t1_loop v0 v9 v18 v27 v36 v45 v54 v63).trips), ∀ a, (k0_off194 v0 v9 v18 v27 v36 v45 v54 v63 k0_t1) a + S1x1x512x2048.size a ≤ S4x7x512x2048.size a := fun v0 v9 v18 v27 v36 v45 v54 v63 k0_hw7 k0_t1 => k0_hw7.2.1.2.2.2.2.2.2.2.2.2.2.2.2.2.2.2.2.2.2.2.2.2.2.2.2.2.2.2.2.2.1 k0_t1
theorem k0_off199_inb : ∀ (v0 : BitVec 32) (v9 : BitVec 32) (v18 : BitVec 32) (v27 : BitVec 32) (v36 : BitVec 32) (v45 : BitVec 32) (v54 : BitVec 32) (v63 : BitVec 32) (k0_hw7 : k0_chk7 v0 v9 v18 v27 v36 v45 v54 v63) (k0_t1 : Fin (k0_t1_loop v0 v9 v18 v27 v36 v45 v54 v63).trips), ∀ (k0_h27 : k0_cond27 v0 v9 v18 v27 v36 v45 v54 v63 k0_t1 = 1#1), ∀ a, (k0_off199 v0 v9 v18 v27 v36 v45 v54 v63 k0_t1) a + S1.size a ≤ S8.size a := fun v0 v9 v18 v27 v36 v45 v54 v63 k0_hw7 k0_t1 k0_h27 => k0_hw7.2.1.2.2.2.2.2.2.2.2.2.2.2.2.2.2.2.2.2.2.2.2.2.2.2.2.2.2.2.2.2.2.1 k0_t1 k0_h27
theorem k0_off200_inb : ∀ (v0 : BitVec 32) (v9 : BitVec 32) (v18 : BitVec 32) (v27 : BitVec 32) (v36 : BitVec 32) (v45 : BitVec 32) (v54 : BitVec 32) (v63 : BitVec 32) (k0_hw7 : k0_chk7 v0 v9 v18 v27 v36 v45 v54 v63) (k0_t1 : Fin (k0_t1_loop v0 v9 v18 v27 v36 v45 v54 v63).trips), ∀ (k0_h27 : k0_cond27 v0 v9 v18 v27 v36 v45 v54 v63 k0_t1 = 1#1), ∀ a, (k0_off200 v0 v9 v18 v27 v36 v45 v54 v63 k0_t1) a + S1x1.size a ≤ S4x7.size a := fun v0 v9 v18 v27 v36 v45 v54 v63 k0_hw7 k0_t1 k0_h27 => k0_hw7.2.1.2.2.2.2.2.2.2.2.2.2.2.2.2.2.2.2.2.2.2.2.2.2.2.2.2.2.2.2.2.2.2 k0_t1 k0_h27
theorem k0_off201_inb : ∀ (v0 : BitVec 32) (v9 : BitVec 32) (v18 : BitVec 32) (v27 : BitVec 32) (v36 : BitVec 32) (v45 : BitVec 32) (v54 : BitVec 32) (v63 : BitVec 32) (k0_hw7 : k0_chk7 v0 v9 v18 v27 v36 v45 v54 v63) (k0_t1 : Fin (k0_t1_loop v0 v9 v18 v27 v36 v45 v54 v63).trips), ∀ (k0_h27 : k0_cond27 v0 v9 v18 v27 v36 v45 v54 v63 k0_t1 = 1#1), ∀ a, (k0_off201 v0 v9 v18 v27 v36 v45 v54 v63 k0_t1) a + S1x1x512x2048.size a ≤ S4x7x512x2048.size a := fun v0 v9 v18 v27 v36 v45 v54 v63 k0_hw7 k0_t1 k0_h27 => k0_hw7.2.2.1.1 k0_t1 k0_h27
theorem k0_off201_wordsfp8e4m3 : ∀ (v0 : BitVec 32) (v9 : BitVec 32) (v18 : BitVec 32) (v27 : BitVec 32) (v36 : BitVec 32) (v45 : BitVec 32) (v54 : BitVec 32) (v63 : BitVec 32) (k0_hw7 : k0_chk7 v0 v9 v18 v27 v36 v45 v54 v63) (k0_t1 : Fin (k0_t1_loop v0 v9 v18 v27 v36 v45 v54 v63).trips), ∀ (k0_h27 : k0_cond27 v0 v9 v18 v27 v36 v45 v54 v63 k0_t1 = 1#1), (Rect.unit (s := S4x7x512x2048) (k0_off201 v0 v9 v18 v27 v36 v45 v54 v63 k0_t1) S1x1x512x2048.size (k0_off201_inb v0 v9 v18 v27 v36 v45 v54 v63 k0_hw7 k0_t1 k0_h27)).WholeWords (EltTy.packing .fp8e4m3) := fun v0 v9 v18 v27 v36 v45 v54 v63 k0_hw7 k0_t1 k0_h27 => k0_hw7.2.2.1.2.1 k0_t1 k0_h27 (k0_off201_inb v0 v9 v18 v27 v36 v45 v54 v63 k0_hw7 k0_t1 k0_h27)
theorem k0_t2_ok : ∀ (v0 : BitVec 32) (v9 : BitVec 32) (v18 : BitVec 32) (v27 : BitVec 32) (v36 : BitVec 32) (v45 : BitVec 32) (v54 : BitVec 32) (v63 : BitVec 32) (k0_hw7 : k0_chk7 v0 v9 v18 v27 v36 v45 v54 v63), (k0_t2_loop v0 v9 v18 v27 v36 v45 v54 v63).OK := fun v0 v9 v18 v27 v36 v45 v54 v63 k0_hw7 => k0_hw7.2.2.1.2.2.1
theorem k0_off203_inb : ∀ (v0 : BitVec 32) (v9 : BitVec 32) (v18 : BitVec 32) (v27 : BitVec 32) (v36 : BitVec 32) (v45 : BitVec 32) (v54 : BitVec 32) (v63 : BitVec 32) (k0_hw7 : k0_chk7 v0 v9 v18 v27 v36 v45 v54 v63) (k0_t2 : Fin (k0_t2_loop v0 v9 v18 v27 v36 v45 v54 v63).trips), ∀ a, (k0_off203 v0 v9 v18 v27 v36 v45 v54 v63 k0_t2) a + S1.size a ≤ S8.size a := fun v0 v9 v18 v27 v36 v45 v54 v63 k0_hw7 k0_t2 => k0_hw7.2.2.1.2.2.2.1 k0_t2
theorem k0_off223_inb : ∀ (v0 : BitVec 32) (v9 : BitVec 32) (v18 : BitVec 32) (v27 : BitVec 32) (v36 : BitVec 32) (v45 : BitVec 32) (v54 : BitVec 32) (v63 : BitVec 32) (k0_hw7 : k0_chk7 v0 v9 v18 v27 v36 v45 v54 v63) (k0_t2 : Fin (k0_t2_loop v0 v9 v18 v27 v36 v45 v54 v63).trips), ∀ a, (k0_off223 v0 v9 v18 v27 v36 v45 v54 v63 k0_t2) a + S1.size a ≤ S8.size a := fun v0 v9 v18 v27 v36 v45 v54 v63 k0_hw7 k0_t2 => k0_hw7.2.2.1.2.2.2.2.1 k0_t2
theorem k0_off224_inb : ∀ (v0 : BitVec 32) (v9 : BitVec 32) (v18 : BitVec 32) (v27 : BitVec 32) (v36 : BitVec 32) (v45 : BitVec 32) (v54 : BitVec 32) (v63 : BitVec 32) (k0_hw7 : k0_chk7 v0 v9 v18 v27 v36 v45 v54 v63) (k0_t2 : Fin (k0_t2_loop v0 v9 v18 v27 v36 v45 v54 v63).trips), ∀ a, (k0_off224 v0 v9 v18 v27 v36 v45 v54 v63 k0_t2) a + S1x1.size a ≤ S4x7.size a := fun v0 v9 v18 v27 v36 v45 v54 v63 k0_hw7 k0_t2 => k0_hw7.2.2.1.2.2.2.2.2.1 k0_t2
theorem k0_off225_inb : ∀ (v0 : BitVec 32) (v9 : BitVec 32) (v18 : BitVec 32) (v27 : BitVec 32) (v36 : BitVec 32) (v45 : BitVec 32) (v54 : BitVec 32) (v63 : BitVec 32) (k0_hw7 : k0_chk7 v0 v9 v18 v27 v36 v45 v54 v63) (k0_t2 : Fin (k0_t2_loop v0 v9 v18 v27 v36 v45 v54 v63).trips), ∀ a, (k0_off225 v0 v9 v18 v27 v36 v45 v54 v63 k0_t2) a + S1x1x512x2048.size a ≤ S4x7x512x2048.size a := fun v0 v9 v18 v27 v36 v45 v54 v63 k0_hw7 k0_t2 => k0_hw7.2.2.1.2.2.2.2.2.2.1 k0_t2
theorem k0_off225_wordsfp8e4m3 : ∀ (v0 : BitVec 32) (v9 : BitVec 32) (v18 : BitVec 32) (v27 : BitVec 32) (v36 : BitVec 32) (v45 : BitVec 32) (v54 : BitVec 32) (v63 : BitVec 32) (k0_hw7 : k0_chk7 v0 v9 v18 v27 v36 v45 v54 v63) (k0_t2 : Fin (k0_t2_loop v0 v9 v18 v27 v36 v45 v54 v63).trips), (Rect.unit (s := S4x7x512x2048) (k0_off225 v0 v9 v18 v27 v36 v45 v54 v63 k0_t2) S1x1x512x2048.size (k0_off225_inb v0 v9 v18 v27 v36 v45 v54 v63 k0_hw7 k0_t2)).WholeWords (EltTy.packing .fp8e4m3) := fun v0 v9 v18 v27 v36 v45 v54 v63 k0_hw7 k0_t2 => k0_hw7.2.2.1.2.2.2.2.2.2.2.1 k0_t2 (k0_off225_inb v0 v9 v18 v27 v36 v45 v54 v63 k0_hw7 k0_t2)
theorem k0_off227_inb : ∀ (v0 : BitVec 32) (v9 : BitVec 32) (v18 : BitVec 32) (v27 : BitVec 32) (v36 : BitVec 32) (v45 : BitVec 32) (v54 : BitVec 32) (v63 : BitVec 32) (k0_hw7 : k0_chk7 v0 v9 v18 v27 v36 v45 v54 v63) (k0_t2 : Fin (k0_t2_loop v0 v9 v18 v27 v36 v45 v54 v63).trips), ∀ a, (k0_off227 v0 v9 v18 v27 v36 v45 v54 v63 k0_t2) a + S1x1x512x2048.size a ≤ S4x7x512x2048.size a := fun v0 v9 v18 v27 v36 v45 v54 v63 k0_hw7 k0_t2 => k0_hw7.2.2.1.2.2.2.2.2.2.2.2.1 k0_t2
theorem k0_off232_inb : ∀ (v0 : BitVec 32) (v9 : BitVec 32) (v18 : BitVec 32) (v27 : BitVec 32) (v36 : BitVec 32) (v45 : BitVec 32) (v54 : BitVec 32) (v63 : BitVec 32) (k0_hw7 : k0_chk7 v0 v9 v18 v27 v36 v45 v54 v63) (k0_t2 : Fin (k0_t2_loop v0 v9 v18 v27 v36 v45 v54 v63).trips), ∀ (k0_h28 : k0_cond28 v0 v9 v18 v27 v36 v45 v54 v63 k0_t2 = 1#1), ∀ a, (k0_off232 v0 v9 v18 v27 v36 v45 v54 v63 k0_t2) a + S1.size a ≤ S8.size a := fun v0 v9 v18 v27 v36 v45 v54 v63 k0_hw7 k0_t2 k0_h28 => k0_hw7.2.2.1.2.2.2.2.2.2.2.2.2.1 k0_t2 k0_h28
theorem k0_off233_inb : ∀ (v0 : BitVec 32) (v9 : BitVec 32) (v18 : BitVec 32) (v27 : BitVec 32) (v36 : BitVec 32) (v45 : BitVec 32) (v54 : BitVec 32) (v63 : BitVec 32) (k0_hw7 : k0_chk7 v0 v9 v18 v27 v36 v45 v54 v63) (k0_t2 : Fin (k0_t2_loop v0 v9 v18 v27 v36 v45 v54 v63).trips), ∀ (k0_h28 : k0_cond28 v0 v9 v18 v27 v36 v45 v54 v63 k0_t2 = 1#1), ∀ a, (k0_off233 v0 v9 v18 v27 v36 v45 v54 v63 k0_t2) a + S1x1.size a ≤ S4x7.size a := fun v0 v9 v18 v27 v36 v45 v54 v63 k0_hw7 k0_t2 k0_h28 => k0_hw7.2.2.1.2.2.2.2.2.2.2.2.2.2.1 k0_t2 k0_h28
theorem k0_off234_inb : ∀ (v0 : BitVec 32) (v9 : BitVec 32) (v18 : BitVec 32) (v27 : BitVec 32) (v36 : BitVec 32) (v45 : BitVec 32) (v54 : BitVec 32) (v63 : BitVec 32) (k0_hw7 : k0_chk7 v0 v9 v18 v27 v36 v45 v54 v63) (k0_t2 : Fin (k0_t2_loop v0 v9 v18 v27 v36 v45 v54 v63).trips), ∀ (k0_h28 : k0_cond28 v0 v9 v18 v27 v36 v45 v54 v63 k0_t2 = 1#1), ∀ a, (k0_off234 v0 v9 v18 v27 v36 v45 v54 v63 k0_t2) a + S1x1x512x2048.size a ≤ S4x7x512x2048.size a := fun v0 v9 v18 v27 v36 v45 v54 v63 k0_hw7 k0_t2 k0_h28 => k0_hw7.2.2.1.2.2.2.2.2.2.2.2.2.2.2.1 k0_t2 k0_h28
theorem k0_off234_wordsfp8e4m3 : ∀ (v0 : BitVec 32) (v9 : BitVec 32) (v18 : BitVec 32) (v27 : BitVec 32) (v36 : BitVec 32) (v45 : BitVec 32) (v54 : BitVec 32) (v63 : BitVec 32) (k0_hw7 : k0_chk7 v0 v9 v18 v27 v36 v45 v54 v63) (k0_t2 : Fin (k0_t2_loop v0 v9 v18 v27 v36 v45 v54 v63).trips), ∀ (k0_h28 : k0_cond28 v0 v9 v18 v27 v36 v45 v54 v63 k0_t2 = 1#1), (Rect.unit (s := S4x7x512x2048) (k0_off234 v0 v9 v18 v27 v36 v45 v54 v63 k0_t2) S1x1x512x2048.size (k0_off234_inb v0 v9 v18 v27 v36 v45 v54 v63 k0_hw7 k0_t2 k0_h28)).WholeWords (EltTy.packing .fp8e4m3) := fun v0 v9 v18 v27 v36 v45 v54 v63 k0_hw7 k0_t2 k0_h28 => k0_hw7.2.2.1.2.2.2.2.2.2.2.2.2.2.2.2.1 k0_t2 k0_h28 (k0_off234_inb v0 v9 v18 v27 v36 v45 v54 v63 k0_hw7 k0_t2 k0_h28)
theorem k0_off236_inb : ∀ (v0 : BitVec 32) (v9 : BitVec 32) (v18 : BitVec 32) (v27 : BitVec 32) (v36 : BitVec 32) (v45 : BitVec 32) (v54 : BitVec 32) (v63 : BitVec 32) (k0_hw7 : k0_chk7 v0 v9 v18 v27 v36 v45 v54 v63) (k0_t2 : Fin (k0_t2_loop v0 v9 v18 v27 v36 v45 v54 v63).trips), ∀ a, (k0_off236 v0 v9 v18 v27 v36 v45 v54 v63 k0_t2) a + S1.size a ≤ S8.size a := fun v0 v9 v18 v27 v36 v45 v54 v63 k0_hw7 k0_t2 => k0_hw7.2.2.1.2.2.2.2.2.2.2.2.2.2.2.2.2.1 k0_t2
theorem k0_off237_inb : ∀ (v0 : BitVec 32) (v9 : BitVec 32) (v18 : BitVec 32) (v27 : BitVec 32) (v36 : BitVec 32) (v45 : BitVec 32) (v54 : BitVec 32) (v63 : BitVec 32) (k0_hw7 : k0_chk7 v0 v9 v18 v27 v36 v45 v54 v63) (k0_t2 : Fin (k0_t2_loop v0 v9 v18 v27 v36 v45 v54 v63).trips), ∀ a, (k0_off237 v0 v9 v18 v27 v36 v45 v54 v63 k0_t2) a + S1x1.size a ≤ S4x7.size a := fun v0 v9 v18 v27 v36 v45 v54 v63 k0_hw7 k0_t2 => k0_hw7.2.2.1.2.2.2.2.2.2.2.2.2.2.2.2.2.2.1 k0_t2
theorem k0_off238_inb : ∀ (v0 : BitVec 32) (v9 : BitVec 32) (v18 : BitVec 32) (v27 : BitVec 32) (v36 : BitVec 32) (v45 : BitVec 32) (v54 : BitVec 32) (v63 : BitVec 32) (k0_hw7 : k0_chk7 v0 v9 v18 v27 v36 v45 v54 v63) (k0_t2 : Fin (k0_t2_loop v0 v9 v18 v27 v36 v45 v54 v63).trips), ∀ a, (k0_off238 v0 v9 v18 v27 v36 v45 v54 v63 k0_t2) a + S1x1x512x2048.size a ≤ S4x7x512x2048.size a := fun v0 v9 v18 v27 v36 v45 v54 v63 k0_hw7 k0_t2 => k0_hw7.2.2.1.2.2.2.2.2.2.2.2.2.2.2.2.2.2.2.1 k0_t2
theorem k0_off238_wordsfp8e4m3 : ∀ (v0 : BitVec 32) (v9 : BitVec 32) (v18 : BitVec 32) (v27 : BitVec 32) (v36 : BitVec 32) (v45 : BitVec 32) (v54 : BitVec 32) (v63 : BitVec 32) (k0_hw7 : k0_chk7 v0 v9 v18 v27 v36 v45 v54 v63) (k0_t2 : Fin (k0_t2_loop v0 v9 v18 v27 v36 v45 v54 v63).trips), (Rect.unit (s := S4x7x512x2048) (k0_off238 v0 v9 v18 v27 v36 v45 v54 v63 k0_t2) S1x1x512x2048.size (k0_off238_inb v0 v9 v18 v27 v36 v45 v54 v63 k0_hw7 k0_t2)).WholeWords (EltTy.packing .fp8e4m3) := fun v0 v9 v18 v27 v36 v45 v54 v63 k0_hw7 k0_t2 => k0_hw7.2.2.1.2.2.2.2.2.2.2.2.2.2.2.2.2.2.2.2.1 k0_t2 (k0_off238_inb v0 v9 v18 v27 v36 v45 v54 v63 k0_hw7 k0_t2)
theorem k0_off240_inb : ∀ (v0 : BitVec 32) (v9 : BitVec 32) (v18 : BitVec 32) (v27 : BitVec 32) (v36 : BitVec 32) (v45 : BitVec 32) (v54 : BitVec 32) (v63 : BitVec 32) (k0_hw7 : k0_chk7 v0 v9 v18 v27 v36 v45 v54 v63) (k0_t2 : Fin (k0_t2_loop v0 v9 v18 v27 v36 v45 v54 v63).trips), ∀ a, (k0_off240 v0 v9 v18 v27 v36 v45 v54 v63 k0_t2) a + S1x1x512x2048.size a ≤ S4x7x512x2048.size a := fun v0 v9 v18 v27 v36 v45 v54 v63 k0_hw7 k0_t2 => k0_hw7.2.2.1.2.2.2.2.2.2.2.2.2.2.2.2.2.2.2.2.2.1 k0_t2
theorem k0_off245_inb : ∀ (v0 : BitVec 32) (v9 : BitVec 32) (v18 : BitVec 32) (v27 : BitVec 32) (v36 : BitVec 32) (v45 : BitVec 32) (v54 : BitVec 32) (v63 : BitVec 32) (k0_hw7 : k0_chk7 v0 v9 v18 v27 v36 v45 v54 v63) (k0_t2 : Fin (k0_t2_loop v0 v9 v18 v27 v36 v45 v54 v63).trips), ∀ (k0_h29 : k0_cond29 v0 v9 v18 v27 v36 v45 v54 v63 k0_t2 = 1#1), ∀ a, (k0_off245 v0 v9 v18 v27 v36 v45 v54 v63 k0_t2) a + S1.size a ≤ S8.size a := fun v0 v9 v18 v27 v36 v45 v54 v63 k0_hw7 k0_t2 k0_h29 => k0_hw7.2.2.1.2.2.2.2.2.2.2.2.2.2.2.2.2.2.2.2.2.2.1 k0_t2 k0_h29
theorem k0_off246_inb : ∀ (v0 : BitVec 32) (v9 : BitVec 32) (v18 : BitVec 32) (v27 : BitVec 32) (v36 : BitVec 32) (v45 : BitVec 32) (v54 : BitVec 32) (v63 : BitVec 32) (k0_hw7 : k0_chk7 v0 v9 v18 v27 v36 v45 v54 v63) (k0_t2 : Fin (k0_t2_loop v0 v9 v18 v27 v36 v45 v54 v63).trips), ∀ (k0_h29 : k0_cond29 v0 v9 v18 v27 v36 v45 v54 v63 k0_t2 = 1#1), ∀ a, (k0_off246 v0 v9 v18 v27 v36 v45 v54 v63 k0_t2) a + S1x1.size a ≤ S4x7.size a := fun v0 v9 v18 v27 v36 v45 v54 v63 k0_hw7 k0_t2 k0_h29 => k0_hw7.2.2.1.2.2.2.2.2.2.2.2.2.2.2.2.2.2.2.2.2.2.2.1 k0_t2 k0_h29
theorem k0_off247_inb : ∀ (v0 : BitVec 32) (v9 : BitVec 32) (v18 : BitVec 32) (v27 : BitVec 32) (v36 : BitVec 32) (v45 : BitVec 32) (v54 : BitVec 32) (v63 : BitVec 32) (k0_hw7 : k0_chk7 v0 v9 v18 v27 v36 v45 v54 v63) (k0_t2 : Fin (k0_t2_loop v0 v9 v18 v27 v36 v45 v54 v63).trips), ∀ (k0_h29 : k0_cond29 v0 v9 v18 v27 v36 v45 v54 v63 k0_t2 = 1#1), ∀ a, (k0_off247 v0 v9 v18 v27 v36 v45 v54 v63 k0_t2) a + S1x1x512x2048.size a ≤ S4x7x512x2048.size a := fun v0 v9 v18 v27 v36 v45 v54 v63 k0_hw7 k0_t2 k0_h29 => k0_hw7.2.2.1.2.2.2.2.2.2.2.2.2.2.2.2.2.2.2.2.2.2.2.2.1 k0_t2 k0_h29
theorem k0_off247_wordsfp8e4m3 : ∀ (v0 : BitVec 32) (v9 : BitVec 32) (v18 : BitVec 32) (v27 : BitVec 32) (v36 : BitVec 32) (v45 : BitVec 32) (v54 : BitVec 32) (v63 : BitVec 32) (k0_hw7 : k0_chk7 v0 v9 v18 v27 v36 v45 v54 v63) (k0_t2 : Fin (k0_t2_loop v0 v9 v18 v27 v36 v45 v54 v63).trips), ∀ (k0_h29 : k0_cond29 v0 v9 v18 v27 v36 v45 v54 v63 k0_t2 = 1#1), (Rect.unit (s := S4x7x512x2048) (k0_off247 v0 v9 v18 v27 v36 v45 v54 v63 k0_t2) S1x1x512x2048.size (k0_off247_inb v0 v9 v18 v27 v36 v45 v54 v63 k0_hw7 k0_t2 k0_h29)).WholeWords (EltTy.packing .fp8e4m3) := fun v0 v9 v18 v27 v36 v45 v54 v63 k0_hw7 k0_t2 k0_h29 => k0_hw7.2.2.1.2.2.2.2.2.2.2.2.2.2.2.2.2.2.2.2.2.2.2.2.2.1 k0_t2 k0_h29 (k0_off247_inb v0 v9 v18 v27 v36 v45 v54 v63 k0_hw7 k0_t2 k0_h29)
theorem k0_off249_inb : ∀ (v0 : BitVec 32) (v9 : BitVec 32) (v18 : BitVec 32) (v27 : BitVec 32) (v36 : BitVec 32) (v45 : BitVec 32) (v54 : BitVec 32) (v63 : BitVec 32) (k0_hw7 : k0_chk7 v0 v9 v18 v27 v36 v45 v54 v63) (k0_t2 : Fin (k0_t2_loop v0 v9 v18 v27 v36 v45 v54 v63).trips), ∀ a, (k0_off249 v0 v9 v18 v27 v36 v45 v54 v63 k0_t2) a + S1.size a ≤ S8.size a := fun v0 v9 v18 v27 v36 v45 v54 v63 k0_hw7 k0_t2 => k0_hw7.2.2.1.2.2.2.2.2.2.2.2.2.2.2.2.2.2.2.2.2.2.2.2.2.2.1 k0_t2
theorem k0_off250_inb : ∀ (v0 : BitVec 32) (v9 : BitVec 32) (v18 : BitVec 32) (v27 : BitVec 32) (v36 : BitVec 32) (v45 : BitVec 32) (v54 : BitVec 32) (v63 : BitVec 32) (k0_hw7 : k0_chk7 v0 v9 v18 v27 v36 v45 v54 v63) (k0_t2 : Fin (k0_t2_loop v0 v9 v18 v27 v36 v45 v54 v63).trips), ∀ a, (k0_off250 v0 v9 v18 v27 v36 v45 v54 v63 k0_t2) a + S1x1.size a ≤ S4x7.size a := fun v0 v9 v18 v27 v36 v45 v54 v63 k0_hw7 k0_t2 => k0_hw7.2.2.1.2.2.2.2.2.2.2.2.2.2.2.2.2.2.2.2.2.2.2.2.2.2.2.1 k0_t2
theorem k0_off251_inb : ∀ (v0 : BitVec 32) (v9 : BitVec 32) (v18 : BitVec 32) (v27 : BitVec 32) (v36 : BitVec 32) (v45 : BitVec 32) (v54 : BitVec 32) (v63 : BitVec 32) (k0_hw7 : k0_chk7 v0 v9 v18 v27 v36 v45 v54 v63) (k0_t2 : Fin (k0_t2_loop v0 v9 v18 v27 v36 v45 v54 v63).trips), ∀ a, (k0_off251 v0 v9 v18 v27 v36 v45 v54 v63 k0_t2) a + S1x1x512x2048.size a ≤ S4x7x512x2048.size a := fun v0 v9 v18 v27 v36 v45 v54 v63 k0_hw7 k0_t2 => k0_hw7.2.2.1.2.2.2.2.2.2.2.2.2.2.2.2.2.2.2.2.2.2.2.2.2.2.2.2.1 k0_t2
theorem k0_off251_wordsfp8e4m3 : ∀ (v0 : BitVec 32) (v9 : BitVec 32) (v18 : BitVec 32) (v27 : BitVec 32) (v36 : BitVec 32) (v45 : BitVec 32) (v54 : BitVec 32) (v63 : BitVec 32) (k0_hw7 : k0_chk7 v0 v9 v18 v27 v36 v45 v54 v63) (k0_t2 : Fin (k0_t2_loop v0 v9 v18 v27 v36 v45 v54 v63).trips), (Rect.unit (s := S4x7x512x2048) (k0_off251 v0 v9 v18 v27 v36 v45 v54 v63 k0_t2) S1x1x512x2048.size (k0_off251_inb v0 v9 v18 v27 v36 v45 v54 v63 k0_hw7 k0_t2)).WholeWords (EltTy.packing .fp8e4m3) := fun v0 v9 v18 v27 v36 v45 v54 v63 k0_hw7 k0_t2 => k0_hw7.2.2.1.2.2.2.2.2.2.2.2.2.2.2.2.2.2.2.2.2.2.2.2.2.2.2.2.2.1 k0_t2 (k0_off251_inb v0 v9 v18 v27 v36 v45 v54 v63 k0_hw7 k0_t2)
theorem k0_off253_inb : ∀ (v0 : BitVec 32) (v9 : BitVec 32) (v18 : BitVec 32) (v27 : BitVec 32) (v36 : BitVec 32) (v45 : BitVec 32) (v54 : BitVec 32) (v63 : BitVec 32) (k0_hw7 : k0_chk7 v0 v9 v18 v27 v36 v45 v54 v63) (k0_t2 : Fin (k0_t2_loop v0 v9 v18 v27 v36 v45 v54 v63).trips), ∀ a, (k0_off253 v0 v9 v18 v27 v36 v45 v54 v63 k0_t2) a + S1x1x512x2048.size a ≤ S4x7x512x2048.size a := fun v0 v9 v18 v27 v36 v45 v54 v63 k0_hw7 k0_t2 => k0_hw7.2.2.1.2.2.2.2.2.2.2.2.2.2.2.2.2.2.2.2.2.2.2.2.2.2.2.2.2.2.1 k0_t2
theorem k0_off258_inb : ∀ (v0 : BitVec 32) (v9 : BitVec 32) (v18 : BitVec 32) (v27 : BitVec 32) (v36 : BitVec 32) (v45 : BitVec 32) (v54 : BitVec 32) (v63 : BitVec 32) (k0_hw7 : k0_chk7 v0 v9 v18 v27 v36 v45 v54 v63) (k0_t2 : Fin (k0_t2_loop v0 v9 v18 v27 v36 v45 v54 v63).trips), ∀ (k0_h30 : k0_cond30 v0 v9 v18 v27 v36 v45 v54 v63 k0_t2 = 1#1), ∀ a, (k0_off258 v0 v9 v18 v27 v36 v45 v54 v63 k0_t2) a + S1.size a ≤ S8.size a := fun v0 v9 v18 v27 v36 v45 v54 v63 k0_hw7 k0_t2 k0_h30 => k0_hw7.2.2.1.2.2.2.2.2.2.2.2.2.2.2.2.2.2.2.2.2.2.2.2.2.2.2.2.2.2.2.1 k0_t2 k0_h30
theorem k0_off259_inb : ∀ (v0 : BitVec 32) (v9 : BitVec 32) (v18 : BitVec 32) (v27 : BitVec 32) (v36 : BitVec 32) (v45 : BitVec 32) (v54 : BitVec 32) (v63 : BitVec 32) (k0_hw7 : k0_chk7 v0 v9 v18 v27 v36 v45 v54 v63) (k0_t2 : Fin (k0_t2_loop v0 v9 v18 v27 v36 v45 v54 v63).trips), ∀ (k0_h30 : k0_cond30 v0 v9 v18 v27 v36 v45 v54 v63 k0_t2 = 1#1), ∀ a, (k0_off259 v0 v9 v18 v27 v36 v45 v54 v63 k0_t2) a + S1x1.size a ≤ S4x7.size a := fun v0 v9 v18 v27 v36 v45 v54 v63 k0_hw7 k0_t2 k0_h30 => k0_hw7.2.2.1.2.2.2.2.2.2.2.2.2.2.2.2.2.2.2.2.2.2.2.2.2.2.2.2.2.2.2.2.1 k0_t2 k0_h30
theorem k0_off260_inb : ∀ (v0 : BitVec 32) (v9 : BitVec 32) (v18 : BitVec 32) (v27 : BitVec 32) (v36 : BitVec 32) (v45 : BitVec 32) (v54 : BitVec 32) (v63 : BitVec 32) (k0_hw7 : k0_chk7 v0 v9 v18 v27 v36 v45 v54 v63) (k0_t2 : Fin (k0_t2_loop v0 v9 v18 v27 v36 v45 v54 v63).trips), ∀ (k0_h30 : k0_cond30 v0 v9 v18 v27 v36 v45 v54 v63 k0_t2 = 1#1), ∀ a, (k0_off260 v0 v9 v18 v27 v36 v45 v54 v63 k0_t2) a + S1x1x512x2048.size a ≤ S4x7x512x2048.size a := fun v0 v9 v18 v27 v36 v45 v54 v63 k0_hw7 k0_t2 k0_h30 => k0_hw7.2.2.1.2.2.2.2.2.2.2.2.2.2.2.2.2.2.2.2.2.2.2.2.2.2.2.2.2.2.2.2.2.1 k0_t2 k0_h30
theorem k0_off260_wordsfp8e4m3 : ∀ (v0 : BitVec 32) (v9 : BitVec 32) (v18 : BitVec 32) (v27 : BitVec 32) (v36 : BitVec 32) (v45 : BitVec 32) (v54 : BitVec 32) (v63 : BitVec 32) (k0_hw7 : k0_chk7 v0 v9 v18 v27 v36 v45 v54 v63) (k0_t2 : Fin (k0_t2_loop v0 v9 v18 v27 v36 v45 v54 v63).trips), ∀ (k0_h30 : k0_cond30 v0 v9 v18 v27 v36 v45 v54 v63 k0_t2 = 1#1), (Rect.unit (s := S4x7x512x2048) (k0_off260 v0 v9 v18 v27 v36 v45 v54 v63 k0_t2) S1x1x512x2048.size (k0_off260_inb v0 v9 v18 v27 v36 v45 v54 v63 k0_hw7 k0_t2 k0_h30)).WholeWords (EltTy.packing .fp8e4m3) := fun v0 v9 v18 v27 v36 v45 v54 v63 k0_hw7 k0_t2 k0_h30 => k0_hw7.2.2.1.2.2.2.2.2.2.2.2.2.2.2.2.2.2.2.2.2.2.2.2.2.2.2.2.2.2.2.2.2.2.1 k0_t2 k0_h30 (k0_off260_inb v0 v9 v18 v27 v36 v45 v54 v63 k0_hw7 k0_t2 k0_h30)
theorem k0_off262_inb : ∀ (v0 : BitVec 32) (v9 : BitVec 32) (v18 : BitVec 32) (v27 : BitVec 32) (v36 : BitVec 32) (v45 : BitVec 32) (v54 : BitVec 32) (v63 : BitVec 32) (k0_hw7 : k0_chk7 v0 v9 v18 v27 v36 v45 v54 v63) (k0_t2 : Fin (k0_t2_loop v0 v9 v18 v27 v36 v45 v54 v63).trips), ∀ a, (k0_off262 v0 v9 v18 v27 v36 v45 v54 v63 k0_t2) a + S1.size a ≤ S8.size a := fun v0 v9 v18 v27 v36 v45 v54 v63 k0_hw7 k0_t2 => k0_hw7.2.2.1.2.2.2.2.2.2.2.2.2.2.2.2.2.2.2.2.2.2.2.2.2.2.2.2.2.2.2.2.2.2.2 k0_t2
theorem k0_off263_inb : ∀ (v0 : BitVec 32) (v9 : BitVec 32) (v18 : BitVec 32) (v27 : BitVec 32) (v36 : BitVec 32) (v45 : BitVec 32) (v54 : BitVec 32) (v63 : BitVec 32) (k0_hw7 : k0_chk7 v0 v9 v18 v27 v36 v45 v54 v63) (k0_t2 : Fin (k0_t2_loop v0 v9 v18 v27 v36 v45 v54 v63).trips), ∀ a, (k0_off263 v0 v9 v18 v27 v36 v45 v54 v63 k0_t2) a + S1x1.size a ≤ S4x7.size a := fun v0 v9 v18 v27 v36 v45 v54 v63 k0_hw7 k0_t2 => k0_hw7.2.2.2.1.1 k0_t2
theorem k0_off264_inb : ∀ (v0 : BitVec 32) (v9 : BitVec 32) (v18 : BitVec 32) (v27 : BitVec 32) (v36 : BitVec 32) (v45 : BitVec 32) (v54 : BitVec 32) (v63 : BitVec 32) (k0_hw7 : k0_chk7 v0 v9 v18 v27 v36 v45 v54 v63) (k0_t2 : Fin (k0_t2_loop v0 v9 v18 v27 v36 v45 v54 v63).trips), ∀ a, (k0_off264 v0 v9 v18 v27 v36 v45 v54 v63 k0_t2) a + S1x1x512x2048.size a ≤ S4x7x512x2048.size a := fun v0 v9 v18 v27 v36 v45 v54 v63 k0_hw7 k0_t2 => k0_hw7.2.2.2.1.2.1 k0_t2
theorem k0_off264_wordsfp8e4m3 : ∀ (v0 : BitVec 32) (v9 : BitVec 32) (v18 : BitVec 32) (v27 : BitVec 32) (v36 : BitVec 32) (v45 : BitVec 32) (v54 : BitVec 32) (v63 : BitVec 32) (k0_hw7 : k0_chk7 v0 v9 v18 v27 v36 v45 v54 v63) (k0_t2 : Fin (k0_t2_loop v0 v9 v18 v27 v36 v45 v54 v63).trips), (Rect.unit (s := S4x7x512x2048) (k0_off264 v0 v9 v18 v27 v36 v45 v54 v63 k0_t2) S1x1x512x2048.size (k0_off264_inb v0 v9 v18 v27 v36 v45 v54 v63 k0_hw7 k0_t2)).WholeWords (EltTy.packing .fp8e4m3) := fun v0 v9 v18 v27 v36 v45 v54 v63 k0_hw7 k0_t2 => k0_hw7.2.2.2.1.2.2.1 k0_t2 (k0_off264_inb v0 v9 v18 v27 v36 v45 v54 v63 k0_hw7 k0_t2)
theorem k0_off266_inb : ∀ (v0 : BitVec 32) (v9 : BitVec 32) (v18 : BitVec 32) (v27 : BitVec 32) (v36 : BitVec 32) (v45 : BitVec 32) (v54 : BitVec 32) (v63 : BitVec 32) (k0_hw7 : k0_chk7 v0 v9 v18 v27 v36 v45 v54 v63) (k0_t2 : Fin (k0_t2_loop v0 v9 v18 v27 v36 v45 v54 v63).trips), ∀ a, (k0_off266 v0 v9 v18 v27 v36 v45 v54 v63 k0_t2) a + S1x1x512x2048.size a ≤ S4x7x512x2048.size a := fun v0 v9 v18 v27 v36 v45 v54 v63 k0_hw7 k0_t2 => k0_hw7.2.2.2.1.2.2.2.1 k0_t2
theorem k0_off271_inb : ∀ (v0 : BitVec 32) (v9 : BitVec 32) (v18 : BitVec 32) (v27 : BitVec 32) (v36 : BitVec 32) (v45 : BitVec 32) (v54 : BitVec 32) (v63 : BitVec 32) (k0_hw7 : k0_chk7 v0 v9 v18 v27 v36 v45 v54 v63) (k0_t2 : Fin (k0_t2_loop v0 v9 v18 v27 v36 v45 v54 v63).trips), ∀ (k0_h31 : k0_cond31 v0 v9 v18 v27 v36 v45 v54 v63 k0_t2 = 1#1), ∀ a, (k0_off271 v0 v9 v18 v27 v36 v45 v54 v63 k0_t2) a + S1.size a ≤ S8.size a := fun v0 v9 v18 v27 v36 v45 v54 v63 k0_hw7 k0_t2 k0_h31 => k0_hw7.2.2.2.1.2.2.2.2.1 k0_t2 k0_h31
theorem k0_off272_inb : ∀ (v0 : BitVec 32) (v9 : BitVec 32) (v18 : BitVec 32) (v27 : BitVec 32) (v36 : BitVec 32) (v45 : BitVec 32) (v54 : BitVec 32) (v63 : BitVec 32) (k0_hw7 : k0_chk7 v0 v9 v18 v27 v36 v45 v54 v63) (k0_t2 : Fin (k0_t2_loop v0 v9 v18 v27 v36 v45 v54 v63).trips), ∀ (k0_h31 : k0_cond31 v0 v9 v18 v27 v36 v45 v54 v63 k0_t2 = 1#1), ∀ a, (k0_off272 v0 v9 v18 v27 v36 v45 v54 v63 k0_t2) a + S1x1.size a ≤ S4x7.size a := fun v0 v9 v18 v27 v36 v45 v54 v63 k0_hw7 k0_t2 k0_h31 => k0_hw7.2.2.2.1.2.2.2.2.2.1 k0_t2 k0_h31
theorem k0_off273_inb : ∀ (v0 : BitVec 32) (v9 : BitVec 32) (v18 : BitVec 32) (v27 : BitVec 32) (v36 : BitVec 32) (v45 : BitVec 32) (v54 : BitVec 32) (v63 : BitVec 32) (k0_hw7 : k0_chk7 v0 v9 v18 v27 v36 v45 v54 v63) (k0_t2 : Fin (k0_t2_loop v0 v9 v18 v27 v36 v45 v54 v63).trips), ∀ (k0_h31 : k0_cond31 v0 v9 v18 v27 v36 v45 v54 v63 k0_t2 = 1#1), ∀ a, (k0_off273 v0 v9 v18 v27 v36 v45 v54 v63 k0_t2) a + S1x1x512x2048.size a ≤ S4x7x512x2048.size a := fun v0 v9 v18 v27 v36 v45 v54 v63 k0_hw7 k0_t2 k0_h31 => k0_hw7.2.2.2.1.2.2.2.2.2.2.1 k0_t2 k0_h31
theorem k0_off273_wordsfp8e4m3 : ∀ (v0 : BitVec 32) (v9 : BitVec 32) (v18 : BitVec 32) (v27 : BitVec 32) (v36 : BitVec 32) (v45 : BitVec 32) (v54 : BitVec 32) (v63 : BitVec 32) (k0_hw7 : k0_chk7 v0 v9 v18 v27 v36 v45 v54 v63) (k0_t2 : Fin (k0_t2_loop v0 v9 v18 v27 v36 v45 v54 v63).trips), ∀ (k0_h31 : k0_cond31 v0 v9 v18 v27 v36 v45 v54 v63 k0_t2 = 1#1), (Rect.unit (s := S4x7x512x2048) (k0_off273 v0 v9 v18 v27 v36 v45 v54 v63 k0_t2) S1x1x512x2048.size (k0_off273_inb v0 v9 v18 v27 v36 v45 v54 v63 k0_hw7 k0_t2 k0_h31)).WholeWords (EltTy.packing .fp8e4m3) := fun v0 v9 v18 v27 v36 v45 v54 v63 k0_hw7 k0_t2 k0_h31 => k0_hw7.2.2.2.1.2.2.2.2.2.2.2.1 k0_t2 k0_h31 (k0_off273_inb v0 v9 v18 v27 v36 v45 v54 v63 k0_hw7 k0_t2 k0_h31)
theorem k0_off275_inb : ∀ (v0 : BitVec 32) (v9 : BitVec 32) (v18 : BitVec 32) (v27 : BitVec 32) (v36 : BitVec 32) (v45 : BitVec 32) (v54 : BitVec 32) (v63 : BitVec 32) (k0_hw7 : k0_chk7 v0 v9 v18 v27 v36 v45 v54 v63) (k0_t2 : Fin (k0_t2_loop v0 v9 v18 v27 v36 v45 v54 v63).trips), ∀ a, (k0_off275 v0 v9 v18 v27 v36 v45 v54 v63 k0_t2) a + S1.size a ≤ S8.size a := fun v0 v9 v18 v27 v36 v45 v54 v63 k0_hw7 k0_t2 => k0_hw7.2.2.2.1.2.2.2.2.2.2.2.2.1 k0_t2
theorem k0_off276_inb : ∀ (v0 : BitVec 32) (v9 : BitVec 32) (v18 : BitVec 32) (v27 : BitVec 32) (v36 : BitVec 32) (v45 : BitVec 32) (v54 : BitVec 32) (v63 : BitVec 32) (k0_hw7 : k0_chk7 v0 v9 v18 v27 v36 v45 v54 v63) (k0_t2 : Fin (k0_t2_loop v0 v9 v18 v27 v36 v45 v54 v63).trips), ∀ a, (k0_off276 v0 v9 v18 v27 v36 v45 v54 v63 k0_t2) a + S1x1.size a ≤ S4x7.size a := fun v0 v9 v18 v27 v36 v45 v54 v63 k0_hw7 k0_t2 => k0_hw7.2.2.2.1.2.2.2.2.2.2.2.2.2.1 k0_t2
theorem k0_off277_inb : ∀ (v0 : BitVec 32) (v9 : BitVec 32) (v18 : BitVec 32) (v27 : BitVec 32) (v36 : BitVec 32) (v45 : BitVec 32) (v54 : BitVec 32) (v63 : BitVec 32) (k0_hw7 : k0_chk7 v0 v9 v18 v27 v36 v45 v54 v63) (k0_t2 : Fin (k0_t2_loop v0 v9 v18 v27 v36 v45 v54 v63).trips), ∀ a, (k0_off277 v0 v9 v18 v27 v36 v45 v54 v63 k0_t2) a + S1x1x512x2048.size a ≤ S4x7x512x2048.size a := fun v0 v9 v18 v27 v36 v45 v54 v63 k0_hw7 k0_t2 => k0_hw7.2.2.2.1.2.2.2.2.2.2.2.2.2.2.1 k0_t2
theorem k0_off277_wordsfp8e4m3 : ∀ (v0 : BitVec 32) (v9 : BitVec 32) (v18 : BitVec 32) (v27 : BitVec 32) (v36 : BitVec 32) (v45 : BitVec 32) (v54 : BitVec 32) (v63 : BitVec 32) (k0_hw7 : k0_chk7 v0 v9 v18 v27 v36 v45 v54 v63) (k0_t2 : Fin (k0_t2_loop v0 v9 v18 v27 v36 v45 v54 v63).trips), (Rect.unit (s := S4x7x512x2048) (k0_off277 v0 v9 v18 v27 v36 v45 v54 v63 k0_t2) S1x1x512x2048.size (k0_off277_inb v0 v9 v18 v27 v36 v45 v54 v63 k0_hw7 k0_t2)).WholeWords (EltTy.packing .fp8e4m3) := fun v0 v9 v18 v27 v36 v45 v54 v63 k0_hw7 k0_t2 => k0_hw7.2.2.2.1.2.2.2.2.2.2.2.2.2.2.2.1 k0_t2 (k0_off277_inb v0 v9 v18 v27 v36 v45 v54 v63 k0_hw7 k0_t2)
theorem k0_off279_inb : ∀ (v0 : BitVec 32) (v9 : BitVec 32) (v18 : BitVec 32) (v27 : BitVec 32) (v36 : BitVec 32) (v45 : BitVec 32) (v54 : BitVec 32) (v63 : BitVec 32) (k0_hw7 : k0_chk7 v0 v9 v18 v27 v36 v45 v54 v63) (k0_t2 : Fin (k0_t2_loop v0 v9 v18 v27 v36 v45 v54 v63).trips), ∀ a, (k0_off279 v0 v9 v18 v27 v36 v45 v54 v63 k0_t2) a + S1x1x512x2048.size a ≤ S4x7x512x2048.size a := fun v0 v9 v18 v27 v36 v45 v54 v63 k0_hw7 k0_t2 => k0_hw7.2.2.2.1.2.2.2.2.2.2.2.2.2.2.2.2.1 k0_t2
theorem k0_off284_inb : ∀ (v0 : BitVec 32) (v9 : BitVec 32) (v18 : BitVec 32) (v27 : BitVec 32) (v36 : BitVec 32) (v45 : BitVec 32) (v54 : BitVec 32) (v63 : BitVec 32) (k0_hw7 : k0_chk7 v0 v9 v18 v27 v36 v45 v54 v63) (k0_t2 : Fin (k0_t2_loop v0 v9 v18 v27 v36 v45 v54 v63).trips), ∀ (k0_h32 : k0_cond32 v0 v9 v18 v27 v36 v45 v54 v63 k0_t2 = 1#1), ∀ a, (k0_off284 v0 v9 v18 v27 v36 v45 v54 v63 k0_t2) a + S1.size a ≤ S8.size a := fun v0 v9 v18 v27 v36 v45 v54 v63 k0_hw7 k0_t2 k0_h32 => k0_hw7.2.2.2.1.2.2.2.2.2.2.2.2.2.2.2.2.2.1 k0_t2 k0_h32
theorem k0_off285_inb : ∀ (v0 : BitVec 32) (v9 : BitVec 32) (v18 : BitVec 32) (v27 : BitVec 32) (v36 : BitVec 32) (v45 : BitVec 32) (v54 : BitVec 32) (v63 : BitVec 32) (k0_hw7 : k0_chk7 v0 v9 v18 v27 v36 v45 v54 v63) (k0_t2 : Fin (k0_t2_loop v0 v9 v18 v27 v36 v45 v54 v63).trips), ∀ (k0_h32 : k0_cond32 v0 v9 v18 v27 v36 v45 v54 v63 k0_t2 = 1#1), ∀ a, (k0_off285 v0 v9 v18 v27 v36 v45 v54 v63 k0_t2) a + S1x1.size a ≤ S4x7.size a := fun v0 v9 v18 v27 v36 v45 v54 v63 k0_hw7 k0_t2 k0_h32 => k0_hw7.2.2.2.1.2.2.2.2.2.2.2.2.2.2.2.2.2.2.1 k0_t2 k0_h32
theorem k0_off286_inb : ∀ (v0 : BitVec 32) (v9 : BitVec 32) (v18 : BitVec 32) (v27 : BitVec 32) (v36 : BitVec 32) (v45 : BitVec 32) (v54 : BitVec 32) (v63 : BitVec 32) (k0_hw7 : k0_chk7 v0 v9 v18 v27 v36 v45 v54 v63) (k0_t2 : Fin (k0_t2_loop v0 v9 v18 v27 v36 v45 v54 v63).trips), ∀ (k0_h32 : k0_cond32 v0 v9 v18 v27 v36 v45 v54 v63 k0_t2 = 1#1), ∀ a, (k0_off286 v0 v9 v18 v27 v36 v45 v54 v63 k0_t2) a + S1x1x512x2048.size a ≤ S4x7x512x2048.size a := fun v0 v9 v18 v27 v36 v45 v54 v63 k0_hw7 k0_t2 k0_h32 => k0_hw7.2.2.2.1.2.2.2.2.2.2.2.2.2.2.2.2.2.2.2.1 k0_t2 k0_h32
theorem k0_off286_wordsfp8e4m3 : ∀ (v0 : BitVec 32) (v9 : BitVec 32) (v18 : BitVec 32) (v27 : BitVec 32) (v36 : BitVec 32) (v45 : BitVec 32) (v54 : BitVec 32) (v63 : BitVec 32) (k0_hw7 : k0_chk7 v0 v9 v18 v27 v36 v45 v54 v63) (k0_t2 : Fin (k0_t2_loop v0 v9 v18 v27 v36 v45 v54 v63).trips), ∀ (k0_h32 : k0_cond32 v0 v9 v18 v27 v36 v45 v54 v63 k0_t2 = 1#1), (Rect.unit (s := S4x7x512x2048) (k0_off286 v0 v9 v18 v27 v36 v45 v54 v63 k0_t2) S1x1x512x2048.size (k0_off286_inb v0 v9 v18 v27 v36 v45 v54 v63 k0_hw7 k0_t2 k0_h32)).WholeWords (EltTy.packing .fp8e4m3) := fun v0 v9 v18 v27 v36 v45 v54 v63 k0_hw7 k0_t2 k0_h32 => k0_hw7.2.2.2.1.2.2.2.2.2.2.2.2.2.2.2.2.2.2.2.2.1 k0_t2 k0_h32 (k0_off286_inb v0 v9 v18 v27 v36 v45 v54 v63 k0_hw7 k0_t2 k0_h32)
theorem k0_off288_inb : ∀ (v0 : BitVec 32) (v9 : BitVec 32) (v18 : BitVec 32) (v27 : BitVec 32) (v36 : BitVec 32) (v45 : BitVec 32) (v54 : BitVec 32) (v63 : BitVec 32) (k0_hw7 : k0_chk7 v0 v9 v18 v27 v36 v45 v54 v63) (k0_t2 : Fin (k0_t2_loop v0 v9 v18 v27 v36 v45 v54 v63).trips), ∀ a, (k0_off288 v0 v9 v18 v27 v36 v45 v54 v63 k0_t2) a + S1.size a ≤ S8.size a := fun v0 v9 v18 v27 v36 v45 v54 v63 k0_hw7 k0_t2 => k0_hw7.2.2.2.1.2.2.2.2.2.2.2.2.2.2.2.2.2.2.2.2.2.1 k0_t2
theorem k0_off289_inb : ∀ (v0 : BitVec 32) (v9 : BitVec 32) (v18 : BitVec 32) (v27 : BitVec 32) (v36 : BitVec 32) (v45 : BitVec 32) (v54 : BitVec 32) (v63 : BitVec 32) (k0_hw7 : k0_chk7 v0 v9 v18 v27 v36 v45 v54 v63) (k0_t2 : Fin (k0_t2_loop v0 v9 v18 v27 v36 v45 v54 v63).trips), ∀ a, (k0_off289 v0 v9 v18 v27 v36 v45 v54 v63 k0_t2) a + S1x1.size a ≤ S4x7.size a := fun v0 v9 v18 v27 v36 v45 v54 v63 k0_hw7 k0_t2 => k0_hw7.2.2.2.1.2.2.2.2.2.2.2.2.2.2.2.2.2.2.2.2.2.2.1 k0_t2
theorem k0_off290_inb : ∀ (v0 : BitVec 32) (v9 : BitVec 32) (v18 : BitVec 32) (v27 : BitVec 32) (v36 : BitVec 32) (v45 : BitVec 32) (v54 : BitVec 32) (v63 : BitVec 32) (k0_hw7 : k0_chk7 v0 v9 v18 v27 v36 v45 v54 v63) (k0_t2 : Fin (k0_t2_loop v0 v9 v18 v27 v36 v45 v54 v63).trips), ∀ a, (k0_off290 v0 v9 v18 v27 v36 v45 v54 v63 k0_t2) a + S1x1x512x2048.size a ≤ S4x7x512x2048.size a := fun v0 v9 v18 v27 v36 v45 v54 v63 k0_hw7 k0_t2 => k0_hw7.2.2.2.1.2.2.2.2.2.2.2.2.2.2.2.2.2.2.2.2.2.2.2.1 k0_t2
theorem k0_off290_wordsfp8e4m3 : ∀ (v0 : BitVec 32) (v9 : BitVec 32) (v18 : BitVec 32) (v27 : BitVec 32) (v36 : BitVec 32) (v45 : BitVec 32) (v54 : BitVec 32) (v63 : BitVec 32) (k0_hw7 : k0_chk7 v0 v9 v18 v27 v36 v45 v54 v63) (k0_t2 : Fin (k0_t2_loop v0 v9 v18 v27 v36 v45 v54 v63).trips), (Rect.unit (s := S4x7x512x2048) (k0_off290 v0 v9 v18 v27 v36 v45 v54 v63 k0_t2) S1x1x512x2048.size (k0_off290_inb v0 v9 v18 v27 v36 v45 v54 v63 k0_hw7 k0_t2)).WholeWords (EltTy.packing .fp8e4m3) := fun v0 v9 v18 v27 v36 v45 v54 v63 k0_hw7 k0_t2 => k0_hw7.2.2.2.1.2.2.2.2.2.2.2.2.2.2.2.2.2.2.2.2.2.2.2.2.1 k0_t2 (k0_off290_inb v0 v9 v18 v27 v36 v45 v54 v63 k0_hw7 k0_t2)
theorem k0_off292_inb : ∀ (v0 : BitVec 32) (v9 : BitVec 32) (v18 : BitVec 32) (v27 : BitVec 32) (v36 : BitVec 32) (v45 : BitVec 32) (v54 : BitVec 32) (v63 : BitVec 32) (k0_hw7 : k0_chk7 v0 v9 v18 v27 v36 v45 v54 v63) (k0_t2 : Fin (k0_t2_loop v0 v9 v18 v27 v36 v45 v54 v63).trips), ∀ a, (k0_off292 v0 v9 v18 v27 v36 v45 v54 v63 k0_t2) a + S1x1x512x2048.size a ≤ S4x7x512x2048.size a := fun v0 v9 v18 v27 v36 v45 v54 v63 k0_hw7 k0_t2 => k0_hw7.2.2.2.1.2.2.2.2.2.2.2.2.2.2.2.2.2.2.2.2.2.2.2.2.2.1 k0_t2
theorem k0_off297_inb : ∀ (v0 : BitVec 32) (v9 : BitVec 32) (v18 : BitVec 32) (v27 : BitVec 32) (v36 : BitVec 32) (v45 : BitVec 32) (v54 : BitVec 32) (v63 : BitVec 32) (k0_hw7 : k0_chk7 v0 v9 v18 v27 v36 v45 v54 v63) (k0_t2 : Fin (k0_t2_loop v0 v9 v18 v27 v36 v45 v54 v63).trips), ∀ (k0_h33 : k0_cond33 v0 v9 v18 v27 v36 v45 v54 v63 k0_t2 = 1#1), ∀ a, (k0_off297 v0 v9 v18 v27 v36 v45 v54 v63 k0_t2) a + S1.size a ≤ S8.size a := fun v0 v9 v18 v27 v36 v45 v54 v63 k0_hw7 k0_t2 k0_h33 => k0_hw7.2.2.2.1.2.2.2.2.2.2.2.2.2.2.2.2.2.2.2.2.2.2.2.2.2.2.1 k0_t2 k0_h33
theorem k0_off298_inb : ∀ (v0 : BitVec 32) (v9 : BitVec 32) (v18 : BitVec 32) (v27 : BitVec 32) (v36 : BitVec 32) (v45 : BitVec 32) (v54 : BitVec 32) (v63 : BitVec 32) (k0_hw7 : k0_chk7 v0 v9 v18 v27 v36 v45 v54 v63) (k0_t2 : Fin (k0_t2_loop v0 v9 v18 v27 v36 v45 v54 v63).trips), ∀ (k0_h33 : k0_cond33 v0 v9 v18 v27 v36 v45 v54 v63 k0_t2 = 1#1), ∀ a, (k0_off298 v0 v9 v18 v27 v36 v45 v54 v63 k0_t2) a + S1x1.size a ≤ S4x7.size a := fun v0 v9 v18 v27 v36 v45 v54 v63 k0_hw7 k0_t2 k0_h33 => k0_hw7.2.2.2.1.2.2.2.2.2.2.2.2.2.2.2.2.2.2.2.2.2.2.2.2.2.2.2.1 k0_t2 k0_h33
theorem k0_off299_inb : ∀ (v0 : BitVec 32) (v9 : BitVec 32) (v18 : BitVec 32) (v27 : BitVec 32) (v36 : BitVec 32) (v45 : BitVec 32) (v54 : BitVec 32) (v63 : BitVec 32) (k0_hw7 : k0_chk7 v0 v9 v18 v27 v36 v45 v54 v63) (k0_t2 : Fin (k0_t2_loop v0 v9 v18 v27 v36 v45 v54 v63).trips), ∀ (k0_h33 : k0_cond33 v0 v9 v18 v27 v36 v45 v54 v63 k0_t2 = 1#1), ∀ a, (k0_off299 v0 v9 v18 v27 v36 v45 v54 v63 k0_t2) a + S1x1x512x2048.size a ≤ S4x7x512x2048.size a := fun v0 v9 v18 v27 v36 v45 v54 v63 k0_hw7 k0_t2 k0_h33 => k0_hw7.2.2.2.1.2.2.2.2.2.2.2.2.2.2.2.2.2.2.2.2.2.2.2.2.2.2.2.2.1 k0_t2 k0_h33
theorem k0_off299_wordsfp8e4m3 : ∀ (v0 : BitVec 32) (v9 : BitVec 32) (v18 : BitVec 32) (v27 : BitVec 32) (v36 : BitVec 32) (v45 : BitVec 32) (v54 : BitVec 32) (v63 : BitVec 32) (k0_hw7 : k0_chk7 v0 v9 v18 v27 v36 v45 v54 v63) (k0_t2 : Fin (k0_t2_loop v0 v9 v18 v27 v36 v45 v54 v63).trips), ∀ (k0_h33 : k0_cond33 v0 v9 v18 v27 v36 v45 v54 v63 k0_t2 = 1#1), (Rect.unit (s := S4x7x512x2048) (k0_off299 v0 v9 v18 v27 v36 v45 v54 v63 k0_t2) S1x1x512x2048.size (k0_off299_inb v0 v9 v18 v27 v36 v45 v54 v63 k0_hw7 k0_t2 k0_h33)).WholeWords (EltTy.packing .fp8e4m3) := fun v0 v9 v18 v27 v36 v45 v54 v63 k0_hw7 k0_t2 k0_h33 => k0_hw7.2.2.2.1.2.2.2.2.2.2.2.2.2.2.2.2.2.2.2.2.2.2.2.2.2.2.2.2.2.1 k0_t2 k0_h33 (k0_off299_inb v0 v9 v18 v27 v36 v45 v54 v63 k0_hw7 k0_t2 k0_h33)
theorem k0_off301_inb : ∀ (v0 : BitVec 32) (v9 : BitVec 32) (v18 : BitVec 32) (v27 : BitVec 32) (v36 : BitVec 32) (v45 : BitVec 32) (v54 : BitVec 32) (v63 : BitVec 32) (k0_hw7 : k0_chk7 v0 v9 v18 v27 v36 v45 v54 v63) (k0_t2 : Fin (k0_t2_loop v0 v9 v18 v27 v36 v45 v54 v63).trips), ∀ a, (k0_off301 v0 v9 v18 v27 v36 v45 v54 v63 k0_t2) a + S1.size a ≤ S8.size a := fun v0 v9 v18 v27 v36 v45 v54 v63 k0_hw7 k0_t2 => k0_hw7.2.2.2.1.2.2.2.2.2.2.2.2.2.2.2.2.2.2.2.2.2.2.2.2.2.2.2.2.2.2.1 k0_t2
theorem k0_off302_inb : ∀ (v0 : BitVec 32) (v9 : BitVec 32) (v18 : BitVec 32) (v27 : BitVec 32) (v36 : BitVec 32) (v45 : BitVec 32) (v54 : BitVec 32) (v63 : BitVec 32) (k0_hw7 : k0_chk7 v0 v9 v18 v27 v36 v45 v54 v63) (k0_t2 : Fin (k0_t2_loop v0 v9 v18 v27 v36 v45 v54 v63).trips), ∀ a, (k0_off302 v0 v9 v18 v27 v36 v45 v54 v63 k0_t2) a + S1x1.size a ≤ S4x7.size a := fun v0 v9 v18 v27 v36 v45 v54 v63 k0_hw7 k0_t2 => k0_hw7.2.2.2.1.2.2.2.2.2.2.2.2.2.2.2.2.2.2.2.2.2.2.2.2.2.2.2.2.2.2.2.1 k0_t2
theorem k0_off303_inb : ∀ (v0 : BitVec 32) (v9 : BitVec 32) (v18 : BitVec 32) (v27 : BitVec 32) (v36 : BitVec 32) (v45 : BitVec 32) (v54 : BitVec 32) (v63 : BitVec 32) (k0_hw7 : k0_chk7 v0 v9 v18 v27 v36 v45 v54 v63) (k0_t2 : Fin (k0_t2_loop v0 v9 v18 v27 v36 v45 v54 v63).trips), ∀ a, (k0_off303 v0 v9 v18 v27 v36 v45 v54 v63 k0_t2) a + S1x1x512x2048.size a ≤ S4x7x512x2048.size a := fun v0 v9 v18 v27 v36 v45 v54 v63 k0_hw7 k0_t2 => k0_hw7.2.2.2.1.2.2.2.2.2.2.2.2.2.2.2.2.2.2.2.2.2.2.2.2.2.2.2.2.2.2.2.2.1 k0_t2
theorem k0_off303_wordsfp8e4m3 : ∀ (v0 : BitVec 32) (v9 : BitVec 32) (v18 : BitVec 32) (v27 : BitVec 32) (v36 : BitVec 32) (v45 : BitVec 32) (v54 : BitVec 32) (v63 : BitVec 32) (k0_hw7 : k0_chk7 v0 v9 v18 v27 v36 v45 v54 v63) (k0_t2 : Fin (k0_t2_loop v0 v9 v18 v27 v36 v45 v54 v63).trips), (Rect.unit (s := S4x7x512x2048) (k0_off303 v0 v9 v18 v27 v36 v45 v54 v63 k0_t2) S1x1x512x2048.size (k0_off303_inb v0 v9 v18 v27 v36 v45 v54 v63 k0_hw7 k0_t2)).WholeWords (EltTy.packing .fp8e4m3) := fun v0 v9 v18 v27 v36 v45 v54 v63 k0_hw7 k0_t2 => k0_hw7.2.2.2.1.2.2.2.2.2.2.2.2.2.2.2.2.2.2.2.2.2.2.2.2.2.2.2.2.2.2.2.2.2.1 k0_t2 (k0_off303_inb v0 v9 v18 v27 v36 v45 v54 v63 k0_hw7 k0_t2)
theorem k0_off305_inb : ∀ (v0 : BitVec 32) (v9 : BitVec 32) (v18 : BitVec 32) (v27 : BitVec 32) (v36 : BitVec 32) (v45 : BitVec 32) (v54 : BitVec 32) (v63 : BitVec 32) (k0_hw7 : k0_chk7 v0 v9 v18 v27 v36 v45 v54 v63) (k0_t2 : Fin (k0_t2_loop v0 v9 v18 v27 v36 v45 v54 v63).trips), ∀ a, (k0_off305 v0 v9 v18 v27 v36 v45 v54 v63 k0_t2) a + S1x1x512x2048.size a ≤ S4x7x512x2048.size a := fun v0 v9 v18 v27 v36 v45 v54 v63 k0_hw7 k0_t2 => k0_hw7.2.2.2.1.2.2.2.2.2.2.2.2.2.2.2.2.2.2.2.2.2.2.2.2.2.2.2.2.2.2.2.2.2.2.1 k0_t2
theorem k0_off310_inb : ∀ (v0 : BitVec 32) (v9 : BitVec 32) (v18 : BitVec 32) (v27 : BitVec 32) (v36 : BitVec 32) (v45 : BitVec 32) (v54 : BitVec 32) (v63 : BitVec 32) (k0_hw7 : k0_chk7 v0 v9 v18 v27 v36 v45 v54 v63) (k0_t2 : Fin (k0_t2_loop v0 v9 v18 v27 v36 v45 v54 v63).trips), ∀ (k0_h34 : k0_cond34 v0 v9 v18 v27 v36 v45 v54 v63 k0_t2 = 1#1), ∀ a, (k0_off310 v0 v9 v18 v27 v36 v45 v54 v63 k0_t2) a + S1.size a ≤ S8.size a := fun v0 v9 v18 v27 v36 v45 v54 v63 k0_hw7 k0_t2 k0_h34 => k0_hw7.2.2.2.1.2.2.2.2.2.2.2.2.2.2.2.2.2.2.2.2.2.2.2.2.2.2.2.2.2.2.2.2.2.2.2 k0_t2 k0_h34
theorem k0_off311_inb : ∀ (v0 : BitVec 32) (v9 : BitVec 32) (v18 : BitVec 32) (v27 : BitVec 32) (v36 : BitVec 32) (v45 : BitVec 32) (v54 : BitVec 32) (v63 : BitVec 32) (k0_hw7 : k0_chk7 v0 v9 v18 v27 v36 v45 v54 v63) (k0_t2 : Fin (k0_t2_loop v0 v9 v18 v27 v36 v45 v54 v63).trips), ∀ (k0_h34 : k0_cond34 v0 v9 v18 v27 v36 v45 v54 v63 k0_t2 = 1#1), ∀ a, (k0_off311 v0 v9 v18 v27 v36 v45 v54 v63 k0_t2) a + S1x1.size a ≤ S4x7.size a := fun v0 v9 v18 v27 v36 v45 v54 v63 k0_hw7 k0_t2 k0_h34 => k0_hw7.2.2.2.2.1 k0_t2 k0_h34
theorem k0_off312_inb : ∀ (v0 : BitVec 32) (v9 : BitVec 32) (v18 : BitVec 32) (v27 : BitVec 32) (v36 : BitVec 32) (v45 : BitVec 32) (v54 : BitVec 32) (v63 : BitVec 32) (k0_hw7 : k0_chk7 v0 v9 v18 v27 v36 v45 v54 v63) (k0_t2 : Fin (k0_t2_loop v0 v9 v18 v27 v36 v45 v54 v63).trips), ∀ (k0_h34 : k0_cond34 v0 v9 v18 v27 v36 v45 v54 v63 k0_t2 = 1#1), ∀ a, (k0_off312 v0 v9 v18 v27 v36 v45 v54 v63 k0_t2) a + S1x1x512x2048.size a ≤ S4x7x512x2048.size a := fun v0 v9 v18 v27 v36 v45 v54 v63 k0_hw7 k0_t2 k0_h34 => k0_hw7.2.2.2.2.2.1 k0_t2 k0_h34
theorem k0_off312_wordsfp8e4m3 : ∀ (v0 : BitVec 32) (v9 : BitVec 32) (v18 : BitVec 32) (v27 : BitVec 32) (v36 : BitVec 32) (v45 : BitVec 32) (v54 : BitVec 32) (v63 : BitVec 32) (k0_hw7 : k0_chk7 v0 v9 v18 v27 v36 v45 v54 v63) (k0_t2 : Fin (k0_t2_loop v0 v9 v18 v27 v36 v45 v54 v63).trips), ∀ (k0_h34 : k0_cond34 v0 v9 v18 v27 v36 v45 v54 v63 k0_t2 = 1#1), (Rect.unit (s := S4x7x512x2048) (k0_off312 v0 v9 v18 v27 v36 v45 v54 v63 k0_t2) S1x1x512x2048.size (k0_off312_inb v0 v9 v18 v27 v36 v45 v54 v63 k0_hw7 k0_t2 k0_h34)).WholeWords (EltTy.packing .fp8e4m3) := fun v0 v9 v18 v27 v36 v45 v54 v63 k0_hw7 k0_t2 k0_h34 => k0_hw7.2.2.2.2.2.2 k0_t2 k0_h34 (k0_off312_inb v0 v9 v18 v27 v36 v45 v54 v63 k0_hw7 k0_t2 k0_h34)

abbrev stage0_0 : Fin 1 → Memref sig .tc .smem S8 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S8x10 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S40x2048 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S40x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x28x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x10x3584 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S40x2048 : Shape := ⟨2, ![40, 2048]⟩
abbrev S40x16 : Shape := ⟨2, ![40, 16]⟩
abbrev S8x10 : Shape := ⟨2, ![8, 10]⟩
abbrev S8 : Shape := ⟨1, ![8]⟩
abbrev S8x3584x2048 : Shape := ⟨3, ![8, 3584, 2048]⟩
abbrev S8x28x16 : Shape := ⟨3, ![8, 28, 16]⟩
abbrev S_ : Shape := ⟨0, ![]⟩
abbrev S8x10x1 : Shape := ⟨3, ![8, 10, 1]⟩
abbrev S8x10x2048 : Shape := ⟨3, ![8, 10, 2048]⟩
abbrev S8x10x16 : Shape := ⟨3, ![8, 10, 16]⟩
abbrev S8x10x3584 : Shape := ⟨3, ![8, 10, 3584]⟩
abbrev S8x10x16x128 : Shape := ⟨4, ![8, 10, 16, 128]⟩
abbrev S8x10x16x1 : Shape := ⟨4, ![8, 10, 16, 1]⟩
abbrev S8x1x10x16x128 : Shape := ⟨5, ![8, 1, 10, 16, 128]⟩
abbrev S8x28x1x16x1 : Shape := ⟨5, ![8, 28, 1, 16, 1]⟩
abbrev S8x28x10x16x128 : Shape := ⟨5, ![8, 28, 10, 16, 128]⟩
abbrev S8x28x10x2048 : Shape := ⟨4, ![8, 28, 10, 2048]⟩
abbrev S8x28x128x2048 : Shape := ⟨4, ![8, 28, 128, 2048]⟩
abbrev S8x28x10x128 : Shape := ⟨4, ![8, 28, 10, 128]⟩
abbrev S8x10x28x128 : Shape := ⟨4, ![8, 10, 28, 128]⟩
abbrev S1x10 : Shape := ⟨2, ![1, 10]⟩
abbrev S10 : Shape := ⟨1, ![10]⟩
abbrev S8x1 : Shape := ⟨2, ![8, 1]⟩

abbrev nBuf : Space → Nat
  | .hbm => 25
  | .vmem => 6
  | .smem => 0
  | _ => 0

abbrev bufTy : (tb : Table) → Fin (tcTables nBuf tb) → BufTy
  | .hbm, ⟨0, _⟩ => ⟨S40x2048, .fp8e4m3⟩
  | .hbm, ⟨1, _⟩ => ⟨S40x16, .f32⟩
  | .hbm, ⟨2, _⟩ => ⟨S8x10, .i32⟩
  | .hbm, ⟨3, _⟩ => ⟨S8, .i32⟩
  | .hbm, ⟨4, _⟩ => ⟨S8x3584x2048, .fp8e4m3⟩
  | .hbm, ⟨5, _⟩ => ⟨S8x28x16, .f32⟩
  | .hbm, ⟨6, _⟩ => ⟨S_, .i32⟩
  | .hbm, ⟨7, _⟩ => ⟨S8x10, .i32⟩
  | .hbm, ⟨8, _⟩ => ⟨S8x10, .i1⟩
  | .hbm, ⟨9, _⟩ => ⟨S_, .i32⟩
  | .hbm, ⟨10, _⟩ => ⟨S8x10, .i32⟩
  | .hbm, ⟨11, _⟩ => ⟨S8x10, .i32⟩
  | .hbm, ⟨12, _⟩ => ⟨S8x10, .i32⟩
  | .hbm, ⟨13, _⟩ => ⟨S8x10x1, .i32⟩
  | .hbm, ⟨14, _⟩ => ⟨S8x10x2048, .fp8e4m3⟩
  | .hbm, ⟨15, _⟩ => ⟨S_, .i32⟩
  | .hbm, ⟨16, _⟩ => ⟨S8x10, .i32⟩
  | .hbm, ⟨17, _⟩ => ⟨S8x10, .i1⟩
  | .hbm, ⟨18, _⟩ => ⟨S_, .i32⟩
  | .hbm, ⟨19, _⟩ => ⟨S8x10, .i32⟩
  | .hbm, ⟨20, _⟩ => ⟨S8x10, .i32⟩
  | .hbm, ⟨21, _⟩ => ⟨S8x10, .i32⟩
  | .hbm, ⟨22, _⟩ => ⟨S8x10x1, .i32⟩
  | .hbm, ⟨23, _⟩ => ⟨S8x10x16, .f32⟩
  | .hbm, ⟨24, _⟩ => ⟨S8x10x3584, .bf16⟩
  | .local _ .vmem, ⟨0, _⟩ => ⟨S8x10x2048, .fp8e4m3⟩
  | .local _ .vmem, ⟨1, _⟩ => ⟨S8x10x16, .f32⟩
  | .local _ .vmem, ⟨2, _⟩ => ⟨S8, .i32⟩
  | .local _ .vmem, ⟨3, _⟩ => ⟨S8x3584x2048, .fp8e4m3⟩
  | .local _ .vmem, ⟨4, _⟩ => ⟨S8x28x16, .f32⟩
  | .local _ .vmem, ⟨5, _⟩ => ⟨S8x10x3584, .bf16⟩
  | _, _ => ⟨S40x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S8x10x2048 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x10x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x3584x2048 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x28x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x10x3584 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Ring.lean ====
/-
  The ring of weight chunks: 4 slots of 7 chunks of 512 rows, each chunk with a semaphore cell of its own, and what a cell
  holds when nothing flies to it (`CFree`), while a chunk of an expert's weights flies to it (`CFly`), and once the chunk
  has landed (`CLanded`). Every cell keeps a read share of the weights, so that cells read them independently.
-/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers (Flight shareTokN)

variable {F : FTy → Type} [FloatOps F]

local notation "𝕄" => MT nD τ sig Unit (Elt F) ℕ (Pipeline.UD sig nD τ) ℕ

/-! ## The buffers -/

abbrev wM : Memref sig .tc .hbm S8x3584x2048 .fp8e4m3 := Memref.whole main_arg4
abbrev wbM : Memref sig .tc .vmem S4x7x512x2048 .fp8e4m3 := Memref.whole cc0_scratch0
abbrev xgM : Memref sig .tc .vmem S8x16x2048 .f32 := Memref.whole cc0_scratch1
abbrev xbM : Memref sig .tc .vmem S256x2048 .fp8e4m3 := Memref.whole cc0_scratch2
abbrev sxM : Memref sig .tc .vmem S8x256 .f32 := Memref.whole cc0_scratch3
abbrev acM : Memref sig .tc .smem S8 .i32 := Memref.whole cc0_scratch4

theorem slot_inb (s : Fin 4) (i : Fin 7) : ∀ a, (![s.val, i.val, 0, 0] : Fin 4 → ℕ) a + S1x1x512x2048.size a ≤ S4x7x512x2048.size a := by
  revert s i; decide
theorem chunk_inb (e : Fin 8) (i : Fin 7) : ∀ a, (![e.val, 512 * i.val, 0] : Fin 3 → ℕ) a + S1x512x2048.size a ≤ S8x3584x2048.size a := by
  revert e i; decide
theorem cell_inb (s : Fin 4) (i : Fin 7) : ∀ a, (![s.val, i.val] : Fin 2 → ℕ) a + S1x1.size a ≤ S4x7.size a := by
  revert s i; decide

/-- Slot `s`'s chunk `i` of the ring. -/
abbrev slotR (s : Fin 4) (i : Fin 7) : Rect S4x7x512x2048 := Rect.unit (s := S4x7x512x2048) ![s.val, i.val, 0, 0] S1x1x512x2048.size (slot_inb s i)
abbrev dstM (s : Fin 4) (i : Fin 7) : Memref sig .tc .vmem S512x2048 .fp8e4m3 :=
  (wbM.slice (slotR s i) (fun _ => rfl)).squeeze S512x2048 squeezes_S1x1x512x2048_S512x2048
/-- Rows `512 i …` of expert `e`'s weights. -/
abbrev srcM (e : Fin 8) (i : Fin 7) : Memref sig .tc .hbm S512x2048 .fp8e4m3 :=
  (wM.slice (Rect.unit (s := S8x3584x2048) ![e.val, 512 * i.val, 0] S1x512x2048.size (chunk_inb e i)) (fun _ => rfl)).squeeze S512x2048 squeezes_S1x512x2048_S512x2048
abbrev semC (s : Fin 4) (i : Fin 7) : DmaSem sig :=
  ((cc0_scratch5.slice (Rect.unit (s := S4x7) ![s.val, i.val] S1x1.size (cell_inb s i))).squeeze S_ squeezes_S1x1_S_).sem

/-- The chunk's words. -/
def wchunk (c : Dev nD) (fw : Buf (Elt F) (wM.view.loc (c : Thread nD τ))) (e : Fin 8) (i : Fin 7) : Vec F S512x2048 .fp8e4m3 :=
  (srcM e i).view.read (Elt F) fw

abbrev EC : UEmb Counters 𝕄 := countersEmb (U := Pipeline.UD sig nD τ)

abbrev share (s : Fin 4) (i : Fin 7) : PosShare TreeShare := shareTokN fullShare (7 * s.val + i.val)

section
variable (c : Dev nD) (fw : Buf (Elt F) (wM.view.loc (c : Thread nD τ)))

/-- The ring's own elements of slot `s`, chunk `i`. -/
abbrev slotPt (s : Fin 4) (i : Fin 7) (f : Buf (Elt F) ((dstM s i).view.loc (c : Thread nD τ))) : sProp 𝕄 :=
  (dstM s i).view.loc (c : Thread nD τ) ↦[(dstM s i).view.set]{fullShare} f

def CFree (s : Fin 4) (i : Fin 7) : sProp 𝕄 :=
  iprop(semVal ((c : Thread nD τ), SemLoc.dma (semC s i)) 0 ∗ (∃ f, slotPt c s i f)
    ∗ (wM.view.loc (c : Thread nD τ) ↦{share s i} fw))

def CFly (s : Fin 4) (i : Fin 7) (e : Fin 8) : sProp 𝕄 :=
  iprop((∃ f, Flight EC (c : Thread nD τ) (SemLoc.dma (semC s i)) () (dstM s i).view.dmaCredit
      iprop((slotPt c s i ((dstM s i).view.write (Elt F) f (wchunk c fw e i) Finset.univ))
        ∗ ((srcM e i).view.loc (c : Thread nD τ) ↦[(srcM e i).view.set]{share s i} fw)))
    ∗ (wM.view.loc (c : Thread nD τ) ↦[Finset.univ \ (srcM e i).view.set]{share s i} fw))

/-- The chunk in its slot, the cell ready again. -/
def CLanded (s : Fin 4) (i : Fin 7) (f : Buf (Elt F) ((dstM s i).view.loc (c : Thread nD τ))) : sProp 𝕄 :=
  iprop(semVal ((c : Thread nD τ), SemLoc.dma (semC s i)) 0 ∗ slotPt c s i f
    ∗ (wM.view.loc (c : Thread nD τ) ↦{share s i} fw))

theorem CLanded_free (s : Fin 4) (i : Fin 7) (f : Buf (Elt F) ((dstM s i).view.loc (c : Thread nD τ))) :
    CLanded c fw s i f ⊢ CFree c fw s i := by
  unfold CLanded CFree
  iintro ⟨H1, H2, H3⟩
  isplitl [H1]; · iexact H1
  isplitl [H2]; · iexists f; iexact H2
  iexact H3

theorem amount_pos (s : Fin 4) (i : Fin 7) : 0 < (dstM s i).view.dmaCredit := by
  have : (dstM s i).view.dmaCredit = (dstM 0 0).view.dmaCredit := rfl
  rw [this]; decide

variable {α : Type} {D : Defs nD τ sig (Elt F) Λ₀}

/-- Starting a chunk's transfer on a free cell. -/
theorem wp_start₀ {s : Fin 4} {i : Fin 7} {e : Fin 8}
    {hs : (srcM e i).view.WordExact} {hd : (dstM s i).view.WordExact}
    {ht : DmaTarget.Typed (nD := nD) (sig := sig) (p := .tc) Space.hbm (SemLoc.dma (semC s i)) (.here (dstM s i))}
    {k : PUnit → Prog (TpuEff nD τ sig (Elt F) Λ₀ .tc) α} {Q : α → sProp 𝕄} :
    CFree c fw s i ⊢ iprop((CFly c fw s i e -∗ wp frame (wpE D Variants.none c none) Set.univ (k ⟨⟩) Q)
      -∗ wp frame (wpE D Variants.none c none) Set.univ
          (.op (.enqueueDmaAs (srcM e i) (.here (dstM s i)) ReadAs.same (SemLoc.dma (semC s i)) hs hd ht) k) Q) := by
  unfold CFree CFly
  iintro ⟨Hv, ⟨%f, Hd⟩, Hw⟩ Hk
  ihave Hw' := ((pointsTo_split_subset (Finset.subset_univ (srcM e i).view.set)).1) $$ Hw
  icases Hw' with ⟨Hs, Hr⟩
  iapply (Transfers.wp_dmaLocal EC Variants.none (c : Thread nD τ) none (src := srcM e i) (dst := dstM s i) (via := ReadAs.same) (sm := SemLoc.dma (semC s i)) (Sd := (dstM s i).view.set) () (dstM s i).view.dmaCredit
    rfl (amount_pos s i) (Finset.Subset.refl _)) $$ [Hs Hd Hv]
  · isplitl [Hs]; · iexact Hs
    isplitl [Hd]; · iexact Hd
    iexact Hv
  iintro HF
  iapply Hk
  isplitl [HF]
  · iexists f; iexact HF
  iexact Hr

/-- Waiting for it: the chunk is in its slot. -/
theorem wp_landed₀ {s : Fin 4} {i : Fin 7} {e : Fin 8} {W : Waits sig Unit} {src' : Memref sig .tc .hbm S512x2048 .fp8e4m3}
    {hs : src'.view.WordExact} {hd : (dstM s i).view.WordExact}
    {k : PUnit → Prog (TpuEff nD τ sig (Elt F) Λ₀ .tc) α} {Q : α → sProp 𝕄} :
    iprop(CFly c fw s i e ∗ owes (c : Thread nD τ) 0 W)
    ⊢ iprop((iprop((∃ f, ⌜(dstM s i).view.read (Elt F) f = wchunk c fw e i⌝ ∗ CLanded c fw s i f)
          ∗ owes (c : Thread nD τ) 0 (insert (SemLoc.dma (semC s i), ()) W)) -∗ wp frame (wpE D Variants.none c none) Set.univ (k ⟨⟩) Q)
      -∗ wp frame (wpE D Variants.none c none) Set.univ
          (.op (.waitDma2 (semC s i) src' (dstM s i) hs hd) k) Q) := by
  unfold CFly CLanded
  iintro ⟨⟨⟨%f, HF⟩, Hr⟩, HO⟩ Hk
  iapply (Transfers.wp_waitLocal EC Variants.none (c : Thread nD τ) none (dstw := dstM s i) () (N := (dstM s i).view.dmaCredit) rfl) $$ [HF HO]
  · isplitl [HF]; · iexact HF
    iexact HO
  iintro ⟨⟨Hd, Hs⟩, Hv, HO⟩
  iapply Hk
  isplitl [Hv Hd Hs Hr]
  · iexists _; isplitr; swap
    · isplitl [Hv]; · iexact Hv
      isplitl [Hd]; · iexact Hd
      iapply ((pointsTo_split_subset (Finset.subset_univ (srcM e i).view.set)).2)
      isplitl [Hs]; · iexact Hs
      iexact Hr
    · ipureintro; exact View.read_write_univ _ _
  iexact HO

/-- `wp_start₀` at the offsets a program computes, which are the cell's. -/
theorem wp_start (s : Fin 4) (i : Fin 7) (e : Fin 8) {offs : Fin 3 → ℕ} {offd : Fin 4 → ℕ} {offc : Fin 2 → ℕ}
    (es : offs = ![e.val, 512 * i.val, 0]) (ed : offd = ![s.val, i.val, 0, 0]) (ec : offc = ![s.val, i.val])
    {is : ∀ a, offs a + S1x512x2048.size a ≤ S8x3584x2048.size a} {id : ∀ a, offd a + S1x1x512x2048.size a ≤ S4x7x512x2048.size a}
    {ic : ∀ a, offc a + S1x1.size a ≤ S4x7.size a}
    {hs hd ht} {k : PUnit → Prog (TpuEff nD τ sig (Elt F) Λ₀ .tc) α} {Q : α → sProp 𝕄} :
    CFree c fw s i ⊢ iprop((CFly c fw s i e -∗ wp frame (wpE D Variants.none c none) Set.univ (k ⟨⟩) Q)
      -∗ wp frame (wpE D Variants.none c none) Set.univ
          (.op (.enqueueDmaAs ((wM.slice (Rect.unit (s := S8x3584x2048) offs S1x512x2048.size is) (fun _ => rfl)).squeeze S512x2048 squeezes_S1x512x2048_S512x2048)
            (.here ((wbM.slice (Rect.unit (s := S4x7x512x2048) offd S1x1x512x2048.size id) (fun _ => rfl)).squeeze S512x2048 squeezes_S1x1x512x2048_S512x2048))
            ReadAs.same (SemLoc.dma ((cc0_scratch5.slice (Rect.unit (s := S4x7) offc S1x1.size ic)).squeeze S_ squeezes_S1x1_S_).sem) hs hd ht) k) Q) := by
  subst es ed ec
  exact wp_start₀ c fw

theorem wp_landed (s : Fin 4) (i : Fin 7) (e : Fin 8) {W : Waits sig Unit} {src' : Memref sig .tc .hbm S512x2048 .fp8e4m3} {offd : Fin 4 → ℕ} {offc : Fin 2 → ℕ}
    (ed : offd = ![s.val, i.val, 0, 0]) (ec : offc = ![s.val, i.val])
    {id : ∀ a, offd a + S1x1x512x2048.size a ≤ S4x7x512x2048.size a}
    {ic : ∀ a, offc a + S1x1.size a ≤ S4x7.size a} {hs hd}
    {k : PUnit → Prog (TpuEff nD τ sig (Elt F) Λ₀ .tc) α} {Q : α → sProp 𝕄} :
    iprop(CFly c fw s i e ∗ owes (c : Thread nD τ) 0 W)
    ⊢ iprop((iprop((∃ f, ⌜(dstM s i).view.read (Elt F) f = wchunk c fw e i⌝ ∗ CLanded c fw s i f)
          ∗ (∃ W', owes (c : Thread nD τ) 0 W')) -∗ wp frame (wpE D Variants.none c none) Set.univ (k ⟨⟩) Q)
      -∗ wp frame (wpE D Variants.none c none) Set.univ
          (.op (.waitDma2 ((cc0_scratch5.slice (Rect.unit (s := S4x7) offc S1x1.size ic)).squeeze S_ squeezes_S1x1_S_).sem src'
            ((wbM.slice (Rect.unit (s := S4x7x512x2048) offd S1x1x512x2048.size id) (fun _ => rfl)).squeeze S512x2048 squeezes_S1x1x512x2048_S512x2048) hs hd) k) Q) := by
  subst ed ec
  iintro H Hk
  iapply (wp_landed₀ c fw) $$ H
  iintro ⟨H1, H2⟩
  iapply Hk
  isplitl [H1]; · iexact H1
  iexists _; iexact H2

/-- Reading a landed chunk from its slot. -/
theorem wp_chunk (s : Fin 4) (i : Fin 7) (e : Fin 8) {f : Buf (Elt F) ((dstM s i).view.loc (c : Thread nD τ))} {offd : Fin 4 → ℕ}
    (ed : offd = ![s.val, i.val, 0, 0])
    {id : ∀ a, offd a + S1x1x512x2048.size a ≤ S4x7x512x2048.size a} {hl}
    {k : Vec F S1x1x512x2048 .fp8e4m3 → Prog (TpuEff nD τ sig (Elt F) Λ₀ .tc) α} {Q : α → sProp 𝕄}
    (hf : (dstM s i).view.read (Elt F) f = wchunk c fw e i) :
    CLanded c fw s i f
    ⊢ iprop((∀ v, ⌜∀ h, shapeCast S512x2048 v h = wchunk c fw e i⌝ -∗ CLanded c fw s i f -∗
          wp frame (wpE D Variants.none c none) Set.univ (k v) Q)
      -∗ wp frame (wpE D Variants.none c none) Set.univ
          (.op (.load wbM (Rect.unit (s := S4x7x512x2048) offd S1x1x512x2048.size id).toLoadRect hl) k) Q) := by
  subst ed
  unfold CLanded
  iintro ⟨H1, H2, H3⟩ Hk
  iapply (wp_load Variants.none (c : Thread nD τ) none Set.univ (m := wbM) (r := (slotR s i).toLoadRect) (S := (dstM s i).view.set) ?_) $$ H2
  · have h1 : (dstM s i).view.set = (wbM.view.slice (slotR s i)).set :=
      View.set_reshape (v := wbM.view.slice (slotR s i)) squeezes_S1x1x512x2048_S512x2048.numel_eq
    rw [h1, View.set_slice]
    exact Finset.Subset.refl _
  iintro H2
  ispecialize Hk $$ %(wbM.view.readAt (Elt F) (slotR s i).toLoadRect f)
  iapply Hk
  · ipureintro
    intro h
    rw [← hf]
    rfl
  isplitl [H1]; · iexact H1
  isplitl [H2]; · iexact H2
  iexact H3

end

end Cert.KernelIdeal.Hand

end
-- ==== Proof.Mem.lean ====
/-
  Loads and stores of a memref owned at known contents: a load reads the contents' part under its rectangle, a store
  replaces that part.
-/
module

public import proofs.«01_k».proof.Proof.Ring

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD)

theorem read_write_overlay {cs : CoreSpace} {s : Shape} {e : EltTy} {m : Memref sig .tc cs s e} (r : Rect s)
    (f : m.view.ty.Contents (Elt F)) (w : r.shape.Idx → Elt F e) :
    m.view.read (Elt F) ((m.access r).write (Elt F) f w Finset.univ) = r.overlay (m.view.read (Elt F) f) w := by
  funext y
  by_cases hy : y ∈ r.set
  · rw [← Rect.map_emb_univ] at hy
    obtain ⟨x, -, rfl⟩ := Finset.mem_map.1 hy
    rw [Rect.overlay_emb]
    exact congrFun (View.read_write_univ (v := m.access r) f w) x
  · rw [Rect.overlay_of_not_mem _ _ _ hy]
    refine View.read_congr_at (v := m.view) y ?_
    refine View.write_of_not_mem (v := m.access r) f w _ ?_
    intro h
    have h' : m.view.emb y ∈ (m.view.slice r).set := h
    rw [View.set_slice] at h'
    exact hy ((View.mem_setOn _).1 h')

variable {α : Type} {D : Defs nD τ sig (Elt F) Λ₀}

theorem wp_get {cs : CoreSpace} {s : Shape} {e : EltTy} {m : Memref sig .tc cs s e} {r : LoadRect s} {hl : m.view.LoadsAt r} {q : PosShare TreeShare}
    {X : s.Idx → Elt F e} {k : (r.shape.Idx → Elt F e) → Prog (TpuEff nD τ sig (Elt F) Λ₀ .tc) α} {Q : α → sProp 𝕄} :
    (owns (c : Thread nD τ) m q X : sProp 𝕄) ⊢ iprop((owns (c : Thread nD τ) m q X -∗ wp frame (wpE D Variants.none c none) Set.univ (k (fun x => X (r.idx x))) Q)
      -∗ wp frame (wpE D Variants.none c none) Set.univ (.op (.load m r hl) k) Q) := by
  unfold owns
  iintro ⟨%f, %hf, H⟩ Hk
  subst hf
  iapply (wp_load Variants.none (c : Thread nD τ) none Set.univ (m := m) (r := r) (S := m.view.set) (View.setOn_subset_set m.view _)) $$ H
  iintro H
  iapply Hk
  iexists f
  isplitr; · ipureintro; rfl
  iexact H

theorem wp_put {cs : CoreSpace} {s : Shape} {e : EltTy} {m : Memref sig .tc cs s e} {r : Rect s} {w : r.shape.Idx → Elt F e}
    {hx : (m.access r).Stores Finset.univ} {hm} {X : s.Idx → Elt F e} {k : PUnit → Prog (TpuEff nD τ sig (Elt F) Λ₀ .tc) α} {Q : α → sProp 𝕄} :
    (owns (c : Thread nD τ) m fullShare X : sProp 𝕄) ⊢ iprop((owns (c : Thread nD τ) m fullShare (r.overlay X w) -∗ wp frame (wpE D Variants.none c none) Set.univ (k ⟨⟩) Q)
      -∗ wp frame (wpE D Variants.none c none) Set.univ (.op (.store m r w Finset.univ hx hm) k) Q) := by
  unfold owns
  iintro ⟨%f, %hf, H⟩ Hk
  subst hf
  iapply (wp_store Variants.none (c : Thread nD τ) none Set.univ (m := m) (r := r) (w := w) (Mk := Finset.univ) (S := m.view.set) (View.set_slice_subset m.view r)) $$ H
  iintro H
  iapply Hk
  iexists _
  isplitr; swap
  · iexact H
  ipureintro; exact read_write_overlay r f w

/-- The index of the word at `j`. -/
def ix8 (j : Fin 8) : S8.Idx := fun a => ⟨j.val, by have h : ∀ a, 8 ≤ S8.size a := by decide
                                                    exact lt_of_lt_of_le j.isLt (h a)⟩
/-- The index of the word at row `e`, column `j`. -/
def ix80 (e : Fin 8) (j : Fin 10) : S8x10.Idx := fun a => ⟨(![e.val, j.val] : Fin 2 → ℕ) a, by
  revert a e j; decide⟩

/-- Reading one word of scalar memory. -/
theorem wp_word (m : Memref sig .tc .smem S8 .i32) (j : Fin 8) {off : Fin 1 → ℕ} (ho : off = ![j.val]) {inb} {hl} {q : PosShare TreeShare} {X : S8.Idx → Elt F .i32} {w : Elt F .i32}
    (hw : X (ix8 j) = w) {k : ((Rect.unit (s := S8) off S1.size inb).shape.Idx → Elt F .i32) → Prog (TpuEff nD τ sig (Elt F) Λ₀ .tc) α} {Q : α → sProp 𝕄} :
    (owns (c : Thread nD τ) m q X : sProp 𝕄) ⊢ iprop((owns (c : Thread nD τ) m q X -∗ wp frame (wpE D Variants.none c none) Set.univ (k (fun _ => w)) Q)
      -∗ wp frame (wpE D Variants.none c none) Set.univ (.op (.load m (Rect.unit (s := S8) off S1.size inb).toLoadRect hl) k) Q) := by
  subst ho hw
  have h : (fun x => X ((Rect.unit (s := S8) ![j.val] S1.size inb).toLoadRect.idx x)) = fun _ => X (ix8 j) := by
    funext x
    refine congrArg X (funext fun a => Fin.ext ?_)
    have hx : (x a).val = 0 := by
      have h1 : ∀ a, S1.size a = 1 := by decide
      have : (x a).val < S1.size a := (x a).isLt
      have := h1 a
      omega
    have h2 : ((Rect.unit (s := S8) ![j.val] S1.size inb).toLoadRect.idx x a).val = (![j.val] : Fin 1 → ℕ) a + 1 * (x a).val := rfl
    rw [h2, hx]
    revert a; intro a _ _
    match a with
    | ⟨0, _⟩ => rfl
  exact h ▸ wp_get c (r := (Rect.unit (s := S8) ![j.val] S1.size inb).toLoadRect)

/-- Reading one word of a table of two axes. -/
theorem wp_word2 (m : Memref sig .tc .smem S8x10 .i32) (e : Fin 8) (j : Fin 10) {off : Fin 2 → ℕ} (ho : off = ![e.val, j.val]) {inb} {hl} {q : PosShare TreeShare} {X : S8x10.Idx → Elt F .i32}
    {k : ((Rect.unit (s := S8x10) off S1x1.size inb).shape.Idx → Elt F .i32) → Prog (TpuEff nD τ sig (Elt F) Λ₀ .tc) α} {Q : α → sProp 𝕄} :
    (owns (c : Thread nD τ) m q X : sProp 𝕄) ⊢ iprop((owns (c : Thread nD τ) m q X -∗ wp frame (wpE D Variants.none c none) Set.univ (k (fun _ => X (ix80 e j))) Q)
      -∗ wp frame (wpE D Variants.none c none) Set.univ (.op (.load m (Rect.unit (s := S8x10) off S1x1.size inb).toLoadRect hl) k) Q) := by
  subst ho
  have h : (fun x => X ((Rect.unit (s := S8x10) ![e.val, j.val] S1x1.size inb).toLoadRect.idx x)) = fun _ => X (ix80 e j) := by
    funext x
    refine congrArg X (funext fun a => Fin.ext ?_)
    have hx : (x a).val = 0 := by
      have h1 : ∀ a, S1x1.size a = 1 := by decide
      have : (x a).val < S1x1.size a := (x a).isLt
      have := h1 a
      omega
    have h2 : ((Rect.unit (s := S8x10) ![e.val, j.val] S1x1.size inb).toLoadRect.idx x a).val = (![e.val, j.val] : Fin 2 → ℕ) a + 1 * (x a).val := rfl
    rw [h2, hx]
    rfl
  exact h ▸ wp_get c (r := (Rect.unit (s := S8x10) ![e.val, j.val] S1x1.size inb).toLoadRect)

end Cert.KernelIdeal.Hand

end
-- ==== Proof.Facts.lean ====
/-
  Which experts have tokens, in what order the kernel visits them, and the offsets, loop bounds and conditions it computes
  from the eight group sizes.
-/
module

public import proofs.«01_k».proof.Proof.Mem

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

/-! ## Ranks of the experts that have tokens -/

/-- Expert `e` has tokens. -/
abbrev pos (v : Fin 8 → BitVec 32) (e : Fin 8) : Prop := Scalar.cmpi .sgt (v e) 0#32 = 1#1

/-- How many of the first `n` experts have tokens. -/
def rnk (v : Fin 8 → BitVec 32) (n : ℕ) : ℕ := (Finset.univ.filter fun e : Fin 8 => e.val < n ∧ pos v e).card

theorem rnk_zero (v : Fin 8 → BitVec 32) : rnk v 0 = 0 := by
  unfold rnk; rw [Finset.card_eq_zero, Finset.filter_eq_empty_iff]; rintro x - ⟨h, -⟩; omega

theorem rnk_succ (v : Fin 8 → BitVec 32) (e : Fin 8) : rnk v (e.val + 1) = rnk v e.val + if pos v e then 1 else 0 := by
  unfold rnk
  have : (Finset.univ.filter fun e' : Fin 8 => e'.val < e.val + 1 ∧ pos v e')
     = (Finset.univ.filter fun e' : Fin 8 => e'.val < e.val ∧ pos v e') ∪ (if pos v e then {e} else ∅) := by
    ext x
    by_cases h : pos v e
    · simp only [Finset.mem_filter, Finset.mem_univ, true_and, h, if_true, Finset.mem_union, Finset.mem_singleton]
      constructor
      · rintro ⟨h1, h2⟩
        rcases Nat.lt_succ_iff_lt_or_eq.1 h1 with h3 | h3
        · exact .inl ⟨h3, h2⟩
        · exact .inr (by rw [if_pos h, Finset.mem_singleton]; exact Fin.ext h3)
      · rintro (⟨h1, h2⟩ | h3)
        · exact ⟨by omega, h2⟩
        · rw [if_pos h, Finset.mem_singleton] at h3
          subst h3
          exact ⟨by omega, h⟩
    · simp only [Finset.mem_filter, Finset.mem_univ, true_and, h, if_false, Finset.union_empty]
      constructor
      · rintro ⟨h1, h2⟩
        refine ⟨?_, h2⟩
        rcases Nat.lt_succ_iff_lt_or_eq.1 h1 with h3 | h3
        · exact h3
        · exact absurd (by rw [← Fin.ext h3]; exact h2) h
      · rintro ⟨h1, h2⟩; exact ⟨by omega, h2⟩
  rw [this, Finset.card_union_of_disjoint]
  · split <;> simp
  · split <;> simp

theorem rnk_mono (v : Fin 8 → BitVec 32) {m n : ℕ} (h : m ≤ n) : rnk v m ≤ rnk v n := by
  unfold rnk; refine Finset.card_le_card fun x hx => ?_
  simp only [Finset.mem_filter, Finset.mem_univ, true_and] at hx ⊢
  exact ⟨by omega, hx.2⟩

theorem rnk_le (v : Fin 8 → BitVec 32) (n : ℕ) : rnk v n ≤ 8 := by
  unfold rnk; exact (Finset.card_le_univ _).trans (by simp)

theorem rnk_lt_self (v : Fin 8 → BitVec 32) (e : Fin 8) : rnk v e.val ≤ e.val := by
  obtain ⟨n, hn⟩ := e
  induction n with
  | zero => rw [rnk_zero]
  | succ n ih =>
    have h := rnk_succ v ⟨n, by omega⟩
    have := ih (by omega)
    simp only at h this ⊢
    rw [h]; split <;> omega

/-- How many experts have tokens. -/
abbrev cnt (v : Fin 8 → BitVec 32) : ℕ := rnk v 8

theorem rnk_lt_cnt (v : Fin 8 → BitVec 32) {e : Fin 8} (h : pos v e) : rnk v e.val < cnt v := by
  have h1 := rnk_succ v e
  rw [if_pos h] at h1
  have := rnk_mono v (show e.val + 1 ≤ 8 by omega)
  unfold cnt; omega

theorem exists_rank (v : Fin 8 → BitVec 32) {t : ℕ} (ht : t < cnt v) : ∃ e : Fin 8, pos v e ∧ rnk v e.val = t := by
  have key : ∀ n, n ≤ 8 → t < rnk v n → ∃ e : Fin 8, pos v e ∧ rnk v e.val = t := by
    intro n
    induction n with
    | zero => intro _ h; rw [rnk_zero] at h; omega
    | succ n ih =>
      intro hn h
      by_cases h' : t < rnk v n
      · exact ih (by omega) h'
      · have h1 := rnk_succ v ⟨n, by omega⟩
        simp only at h1
        by_cases hp : pos v ⟨n, by omega⟩
        · rw [if_pos hp] at h1
          exact ⟨_, hp, by show rnk v n = t; omega⟩
        · rw [if_neg hp] at h1; omega
  exact key 8 le_rfl ht

/-- The expert visited at trip `t`. -/
def expt (v : Fin 8 → BitVec 32) (t : ℕ) : Fin 8 := if h : t < cnt v then (exists_rank v h).choose else 0

theorem expt_pos (v : Fin 8 → BitVec 32) {t : ℕ} (ht : t < cnt v) : pos v (expt v t) := by
  unfold expt; rw [dif_pos ht]; exact (exists_rank v ht).choose_spec.1
theorem rnk_expt (v : Fin 8 → BitVec 32) {t : ℕ} (ht : t < cnt v) : rnk v (expt v t).val = t := by
  unfold expt; rw [dif_pos ht]; exact (exists_rank v ht).choose_spec.2

theorem rnk_inj (v : Fin 8 → BitVec 32) {a b : Fin 8} (ha : pos v a) (hb : pos v b) (h : rnk v a.val = rnk v b.val) : a = b := by
  have key : ∀ {a b : Fin 8}, pos v a → a.val < b.val → rnk v a.val < rnk v b.val := fun {a b} ha hab => by
    have h1 := rnk_succ v a
    rw [if_pos ha] at h1
    have := rnk_mono v (show a.val + 1 ≤ b.val by omega)
    omega
  rcases Nat.lt_trichotomy a.val b.val with h' | h' | h'
  · have := key ha h'; omega
  · exact Fin.ext h'
  · have := key hb h'; omega

theorem expt_rnk (v : Fin 8 → BitVec 32) {e : Fin 8} (he : pos v e) : expt v (rnk v e.val) = e :=
  rnk_inj v (expt_pos v (rnk_lt_cnt v he)) he (rnk_expt v (rnk_lt_cnt v he))

/-! ## The running position -/

theorem addi_ext (v : Fin 8 → BitVec 32) (e : Fin 8) :
    Scalar.addi (BitVec.ofNat 32 (rnk v e.val)) (Scalar.extui (Scalar.cmpi .sgt (v e) 0#32)) = BitVec.ofNat 32 (rnk v (e.val + 1)) := by
  rw [rnk_succ]
  have hn : rnk v e.val ≤ 8 := rnk_le v _
  generalize rnk v e.val = n at hn
  unfold pos
  generalize Scalar.cmpi .sgt (v e) 0#32 = b
  revert b; revert hn
  have : ∀ n : Fin 9, ∀ b : BitVec 1, Scalar.addi (BitVec.ofNat 32 n.val) (Scalar.extui b) = BitVec.ofNat 32 (n.val + if b = 1#1 then 1 else 0) := by decide
  exact fun hn b => this ⟨n, by omega⟩ b

section
variable (v : Fin 8 → BitVec 32)

/-- The word at the running position before expert `e`. -/
def posW : ℕ → BitVec 32
  | 0 => 0#32
  | n + 1 => if h : n < 8 then Scalar.addi (posW n) (Scalar.extui (Scalar.cmpi .sgt (v ⟨n, h⟩) 0#32)) else posW n

theorem posW_eq : ∀ n, n ≤ 8 → posW v n = BitVec.ofNat 32 (rnk v n) := by
  intro n
  induction n with
  | zero => intro _; rw [rnk_zero]; rfl
  | succ n ih =>
    intro hn
    show (if h : n < 8 then Scalar.addi (posW v n) (Scalar.extui (Scalar.cmpi .sgt (v ⟨n, h⟩) 0#32)) else posW v n) = _
    rw [dif_pos (by omega), ih (by omega)]
    exact addi_ext v ⟨n, by omega⟩

theorem posW_toNat (n : ℕ) (hn : n ≤ 8) : (posW v n).toNat = rnk v n := by
  rw [posW_eq v n hn]
  have := rnk_le v n
  rw [BitVec.toNat_ofNat]
  exact Nat.mod_eq_of_lt (by omega)

theorem off1_eq : k0_off1 (v 0) = ![rnk v 1] := congrArg (fun n => ![n]) (posW_toNat v 1 (by omega))
theorem off2_eq : k0_off2 (v 0) (v 1) = ![rnk v 2] := congrArg (fun n => ![n]) (posW_toNat v 2 (by omega))
theorem off3_eq : k0_off3 (v 0) (v 1) (v 2) = ![rnk v 3] := congrArg (fun n => ![n]) (posW_toNat v 3 (by omega))
theorem off4_eq : k0_off4 (v 0) (v 1) (v 2) (v 3) = ![rnk v 4] := congrArg (fun n => ![n]) (posW_toNat v 4 (by omega))
theorem off5_eq : k0_off5 (v 0) (v 1) (v 2) (v 3) (v 4) = ![rnk v 5] := congrArg (fun n => ![n]) (posW_toNat v 5 (by omega))
theorem off6_eq : k0_off6 (v 0) (v 1) (v 2) (v 3) (v 4) (v 5) = ![rnk v 6] := congrArg (fun n => ![n]) (posW_toNat v 6 (by omega))
theorem off7_eq : k0_off7 (v 0) (v 1) (v 2) (v 3) (v 4) (v 5) (v 6) = ![rnk v 7] := congrArg (fun n => ![n]) (posW_toNat v 7 (by omega))

theorem word_inb (j : Fin 8) : ∀ a, (![j.val] : Fin 1 → ℕ) a + S1.size a ≤ S8.size a := by revert j; decide

theorem rank_inb {off : Fin 1 → ℕ} (e : Fin 8) (h : off = ![rnk v e.val]) : ∀ a, off a + S1.size a ≤ S8.size a := by
  subst h; exact word_inb ⟨rnk v e.val, by have := rnk_lt_self v e; omega⟩

theorem chk1_ok : k0_chk1 (v 0) (v 1) := fun _ => rank_inb v 1 (off1_eq v)
theorem chk2_ok : k0_chk2 (v 0) (v 1) (v 2) := fun _ => rank_inb v 2 (off2_eq v)
theorem chk3_ok : k0_chk3 (v 0) (v 1) (v 2) (v 3) := fun _ => rank_inb v 3 (off3_eq v)
theorem chk4_ok : k0_chk4 (v 0) (v 1) (v 2) (v 3) (v 4) := fun _ => rank_inb v 4 (off4_eq v)
theorem chk5_ok : k0_chk5 (v 0) (v 1) (v 2) (v 3) (v 4) (v 5) := fun _ => rank_inb v 5 (off5_eq v)
theorem chk6_ok : k0_chk6 (v 0) (v 1) (v 2) (v 3) (v 4) (v 5) (v 6) := fun _ => rank_inb v 6 (off6_eq v)

/-! ## The loop over the experts that have tokens -/

abbrev loop1 : Scf.Loop 32 := k0_t1_loop (v 0) (v 1) (v 2) (v 3) (v 4) (v 5) (v 6) (v 7)
abbrev loop2 : Scf.Loop 32 := k0_t2_loop (v 0) (v 1) (v 2) (v 3) (v 4) (v 5) (v 6) (v 7)

theorem loop1_eq : loop1 v = ⟨0#32, BitVec.ofNat 32 (cnt v), 1#32⟩ := by
  have h : loop1 v = ⟨0#32, Scalar.addi 0#32 (Scalar.muli (Scalar.divsi (Scalar.subi (posW v 8) 0#32) 1#32) 1#32), 1#32⟩ := rfl
  rw [h, posW_eq v 8 le_rfl]
  have hn := rnk_le v 8
  unfold cnt
  generalize rnk v 8 = n at hn
  congr 1
  have : ∀ n : Fin 9, Scalar.addi 0#32 (Scalar.muli (Scalar.divsi (Scalar.subi (BitVec.ofNat 32 n.val) 0#32) 1#32) 1#32) = BitVec.ofNat 32 n.val := by decide
  exact this ⟨n, by omega⟩

theorem trips1 : (loop1 v).trips = cnt v := by
  rw [loop1_eq]
  have hn := rnk_le v 8
  unfold cnt
  generalize rnk v 8 = n at hn
  have : ∀ n : Fin 9, (⟨0#32, BitVec.ofNat 32 n.val, 1#32⟩ : Scf.Loop 32).trips = n.val := by decide
  exact this ⟨n, by omega⟩

theorem ok1 : (loop1 v).OK := by
  rw [loop1_eq]
  have hn := rnk_le v 8
  unfold cnt
  generalize rnk v 8 = n at hn
  have : ∀ n : Fin 9, (⟨0#32, BitVec.ofNat 32 n.val, 1#32⟩ : Scf.Loop 32).OK := by decide
  exact this ⟨n, by omega⟩

theorem loop2_eq : loop2 v = ⟨BitVec.ofNat 32 (cnt v), BitVec.ofNat 32 (cnt v), 1#32⟩ := by
  have h : loop2 v = ⟨(loop1 v).ub, Scalar.addi 0#32 (Scalar.subi (posW v 8) 0#32), 1#32⟩ := rfl
  rw [h, posW_eq v 8 le_rfl, loop1_eq]
  have hn := rnk_le v 8
  unfold cnt
  generalize rnk v 8 = n at hn
  congr 1
  have : ∀ n : Fin 9, Scalar.addi 0#32 (Scalar.subi (BitVec.ofNat 32 n.val) 0#32) = BitVec.ofNat 32 n.val := by decide
  exact this ⟨n, by omega⟩

theorem trips2 : (loop2 v).trips = 0 := by
  rw [loop2_eq]
  have hn := rnk_le v 8
  unfold cnt
  generalize rnk v 8 = n at hn
  have : ∀ n : Fin 9, (⟨BitVec.ofNat 32 n.val, BitVec.ofNat 32 n.val, 1#32⟩ : Scf.Loop 32).trips = 0 := by decide
  exact this ⟨n, by omega⟩

theorem ok2 : (loop2 v).OK := by
  rw [loop2_eq]
  have hn := rnk_le v 8
  unfold cnt
  generalize rnk v 8 = n at hn
  have : ∀ n : Fin 9, (⟨BitVec.ofNat 32 n.val, BitVec.ofNat 32 n.val, 1#32⟩ : Scf.Loop 32).OK := by decide
  exact this ⟨n, by omega⟩

theorem no_trip2 (t : Fin (loop2 v).trips) : False := by have h := trips2 v; have := t.isLt; omega

variable {v}
variable (t : Fin (loop1 v).trips)

theorem t_lt : t.val < cnt v := (trips1 v) ▸ t.isLt
theorem t_lt8 : t.val < 8 := lt_of_lt_of_le (t_lt t) (rnk_le v 8)

theorem iv_toNat : (Scf.iv 0#32 1#32 t.val).toNat = t.val := by
  have : ∀ n : Fin 8, (Scf.iv 0#32 1#32 n.val).toNat = n.val := by decide
  exact this ⟨t.val, t_lt8 t⟩
theorem iv4_toNat : (Scalar.addi (Scf.iv 0#32 1#32 t.val) 4#32).toNat = t.val + 4 := by
  have : ∀ n : Fin 8, (Scalar.addi (Scf.iv 0#32 1#32 n.val) 4#32).toNat = n.val + 4 := by decide
  exact this ⟨t.val, t_lt8 t⟩
theorem rem_toNat : (Scalar.remsi (Scf.iv 0#32 1#32 t.val) 4#32).toNat = t.val % 4 := by
  have : ∀ n : Fin 8, (Scalar.remsi (Scf.iv 0#32 1#32 n.val) 4#32).toNat = n.val % 4 := by decide
  exact this ⟨t.val, t_lt8 t⟩
theorem rem4_toNat : (Scalar.remsi (Scalar.addi (Scf.iv 0#32 1#32 t.val) 4#32) 4#32).toNat = t.val % 4 := by
  have : ∀ n : Fin 8, (Scalar.remsi (Scalar.addi (Scf.iv 0#32 1#32 n.val) 4#32) 4#32).toNat = n.val % 4 := by decide
  exact this ⟨t.val, t_lt8 t⟩

/-- The slot of the ring trip `n` uses. -/
abbrev slot (n : ℕ) : Fin 4 := ⟨n % 4, Nat.mod_lt _ (by omega)⟩

/-- A transfer is started while trip `t` runs exactly when there is a trip `t + 4`. -/
theorem cond21_iff : k0_cond21 (v 0) (v 1) (v 2) (v 3) (v 4) (v 5) (v 6) (v 7) t = 1#1 ↔ t.val + 4 < cnt v := by
  have h : k0_cond21 (v 0) (v 1) (v 2) (v 3) (v 4) (v 5) (v 6) (v 7) t
      = Scalar.cmpi .ne (Scalar.extui (Scalar.cmpi .slt (Scalar.addi (Scf.iv 0#32 1#32 t.val) 4#32) (posW v 8))) 0#32 := rfl
  rw [h, posW_eq v 8 le_rfl]
  have hn := rnk_le v 8
  have ht := t_lt8 t
  unfold cnt
  generalize rnk v 8 = n at hn
  generalize t.val = t at ht
  have : ∀ (n : Fin 9) (t : Fin 8), Scalar.cmpi .ne (Scalar.extui (Scalar.cmpi .slt (Scalar.addi (Scf.iv 0#32 1#32 t.val) 4#32) (BitVec.ofNat 32 n.val))) 0#32 = 1#1 ↔ t.val + 4 < n.val := by decide
  exact this ⟨n, by omega⟩ ⟨t, ht⟩

/-- And before the loop for trips 0 to 3. -/
theorem condP_iff (v : Fin 8 → BitVec 32) (d : Fin 4) :
    Scalar.cmpi .ne (Scalar.extui (Scalar.cmpi .sgt (posW v 8) (BitVec.ofNat 32 d.val))) 0#32 = 1#1 ↔ d.val < cnt v := by
  rw [posW_eq v 8 le_rfl]
  have hn := rnk_le v 8
  unfold cnt
  generalize rnk v 8 = n at hn
  have : ∀ (n : Fin 9) (d : Fin 4), Scalar.cmpi .ne (Scalar.extui (Scalar.cmpi .sgt (BitVec.ofNat 32 n.val) (BitVec.ofNat 32 d.val))) 0#32 = 1#1 ↔ d.val < n.val := by decide
  exact this ⟨n, by omega⟩ d

/-- A guard on an expert's group size. -/
theorem condE_iff (v : Fin 8 → BitVec 32) (e : Fin 8) : Scalar.cmpi .ne (Scalar.extui (Scalar.cmpi .sgt (v e) 0#32)) 0#32 = 1#1 ↔ pos v e := by
  unfold pos
  generalize Scalar.cmpi .sgt (v e) 0#32 = b
  revert b; decide
theorem condZ_iff (v : Fin 8 → BitVec 32) (e : Fin 8) :
    Scalar.cmpi .ne (Scalar.extui (Scalar.xori (Scalar.cmpi .sgt (v e) 0#32) 1#1)) 0#32 = 1#1 ↔ ¬ pos v e := by
  unfold pos
  generalize Scalar.cmpi .sgt (v e) 0#32 = b
  revert b; decide

theorem slot_words (s : Fin 4) (i : Fin 7) : ∀ (hinb : ∀ a, (![s.val, i.val, 0, 0] : Fin 4 → ℕ) a + S1x1x512x2048.size a ≤ S4x7x512x2048.size a),
    (Rect.unit (s := S4x7x512x2048) ![s.val, i.val, 0, 0] S1x1x512x2048.size hinb).WholeWords (EltTy.packing .fp8e4m3) := by
  revert s i; decide +kernel
theorem src_words (e : Fin 8) (i : Fin 7) : ∀ (hinb : ∀ a, (![e.val, 512 * i.val, 0] : Fin 3 → ℕ) a + S1x512x2048.size a ≤ S8x3584x2048.size a),
    (Rect.unit (s := S8x3584x2048) ![e.val, 512 * i.val, 0] S1x512x2048.size hinb).WholeWords (EltTy.packing .fp8e4m3) := by
  revert e i; decide +kernel

/-- The word that names expert `e`. -/
abbrev ew (e : Fin 8) : BitVec 32 := BitVec.ofNat 32 e.val
theorem ew_toNat (e : Fin 8) : (ew e).toNat = e.val := by revert e; decide

theorem chk36_ok : ∀ e : Fin 8, k0_chk36 (ew e) := by decide +kernel
theorem chk37_ok : ∀ e : Fin 8, k0_chk37 (ew e) := by decide +kernel
theorem chk39_ok : ∀ e : Fin 8, k0_chk39 (ew e) := by decide +kernel
theorem chk41_ok : ∀ e : Fin 8, k0_chk41 (ew e) := by decide +kernel
theorem chk43_ok : ∀ e : Fin 8, k0_chk43 (ew e) := by decide +kernel
theorem chk45_ok : ∀ e : Fin 8, k0_chk45 (ew e) := by decide +kernel
theorem chk47_ok : ∀ e : Fin 8, k0_chk47 (ew e) := by decide +kernel
theorem chk49_ok : ∀ e : Fin 8, k0_chk49 (ew e) := by decide +kernel

/-- The offsets of expert `e`'s chunk `i`, as a word names the expert. -/
theorem src_eq (e : Fin 8) (i : Fin 7) : (![(ew e).toNat, 512 * i.val, 0] : Fin 3 → ℕ) = ![e.val, 512 * i.val, 0] := by rw [ew_toNat]

theorem inb_of {r : ℕ} {off off' : Fin r → ℕ} {P : (Fin r → ℕ) → Prop} (h : off = off') (hp : P off') : P off := h ▸ hp

theorem src_ok {C : Prop} (e : Fin 8) (i : Fin 7) :
    (C → ∀ a, (![(ew e).toNat, 512 * i.val, 0] : Fin 3 → ℕ) a + S1x512x2048.size a ≤ S8x3584x2048.size a) ∧
    (C → ∀ (hinb : ∀ a, (![(ew e).toNat, 512 * i.val, 0] : Fin 3 → ℕ) a + S1x512x2048.size a ≤ S8x3584x2048.size a),
      (Rect.unit (s := S8x3584x2048) ![(ew e).toNat, 512 * i.val, 0] S1x512x2048.size hinb).WholeWords (EltTy.packing .fp8e4m3)) := by
  rw [src_eq]; exact ⟨fun _ => chunk_inb e i, fun _ => src_words e i⟩

theorem cell_ok (t : Fin (loop1 v).trips) (i : Fin 7) : ∀ a, (![(Scalar.remsi (Scf.iv 0#32 1#32 t.val) 4#32).toNat, i.val] : Fin 2 → ℕ) a + S1x1.size a ≤ S4x7.size a := by
  rw [rem_toNat]; exact cell_inb (slot t.val) i
theorem cell4_ok (t : Fin (loop1 v).trips) (i : Fin 7) : ∀ a, (![(Scalar.remsi (Scalar.addi (Scf.iv 0#32 1#32 t.val) 4#32) 4#32).toNat, i.val] : Fin 2 → ℕ) a + S1x1.size a ≤ S4x7.size a := by
  rw [rem4_toNat]; exact cell_inb (slot t.val) i
theorem slot_ok (t : Fin (loop1 v).trips) (i : Fin 7) : ∀ a, (![(Scalar.remsi (Scf.iv 0#32 1#32 t.val) 4#32).toNat, i.val, 0, 0] : Fin 4 → ℕ) a + S1x1x512x2048.size a ≤ S4x7x512x2048.size a := by
  rw [rem_toNat]; exact slot_inb (slot t.val) i
theorem slot4_ok (t : Fin (loop1 v).trips) (i : Fin 7) : ∀ a, (![(Scalar.remsi (Scalar.addi (Scf.iv 0#32 1#32 t.val) 4#32) 4#32).toNat, i.val, 0, 0] : Fin 4 → ℕ) a + S1x1x512x2048.size a ≤ S4x7x512x2048.size a := by
  rw [rem4_toNat]; exact slot_inb (slot t.val) i
theorem slotw_ok (t : Fin (loop1 v).trips) (i : Fin 7) : ∀ (hinb : ∀ a, (![(Scalar.remsi (Scf.iv 0#32 1#32 t.val) 4#32).toNat, i.val, 0, 0] : Fin 4 → ℕ) a + S1x1x512x2048.size a ≤ S4x7x512x2048.size a),
    (Rect.unit (s := S4x7x512x2048) ![(Scalar.remsi (Scf.iv 0#32 1#32 t.val) 4#32).toNat, i.val, 0, 0] S1x1x512x2048.size hinb).WholeWords (EltTy.packing .fp8e4m3) := by
  rw [rem_toNat]; exact slot_words (slot t.val) i
theorem slot4w_ok (t : Fin (loop1 v).trips) (i : Fin 7) : ∀ (hinb : ∀ a, (![(Scalar.remsi (Scalar.addi (Scf.iv 0#32 1#32 t.val) 4#32) 4#32).toNat, i.val, 0, 0] : Fin 4 → ℕ) a + S1x1x512x2048.size a ≤ S4x7x512x2048.size a),
    (Rect.unit (s := S4x7x512x2048) ![(Scalar.remsi (Scalar.addi (Scf.iv 0#32 1#32 t.val) 4#32) 4#32).toNat, i.val, 0, 0] S1x1x512x2048.size hinb).WholeWords (EltTy.packing .fp8e4m3) := by
  rw [rem4_toNat]; exact slot_words (slot t.val) i
theorem act_ok (t : Fin (loop1 v).trips) : ∀ a, (![(Scf.iv 0#32 1#32 t.val).toNat] : Fin 1 → ℕ) a + S1.size a ≤ S8.size a := by
  rw [iv_toNat]; exact word_inb ⟨t.val, t_lt8 t⟩
theorem act4_ok (t : Fin (loop1 v).trips) (h : k0_cond21 (v 0) (v 1) (v 2) (v 3) (v 4) (v 5) (v 6) (v 7) t = 1#1) :
    ∀ a, (![(Scalar.addi (Scf.iv 0#32 1#32 t.val) 4#32).toNat] : Fin 1 → ℕ) a + S1.size a ≤ S8.size a := by
  rw [iv4_toNat]; exact word_inb ⟨t.val + 4, lt_of_lt_of_le ((cond21_iff t).1 h) (rnk_le v 8)⟩

variable (v)

theorem n2 {P : Fin (loop2 v).trips → Prop} : ∀ t, P t := fun t => (no_trip2 v t).elim

theorem chk7_ok : k0_chk7 (v 0) (v 1) (v 2) (v 3) (v 4) (v 5) (v 6) (v 7) :=
     ⟨⟨fun _ => rank_inb v 7 (off7_eq v), ok1 v, fun t => act_ok t, fun t => act_ok t, fun t => cell_ok t 0, fun t => slot_ok t 0, fun t => slotw_ok t
     0, fun t => slot_ok t 0, fun t h => act4_ok t h, fun t _ => cell4_ok t 0, fun t _ => slot4_ok t 0, fun t _ => slot4w_ok t 0, fun t => act_ok t,
     fun t => cell_ok t 1, fun t => slot_ok t 1, fun t => slotw_ok t 1, fun t => slot_ok t 1, fun t h => act4_ok t h, fun t _ => cell4_ok t 1, fun t _
     => slot4_ok t 1, fun t _ => slot4w_ok t 1, fun t => act_ok t, fun t => cell_ok t 2, fun t => slot_ok t 2, fun t => slotw_ok t 2, fun t => slot_ok
     t 2, fun t h => act4_ok t h, fun t _ => cell4_ok t 2, fun t _ => slot4_ok t 2, fun t _ => slot4w_ok t 2, fun t => act_ok t, fun t => cell_ok t
     3⟩,
      ⟨fun t => slot_ok t 3, fun t => slotw_ok t 3, fun t => slot_ok t 3, fun t h => act4_ok t h, fun t _ => cell4_ok t 3, fun t _ => slot4_ok t 3,
     fun t _ => slot4w_ok t 3, fun t => act_ok t, fun t => cell_ok t 4, fun t => slot_ok t 4, fun t => slotw_ok t 4, fun t => slot_ok t 4, fun t h =>
     act4_ok t h, fun t _ => cell4_ok t 4, fun t _ => slot4_ok t 4, fun t _ => slot4w_ok t 4, fun t => act_ok t, fun t => cell_ok t 5, fun t =>
     slot_ok t 5, fun t => slotw_ok t 5, fun t => slot_ok t 5, fun t h => act4_ok t h, fun t _ => cell4_ok t 5, fun t _ => slot4_ok t 5, fun t _ =>
     slot4w_ok t 5, fun t => act_ok t, fun t => cell_ok t 6, fun t => slot_ok t 6, fun t => slotw_ok t 6, fun t => slot_ok t 6, fun t h => act4_ok t
     h, fun t _ => cell4_ok t 6⟩,
      ⟨fun t _ => slot4_ok t 6, fun t _ => slot4w_ok t 6, ok2 v, n2 v, n2 v, n2 v, n2 v, n2 v, n2 v, n2 v, n2 v, n2 v, n2 v, n2 v, n2 v, n2 v, n2 v,
     n2 v, n2 v, n2 v, n2 v, n2 v, n2 v, n2 v, n2 v, n2 v, n2 v, n2 v, n2 v, n2 v, n2 v, n2 v⟩,
      ⟨n2 v, n2 v, n2 v, n2 v, n2 v, n2 v, n2 v, n2 v, n2 v, n2 v, n2 v, n2 v, n2 v, n2 v, n2 v, n2 v, n2 v, n2 v, n2 v, n2 v, n2 v, n2 v, n2 v, n2 v,
     n2 v, n2 v, n2 v, n2 v, n2 v, n2 v, n2 v, n2 v⟩,
      ⟨n2 v, n2 v, n2 v⟩⟩

end

end Cert.KernelIdeal.Hand

end
-- ==== Proof.Spec.lean ====
/-
  What one trip of the kernel writes: the matrix the expert's rows are laid out in before the multiplication, the
  expert's blocks of the result, and loads and stores that build up a family of disjoint blocks.
-/
module

public import proofs.«01_k».proof.Proof.Facts

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ### Families of disjoint blocks -/

/-- The blocks `b < n` at the offsets `O b` hold `G b`, and the elements that no block meets (`K`) are as in `X0`. -/
structure Fill {s : Shape} {α : Type} (O : ℕ → Fin s.rank → ℕ) (sz : Fin s.rank → ℕ) (G : ℕ → (⟨s.rank, sz⟩ : Shape).Idx → α) (K : s.Idx → Prop)
    (X0 : s.Idx → α) (n : ℕ) (X : s.Idx → α) : Prop where
  done : ∀ b, b < n → ∀ (i : s.Idx) (x : (⟨s.rank, sz⟩ : Shape).Idx), (∀ a, (i a).val = O b a + (x a).val) → X i = G b x
  kept : ∀ i, K i → X i = X0 i

theorem Fill.zero {s : Shape} {α : Type} {O : ℕ → Fin s.rank → ℕ} {sz : Fin s.rank → ℕ} {G : ℕ → (⟨s.rank, sz⟩ : Shape).Idx → α} {K : s.Idx → Prop}
    {X0 : s.Idx → α} : Fill O sz G K X0 0 X0 := ⟨fun b hb => absurd hb (Nat.not_lt_zero b), fun _ _ => rfl⟩

theorem Fill.step {s : Shape} {α : Type} {O : ℕ → Fin s.rank → ℕ} {sz : Fin s.rank → ℕ} {G : ℕ → (⟨s.rank, sz⟩ : Shape).Idx → α} {K : s.Idx → Prop}
    {X0 X : s.Idx → α} {n : ℕ} (hd : ∀ b, b < n → ∃ a, O b a + sz a ≤ O n a ∨ O n a + sz a ≤ O b a)
    (hK : ∀ i, K i → ∃ a, ¬ (O n a ≤ (i a).val ∧ (i a).val < O n a + sz a)) (h : Fill O sz G K X0 n X) {inb : ∀ a, O n a + sz a ≤ s.size a} :
    Fill O sz G K X0 (n + 1) ((Rect.unit (O n) sz inb).overlay X (G n)) := by
  refine ⟨fun b hb i x hx => ?_, fun i hi => ?_⟩
  · by_cases hbn : b = n
    · subst hbn
      have : i = (Rect.unit (O b) sz inb).emb x := by
        funext a
        apply Fin.ext
        have h1 : (((Rect.unit (O b) sz inb).emb x) a : ℕ) = O b a + 1 * (x a).val := rfl
        rw [hx a, h1]; omega
      rw [this]
      exact Rect.overlay_emb (Rect.unit (O b) sz inb) X (G b) x
    · rw [Rect.overlay_of_not_mem]
      · exact h.done b (by omega) i x hx
      · intro hm
        rw [Rect.mem_set_unit] at hm
        obtain ⟨a, ha⟩ := hd b (by omega)
        have h1 := hm a
        have h2 := hx a
        have h3 : (x a).val < sz a := (x a).isLt
        omega
  · rw [Rect.overlay_of_not_mem]
    · exact h.kept i hi
    · intro hm
      rw [Rect.mem_set_unit] at hm
      obtain ⟨a, ha⟩ := hK i hi
      exact ha (hm a)

section Rules
variable (c : Dev nD) {D : Defs nD τ sig (Elt F) Λ₀} {α : Type}

/-- Storing the next block of a family. -/
theorem wp_fill {cs : CoreSpace} {s : Shape} {e : EltTy} {m : Memref sig .tc cs s e} (O : ℕ → Fin s.rank → ℕ) (sz : Fin s.rank → ℕ)
    (G : ℕ → (⟨s.rank, sz⟩ : Shape).Idx → Elt F e) (K : s.Idx → Prop) {X0 X : s.Idx → Elt F e} (n : ℕ)
    (hd : ∀ b, b < n → ∃ a, O b a + sz a ≤ O n a ∨ O n a + sz a ≤ O b a)
    (hK : ∀ i, K i → ∃ a, ¬ (O n a ≤ (i a).val ∧ (i a).val < O n a + sz a)) (h : Fill O sz G K X0 n X)
    {off : Fin s.rank → ℕ} (ho : off = O n) {inb : ∀ a, off a + sz a ≤ s.size a} {w : (Rect.unit off sz inb).shape.Idx → Elt F e} (hw : w = G n)
    {hx : (m.access (Rect.unit off sz inb)).Stores Finset.univ} {hm} {k : PUnit → Prog (TpuEff nD τ sig (Elt F) Λ₀ .tc) α} {Q : α → sProp 𝕄} :
    (owns (c : Thread nD τ) m fullShare X : sProp 𝕄) ⊢ iprop((∀ X', ⌜Fill O sz G K X0 (n + 1) X'⌝ -∗ owns (c : Thread nD τ) m fullShare X' -∗ wp frame (wpE D Variants.none c none) Set.univ (k ⟨⟩) Q)
      -∗ wp frame (wpE D Variants.none c none) Set.univ (.op (.store m (Rect.unit off sz inb) w Finset.univ hx hm) k) Q) := by
  subst ho
  iintro H Hk
  iapply (wp_put c (r := Rect.unit (O n) sz inb)) $$ H
  iintro H
  iapply Hk $$ [] H
  ipureintro
  have := h.step hd hK (inb := inb)
  rw [hw]; exact this

/-- A load at offsets known to be `O`. -/
theorem wp_part {cs : CoreSpace} {s : Shape} {e : EltTy} {m : Memref sig .tc cs s e} (O : Fin s.rank → ℕ) {sz : Fin s.rank → ℕ} (hO : ∀ a, O a + sz a ≤ s.size a)
    {off : Fin s.rank → ℕ} (ho : off = O) {inb : ∀ a, off a + sz a ≤ s.size a} {hl} {q : PosShare TreeShare} {X : s.Idx → Elt F e}
    {k : ((Rect.unit off sz inb).shape.Idx → Elt F e) → Prog (TpuEff nD τ sig (Elt F) Λ₀ .tc) α} {Q : α → sProp 𝕄} :
    (owns (c : Thread nD τ) m q X : sProp 𝕄) ⊢ iprop((owns (c : Thread nD τ) m q X -∗ wp frame (wpE D Variants.none c none) Set.univ (k (fun x => X ((Rect.unit O sz hO).toLoadRect.idx x))) Q)
      -∗ wp frame (wpE D Variants.none c none) Set.univ (.op (.load m (Rect.unit off sz inb).toLoadRect hl) k) Q) := by
  subst ho
  exact wp_get c (r := (Rect.unit off sz inb).toLoadRect)

/-- A load of the whole memref. -/
theorem wp_all {cs : CoreSpace} {s : Shape} {e : EltTy} {m : Memref sig .tc cs s e}
    {off : Fin s.rank → ℕ} (ho : ∀ a, off a = 0) {inb : ∀ a, off a + s.size a ≤ s.size a} {hl} {q : PosShare TreeShare} {X : s.Idx → Elt F e}
    {k : ((Rect.unit off s.size inb).shape.Idx → Elt F e) → Prog (TpuEff nD τ sig (Elt F) Λ₀ .tc) α} {Q : α → sProp 𝕄} :
    (owns (c : Thread nD τ) m q X : sProp 𝕄) ⊢ iprop((owns (c : Thread nD τ) m q X -∗ wp frame (wpE D Variants.none c none) Set.univ (k X) Q)
      -∗ wp frame (wpE D Variants.none c none) Set.univ (.op (.load m (Rect.unit off s.size inb).toLoadRect hl) k) Q) := by
  have h : (fun x => X ((Rect.unit off s.size inb).toLoadRect.idx x)) = X := by
    funext x
    refine congrArg X (funext fun a => Fin.ext ?_)
    have h2 : ((Rect.unit off s.size inb).toLoadRect.idx x a).val = off a + 1 * (x a).val := rfl
    rw [h2, ho a]; omega
  have h3 := wp_get (F := F) (D := D) (m := m) c (r := (Rect.unit off s.size inb).toLoadRect) (hl := hl) (q := q) (X := X) (k := k) (Q := Q)
  rw [h] at h3
  exact h3

end Rules

/-! ### The matrix of the rows -/

theorem xb_inb (e : Fin 8) (b : Fin 16) : ∀ a, (![e.val, 0, 128 * b.val] : Fin 3 → ℕ) a + S1x16x128.size a ≤ S8x16x2048.size a := by
  revert e b; decide

/-- Expert `e`'s rows, columns of block `b`. -/
def xrow (Xg : S8x16x2048.Idx → Elt F .f32) (e : Fin 8) (b : Fin 16) : Vec F S1x16x128 .f32 :=
  fun x => Xg ((Rect.unit (s := S8x16x2048) ![e.val, 0, 128 * b.val] S1x16x128.size (xb_inb e b)).toLoadRect.idx x)

/-- The block stored for columns `b`: the rows above zeros when `b` is even, below zeros when it is odd. -/
def xpad (Xg : S8x16x2048.Idx → Elt F .f32) (e : Fin 8) (b : ℕ) : S32x128.Idx → Elt F .fp8e4m3 :=
  if h : b < 16 then (if b % 2 = 0 then k0_pay6 (xrow Xg e ⟨b, h⟩) else k0_pay7 (xrow Xg e ⟨b, h⟩)) else fun _ => k0_pay2 (F := F) (fun a => ⟨0, by revert a; decide⟩)

/-- Where the block of columns `b` lies. -/
def xoff (b : ℕ) : Fin S256x2048.rank → ℕ := ![32 * (b / 2), 128 * b]

/-- The elements no block covers. -/
def xout (i : S256x2048.Idx) : Prop := (i 0).val / 32 ≠ (i 1).val / 128 / 2

/-- The matrix after all blocks are stored. -/
def XB (Xg : S8x16x2048.Idx → Elt F .f32) (e : Fin 8) : S256x2048.Idx → Elt F .fp8e4m3 :=
  fun i => if (i 0).val / 32 = (i 1).val / 128 / 2 then xpad Xg e ((i 1).val / 128) (fun a => ⟨(![(i 0).val % 32, (i 1).val % 128] : Fin 2 → ℕ) a, by
      match a with
      | ⟨0, _⟩ => exact Nat.mod_lt _ (by decide)
      | ⟨1, _⟩ => exact Nat.mod_lt _ (by decide)⟩)
    else k0_pay2 (F := F) i

/-- A matrix that is zero off the blocks, before the first block is stored. -/
def XZero (X : S256x2048.Idx → Elt F .fp8e4m3) : Prop := ∀ i, xout i → X i = k0_pay2 (F := F) i

theorem XB_zero (Xg : S8x16x2048.Idx → Elt F .f32) (e : Fin 8) : XZero (XB Xg e) := fun i hi => by
  unfold XB; rw [if_neg hi]

theorem XB_of_fill {Xg : S8x16x2048.Idx → Elt F .f32} {e : Fin 8} {X0 X : S256x2048.Idx → Elt F .fp8e4m3} (h0 : XZero X0)
    (h : Fill xoff S32x128.size (xpad Xg e) xout X0 16 X) : X = XB Xg e := by
  funext i
  unfold XB
  by_cases hi : (i 0).val / 32 = (i 1).val / 128 / 2
  · rw [if_pos hi]
    have h1 : (i 1).val < 2048 := (i 1).isLt
    refine h.done ((i 1).val / 128) (by omega) i _ fun a => ?_
    match a with
    | ⟨0, _⟩ =>
      show (i 0).val = 32 * ((i 1).val / 128 / 2) + (i 0).val % 32
      omega
    | ⟨1, _⟩ =>
      show (i 1).val = 128 * ((i 1).val / 128) + (i 1).val % 128
      omega
  · rw [if_neg hi]
    exact (h.kept i hi).trans (h0 i hi)

theorem xoff_disj (n : ℕ) : ∀ b, b < n → ∃ a, xoff b a + S32x128.size a ≤ xoff n a ∨ xoff n a + S32x128.size a ≤ xoff b a := fun b hb =>
  ⟨1, Or.inl (show 128 * b + 128 ≤ 128 * n by omega)⟩

theorem xoff_out (n : ℕ) : ∀ i, xout i → ∃ a, ¬ (xoff n a ≤ (i a).val ∧ (i a).val < xoff n a + S32x128.size a) := fun i hi => by
  by_contra hc
  have h : ∀ a, (xoff n a ≤ (i a).val ∧ (i a).val < xoff n a + S32x128.size a) := fun a => not_not.1 fun h => hc ⟨a, h⟩
  have h0 : 32 * (n / 2) ≤ (i 0).val ∧ (i 0).val < 32 * (n / 2) + 32 := h 0
  have h1 : 128 * n ≤ (i 1).val ∧ (i 1).val < 128 * n + 128 := h 1
  have e1 : (i 1).val / 128 = n := by omega
  have e0 : (i 0).val / 32 = n / 2 := by omega
  exact hi (by rw [e1, e0])

/-! ### The blocks of the result -/

theorem q_slices (q : Fin 4) : S512x256.Slices ![128 * q.val, 0] S128x256 := by revert q; decide
theorem n_slices (n : Fin 28) : S28x256.Slices ![n.val, 0] S1x256 := by revert n; decide

/-- The products of one chunk of the weights with the rows. -/
def prod (w : S512x2048.Idx → Elt F .fp8e4m3) (xb : S256x2048.Idx → Elt F .fp8e4m3) : FVec F S512x256 .f32 :=
  matmul dot_S512x2048_S256x2048_S512x256_1_1_0_0_n_n none (sl := S512x2048) (w : FVec F S512x2048 .fp8e4m3) (xb : FVec F S256x2048 .fp8e4m3) (constant S512x256 .f32 0x00000000#32)

/-- One block of the result: the chunk's products at 128 of its rows, scaled, summed over the blocks of columns, the
    rows past the expert's group left zero. -/
def blk (R : FVec F S512x256 .f32) (scale : FVec F S28x256 .f32) (keep : IVec S16x128 1) (q : Fin 4) (n : Fin 28) : FVec F S1x10x128 .bf16 :=
  k0_pay29 keep (extractStridedSlice S128x256 ![128 * q.val, 0] R (q_slices q)) (extractStridedSlice S1x256 ![n.val, 0] scale (n_slices n))

theorem ws_inb (e : Fin 8) : ∀ a, (![e.val, 0, 0] : Fin 3 → ℕ) a + S1x28x16.size a ≤ S8x28x16.size a := by revert e; decide
theorem sx_inb (e : Fin 8) : ∀ a, (![e.val, 0] : Fin 2 → ℕ) a + S1x256.size a ≤ S8x256.size a := by revert e; decide

/-- The matrix that repeats each of the 16 scales of a row over 16 lanes. -/
def expandM : FVec F S16x256 .bf16 :=
  k0_pay184 (iota .tc S16x256 32 [0] iota_S16x256_d0_w32) (iota .tc S16x256 32 [1] iota_S16x256_d1_w32) 16#32 k0_pay182 k0_pay183 0#32

/-- The scale of expert `e`'s blocks. -/
def scaleV (X4 : S8x28x16.Idx → Elt F .f32) (Sx : S8x256.Idx → Elt F .f32) (e : Fin 8) : FVec F S28x256 .f32 :=
  k0_pay23 expandM
    (fun x => X4 ((Rect.unit (s := S8x28x16) ![e.val, 0, 0] S1x28x16.size (ws_inb e)).toLoadRect.idx x))
    (fun x => Sx ((Rect.unit (s := S8x256) ![e.val, 0] S1x256.size (sx_inb e)).toLoadRect.idx x))

variable (c : Dev nD)

/-- Block `n` of expert `e`'s result. -/
def outG (fw : Buf (Elt F) (wM.view.loc (c : Thread nD τ))) (X0 : S8.Idx → Elt F .i32) (X4 : S8x28x16.Idx → Elt F .f32) (Xg : S8x16x2048.Idx → Elt F .f32) (Sx : S8x256.Idx → Elt F .f32)
    (e : Fin 8) (n : ℕ) : S1x10x128.Idx → Elt F .bf16 :=
  if h : n < 28 then blk (prod (wchunk c fw e ⟨n / 4, by omega⟩) (XB Xg e)) (scaleV X4 Sx e) (k0_pay24 (X0 (ix8 e))) ⟨n % 4, by omega⟩ ⟨n, h⟩
  else fun _ => FloatOps.ofBits .bf16 0

/-- Where block `n` of expert `e`'s result lies. -/
def outO (e : Fin 8) (n : ℕ) : Fin S8x10x3584.rank → ℕ := ![e.val, 0, 128 * n]

/-- The elements of the other experts. -/
def outK (e : Fin 8) (i : S8x10x3584.Idx) : Prop := (i 0).val ≠ e.val

theorem outO_disj (e : Fin 8) (n : ℕ) : ∀ b, b < n → ∃ a, outO e b a + S1x10x128.size a ≤ outO e n a ∨ outO e n a + S1x10x128.size a ≤ outO e b a := fun b hb =>
  ⟨2, Or.inl (show 128 * b + 128 ≤ 128 * n by omega)⟩

theorem outO_out (e : Fin 8) (n : ℕ) : ∀ i, outK e i → ∃ a, ¬ (outO e n a ≤ (i a).val ∧ (i a).val < outO e n a + S1x10x128.size a) := fun i hi =>
  ⟨0, fun h => hi (by
    have h0 : e.val ≤ (i 0).val ∧ (i 0).val < e.val + 1 := h
    omega)⟩

theorem row_eq (e : Fin 8) (k : ℕ) : (![(ew e).toNat, 0, k] : Fin 3 → ℕ) = ![e.val, 0, k] := by rw [ew_toNat]

end Cert.KernelIdeal.Hand

end
-- ==== Proof.Trip.lean ====
/-
  One trip of the kernel's main loop: the expert of the trip multiplied with its weights, chunk by chunk as the
  chunks arrive, and the chunks of the expert four places later started in the slots that become free.
-/
module

public import proofs.«01_k».proof.Proof.Spec

@[expose] public section

set_option maxRecDepth 65536
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- A place of the ring for the expert of rank `n`: its chunk under way, or free when there is no such expert. -/
def CE (c : Dev nD) (fw : Buf (Elt F) (wM.view.loc (c : Thread nD τ))) (v : Fin 8 → BitVec 32) (n : ℕ) (i : Fin 7) : sProp 𝕄 :=
  if n < cnt v then CFly c fw (slot n) i (expt v n) else CFree c fw (slot n) i

theorem CE_pos {c : Dev nD} {fw : Buf (Elt F) (wM.view.loc (c : Thread nD τ))} {v : Fin 8 → BitVec 32} {n : ℕ} {i : Fin 7} (h : n < cnt v) :
    CE c fw v n i = CFly c fw (slot n) i (expt v n) := if_pos h
theorem CE_neg {c : Dev nD} {fw : Buf (Elt F) (wM.view.loc (c : Thread nD τ))} {v : Fin 8 → BitVec 32} {n : ℕ} {i : Fin 7} (h : ¬ n < cnt v) :
    CE c fw v n i = CFree c fw (slot n) i := if_neg h

/-- The seven places of one expert. -/
def Row (c : Dev nD) (fw : Buf (Elt F) (wM.view.loc (c : Thread nD τ))) (v : Fin 8 → BitVec 32) (n : ℕ) : sProp 𝕄 :=
  iprop(CE c fw v n 0 ∗ CE c fw v n 1 ∗ CE c fw v n 2 ∗ CE c fw v n 3 ∗ CE c fw v n 4 ∗ CE c fw v n 5 ∗ CE c fw v n 6)

/-- The end of a program. -/
theorem wp_done {D : Defs nD τ sig (Elt F) Λ₀} {α : Type} {c : Dev nD} {a : α} {Q : α → sProp 𝕄} :
    Q a ⊢ wp frame (wpE D Variants.none c none) Set.univ (Pure.pure a : Prog (TpuEff nD τ sig (Elt F) Λ₀ .tc) α) Q := by
  rw [show wp frame (wpE D Variants.none c none) Set.univ (Pure.pure a : Prog (TpuEff nD τ sig (Elt F) Λ₀ .tc) α) Q = iprop(|={Set.univ}[frame]=> Q a) from rfl]
  iintro H
  imodintro
  iexact H

/-- A guarded step: either branch leaves `R` and goes on with `b`. -/
theorem wp_guard {D : Defs nD τ sig (Elt F) Λ₀} {α β : Type} {c : Dev nD} {C : Prop} {dC : Decidable C} {A : C → Prog (TpuEff nD τ sig (Elt F) Λ₀ .tc) β}
    {b : Prog (TpuEff nD τ sig (Elt F) Λ₀ .tc) β} {k : β → Prog (TpuEff nD τ sig (Elt F) Λ₀ .tc) α} {Q : α → sProp 𝕄} (P R : sProp 𝕄)
    (hA : ∀ h, P ⊢ iprop((R -∗ wp frame (wpE D Variants.none c none) Set.univ (b.bind k) Q) -∗ wp frame (wpE D Variants.none c none) Set.univ ((A h).bind k) Q))
    (hB : ¬ C → P ⊢ R) :
    P ⊢ iprop((R -∗ wp frame (wpE D Variants.none c none) Set.univ (b.bind k) Q) -∗ wp frame (wpE D Variants.none c none) Set.univ ((dite C A (fun _ => b)).bind k) Q) := by
  by_cases hc : C
  · rw [dif_pos hc]; exact hA hc
  · rw [dif_neg hc]
    iintro HP Hk
    iapply Hk
    iapply (hB hc) $$ HP

/-- The same at the end of a program. -/
theorem wp_guard_last {D : Defs nD τ sig (Elt F) Λ₀} {α : Type} {c : Dev nD} {C : Prop} {dC : Decidable C} {A : C → Prog (TpuEff nD τ sig (Elt F) Λ₀ .tc) α}
    {b : Prog (TpuEff nD τ sig (Elt F) Λ₀ .tc) α} {Q : α → sProp 𝕄} (P R : sProp 𝕄)
    (hA : ∀ h, P ⊢ iprop((R -∗ wp frame (wpE D Variants.none c none) Set.univ b Q) -∗ wp frame (wpE D Variants.none c none) Set.univ (A h) Q))
    (hB : ¬ C → P ⊢ R) :
    P ⊢ iprop((R -∗ wp frame (wpE D Variants.none c none) Set.univ b Q) -∗ wp frame (wpE D Variants.none c none) Set.univ (dite C A (fun _ => b)) Q) := by
  by_cases hc : C
  · rw [dif_pos hc]; exact hA hc
  · rw [dif_neg hc]
    iintro HP Hk
    iapply Hk
    iapply (hB hc) $$ HP

set_option maxHeartbeats 40000000 in
theorem trip (c : Dev nD) {D : Defs nD τ sig (Elt F) Λ₀} (fw : Buf (Elt F) (wM.view.loc (c : Thread nD τ))) (v : Fin 8 → BitVec 32)
    (arg0 : Memref sig .tc .smem S8 .i32) (harg0 : arg0.IsWhole) (arg1 : Memref sig .tc .smem S8x10 .i32) (harg1 : arg1.IsWhole)
    (arg2 : Memref sig .tc .vmem S40x2048 .fp8e4m3) (harg2 : arg2.IsWhole) (arg3 : Memref sig .tc .vmem S40x16 .f32) (harg3 : arg3.IsWhole)
    (arg4 : Memref sig .tc .vmem S8x28x16 .f32) (harg4 : arg4.IsWhole) (arg6 : Memref sig .tc .vmem S8x10x3584 .bf16) (harg6 : arg6.IsWhole) {h5 h7 h8 h9 h10 h11}
    (hw7 : k0_chk7 (v 0) (v 1) (v 2) (v 3) (v 4) (v 5) (v 6) (v 7)) (t : Fin (loop1 v).trips) (a14 : BitVec 32)
    {q0 q4 : PosShare TreeShare} {X0 : S8.Idx → Elt F .i32} {X4 : S8x28x16.Idx → Elt F .f32} {Xo : S8x10x3584.Idx → Elt F .bf16} {Xg : S8x16x2048.Idx → Elt F .f32}
    {Xb : S256x2048.Idx → Elt F .fp8e4m3} {Sx : S8x256.Idx → Elt F .f32} {Xa : S8.Idx → Elt F .i32} {W : Waits sig Unit}
    (hact : ∀ j : Fin 8, j.val < cnt v → Xa (ix8 j) = ew (expt v j.val)) (hb : XZero Xb) :
    iprop(owns (c : Thread nD τ) arg0 q0 X0 ∗ owns (c : Thread nD τ) arg4 q4 X4 ∗ owns (c : Thread nD τ) arg6 fullShare Xo ∗ owns (c : Thread nD τ) xgM fullShare Xg
      ∗ owns (c : Thread nD τ) xbM fullShare Xb ∗ owns (c : Thread nD τ) sxM fullShare Sx ∗ owns (c : Thread nD τ) acM fullShare Xa ∗ Row c fw v t.val ∗ owes (c : Thread nD τ) 0 W)
    ⊢ wp frame (wpE D Variants.none c none) Set.univ
      (k0_t1_body arg0 harg0 arg1 harg1 arg2 harg2 arg3 harg3 arg4 harg4 wM h5 arg6 harg6 wbM h7 xgM h8 xbM h9 sxM h10 acM h11 cc0_scratch5 (v 0) (v 1) (v 2) (v 3) (v 4) (v 5) (v 6) (v 7) hw7 (posW v 8) expandM t a14)
      (fun _ => iprop(∃ Xo' W', ⌜Fill (outO (expt v t.val)) S1x10x128.size (outG c fw X0 X4 Xg Sx (expt v t.val)) (outK (expt v t.val)) Xo 28 Xo'⌝
        ∗ owns (c : Thread nD τ) arg0 q0 X0 ∗ owns (c : Thread nD τ) arg4 q4 X4 ∗ owns (c : Thread nD τ) arg6 fullShare Xo' ∗ owns (c : Thread nD τ) xgM fullShare Xg
        ∗ owns (c : Thread nD τ) xbM fullShare (XB Xg (expt v t.val)) ∗ owns (c : Thread nD τ) sxM fullShare Sx ∗ owns (c : Thread nD τ) acM fullShare Xa ∗ Row c fw v (t.val + 4) ∗ owes (c : Thread nD τ) 0 W')) := by
  have ht := t_lt t
  have ht8 := t_lt8 t
  have hcell : ∀ i : Fin 7, (![(Scalar.remsi (Scf.iv 0#32 1#32 t.val) 4#32).toNat, i.val] : Fin 2 → ℕ) = ![(slot t.val).val, i.val] := fun i => by rw [rem_toNat]
  have hslot : ∀ i : Fin 7, (![(Scalar.remsi (Scf.iv 0#32 1#32 t.val) 4#32).toNat, i.val, 0, 0] : Fin 4 → ℕ) = ![(slot t.val).val, i.val, 0, 0] := fun i => by rw [rem_toNat]
  have hcell4 : ∀ i : Fin 7, (![(Scalar.remsi (Scalar.addi (Scf.iv 0#32 1#32 t.val) 4#32) 4#32).toNat, i.val] : Fin 2 → ℕ) = ![(slot t.val).val, i.val] := fun i => by rw [rem4_toNat]
  have hslot4 : ∀ i : Fin 7, (![(Scalar.remsi (Scalar.addi (Scf.iv 0#32 1#32 t.val) 4#32) 4#32).toNat, i.val, 0, 0] : Fin 4 → ℕ) = ![(slot t.val).val, i.val, 0, 0] := fun i => by rw [rem4_toNat]
  have hs4 : slot (t.val + 4) = slot t.val := Fin.ext (Nat.add_mod_right t.val 4)
  have ha : (![(Scf.iv 0#32 1#32 t.val).toNat] : Fin 1 → ℕ) = ![(⟨t.val, ht8⟩ : Fin 8).val] := by rw [iv_toNat]
  have hat : Xa (ix8 ⟨t.val, ht8⟩) = ew (expt v t.val) := hact ⟨t.val, ht8⟩ ht
  have ha4 : t.val + 4 < cnt v → ∃ h : t.val + 4 < 8, Xa (ix8 ⟨t.val + 4, h⟩) = ew (expt v (t.val + 4)) := fun h =>
    have h8 : t.val + 4 < 8 := lt_of_lt_of_le h (rnk_le v 8)
    ⟨h8, hact ⟨t.val + 4, h8⟩ h⟩
  have ha4e : (![(Scalar.addi (Scf.iv 0#32 1#32 t.val) 4#32).toNat] : Fin 1 → ℕ) = ![t.val + 4] := by rw [iv4_toNat]
  have hsx : (![(ew (expt v t.val)).toNat, 0] : Fin 2 → ℕ) = ![(expt v t.val).val, 0] := by rw [ew_toNat]
  have h1 : (![(ew (expt v t.val)).toNat] : Fin 1 → ℕ) = ![(expt v t.val).val] := by rw [ew_toNat]
  have off0 : ∀ a, (![0, 0] : Fin 2 → ℕ) a = 0 := by decide
  unfold Row
  simp only [CE_pos ht]
  generalize he : expt v t.val = e at *
  iintro ⟨H0, H4, H6, Hg, Hb, Hs, Ha, ⟨C0, C1, C2, C3, C4, C5, C6⟩, HO⟩
  unfold k0_t1_body
  rw [k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton]
  unfold k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel k0_part27_skel k0_part28_skel k0_part29_skel k0_part30_skel k0_part31_skel k0_part32_skel
  iapply (wp_word c acM ⟨t.val, ht8⟩ ha hat) $$ Ha; iintro Ha
  iapply (wp_assume Variants.none (c : Thread nD τ) none Set.univ (chk36_ok e))
  iapply (wp_part c ![e.val, 0, 128 * (0 : Fin 16).val] (xb_inb e 0) (row_eq e 0)) $$ Hg; iintro Hg
  iapply (wp_get c) $$ Hb; iintro Hb
  iapply (wp_fill c xoff S32x128.size (xpad Xg e) xout 0 (xoff_disj 0) (xoff_out 0) Fill.zero rfl rfl) $$ Hb; iintro %B1 %hB1 Hb
  iapply (wp_part c ![e.val, 0, 128 * (1 : Fin 16).val] (xb_inb e 1) (row_eq e 128)) $$ Hg; iintro Hg
  iapply (wp_get c) $$ Hb; iintro Hb
  iapply (wp_fill c xoff S32x128.size (xpad Xg e) xout 1 (xoff_disj 1) (xoff_out 1) hB1 rfl rfl) $$ Hb; iintro %B2 %hB2 Hb
  iapply (wp_part c ![e.val, 0, 128 * (2 : Fin 16).val] (xb_inb e 2) (row_eq e 256)) $$ Hg; iintro Hg
  iapply (wp_get c) $$ Hb; iintro Hb
  iapply (wp_fill c xoff S32x128.size (xpad Xg e) xout 2 (xoff_disj 2) (xoff_out 2) hB2 rfl rfl) $$ Hb; iintro %B3 %hB3 Hb
  iapply (wp_part c ![e.val, 0, 128 * (3 : Fin 16).val] (xb_inb e 3) (row_eq e 384)) $$ Hg; iintro Hg
  iapply (wp_get c) $$ Hb; iintro Hb
  iapply (wp_fill c xoff S32x128.size (xpad Xg e) xout 3 (xoff_disj 3) (xoff_out 3) hB3 rfl rfl) $$ Hb; iintro %B4 %hB4 Hb
  iapply (wp_part c ![e.val, 0, 128 * (4 : Fin 16).val] (xb_inb e 4) (row_eq e 512)) $$ Hg; iintro Hg
  iapply (wp_get c) $$ Hb; iintro Hb
  iapply (wp_fill c xoff S32x128.size (xpad Xg e) xout 4 (xoff_disj 4) (xoff_out 4) hB4 rfl rfl) $$ Hb; iintro %B5 %hB5 Hb
  iapply (wp_part c ![e.val, 0, 128 * (5 : Fin 16).val] (xb_inb e 5) (row_eq e 640)) $$ Hg; iintro Hg
  iapply (wp_get c) $$ Hb; iintro Hb
  iapply (wp_fill c xoff S32x128.size (xpad Xg e) xout 5 (xoff_disj 5) (xoff_out 5) hB5 rfl rfl) $$ Hb; iintro %B6 %hB6 Hb
  iapply (wp_part c ![e.val, 0, 128 * (6 : Fin 16).val] (xb_inb e 6) (row_eq e 768)) $$ Hg; iintro Hg
  iapply (wp_get c) $$ Hb; iintro Hb
  iapply (wp_fill c xoff S32x128.size (xpad Xg e) xout 6 (xoff_disj 6) (xoff_out 6) hB6 rfl rfl) $$ Hb; iintro %B7 %hB7 Hb
  iapply (wp_part c ![e.val, 0, 128 * (7 : Fin 16).val] (xb_inb e 7) (row_eq e 896)) $$ Hg; iintro Hg
  iapply (wp_get c) $$ Hb; iintro Hb
  iapply (wp_fill c xoff S32x128.size (xpad Xg e) xout 7 (xoff_disj 7) (xoff_out 7) hB7 rfl rfl) $$ Hb; iintro %B8 %hB8 Hb
  iapply (wp_part c ![e.val, 0, 128 * (8 : Fin 16).val] (xb_inb e 8) (row_eq e 1024)) $$ Hg; iintro Hg
  iapply (wp_get c) $$ Hb; iintro Hb
  iapply (wp_fill c xoff S32x128.size (xpad Xg e) xout 8 (xoff_disj 8) (xoff_out 8) hB8 rfl rfl) $$ Hb; iintro %B9 %hB9 Hb
  iapply (wp_part c ![e.val, 0, 128 * (9 : Fin 16).val] (xb_inb e 9) (row_eq e 1152)) $$ Hg; iintro Hg
  iapply (wp_get c) $$ Hb; iintro Hb
  iapply (wp_fill c xoff S32x128.size (xpad Xg e) xout 9 (xoff_disj 9) (xoff_out 9) hB9 rfl rfl) $$ Hb; iintro %B10 %hB10 Hb
  iapply (wp_part c ![e.val, 0, 128 * (10 : Fin 16).val] (xb_inb e 10) (row_eq e 1280)) $$ Hg; iintro Hg
  iapply (wp_get c) $$ Hb; iintro Hb
  iapply (wp_fill c xoff S32x128.size (xpad Xg e) xout 10 (xoff_disj 10) (xoff_out 10) hB10 rfl rfl) $$ Hb; iintro %B11 %hB11 Hb
  iapply (wp_part c ![e.val, 0, 128 * (11 : Fin 16).val] (xb_inb e 11) (row_eq e 1408)) $$ Hg; iintro Hg
  iapply (wp_get c) $$ Hb; iintro Hb
  iapply (wp_fill c xoff S32x128.size (xpad Xg e) xout 11 (xoff_disj 11) (xoff_out 11) hB11 rfl rfl) $$ Hb; iintro %B12 %hB12 Hb
  iapply (wp_part c ![e.val, 0, 128 * (12 : Fin 16).val] (xb_inb e 12) (row_eq e 1536)) $$ Hg; iintro Hg
  iapply (wp_get c) $$ Hb; iintro Hb
  iapply (wp_fill c xoff S32x128.size (xpad Xg e) xout 12 (xoff_disj 12) (xoff_out 12) hB12 rfl rfl) $$ Hb; iintro %B13 %hB13 Hb
  iapply (wp_part c ![e.val, 0, 128 * (13 : Fin 16).val] (xb_inb e 13) (row_eq e 1664)) $$ Hg; iintro Hg
  iapply (wp_get c) $$ Hb; iintro Hb
  iapply (wp_fill c xoff S32x128.size (xpad Xg e) xout 13 (xoff_disj 13) (xoff_out 13) hB13 rfl rfl) $$ Hb; iintro %B14 %hB14 Hb
  iapply (wp_part c ![e.val, 0, 128 * (14 : Fin 16).val] (xb_inb e 14) (row_eq e 1792)) $$ Hg; iintro Hg
  iapply (wp_get c) $$ Hb; iintro Hb
  iapply (wp_fill c xoff S32x128.size (xpad Xg e) xout 14 (xoff_disj 14) (xoff_out 14) hB14 rfl rfl) $$ Hb; iintro %B15 %hB15 Hb
  iapply (wp_part c ![e.val, 0, 128 * (15 : Fin 16).val] (xb_inb e 15) (row_eq e 1920)) $$ Hg; iintro Hg
  iapply (wp_get c) $$ Hb; iintro Hb
  iapply (wp_fill c xoff S32x128.size (xpad Xg e) xout 15 (xoff_disj 15) (xoff_out 15) hB15 rfl rfl) $$ Hb; iintro %B16 %hB16 Hb
  obtain rfl := XB_of_fill hb hB16
  iapply (wp_part c ![e.val, 0, 0] (ws_inb e) (row_eq e 0)) $$ H4; iintro H4
  iapply (wp_part c ![e.val, 0] (sx_inb e) hsx) $$ Hs; iintro Hs
  iapply (wp_word c arg0 e h1 rfl) $$ H0; iintro H0
  iapply (wp_word c acM ⟨t.val, ht8⟩ ha hat) $$ Ha; iintro Ha
  iapply (wp_assume Variants.none (c : Thread nD τ) none Set.univ (chk37_ok e))
  iapply (wp_landed c fw (slot t.val) 0 e (hslot 0) (hcell 0)) $$ [C0 HO]
  · isplitl [C0]; · iexact C0
    iexact HO
  iintro ⟨⟨%f0, %hf0, C0⟩, ⟨%W0, HO⟩⟩
  iapply (wp_chunk c fw (slot t.val) 0 e (hslot 0) hf0) $$ C0
  iintro %w0 %hv0 C0
  iapply (wp_all c off0) $$ Hb; iintro Hb
  iapply (wp_get c) $$ H6; iintro H6
  iapply (wp_fill c (outO e) S1x10x128.size (outG c fw X0 X4 Xg Sx e) (outK e) 0 (outO_disj e 0) (outO_out e 0) Fill.zero (row_eq e 0)
    (congrArg (fun w => blk (prod w (XB Xg e)) (scaleV X4 Sx e) (k0_pay24 (X0 (ix8 e))) 0 0) (hv0 _))) $$ H6; iintro %O1 %hO1 H6
  iapply (wp_get c) $$ H6; iintro H6
  iapply (wp_fill c (outO e) S1x10x128.size (outG c fw X0 X4 Xg Sx e) (outK e) 1 (outO_disj e 1) (outO_out e 1) hO1 (row_eq e 128)
    (congrArg (fun w => blk (prod w (XB Xg e)) (scaleV X4 Sx e) (k0_pay24 (X0 (ix8 e))) 1 1) (hv0 _))) $$ H6; iintro %O2 %hO2 H6
  iapply (wp_get c) $$ H6; iintro H6
  iapply (wp_fill c (outO e) S1x10x128.size (outG c fw X0 X4 Xg Sx e) (outK e) 2 (outO_disj e 2) (outO_out e 2) hO2 (row_eq e 256)
    (congrArg (fun w => blk (prod w (XB Xg e)) (scaleV X4 Sx e) (k0_pay24 (X0 (ix8 e))) 2 2) (hv0 _))) $$ H6; iintro %O3 %hO3 H6
  iapply (wp_get c) $$ H6; iintro H6
  iapply (wp_fill c (outO e) S1x10x128.size (outG c fw X0 X4 Xg Sx e) (outK e) 3 (outO_disj e 3) (outO_out e 3) hO3 (row_eq e 384)
    (congrArg (fun w => blk (prod w (XB Xg e)) (scaleV X4 Sx e) (k0_pay24 (X0 (ix8 e))) 3 3) (hv0 _))) $$ H6; iintro %O4 %hO4 H6
  iapply (wp_guard iprop(CLanded c fw (slot t.val) 0 f0 ∗ owns (c : Thread nD τ) acM fullShare Xa) iprop(CE c fw v (t.val + 4) 0 ∗ owns (c : Thread nD τ) acM fullShare Xa) ?_ ?_) $$ [C0 Ha]
  · intro hc
    obtain ⟨h8, hx⟩ := ha4 ((cond21_iff t).1 hc)
    rw [CE_pos ((cond21_iff t).1 hc), hs4]
    iintro ⟨HC, Ha⟩ Hk
    iapply (wp_word c acM ⟨t.val + 4, h8⟩ ha4e hx) $$ Ha; iintro Ha
    iapply (wp_assume Variants.none (c : Thread nD τ) none Set.univ (src_ok (expt v (t.val + 4)) 0))
    ihave HC := (CLanded_free c fw (slot t.val) 0 f0) $$ HC
    iapply (wp_start c fw (slot t.val) 0 (expt v (t.val + 4)) (src_eq (expt v (t.val + 4)) 0) (hslot4 0) (hcell4 0)) $$ HC; iintro HC
    iapply Hk
    isplitl [HC]; · iexact HC
    iexact Ha
  · intro hc
    rw [CE_neg (fun h => hc ((cond21_iff t).2 h)), hs4]
    iintro ⟨HC, Ha⟩
    isplitl [HC]; · iapply (CLanded_free c fw (slot t.val) 0 f0) $$ HC
    iexact Ha
  · isplitl [C0]; · iexact C0
    iexact Ha
  iintro ⟨C0, Ha⟩
  iapply (wp_word c acM ⟨t.val, ht8⟩ ha hat) $$ Ha; iintro Ha
  iapply (wp_assume Variants.none (c : Thread nD τ) none Set.univ (chk39_ok e))
  iapply (wp_landed c fw (slot t.val) 1 e (hslot 1) (hcell 1)) $$ [C1 HO]
  · isplitl [C1]; · iexact C1
    iexact HO
  iintro ⟨⟨%f1, %hf1, C1⟩, ⟨%W1, HO⟩⟩
  iapply (wp_chunk c fw (slot t.val) 1 e (hslot 1) hf1) $$ C1
  iintro %w1 %hv1 C1
  iapply (wp_all c off0) $$ Hb; iintro Hb
  iapply (wp_get c) $$ H6; iintro H6
  iapply (wp_fill c (outO e) S1x10x128.size (outG c fw X0 X4 Xg Sx e) (outK e) 4 (outO_disj e 4) (outO_out e 4) hO4 (row_eq e 512)
    (congrArg (fun w => blk (prod w (XB Xg e)) (scaleV X4 Sx e) (k0_pay24 (X0 (ix8 e))) 0 4) (hv1 _))) $$ H6; iintro %O5 %hO5 H6
  iapply (wp_get c) $$ H6; iintro H6
  iapply (wp_fill c (outO e) S1x10x128.size (outG c fw X0 X4 Xg Sx e) (outK e) 5 (outO_disj e 5) (outO_out e 5) hO5 (row_eq e 640)
    (congrArg (fun w => blk (prod w (XB Xg e)) (scaleV X4 Sx e) (k0_pay24 (X0 (ix8 e))) 1 5) (hv1 _))) $$ H6; iintro %O6 %hO6 H6
  iapply (wp_get c) $$ H6; iintro H6
  iapply (wp_fill c (outO e) S1x10x128.size (outG c fw X0 X4 Xg Sx e) (outK e) 6 (outO_disj e 6) (outO_out e 6) hO6 (row_eq e 768)
    (congrArg (fun w => blk (prod w (XB Xg e)) (scaleV X4 Sx e) (k0_pay24 (X0 (ix8 e))) 2 6) (hv1 _))) $$ H6; iintro %O7 %hO7 H6
  iapply (wp_get c) $$ H6; iintro H6
  iapply (wp_fill c (outO e) S1x10x128.size (outG c fw X0 X4 Xg Sx e) (outK e) 7 (outO_disj e 7) (outO_out e 7) hO7 (row_eq e 896)
    (congrArg (fun w => blk (prod w (XB Xg e)) (scaleV X4 Sx e) (k0_pay24 (X0 (ix8 e))) 3 7) (hv1 _))) $$ H6; iintro %O8 %hO8 H6
  iapply (wp_guard iprop(CLanded c fw (slot t.val) 1 f1 ∗ owns (c : Thread nD τ) acM fullShare Xa) iprop(CE c fw v (t.val + 4) 1 ∗ owns (c : Thread nD τ) acM fullShare Xa) ?_ ?_) $$ [C1 Ha]
  · intro hc
    obtain ⟨h8, hx⟩ := ha4 ((cond21_iff t).1 hc)
    rw [CE_pos ((cond21_iff t).1 hc), hs4]
    iintro ⟨HC, Ha⟩ Hk
    iapply (wp_word c acM ⟨t.val + 4, h8⟩ ha4e hx) $$ Ha; iintro Ha
    iapply (wp_assume Variants.none (c : Thread nD τ) none Set.univ (src_ok (expt v (t.val + 4)) 1))
    ihave HC := (CLanded_free c fw (slot t.val) 1 f1) $$ HC
    iapply (wp_start c fw (slot t.val) 1 (expt v (t.val + 4)) (src_eq (expt v (t.val + 4)) 1) (hslot4 1) (hcell4 1)) $$ HC; iintro HC
    iapply Hk
    isplitl [HC]; · iexact HC
    iexact Ha
  · intro hc
    rw [CE_neg (fun h => hc ((cond21_iff t).2 h)), hs4]
    iintro ⟨HC, Ha⟩
    isplitl [HC]; · iapply (CLanded_free c fw (slot t.val) 1 f1) $$ HC
    iexact Ha
  · isplitl [C1]; · iexact C1
    iexact Ha
  iintro ⟨C1, Ha⟩
  iapply (wp_word c acM ⟨t.val, ht8⟩ ha hat) $$ Ha; iintro Ha
  iapply (wp_assume Variants.none (c : Thread nD τ) none Set.univ (chk41_ok e))
  iapply (wp_landed c fw (slot t.val) 2 e (hslot 2) (hcell 2)) $$ [C2 HO]
  · isplitl [C2]; · iexact C2
    iexact HO
  iintro ⟨⟨%f2, %hf2, C2⟩, ⟨%W2, HO⟩⟩
  iapply (wp_chunk c fw (slot t.val) 2 e (hslot 2) hf2) $$ C2
  iintro %w2 %hv2 C2
  iapply (wp_all c off0) $$ Hb; iintro Hb
  iapply (wp_get c) $$ H6; iintro H6
  iapply (wp_fill c (outO e) S1x10x128.size (outG c fw X0 X4 Xg Sx e) (outK e) 8 (outO_disj e 8) (outO_out e 8) hO8 (row_eq e 1024)
    (congrArg (fun w => blk (prod w (XB Xg e)) (scaleV X4 Sx e) (k0_pay24 (X0 (ix8 e))) 0 8) (hv2 _))) $$ H6; iintro %O9 %hO9 H6
  iapply (wp_get c) $$ H6; iintro H6
  iapply (wp_fill c (outO e) S1x10x128.size (outG c fw X0 X4 Xg Sx e) (outK e) 9 (outO_disj e 9) (outO_out e 9) hO9 (row_eq e 1152)
    (congrArg (fun w => blk (prod w (XB Xg e)) (scaleV X4 Sx e) (k0_pay24 (X0 (ix8 e))) 1 9) (hv2 _))) $$ H6; iintro %O10 %hO10 H6
  iapply (wp_get c) $$ H6; iintro H6
  iapply (wp_fill c (outO e) S1x10x128.size (outG c fw X0 X4 Xg Sx e) (outK e) 10 (outO_disj e 10) (outO_out e 10) hO10 (row_eq e 1280)
    (congrArg (fun w => blk (prod w (XB Xg e)) (scaleV X4 Sx e) (k0_pay24 (X0 (ix8 e))) 2 10) (hv2 _))) $$ H6; iintro %O11 %hO11 H6
  iapply (wp_get c) $$ H6; iintro H6
  iapply (wp_fill c (outO e) S1x10x128.size (outG c fw X0 X4 Xg Sx e) (outK e) 11 (outO_disj e 11) (outO_out e 11) hO11 (row_eq e 1408)
    (congrArg (fun w => blk (prod w (XB Xg e)) (scaleV X4 Sx e) (k0_pay24 (X0 (ix8 e))) 3 11) (hv2 _))) $$ H6; iintro %O12 %hO12 H6
  iapply (wp_guard iprop(CLanded c fw (slot t.val) 2 f2 ∗ owns (c : Thread nD τ) acM fullShare Xa) iprop(CE c fw v (t.val + 4) 2 ∗ owns (c : Thread nD τ) acM fullShare Xa) ?_ ?_) $$ [C2 Ha]
  · intro hc
    obtain ⟨h8, hx⟩ := ha4 ((cond21_iff t).1 hc)
    rw [CE_pos ((cond21_iff t).1 hc), hs4]
    iintro ⟨HC, Ha⟩ Hk
    iapply (wp_word c acM ⟨t.val + 4, h8⟩ ha4e hx) $$ Ha; iintro Ha
    iapply (wp_assume Variants.none (c : Thread nD τ) none Set.univ (src_ok (expt v (t.val + 4)) 2))
    ihave HC := (CLanded_free c fw (slot t.val) 2 f2) $$ HC
    iapply (wp_start c fw (slot t.val) 2 (expt v (t.val + 4)) (src_eq (expt v (t.val + 4)) 2) (hslot4 2) (hcell4 2)) $$ HC; iintro HC
    iapply Hk
    isplitl [HC]; · iexact HC
    iexact Ha
  · intro hc
    rw [CE_neg (fun h => hc ((cond21_iff t).2 h)), hs4]
    iintro ⟨HC, Ha⟩
    isplitl [HC]; · iapply (CLanded_free c fw (slot t.val) 2 f2) $$ HC
    iexact Ha
  · isplitl [C2]; · iexact C2
    iexact Ha
  iintro ⟨C2, Ha⟩
  iapply (wp_word c acM ⟨t.val, ht8⟩ ha hat) $$ Ha; iintro Ha
  iapply (wp_assume Variants.none (c : Thread nD τ) none Set.univ (chk43_ok e))
  iapply (wp_landed c fw (slot t.val) 3 e (hslot 3) (hcell 3)) $$ [C3 HO]
  · isplitl [C3]; · iexact C3
    iexact HO
  iintro ⟨⟨%f3, %hf3, C3⟩, ⟨%W3, HO⟩⟩
  iapply (wp_chunk c fw (slot t.val) 3 e (hslot 3) hf3) $$ C3
  iintro %w3 %hv3 C3
  iapply (wp_all c off0) $$ Hb; iintro Hb
  iapply (wp_get c) $$ H6; iintro H6
  iapply (wp_fill c (outO e) S1x10x128.size (outG c fw X0 X4 Xg Sx e) (outK e) 12 (outO_disj e 12) (outO_out e 12) hO12 (row_eq e 1536)
    (congrArg (fun w => blk (prod w (XB Xg e)) (scaleV X4 Sx e) (k0_pay24 (X0 (ix8 e))) 0 12) (hv3 _))) $$ H6; iintro %O13 %hO13 H6
  iapply (wp_get c) $$ H6; iintro H6
  iapply (wp_fill c (outO e) S1x10x128.size (outG c fw X0 X4 Xg Sx e) (outK e) 13 (outO_disj e 13) (outO_out e 13) hO13 (row_eq e 1664)
    (congrArg (fun w => blk (prod w (XB Xg e)) (scaleV X4 Sx e) (k0_pay24 (X0 (ix8 e))) 1 13) (hv3 _))) $$ H6; iintro %O14 %hO14 H6
  iapply (wp_get c) $$ H6; iintro H6
  iapply (wp_fill c (outO e) S1x10x128.size (outG c fw X0 X4 Xg Sx e) (outK e) 14 (outO_disj e 14) (outO_out e 14) hO14 (row_eq e 1792)
    (congrArg (fun w => blk (prod w (XB Xg e)) (scaleV X4 Sx e) (k0_pay24 (X0 (ix8 e))) 2 14) (hv3 _))) $$ H6; iintro %O15 %hO15 H6
  iapply (wp_get c) $$ H6; iintro H6
  iapply (wp_fill c (outO e) S1x10x128.size (outG c fw X0 X4 Xg Sx e) (outK e) 15 (outO_disj e 15) (outO_out e 15) hO15 (row_eq e 1920)
    (congrArg (fun w => blk (prod w (XB Xg e)) (scaleV X4 Sx e) (k0_pay24 (X0 (ix8 e))) 3 15) (hv3 _))) $$ H6; iintro %O16 %hO16 H6
  iapply (wp_guard iprop(CLanded c fw (slot t.val) 3 f3 ∗ owns (c : Thread nD τ) acM fullShare Xa) iprop(CE c fw v (t.val + 4) 3 ∗ owns (c : Thread nD τ) acM fullShare Xa) ?_ ?_) $$ [C3 Ha]
  · intro hc
    obtain ⟨h8, hx⟩ := ha4 ((cond21_iff t).1 hc)
    rw [CE_pos ((cond21_iff t).1 hc), hs4]
    iintro ⟨HC, Ha⟩ Hk
    iapply (wp_word c acM ⟨t.val + 4, h8⟩ ha4e hx) $$ Ha; iintro Ha
    iapply (wp_assume Variants.none (c : Thread nD τ) none Set.univ (src_ok (expt v (t.val + 4)) 3))
    ihave HC := (CLanded_free c fw (slot t.val) 3 f3) $$ HC
    iapply (wp_start c fw (slot t.val) 3 (expt v (t.val + 4)) (src_eq (expt v (t.val + 4)) 3) (hslot4 3) (hcell4 3)) $$ HC; iintro HC
    iapply Hk
    isplitl [HC]; · iexact HC
    iexact Ha
  · intro hc
    rw [CE_neg (fun h => hc ((cond21_iff t).2 h)), hs4]
    iintro ⟨HC, Ha⟩
    isplitl [HC]; · iapply (CLanded_free c fw (slot t.val) 3 f3) $$ HC
    iexact Ha
  · isplitl [C3]; · iexact C3
    iexact Ha
  iintro ⟨C3, Ha⟩
  iapply (wp_word c acM ⟨t.val, ht8⟩ ha hat) $$ Ha; iintro Ha
  iapply (wp_assume Variants.none (c : Thread nD τ) none Set.univ (chk45_ok e))
  iapply (wp_landed c fw (slot t.val) 4 e (hslot 4) (hcell 4)) $$ [C4 HO]
  · isplitl [C4]; · iexact C4
    iexact HO
  iintro ⟨⟨%f4, %hf4, C4⟩, ⟨%W4, HO⟩⟩
  iapply (wp_chunk c fw (slot t.val) 4 e (hslot 4) hf4) $$ C4
  iintro %w4 %hv4 C4
  iapply (wp_all c off0) $$ Hb; iintro Hb
  iapply (wp_get c) $$ H6; iintro H6
  iapply (wp_fill c (outO e) S1x10x128.size (outG c fw X0 X4 Xg Sx e) (outK e) 16 (outO_disj e 16) (outO_out e 16) hO16 (row_eq e 2048)
    (congrArg (fun w => blk (prod w (XB Xg e)) (scaleV X4 Sx e) (k0_pay24 (X0 (ix8 e))) 0 16) (hv4 _))) $$ H6; iintro %O17 %hO17 H6
  iapply (wp_get c) $$ H6; iintro H6
  iapply (wp_fill c (outO e) S1x10x128.size (outG c fw X0 X4 Xg Sx e) (outK e) 17 (outO_disj e 17) (outO_out e 17) hO17 (row_eq e 2176)
    (congrArg (fun w => blk (prod w (XB Xg e)) (scaleV X4 Sx e) (k0_pay24 (X0 (ix8 e))) 1 17) (hv4 _))) $$ H6; iintro %O18 %hO18 H6
  iapply (wp_get c) $$ H6; iintro H6
  iapply (wp_fill c (outO e) S1x10x128.size (outG c fw X0 X4 Xg Sx e) (outK e) 18 (outO_disj e 18) (outO_out e 18) hO18 (row_eq e 2304)
    (congrArg (fun w => blk (prod w (XB Xg e)) (scaleV X4 Sx e) (k0_pay24 (X0 (ix8 e))) 2 18) (hv4 _))) $$ H6; iintro %O19 %hO19 H6
  iapply (wp_get c) $$ H6; iintro H6
  iapply (wp_fill c (outO e) S1x10x128.size (outG c fw X0 X4 Xg Sx e) (outK e) 19 (outO_disj e 19) (outO_out e 19) hO19 (row_eq e 2432)
    (congrArg (fun w => blk (prod w (XB Xg e)) (scaleV X4 Sx e) (k0_pay24 (X0 (ix8 e))) 3 19) (hv4 _))) $$ H6; iintro %O20 %hO20 H6
  iapply (wp_guard iprop(CLanded c fw (slot t.val) 4 f4 ∗ owns (c : Thread nD τ) acM fullShare Xa) iprop(CE c fw v (t.val + 4) 4 ∗ owns (c : Thread nD τ) acM fullShare Xa) ?_ ?_) $$ [C4 Ha]
  · intro hc
    obtain ⟨h8, hx⟩ := ha4 ((cond21_iff t).1 hc)
    rw [CE_pos ((cond21_iff t).1 hc), hs4]
    iintro ⟨HC, Ha⟩ Hk
    iapply (wp_word c acM ⟨t.val + 4, h8⟩ ha4e hx) $$ Ha; iintro Ha
    iapply (wp_assume Variants.none (c : Thread nD τ) none Set.univ (src_ok (expt v (t.val + 4)) 4))
    ihave HC := (CLanded_free c fw (slot t.val) 4 f4) $$ HC
    iapply (wp_start c fw (slot t.val) 4 (expt v (t.val + 4)) (src_eq (expt v (t.val + 4)) 4) (hslot4 4) (hcell4 4)) $$ HC; iintro HC
    iapply Hk
    isplitl [HC]; · iexact HC
    iexact Ha
  · intro hc
    rw [CE_neg (fun h => hc ((cond21_iff t).2 h)), hs4]
    iintro ⟨HC, Ha⟩
    isplitl [HC]; · iapply (CLanded_free c fw (slot t.val) 4 f4) $$ HC
    iexact Ha
  · isplitl [C4]; · iexact C4
    iexact Ha
  iintro ⟨C4, Ha⟩
  iapply (wp_word c acM ⟨t.val, ht8⟩ ha hat) $$ Ha; iintro Ha
  iapply (wp_assume Variants.none (c : Thread nD τ) none Set.univ (chk47_ok e))
  iapply (wp_landed c fw (slot t.val) 5 e (hslot 5) (hcell 5)) $$ [C5 HO]
  · isplitl [C5]; · iexact C5
    iexact HO
  iintro ⟨⟨%f5, %hf5, C5⟩, ⟨%W5, HO⟩⟩
  iapply (wp_chunk c fw (slot t.val) 5 e (hslot 5) hf5) $$ C5
  iintro %w5 %hv5 C5
  iapply (wp_all c off0) $$ Hb; iintro Hb
  iapply (wp_get c) $$ H6; iintro H6
  iapply (wp_fill c (outO e) S1x10x128.size (outG c fw X0 X4 Xg Sx e) (outK e) 20 (outO_disj e 20) (outO_out e 20) hO20 (row_eq e 2560)
    (congrArg (fun w => blk (prod w (XB Xg e)) (scaleV X4 Sx e) (k0_pay24 (X0 (ix8 e))) 0 20) (hv5 _))) $$ H6; iintro %O21 %hO21 H6
  iapply (wp_get c) $$ H6; iintro H6
  iapply (wp_fill c (outO e) S1x10x128.size (outG c fw X0 X4 Xg Sx e) (outK e) 21 (outO_disj e 21) (outO_out e 21) hO21 (row_eq e 2688)
    (congrArg (fun w => blk (prod w (XB Xg e)) (scaleV X4 Sx e) (k0_pay24 (X0 (ix8 e))) 1 21) (hv5 _))) $$ H6; iintro %O22 %hO22 H6
  iapply (wp_get c) $$ H6; iintro H6
  iapply (wp_fill c (outO e) S1x10x128.size (outG c fw X0 X4 Xg Sx e) (outK e) 22 (outO_disj e 22) (outO_out e 22) hO22 (row_eq e 2816)
    (congrArg (fun w => blk (prod w (XB Xg e)) (scaleV X4 Sx e) (k0_pay24 (X0 (ix8 e))) 2 22) (hv5 _))) $$ H6; iintro %O23 %hO23 H6
  iapply (wp_get c) $$ H6; iintro H6
  iapply (wp_fill c (outO e) S1x10x128.size (outG c fw X0 X4 Xg Sx e) (outK e) 23 (outO_disj e 23) (outO_out e 23) hO23 (row_eq e 2944)
    (congrArg (fun w => blk (prod w (XB Xg e)) (scaleV X4 Sx e) (k0_pay24 (X0 (ix8 e))) 3 23) (hv5 _))) $$ H6; iintro %O24 %hO24 H6
  iapply (wp_guard iprop(CLanded c fw (slot t.val) 5 f5 ∗ owns (c : Thread nD τ) acM fullShare Xa) iprop(CE c fw v (t.val + 4) 5 ∗ owns (c : Thread nD τ) acM fullShare Xa) ?_ ?_) $$ [C5 Ha]
  · intro hc
    obtain ⟨h8, hx⟩ := ha4 ((cond21_iff t).1 hc)
    rw [CE_pos ((cond21_iff t).1 hc), hs4]
    iintro ⟨HC, Ha⟩ Hk
    iapply (wp_word c acM ⟨t.val + 4, h8⟩ ha4e hx) $$ Ha; iintro Ha
    iapply (wp_assume Variants.none (c : Thread nD τ) none Set.univ (src_ok (expt v (t.val + 4)) 5))
    ihave HC := (CLanded_free c fw (slot t.val) 5 f5) $$ HC
    iapply (wp_start c fw (slot t.val) 5 (expt v (t.val + 4)) (src_eq (expt v (t.val + 4)) 5) (hslot4 5) (hcell4 5)) $$ HC; iintro HC
    iapply Hk
    isplitl [HC]; · iexact HC
    iexact Ha
  · intro hc
    rw [CE_neg (fun h => hc ((cond21_iff t).2 h)), hs4]
    iintro ⟨HC, Ha⟩
    isplitl [HC]; · iapply (CLanded_free c fw (slot t.val) 5 f5) $$ HC
    iexact Ha
  · isplitl [C5]; · iexact C5
    iexact Ha
  iintro ⟨C5, Ha⟩
  iapply (wp_word c acM ⟨t.val, ht8⟩ ha hat) $$ Ha; iintro Ha
  iapply (wp_assume Variants.none (c : Thread nD τ) none Set.univ (chk49_ok e))
  iapply (wp_landed c fw (slot t.val) 6 e (hslot 6) (hcell 6)) $$ [C6 HO]
  · isplitl [C6]; · iexact C6
    iexact HO
  iintro ⟨⟨%f6, %hf6, C6⟩, ⟨%W6, HO⟩⟩
  iapply (wp_chunk c fw (slot t.val) 6 e (hslot 6) hf6) $$ C6
  iintro %w6 %hv6 C6
  iapply (wp_all c off0) $$ Hb; iintro Hb
  iapply (wp_get c) $$ H6; iintro H6
  iapply (wp_fill c (outO e) S1x10x128.size (outG c fw X0 X4 Xg Sx e) (outK e) 24 (outO_disj e 24) (outO_out e 24) hO24 (row_eq e 3072)
    (congrArg (fun w => blk (prod w (XB Xg e)) (scaleV X4 Sx e) (k0_pay24 (X0 (ix8 e))) 0 24) (hv6 _))) $$ H6; iintro %O25 %hO25 H6
  iapply (wp_get c) $$ H6; iintro H6
  iapply (wp_fill c (outO e) S1x10x128.size (outG c fw X0 X4 Xg Sx e) (outK e) 25 (outO_disj e 25) (outO_out e 25) hO25 (row_eq e 3200)
    (congrArg (fun w => blk (prod w (XB Xg e)) (scaleV X4 Sx e) (k0_pay24 (X0 (ix8 e))) 1 25) (hv6 _))) $$ H6; iintro %O26 %hO26 H6
  iapply (wp_get c) $$ H6; iintro H6
  iapply (wp_fill c (outO e) S1x10x128.size (outG c fw X0 X4 Xg Sx e) (outK e) 26 (outO_disj e 26) (outO_out e 26) hO26 (row_eq e 3328)
    (congrArg (fun w => blk (prod w (XB Xg e)) (scaleV X4 Sx e) (k0_pay24 (X0 (ix8 e))) 2 26) (hv6 _))) $$ H6; iintro %O27 %hO27 H6
  iapply (wp_get c) $$ H6; iintro H6
  iapply (wp_fill c (outO e) S1x10x128.size (outG c fw X0 X4 Xg Sx e) (outK e) 27 (outO_disj e 27) (outO_out e 27) hO27 (row_eq e 3456)
    (congrArg (fun w => blk (prod w (XB Xg e)) (scaleV X4 Sx e) (k0_pay24 (X0 (ix8 e))) 3 27) (hv6 _))) $$ H6; iintro %O28 %hO28 H6
  iapply (wp_guard_last iprop(CLanded c fw (slot t.val) 6 f6 ∗ owns (c : Thread nD τ) acM fullShare Xa) iprop(CE c fw v (t.val + 4) 6 ∗ owns (c : Thread nD τ) acM fullShare Xa) ?_ ?_) $$ [C6 Ha]
  · intro hc
    obtain ⟨h8, hx⟩ := ha4 ((cond21_iff t).1 hc)
    rw [CE_pos ((cond21_iff t).1 hc), hs4]
    iintro ⟨HC, Ha⟩ Hk
    iapply (wp_word c acM ⟨t.val + 4, h8⟩ ha4e hx) $$ Ha; iintro Ha
    iapply (wp_assume Variants.none (c : Thread nD τ) none Set.univ (src_ok (expt v (t.val + 4)) 6))
    ihave HC := (CLanded_free c fw (slot t.val) 6 f6) $$ HC
    iapply (wp_start c fw (slot t.val) 6 (expt v (t.val + 4)) (src_eq (expt v (t.val + 4)) 6) (hslot4 6) (hcell4 6)) $$ HC; iintro HC
    iapply Hk
    isplitl [HC]; · iexact HC
    iexact Ha
  · intro hc
    rw [CE_neg (fun h => hc ((cond21_iff t).2 h)), hs4]
    iintro ⟨HC, Ha⟩
    isplitl [HC]; · iapply (CLanded_free c fw (slot t.val) 6 f6) $$ HC
    iexact Ha
  · isplitl [C6]; · iexact C6
    iexact Ha
  iintro ⟨C6, Ha⟩
  iapply wp_done
  iexists O28
  iexists W6
  isplitr; · ipureintro; exact hO28
  isplitl [H0]; · iexact H0
  isplitl [H4]; · iexact H4
  isplitl [H6]; · iexact H6
  isplitl [Hg]; · iexact Hg
  isplitl [Hb]; · iexact Hb
  isplitl [Hs]; · iexact Hs
  isplitl [Ha]; · iexact Ha
  isplitr [HO]; swap; · iexact HO
  isplitl [C0]; · iexact C0
  isplitl [C1]; · iexact C1
  isplitl [C2]; · iexact C2
  isplitl [C3]; · iexact C3
  isplitl [C4]; · iexact C4
  isplitl [C5]; · iexact C5
  iexact C6

end Cert.KernelIdeal.Hand

end
-- ==== Proof.Gather.lean ====
/-
  What the kernel prepares before its main loop: the list of the experts that have tokens, zeros for the others, and
  the rows and scales of the tokens in the slots of every expert.
-/
module

public import proofs.«01_k».proof.Proof.Trip

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ### Guards without a name for their condition -/

/-- A guarded step: either branch leaves `R` and goes on with `b`. -/
theorem wp_gate {D : Defs nD τ sig (Elt F) Λ₀} {α β : Type} {c : Dev nD} {C : Prop} {dC : Decidable C} {A : Prog (TpuEff nD τ sig (Elt F) Λ₀ .tc) β}
    {b : Prog (TpuEff nD τ sig (Elt F) Λ₀ .tc) β} {k : β → Prog (TpuEff nD τ sig (Elt F) Λ₀ .tc) α} {Q : α → sProp 𝕄} (P R : sProp 𝕄)
    (hA : C → P ⊢ iprop((R -∗ wp frame (wpE D Variants.none c none) Set.univ (b.bind k) Q) -∗ wp frame (wpE D Variants.none c none) Set.univ (A.bind k) Q))
    (hB : ¬ C → P ⊢ R) :
    P ⊢ iprop((R -∗ wp frame (wpE D Variants.none c none) Set.univ (b.bind k) Q) -∗ wp frame (wpE D Variants.none c none) Set.univ ((ite C A b).bind k) Q) := by
  by_cases hc : C
  · rw [if_pos hc]; exact hA hc
  · rw [if_neg hc]
    iintro HP Hk
    iapply Hk
    iapply (hB hc) $$ HP

/-! ### The list of experts -/

/-- The experts before `n` that have tokens are listed at their ranks. -/
def Act (v : Fin 8 → BitVec 32) (n : ℕ) (X : S8.Idx → Elt F .i32) : Prop :=
  ∀ e j : Fin 8, e.val < n → pos v e → j.val = rnk v e.val → X (ix8 j) = ew e

theorem Act.zero {v : Fin 8 → BitVec 32} {X : S8.Idx → Elt F .i32} : Act (F := F) v 0 X := fun _ _ h => absurd h (Nat.not_lt_zero _)

theorem Act.skip {v : Fin 8 → BitVec 32} {X : S8.Idx → Elt F .i32} (e : Fin 8) (hn : ¬ pos v e) (h : Act (F := F) v e.val X) : Act (F := F) v (e.val + 1) X :=
  fun e' j he' hp hj => h e' j (by
    by_contra hc
    exact hn ((Fin.ext (by omega) : e' = e) ▸ hp)) hp hj

theorem Act.get {v : Fin 8 → BitVec 32} {X : S8.Idx → Elt F .i32} (h : Act (F := F) v 8 X) (j : Fin 8) (hj : j.val < cnt v) : X (ix8 j) = ew (expt v j.val) :=
  h _ j (expt v j.val).isLt (expt_pos v hj) (rnk_expt v hj).symm

/-- The expert `e` has tokens, so it is written at its rank. -/
theorem wp_act (c : Dev nD) {D : Defs nD τ sig (Elt F) Λ₀} {α : Type} {v : Fin 8 → BitVec 32} (e : Fin 8) (hp : pos v e) {X : S8.Idx → Elt F .i32} (h : Act (F := F) v e.val X)
    {off : Fin S8.rank → ℕ} (ho : off = ![rnk v e.val]) {inb : ∀ a, off a + S1.size a ≤ S8.size a} {w : (Rect.unit (s := S8) off S1.size inb).shape.Idx → Elt F .i32} (hw : w = fun _ => ew e)
    {hx : (acM.access (Rect.unit off S1.size inb)).Stores Finset.univ} {hm} {k : PUnit → Prog (TpuEff nD τ sig (Elt F) Λ₀ .tc) α} {Q : α → sProp 𝕄} :
    (owns (c : Thread nD τ) acM fullShare X : sProp 𝕄) ⊢ iprop((∀ X', ⌜Act (F := F) v (e.val + 1) X'⌝ -∗ owns (c : Thread nD τ) acM fullShare X' -∗ wp frame (wpE D Variants.none c none) Set.univ (k ⟨⟩) Q)
      -∗ wp frame (wpE D Variants.none c none) Set.univ (.op (.store acM (Rect.unit off S1.size inb) w Finset.univ hx hm) k) Q) := by
  subst ho hw
  iintro H Hk
  iapply (wp_put c (m := acM) (r := Rect.unit (s := S8) ![rnk v e.val] S1.size inb)) $$ H
  iintro H
  iapply Hk $$ [] H
  ipureintro
  intro e' j he' hp' hj
  by_cases hee : e' = e
  · subst hee
    have hi : ix8 j = (Rect.unit (s := S8) ![rnk v e'.val] S1.size inb).emb (fun a => ⟨0, (by decide : ∀ a, 0 < S1.size a) a⟩) := by
      funext a
      apply Fin.ext
      have h1 : (((Rect.unit (s := S8) ![rnk v e'.val] S1.size inb).emb (fun a => ⟨0, (by decide : ∀ a, 0 < S1.size a) a⟩)) a : ℕ) = (![rnk v e'.val] : Fin 1 → ℕ) a + 1 * 0 := rfl
      rw [h1]
      match a with
      | ⟨0, _⟩ => exact hj
    rw [hi]
    exact Rect.overlay_emb (Rect.unit (s := S8) ![rnk v e'.val] S1.size inb) X (fun _ => ew e') _
  · rw [Rect.overlay_of_not_mem]
    · exact h e' j (by have : e'.val ≠ e.val := fun h => hee (Fin.ext h); omega) hp' hj
    · intro hmem
      rw [Rect.mem_set_unit] at hmem
      have h0 : rnk v e.val ≤ j.val ∧ j.val < rnk v e.val + 1 := hmem 0
      exact hee (rnk_inj v hp' hp (by omega))

/-! ### Zeros for the experts without tokens -/

/-- The rows of the experts before `n` without tokens are zero. -/
def ZOut (v : Fin 8 → BitVec 32) (n : ℕ) (X : S8x10x3584.Idx → Elt F .bf16) : Prop :=
  ∀ (e : Fin 8) (i : S8x10x3584.Idx) (x : S1x10x3584.Idx), e.val < n → ¬ pos v e → (∀ a, (i a).val = (![e.val, 0, 0] : Fin 3 → ℕ) a + (x a).val) → X i = k0_pay173 (F := F) x

theorem ZOut.zero {v : Fin 8 → BitVec 32} {X : S8x10x3584.Idx → Elt F .bf16} : ZOut v 0 X := fun _ _ _ h => absurd h (Nat.not_lt_zero _)

theorem ZOut.skip {v : Fin 8 → BitVec 32} {X : S8x10x3584.Idx → Elt F .bf16} (e : Fin 8) (hn : pos v e) (h : ZOut v e.val X) : ZOut v (e.val + 1) X :=
  fun e' i x he' hp hj => h e' i x (by
    by_contra hc
    exact hp ((Fin.ext (by omega) : e' = e) ▸ hn)) hp hj

/-- The expert `e` has no tokens, so zeros are written. -/
theorem wp_zero (c : Dev nD) {D : Defs nD τ sig (Elt F) Λ₀} {α : Type} {m : Memref sig .tc .vmem S8x10x3584 .bf16} {v : Fin 8 → BitVec 32} (e : Fin 8) {X : S8x10x3584.Idx → Elt F .bf16} (h : ZOut v e.val X)
    {off : Fin S8x10x3584.rank → ℕ} (ho : off = ![e.val, 0, 0]) {inb : ∀ a, off a + S1x10x3584.size a ≤ S8x10x3584.size a}
    {w : (Rect.unit (s := S8x10x3584) off S1x10x3584.size inb).shape.Idx → Elt F .bf16} (hw : w = k0_pay173 (F := F))
    {hx : (m.access (Rect.unit off S1x10x3584.size inb)).Stores Finset.univ} {hm} {k : PUnit → Prog (TpuEff nD τ sig (Elt F) Λ₀ .tc) α} {Q : α → sProp 𝕄} :
    (owns (c : Thread nD τ) m fullShare X : sProp 𝕄) ⊢ iprop((∀ X', ⌜ZOut v (e.val + 1) X'⌝ -∗ owns (c : Thread nD τ) m fullShare X' -∗ wp frame (wpE D Variants.none c none) Set.univ (k ⟨⟩) Q)
      -∗ wp frame (wpE D Variants.none c none) Set.univ (.op (.store m (Rect.unit off S1x10x3584.size inb) w Finset.univ hx hm) k) Q) := by
  subst ho hw
  iintro H Hk
  iapply (wp_put c (m := m) (r := Rect.unit (s := S8x10x3584) ![e.val, 0, 0] S1x10x3584.size inb)) $$ H
  iintro H
  iapply Hk $$ [] H
  ipureintro
  intro e' i x he' hp' hj
  by_cases hee : e' = e
  · subst hee
    have hi : i = (Rect.unit (s := S8x10x3584) ![e'.val, 0, 0] S1x10x3584.size inb).emb x := by
      funext a
      apply Fin.ext
      have h1 : (((Rect.unit (s := S8x10x3584) ![e'.val, 0, 0] S1x10x3584.size inb).emb x) a : ℕ) = (![e'.val, 0, 0] : Fin 3 → ℕ) a + 1 * (x a).val := rfl
      rw [h1, hj a]; omega
    rw [hi]
    exact Rect.overlay_emb (Rect.unit (s := S8x10x3584) ![e'.val, 0, 0] S1x10x3584.size inb) X _ x
  · rw [Rect.overlay_of_not_mem]
    · exact h e' i x (by have : e'.val ≠ e.val := fun h => hee (Fin.ext h); omega) hp' hj
    · intro hmem
      rw [Rect.mem_set_unit] at hmem
      have h0 : e.val ≤ (i 0).val ∧ (i 0).val < e.val + 1 := hmem 0
      have h1 : (i 0).val = e'.val + (x 0).val := hj 0
      have h2 : (x 0).val < 1 := (x 0).isLt
      exact hee (Fin.ext (by omega))

/-- Storing zeros in the whole of the spread operand. -/
theorem wp_zero_all (c : Dev nD) {D : Defs nD τ sig (Elt F) Λ₀} {α : Type} {m : Memref sig .tc .vmem S256x2048 .fp8e4m3} {X : S256x2048.Idx → Elt F .fp8e4m3}
    {inb : ∀ a, (![0, 0] : Fin 2 → ℕ) a + S256x2048.size a ≤ S256x2048.size a}
    {hx : (m.access (Rect.unit (s := S256x2048) ![0, 0] S256x2048.size inb)).Stores Finset.univ} {hm} {k : PUnit → Prog (TpuEff nD τ sig (Elt F) Λ₀ .tc) α} {Q : α → sProp 𝕄} :
    (owns (c : Thread nD τ) m fullShare X : sProp 𝕄) ⊢ iprop((∀ X', ⌜XZero X'⌝ -∗ owns (c : Thread nD τ) m fullShare X' -∗ wp frame (wpE D Variants.none c none) Set.univ (k ⟨⟩) Q)
      -∗ wp frame (wpE D Variants.none c none) Set.univ (.op (.store m (Rect.unit (s := S256x2048) ![0, 0] S256x2048.size inb) (k0_pay2 (F := F)) Finset.univ hx hm) k) Q) := by
  iintro H Hk
  iapply (wp_put c (m := m) (r := Rect.unit (s := S256x2048) ![0, 0] S256x2048.size inb)) $$ H
  iintro H
  iapply Hk $$ [] H
  ipureintro
  intro i _
  have hi : i = (Rect.unit (s := S256x2048) ![0, 0] S256x2048.size inb).emb i := by
    funext a
    apply Fin.ext
    have h1 : (((Rect.unit (s := S256x2048) ![0, 0] S256x2048.size inb).emb i) a : ℕ) = (![0, 0] : Fin 2 → ℕ) a + 1 * (i a).val := rfl
    have h2 : (![0, 0] : Fin 2 → ℕ) a = 0 := (by decide : ∀ a, (![0, 0] : Fin 2 → ℕ) a = 0) a
    rw [h1, h2]; omega
  exact (congrArg _ hi).trans (Rect.overlay_emb (Rect.unit (s := S256x2048) ![0, 0] S256x2048.size inb) X _ i)

/-! ### The gathered rows and scales -/

/-- The scales of every token, each repeated over 16 lanes. -/
def svals (X3 : S40x16.Idx → Elt F .f32) : FVec F S40x256 .f32 :=
  k0_pay185 (iota .tc S16x256 32 [0] iota_S16x256_d0_w32) (iota .tc S16x256 32 [1] iota_S16x256_d1_w32) 16#32 k0_pay182 k0_pay183 0#32 X3

/-- The scales of the tokens in expert `e`'s slots. -/
def gathS (X1 : S8x10.Idx → Elt F .i32) (X3 : S40x16.Idx → Elt F .f32) (e : Fin 8) : S1x256.Idx → Elt F .f32 :=
  k0_pay193 (k0_pay192 k0_pay181 (svals X3) (iota .tc S40x256 32 [0] iota_S40x256_d0_w32)
    (k0_pay189 k0_pay181 (k0_pay188 k0_pay181 (X1 (ix80 e 0)) (X1 (ix80 e 1))) (X1 (ix80 e 2)) (X1 (ix80 e 3)) (X1 (ix80 e 4)) (X1 (ix80 e 5)))
    (X1 (ix80 e 6)) (X1 (ix80 e 7)) (X1 (ix80 e 8)) (X1 (ix80 e 9)))

/-- The rows of the tokens in expert `e`'s slots. -/
def gathX (X1 : S8x10.Idx → Elt F .i32) (X2 : S40x2048.Idx → Elt F .fp8e4m3) (e : Fin 8) : S1x16x2048.Idx → Elt F .f32 :=
  k0_pay194 (iota .tc S16x40 32 [1] iota_S16x40_d1_w32) (k0_pay186 X2)
    (k0_pay191 (iota .tc S16x40 32 [0] iota_S16x40_d0_w32)
      (k0_pay190 (iota .tc S16x40 32 [0] iota_S16x40_d0_w32) (k0_pay187 (X1 (ix80 e 0))) (X1 (ix80 e 1)) (X1 (ix80 e 2)) (X1 (ix80 e 3)) (X1 (ix80 e 4)) (X1 (ix80 e 5)))
      (X1 (ix80 e 6)) (X1 (ix80 e 7)) (X1 (ix80 e 8)) (X1 (ix80 e 9)))

/-- The same, numbered by naturals. -/
def nth {α : Type} (g : Fin 8 → α) (n : ℕ) : α := g ⟨n % 8, Nat.mod_lt _ (by decide)⟩

def sOff (n : ℕ) : Fin S8x256.rank → ℕ := ![n, 0]
def xOff (n : ℕ) : Fin S8x16x2048.rank → ℕ := ![n, 0, 0]

theorem sOff_disj (n : ℕ) : ∀ b, b < n → ∃ a, sOff b a + S1x256.size a ≤ sOff n a ∨ sOff n a + S1x256.size a ≤ sOff b a := fun b hb => ⟨0, Or.inl (show b + 1 ≤ n by omega)⟩
theorem xOff_disj (n : ℕ) : ∀ b, b < n → ∃ a, xOff b a + S1x16x2048.size a ≤ xOff n a ∨ xOff n a + S1x16x2048.size a ≤ xOff b a := fun b hb => ⟨0, Or.inl (show b + 1 ≤ n by omega)⟩

def never {s : Shape} (_ : s.Idx) : Prop := False
theorem never_out {s : Shape} {P : s.Idx → Prop} : ∀ i : s.Idx, never i → P i := fun _ h => h.elim

/-- All gathered scales. -/
def SX (X1 : S8x10.Idx → Elt F .i32) (X3 : S40x16.Idx → Elt F .f32) : S8x256.Idx → Elt F .f32 :=
  fun i => gathS X1 X3 (i 0) (fun a => ⟨(![0, (i 1).val] : Fin 2 → ℕ) a, by
    match a with
    | ⟨0, _⟩ => exact Nat.one_pos
    | ⟨1, _⟩ => exact (i 1).isLt⟩)

/-- All gathered rows. -/
def XG (X1 : S8x10.Idx → Elt F .i32) (X2 : S40x2048.Idx → Elt F .fp8e4m3) : S8x16x2048.Idx → Elt F .f32 :=
  fun i => gathX X1 X2 (i 0) (fun a => ⟨(![0, (i 1).val, (i 2).val] : Fin 3 → ℕ) a, by
    match a with
    | ⟨0, _⟩ => exact Nat.one_pos
    | ⟨1, _⟩ => exact (i 1).isLt
    | ⟨2, _⟩ => exact (i 2).isLt⟩)

theorem nth_val {α : Type} (g : Fin 8 → α) (e : Fin 8) : nth g e.val = g e := congrArg g (Fin.ext (Nat.mod_eq_of_lt e.isLt))

theorem SX_of_fill {X1 : S8x10.Idx → Elt F .i32} {X3 : S40x16.Idx → Elt F .f32} {X0 X : S8x256.Idx → Elt F .f32}
    (h : Fill sOff S1x256.size (nth (gathS X1 X3)) never X0 8 X) : X = SX X1 X3 := by
  funext i
  have h8 : (i 0).val < 8 := (i 0).isLt
  have := h.done (i 0).val h8 i (fun a => ⟨(![0, (i 1).val] : Fin 2 → ℕ) a, by
    match a with
    | ⟨0, _⟩ => exact Nat.one_pos
    | ⟨1, _⟩ => exact (i 1).isLt⟩) (fun a => by
    match a with
    | ⟨0, _⟩ => rfl
    | ⟨1, _⟩ => exact (Nat.zero_add _).symm)
  rw [this]
  exact congrFun (nth_val (gathS X1 X3) (i 0)) _

theorem XG_of_fill {X1 : S8x10.Idx → Elt F .i32} {X2 : S40x2048.Idx → Elt F .fp8e4m3} {X0 X : S8x16x2048.Idx → Elt F .f32}
    (h : Fill xOff S1x16x2048.size (nth (gathX X1 X2)) never X0 8 X) : X = XG X1 X2 := by
  funext i
  have h8 : (i 0).val < 8 := (i 0).isLt
  have := h.done (i 0).val h8 i (fun a => ⟨(![0, (i 1).val, (i 2).val] : Fin 3 → ℕ) a, by
    match a with
    | ⟨0, _⟩ => exact Nat.one_pos
    | ⟨1, _⟩ => exact (i 1).isLt
    | ⟨2, _⟩ => exact (i 2).isLt⟩) (fun a => by
    match a with
    | ⟨0, _⟩ => rfl
    | ⟨1, _⟩ => exact (Nat.zero_add _).symm
    | ⟨2, _⟩ => exact (Nat.zero_add _).symm)
  rw [this]
  exact congrFun (nth_val (gathX X1 X2) (i 0)) _

/-! ### The whole result -/

variable (c : Dev nD)

/-- The result after the trips before `n`. -/
structure Done (fw : Buf (Elt F) (wM.view.loc (c : Thread nD τ))) (v : Fin 8 → BitVec 32) (X0 : S8.Idx → Elt F .i32) (X4 : S8x28x16.Idx → Elt F .f32) (Xg : S8x16x2048.Idx → Elt F .f32)
    (Sx : S8x256.Idx → Elt F .f32) (n : ℕ) (X : S8x10x3584.Idx → Elt F .bf16) : Prop where
  zero : ZOut v 8 X
  some : ∀ e : Fin 8, pos v e → rnk v e.val < n → ∀ b, b < 28 → ∀ (i : S8x10x3584.Idx) (x : S1x10x128.Idx), (∀ a, (i a).val = outO e b a + (x a).val) → X i = outG c fw X0 X4 Xg Sx e b x

theorem Done.step {fw : Buf (Elt F) (wM.view.loc (c : Thread nD τ))} {v : Fin 8 → BitVec 32} {X0 : S8.Idx → Elt F .i32} {X4 : S8x28x16.Idx → Elt F .f32} {Xg : S8x16x2048.Idx → Elt F .f32}
    {Sx : S8x256.Idx → Elt F .f32} {n : ℕ} {X X' : S8x10x3584.Idx → Elt F .bf16} (hn : n < cnt v) (h : Done c fw v X0 X4 Xg Sx n X)
    (hf : Fill (outO (expt v n)) S1x10x128.size (outG c fw X0 X4 Xg Sx (expt v n)) (outK (expt v n)) X 28 X') : Done c fw v X0 X4 Xg Sx (n + 1) X' := by
  refine ⟨fun e i x he hp hi => ?_, fun e hp hr b hb i x hi => ?_⟩
  · have hne : outK (expt v n) i := fun h => hp ((Fin.ext (by
      have h1 : (i 0).val = e.val + (x 0).val := hi 0
      have h2 : (x 0).val < 1 := (x 0).isLt
      omega) : expt v n = e) ▸ expt_pos v hn)
    rw [hf.kept i hne]
    exact h.zero e i x he hp hi
  · by_cases hee : e = expt v n
    · subst hee
      exact hf.done b hb i x hi
    · have hne : outK (expt v n) i := fun h => hee (Fin.ext (by
        have h1 : (i 0).val = e.val + (x 0).val := hi 0
        have h2 : (x 0).val < 1 := (x 0).isLt
        omega))
      rw [hf.kept i hne]
      refine h.some e hp ?_ b hb i x hi
      by_contra hc
      have : rnk v e.val = n := by omega
      exact hee (by rw [← this]; exact (expt_rnk v hp).symm)

/-- The kernel's result. -/
def OUT (fw : Buf (Elt F) (wM.view.loc (c : Thread nD τ))) (X0 : S8.Idx → Elt F .i32) (X1 : S8x10.Idx → Elt F .i32) (X2 : S40x2048.Idx → Elt F .fp8e4m3) (X3 : S40x16.Idx → Elt F .f32)
    (X4 : S8x28x16.Idx → Elt F .f32) : S8x10x3584.Idx → Elt F .bf16 :=
  fun i => if pos (fun e => X0 (ix8 e)) (i 0) then outG c fw X0 X4 (XG X1 X2) (SX X1 X3) (i 0) ((i 2).val / 128) (fun a => ⟨(![0, (i 1).val, (i 2).val % 128] : Fin 3 → ℕ) a, by
      match a with
      | ⟨0, _⟩ => exact Nat.one_pos
      | ⟨1, _⟩ => exact (i 1).isLt
      | ⟨2, _⟩ => exact Nat.mod_lt _ (by decide)⟩)
    else k0_pay173 (F := F) (fun a => ⟨(![0, (i 1).val, (i 2).val] : Fin 3 → ℕ) a, by
      match a with
      | ⟨0, _⟩ => exact Nat.one_pos
      | ⟨1, _⟩ => exact (i 1).isLt
      | ⟨2, _⟩ => exact (i 2).isLt⟩)

theorem OUT_of_done {fw : Buf (Elt F) (wM.view.loc (c : Thread nD τ))} {X0 : S8.Idx → Elt F .i32} {X1 : S8x10.Idx → Elt F .i32} {X2 : S40x2048.Idx → Elt F .fp8e4m3} {X3 : S40x16.Idx → Elt F .f32}
    {X4 : S8x28x16.Idx → Elt F .f32} {n : ℕ} (hn : cnt (fun e => X0 (ix8 e)) ≤ n) {X : S8x10x3584.Idx → Elt F .bf16}
    (h : Done c fw (fun e => X0 (ix8 e)) X0 X4 (XG X1 X2) (SX X1 X3) n X) : X = OUT c fw X0 X1 X2 X3 X4 := by
  funext i
  unfold OUT
  by_cases hp : pos (fun e => X0 (ix8 e)) (i 0)
  · rw [if_pos hp]
    have h2 : (i 2).val < 3584 := (i 2).isLt
    refine h.some (i 0) hp (lt_of_lt_of_le (rnk_lt_cnt _ hp) hn) ((i 2).val / 128) (by omega) i _ fun a => ?_
    match a with
    | ⟨0, _⟩ => rfl
    | ⟨1, _⟩ => exact (Nat.zero_add _).symm
    | ⟨2, _⟩ =>
      show (i 2).val = 128 * ((i 2).val / 128) + (i 2).val % 128
      omega
  · rw [if_neg hp]
    refine h.zero (i 0) i _ (i 0).isLt hp fun a => ?_
    match a with
    | ⟨0, _⟩ => rfl
    | ⟨1, _⟩ => exact (Nat.zero_add _).symm
    | ⟨2, _⟩ => exact (Nat.zero_add _).symm

/-! ### The ring with nothing under way -/

/-- The seven places of one slot, free. -/
def FreeRow (fw : Buf (Elt F) (wM.view.loc (c : Thread nD τ))) (s : Fin 4) : sProp 𝕄 :=
  iprop(CFree c fw s 0 ∗ CFree c fw s 1 ∗ CFree c fw s 2 ∗ CFree c fw s 3 ∗ CFree c fw s 4 ∗ CFree c fw s 5 ∗ CFree c fw s 6)

theorem Row_free {fw : Buf (Elt F) (wM.view.loc (c : Thread nD τ))} {v : Fin 8 → BitVec 32} {n : ℕ} (h : ¬ n < cnt v) : Row c fw v n = FreeRow c fw (slot n) := by
  unfold Row FreeRow
  simp only [CE_neg h]

/-- The whole ring, free. -/
def Ring (fw : Buf (Elt F) (wM.view.loc (c : Thread nD τ))) : sProp 𝕄 :=
  iprop(FreeRow c fw 0 ∗ FreeRow c fw 1 ∗ FreeRow c fw 2 ∗ FreeRow c fw 3)

theorem Ring_rows (fw : Buf (Elt F) (wM.view.loc (c : Thread nD τ))) : Ring c fw ⊢ iprop((CFree c fw 0 0 ∗ CFree c fw 0 1 ∗ CFree c fw 0 2 ∗ CFree c fw 0 3 ∗ CFree c fw 0 4 ∗ CFree c fw 0 5 ∗ CFree c fw 0 6) ∗ (CFree c fw 1 0 ∗ CFree c fw 1 1 ∗ CFree c fw 1 2 ∗ CFree c fw 1 3 ∗ CFree c fw 1 4 ∗ CFree c fw 1 5 ∗ CFree c fw 1 6) ∗ (CFree c fw 2 0 ∗ CFree c fw 2 1 ∗ CFree c fw 2 2 ∗ CFree c fw 2 3 ∗ CFree c fw 2 4 ∗ CFree c fw 2 5 ∗ CFree c fw 2 6) ∗ (CFree c fw 3 0 ∗ CFree c fw 3 1 ∗ CFree c fw 3 2 ∗ CFree c fw 3 3 ∗ CFree c fw 3 4 ∗ CFree c fw 3 5 ∗ CFree c fw 3 6)) := by
  unfold Ring FreeRow
  exact Idealize.SL.BI.BIBase.Entails.rfl

theorem Ring_of_rows {fw : Buf (Elt F) (wM.view.loc (c : Thread nD τ))} {v : Fin 8 → BitVec 32} {n : ℕ} (h : cnt v ≤ n) :
    iprop(Row c fw v n ∗ Row c fw v (n + 1) ∗ Row c fw v (n + 2) ∗ Row c fw v (n + 3)) ⊢ Ring c fw := by
  rw [Row_free c (v := v) (n := n) (by omega), Row_free c (v := v) (n := n + 1) (by omega), Row_free c (v := v) (n := n + 2) (by omega), Row_free c (v := v) (n := n + 3) (by omega)]
  unfold Ring
  have h4 : n % 4 = 0 ∨ n % 4 = 1 ∨ n % 4 = 2 ∨ n % 4 = 3 := by omega
  have hs : ∀ (m : ℕ) (s : Fin 4), m % 4 = s.val → slot m = s := fun m s h => Fin.ext h
  iintro ⟨A, B, C, E⟩
  rcases h4 with h | h | h | h
  · rw [hs n 0 h, hs (n + 1) 1 (show (n + 1) % 4 = 1 by omega), hs (n + 2) 2 (show (n + 2) % 4 = 2 by omega), hs (n + 3) 3 (show (n + 3) % 4 = 3 by omega)]
    isplitl [A]; · iexact A
    isplitl [B]; · iexact B
    isplitl [C]; · iexact C
    iexact E
  · rw [hs n 1 h, hs (n + 1) 2 (show (n + 1) % 4 = 2 by omega), hs (n + 2) 3 (show (n + 2) % 4 = 3 by omega), hs (n + 3) 0 (show (n + 3) % 4 = 0 by omega)]
    isplitl [E]; · iexact E
    isplitl [A]; · iexact A
    isplitl [B]; · iexact B
    iexact C
  · rw [hs n 2 h, hs (n + 1) 3 (show (n + 1) % 4 = 3 by omega), hs (n + 2) 0 (show (n + 2) % 4 = 0 by omega), hs (n + 3) 1 (show (n + 3) % 4 = 1 by omega)]
    isplitl [C]; · iexact C
    isplitl [E]; · iexact E
    isplitl [A]; · iexact A
    iexact B
  · rw [hs n 3 h, hs (n + 1) 0 (show (n + 1) % 4 = 0 by omega), hs (n + 2) 1 (show (n + 2) % 4 = 1 by omega), hs (n + 3) 2 (show (n + 3) % 4 = 2 by omega)]
    isplitl [B]; · iexact B
    isplitl [C]; · iexact C
    isplitl [E]; · iexact E
    iexact A

end Cert.KernelIdeal.Hand

end
-- ==== Proof.Body.lean ====
/-
  The whole body of the kernel: from the arguments and a free ring to the result, the ring free again.
-/
module

public import proofs.«01_k».proof.Proof.Gather

@[expose] public section

set_option maxRecDepth 65536
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- What the loop keeps before the trip `n`. -/
def Inv (c : Dev nD) (fw : Buf (Elt F) (wM.view.loc (c : Thread nD τ))) (v : Fin 8 → BitVec 32) (arg0 : Memref sig .tc .smem S8 .i32) (arg4 : Memref sig .tc .vmem S8x28x16 .f32)
    (arg6 : Memref sig .tc .vmem S8x10x3584 .bf16) (q0 q4 : PosShare TreeShare) (X0 : S8.Idx → Elt F .i32) (X4 : S8x28x16.Idx → Elt F .f32) (Xg : S8x16x2048.Idx → Elt F .f32)
    (Sx : S8x256.Idx → Elt F .f32) (Xa : S8.Idx → Elt F .i32) (n : ℕ) : sProp 𝕄 :=
  iprop(∃ Xo Xb W, ⌜Done c fw v X0 X4 Xg Sx n Xo⌝ ∗ ⌜XZero Xb⌝ ∗ owns (c : Thread nD τ) arg0 q0 X0 ∗ owns (c : Thread nD τ) arg4 q4 X4 ∗ owns (c : Thread nD τ) arg6 fullShare Xo ∗ owns (c : Thread nD τ) xgM fullShare Xg
    ∗ owns (c : Thread nD τ) xbM fullShare Xb ∗ owns (c : Thread nD τ) sxM fullShare Sx ∗ owns (c : Thread nD τ) acM fullShare Xa
    ∗ (Row c fw v n ∗ Row c fw v (n + 1) ∗ Row c fw v (n + 2) ∗ Row c fw v (n + 3)) ∗ owes (c : Thread nD τ) 0 W)

set_option pp.maxSteps 60 in
set_option maxHeartbeats 40000000 in
/-- The body, from the arguments and the free ring to the result `OUT`. -/
theorem body (c : Dev nD) {D : Defs nD τ sig (Elt F) Λ₀} (fw : Buf (Elt F) (wM.view.loc (c : Thread nD τ))) (v : Fin 8 → BitVec 32)
    (arg0 : Memref sig .tc .smem S8 .i32) (harg0 : arg0.IsWhole) (arg1 : Memref sig .tc .smem S8x10 .i32) (harg1 : arg1.IsWhole)
    (arg2 : Memref sig .tc .vmem S40x2048 .fp8e4m3) (harg2 : arg2.IsWhole) (arg3 : Memref sig .tc .vmem S40x16 .f32) (harg3 : arg3.IsWhole)
    (arg4 : Memref sig .tc .vmem S8x28x16 .f32) (harg4 : arg4.IsWhole) (arg6 : Memref sig .tc .vmem S8x10x3584 .bf16) (harg6 : arg6.IsWhole) {h5 h7 h8 h9 h10 h11}
    {q0 q1 q2 q3 q4 : PosShare TreeShare} {X0 : S8.Idx → Elt F .i32} {X1 : S8x10.Idx → Elt F .i32} {X2 : S40x2048.Idx → Elt F .fp8e4m3} {X3 : S40x16.Idx → Elt F .f32}
    {X4 : S8x28x16.Idx → Elt F .f32} {Xo : S8x10x3584.Idx → Elt F .bf16} {Xg : S8x16x2048.Idx → Elt F .f32}
    {Xb : S256x2048.Idx → Elt F .fp8e4m3} {Sx : S8x256.Idx → Elt F .f32} {Xa : S8.Idx → Elt F .i32} {W : Waits sig Unit} (hv : ∀ e, X0 (ix8 e) = v e) :
    iprop(owns (c : Thread nD τ) arg0 q0 X0 ∗ owns (c : Thread nD τ) arg1 q1 X1 ∗ owns (c : Thread nD τ) arg2 q2 X2 ∗ owns (c : Thread nD τ) arg3 q3 X3 ∗ owns (c : Thread nD τ) arg4 q4 X4 ∗ owns (c : Thread nD τ) arg6 fullShare Xo ∗ owns (c : Thread nD τ) xgM fullShare Xg
      ∗ owns (c : Thread nD τ) xbM fullShare Xb ∗ owns (c : Thread nD τ) sxM fullShare Sx ∗ owns (c : Thread nD τ) acM fullShare Xa ∗ Ring c fw ∗ owes (c : Thread nD τ) 0 W)
    ⊢ wp frame (wpE D Variants.none c none) Set.univ
      (cc0_grouped_expert_matmul arg0 harg0 arg1 harg1 arg2 harg2 arg3 harg3 arg4 harg4 wM h5 arg6 harg6 wbM h7 xgM h8 xbM h9 sxM h10 acM h11 cc0_scratch5)
      (fun _ => iprop(∃ Xg' Xb' Sx' Xa' W', owns (c : Thread nD τ) arg0 q0 X0 ∗ owns (c : Thread nD τ) arg1 q1 X1 ∗ owns (c : Thread nD τ) arg2 q2 X2 ∗ owns (c : Thread nD τ) arg3 q3 X3 ∗ owns (c : Thread nD τ) arg4 q4 X4
        ∗ owns (c : Thread nD τ) arg6 fullShare (OUT c fw X0 X1 X2 X3 X4) ∗ owns (c : Thread nD τ) xgM fullShare Xg' ∗ owns (c : Thread nD τ) xbM fullShare Xb' ∗ owns (c : Thread nD τ) sxM fullShare Sx' ∗ owns (c : Thread nD τ) acM fullShare Xa'
        ∗ Ring c fw ∗ owes (c : Thread nD τ) 0 W')) := by
  iintro ⟨H0, H1, H2, H3, H4, H6, Hg, Hb, Hs, Ha, HR, HO⟩
  ihave HR := (Ring_rows c fw) $$ HR
  icases HR with ⟨R0, R1, R2, R3⟩
  rw [cc0_grouped_expert_matmul_eq_skeleton]
  unfold cc0_grouped_expert_matmul_skel
  rw [k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton]
  unfold k0_part57_skel k0_part58_skel k0_part59_skel k0_part60_skel k0_part61_skel k0_part62_skel k0_part63_skel k0_part64_skel k0_part65_skel k0_part66_skel k0_part67_skel k0_part68_skel k0_part69_skel k0_part70_skel k0_part71_skel k0_part72_skel k0_part73_skel k0_part74_skel k0_part75_skel k0_part76_skel k0_part77_skel k0_part78_skel k0_part79_skel k0_part80_skel k0_part81_skel
  iapply (wp_word c arg0 0 rfl (hv 0)) $$ H0; iintro H0
  iapply (wp_gate iprop(owns (c : Thread nD τ) acM fullShare Xa) iprop(∃ X, ⌜Act (F := F) v (0 + 1) X⌝ ∗ owns (c : Thread nD τ) acM fullShare X) ?_ ?_) $$ Ha
  · intro hc
    iintro Ha Hk
    iapply (wp_word c acM ⟨rnk v 0, lt_of_le_of_lt (rnk_lt_self v 0) (Fin.isLt 0)⟩ ((congrArg (fun n => ![n]) (rnk_zero v)).symm) rfl) $$ Ha; iintro Ha
    iapply (wp_act c (v := v) 0 ((condE_iff v 0).1 hc) Act.zero ((congrArg (fun n => ![n]) (rnk_zero v)).symm) rfl) $$ Ha; iintro %X %hX Ha
    iapply Hk
    iexists X
    isplitr; · ipureintro; exact hX
    iexact Ha
  · intro hc
    iintro Ha
    iexists Xa
    isplitr; · ipureintro; exact Act.skip 0 (fun h => hc ((condE_iff v 0).2 h)) Act.zero
    iexact Ha
  iintro ⟨%A1, %hA1, Ha⟩
  iapply (wp_gate iprop(owns (c : Thread nD τ) arg6 fullShare Xo) iprop(∃ X, ⌜ZOut v (0 + 1) X⌝ ∗ owns (c : Thread nD τ) arg6 fullShare X) ?_ ?_) $$ H6
  · intro hc
    iintro H6 Hk
    iapply (wp_get c) $$ H6; iintro H6
    iapply (wp_zero c (v := v) 0 ZOut.zero rfl rfl) $$ H6; iintro %X %hX H6
    iapply Hk
    iexists X
    isplitr; · ipureintro; exact hX
    iexact H6
  · intro hc
    iintro H6
    iexists Xo
    isplitr; · ipureintro; exact ZOut.skip 0 (not_not.1 fun h => hc ((condZ_iff v 0).2 h)) ZOut.zero
    iexact H6
  iintro ⟨%Z1, %hZ1, H6⟩
  iapply (wp_word c arg0 1 rfl (hv 1)) $$ H0; iintro H0
  iapply (wp_assume Variants.none (c : Thread nD τ) none Set.univ (chk1_ok v))
  iapply (wp_guard iprop(owns (c : Thread nD τ) acM fullShare A1) iprop(∃ X, ⌜Act (F := F) v (1 + 1) X⌝ ∗ owns (c : Thread nD τ) acM fullShare X) ?_ ?_) $$ Ha
  · intro hc
    iintro Ha Hk
    iapply (wp_word c acM ⟨rnk v 1, lt_of_le_of_lt (rnk_lt_self v 1) (Fin.isLt 1)⟩ (off1_eq v) rfl) $$ Ha; iintro Ha
    iapply (wp_act c (v := v) 1 ((condE_iff v 1).1 hc) hA1 (off1_eq v) rfl) $$ Ha; iintro %X %hX Ha
    iapply Hk
    iexists X
    isplitr; · ipureintro; exact hX
    iexact Ha
  · intro hc
    iintro Ha
    iexists A1
    isplitr; · ipureintro; exact Act.skip 1 (fun h => hc ((condE_iff v 1).2 h)) hA1
    iexact Ha
  iintro ⟨%A2, %hA2, Ha⟩
  iapply (wp_gate iprop(owns (c : Thread nD τ) arg6 fullShare Z1) iprop(∃ X, ⌜ZOut v (1 + 1) X⌝ ∗ owns (c : Thread nD τ) arg6 fullShare X) ?_ ?_) $$ H6
  · intro hc
    iintro H6 Hk
    iapply (wp_get c) $$ H6; iintro H6
    iapply (wp_zero c (v := v) 1 hZ1 rfl rfl) $$ H6; iintro %X %hX H6
    iapply Hk
    iexists X
    isplitr; · ipureintro; exact hX
    iexact H6
  · intro hc
    iintro H6
    iexists Z1
    isplitr; · ipureintro; exact ZOut.skip 1 (not_not.1 fun h => hc ((condZ_iff v 1).2 h)) hZ1
    iexact H6
  iintro ⟨%Z2, %hZ2, H6⟩
  iapply (wp_word c arg0 2 rfl (hv 2)) $$ H0; iintro H0
  iapply (wp_assume Variants.none (c : Thread nD τ) none Set.univ (chk2_ok v))
  iapply (wp_guard iprop(owns (c : Thread nD τ) acM fullShare A2) iprop(∃ X, ⌜Act (F := F) v (2 + 1) X⌝ ∗ owns (c : Thread nD τ) acM fullShare X) ?_ ?_) $$ Ha
  · intro hc
    iintro Ha Hk
    iapply (wp_word c acM ⟨rnk v 2, lt_of_le_of_lt (rnk_lt_self v 2) (Fin.isLt 2)⟩ (off2_eq v) rfl) $$ Ha; iintro Ha
    iapply (wp_act c (v := v) 2 ((condE_iff v 2).1 hc) hA2 (off2_eq v) rfl) $$ Ha; iintro %X %hX Ha
    iapply Hk
    iexists X
    isplitr; · ipureintro; exact hX
    iexact Ha
  · intro hc
    iintro Ha
    iexists A2
    isplitr; · ipureintro; exact Act.skip 2 (fun h => hc ((condE_iff v 2).2 h)) hA2
    iexact Ha
  iintro ⟨%A3, %hA3, Ha⟩
  iapply (wp_gate iprop(owns (c : Thread nD τ) arg6 fullShare Z2) iprop(∃ X, ⌜ZOut v (2 + 1) X⌝ ∗ owns (c : Thread nD τ) arg6 fullShare X) ?_ ?_) $$ H6
  · intro hc
    iintro H6 Hk
    iapply (wp_get c) $$ H6; iintro H6
    iapply (wp_zero c (v := v) 2 hZ2 rfl rfl) $$ H6; iintro %X %hX H6
    iapply Hk
    iexists X
    isplitr; · ipureintro; exact hX
    iexact H6
  · intro hc
    iintro H6
    iexists Z2
    isplitr; · ipureintro; exact ZOut.skip 2 (not_not.1 fun h => hc ((condZ_iff v 2).2 h)) hZ2
    iexact H6
  iintro ⟨%Z3, %hZ3, H6⟩
  iapply (wp_word c arg0 3 rfl (hv 3)) $$ H0; iintro H0
  iapply (wp_assume Variants.none (c : Thread nD τ) none Set.univ (chk3_ok v))
  iapply (wp_guard iprop(owns (c : Thread nD τ) acM fullShare A3) iprop(∃ X, ⌜Act (F := F) v (3 + 1) X⌝ ∗ owns (c : Thread nD τ) acM fullShare X) ?_ ?_) $$ Ha
  · intro hc
    iintro Ha Hk
    iapply (wp_word c acM ⟨rnk v 3, lt_of_le_of_lt (rnk_lt_self v 3) (Fin.isLt 3)⟩ (off3_eq v) rfl) $$ Ha; iintro Ha
    iapply (wp_act c (v := v) 3 ((condE_iff v 3).1 hc) hA3 (off3_eq v) rfl) $$ Ha; iintro %X %hX Ha
    iapply Hk
    iexists X
    isplitr; · ipureintro; exact hX
    iexact Ha
  · intro hc
    iintro Ha
    iexists A3
    isplitr; · ipureintro; exact Act.skip 3 (fun h => hc ((condE_iff v 3).2 h)) hA3
    iexact Ha
  iintro ⟨%A4, %hA4, Ha⟩
  iapply (wp_gate iprop(owns (c : Thread nD τ) arg6 fullShare Z3) iprop(∃ X, ⌜ZOut v (3 + 1) X⌝ ∗ owns (c : Thread nD τ) arg6 fullShare X) ?_ ?_) $$ H6
  · intro hc
    iintro H6 Hk
    iapply (wp_get c) $$ H6; iintro H6
    iapply (wp_zero c (v := v) 3 hZ3 rfl rfl) $$ H6; iintro %X %hX H6
    iapply Hk
    iexists X
    isplitr; · ipureintro; exact hX
    iexact H6
  · intro hc
    iintro H6
    iexists Z3
    isplitr; · ipureintro; exact ZOut.skip 3 (not_not.1 fun h => hc ((condZ_iff v 3).2 h)) hZ3
    iexact H6
  iintro ⟨%Z4, %hZ4, H6⟩
  iapply (wp_word c arg0 4 rfl (hv 4)) $$ H0; iintro H0
  iapply (wp_assume Variants.none (c : Thread nD τ) none Set.univ (chk4_ok v))
  iapply (wp_guard iprop(owns (c : Thread nD τ) acM fullShare A4) iprop(∃ X, ⌜Act (F := F) v (4 + 1) X⌝ ∗ owns (c : Thread nD τ) acM fullShare X) ?_ ?_) $$ Ha
  · intro hc
    iintro Ha Hk
    iapply (wp_word c acM ⟨rnk v 4, lt_of_le_of_lt (rnk_lt_self v 4) (Fin.isLt 4)⟩ (off4_eq v) rfl) $$ Ha; iintro Ha
    iapply (wp_act c (v := v) 4 ((condE_iff v 4).1 hc) hA4 (off4_eq v) rfl) $$ Ha; iintro %X %hX Ha
    iapply Hk
    iexists X
    isplitr; · ipureintro; exact hX
    iexact Ha
  · intro hc
    iintro Ha
    iexists A4
    isplitr; · ipureintro; exact Act.skip 4 (fun h => hc ((condE_iff v 4).2 h)) hA4
    iexact Ha
  iintro ⟨%A5, %hA5, Ha⟩
  iapply (wp_gate iprop(owns (c : Thread nD τ) arg6 fullShare Z4) iprop(∃ X, ⌜ZOut v (4 + 1) X⌝ ∗ owns (c : Thread nD τ) arg6 fullShare X) ?_ ?_) $$ H6
  · intro hc
    iintro H6 Hk
    iapply (wp_get c) $$ H6; iintro H6
    iapply (wp_zero c (v := v) 4 hZ4 rfl rfl) $$ H6; iintro %X %hX H6
    iapply Hk
    iexists X
    isplitr; · ipureintro; exact hX
    iexact H6
  · intro hc
    iintro H6
    iexists Z4
    isplitr; · ipureintro; exact ZOut.skip 4 (not_not.1 fun h => hc ((condZ_iff v 4).2 h)) hZ4
    iexact H6
  iintro ⟨%Z5, %hZ5, H6⟩
  iapply (wp_word c arg0 5 rfl (hv 5)) $$ H0; iintro H0
  iapply (wp_assume Variants.none (c : Thread nD τ) none Set.univ (chk5_ok v))
  iapply (wp_guard iprop(owns (c : Thread nD τ) acM fullShare A5) iprop(∃ X, ⌜Act (F := F) v (5 + 1) X⌝ ∗ owns (c : Thread nD τ) acM fullShare X) ?_ ?_) $$ Ha
  · intro hc
    iintro Ha Hk
    iapply (wp_word c acM ⟨rnk v 5, lt_of_le_of_lt (rnk_lt_self v 5) (Fin.isLt 5)⟩ (off5_eq v) rfl) $$ Ha; iintro Ha
    iapply (wp_act c (v := v) 5 ((condE_iff v 5).1 hc) hA5 (off5_eq v) rfl) $$ Ha; iintro %X %hX Ha
    iapply Hk
    iexists X
    isplitr; · ipureintro; exact hX
    iexact Ha
  · intro hc
    iintro Ha
    iexists A5
    isplitr; · ipureintro; exact Act.skip 5 (fun h => hc ((condE_iff v 5).2 h)) hA5
    iexact Ha
  iintro ⟨%A6, %hA6, Ha⟩
  iapply (wp_gate iprop(owns (c : Thread nD τ) arg6 fullShare Z5) iprop(∃ X, ⌜ZOut v (5 + 1) X⌝ ∗ owns (c : Thread nD τ) arg6 fullShare X) ?_ ?_) $$ H6
  · intro hc
    iintro H6 Hk
    iapply (wp_get c) $$ H6; iintro H6
    iapply (wp_zero c (v := v) 5 hZ5 rfl rfl) $$ H6; iintro %X %hX H6
    iapply Hk
    iexists X
    isplitr; · ipureintro; exact hX
    iexact H6
  · intro hc
    iintro H6
    iexists Z5
    isplitr; · ipureintro; exact ZOut.skip 5 (not_not.1 fun h => hc ((condZ_iff v 5).2 h)) hZ5
    iexact H6
  iintro ⟨%Z6, %hZ6, H6⟩
  iapply (wp_word c arg0 6 rfl (hv 6)) $$ H0; iintro H0
  iapply (wp_assume Variants.none (c : Thread nD τ) none Set.univ (chk6_ok v))
  iapply (wp_guard iprop(owns (c : Thread nD τ) acM fullShare A6) iprop(∃ X, ⌜Act (F := F) v (6 + 1) X⌝ ∗ owns (c : Thread nD τ) acM fullShare X) ?_ ?_) $$ Ha
  · intro hc
    iintro Ha Hk
    iapply (wp_word c acM ⟨rnk v 6, lt_of_le_of_lt (rnk_lt_self v 6) (Fin.isLt 6)⟩ (off6_eq v) rfl) $$ Ha; iintro Ha
    iapply (wp_act c (v := v) 6 ((condE_iff v 6).1 hc) hA6 (off6_eq v) rfl) $$ Ha; iintro %X %hX Ha
    iapply Hk
    iexists X
    isplitr; · ipureintro; exact hX
    iexact Ha
  · intro hc
    iintro Ha
    iexists A6
    isplitr; · ipureintro; exact Act.skip 6 (fun h => hc ((condE_iff v 6).2 h)) hA6
    iexact Ha
  iintro ⟨%A7, %hA7, Ha⟩
  iapply (wp_gate iprop(owns (c : Thread nD τ) arg6 fullShare Z6) iprop(∃ X, ⌜ZOut v (6 + 1) X⌝ ∗ owns (c : Thread nD τ) arg6 fullShare X) ?_ ?_) $$ H6
  · intro hc
    iintro H6 Hk
    iapply (wp_get c) $$ H6; iintro H6
    iapply (wp_zero c (v := v) 6 hZ6 rfl rfl) $$ H6; iintro %X %hX H6
    iapply Hk
    iexists X
    isplitr; · ipureintro; exact hX
    iexact H6
  · intro hc
    iintro H6
    iexists Z6
    isplitr; · ipureintro; exact ZOut.skip 6 (not_not.1 fun h => hc ((condZ_iff v 6).2 h)) hZ6
    iexact H6
  iintro ⟨%Z7, %hZ7, H6⟩
  iapply (wp_word c arg0 7 rfl (hv 7)) $$ H0; iintro H0
  iapply (wp_assume Variants.none (c : Thread nD τ) none Set.univ (chk7_ok v))
  iapply (wp_guard iprop(owns (c : Thread nD τ) acM fullShare A7) iprop(∃ X, ⌜Act (F := F) v (7 + 1) X⌝ ∗ owns (c : Thread nD τ) acM fullShare X) ?_ ?_) $$ Ha
  · intro hc
    iintro Ha Hk
    iapply (wp_word c acM ⟨rnk v 7, lt_of_le_of_lt (rnk_lt_self v 7) (Fin.isLt 7)⟩ (off7_eq v) rfl) $$ Ha; iintro Ha
    iapply (wp_act c (v := v) 7 ((condE_iff v 7).1 hc) hA7 (off7_eq v) rfl) $$ Ha; iintro %X %hX Ha
    iapply Hk
    iexists X
    isplitr; · ipureintro; exact hX
    iexact Ha
  · intro hc
    iintro Ha
    iexists A7
    isplitr; · ipureintro; exact Act.skip 7 (fun h => hc ((condE_iff v 7).2 h)) hA7
    iexact Ha
  iintro ⟨%A8, %hA8, Ha⟩
  iapply (wp_gate iprop(owns (c : Thread nD τ) arg6 fullShare Z7) iprop(∃ X, ⌜ZOut v (7 + 1) X⌝ ∗ owns (c : Thread nD τ) arg6 fullShare X) ?_ ?_) $$ H6
  · intro hc
    iintro H6 Hk
    iapply (wp_get c) $$ H6; iintro H6
    iapply (wp_zero c (v := v) 7 hZ7 rfl rfl) $$ H6; iintro %X %hX H6
    iapply Hk
    iexists X
    isplitr; · ipureintro; exact hX
    iexact H6
  · intro hc
    iintro H6
    iexists Z7
    isplitr; · ipureintro; exact ZOut.skip 7 (not_not.1 fun h => hc ((condZ_iff v 7).2 h)) hZ7
    iexact H6
  iintro ⟨%Z8, %hZ8, H6⟩
  iapply (wp_guard iprop((CFree c fw 0 0 ∗ CFree c fw 0 1 ∗ CFree c fw 0 2 ∗ CFree c fw 0 3 ∗ CFree c fw 0 4 ∗ CFree c fw 0 5 ∗ CFree c fw 0 6) ∗ owns (c : Thread nD τ) acM fullShare A8) iprop(Row c fw v 0 ∗ owns (c : Thread nD τ) acM fullShare A8) ?_ ?_) $$ [R0 Ha]
  · intro hc
    have hd := (condP_iff v 0).1 hc
    have hx := hA8.get 0 hd
    rw [k0_part1_eq_skeleton, k0_part2_eq_skeleton]
    unfold k0_part1_skel k0_part2_skel Row
    simp only [CE_pos (show 0 < cnt v from hd)]
    iintro ⟨⟨C0, C1, C2, C3, C4, C5, C6⟩, Ha⟩ Hk
    iapply (wp_word c acM 0 rfl hx) $$ Ha; iintro Ha
    iapply (wp_assume Variants.none (c : Thread nD τ) none Set.univ (src_ok (expt v 0) 0))
    iapply (wp_start c fw 0 0 (expt v 0) (src_eq (expt v 0) 0) rfl rfl) $$ C0; iintro C0
    iapply (wp_word c acM 0 rfl hx) $$ Ha; iintro Ha
    iapply (wp_assume Variants.none (c : Thread nD τ) none Set.univ (src_ok (expt v 0) 1))
    iapply (wp_start c fw 0 1 (expt v 0) (src_eq (expt v 0) 1) rfl rfl) $$ C1; iintro C1
    iapply (wp_word c acM 0 rfl hx) $$ Ha; iintro Ha
    iapply (wp_assume Variants.none (c : Thread nD τ) none Set.univ (src_ok (expt v 0) 2))
    iapply (wp_start c fw 0 2 (expt v 0) (src_eq (expt v 0) 2) rfl rfl) $$ C2; iintro C2
    iapply (wp_word c acM 0 rfl hx) $$ Ha; iintro Ha
    iapply (wp_assume Variants.none (c : Thread nD τ) none Set.univ (src_ok (expt v 0) 3))
    iapply (wp_start c fw 0 3 (expt v 0) (src_eq (expt v 0) 3) rfl rfl) $$ C3; iintro C3
    iapply (wp_word c acM 0 rfl hx) $$ Ha; iintro Ha
    iapply (wp_assume Variants.none (c : Thread nD τ) none Set.univ (src_ok (expt v 0) 4))
    iapply (wp_start c fw 0 4 (expt v 0) (src_eq (expt v 0) 4) rfl rfl) $$ C4; iintro C4
    iapply (wp_word c acM 0 rfl hx) $$ Ha; iintro Ha
    iapply (wp_assume Variants.none (c : Thread nD τ) none Set.univ (src_ok (expt v 0) 5))
    iapply (wp_start c fw 0 5 (expt v 0) (src_eq (expt v 0) 5) rfl rfl) $$ C5; iintro C5
    iapply (wp_word c acM 0 rfl hx) $$ Ha; iintro Ha
    iapply (wp_assume Variants.none (c : Thread nD τ) none Set.univ (src_ok (expt v 0) 6))
    iapply (wp_start c fw 0 6 (expt v 0) (src_eq (expt v 0) 6) rfl rfl) $$ C6; iintro C6
    iapply Hk
    isplitl [C0 C1 C2 C3 C4 C5 C6]
    · isplitl [C0]; · iexact C0
      isplitl [C1]; · iexact C1
      isplitl [C2]; · iexact C2
      isplitl [C3]; · iexact C3
      isplitl [C4]; · iexact C4
      isplitl [C5]; · iexact C5
      iexact C6
    iexact Ha
  · intro hc
    rw [Row_free c (n := 0) (show ¬ 0 < cnt v from fun h => hc ((condP_iff v 0).2 h))]
    iintro H
    iexact H
  · isplitl [R0]; · iexact R0
    iexact Ha
  iintro ⟨R0, Ha⟩
  iapply (wp_guard iprop((CFree c fw 1 0 ∗ CFree c fw 1 1 ∗ CFree c fw 1 2 ∗ CFree c fw 1 3 ∗ CFree c fw 1 4 ∗ CFree c fw 1 5 ∗ CFree c fw 1 6) ∗ owns (c : Thread nD τ) acM fullShare A8) iprop(Row c fw v 1 ∗ owns (c : Thread nD τ) acM fullShare A8) ?_ ?_) $$ [R1 Ha]
  · intro hc
    have hd := (condP_iff v 1).1 hc
    have hx := hA8.get 1 hd
    rw [k0_part3_eq_skeleton, k0_part4_eq_skeleton]
    unfold k0_part3_skel k0_part4_skel Row
    simp only [CE_pos (show 1 < cnt v from hd)]
    iintro ⟨⟨C0, C1, C2, C3, C4, C5, C6⟩, Ha⟩ Hk
    iapply (wp_word c acM 1 rfl hx) $$ Ha; iintro Ha
    iapply (wp_assume Variants.none (c : Thread nD τ) none Set.univ (src_ok (expt v 1) 0))
    iapply (wp_start c fw 1 0 (expt v 1) (src_eq (expt v 1) 0) rfl rfl) $$ C0; iintro C0
    iapply (wp_word c acM 1 rfl hx) $$ Ha; iintro Ha
    iapply (wp_assume Variants.none (c : Thread nD τ) none Set.univ (src_ok (expt v 1) 1))
    iapply (wp_start c fw 1 1 (expt v 1) (src_eq (expt v 1) 1) rfl rfl) $$ C1; iintro C1
    iapply (wp_word c acM 1 rfl hx) $$ Ha; iintro Ha
    iapply (wp_assume Variants.none (c : Thread nD τ) none Set.univ (src_ok (expt v 1) 2))
    iapply (wp_start c fw 1 2 (expt v 1) (src_eq (expt v 1) 2) rfl rfl) $$ C2; iintro C2
    iapply (wp_word c acM 1 rfl hx) $$ Ha; iintro Ha
    iapply (wp_assume Variants.none (c : Thread nD τ) none Set.univ (src_ok (expt v 1) 3))
    iapply (wp_start c fw 1 3 (expt v 1) (src_eq (expt v 1) 3) rfl rfl) $$ C3; iintro C3
    iapply (wp_word c acM 1 rfl hx) $$ Ha; iintro Ha
    iapply (wp_assume Variants.none (c : Thread nD τ) none Set.univ (src_ok (expt v 1) 4))
    iapply (wp_start c fw 1 4 (expt v 1) (src_eq (expt v 1) 4) rfl rfl) $$ C4; iintro C4
    iapply (wp_word c acM 1 rfl hx) $$ Ha; iintro Ha
    iapply (wp_assume Variants.none (c : Thread nD τ) none Set.univ (src_ok (expt v 1) 5))
    iapply (wp_start c fw 1 5 (expt v 1) (src_eq (expt v 1) 5) rfl rfl) $$ C5; iintro C5
    iapply (wp_word c acM 1 rfl hx) $$ Ha; iintro Ha
    iapply (wp_assume Variants.none (c : Thread nD τ) none Set.univ (src_ok (expt v 1) 6))
    iapply (wp_start c fw 1 6 (expt v 1) (src_eq (expt v 1) 6) rfl rfl) $$ C6; iintro C6
    iapply Hk
    isplitl [C0 C1 C2 C3 C4 C5 C6]
    · isplitl [C0]; · iexact C0
      isplitl [C1]; · iexact C1
      isplitl [C2]; · iexact C2
      isplitl [C3]; · iexact C3
      isplitl [C4]; · iexact C4
      isplitl [C5]; · iexact C5
      iexact C6
    iexact Ha
  · intro hc
    rw [Row_free c (n := 1) (show ¬ 1 < cnt v from fun h => hc ((condP_iff v 1).2 h))]
    iintro H
    iexact H
  · isplitl [R1]; · iexact R1
    iexact Ha
  iintro ⟨R1, Ha⟩
  iapply (wp_guard iprop((CFree c fw 2 0 ∗ CFree c fw 2 1 ∗ CFree c fw 2 2 ∗ CFree c fw 2 3 ∗ CFree c fw 2 4 ∗ CFree c fw 2 5 ∗ CFree c fw 2 6) ∗ owns (c : Thread nD τ) acM fullShare A8) iprop(Row c fw v 2 ∗ owns (c : Thread nD τ) acM fullShare A8) ?_ ?_) $$ [R2 Ha]
  · intro hc
    have hd := (condP_iff v 2).1 hc
    have hx := hA8.get 2 hd
    rw [k0_part5_eq_skeleton, k0_part6_eq_skeleton]
    unfold k0_part5_skel k0_part6_skel Row
    simp only [CE_pos (show 2 < cnt v from hd)]
    iintro ⟨⟨C0, C1, C2, C3, C4, C5, C6⟩, Ha⟩ Hk
    iapply (wp_word c acM 2 rfl hx) $$ Ha; iintro Ha
    iapply (wp_assume Variants.none (c : Thread nD τ) none Set.univ (src_ok (expt v 2) 0))
    iapply (wp_start c fw 2 0 (expt v 2) (src_eq (expt v 2) 0) rfl rfl) $$ C0; iintro C0
    iapply (wp_word c acM 2 rfl hx) $$ Ha; iintro Ha
    iapply (wp_assume Variants.none (c : Thread nD τ) none Set.univ (src_ok (expt v 2) 1))
    iapply (wp_start c fw 2 1 (expt v 2) (src_eq (expt v 2) 1) rfl rfl) $$ C1; iintro C1
    iapply (wp_word c acM 2 rfl hx) $$ Ha; iintro Ha
    iapply (wp_assume Variants.none (c : Thread nD τ) none Set.univ (src_ok (expt v 2) 2))
    iapply (wp_start c fw 2 2 (expt v 2) (src_eq (expt v 2) 2) rfl rfl) $$ C2; iintro C2
    iapply (wp_word c acM 2 rfl hx) $$ Ha; iintro Ha
    iapply (wp_assume Variants.none (c : Thread nD τ) none Set.univ (src_ok (expt v 2) 3))
    iapply (wp_start c fw 2 3 (expt v 2) (src_eq (expt v 2) 3) rfl rfl) $$ C3; iintro C3
    iapply (wp_word c acM 2 rfl hx) $$ Ha; iintro Ha
    iapply (wp_assume Variants.none (c : Thread nD τ) none Set.univ (src_ok (expt v 2) 4))
    iapply (wp_start c fw 2 4 (expt v 2) (src_eq (expt v 2) 4) rfl rfl) $$ C4; iintro C4
    iapply (wp_word c acM 2 rfl hx) $$ Ha; iintro Ha
    iapply (wp_assume Variants.none (c : Thread nD τ) none Set.univ (src_ok (expt v 2) 5))
    iapply (wp_start c fw 2 5 (expt v 2) (src_eq (expt v 2) 5) rfl rfl) $$ C5; iintro C5
    iapply (wp_word c acM 2 rfl hx) $$ Ha; iintro Ha
    iapply (wp_assume Variants.none (c : Thread nD τ) none Set.univ (src_ok (expt v 2) 6))
    iapply (wp_start c fw 2 6 (expt v 2) (src_eq (expt v 2) 6) rfl rfl) $$ C6; iintro C6
    iapply Hk
    isplitl [C0 C1 C2 C3 C4 C5 C6]
    · isplitl [C0]; · iexact C0
      isplitl [C1]; · iexact C1
      isplitl [C2]; · iexact C2
      isplitl [C3]; · iexact C3
      isplitl [C4]; · iexact C4
      isplitl [C5]; · iexact C5
      iexact C6
    iexact Ha
  · intro hc
    rw [Row_free c (n := 2) (show ¬ 2 < cnt v from fun h => hc ((condP_iff v 2).2 h))]
    iintro H
    iexact H
  · isplitl [R2]; · iexact R2
    iexact Ha
  iintro ⟨R2, Ha⟩
  iapply (wp_guard iprop((CFree c fw 3 0 ∗ CFree c fw 3 1 ∗ CFree c fw 3 2 ∗ CFree c fw 3 3 ∗ CFree c fw 3 4 ∗ CFree c fw 3 5 ∗ CFree c fw 3 6) ∗ owns (c : Thread nD τ) acM fullShare A8) iprop(Row c fw v 3 ∗ owns (c : Thread nD τ) acM fullShare A8) ?_ ?_) $$ [R3 Ha]
  · intro hc
    have hd := (condP_iff v 3).1 hc
    have hx := hA8.get 3 hd
    rw [k0_part7_eq_skeleton, k0_part8_eq_skeleton]
    unfold k0_part7_skel k0_part8_skel Row
    simp only [CE_pos (show 3 < cnt v from hd)]
    iintro ⟨⟨C0, C1, C2, C3, C4, C5, C6⟩, Ha⟩ Hk
    iapply (wp_word c acM 3 rfl hx) $$ Ha; iintro Ha
    iapply (wp_assume Variants.none (c : Thread nD τ) none Set.univ (src_ok (expt v 3) 0))
    iapply (wp_start c fw 3 0 (expt v 3) (src_eq (expt v 3) 0) rfl rfl) $$ C0; iintro C0
    iapply (wp_word c acM 3 rfl hx) $$ Ha; iintro Ha
    iapply (wp_assume Variants.none (c : Thread nD τ) none Set.univ (src_ok (expt v 3) 1))
    iapply (wp_start c fw 3 1 (expt v 3) (src_eq (expt v 3) 1) rfl rfl) $$ C1; iintro C1
    iapply (wp_word c acM 3 rfl hx) $$ Ha; iintro Ha
    iapply (wp_assume Variants.none (c : Thread nD τ) none Set.univ (src_ok (expt v 3) 2))
    iapply (wp_start c fw 3 2 (expt v 3) (src_eq (expt v 3) 2) rfl rfl) $$ C2; iintro C2
    iapply (wp_word c acM 3 rfl hx) $$ Ha; iintro Ha
    iapply (wp_assume Variants.none (c : Thread nD τ) none Set.univ (src_ok (expt v 3) 3))
    iapply (wp_start c fw 3 3 (expt v 3) (src_eq (expt v 3) 3) rfl rfl) $$ C3; iintro C3
    iapply (wp_word c acM 3 rfl hx) $$ Ha; iintro Ha
    iapply (wp_assume Variants.none (c : Thread nD τ) none Set.univ (src_ok (expt v 3) 4))
    iapply (wp_start c fw 3 4 (expt v 3) (src_eq (expt v 3) 4) rfl rfl) $$ C4; iintro C4
    iapply (wp_word c acM 3 rfl hx) $$ Ha; iintro Ha
    iapply (wp_assume Variants.none (c : Thread nD τ) none Set.univ (src_ok (expt v 3) 5))
    iapply (wp_start c fw 3 5 (expt v 3) (src_eq (expt v 3) 5) rfl rfl) $$ C5; iintro C5
    iapply (wp_word c acM 3 rfl hx) $$ Ha; iintro Ha
    iapply (wp_assume Variants.none (c : Thread nD τ) none Set.univ (src_ok (expt v 3) 6))
    iapply (wp_start c fw 3 6 (expt v 3) (src_eq (expt v 3) 6) rfl rfl) $$ C6; iintro C6
    iapply Hk
    isplitl [C0 C1 C2 C3 C4 C5 C6]
    · isplitl [C0]; · iexact C0
      isplitl [C1]; · iexact C1
      isplitl [C2]; · iexact C2
      isplitl [C3]; · iexact C3
      isplitl [C4]; · iexact C4
      isplitl [C5]; · iexact C5
      iexact C6
    iexact Ha
  · intro hc
    rw [Row_free c (n := 3) (show ¬ 3 < cnt v from fun h => hc ((condP_iff v 3).2 h))]
    iintro H
    iexact H
  · isplitl [R3]; · iexact R3
    iexact Ha
  iintro ⟨R3, Ha⟩
  iapply (wp_all c (by decide)) $$ H3; iintro H3
  iapply (wp_all c (by decide)) $$ H2; iintro H2
  iapply (wp_word2 c arg1 0 0 rfl) $$ H1; iintro H1
  iapply (wp_word2 c arg1 0 1 rfl) $$ H1; iintro H1
  iapply (wp_word2 c arg1 0 2 rfl) $$ H1; iintro H1
  iapply (wp_word2 c arg1 0 3 rfl) $$ H1; iintro H1
  iapply (wp_word2 c arg1 0 4 rfl) $$ H1; iintro H1
  iapply (wp_word2 c arg1 0 5 rfl) $$ H1; iintro H1
  iapply (wp_word2 c arg1 0 6 rfl) $$ H1; iintro H1
  iapply (wp_word2 c arg1 0 7 rfl) $$ H1; iintro H1
  iapply (wp_word2 c arg1 0 8 rfl) $$ H1; iintro H1
  iapply (wp_word2 c arg1 0 9 rfl) $$ H1; iintro H1
  iapply (wp_get c) $$ Hs; iintro Hs
  iapply (wp_fill c sOff S1x256.size (nth (gathS X1 X3)) never 0 (sOff_disj 0) never_out Fill.zero rfl rfl) $$ Hs; iintro %S1 %hS1 Hs
  iapply (wp_get c) $$ Hg; iintro Hg
  iapply (wp_fill c xOff S1x16x2048.size (nth (gathX X1 X2)) never 0 (xOff_disj 0) never_out Fill.zero rfl rfl) $$ Hg; iintro %G1 %hG1 Hg
  iapply (wp_word2 c arg1 1 0 rfl) $$ H1; iintro H1
  iapply (wp_word2 c arg1 1 1 rfl) $$ H1; iintro H1
  iapply (wp_word2 c arg1 1 2 rfl) $$ H1; iintro H1
  iapply (wp_word2 c arg1 1 3 rfl) $$ H1; iintro H1
  iapply (wp_word2 c arg1 1 4 rfl) $$ H1; iintro H1
  iapply (wp_word2 c arg1 1 5 rfl) $$ H1; iintro H1
  iapply (wp_word2 c arg1 1 6 rfl) $$ H1; iintro H1
  iapply (wp_word2 c arg1 1 7 rfl) $$ H1; iintro H1
  iapply (wp_word2 c arg1 1 8 rfl) $$ H1; iintro H1
  iapply (wp_word2 c arg1 1 9 rfl) $$ H1; iintro H1
  iapply (wp_get c) $$ Hs; iintro Hs
  iapply (wp_fill c sOff S1x256.size (nth (gathS X1 X3)) never 1 (sOff_disj 1) never_out hS1 rfl rfl) $$ Hs; iintro %S2 %hS2 Hs
  iapply (wp_get c) $$ Hg; iintro Hg
  iapply (wp_fill c xOff S1x16x2048.size (nth (gathX X1 X2)) never 1 (xOff_disj 1) never_out hG1 rfl rfl) $$ Hg; iintro %G2 %hG2 Hg
  iapply (wp_word2 c arg1 2 0 rfl) $$ H1; iintro H1
  iapply (wp_word2 c arg1 2 1 rfl) $$ H1; iintro H1
  iapply (wp_word2 c arg1 2 2 rfl) $$ H1; iintro H1
  iapply (wp_word2 c arg1 2 3 rfl) $$ H1; iintro H1
  iapply (wp_word2 c arg1 2 4 rfl) $$ H1; iintro H1
  iapply (wp_word2 c arg1 2 5 rfl) $$ H1; iintro H1
  iapply (wp_word2 c arg1 2 6 rfl) $$ H1; iintro H1
  iapply (wp_word2 c arg1 2 7 rfl) $$ H1; iintro H1
  iapply (wp_word2 c arg1 2 8 rfl) $$ H1; iintro H1
  iapply (wp_word2 c arg1 2 9 rfl) $$ H1; iintro H1
  iapply (wp_get c) $$ Hs; iintro Hs
  iapply (wp_fill c sOff S1x256.size (nth (gathS X1 X3)) never 2 (sOff_disj 2) never_out hS2 rfl rfl) $$ Hs; iintro %S3 %hS3 Hs
  iapply (wp_get c) $$ Hg; iintro Hg
  iapply (wp_fill c xOff S1x16x2048.size (nth (gathX X1 X2)) never 2 (xOff_disj 2) never_out hG2 rfl rfl) $$ Hg; iintro %G3 %hG3 Hg
  iapply (wp_word2 c arg1 3 0 rfl) $$ H1; iintro H1
  iapply (wp_word2 c arg1 3 1 rfl) $$ H1; iintro H1
  iapply (wp_word2 c arg1 3 2 rfl) $$ H1; iintro H1
  iapply (wp_word2 c arg1 3 3 rfl) $$ H1; iintro H1
  iapply (wp_word2 c arg1 3 4 rfl) $$ H1; iintro H1
  iapply (wp_word2 c arg1 3 5 rfl) $$ H1; iintro H1
  iapply (wp_word2 c arg1 3 6 rfl) $$ H1; iintro H1
  iapply (wp_word2 c arg1 3 7 rfl) $$ H1; iintro H1
  iapply (wp_word2 c arg1 3 8 rfl) $$ H1; iintro H1
  iapply (wp_word2 c arg1 3 9 rfl) $$ H1; iintro H1
  iapply (wp_get c) $$ Hs; iintro Hs
  iapply (wp_fill c sOff S1x256.size (nth (gathS X1 X3)) never 3 (sOff_disj 3) never_out hS3 rfl rfl) $$ Hs; iintro %S4 %hS4 Hs
  iapply (wp_get c) $$ Hg; iintro Hg
  iapply (wp_fill c xOff S1x16x2048.size (nth (gathX X1 X2)) never 3 (xOff_disj 3) never_out hG3 rfl rfl) $$ Hg; iintro %G4 %hG4 Hg
  iapply (wp_word2 c arg1 4 0 rfl) $$ H1; iintro H1
  iapply (wp_word2 c arg1 4 1 rfl) $$ H1; iintro H1
  iapply (wp_word2 c arg1 4 2 rfl) $$ H1; iintro H1
  iapply (wp_word2 c arg1 4 3 rfl) $$ H1; iintro H1
  iapply (wp_word2 c arg1 4 4 rfl) $$ H1; iintro H1
  iapply (wp_word2 c arg1 4 5 rfl) $$ H1; iintro H1
  iapply (wp_word2 c arg1 4 6 rfl) $$ H1; iintro H1
  iapply (wp_word2 c arg1 4 7 rfl) $$ H1; iintro H1
  iapply (wp_word2 c arg1 4 8 rfl) $$ H1; iintro H1
  iapply (wp_word2 c arg1 4 9 rfl) $$ H1; iintro H1
  iapply (wp_get c) $$ Hs; iintro Hs
  iapply (wp_fill c sOff S1x256.size (nth (gathS X1 X3)) never 4 (sOff_disj 4) never_out hS4 rfl rfl) $$ Hs; iintro %S5 %hS5 Hs
  iapply (wp_get c) $$ Hg; iintro Hg
  iapply (wp_fill c xOff S1x16x2048.size (nth (gathX X1 X2)) never 4 (xOff_disj 4) never_out hG4 rfl rfl) $$ Hg; iintro %G5 %hG5 Hg
  iapply (wp_word2 c arg1 5 0 rfl) $$ H1; iintro H1
  iapply (wp_word2 c arg1 5 1 rfl) $$ H1; iintro H1
  iapply (wp_word2 c arg1 5 2 rfl) $$ H1; iintro H1
  iapply (wp_word2 c arg1 5 3 rfl) $$ H1; iintro H1
  iapply (wp_word2 c arg1 5 4 rfl) $$ H1; iintro H1
  iapply (wp_word2 c arg1 5 5 rfl) $$ H1; iintro H1
  iapply (wp_word2 c arg1 5 6 rfl) $$ H1; iintro H1
  iapply (wp_word2 c arg1 5 7 rfl) $$ H1; iintro H1
  iapply (wp_word2 c arg1 5 8 rfl) $$ H1; iintro H1
  iapply (wp_word2 c arg1 5 9 rfl) $$ H1; iintro H1
  iapply (wp_get c) $$ Hs; iintro Hs
  iapply (wp_fill c sOff S1x256.size (nth (gathS X1 X3)) never 5 (sOff_disj 5) never_out hS5 rfl rfl) $$ Hs; iintro %S6 %hS6 Hs
  iapply (wp_get c) $$ Hg; iintro Hg
  iapply (wp_fill c xOff S1x16x2048.size (nth (gathX X1 X2)) never 5 (xOff_disj 5) never_out hG5 rfl rfl) $$ Hg; iintro %G6 %hG6 Hg
  iapply (wp_word2 c arg1 6 0 rfl) $$ H1; iintro H1
  iapply (wp_word2 c arg1 6 1 rfl) $$ H1; iintro H1
  iapply (wp_word2 c arg1 6 2 rfl) $$ H1; iintro H1
  iapply (wp_word2 c arg1 6 3 rfl) $$ H1; iintro H1
  iapply (wp_word2 c arg1 6 4 rfl) $$ H1; iintro H1
  iapply (wp_word2 c arg1 6 5 rfl) $$ H1; iintro H1
  iapply (wp_word2 c arg1 6 6 rfl) $$ H1; iintro H1
  iapply (wp_word2 c arg1 6 7 rfl) $$ H1; iintro H1
  iapply (wp_word2 c arg1 6 8 rfl) $$ H1; iintro H1
  iapply (wp_word2 c arg1 6 9 rfl) $$ H1; iintro H1
  iapply (wp_get c) $$ Hs; iintro Hs
  iapply (wp_fill c sOff S1x256.size (nth (gathS X1 X3)) never 6 (sOff_disj 6) never_out hS6 rfl rfl) $$ Hs; iintro %S7 %hS7 Hs
  iapply (wp_get c) $$ Hg; iintro Hg
  iapply (wp_fill c xOff S1x16x2048.size (nth (gathX X1 X2)) never 6 (xOff_disj 6) never_out hG6 rfl rfl) $$ Hg; iintro %G7 %hG7 Hg
  iapply (wp_word2 c arg1 7 0 rfl) $$ H1; iintro H1
  iapply (wp_word2 c arg1 7 1 rfl) $$ H1; iintro H1
  iapply (wp_word2 c arg1 7 2 rfl) $$ H1; iintro H1
  iapply (wp_word2 c arg1 7 3 rfl) $$ H1; iintro H1
  iapply (wp_word2 c arg1 7 4 rfl) $$ H1; iintro H1
  iapply (wp_word2 c arg1 7 5 rfl) $$ H1; iintro H1
  iapply (wp_word2 c arg1 7 6 rfl) $$ H1; iintro H1
  iapply (wp_word2 c arg1 7 7 rfl) $$ H1; iintro H1
  iapply (wp_word2 c arg1 7 8 rfl) $$ H1; iintro H1
  iapply (wp_word2 c arg1 7 9 rfl) $$ H1; iintro H1
  iapply (wp_get c) $$ Hs; iintro Hs
  iapply (wp_fill c sOff S1x256.size (nth (gathS X1 X3)) never 7 (sOff_disj 7) never_out hS7 rfl rfl) $$ Hs; iintro %S8 %hS8 Hs
  iapply (wp_get c) $$ Hg; iintro Hg
  iapply (wp_fill c xOff S1x16x2048.size (nth (gathX X1 X2)) never 7 (xOff_disj 7) never_out hG7 rfl rfl) $$ Hg; iintro %G8 %hG8 Hg
  obtain rfl := SX_of_fill hS8
  obtain rfl := XG_of_fill hG8
  iapply (wp_get c) $$ Hb; iintro Hb
  iapply (wp_zero_all c) $$ Hb; iintro %B %hB Hb
  iapply (Scf.wp_for_bind frame (wpE D Variants.none c none) Set.univ _ _ _ (k0_t1_ok (v 0) (v 1) (v 2) (v 3) (v 4) (v 5) (v 6) (v 7) (chk7_ok v)) 0#32 _
    (fun n _ => Inv c fw v arg0 arg4 arg6 q0 q4 X0 X4 (XG X1 X2) (SX X1 X3) A8 n) ?_) $$ [H0 H4 H6 Hg Hb Hs Ha R0 R1 R2 R3 HO]
  · intro t a
    unfold Inv
    iintro ⟨%Xo, %Xb, %W, %hD, %hZ, H0, H4, H6, Hg, Hb, Hs, Ha, ⟨R0, R1, R2, R3⟩, HO⟩
    iapply (wp_wand frame (wpE D Variants.none c none) Set.univ) $$ [H0 H4 H6 Hg Hb Hs Ha R0 HO]
    · iapply (trip c fw v arg0 harg0 arg1 harg1 arg2 harg2 arg3 harg3 arg4 harg4 arg6 harg6 (chk7_ok v) t a (fun j hj => hA8.get j hj) hZ)
      isplitl [H0]; · iexact H0
      isplitl [H4]; · iexact H4
      isplitl [H6]; · iexact H6
      isplitl [Hg]; · iexact Hg
      isplitl [Hb]; · iexact Hb
      isplitl [Hs]; · iexact Hs
      isplitl [Ha]; · iexact Ha
      isplitl [R0]; · iexact R0
      iexact HO
    iintro %r ⟨%Xo', %W', %hF, H0, H4, H6, Hg, Hb, Hs, Ha, R4, HO⟩
    iexists Xo', XB (XG X1 X2) (expt v t.val), W'
    isplitr; · ipureintro; exact hD.step c (t_lt t) hF
    isplitr; · ipureintro; exact XB_zero _ _
    isplitl [H0]; · iexact H0
    isplitl [H4]; · iexact H4
    isplitl [H6]; · iexact H6
    isplitl [Hg]; · iexact Hg
    isplitl [Hb]; · iexact Hb
    isplitl [Hs]; · iexact Hs
    isplitl [Ha]; · iexact Ha
    isplitr [HO]
    · isplitl [R1]; · iexact R1
      isplitl [R2]; · iexact R2
      isplitl [R3]; · iexact R3
      iexact R4
    iexact HO
  · unfold Inv
    iexists Z8, B, W
    isplitr; · ipureintro; exact ⟨hZ8, fun e he h => absurd h (Nat.not_lt_zero _)⟩
    isplitr; · ipureintro; exact hB
    isplitl [H0]; · iexact H0
    isplitl [H4]; · iexact H4
    isplitl [H6]; · iexact H6
    isplitl [Hg]; · iexact Hg
    isplitl [Hb]; · iexact Hb
    isplitl [Hs]; · iexact Hs
    isplitl [Ha]; · iexact Ha
    isplitr [HO]
    · isplitl [R0]; · iexact R0
      isplitl [R1]; · iexact R1
      isplitl [R2]; · iexact R2
      iexact R3
    iexact HO
  iintro %a HI
  iapply (Scf.wp_for_bind frame (wpE D Variants.none c none) Set.univ _ _ _ (k0_t2_ok (v 0) (v 1) (v 2) (v 3) (v 4) (v 5) (v 6) (v 7) (chk7_ok v)) a _
    (fun _ _ => Inv c fw v arg0 arg4 arg6 q0 q4 X0 X4 (XG X1 X2) (SX X1 X3) A8 (loop1 v).trips) (fun t _ => (no_trip2 v t).elim)) $$ HI
  iintro %a2 HI
  unfold Inv
  icases HI with ⟨%Xo', %Xb', %W', %hD, %hZ, H0, H4, H6, Hg, Hb, Hs, Ha, HR, HO⟩
  rw [trips1 v] at hD ⊢
  obtain rfl : v = fun e => X0 (ix8 e) := funext fun e => (hv e).symm
  obtain rfl := OUT_of_done c le_rfl hD
  ihave HR := (Ring_of_rows c le_rfl) $$ HR
  iapply wp_done
  iexists _, _, _, _, W'
  isplitl [H0]; · iexact H0
  isplitl [H1]; · iexact H1
  isplitl [H2]; · iexact H2
  isplitl [H3]; · iexact H3
  isplitl [H4]; · iexact H4
  isplitl [H6]; · iexact H6
  isplitl [Hg]; · iexact Hg
  isplitl [Hb]; · iexact Hb
  isplitl [Hs]; · iexact Hs
  isplitl [Ha]; · iexact Ha
  isplitl [HR]; · iexact HR
  iexact HO

end Cert.KernelIdeal.Hand

end
-- ==== Proof.Run.lean ====
/-
  The whole body from the buffers as a launch hands them over: the ring, its semaphore cells and the weights held whole,
  cut into the ring's 28 places, and joined again at the end.
-/
module

public import proofs.«01_k».proof.Proof.Body

@[expose] public section

set_option maxRecDepth 65536
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers (shareTokN shareDrop shareTok)

variable {F : FTy → Type} [FloatOps F]

local notation "𝕄" => MT nD τ sig Unit (Elt F) ℕ (Pipeline.UD sig nD τ) ℕ

/-- The slot and the chunk of the ring's place `b`. -/
abbrev sAt (b : Fin 28) : Fin 4 := ⟨b.val / 7, by omega⟩
abbrev iAt (b : Fin 28) : Fin 7 := ⟨b.val % 7, by omega⟩

/-- The semaphore cells of the ring. -/
def osem0 : Fin 28 → SemLoc sig := fun b => SemLoc.dma (semC (sAt b) (iAt b))

/-- The elements of the place `b`. -/
def place (c : Dev nD) (b : Fin 28) : Finset (Idx (wbM.view.loc (c : Thread nD τ))) := (dstM (sAt b) (iAt b)).view.set

theorem mem_place (c : Dev nD) (b : Fin 28) (x : S4x7x512x2048.Idx) : x ∈ place c b ↔ (x 0).val = b.val / 7 ∧ (x 1).val = b.val % 7 := by
  unfold place
  rw [show (dstM (sAt b) (iAt b)).view.set = (slotR (sAt b) (iAt b)).set from (View.set_reshape _ _).trans (View.set_slice_whole _ _)]
  rw [Rect.mem_set_unit]
  have h2 := (x 2).isLt
  have h3 := (x 3).isLt
  constructor
  · intro h
    have a := h 0
    have b' := h 1
    simp [S1x1x512x2048] at a b'
    omega
  · rintro ⟨h, h'⟩ a
    fin_cases a
    · simp [S1x1x512x2048]; omega
    · simp [S1x1x512x2048]; omega
    · simp [S1x1x512x2048]; exact h2
    · simp [S1x1x512x2048]; exact h3

theorem place_disj (c : Dev nD) (b b' : Fin 28) (h : b ≠ b') : Disjoint (place c b) (place c b') := by
  rw [Finset.disjoint_left]
  intro x hx hx'
  rw [mem_place] at hx hx'
  exact h (Fin.ext (by omega))

theorem place_cover (c : Dev nD) : Finset.univ.biUnion (place c) = Finset.univ := by
  ext x
  simp only [Finset.mem_biUnion, Finset.mem_univ, true_and, iff_true]
  have h0 : ((x : S4x7x512x2048.Idx) 0).val < 4 := (x 0).isLt
  have h1 : ((x : S4x7x512x2048.Idx) 1).val < 7 := (x 1).isLt
  exact ⟨⟨7 * (x 0).val + (x 1).val, by omega⟩, (mem_place c _ x).2 ⟨by simp only; omega, by simp only; omega⟩⟩

theorem star_assoc (P Q R : sProp 𝕄) : iprop((P ∗ Q) ∗ R) = iprop(P ∗ Q ∗ R) := equiv_iff.mp ⟨BI.sep_assoc, BI.sep_assoc'⟩

/-- The free ring is its 28 free places. -/
theorem Ring_eq (c : Dev nD) (fw : Buf (Elt F) (wM.view.loc (c : Thread nD τ))) :
    Ring c fw = bigSep (M := 𝕄) Finset.univ (fun b : Fin 28 => CFree c fw (sAt b) (iAt b)) := by
  rw [bigSep_eq_bigSepL_of_eq ([0, 1, 2, 3, 4, 5, 6, 7, 8, 9, 10, 11, 12, 13, 14, 15, 16, 17, 18, 19, 20, 21, 22, 23, 24, 25, 26, 27] : List (Fin 28)) (by decide) (by decide)]
  unfold Ring FreeRow
  simp only [star_assoc]
  rfl

theorem places_eq (c : Dev nD) (fw : Buf (Elt F) (wM.view.loc (c : Thread nD τ))) :
    Ring c fw = iprop((bigSep (M := 𝕄) Finset.univ fun b => semVal ((c : Thread nD τ), osem0 b) 0)
      ∗ (bigSep (M := 𝕄) Finset.univ fun b => iprop(∃ f, wbM.view.loc (c : Thread nD τ) ↦[place c b]{fullShare} f))
      ∗ (bigSep (M := 𝕄) Finset.univ fun b : Fin 28 => wM.view.loc (c : Thread nD τ) ↦[Finset.univ]{shareTok fullShare 28 b} fw)) := by
  rw [Ring_eq, ← bigSep_sep', ← bigSep_sep']
  refine bigSep_congr fun b _ => ?_
  unfold CFree
  rw [show share (sAt b) (iAt b) = shareTok fullShare 28 b from congrArg (shareTokN fullShare) (show 7 * (b.val / 7) + b.val % 7 = b.val by omega)]
  rfl

/-- From the buffers held whole to the free ring, a share of the weights left over; -/
theorem Ring_in (c : Dev nD) (fw : Buf (Elt F) (wM.view.loc (c : Thread nD τ))) :
    iprop((bigSep (M := 𝕄) Finset.univ fun b => semVal ((c : Thread nD τ), osem0 b) 0) ∗ (∃ f, wbM.view.loc (c : Thread nD τ) ↦{fullShare} f) ∗ (wM.view.loc (c : Thread nD τ) ↦{fullShare} fw))
    ⊢ iprop(Ring c fw ∗ (wM.view.loc (c : Thread nD τ) ↦[Finset.univ]{shareDrop fullShare 28} fw)) := by
  rw [places_eq]
  iintro ⟨HS, ⟨%f, HB⟩, HW⟩
  ihave HW := (Transfers.pointsTo_toks_split (S := Finset.univ) (f := fw) fullShare 28) $$ HW
  icases HW with ⟨HD, HW⟩
  have e : (wbM.view.loc (c : Thread nD τ) ↦{fullShare} f : sProp 𝕄) = bigSep (M := 𝕄) Finset.univ fun b => iprop(wbM.view.loc (c : Thread nD τ) ↦[place c b]{fullShare} f) :=
    Idealize.ShloMosaic.Ring.pointsTo_blocks (place c) (place_disj c) (place_cover c) f
  have hb : (wbM.view.loc (c : Thread nD τ) ↦{fullShare} f : sProp 𝕄) ⊢ bigSep (M := 𝕄) Finset.univ fun b => iprop(∃ f, wbM.view.loc (c : Thread nD τ) ↦[place c b]{fullShare} f) := by
    rw [e]
    refine bigSep_mono fun b _ => ?_
    show BIBase.Entails (PROP := sProp 𝕄) _ _
    iintro H
    iexists f
    iexact H
  ihave HB := hb $$ HB
  isplitr [HD]
  · isplitl [HS]; · iexact HS
    isplitl [HB]; · iexact HB
    iexact HW
  iexact HD

/-- and back. -/
theorem Ring_out (c : Dev nD) (fw : Buf (Elt F) (wM.view.loc (c : Thread nD τ))) (f₀ : Buf (Elt F) (wbM.view.loc (c : Thread nD τ))) :
    iprop(Ring c fw ∗ (wM.view.loc (c : Thread nD τ) ↦[Finset.univ]{shareDrop fullShare 28} fw))
    ⊢ iprop((bigSep (M := 𝕄) Finset.univ fun b => semVal ((c : Thread nD τ), osem0 b) 0) ∗ (∃ f, wbM.view.loc (c : Thread nD τ) ↦{fullShare} f) ∗ (wM.view.loc (c : Thread nD τ) ↦{fullShare} fw)) := by
  rw [places_eq]
  iintro ⟨⟨HS, HB, HW⟩, HD⟩
  isplitl [HS]; · iexact HS
  isplitl [HB]
  · iapply (Idealize.ShloMosaic.Ring.pointsTo_blocks_join_exists (place c) (place_disj c) (place_cover c) f₀)
    iexact HB
  iapply (Transfers.pointsTo_toks_join (S := Finset.univ) (f := fw) fullShare 28)
  isplitl [HD]; · iexact HD
  iexact HW

/-- The body, from what the launch hands over: the result is `OUT`, every other argument and the weights are as before, the
    cells are at zero again, and the scratch buffers hold something. -/
theorem kernelRun (c : Dev nD) {D : Defs nD τ sig (Elt F) Λ₀} (fw : Buf (Elt F) (wM.view.loc (c : Thread nD τ)))
    (arg0 : Memref sig .tc .smem S8 .i32) (harg0 : arg0.IsWhole) (arg1 : Memref sig .tc .smem S8x10 .i32) (harg1 : arg1.IsWhole)
    (arg2 : Memref sig .tc .vmem S40x2048 .fp8e4m3) (harg2 : arg2.IsWhole) (arg3 : Memref sig .tc .vmem S40x16 .f32) (harg3 : arg3.IsWhole)
    (arg4 : Memref sig .tc .vmem S8x28x16 .f32) (harg4 : arg4.IsWhole) (arg6 : Memref sig .tc .vmem S8x10x3584 .bf16) (harg6 : arg6.IsWhole) (h5 h7 h8 h9 h10 h11)
    (X0 : S8.Idx → Elt F .i32) (X1 : S8x10.Idx → Elt F .i32) (X2 : S40x2048.Idx → Elt F .fp8e4m3) (X3 : S40x16.Idx → Elt F .f32)
    (X4 : S8x28x16.Idx → Elt F .f32) :
    iprop(((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f)
        ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f)
        ∗ (∃ f : Buf (Elt F) ((c : Thread nD τ).loc cc0_scratch4), ((c : Thread nD τ).loc cc0_scratch4) ↦{fullShare} f))
      ∗ (bigSep (M := 𝕄) Finset.univ fun b => semVal ((c : Thread nD τ), osem0 b) 0) ∗ (wM.view.loc (c : Thread nD τ) ↦{fullShare} fw)
      ∗ (∃ W : Waits sig Unit, owes (c : Thread nD τ) 0 W)
      ∗ owns (c : Thread nD τ) arg0 fullShare X0 ∗ owns (c : Thread nD τ) arg1 fullShare X1 ∗ owns (c : Thread nD τ) arg2 fullShare X2 ∗ owns (c : Thread nD τ) arg3 fullShare X3 ∗ owns (c : Thread nD τ) arg4 fullShare X4
      ∗ (∃ Xo, owns (c : Thread nD τ) arg6 fullShare Xo))
    ⊢ wp frame (wpE D Variants.none c none) Set.univ
      (cc0_grouped_expert_matmul arg0 harg0 arg1 harg1 arg2 harg2 arg3 harg3 arg4 harg4 wM h5 arg6 harg6 wbM h7 xgM h8 xbM h9 sxM h10 acM h11 cc0_scratch5)
      (fun _ => iprop(((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f)
        ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f)
        ∗ (∃ f : Buf (Elt F) ((c : Thread nD τ).loc cc0_scratch4), ((c : Thread nD τ).loc cc0_scratch4) ↦{fullShare} f))
      ∗ (bigSep (M := 𝕄) Finset.univ fun b => semVal ((c : Thread nD τ), osem0 b) 0) ∗ (wM.view.loc (c : Thread nD τ) ↦{fullShare} fw)
      ∗ (∃ W : Waits sig Unit, owes (c : Thread nD τ) 0 W)
      ∗ owns (c : Thread nD τ) arg0 fullShare X0 ∗ owns (c : Thread nD τ) arg1 fullShare X1 ∗ owns (c : Thread nD τ) arg2 fullShare X2 ∗ owns (c : Thread nD τ) arg3 fullShare X3 ∗ owns (c : Thread nD τ) arg4 fullShare X4
      ∗ owns (c : Thread nD τ) arg6 fullShare (OUT c fw X0 X1 X2 X3 X4))) := by
  iintro ⟨⟨⟨%f0, HS0⟩, ⟨%f1, HS1⟩, ⟨%f2, HS2⟩, ⟨%f3, HS3⟩, ⟨%f4, HS4⟩⟩, HC, HW, ⟨%W, HO⟩, H0, H1, H2, H3, H4, ⟨%Xo, H6⟩⟩
  ihave HR := (Ring_in c fw) $$ [HC HS0 HW]
  · isplitl [HC]; · iexact HC
    isplitl [HS0]; · iexists f0; iexact HS0
    iexact HW
  icases HR with ⟨HR, HD⟩
  iapply (wp_wand frame (wpE D Variants.none c none) Set.univ) $$ [H0 H1 H2 H3 H4 H6 HS1 HS2 HS3 HS4 HR HO]
  · iapply (body c fw (fun e => X0 (ix8 e)) arg0 harg0 arg1 harg1 arg2 harg2 arg3 harg3 arg4 harg4 arg6 harg6 (Xg := f1) (Xb := f2) (Sx := f3) (Xa := f4) fun _ => rfl)
    simp only [xgM, xbM, sxM, acM, owns_whole]
    isplitl [H0]; · iexact H0
    isplitl [H1]; · iexact H1
    isplitl [H2]; · iexact H2
    isplitl [H3]; · iexact H3
    isplitl [H4]; · iexact H4
    isplitl [H6]; · iexact H6
    isplitl [HS1]; · iexact HS1
    isplitl [HS2]; · iexact HS2
    isplitl [HS3]; · iexact HS3
    isplitl [HS4]; · iexact HS4
    isplitl [HR]; · iexact HR
    iexact HO
  iintro %_ ⟨%Xg', %Xb', %Sx', %Xa', %W', H0, H1, H2, H3, H4, H6, HS1, HS2, HS3, HS4, HR, HO⟩
  simp only [xgM, xbM, sxM, acM, owns_whole]
  ihave HR := (Ring_out c fw f0) $$ [HR HD]
  · isplitl [HR]; · iexact HR
    iexact HD
  icases HR with ⟨HC, HS0, HW⟩
  isplitl [HS0 HS1 HS2 HS3 HS4]
  · isplitl [HS0]; · iexact HS0
    isplitl [HS1]; · iexists _; iexact HS1
    isplitl [HS2]; · iexists _; iexact HS2
    isplitl [HS3]; · iexists _; iexact HS3
    iexists _; iexact HS4
  isplitl [HC]; · iexact HC
  isplitl [HW]; · iexact HW
  isplitl [HO]; · iexists W'; iexact HO
  isplitl [H0]; · iexact H0
  isplitl [H1]; · iexact H1
  isplitl [H2]; · iexact H2
  isplitl [H3]; · iexact H3
  isplitl [H4]; · iexact H4
  iexact H6

end Cert.KernelIdeal.Hand

end
-- ==== Proof.Launch.lean ====
/-
  The launch of the ideal kernel: its one call, whose arguments but the weights are staged whole, the weights left where they
  are. The run ends with every argument as before, every semaphore counter at zero, and the result array at `OUT`.
-/
module

public import proofs.«01_k».proof.Proof.Run

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- Core `c`'s buffers as launched. -/
abbrev V (c : Dev nD) (b : Ref sig .tc) : Buf (Elt F) ((c : Thread nD τ).loc b) := m ((c : Thread nD τ).loc b)

set_option maxHeartbeats 800000 in
theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

/-- Window `w`'s block at point `t`, read off its array as launched. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem ownSemFacts0 : Pipeline.OwnSemFacts spec0 osem0 := by decide

/-- The buffer that the body's own copies read: the weights. -/
def H0 : Finset (Ref sig .tc) := {main_arg4}
theorem H0_sub : H0 ⊆ Pipeline.restRefs sig spec0 := by decide
theorem hbmPts0_eq (c : Dev nD) :
    (bigSep H0 (fun b => ((c : Thread nD τ).loc b) ↦{fullShare} V m c b) : sProp 𝕄) = iprop(wM.view.loc (c : Thread nD τ) ↦{fullShare} V m c main_arg4) := by
  rw [BI.bigSep_eq_bigSepL_of_eq [main_arg4] (by decide) (by decide)]; rfl

/-- What the body leaves in the result's staging buffer. -/
def outAt (c : Dev nD) (t : Fin cfg0.N) : S8x10x3584.Idx → Elt F .bf16 :=
  OUT c (V m c main_arg4) (iblk m c 0 t) (iblk m c 1 t) (iblk m c 2 t) (iblk m c 3 t) (iblk m c 4 t)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ _ := Pipeline.ΦD osem0 spec0 H0 (V m) c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outAt m c t := by dsimp only [dats]

/-- A staged argument is in its buffer when the body starts. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

set_option pp.maxSteps 60 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl, after0_0, after0_1, after0_2, after0_3, after0_4, after0_5]
  simp only [before0_0, before0_1, before0_2, before0_3, before0_4]
  rw [show (dats m 0 c).Φ t.castSucc = Pipeline.ΦD osem0 spec0 H0 (V m) c from rfl, Pipeline.ΦD_eq, scopedRest0_eq, hbmPts0_eq]
  unfold Pipeline.ownSems0 Dat.owesAt Pipeline.owesWithin
  rw [show (dats m 0 c).owed t.castSucc = 0 from rfl, show (dats m 0 c).owed t.succ = 0 from rfl]
  unfold outAt
  iintro ⟨⟨HS, Hg, HC, HW⟩, ⟨%W, -, HO⟩, ⟨%d0, H0⟩, ⟨%d1, H1⟩, ⟨%d2, H2⟩, ⟨%d3, H3⟩, ⟨%d4, H4⟩, ⟨%d5, H5⟩⟩
  iapply (wp_wand frame (wpE defs₀ Variants.none c none) Set.univ) $$ [HS HC HW HO H0 H1 H2 H3 H4 H5]
  · iapply (kernelRun c (V m c main_arg4) (st0_0 t) (hstage0_0 0) (st0_1 t) (hstage0_1 0) (st0_2 t) (hstage0_2 0) (st0_3 t) (hstage0_3 0) (st0_4 t) (hstage0_4 0) (st0_5 t) (hstage0_5 0) (Memref.isWhole_whole _) (Memref.isWhole_whole _) (Memref.isWhole_whole _) (Memref.isWhole_whole _) (Memref.isWhole_whole _) (Memref.isWhole_whole _)
      (iblk m c 0 t) (iblk m c 1 t) (iblk m c 2 t) (iblk m c 3 t) (iblk m c 4 t))
    isplitl [HS]; · iexact HS
    isplitl [HC]; · iexact HC
    isplitl [HW]; · iexact HW
    isplitl [HO]; · iexists W; iexact HO
    isplitl [H0]; · iexact H0
    isplitl [H1]; · iexact H1
    isplitl [H2]; · iexact H2
    isplitl [H3]; · iexact H3
    isplitl [H4]; · iexact H4
    iexists _; iexact H5
  iintro %_ ⟨HS, HC, HW, ⟨%W', HO⟩, H0, H1, H2, H3, H4, H5⟩
  isplitl [HS Hg HC HW]
  · isplitl [HS]; · iexact HS
    isplitl [Hg]; · iexact Hg
    isplitl [HC]; · iexact HC
    iexact HW
  isplitl [HO]
  · iexists W'; isplitr; · ipureintro; exact fun _ _ => Or.inl trivial
    iexact HO
  isplitl [H0]; · iexact H0
  isplitl [H1]; · iexact H1
  isplitl [H2]; · iexact H2
  isplitl [H3]; · iexact H3
  isplitl [H4]; · iexact H4
  iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run: the arrays at what the staging leaves, every other buffer and every semaphore counter as launched. -/
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := fun _ => .rfl) (hout := fun _ => .rfl)

/-- The frame: the program ends without a fault, its arguments as before and its semaphore counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨((h.1 c).1 2).trans (((dats m 0 c).arrAt_in 2 rfl _).trans (A_eq m c 2)),
      ((h.1 c).1 3).trans (((dats m 0 c).arrAt_in 3 rfl _).trans (A_eq m c 3)),
      ((h.1 c).1 1).trans (((dats m 0 c).arrAt_in 1 rfl _).trans (A_eq m c 1)),
      ((h.1 c).1 0).trans (((dats m 0 c).arrAt_in 0 rfl _).trans (A_eq m c 0)),
      (h.1 c).2 main_arg4 (Pipeline.mem_restRefs_of main_arg4 (by decide) (by decide)),
      ((h.1 c).1 4).trans (((dats m 0 c).arrAt_in 4 rfl _).trans (A_eq m c 4))⟩, h.2⟩) (run_main m ρ)

end Cert.KernelIdeal.Hand

end
-- ==== Proof.Same.lean ====
/-
  The kernel and the ideal kernel are printed from the same text: their bodies are one program.
-/
module

public import proofs.«01_k».proof.Proof.Gen.Kernel.Skeleton
public import proofs.«01_k».proof.Proof.Gen.KernelIdeal.Skeleton

@[expose] public section

set_option maxRecDepth 65536
set_option maxHeartbeats 0

noncomputable section

namespace Cert.KernelIdeal.Hand

open Idealize.ShloMosaic

variable {F : FTy → Type} [FloatOps F]

/-- The kernel's body is the ideal kernel's body. -/
theorem same : @Cert.Kernel.cc0_grouped_expert_matmul F _ Cert.Kernel.Gen.facts = @Cert.KernelIdeal.cc0_grouped_expert_matmul F _ Cert.KernelIdeal.Gen.facts := rfl

end Cert.KernelIdeal.Hand

end
-- ==== Proof.LaunchK.lean ====
/-
  The launch of the kernel: as the ideal kernel's (`Launch`), about the body that is the ideal kernel's (`Same`). The run ends
  with every argument as before and every semaphore counter at zero.
-/
module

public import proofs.«01_k».proof.Proof.Run
public import proofs.«01_k».proof.Proof.Same
public import proofs.«01_k».proof.Proof.Gen.Kernel.Launch
public import proofs.«01_k».proof.Proof.Gen.Kernel.Points

@[expose] public section

set_option maxRecDepth 16384
set_option maxHeartbeats 4000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The semaphore cells of the ring. -/
def osem0 : Fin 28 → SemLoc sig := KernelIdeal.Hand.osem0

/-- The body, which is the ideal kernel's, from what the launch hands over: the result is `OUT`, every other argument and the weights are as before, the
    cells are at zero again, and the scratch buffers hold something. -/
theorem kernelRun (c : Dev nD) {D : Defs nD τ sig (Elt F) Λ₀} (fw : Buf (Elt F) ((Memref.whole main_arg4).view.loc (c : Thread nD τ)))
    (arg0 : Memref sig .tc .smem S8 .i32) (harg0 : arg0.IsWhole) (arg1 : Memref sig .tc .smem S8x10 .i32) (harg1 : arg1.IsWhole)
    (arg2 : Memref sig .tc .vmem S40x2048 .fp8e4m3) (harg2 : arg2.IsWhole) (arg3 : Memref sig .tc .vmem S40x16 .f32) (harg3 : arg3.IsWhole)
    (arg4 : Memref sig .tc .vmem S8x28x16 .f32) (harg4 : arg4.IsWhole) (arg6 : Memref sig .tc .vmem S8x10x3584 .bf16) (harg6 : arg6.IsWhole) (h5 h7 h8 h9 h10 h11)
    (X0 : S8.Idx → Elt F .i32) (X1 : S8x10.Idx → Elt F .i32) (X2 : S40x2048.Idx → Elt F .fp8e4m3) (X3 : S40x16.Idx → Elt F .f32)
    (X4 : S8x28x16.Idx → Elt F .f32) :
    iprop(((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f)
        ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f)
        ∗ (∃ f : Buf (Elt F) ((c : Thread nD τ).loc cc0_scratch4), ((c : Thread nD τ).loc cc0_scratch4) ↦{fullShare} f))
      ∗ (bigSep (M := 𝕄) Finset.univ fun b => semVal ((c : Thread nD τ), osem0 b) 0) ∗ ((Memref.whole main_arg4).view.loc (c : Thread nD τ) ↦{fullShare} fw)
      ∗ (∃ W : Waits sig Unit, owes (c : Thread nD τ) 0 W)
      ∗ owns (c : Thread nD τ) arg0 fullShare X0 ∗ owns (c : Thread nD τ) arg1 fullShare X1 ∗ owns (c : Thread nD τ) arg2 fullShare X2 ∗ owns (c : Thread nD τ) arg3 fullShare X3 ∗ owns (c : Thread nD τ) arg4 fullShare X4
      ∗ (∃ Xo, owns (c : Thread nD τ) arg6 fullShare Xo))
    ⊢ wp frame (wpE D Variants.none c none) Set.univ
      (cc0_grouped_expert_matmul arg0 harg0 arg1 harg1 arg2 harg2 arg3 harg3 arg4 harg4 (Memref.whole main_arg4) h5 arg6 harg6 (Memref.whole cc0_scratch0) h7 (Memref.whole cc0_scratch1) h8 (Memref.whole cc0_scratch2) h9 (Memref.whole cc0_scratch3) h10 (Memref.whole cc0_scratch4) h11 cc0_scratch5)
      (fun _ => iprop(((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f)
        ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f)
        ∗ (∃ f : Buf (Elt F) ((c : Thread nD τ).loc cc0_scratch4), ((c : Thread nD τ).loc cc0_scratch4) ↦{fullShare} f))
      ∗ (bigSep (M := 𝕄) Finset.univ fun b => semVal ((c : Thread nD τ), osem0 b) 0) ∗ ((Memref.whole main_arg4).view.loc (c : Thread nD τ) ↦{fullShare} fw)
      ∗ (∃ W : Waits sig Unit, owes (c : Thread nD τ) 0 W)
      ∗ owns (c : Thread nD τ) arg0 fullShare X0 ∗ owns (c : Thread nD τ) arg1 fullShare X1 ∗ owns (c : Thread nD τ) arg2 fullShare X2 ∗ owns (c : Thread nD τ) arg3 fullShare X3 ∗ owns (c : Thread nD τ) arg4 fullShare X4
      ∗ owns (c : Thread nD τ) arg6 fullShare (KernelIdeal.Hand.OUT c fw X0 X1 X2 X3 X4))) := by
  rw [KernelIdeal.Hand.same]
  exact KernelIdeal.Hand.kernelRun c fw arg0 harg0 arg1 harg1 arg2 harg2 arg3 harg3 arg4 harg4 arg6 harg6 h5 h7 h8 h9 h10 h11 X0 X1 X2 X3 X4

variable (m : (ℓ : Loc nD τ sig) → Buf (Elt F) ℓ) (ρ : Dev nD → PrngReg)

/-- Core `c`'s buffers as launched. -/
abbrev V (c : Dev nD) (b : Ref sig .tc) : Buf (Elt F) ((c : Thread nD τ).loc b) := m ((c : Thread nD τ).loc b)

set_option maxHeartbeats 800000 in
theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

/-- Window `w`'s block at point `t`, read off its array as launched. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem ownSemFacts0 : Pipeline.OwnSemFacts spec0 osem0 := by decide

/-- The buffer that the body's own copies read: the weights. -/
def H0 : Finset (Ref sig .tc) := {main_arg4}
theorem H0_sub : H0 ⊆ Pipeline.restRefs sig spec0 := by decide
theorem hbmPts0_eq (c : Dev nD) :
    (bigSep H0 (fun b => ((c : Thread nD τ).loc b) ↦{fullShare} V m c b) : sProp 𝕄) = iprop((Memref.whole main_arg4).view.loc (c : Thread nD τ) ↦{fullShare} V m c main_arg4) := by
  rw [BI.bigSep_eq_bigSepL_of_eq [main_arg4] (by decide) (by decide)]; rfl

/-- What the body leaves in the result's staging buffer. -/
def outAt (c : Dev nD) (t : Fin cfg0.N) : S8x10x3584.Idx → Elt F .bf16 :=
  KernelIdeal.Hand.OUT c (V m c main_arg4) (iblk m c 0 t) (iblk m c 1 t) (iblk m c 2 t) (iblk m c 3 t) (iblk m c 4 t)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ _ := Pipeline.ΦD osem0 spec0 H0 (V m) c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outAt m c t := by dsimp only [dats]

/-- A staged argument is in its buffer when the body starts. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

set_option pp.maxSteps 60 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl, after0_0, after0_1, after0_2, after0_3, after0_4, after0_5]
  simp only [before0_0, before0_1, before0_2, before0_3, before0_4]
  rw [show (dats m 0 c).Φ t.castSucc = Pipeline.ΦD osem0 spec0 H0 (V m) c from rfl, Pipeline.ΦD_eq, scopedRest0_eq, hbmPts0_eq]
  unfold Pipeline.ownSems0 Dat.owesAt Pipeline.owesWithin
  rw [show (dats m 0 c).owed t.castSucc = 0 from rfl, show (dats m 0 c).owed t.succ = 0 from rfl]
  unfold outAt
  iintro ⟨⟨HS, Hg, HC, HW⟩, ⟨%W, -, HO⟩, ⟨%d0, H0⟩, ⟨%d1, H1⟩, ⟨%d2, H2⟩, ⟨%d3, H3⟩, ⟨%d4, H4⟩, ⟨%d5, H5⟩⟩
  iapply (wp_wand frame (wpE defs₀ Variants.none c none) Set.univ) $$ [HS HC HW HO H0 H1 H2 H3 H4 H5]
  · iapply (kernelRun c (V m c main_arg4) (st0_0 t) (hstage0_0 0) (st0_1 t) (hstage0_1 0) (st0_2 t) (hstage0_2 0) (st0_3 t) (hstage0_3 0) (st0_4 t) (hstage0_4 0) (st0_5 t) (hstage0_5 0) (Memref.isWhole_whole _) (Memref.isWhole_whole _) (Memref.isWhole_whole _) (Memref.isWhole_whole _) (Memref.isWhole_whole _) (Memref.isWhole_whole _)
      (iblk m c 0 t) (iblk m c 1 t) (iblk m c 2 t) (iblk m c 3 t) (iblk m c 4 t))
    isplitl [HS]; · iexact HS
    isplitl [HC]; · iexact HC
    isplitl [HW]; · iexact HW
    isplitl [HO]; · iexists W; iexact HO
    isplitl [H0]; · iexact H0
    isplitl [H1]; · iexact H1
    isplitl [H2]; · iexact H2
    isplitl [H3]; · iexact H3
    isplitl [H4]; · iexact H4
    iexists _; iexact H5
  iintro %_ ⟨HS, HC, HW, ⟨%W', HO⟩, H0, H1, H2, H3, H4, H5⟩
  isplitl [HS Hg HC HW]
  · isplitl [HS]; · iexact HS
    isplitl [Hg]; · iexact Hg
    isplitl [HC]; · iexact HC
    iexact HW
  isplitl [HO]
  · iexists W'; isplitr; · ipureintro; exact fun _ _ => Or.inl trivial
    iexact HO
  isplitl [H0]; · iexact H0
  isplitl [H1]; · iexact H1
  isplitl [H2]; · iexact H2
  isplitl [H3]; · iexact H3
  isplitl [H4]; · iexact H4
  iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run: the arrays at what the staging leaves, every other buffer and every semaphore counter as launched. -/
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := fun _ => .rfl) (hout := fun _ => .rfl)

/-- The frame: the program ends without a fault, its arguments as before and its semaphore counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨((h.1 c).1 2).trans (((dats m 0 c).arrAt_in 2 rfl _).trans (A_eq m c 2)),
      ((h.1 c).1 3).trans (((dats m 0 c).arrAt_in 3 rfl _).trans (A_eq m c 3)),
      ((h.1 c).1 1).trans (((dats m 0 c).arrAt_in 1 rfl _).trans (A_eq m c 1)),
      ((h.1 c).1 0).trans (((dats m 0 c).arrAt_in 0 rfl _).trans (A_eq m c 0)),
      (h.1 c).2 main_arg4 (Pipeline.mem_restRefs_of main_arg4 (by decide) (by decide)),
      ((h.1 c).1 4).trans (((dats m 0 c).arrAt_in 4 rfl _).trans (A_eq m c 4))⟩, h.2⟩) (run_main m ρ)

end Cert.Kernel.Hand

end
-- ==== Proof.KerValue.lean ====
/-
  The array that the kernel leaves: the body's result of the argument arrays.
-/
module

public import proofs.«01_k».proof.Proof.Launch
public import Idealize.ShloMosaic.Lib.Pipeline.ValueKit
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The result array of the argument arrays on core `c`. -/
def G (c : Dev nD) : S8x10x3584.Idx → Elt F .bf16 :=
  OUT c (m ((c : Thread nD τ).loc main_arg4)) (m ((c : Thread nD τ).loc main_arg3)) (m ((c : Thread nD τ).loc main_arg2)) (m ((c : Thread nD τ).loc main_arg0))
    (m ((c : Thread nD τ).loc main_arg1)) (m ((c : Thread nD τ).loc main_arg5))

/-! An input block is its whole argument array. -/

theorem iblk0 (c : Dev nD) (t : Fin cfg0.N) : iblk m c 0 t = m ((c : Thread nD τ).loc main_arg3) := by
  funext j; unfold iblk; blk_simp
  exact congrArg (m ((c : Thread nD τ).loc main_arg3)) (funext fun a => Fin.ext (Pipeline.Window.rect_emb_val_of_index_zero win0_0 t a (by fin_cases a <;> rfl) j))
theorem iblk1 (c : Dev nD) (t : Fin cfg0.N) : iblk m c 1 t = m ((c : Thread nD τ).loc main_arg2) := by
  funext j; unfold iblk; blk_simp
  exact congrArg (m ((c : Thread nD τ).loc main_arg2)) (funext fun a => Fin.ext (Pipeline.Window.rect_emb_val_of_index_zero win0_1 t a (by fin_cases a <;> rfl) j))
theorem iblk2 (c : Dev nD) (t : Fin cfg0.N) : iblk m c 2 t = m ((c : Thread nD τ).loc main_arg0) := by
  funext j; unfold iblk; blk_simp
  exact congrArg (m ((c : Thread nD τ).loc main_arg0)) (funext fun a => Fin.ext (Pipeline.Window.rect_emb_val_of_index_zero win0_2 t a (by fin_cases a <;> rfl) j))
theorem iblk3 (c : Dev nD) (t : Fin cfg0.N) : iblk m c 3 t = m ((c : Thread nD τ).loc main_arg1) := by
  funext j; unfold iblk; blk_simp
  exact congrArg (m ((c : Thread nD τ).loc main_arg1)) (funext fun a => Fin.ext (Pipeline.Window.rect_emb_val_of_index_zero win0_3 t a (by fin_cases a <;> rfl) j))
theorem iblk4 (c : Dev nD) (t : Fin cfg0.N) : iblk m c 4 t = m ((c : Thread nD τ).loc main_arg5) := by
  funext j; unfold iblk; blk_simp
  exact congrArg (m ((c : Thread nD τ).loc main_arg5)) (funext fun a => Fin.ext (Pipeline.Window.rect_emb_val_of_index_zero win0_4 t a (by fin_cases a <;> rfl) j))

theorem final (c : Dev nD) : (dats m 0 c).arrAt 5 cfg0.N = G m c := by
  refine (dats m 0 c).arrAt_eq_of_after_last 5 t0_0 (by decide +kernel) _ fun j => ?_
  rw [after0_5]
  unfold outAt G
  rw [iblk0, iblk1, iblk2, iblk3, iblk4]
  blk_simp

/-- The run: the result array holds `G`, the arguments are as before. -/
theorem run : θ_run defs (onTc (τ := τ) (main (F := F))) ⟨m, fun _ => 0, ρ⟩ (fun r => ∀ c : Dev nD,
      r.2.mem ((c.tc : Thread nD τ).loc main_v0) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h.1 c).1 5).trans (final m c), ((h.1 c).1 2).trans (((dats m 0 c).arrAt_in 2 rfl _).trans (A_eq m c 2)),
      ((h.1 c).1 3).trans (((dats m 0 c).arrAt_in 3 rfl _).trans (A_eq m c 3)),
      ((h.1 c).1 1).trans (((dats m 0 c).arrAt_in 1 rfl _).trans (A_eq m c 1)),
      ((h.1 c).1 0).trans (((dats m 0 c).arrAt_in 0 rfl _).trans (A_eq m c 0)),
      (h.1 c).2 main_arg4 (Pipeline.mem_restRefs_of main_arg4 (by decide) (by decide)),
      ((h.1 c).1 4).trans (((dats m 0 c).arrAt_in 4 rfl _).trans (A_eq m c 4))⟩) (run_main m ρ)

end Cert.KernelIdeal.Hand

end
-- ==== Proof.KerMath.lean ====
/-
  What the kernel computes over the extended reals, read element by element.
-/
module

public import proofs.«01_k».proof.Proof.Gather
public import Idealize.ShloMosaic.Lib.Pointwise
public import Idealize.ShloMosaic.Lib.WordCmp

@[expose] public section

set_option maxRecDepth 65536

noncomputable section

namespace Cert.KernelIdeal.Hand

open Cert.KernelIdeal Cert.KernelIdeal.Gen
open Idealize.ShloMosaic Idealize.ShloMosaic.TcCoe

/-- Lane `16 k + r`: row `r` of block `k`. -/
def lane (k : Fin 16) (r : Fin 10) : Fin 256 := ⟨16 * k.val + r.val, by omega⟩

theorem lane_div (k : Fin 16) (r : Fin 10) : (lane k r).val / 16 = k.val := by unfold lane; simp only; omega
theorem lane_mod (k : Fin 16) (r : Fin 10) : (lane k r).val % 16 = r.val := by unfold lane; simp only; omega

/-! ### Masks -/

/-- The word that the expanding matrix compares with: the number of the lane's block of 16. -/
theorem blockWord : ∀ l : Fin 256, Scalar.select
            (IntOp.andi
              (IntOp.cmpi CmpIPredicate.ne
                (IntOp.subi (BitVec.setWidth 32 (IntOp.cmpi CmpIPredicate.sgt (BitVec.ofNat 32 l.val) 0#32))
                  (BitVec.setWidth 32 (IntOp.cmpi CmpIPredicate.slt (BitVec.ofNat 32 l.val) 0#32)))
                (Scalar.subi (Scalar.extui (Scalar.cmpi CmpIPredicate.sgt 16#32 0#32))
                  (Scalar.extui (Scalar.cmpi CmpIPredicate.slt 16#32 0#32))))
              (IntOp.cmpi CmpIPredicate.ne (IntOp.remsi ArithUnit.vector (BitVec.ofNat 32 l.val) 16#32) 0#32))
            (IntOp.subi (IntOp.divsi ArithUnit.vector (BitVec.ofNat 32 l.val) 16#32) 1#32)
            (IntOp.divsi ArithUnit.vector (BitVec.ofNat 32 l.val) 16#32) = BitVec.ofNat 32 (l.val / 16) := by
  decide +kernel

/-- The lane's row within its block, as a word. -/
theorem rowWord : ∀ (k : Fin 16) (r : Fin 10), IntOp.andi (BitVec.ofNat 32 (lane k r).val) 15#32 = BitVec.ofNat 32 r.val := by
  decide +kernel

/-- A comparison's bit, widened and converted, is one or zero. -/
theorem bit_apply {a b : BitVec 32} : (FloatOps.sitofp (F := Ideal) FTy.f32 (BitVec.setWidth 32 (IntOp.cmpi CmpIPredicate.eq a b)) : EReal) = if a = b then 1 else 0 := by
  rw [WordCmp.cmpi_eq_eq]
  show (((BitVec.setWidth 32 (BitVec.ofBool (decide (a = b)))).toInt : ℝ) : EReal) = _
  by_cases h : a = b
  · rw [if_pos h, decide_eq_true h, show (BitVec.setWidth 32 (BitVec.ofBool true)).toInt = 1 by decide]; norm_num
  · rw [if_neg h, decide_eq_false h, show (BitVec.setWidth 32 (BitVec.ofBool false)).toInt = 0 by decide]; norm_num

theorem ofNat_inj {a b : ℕ} (ha : a < 4294967296) (hb : b < 4294967296) : BitVec.ofNat 32 a = BitVec.ofNat 32 b ↔ a = b := by
  rw [← BitVec.toNat_inj, BitVec.toNat_ofNat, BitVec.toNat_ofNat, Nat.mod_eq_of_lt ha, Nat.mod_eq_of_lt hb]

/-- Ten words selected by a row number: the row's own. -/
theorem pick (u : Fin 10 → BitVec 32) (z : BitVec 32) (r : Fin 10) :
    Scalar.select (IntOp.cmpi CmpIPredicate.eq (BitVec.ofNat 32 r.val) 9#32) (u 9)
      (Scalar.select (IntOp.cmpi CmpIPredicate.eq (BitVec.ofNat 32 r.val) 8#32) (u 8)
      (Scalar.select (IntOp.cmpi CmpIPredicate.eq (BitVec.ofNat 32 r.val) 7#32) (u 7)
      (Scalar.select (IntOp.cmpi CmpIPredicate.eq (BitVec.ofNat 32 r.val) 6#32) (u 6)
      (Scalar.select (IntOp.cmpi CmpIPredicate.eq (BitVec.ofNat 32 r.val) 5#32) (u 5)
      (Scalar.select (IntOp.cmpi CmpIPredicate.eq (BitVec.ofNat 32 r.val) 4#32) (u 4)
      (Scalar.select (IntOp.cmpi CmpIPredicate.eq (BitVec.ofNat 32 r.val) 3#32) (u 3)
      (Scalar.select (IntOp.cmpi CmpIPredicate.eq (BitVec.ofNat 32 r.val) 2#32) (u 2)
      (Scalar.select (IntOp.cmpi CmpIPredicate.eq (BitVec.ofNat 32 r.val) 1#32) (u 1)
      (Scalar.select (IntOp.cmpi CmpIPredicate.eq (BitVec.ofNat 32 r.val) 0#32) (u 0) z))))))))) = u r := by
  fin_cases r <;> rfl

/-- A sum against the indicator of one index is the term at that index. -/
theorem sum_indicator {n : ℕ} (t : Fin n) (f : Fin n → EReal) : ∑ x, (if t = x then 1 else 0 : EReal) * f x = f t := by
  rw [Finset.sum_eq_single t (fun x _ h => by rw [if_neg (Ne.symm h), zero_mul]) (fun h => absurd (Finset.mem_univ t) h), if_pos rfl, one_mul]

theorem ofNat_fin {n : ℕ} (hn : n < 4294967296) (a b : Fin n) : BitVec.ofNat 32 a.val = BitVec.ofNat 32 b.val ↔ a = b := by
  rw [ofNat_inj (lt_trans a.isLt hn) (lt_trans b.isLt hn)]; exact Fin.ext_iff.symm

/-! ### The gathered rows and scales -/

theorem expandM_apply (b : Fin 16) (l : Fin 256) : expandM (F := Ideal) (ix2 b l) = (if l.val / 16 = b.val then 1 else 0 : EReal) := by
  pointwise [expandM, k0_pay184, k0_pay182, k0_pay183]
  rw [blockWord, bit_apply]
  simp only [ofNat_inj (show b.val < 4294967296 by omega) (show l.val / 16 < 4294967296 by omega), eq_comm (a := b.val)]

/-- Repeating over the lanes selects the lane's block. -/
theorem sum_expand (f : Fin 16 → EReal) (k : Fin 16) (r : Fin 10) : ∑ b, f b * expandM (F := Ideal) (ix2 b (lane k r)) = f k := by
  simp only [expandM_apply, lane_div]
  rw [← sum_indicator k f]
  refine Finset.sum_congr rfl fun b _ => ?_
  rw [mul_comm]
  simp only [Fin.ext_iff]

theorem svals_apply (X3 : S40x16.Idx → Elt Ideal .f32) (t : Fin 40) (k : Fin 16) (r : Fin 10) : svals (F := Ideal) X3 (ix2 t (lane k r)) = X3 (ix2 t k) := by
  rw [← sum_expand (fun b => X3 (ix2 t b)) k r]
  unfold expandM
  pointwise [svals, k0_pay185]

/-- A gathered row is the row of the token that the slot names. -/
theorem gathX_apply (X1 : S8x10.Idx → Elt Ideal .i32) (X2 : S40x2048.Idx → Elt Ideal .fp8e4m3) (e : Fin 8) (r : Fin 10) (d : Fin 2048)
    (t : Fin 40) (ht : X1 (ix80 e r) = BitVec.ofNat 32 t.val) :
    gathX X1 X2 e (ix3 0 ⟨r.val, by omega⟩ d) = X2 (ix2 t d) := by
  pointwise [gathX, k0_pay194, k0_pay191, k0_pay190, k0_pay187, k0_pay186]
  rw [← sum_indicator t fun t => X2 (ix2 t d)]
  refine Finset.sum_congr rfl fun x _ => ?_
  rw [bit_apply, pick (fun j => X1 (ix80 e j)) _ r, ht]
  simp only [ofNat_fin (by omega : 40 < 4294967296)]

/-- A gathered scale is the scale of the token that the slot names. -/
theorem gathS_apply (X1 : S8x10.Idx → Elt Ideal .i32) (X3 : S40x16.Idx → Elt Ideal .f32) (e : Fin 8) (k : Fin 16) (r : Fin 10)
    (t : Fin 40) (ht : X1 (ix80 e r) = BitVec.ofNat 32 t.val) :
    gathS X1 X3 e (ix2 0 (lane k r)) = X3 (ix2 t k) := by
  pointwise [gathS, k0_pay193, k0_pay192, k0_pay189, k0_pay188, k0_pay181]
  rw [← sum_indicator t fun t => X3 (ix2 t k)]
  refine Finset.sum_congr rfl fun x _ => ?_
  rw [rowWord, pick (fun j => X1 (ix80 e j)) _ r, ht, WordCmp.cmpi_eq_eq, WordCmp.select_ofBool, svals_apply]
  by_cases h : t = x
  · subst h; simp
  · rw [if_neg h, zero_mul, if_neg]
    rw [decide_eq_true_iff, ofNat_fin (by omega : 40 < 4294967296)]
    exact Ne.symm h

theorem XG_apply (X1 : S8x10.Idx → Elt Ideal .i32) (X2 : S40x2048.Idx → Elt Ideal .fp8e4m3) (e : Fin 8) (r : Fin 10) (d : Fin 2048)
    (t : Fin 40) (ht : X1 (ix80 e r) = BitVec.ofNat 32 t.val) :
    XG X1 X2 (ix3 e ⟨r.val, by omega⟩ d) = X2 (ix2 t d) := by
  rw [← gathX_apply X1 X2 e r d t ht]
  unfold XG
  congr 1
  funext a; match a with
    | ⟨0, _⟩ => rfl
    | ⟨1, _⟩ => rfl
    | ⟨2, _⟩ => rfl

theorem SX_apply (X1 : S8x10.Idx → Elt Ideal .i32) (X3 : S40x16.Idx → Elt Ideal .f32) (e : Fin 8) (k : Fin 16) (r : Fin 10)
    (t : Fin 40) (ht : X1 (ix80 e r) = BitVec.ofNat 32 t.val) :
    SX X1 X3 (ix2 e (lane k r)) = X3 (ix2 t k) := by
  rw [← gathS_apply X1 X3 e k r t ht]
  unfold SX
  congr 1
  funext a; match a with
    | ⟨0, _⟩ => rfl
    | ⟨1, _⟩ => rfl

/-! ### The rows laid out on the blocks' lanes -/

theorem pay6_apply (x : Vec Ideal S1x16x128 .f32) (l : Fin 32) (d : Fin 128) :
    k0_pay6 (F := Ideal) x (ix2 l d) = if h : l.val < 16 then x (ix3 0 ⟨l.val, h⟩ d) else 0 := by
  pointwise [k0_pay6, k0_pay5]
theorem pay7_apply (x : Vec Ideal S1x16x128 .f32) (l : Fin 32) (d : Fin 128) :
    k0_pay7 (F := Ideal) x (ix2 l d) = if h : l.val < 16 then 0 else x (ix3 0 ⟨l.val - 16, by omega⟩ d) := by
  pointwise [k0_pay7, k0_pay5]
theorem pay2_apply (i : S256x2048.Idx) : k0_pay2 (F := Ideal) i = 0 := by
  pointwise [k0_pay2]
theorem pay173_apply (i : S1x10x3584.Idx) : k0_pay173 (F := Ideal) i = 0 := by
  pointwise [k0_pay173]

theorem xrow_apply (Xg : S8x16x2048.Idx → Elt Ideal .f32) (e : Fin 8) (b : Fin 16) (r : Fin 16) (d : Fin 128) :
    xrow Xg e b (ix3 0 r d) = Xg (ix3 e r ⟨128 * b.val + d.val, by omega⟩) := by
  pointwise [xrow]

/-- Lane `16 k + r` holds row `r` in the columns of block `k`, and zeros elsewhere. -/
theorem XB_apply (Xg : S8x16x2048.Idx → Elt Ideal .f32) (e : Fin 8) (k : Fin 16) (r : Fin 10) (d : Fin 2048) :
    XB Xg e (ix2 (lane k r) d) = if d.val / 128 = k.val then Xg (ix3 e ⟨r.val, by omega⟩ d) else 0 := by
  have hk := k.isLt
  have hr := r.isLt
  have hd := d.isLt
  have hl : (lane k r).val = 16 * k.val + r.val := rfl
  unfold XB
  have hi0 : ((ix2 (lane k r) d : S256x2048.Idx) 0).val = 16 * k.val + r.val := rfl
  have hi1 : ((ix2 (lane k r) d : S256x2048.Idx) 1).val = d.val := rfl
  have hix : ∀ h : (∀ a : Fin 2, (![((ix2 (lane k r) d : S256x2048.Idx) 0).val % 32, ((ix2 (lane k r) d : S256x2048.Idx) 1).val % 128] : Fin 2 → ℕ) a < S32x128.size a), (fun a => ⟨(![((ix2 (lane k r) d : S256x2048.Idx) 0).val % 32, ((ix2 (lane k r) d : S256x2048.Idx) 1).val % 128] : Fin 2 → ℕ) a, h a⟩ : S32x128.Idx)
      = ix2 (⟨(16 * k.val + r.val) % 32, Nat.mod_lt _ (by decide)⟩ : Fin 32) (⟨d.val % 128, Nat.mod_lt _ (by decide)⟩ : Fin 128) := fun h => by
    funext a; match a with
      | ⟨0, _⟩ => rfl
      | ⟨1, _⟩ => rfl
  rw [hix]
  simp only [hi0, hi1]
  have hb : d.val / 128 < 16 := by omega
  by_cases h1 : (16 * k.val + r.val) / 32 = d.val / 128 / 2
  · rw [if_pos h1]
    unfold xpad
    rw [dif_pos hb]
    by_cases h2 : d.val / 128 % 2 = 0
    · rw [if_pos h2, pay6_apply]
      by_cases h3 : d.val / 128 = k.val
      · rw [if_pos h3, dif_pos (show (16 * k.val + r.val) % 32 < 16 by omega), xrow_apply]
        congr 2
        · exact Fin.ext (show (16 * k.val + r.val) % 32 = r.val by omega)
        · exact Fin.ext (show 128 * (d.val / 128) + d.val % 128 = d.val by omega)
      · rw [if_neg h3, dif_neg (show ¬ (16 * k.val + r.val) % 32 < 16 by omega)]
    · rw [if_neg h2, pay7_apply]
      by_cases h3 : d.val / 128 = k.val
      · rw [if_pos h3, dif_neg (show ¬ (16 * k.val + r.val) % 32 < 16 by omega), xrow_apply]
        congr 2
        · exact Fin.ext (show (16 * k.val + r.val) % 32 - 16 = r.val by omega)
        · exact Fin.ext (show 128 * (d.val / 128) + d.val % 128 = d.val by omega)
      · rw [if_neg h3, dif_pos (show (16 * k.val + r.val) % 32 < 16 by omega)]
  · rw [if_neg h1, if_neg (by omega), pay2_apply]

/-! ### One block of the result -/

theorem prod_apply (w : S512x2048.Idx → Elt Ideal .fp8e4m3) (xb : S256x2048.Idx → Elt Ideal .fp8e4m3) (r : Fin 512) (l : Fin 256) :
    prod w xb (ix2 r l) = ∑ d : Fin 2048, w (ix2 r d) * xb (ix2 l d) := by
  pointwise [prod]

theorem pay24_apply (w : BitVec 32) (r : Fin 16) (l : Fin 128) :
    k0_pay24 (F := Ideal) w (ix2 r l) = IntOp.cmpi .slt (BitVec.ofNat 32 r.val) w := by
  pointwise [k0_pay24]

theorem pay23_apply (E : FVec Ideal S16x256 .bf16) (ws : Vec Ideal S1x28x16 .f32) (sx : Vec Ideal S1x256 .f32) (n : Fin 28) (l : Fin 256) :
    k0_pay23 (F := Ideal) E ws sx (ix2 n l) = (∑ b, ws (ix3 0 n b) * E (ix2 b l)) * sx (ix2 0 l) := by
  pointwise [k0_pay23]

/-- The scale on lane `16 k + r` of row `n`: the weights' scale of block `k` times the token's. -/
theorem scaleV_apply (X4 : S8x28x16.Idx → Elt Ideal .f32) (Sx : S8x256.Idx → Elt Ideal .f32) (e : Fin 8) (n : Fin 28) (k : Fin 16) (r : Fin 10) :
    scaleV X4 Sx e (ix2 n (lane k r)) = X4 (ix3 e n k) * Sx (ix2 e (lane k r)) := by
  unfold scaleV
  rw [pay23_apply, sum_expand]
  pointwise

theorem sum16 {M : Type} [AddCommMonoid M] (f : Fin 16 → M) :
    f 0 + f 8 + (f 1 + f 9) + (f 2 + f 10) + (f 3 + f 11) + (f 4 + f 12) + (f 5 + f 13) + (f 6 + f 14) + (f 7 + f 15) = ∑ k, f k := by
  simp only [Fin.sum_univ_succ, Finset.univ_unique, Finset.sum_singleton, Fin.sum_univ_zero]
  show _ = f 0 + (f 1 + (f 2 + (f 3 + (f 4 + (f 5 + (f 6 + (f 7 + (f 8 + (f 9 + (f 10 + (f 11 + (f 12 + (f 13 + (f 14 + f 15))))))))))))))
  abel

theorem pay29_apply (keep : IVec S16x128 1) (R : FVec Ideal S128x256 .f32) (s : FVec Ideal S1x256 .f32) (r : Fin 10) (j : Fin 128) :
    k0_pay29 (F := Ideal) keep R s (ix3 0 r j) = Scalar.select (keep (ix2 ⟨r.val, by omega⟩ j)) (∑ k, R (ix2 j (lane k r)) * s (ix2 0 (lane k r))) 0 := by
  rw [← sum16]
  pointwise [k0_pay29]
  simp only [← Nat.add_assoc, Nat.reduceAdd]
  have h : ∀ (k : Fin 16) (a : ℕ) (h : a < 256), a = 16 * k.val + r.val → (⟨a, h⟩ : Fin 256) = lane k r := fun k a h e => Fin.ext e
  rw [← h 0 r.val (by omega) (Nat.zero_add _).symm]
  rfl

/-! ### The whole result -/

/-- Dropping a leading unit axis, at an index. -/
theorem squeeze_apply (h : S512x2048.numel = S1x512x2048.numel) (r : Fin 512) (d : Fin 2048) :
    Shape.reshapeEquiv h (ix2 r d : S512x2048.Idx) = (ix3 0 r d : S1x512x2048.Idx) := by
  pointwise

/-- A chunk of the weights at an element: the weights' element. -/
theorem wchunk_apply (c : Dev nD) (fw : S8x3584x2048.Idx → Elt Ideal .fp8e4m3) (e : Fin 8) (i : Fin 7) (r : Fin 512) (d : Fin 2048) :
    wchunk (F := Ideal) c fw e i (ix2 r d) = fw (ix3 e ⟨512 * i.val + r.val, by omega⟩ d) := by
  have hi : (Rect.unit (s := S8x3584x2048) ![e.val, 512 * i.val, 0] S1x512x2048.size (chunk_inb e i)).toLoadRect.idx (ix3 0 r d : S1x512x2048.Idx)
      = (ix3 e ⟨512 * i.val + r.val, by omega⟩ d : S8x3584x2048.Idx) := by
    funext a; match a with
      | ⟨0, _⟩ => exact Fin.ext (by show e.val + 1 * 0 = e.val; omega)
      | ⟨1, _⟩ => exact Fin.ext (by show 512 * i.val + 1 * r.val = 512 * i.val + r.val; omega)
      | ⟨2, _⟩ => exact Fin.ext (by show 0 + 1 * d.val = d.val; omega)
  rw [← hi]
  unfold wchunk
  show fw ((Rect.unit (s := S8x3584x2048) ![e.val, 512 * i.val, 0] S1x512x2048.size (chunk_inb e i)).toLoadRect.idx (Shape.reshapeEquiv _ (ix2 r d))) = _
  rw [squeeze_apply]

/-- A word that is not above zero is above no row number. -/
theorem not_pos (w : BitVec 32) (h : ¬ Scalar.cmpi .sgt w 0#32 = 1#1) (r : ℕ) (hr : r < 10) : IntOp.cmpi .slt (BitVec.ofNat 32 r) w = 0#1 := by
  have h0 : (0#32 : BitVec 32).toInt = 0 := by decide
  have h1 : (BitVec.ofNat 32 r).toInt = r := by
    rw [BitVec.toInt_eq_toNat_of_lt (by rw [BitVec.toNat_ofNat]; omega), BitVec.toNat_ofNat]; omega
  have hw : w.toInt ≤ 0 := by
    by_contra hc
    refine h ?_
    show BitVec.ofBool (BitVec.slt 0#32 w) = 1#1
    rw [BitVec.slt_eq_decide, decide_eq_true (by omega)]; rfl
  show BitVec.ofBool (BitVec.slt (BitVec.ofNat 32 r) w) = 0#1
  rw [BitVec.slt_eq_decide, decide_eq_false (by omega)]; rfl

/-- The kernel's result at an element, where the expert's slots name tokens. -/
theorem OUT_apply (c : Dev nD) (fw : S8x3584x2048.Idx → Elt Ideal .fp8e4m3) (X0 : S8.Idx → Elt Ideal .i32) (X1 : S8x10.Idx → Elt Ideal .i32)
    (X2 : S40x2048.Idx → Elt Ideal .fp8e4m3) (X3 : S40x16.Idx → Elt Ideal .f32) (X4 : S8x28x16.Idx → Elt Ideal .f32)
    (e : Fin 8) (r : Fin 10) (o : Fin 3584) (t : Fin 40) (ht : X1 (ix80 e r) = BitVec.ofNat 32 t.val) :
    OUT (F := Ideal) c fw X0 X1 X2 X3 X4 (ix3 e r o) = Scalar.select (IntOp.cmpi .slt (BitVec.ofNat 32 r.val) (X0 (ix8 e)))
      (∑ k : Fin 16, (∑ d : Fin 2048, fw (ix3 e o d) * (if d.val / 128 = k.val then X2 (ix2 t d) else 0)) * (X4 (ix3 e ⟨o.val / 128, by omega⟩ k) * X3 (ix2 t k)))
      (0 : EReal) := by
  have ho := o.isLt
  unfold OUT
  by_cases hp : pos (fun e => X0 (ix8 e)) e
  · rw [if_pos (show pos (fun e => X0 (ix8 e)) ((ix3 e r o : S8x10x3584.Idx) 0) from hp)]
    show outG c fw X0 X4 (XG X1 X2) (SX X1 X3) e (o.val / 128) _ = _
    have hix : ∀ h : (∀ a : Fin 3, (![0, ((ix3 e r o : S8x10x3584.Idx) 1).val, ((ix3 e r o : S8x10x3584.Idx) 2).val % 128] : Fin 3 → ℕ) a < S1x10x128.size a),
        (fun a => ⟨(![0, ((ix3 e r o : S8x10x3584.Idx) 1).val, ((ix3 e r o : S8x10x3584.Idx) 2).val % 128] : Fin 3 → ℕ) a, h a⟩ : S1x10x128.Idx)
        = ix3 (0 : Fin 1) r (⟨o.val % 128, Nat.mod_lt _ (by decide)⟩ : Fin 128) := fun h => by
      funext a; match a with
        | ⟨0, _⟩ => rfl
        | ⟨1, _⟩ => rfl
        | ⟨2, _⟩ => rfl
    rw [hix]
    unfold outG
    rw [dif_pos (show o.val / 128 < 28 by omega)]
    unfold blk
    rw [pay29_apply, pay24_apply]
    congr 1
    refine Finset.sum_congr rfl fun k _ => ?_
    have hR : extractStridedSlice S128x256 ![128 * (⟨o.val / 128 % 4, by omega⟩ : Fin 4).val, 0]
        (prod (wchunk c fw e ⟨o.val / 128 / 4, by omega⟩) (XB (XG X1 X2) e)) (q_slices _) (ix2 ⟨o.val % 128, Nat.mod_lt _ (by decide)⟩ (lane k r))
        = prod (wchunk c fw e ⟨o.val / 128 / 4, by omega⟩) (XB (XG X1 X2) e) (ix2 ⟨128 * (o.val / 128 % 4) + o.val % 128, by omega⟩ (lane k r)) := by
      pointwise
    have hS : extractStridedSlice S1x256 ![(⟨o.val / 128, by omega⟩ : Fin 28).val, 0] (scaleV X4 (SX X1 X3) e) (n_slices _) (ix2 0 (lane k r))
        = scaleV X4 (SX X1 X3) e (ix2 ⟨o.val / 128, by omega⟩ (lane k r)) := by
      pointwise
    rw [hR, hS, scaleV_apply, SX_apply X1 X3 e k r t ht, prod_apply]
    congr 1
    refine Finset.sum_congr rfl fun d _ => ?_
    rw [XB_apply, XG_apply X1 X2 e r d t ht, wchunk_apply]
    congr 3
    exact Fin.ext (show 512 * (o.val / 128 / 4) + (128 * (o.val / 128 % 4) + o.val % 128) = o.val by omega)
  · rw [if_neg (show ¬ pos (fun e => X0 (ix8 e)) ((ix3 e r o : S8x10x3584.Idx) 0) from hp), pay173_apply, not_pos (X0 (ix8 e)) hp r.val r.isLt]
    rfl

end Cert.KernelIdeal.Hand
-- ==== Proof.RefMath.lean ====
/-
  What the reference computes over the extended reals, read element by element.
-/
module

public import proofs.«01_k».proof.Proof.Gen.ReferenceIdeal.Value
public import Idealize.ShloMosaic.Lib.Pipeline.ValueKit
public import Idealize.ShloMosaic.Lib.Claim
public import Idealize.ShloMosaic.Lib.Pointwise

@[expose] public section

set_option maxRecDepth 65536

noncomputable section

namespace Cert.ReferenceIdeal.Hand

open Cert.ReferenceIdeal Cert.ReferenceIdeal.Gen
open Idealize.ShloMosaic Idealize.ShloMosaic.TcCoe Idealize.SL.Sem

/-- The reference's kernel at an element: the sum over all columns of the scaled row against the weight row, or zero past
    the expert's group. -/
theorem pay_apply (x : Vec Ideal S8x10x2048 .fp8e4m3) (s : Vec Ideal S8x10x16 .f32) (ws : Vec Ideal S8x28x16 .f32) (w : Vec Ideal S8x3584x2048 .fp8e4m3) (gs : Vec Ideal S8 .i32)
    (e : Fin 8) (r : Fin 10) (o : Fin 3584) :
    k0_pay1 (F := Ideal) x s ws w gs (ix3 e r o) = Scalar.select (IntOp.cmpi .slt (BitVec.ofNat 32 r.val) (gs (ix1 e)))
      (∑ d : Fin 2048, x (ix3 e r d) * s (ix3 e r ⟨d.val / 128, by omega⟩) * ws (ix3 e ⟨o.val / 128, by omega⟩ ⟨d.val / 128, by omega⟩) * w (ix3 e o d)) (0 : EReal) := by
  pointwise [k0_pay1]

/-- A word below 40 read as a signed number is itself. -/
theorem ofNat_toInt (t : Fin 40) : (BitVec.ofNat 32 t.val).toInt.toNat = t.val := by
  have := t.isLt
  rw [BitVec.toInt_eq_toNat_of_lt (by rw [BitVec.toNat_ofNat]; omega), BitVec.toNat_ofNat]; omega

/-- The numbers of a gather of whole rows of a table of forty rows by a matrix of row numbers. -/
@[reducible] def rowDims (C : ℕ) (wf : GatherDims.WF ⟨2, ![40, C]⟩ S8x10x1 ⟨3, ![8, 10, C]⟩ [2] [0] [] [0] [] 2 ![1, C]) :
    GatherDims ⟨2, ![40, C]⟩ S8x10x1 ⟨3, ![8, 10, C]⟩ where
  offsetDims := [2]
  collapsedSliceDims := [0]
  operandBatchingDims := []
  startIndicesBatchingDims := []
  startIndexMap := [0]
  indexVectorDim := 2
  sliceSizes := ![1, C]
  wf := wf

/-- Such a gather at an element, where the row number is that of a row. -/
theorem gather_rows {α : Type} {C : ℕ} (wf : GatherDims.WF ⟨2, ![40, C]⟩ S8x10x1 ⟨3, ![8, 10, C]⟩ [2] [0] [] [0] [] 2 ![1, C])
    (x : (⟨2, ![40, C]⟩ : Shape).Idx → α) (idx : IVec S8x10x1 32) (e : Fin 8) (r : Fin 10) (d : Fin C) (t : Fin 40)
    (ht : idx (ix3 e r 0) = BitVec.ofNat 32 t.val) :
    Host.gather (rowDims C wf) x idx (ix3 e r d) = x (ix2 t d) := by
  unfold Host.gather
  congr 1
  funext a
  refine Fin.ext ?_
  show (rowDims C wf).start (ix3 e r d) idx a + (rowDims C wf).batchCoord (ix3 e r d) a + (rowDims C wf).offCoord (ix3 e r d) a = _
  rw [GatherDims.batchCoord_eq_zero _ _ _ (fun h => by simp at h), Nat.add_zero]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl)), Nat.add_zero]
    unfold GatherDims.start
    rw [dif_pos (show (0 : Fin 2) ∈ (rowDims C wf).startIndexMap from List.mem_singleton.mpr rfl)]
    have hsi : (rowDims C wf).siIdx (ix3 e r d) ⟨List.idxOf (0 : Fin 2) (rowDims C wf).startIndexMap,
        List.idxOf_lt_length_iff.2 (List.mem_singleton.mpr rfl)⟩ = ix3 e r 0 := by
      funext b; refine Fin.ext ?_
      match b with
      | ⟨0, _⟩ => rfl
      | ⟨1, _⟩ => rfl
      | ⟨2, _⟩ => rfl
    rw [hsi, ht, ofNat_toInt]
    exact Nat.min_eq_left (by have := t.isLt; show t.val ≤ 40 - 1; omega)
  · have hs : (rowDims C wf).start (ix3 e r d) idx 1 = 0 := by
      unfold GatherDims.start
      exact dif_neg (by show (1 : Fin 2) ∉ [(0 : Fin 2)]; decide)
    rw [hs, Nat.zero_add]
    unfold GatherDims.offCoord
    rw [dif_pos ((GatherDims.mem_sKept _ _).mpr ⟨by show (1 : Fin 2) ∉ [(0 : Fin 2)]; decide, by show (1 : Fin 2) ∉ []; simp⟩)]
    rfl

variable (m : (ℓ : Loc nD τ sig) → Buf (Elt Ideal) ℓ)

/-- The row numbers after the wrap of negative ones: a number of a row stays itself. -/
theorem slot_word (X : S8x10.Idx → BitVec 32) (e : Fin 8) (r : Fin 10) (t : Fin 40) (ht : X (ix2 e r) = BitVec.ofNat 32 t.val) :
    (broadcastInDim S8x10x1 ![0, 1] bcast_S8x10_S8x10x1_0_1 (select (cmpi .slt X (broadcastInDim S8x10 ![] bcast_S_S8x10 (constantI S_ 32 0#32)))
      (addi X (broadcastInDim S8x10 ![] bcast_S_S8x10 (constantI S_ 32 40#32))) X) : IVec S8x10x1 32) (ix3 e r 0) = BitVec.ofNat 32 t.val := by
  have h : IntOp.cmpi .slt (BitVec.ofNat 32 t.val) 0#32 = 0#1 := by clear ht; revert t; decide
  pointwise []
  rw [ht, h]
  rfl

/-- The gathered rows at an element. -/
theorem V6_apply (c : Dev nD) (e : Fin 8) (r : Fin 10) (d : Fin 2048) (t : Fin 40) (ht : m ((c : Thread nD τ).loc main_arg2) (ix2 e r) = BitVec.ofNat 32 t.val) :
    V m c main_v6 (ix3 e r d) = m ((c : Thread nD τ).loc main_arg0) (ix2 t d) := by
  entry_read
  exact gather_rows _ _ _ e r d t (slot_word _ e r t ht)

/-- The gathered scales at an element. -/
theorem V13_apply (c : Dev nD) (e : Fin 8) (r : Fin 10) (d : Fin 16) (t : Fin 40) (ht : m ((c : Thread nD τ).loc main_arg2) (ix2 e r) = BitVec.ofNat 32 t.val) :
    V m c main_v13 (ix3 e r d) = m ((c : Thread nD τ).loc main_arg1) (ix2 t d) := by
  entry_read
  exact gather_rows _ _ _ e r d t (slot_word _ e r t ht)

/-! An input block is its whole array. -/

theorem iblk0 (c : Dev nD) (t : Fin cfg0.N) : iblk m c 0 t = V m c main_v6 := by
  funext j; unfold iblk; blk_simp
  exact congrArg (V m c main_v6) (funext fun a => Fin.ext (Pipeline.Window.rect_emb_val_of_index_zero win0_0 t a (by fin_cases a <;> rfl) j))
theorem iblk1 (c : Dev nD) (t : Fin cfg0.N) : iblk m c 1 t = V m c main_v13 := by
  funext j; unfold iblk; blk_simp
  exact congrArg (V m c main_v13) (funext fun a => Fin.ext (Pipeline.Window.rect_emb_val_of_index_zero win0_1 t a (by fin_cases a <;> rfl) j))
theorem iblk2 (c : Dev nD) (t : Fin cfg0.N) : iblk m c 2 t = V m c main_arg3 := by
  funext j; unfold iblk; blk_simp
  exact congrArg (V m c main_arg3) (funext fun a => Fin.ext (Pipeline.Window.rect_emb_val_of_index_zero win0_2 t a (by fin_cases a <;> rfl) j))
theorem iblk3 (c : Dev nD) (t : Fin cfg0.N) : iblk m c 3 t = V m c main_arg4 := by
  funext j; unfold iblk; blk_simp
  exact congrArg (V m c main_arg4) (funext fun a => Fin.ext (Pipeline.Window.rect_emb_val_of_index_zero win0_3 t a (by fin_cases a <;> rfl) j))
theorem iblk4 (c : Dev nD) (t : Fin cfg0.N) : iblk m c 4 t = V m c main_arg5 := by
  funext j; unfold iblk; blk_simp
  exact congrArg (V m c main_arg5) (funext fun a => Fin.ext (Pipeline.Window.rect_emb_val_of_index_zero win0_4 t a (by fin_cases a <;> rfl) j))

/-- The output block after the body is the kernel's result of the input blocks. -/
theorem out_eq (x0 : Vec Ideal S8x10x2048 .fp8e4m3) (x1 : Vec Ideal S8x10x16 .f32) (x2 : Vec Ideal S8 .i32) (x3 : Vec Ideal S8x3584x2048 .fp8e4m3)
    (x4 : Vec Ideal S8x28x16 .f32) : out0_5 x0 x1 x2 x3 x4 = k0_pay1 x0 x1 x4 x3 x2 := by
  unfold out0_5
  rw [View.canon_unit_zero (funext fun a => by fin_cases a <;> rfl), View.ld_unit_zero (funext fun a => by fin_cases a <;> rfl),
    View.ld_unit_zero (funext fun a => by fin_cases a <;> rfl), View.ld_unit_zero (funext fun a => by fin_cases a <;> rfl),
    View.ld_unit_zero (funext fun a => by fin_cases a <;> rfl), View.ld_unit_zero (funext fun a => by fin_cases a; rfl)]

/-- The array that the reference leaves: its kernel's result of the gathered rows and scales. -/
theorem final (c : Dev nD) : (dats m 0 c).arrAt 5 cfg0.N
    = k0_pay1 (V m c main_v6) (V m c main_v13) (m ((c : Thread nD τ).loc main_arg5)) (m ((c : Thread nD τ).loc main_arg4)) (m ((c : Thread nD τ).loc main_arg3)) := by
  refine (dats m 0 c).arrAt_eq_of_after_last 5 t0_0 (by decide +kernel) _ fun j => ?_
  rw [after0_5, iblk0, iblk1, iblk2, iblk3, iblk4, V_main_arg3, V_main_arg4, V_main_arg5]
  rw [out_eq]
  blk_simp

end Cert.ReferenceIdeal.Hand
-- ==== Proof.Algebra.lean ====
/-
  The equation between the two orders of scaling: a sum of scaled block sums is the sum of scaled products.
-/
module

public import Idealize.ShloMosaic.Lib.Pointwise

@[expose] public section

namespace Cert.Hand

/-- A scale: finite and at least zero. -/
def Scale (s : EReal) : Prop := 0 ≤ s ∧ s < ⊤

theorem Scale.mul {a b : EReal} (ha : Scale a) (hb : Scale b) : Scale (a * b) := by
  obtain ⟨ha0, ha1⟩ := ha
  obtain ⟨hb0, hb1⟩ := hb
  lift a to ℝ using ⟨ha1.ne, (lt_of_lt_of_le EReal.bot_lt_zero ha0).ne'⟩
  lift b to ℝ using ⟨hb1.ne, (lt_of_lt_of_le EReal.bot_lt_zero hb0).ne'⟩
  rw [← EReal.coe_mul]
  exact ⟨EReal.coe_nonneg.mpr (mul_nonneg (EReal.coe_nonneg.mp ha0) (EReal.coe_nonneg.mp hb0)), EReal.coe_lt_top _⟩

/-- A scale distributes over any sum. -/
theorem Scale.sum_mul {ι : Type} {s : EReal} (hs : Scale s) (t : Finset ι) (f : ι → EReal) : (∑ i ∈ t, f i) * s = ∑ i ∈ t, f i * s := by
  classical
  induction t using Finset.induction_on with
  | empty => simp
  | insert a t ha ih => rw [Finset.sum_insert ha, Finset.sum_insert ha, EReal.right_distrib_of_nonneg_of_ne_top hs.1 hs.2.ne, ih]

/-- The block sums scaled and added are the sum of the scaled products, for scales finite and at least zero. -/
theorem block_sums (x w : Fin 2048 → EReal) (xs ws : Fin 16 → EReal) (hx : ∀ k, Scale (xs k)) (hw : ∀ k, Scale (ws k)) :
    ∑ k : Fin 16, (∑ d : Fin 2048, w d * (if d.val / 128 = k.val then x d else 0)) * (ws k * xs k)
      = ∑ d : Fin 2048, x d * xs ⟨d.val / 128, by omega⟩ * ws ⟨d.val / 128, by omega⟩ * w d := by
  rw [Finset.sum_congr rfl fun k _ => Scale.sum_mul ((hw k).mul (hx k)) _ _]
  rw [Finset.sum_comm]
  refine Finset.sum_congr rfl fun d _ => ?_
  rw [Finset.sum_eq_single (⟨d.val / 128, by omega⟩ : Fin 16) (fun k _ h => ?_) (fun h => absurd (Finset.mem_univ _) h)]
  · rw [if_pos rfl]
    generalize (⟨d.val / 128, _⟩ : Fin 16) = k
    rw [mul_comm (x d * xs k * ws k) (w d), mul_assoc (x d), mul_comm (xs k), mul_assoc (w d)]
  · rw [if_neg (fun h' => h (Fin.ext h'.symm)), mul_zero, zero_mul]

end Cert.Hand
-- ==== Proof.PreMath.lean ====
/-
  What the precondition says of the arguments: every slot names a token, and the scales are nonnegative and finite.
-/
module

public import proofs.«01_k».proof.Proof.Gen.Pre_tokens_named_scales_nonneg
public import proofs.«01_k».proof.Proof.Algebra
public import Idealize.ShloMosaic.Lib.Claim
public import Idealize.ShloMosaic.Lib.Pointwise

@[expose] public section

set_option maxRecDepth 65536

noncomputable section

namespace Cert.Hand

open Idealize.ShloMosaic
open Cert.Pre_tokens_named_scales_nonneg Cert.Pre_tokens_named_scales_nonneg.Gen

/-- The two tests of a slot word say that it is the word of a number below forty. -/
theorem slot_of_tests (v : BitVec 32) (h : IntOp.andi (IntOp.cmpi .sge v 0#32) (IntOp.cmpi .slt v 40#32) = 1#1) :
    ∃ t : Fin 40, v = BitVec.ofNat 32 t.val := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  have hv : v.toNat < 40 := by
    simp only [IntOp.cmpi, andi_ofBool, ofBool_eq_one, Bool.and_eq_true, BitVec.sle_eq_decide, BitVec.slt_eq_decide,
      decide_eq_true_eq, BitVec.toInt_eq_toNat_cond, BitVec.toNat_ofNat, Nat.reducePow, Nat.reduceMod] at h
    omega
  exact ⟨⟨v.toNat, hv⟩, by simp⟩

/-- Of two one-bit words whose conjunction is one, both are one. -/
theorem andi_one (p q : BitVec 1) (h : IntOp.andi p q = 1#1) : p = 1#1 ∧ q = 1#1 := by
  revert h; revert p q; decide

/-- A truth value's word is one when it is true. -/
theorem of_word (p : Prop) [Decidable p] (h : BitVec.ofBool (decide p) = 1#1) : p := by
  by_contra hp; rw [decide_eq_false hp] at h; exact absurd h (by decide)

/-- The precondition at an element: the slot names a token, and the two scales are scales. -/
theorem pre_apply (x : FVec Ideal S40x2048 .fp8e4m3) (xs : FVec Ideal S40x16 .f32) (sl : IVec S8x10 32) (gs : IVec S8 32) (w : FVec Ideal S8x3584x2048 .fp8e4m3)
    (ws : FVec Ideal S8x28x16 .f32) (h : fn (F := Ideal) x xs sl gs w ws = fun _ => 1#1) (e : Fin 8) (r : Fin 10) (t : Fin 40) (n : Fin 28) (k : Fin 16) :
    (∃ t : Fin 40, sl (ix2 e r) = BitVec.ofNat 32 t.val) ∧ Scale (xs (ix2 t k)) ∧ Scale (ws (ix3 e n k)) := by
  have h1 : IntOp.andi (IntOp.andi (IntOp.andi (IntOp.cmpi .sge (sl (ix2 e r)) 0#32) (IntOp.cmpi .slt (sl (ix2 e r)) 40#32))
        (IntOp.andi (BitVec.ofBool (decide (0 ≤ xs (ix2 t k)))) (BitVec.ofBool (decide (xs (ix2 t k) < Ideal.ofBits FTy.f32 2139095040#32)))))
      (IntOp.andi (BitVec.ofBool (decide (0 ≤ ws (ix3 e n k)))) (BitVec.ofBool (decide (ws (ix3 e n k) < Ideal.ofBits FTy.f32 2139095040#32)))) = 1#1 := by
    refine Eq.trans ?_ (congrFun h (ix5 e r t n k))
    symm
    pointwise [fn, fn_part1]
  obtain ⟨h2, h3⟩ := andi_one _ _ h1
  obtain ⟨h4, h5⟩ := andi_one _ _ h2
  obtain ⟨h6, h7⟩ := andi_one _ _ h5
  obtain ⟨h8, h9⟩ := andi_one _ _ h3
  exact ⟨slot_of_tests _ h4, ⟨of_word _ h6, lt_of_lt_of_le (of_word _ h7) le_top⟩, ⟨of_word _ h8, lt_of_lt_of_le (of_word _ h9) le_top⟩⟩

end Cert.Hand

end
-- ==== Proof.Equal.lean ====
/-
  The equation: under the precondition the array that the kernel leaves is the array that the reference leaves.
-/
module

public import proofs.«01_k».proof.Proof.KerValue
public import proofs.«01_k».proof.Proof.KerMath
public import proofs.«01_k».proof.Proof.RefMath
public import proofs.«01_k».proof.Proof.PreMath

@[expose] public section

set_option maxRecDepth 65536

noncomputable section

namespace Cert.Hand

open Idealize.ShloMosaic Idealize.ShloMosaic.TcCoe Idealize.SL.Sem

abbrev KMem := (ℓ : Loc KernelIdeal.nD KernelIdeal.τ KernelIdeal.sig) → Buf (Elt Ideal) ℓ
abbrev RMem := (ℓ : Loc ReferenceIdeal.nD ReferenceIdeal.τ ReferenceIdeal.sig) → Buf (Elt Ideal) ℓ

/-- The two results agree, for memories whose argument arrays agree and satisfy the precondition. -/
theorem result_eq (m : KMem) (m' : RMem) (c : Dev KernelIdeal.nD)
    (hpre : Pre_tokens_named_scales_nonneg.fn (F := Ideal) (m ((c.tc : Thread KernelIdeal.nD KernelIdeal.τ).loc KernelIdeal.main_arg0))
      (m ((c.tc : Thread KernelIdeal.nD KernelIdeal.τ).loc KernelIdeal.main_arg1)) (m ((c.tc : Thread KernelIdeal.nD KernelIdeal.τ).loc KernelIdeal.main_arg2))
      (m ((c.tc : Thread KernelIdeal.nD KernelIdeal.τ).loc KernelIdeal.main_arg3)) (m ((c.tc : Thread KernelIdeal.nD KernelIdeal.τ).loc KernelIdeal.main_arg4))
      (m ((c.tc : Thread KernelIdeal.nD KernelIdeal.τ).loc KernelIdeal.main_arg5)) = fun _ => 1#1)
    (h0 : m' ((c.tc : Thread ReferenceIdeal.nD ReferenceIdeal.τ).loc ReferenceIdeal.main_arg0) = m ((c.tc : Thread KernelIdeal.nD KernelIdeal.τ).loc KernelIdeal.main_arg0))
    (h1 : m' ((c.tc : Thread ReferenceIdeal.nD ReferenceIdeal.τ).loc ReferenceIdeal.main_arg1) = m ((c.tc : Thread KernelIdeal.nD KernelIdeal.τ).loc KernelIdeal.main_arg1))
    (h2 : m' ((c.tc : Thread ReferenceIdeal.nD ReferenceIdeal.τ).loc ReferenceIdeal.main_arg2) = m ((c.tc : Thread KernelIdeal.nD KernelIdeal.τ).loc KernelIdeal.main_arg2))
    (h3 : m' ((c.tc : Thread ReferenceIdeal.nD ReferenceIdeal.τ).loc ReferenceIdeal.main_arg3) = m ((c.tc : Thread KernelIdeal.nD KernelIdeal.τ).loc KernelIdeal.main_arg3))
    (h4 : m' ((c.tc : Thread ReferenceIdeal.nD ReferenceIdeal.τ).loc ReferenceIdeal.main_arg4) = m ((c.tc : Thread KernelIdeal.nD KernelIdeal.τ).loc KernelIdeal.main_arg4))
    (h5 : m' ((c.tc : Thread ReferenceIdeal.nD ReferenceIdeal.τ).loc ReferenceIdeal.main_arg5) = m ((c.tc : Thread KernelIdeal.nD KernelIdeal.τ).loc KernelIdeal.main_arg5)) :
    (ReferenceIdeal.Gen.dats m' 0 c).arrAt 5 ReferenceIdeal.cfg0.N = KernelIdeal.Hand.G m c := by
  rw [ReferenceIdeal.Hand.final, h3, h4, h5]
  funext j
  obtain ⟨e, r, o, rfl⟩ : ∃ (e : Fin 8) (r : Fin 10) (o : Fin 3584), j = ix3 e r o := ⟨j 0, j 1, j 2, by funext a; match a with | 0 => rfl | 1 => rfl | 2 => rfl⟩
  have hn : o.val / 128 < 28 := by omega
  obtain ⟨⟨t, ht⟩, -, -⟩ := pre_apply _ _ _ _ _ _ hpre e r 0 0 0
  have hs := fun k => (pre_apply _ _ _ _ _ _ hpre e r t ⟨o.val / 128, hn⟩ k).2
  rw [ReferenceIdeal.Hand.pay_apply]
  unfold KernelIdeal.Hand.G
  have hi : KernelIdeal.Hand.ix80 e r = ix2 e r := by funext a; match a with | 0 => rfl | 1 => rfl
  have hi' : KernelIdeal.Hand.ix8 e = ix1 e := by funext a; match a with | 0 => rfl
  rw [KernelIdeal.Hand.OUT_apply c _ _ _ _ _ _ e r o t (by rw [hi]; exact ht), hi']
  congr 1
  rw [block_sums (fun d => m ((c.tc : Thread KernelIdeal.nD KernelIdeal.τ).loc KernelIdeal.main_arg0) (ix2 t d)) (fun d => m ((c.tc : Thread KernelIdeal.nD KernelIdeal.τ).loc KernelIdeal.main_arg4) (ix3 e o d))
    (fun k => m ((c.tc : Thread KernelIdeal.nD KernelIdeal.τ).loc KernelIdeal.main_arg1) (ix2 t k)) (fun k => m ((c.tc : Thread KernelIdeal.nD KernelIdeal.τ).loc KernelIdeal.main_arg5) (ix3 e ⟨o.val / 128, hn⟩ k))
    (fun k => (hs k).1) (fun k => (hs k).2)]
  refine Finset.sum_congr rfl fun d _ => ?_
  have ht' : m' ((c.tc : Thread ReferenceIdeal.nD ReferenceIdeal.τ).loc ReferenceIdeal.main_arg2) (ix2 e r) = BitVec.ofNat 32 t.val := by rw [h2]; exact ht
  rw [ReferenceIdeal.Hand.V6_apply m' c e r d t ht', ReferenceIdeal.Hand.V13_apply m' c e r _ t ht', h0, h1]

end Cert.Hand

end
-- ==== Proof.lean ====
/-
  The certificate: the frames of the kernel, of its ideal reading and of the reference, and that the ideal kernel and the
  reference compute the same array.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.ReferenceIdeal.Value
public import proofs.«01_k».proof.Proof.Gen.Pre_tokens_named_scales_nonneg
public import proofs.«01_k».proof.Proof.Launch
public import proofs.«01_k».proof.Proof.LaunchK
public import proofs.«01_k».proof.Proof.Equal
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_tokens_named_scales_nonneg.Gen.facts,
  fun m g _ => Cert.Kernel.Hand.frame m g, fun m g _ => Cert.KernelIdeal.Hand.frame m g, fun m g _ => Cert.KernelIdeal.Hand.frame m g,
  fun m g _ => Cert.ReferenceIdeal.Gen.frame m g, fun m g _ => Cert.ReferenceIdeal.Gen.frame m g, trivial,
  fun m g m' g' hpre hargs => ⟨Cert.KernelIdeal.Hand.G m, Cert.KernelIdeal.Hand.run m g,
    (θ_run Cert.ReferenceIdeal.defs _ _).mono (fun _ h c => ⟨(h c).1.trans (Cert.Hand.result_eq m m' c (hpre c) (hargs c).1 (hargs c).2.1 (hargs c).2.2.1
      (hargs c).2.2.2.1 (hargs c).2.2.2.2.1 (hargs c).2.2.2.2.2), (h c).2⟩) (Cert.ReferenceIdeal.Value.run_blocks m' g')⟩⟩

end Cert.Proof

end
